-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelV (m : (ℓ : Loc Cert.KernelV.nD Cert.KernelV.τ Cert.KernelV.sig) → Buf (Elt Bits) ℓ) : Prop :=
  True

def Pre_KernelVIdeal (m : (ℓ : Loc Cert.KernelVIdeal.nD Cert.KernelVIdeal.τ Cert.KernelVIdeal.sig) → Buf (Elt Ideal) ℓ) : Prop :=
  True

def Pre_ReferenceVIdeal (m : (ℓ : Loc Cert.ReferenceVIdeal.nD Cert.ReferenceVIdeal.τ Cert.ReferenceVIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelV [hKernelV : Cert.KernelV.Facts] : Prop :=
  ∀ (m : (ℓ : Loc Cert.KernelV.nD Cert.KernelV.τ Cert.KernelV.sig) → Buf (Elt Bits) ℓ) (g : Dev Cert.KernelV.nD → PrngReg), Pre_KernelV m →
    θ_run (Cert.KernelV.defs (F := Bits)) (onTc (τ := Cert.KernelV.τ) (Cert.KernelV.main (F := Bits))) ⟨m, fun _ => 0, g⟩ (fun r => (∀ c : Dev Cert.KernelV.nD,
      r.2.mem ((c.tc : Thread Cert.KernelV.nD Cert.KernelV.τ).loc Cert.KernelV.main_arg0) = m ((c.tc : Thread Cert.KernelV.nD Cert.KernelV.τ).loc Cert.KernelV.main_arg0)
      ∧ r.2.mem ((c.tc : Thread Cert.KernelV.nD Cert.KernelV.τ).loc Cert.KernelV.main_arg1) = m ((c.tc : Thread Cert.KernelV.nD Cert.KernelV.τ).loc Cert.KernelV.main_arg1)
      ∧ r.2.mem ((c.tc : Thread Cert.KernelV.nD Cert.KernelV.τ).loc Cert.KernelV.main_arg2) = m ((c.tc : Thread Cert.KernelV.nD Cert.KernelV.τ).loc Cert.KernelV.main_arg2)
      ∧ r.2.mem ((c.tc : Thread Cert.KernelV.nD Cert.KernelV.τ).loc Cert.KernelV.main_arg3) = m ((c.tc : Thread Cert.KernelV.nD Cert.KernelV.τ).loc Cert.KernelV.main_arg3)
      ∧ r.2.mem ((c.tc : Thread Cert.KernelV.nD Cert.KernelV.τ).loc Cert.KernelV.main_arg4) = m ((c.tc : Thread Cert.KernelV.nD Cert.KernelV.τ).loc Cert.KernelV.main_arg4))
      ∧ r.2.sem = fun _ => 0)

def quiescent_KernelVIdeal [hKernelVIdeal : Cert.KernelVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
      ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1)
      ∧ r.2.mem ((c.tc : Thread Cert.KernelVIdeal.nD Cert.KernelVIdeal.τ).loc Cert.KernelVIdeal.main_arg2) = m ((c.tc : Thread Cert.KernelVIdeal.nD Cert.KernelVIdeal.τ).loc Cert.KernelVIdeal.main_arg2)
      ∧ r.2.mem ((c.tc : Thread Cert.KernelVIdeal.nD Cert.KernelVIdeal.τ).loc Cert.KernelVIdeal.main_arg3) = m ((c.tc : Thread Cert.KernelVIdeal.nD Cert.KernelVIdeal.τ).loc Cert.KernelVIdeal.main_arg3)
      ∧ r.2.mem ((c.tc : Thread Cert.KernelVIdeal.nD Cert.KernelVIdeal.τ).loc Cert.KernelVIdeal.main_arg4) = m ((c.tc : Thread Cert.KernelVIdeal.nD Cert.KernelVIdeal.τ).loc Cert.KernelVIdeal.main_arg4))
      ∧ r.2.sem = fun _ => 0)

def quiescent_ReferenceVIdeal [hReferenceVIdeal : Cert.ReferenceVIdeal.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0)
      ∧ r.2.mem ((c.tc : Thread Cert.ReferenceVIdeal.nD Cert.ReferenceVIdeal.τ).loc Cert.ReferenceVIdeal.main_arg1) = m ((c.tc : Thread Cert.ReferenceVIdeal.nD Cert.ReferenceVIdeal.τ).loc Cert.ReferenceVIdeal.main_arg1)
      ∧ r.2.mem ((c.tc : Thread Cert.ReferenceVIdeal.nD Cert.ReferenceVIdeal.τ).loc Cert.ReferenceVIdeal.main_arg2) = m ((c.tc : Thread Cert.ReferenceVIdeal.nD Cert.ReferenceVIdeal.τ).loc Cert.ReferenceVIdeal.main_arg2)
      ∧ r.2.mem ((c.tc : Thread Cert.ReferenceVIdeal.nD Cert.ReferenceVIdeal.τ).loc Cert.ReferenceVIdeal.main_arg3) = m ((c.tc : Thread Cert.ReferenceVIdeal.nD Cert.ReferenceVIdeal.τ).loc Cert.ReferenceVIdeal.main_arg3)
      ∧ r.2.mem ((c.tc : Thread Cert.ReferenceVIdeal.nD Cert.ReferenceVIdeal.τ).loc Cert.ReferenceVIdeal.main_arg4) = m ((c.tc : Thread Cert.ReferenceVIdeal.nD Cert.ReferenceVIdeal.τ).loc Cert.ReferenceVIdeal.main_arg4))
      ∧ r.2.sem = fun _ => 0)

def preserves_Kernel_KernelIdeal : Prop :=
  IdealRules.bf16_pair.BufferStatement Cert.KernelIdeal.S48x512x2x256 Cert.KernelIdeal.S48x512x1x256
  ∧ IdealRules.bf16_pair.BufferStatement Cert.KernelIdeal.S1024x2x128 Cert.KernelIdeal.S1024x1x128
  ∧ IdealRules.bf16_pair.Statement Cert.KernelIdeal.S16x128 Cert.KernelIdeal.S8x128
  ∧ IdealRules.bf16_pair.Statement Cert.KernelIdeal.S1x8x2x128 Cert.KernelIdeal.S1x8x1x128
  ∧ IdealRules.bf16_pair.Statement Cert.KernelIdeal.S1x256x2x256 Cert.KernelIdeal.S1x256x1x256
  ∧ IdealRules.bf16_pair.Statement Cert.KernelIdeal.S512x256 Cert.KernelIdeal.S256x256
  ∧ IdealRules.bf16_pair.PackStatement Cert.KernelIdeal.S256x128
  ∧ IdealRules.bf16_pair.Statement Cert.KernelIdeal.S256x2x128 Cert.KernelIdeal.S256x1x128
  ∧ IdealRules.bf16_pair.Statement Cert.KernelIdeal.S1024x2x128 Cert.KernelIdeal.S1024x1x128
  ∧ IdealRules.bf16_pair.Statement Cert.KernelIdeal.S2048x128 Cert.KernelIdeal.S1024x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelV_KernelVIdeal : Prop :=
  IdealRules.bf16_pair.BufferStatement Cert.KernelVIdeal.S48x512x2x256 Cert.KernelVIdeal.S48x512x1x256
  ∧ IdealRules.bf16_pair.Statement Cert.KernelVIdeal.S16x128 Cert.KernelVIdeal.S8x128
  ∧ IdealRules.bf16_pair.Statement Cert.KernelVIdeal.S1x8x2x128 Cert.KernelVIdeal.S1x8x1x128
  ∧ IdealRules.bf16_pair.Statement Cert.KernelVIdeal.S1x256x2x256 Cert.KernelVIdeal.S1x256x1x256
  ∧ IdealRules.bf16_pair.Statement Cert.KernelVIdeal.S512x256 Cert.KernelVIdeal.S256x256

def algebraic_KernelVIdeal_ReferenceVIdeal [hKernelVIdeal : Cert.KernelVIdeal.Facts] [hReferenceVIdeal : Cert.ReferenceVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg)
    (m' : (ℓ : Loc Cert.ReferenceVIdeal.nD Cert.ReferenceVIdeal.τ Cert.ReferenceVIdeal.sig) → Buf (Elt Ideal) ℓ) (g' : Dev Cert.ReferenceVIdeal.nD → PrngReg), Pre_KernelVIdeal m →
    (∀ c : Dev Cert.KernelVIdeal.nD,
      m' ((c.tc : Thread Cert.ReferenceVIdeal.nD Cert.ReferenceVIdeal.τ).loc Cert.ReferenceVIdeal.main_arg0) = m ((c.tc : Thread Cert.KernelVIdeal.nD Cert.KernelVIdeal.τ).loc Cert.KernelVIdeal.main_arg0)
      ∧ m' ((c.tc : Thread Cert.ReferenceVIdeal.nD Cert.ReferenceVIdeal.τ).loc Cert.ReferenceVIdeal.main_arg1) = m ((c.tc : Thread Cert.KernelVIdeal.nD Cert.KernelVIdeal.τ).loc Cert.KernelVIdeal.main_arg1)
      ∧ m' ((c.tc : Thread Cert.ReferenceVIdeal.nD Cert.ReferenceVIdeal.τ).loc Cert.ReferenceVIdeal.main_arg2) = m ((c.tc : Thread Cert.KernelVIdeal.nD Cert.KernelVIdeal.τ).loc Cert.KernelVIdeal.main_arg2)
      ∧ m' ((c.tc : Thread Cert.ReferenceVIdeal.nD Cert.ReferenceVIdeal.τ).loc Cert.ReferenceVIdeal.main_arg3) = m ((c.tc : Thread Cert.KernelVIdeal.nD Cert.KernelVIdeal.τ).loc Cert.KernelVIdeal.main_arg3)
      ∧ m' ((c.tc : Thread Cert.ReferenceVIdeal.nD Cert.ReferenceVIdeal.τ).loc Cert.ReferenceVIdeal.main_arg4) = m ((c.tc : Thread Cert.KernelVIdeal.nD Cert.KernelVIdeal.τ).loc Cert.KernelVIdeal.main_arg4)) →
    ∃ (v0 : (c : Dev Cert.KernelVIdeal.nD) → Buf (Elt Ideal) ((c.tc : Thread Cert.KernelVIdeal.nD Cert.KernelVIdeal.τ).loc Cert.KernelVIdeal.main_v1_0)) (v1 : (c : Dev Cert.KernelVIdeal.nD) → Buf (Elt Ideal) ((c.tc : Thread Cert.KernelVIdeal.nD Cert.KernelVIdeal.τ).loc Cert.KernelVIdeal.main_v1_1)),
      θ_run (Cert.KernelVIdeal.defs (F := Ideal)) (onTc (τ := Cert.KernelVIdeal.τ) (Cert.KernelVIdeal.main (F := Ideal))) ⟨m, fun _ => 0, g⟩ (fun r => ∀ c : Dev Cert.KernelVIdeal.nD,
          r.2.mem ((c.tc : Thread Cert.KernelVIdeal.nD Cert.KernelVIdeal.τ).loc Cert.KernelVIdeal.main_v1_0) = v0 c
          ∧ r.2.mem ((c.tc : Thread Cert.KernelVIdeal.nD Cert.KernelVIdeal.τ).loc Cert.KernelVIdeal.main_v1_1) = v1 c
          ∧ r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
          ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1)
          ∧ r.2.mem ((c.tc : Thread Cert.KernelVIdeal.nD Cert.KernelVIdeal.τ).loc Cert.KernelVIdeal.main_arg2) = m ((c.tc : Thread Cert.KernelVIdeal.nD Cert.KernelVIdeal.τ).loc Cert.KernelVIdeal.main_arg2)
          ∧ r.2.mem ((c.tc : Thread Cert.KernelVIdeal.nD Cert.KernelVIdeal.τ).loc Cert.KernelVIdeal.main_arg3) = m ((c.tc : Thread Cert.KernelVIdeal.nD Cert.KernelVIdeal.τ).loc Cert.KernelVIdeal.main_arg3)
          ∧ r.2.mem ((c.tc : Thread Cert.KernelVIdeal.nD Cert.KernelVIdeal.τ).loc Cert.KernelVIdeal.main_arg4) = m ((c.tc : Thread Cert.KernelVIdeal.nD Cert.KernelVIdeal.τ).loc Cert.KernelVIdeal.main_arg4))
      ∧ θ_run (Cert.ReferenceVIdeal.defs (F := Ideal)) (onTc (τ := Cert.ReferenceVIdeal.τ) (Cert.ReferenceVIdeal.main (F := Ideal))) ⟨m', fun _ => 0, g'⟩ (fun r => ∀ c : Dev Cert.ReferenceVIdeal.nD,
          r.2.mem ((c.tc : Thread Cert.ReferenceVIdeal.nD Cert.ReferenceVIdeal.τ).loc Cert.ReferenceVIdeal.main_v50) = v0 c
          ∧ r.2.mem ((c.tc : Thread Cert.ReferenceVIdeal.nD Cert.ReferenceVIdeal.τ).loc Cert.ReferenceVIdeal.main_v49) = v1 c
          ∧ r.2.mem ((c.tc : Thread Cert.ReferenceVIdeal.nD Cert.ReferenceVIdeal.τ).loc Cert.ReferenceVIdeal.main_arg0) = m' ((c.tc : Thread Cert.ReferenceVIdeal.nD Cert.ReferenceVIdeal.τ).loc Cert.ReferenceVIdeal.main_arg0)
          ∧ r.2.mem ((c.tc : Thread Cert.ReferenceVIdeal.nD Cert.ReferenceVIdeal.τ).loc Cert.ReferenceVIdeal.main_arg1) = m' ((c.tc : Thread Cert.ReferenceVIdeal.nD Cert.ReferenceVIdeal.τ).loc Cert.ReferenceVIdeal.main_arg1)
          ∧ r.2.mem ((c.tc : Thread Cert.ReferenceVIdeal.nD Cert.ReferenceVIdeal.τ).loc Cert.ReferenceVIdeal.main_arg2) = m' ((c.tc : Thread Cert.ReferenceVIdeal.nD Cert.ReferenceVIdeal.τ).loc Cert.ReferenceVIdeal.main_arg2)
          ∧ r.2.mem ((c.tc : Thread Cert.ReferenceVIdeal.nD Cert.ReferenceVIdeal.τ).loc Cert.ReferenceVIdeal.main_arg3) = m' ((c.tc : Thread Cert.ReferenceVIdeal.nD Cert.ReferenceVIdeal.τ).loc Cert.ReferenceVIdeal.main_arg3)
          ∧ r.2.mem ((c.tc : Thread Cert.ReferenceVIdeal.nD Cert.ReferenceVIdeal.τ).loc Cert.ReferenceVIdeal.main_arg4) = m' ((c.tc : Thread Cert.ReferenceVIdeal.nD Cert.ReferenceVIdeal.τ).loc Cert.ReferenceVIdeal.main_arg4))

def Claim : Prop :=
  ∃ (hKernel : Cert.Kernel.Facts) (hKernelIdeal : Cert.KernelIdeal.Facts) (hReferenceIdeal : Cert.ReferenceIdeal.Facts) (hKernelV : Cert.KernelV.Facts) (hKernelVIdeal : Cert.KernelVIdeal.Facts) (hReferenceVIdeal : Cert.ReferenceVIdeal.Facts),
    quiescent_Kernel (hKernel := hKernel)
    ∧ quiescent_KernelIdeal (hKernelIdeal := hKernelIdeal)
    ∧ quiescent_ReferenceIdeal (hReferenceIdeal := hReferenceIdeal)
    ∧ quiescent_KernelV (hKernelV := hKernelV)
    ∧ quiescent_KernelVIdeal (hKernelVIdeal := hKernelVIdeal)
    ∧ quiescent_ReferenceVIdeal (hReferenceVIdeal := hReferenceVIdeal)
    ∧ preserves_Kernel_KernelIdeal
    ∧ algebraic_KernelIdeal_ReferenceIdeal (hKernelIdeal := hKernelIdeal) (hReferenceIdeal := hReferenceIdeal)
    ∧ preserves_KernelV_KernelVIdeal
    ∧ algebraic_KernelVIdeal_ReferenceVIdeal (hKernelVIdeal := hKernelVIdeal) (hReferenceVIdeal := hReferenceVIdeal)
-- ==== Kernel.lean ====
abbrev S24x48x128x256 : Shape := ⟨4, ![24, 48, 128, 256]⟩
abbrev S6144x128 : Shape := ⟨2, ![6144, 128]⟩
abbrev S10240x384x16 : Shape := ⟨3, ![10240, 384, 16]⟩
abbrev S10240x384 : Shape := ⟨2, ![10240, 384]⟩
abbrev S10240x16x384 : Shape := ⟨3, ![10240, 16, 384]⟩
abbrev S6144x80x128 : Shape := ⟨3, ![6144, 80, 128]⟩
abbrev S1x48x128x256 : Shape := ⟨4, ![1, 48, 128, 256]⟩
abbrev S256x128 : Shape := ⟨2, ![256, 128]⟩
abbrev S1024x384 : Shape := ⟨2, ![1024, 384]⟩
abbrev S256x8x128 : Shape := ⟨3, ![256, 8, 128]⟩
abbrev S48x512x256 : Shape := ⟨3, ![48, 512, 256]⟩
abbrev S2x3x1024x8x128 : Shape := ⟨5, ![2, 3, 1024, 8, 128]⟩
abbrev S_ : Shape := ⟨0, ![]⟩
abbrev S1024x128 : Shape := ⟨2, ![1024, 128]⟩
abbrev S1x1x1024x8x128 : Shape := ⟨5, ![1, 1, 1024, 8, 128]⟩
abbrev S1024x8x128 : Shape := ⟨3, ![1024, 8, 128]⟩
abbrev S16x128 : Shape := ⟨2, ![16, 128]⟩
abbrev S1x1x16x8x128 : Shape := ⟨5, ![1, 1, 16, 8, 128]⟩
abbrev S16x8x128 : Shape := ⟨3, ![16, 8, 128]⟩
abbrev S128x128 : Shape := ⟨2, ![128, 128]⟩
abbrev S32x128 : Shape := ⟨2, ![32, 128]⟩
abbrev S8x4x128 : Shape := ⟨3, ![8, 4, 128]⟩
abbrev S8x1x128 : Shape := ⟨3, ![8, 1, 128]⟩
abbrev S8x128 : Shape := ⟨2, ![8, 128]⟩
abbrev S1x8x128 : Shape := ⟨3, ![1, 8, 128]⟩
abbrev S256x512 : Shape := ⟨2, ![256, 512]⟩
abbrev S1x1x128x256 : Shape := ⟨4, ![1, 1, 128, 256]⟩
abbrev S128x256 : Shape := ⟨2, ![128, 256]⟩
abbrev S256x256 : Shape := ⟨2, ![256, 256]⟩
abbrev S1x256x256 : Shape := ⟨3, ![1, 256, 256]⟩
abbrev S512x256 : Shape := ⟨2, ![512, 256]⟩
abbrev S2048x128 : Shape := ⟨2, ![2048, 128]⟩

abbrev nBuf : Space → Nat
  | .hbm => 7
  | .vmem => 13
  | .smem => 0
  | _ => 0

abbrev bufTy : (tb : Table) → Fin (tcTables nBuf tb) → BufTy
  | .hbm, ⟨0, _⟩ => ⟨S24x48x128x256, .i32⟩
  | .hbm, ⟨1, _⟩ => ⟨S6144x128, .f32⟩
  | .hbm, ⟨2, _⟩ => ⟨S6144x128, .f32⟩
  | .hbm, ⟨3, _⟩ => ⟨S10240x384x16, .i8⟩
  | .hbm, ⟨4, _⟩ => ⟨S10240x384, .bf16⟩
  | .hbm, ⟨5, _⟩ => ⟨S10240x16x384, .i8⟩
  | .hbm, ⟨6, _⟩ => ⟨S6144x80x128, .bf16⟩
  | .local _ .vmem, ⟨0, _⟩ => ⟨S1x48x128x256, .i32⟩
  | .local _ .vmem, ⟨1, _⟩ => ⟨S1x48x128x256, .i32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1024x384, .bf16⟩
  | .local _ .vmem, ⟨7, _⟩ => ⟨S1024x384, .bf16⟩
  | .local _ .vmem, ⟨8, _⟩ => ⟨S256x8x128, .bf16⟩
  | .local _ .vmem, ⟨9, _⟩ => ⟨S256x8x128, .bf16⟩
  | .local _ .vmem, ⟨10, _⟩ => ⟨S48x512x256, .i32⟩
  | .local _ .vmem, ⟨11, _⟩ => ⟨S2x3x1024x8x128, .i8⟩
  | .local _ .vmem, ⟨12, _⟩ => ⟨S1024x128, .i32⟩
  | _, _ => ⟨S24x48x128x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨2, ![10, 24], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg0 : BitVec 32 := BitVec.ofNat 32 (i 0).val
  let c1024_i32 : BitVec 32 := 1024#32
  let v1022 : BitVec 32 := Scalar.muli arg0 c1024_i32
  let c0_i32_848 : BitVec 32 := 0#32
  let c0_i32_849 : BitVec 32 := 0#32
  ![v1022.toNat, 0, 0]
def k0_off2 (i : grid0.Coords) : Fin 3 → Nat :=
  let arg0 : BitVec 32 := BitVec.ofNat 32 (i 0).val
  let c1024_i32_838 : BitVec 32 := 1024#32
  let v1023 : BitVec 32 := Scalar.muli arg0 c1024_i32_838
  let c0_i32_855 : BitVec 32 := 0#32
  let c128_i32 : BitVec 32 := 128#32
  ![v1023.toNat, 0, 128]
def k0_off3 (i : grid0.Coords) : Fin 3 → Nat :=
  let arg0 : BitVec 32 := BitVec.ofNat 32 (i 0).val
  let c1024_i32_839 : BitVec 32 := 1024#32
  let v1024 : BitVec 32 := Scalar.muli arg0 c1024_i32_839
  let c0_i32_861 : BitVec 32 := 0#32
  let c256_i32 : BitVec 32 := 256#32
  ![v1024.toNat, 0, 256]
def k0_off4 (i : grid0.Coords) : Fin 3 → Nat :=
  let arg0 : BitVec 32 := BitVec.ofNat 32 (i 0).val
  let c1024_i32_840 : BitVec 32 := 1024#32
  let v1025 : BitVec 32 := Scalar.muli arg0 c1024_i32_840
  let c8_i32 : BitVec 32 := 8#32
  let c0_i32_867 : BitVec 32 := 0#32
  ![v1025.toNat, 8, 0]
def k0_off5 (i : grid0.Coords) : Fin 3 → Nat :=
  let arg0 : BitVec 32 := BitVec.ofNat 32 (i 0).val
  let c1024_i32_841 : BitVec 32 := 1024#32
  let v1026 : BitVec 32 := Scalar.muli arg0 c1024_i32_841
  let c8_i32_873 : BitVec 32 := 8#32
  let c128_i32_874 : BitVec 32 := 128#32
  ![v1026.toNat, 8, 128]
def k0_off6 (i : grid0.Coords) : Fin 3 → Nat :=
  let arg0 : BitVec 32 := BitVec.ofNat 32 (i 0).val
  let c1024_i32_842 : BitVec 32 := 1024#32
  let v1027 : BitVec 32 := Scalar.muli arg0 c1024_i32_842
  let c8_i32_880 : BitVec 32 := 8#32
  let c256_i32_881 : BitVec 32 := 256#32
  ![v1027.toNat, 8, 256]
@[reducible] def k0_t1_loop : Scf.Loop 32 :=
  let c0_i32_882 : BitVec 32 := 0#32
  let c64_i32 : BitVec 32 := 64#32
  let v1046 : BitVec 32 := Scalar.addi c0_i32_882 c64_i32
  let c1_i32_883 : BitVec 32 := 1#32
  ⟨c0_i32_882, v1046, c1_i32_883⟩
def k0_off7 (k0_t1 : Fin k0_t1_loop.trips) : Fin 2 → Nat :=
  let c0_i32_882 : BitVec 32 := 0#32
  let c1_i32_883 : BitVec 32 := 1#32
  let arg12 : BitVec 32 := Scf.iv c0_i32_882 c1_i32_883 k0_t1
  let c16_i32 : BitVec 32 := 16#32
  let v1051 : BitVec 32 := Scalar.muli arg12 c16_i32
  let v1052 : Index := Scalar.indexCast v1051
  let c0_887 : Index := 0#32
  ![v1052.toNat, 0]
def k0_off8 (k0_t1 : Fin k0_t1_loop.trips) : Fin 5 → Nat :=
  let c0_888 : Index := 0#32
  let c0_889 : Index := 0#32
  let c0_i32_882 : BitVec 32 := 0#32
  let c1_i32_883 : BitVec 32 := 1#32
  let arg12 : BitVec 32 := Scf.iv c0_i32_882 c1_i32_883 k0_t1
  let c16_i32 : BitVec 32 := 16#32
  let v1051 : BitVec 32 := Scalar.muli arg12 c16_i32
  let v1054 : Index := Scalar.indexCast v1051
  let c0_890 : Index := 0#32
  let c0_891 : Index := 0#32
  ![0, 0, v1054.toNat, 0, 0]
def k0_off9 (k0_t1 : Fin k0_t1_loop.trips) : Fin 3 → Nat :=
  let c0_897 : Index := 0#32
  let c0_i32_882 : BitVec 32 := 0#32
  let c1_i32_883 : BitVec 32 := 1#32
  let arg12 : BitVec 32 := Scf.iv c0_i32_882 c1_i32_883 k0_t1
  let c8_i32_896 : BitVec 32 := 8#32
  let v1085 : BitVec 32 := Scalar.muli arg12 c8_i32_896
  let v1086 : Index := Scalar.indexCast v1085
  let c0_898 : Index := 0#32
  ![0, v1086.toNat, 0]
def k0_off10 (k0_t1 : Fin k0_t1_loop.trips) : Fin 3 → Nat :=
  let c0_903 : Index := 0#32
  let c0_i32_882 : BitVec 32 := 0#32
  let c1_i32_883 : BitVec 32 := 1#32
  let arg12 : BitVec 32 := Scf.iv c0_i32_882 c1_i32_883 k0_t1
  let c8_i32_902 : BitVec 32 := 8#32
  let v1101 : BitVec 32 := Scalar.muli arg12 c8_i32_902
  let v1102 : Index := Scalar.indexCast v1101
  let c128 : Index := 128#32
  ![0, v1102.toNat, 128]
def k0_off11 (k0_t1 : Fin k0_t1_loop.trips) : Fin 3 → Nat :=
  let c1_909 : Index := 1#32
  let c0_i32_882 : BitVec 32 := 0#32
  let c1_i32_883 : BitVec 32 := 1#32
  let arg12 : BitVec 32 := Scf.iv c0_i32_882 c1_i32_883 k0_t1
  let c8_i32_908 : BitVec 32 := 8#32
  let v1117 : BitVec 32 := Scalar.muli arg12 c8_i32_908
  let v1118 : Index := Scalar.indexCast v1117
  let c0_910 : Index := 0#32
  ![1, v1118.toNat, 0]
def k0_off12 (k0_t1 : Fin k0_t1_loop.trips) : Fin 3 → Nat :=
  let c1_915 : Index := 1#32
  let c0_i32_882 : BitVec 32 := 0#32
  let c1_i32_883 : BitVec 32 := 1#32
  let arg12 : BitVec 32 := Scf.iv c0_i32_882 c1_i32_883 k0_t1
  let c8_i32_914 : BitVec 32 := 8#32
  let v1133 : BitVec 32 := Scalar.muli arg12 c8_i32_914
  let v1134 : Index := Scalar.indexCast v1133
  let c128_916 : Index := 128#32
  ![1, v1134.toNat, 128]
def k0_off13 (k0_t1 : Fin k0_t1_loop.trips) : Fin 3 → Nat :=
  let c2_922 : Index := 2#32
  let c0_i32_882 : BitVec 32 := 0#32
  let c1_i32_883 : BitVec 32 := 1#32
  let arg12 : BitVec 32 := Scf.iv c0_i32_882 c1_i32_883 k0_t1
  let c8_i32_921 : BitVec 32 := 8#32
  let v1149 : BitVec 32 := Scalar.muli arg12 c8_i32_921
  let v1150 : Index := Scalar.indexCast v1149
  let c0_923 : Index := 0#32
  ![2, v1150.toNat, 0]
def k0_off14 (k0_t1 : Fin k0_t1_loop.trips) : Fin 3 → Nat :=
  let c2_929 : Index := 2#32
  let c0_i32_882 : BitVec 32 := 0#32
  let c1_i32_883 : BitVec 32 := 1#32
  let arg12 : BitVec 32 := Scf.iv c0_i32_882 c1_i32_883 k0_t1
  let c8_i32_928 : BitVec 32 := 8#32
  let v1165 : BitVec 32 := Scalar.muli arg12 c8_i32_928
  let v1166 : Index := Scalar.indexCast v1165
  let c128_930 : Index := 128#32
  ![2, v1166.toNat, 128]
def k0_off15 (k0_t1 : Fin k0_t1_loop.trips) : Fin 3 → Nat :=
  let c3_936 : Index := 3#32
  let c0_i32_882 : BitVec 32 := 0#32
  let c1_i32_883 : BitVec 32 := 1#32
  let arg12 : BitVec 32 := Scf.iv c0_i32_882 c1_i32_883 k0_t1
  let c8_i32_935 : BitVec 32 := 8#32
  let v1181 : BitVec 32 := Scalar.muli arg12 c8_i32_935
  let v1182 : Index := Scalar.indexCast v1181
  let c0_937 : Index := 0#32
  ![3, v1182.toNat, 0]
def k0_off16 (k0_t1 : Fin k0_t1_loop.trips) : Fin 3 → Nat :=
  let c3_943 : Index := 3#32
  let c0_i32_882 : BitVec 32 := 0#32
  let c1_i32_883 : BitVec 32 := 1#32
  let arg12 : BitVec 32 := Scf.iv c0_i32_882 c1_i32_883 k0_t1
  let c8_i32_942 : BitVec 32 := 8#32
  let v1197 : BitVec 32 := Scalar.muli arg12 c8_i32_942
  let v1198 : Index := Scalar.indexCast v1197
  let c128_944 : Index := 128#32
  ![3, v1198.toNat, 128]
def k0_off17 (k0_t1 : Fin k0_t1_loop.trips) : Fin 3 → Nat :=
  let c12_958 : Index := 12#32
  let c0_i32_882 : BitVec 32 := 0#32
  let c1_i32_883 : BitVec 32 := 1#32
  let arg12 : BitVec 32 := Scf.iv c0_i32_882 c1_i32_883 k0_t1
  let c8_i32_957 : BitVec 32 := 8#32
  let v1233 : BitVec 32 := Scalar.muli arg12 c8_i32_957
  let v1234 : Index := Scalar.indexCast v1233
  let c0_959 : Index := 0#32
  ![12, v1234.toNat, 0]
def k0_off18 (k0_t1 : Fin k0_t1_loop.trips) : Fin 3 → Nat :=
  let c12_965 : Index := 12#32
  let c0_i32_882 : BitVec 32 := 0#32
  let c1_i32_883 : BitVec 32 := 1#32
  let arg12 : BitVec 32 := Scf.iv c0_i32_882 c1_i32_883 k0_t1
  let c8_i32_964 : BitVec 32 := 8#32
  let v1249 : BitVec 32 := Scalar.muli arg12 c8_i32_964
  let v1250 : Index := Scalar.indexCast v1249
  let c128_966 : Index := 128#32
  ![12, v1250.toNat, 128]
def k0_off19 (k0_t1 : Fin k0_t1_loop.trips) : Fin 3 → Nat :=
  let c13_972 : Index := 13#32
  let c0_i32_882 : BitVec 32 := 0#32
  let c1_i32_883 : BitVec 32 := 1#32
  let arg12 : BitVec 32 := Scf.iv c0_i32_882 c1_i32_883 k0_t1
  let c8_i32_971 : BitVec 32 := 8#32
  let v1265 : BitVec 32 := Scalar.muli arg12 c8_i32_971
  let v1266 : Index := Scalar.indexCast v1265
  let c0_973 : Index := 0#32
  ![13, v1266.toNat, 0]
def k0_off20 (k0_t1 : Fin k0_t1_loop.trips) : Fin 3 → Nat :=
  let c13_979 : Index := 13#32
  let c0_i32_882 : BitVec 32 := 0#32
  let c1_i32_883 : BitVec 32 := 1#32
  let arg12 : BitVec 32 := Scf.iv c0_i32_882 c1_i32_883 k0_t1
  let c8_i32_978 : BitVec 32 := 8#32
  let v1281 : BitVec 32 := Scalar.muli arg12 c8_i32_978
  let v1282 : Index := Scalar.indexCast v1281
  let c128_980 : Index := 128#32
  ![13, v1282.toNat, 128]
def k0_off21 (k0_t1 : Fin k0_t1_loop.trips) : Fin 3 → Nat :=
  let c14_986 : Index := 14#32
  let c0_i32_882 : BitVec 32 := 0#32
  let c1_i32_883 : BitVec 32 := 1#32
  let arg12 : BitVec 32 := Scf.iv c0_i32_882 c1_i32_883 k0_t1
  let c8_i32_985 : BitVec 32 := 8#32
  let v1297 : BitVec 32 := Scalar.muli arg12 c8_i32_985
  let v1298 : Index := Scalar.indexCast v1297
  let c0_987 : Index := 0#32
  ![14, v1298.toNat, 0]
def k0_off22 (k0_t1 : Fin k0_t1_loop.trips) : Fin 3 → Nat :=
  let c14_993 : Index := 14#32
  let c0_i32_882 : BitVec 32 := 0#32
  let c1_i32_883 : BitVec 32 := 1#32
  let arg12 : BitVec 32 := Scf.iv c0_i32_882 c1_i32_883 k0_t1
  let c8_i32_992 : BitVec 32 := 8#32
  let v1313 : BitVec 32 := Scalar.muli arg12 c8_i32_992
  let v1314 : Index := Scalar.indexCast v1313
  let c128_994 : Index := 128#32
  ![14, v1314.toNat, 128]
def k0_off23 (k0_t1 : Fin k0_t1_loop.trips) : Fin 3 → Nat :=
  let c15_1000 : Index := 15#32
  let c0_i32_882 : BitVec 32 := 0#32
  let c1_i32_883 : BitVec 32 := 1#32
  let arg12 : BitVec 32 := Scf.iv c0_i32_882 c1_i32_883 k0_t1
  let c8_i32_999 : BitVec 32 := 8#32
  let v1329 : BitVec 32 := Scalar.muli arg12 c8_i32_999
  let v1330 : Index := Scalar.indexCast v1329
  let c0_1001 : Index := 0#32
  ![15, v1330.toNat, 0]
def k0_off24 (k0_t1 : Fin k0_t1_loop.trips) : Fin 3 → Nat :=
  let c15_1007 : Index := 15#32
  let c0_i32_882 : BitVec 32 := 0#32
  let c1_i32_883 : BitVec 32 := 1#32
  let arg12 : BitVec 32 := Scf.iv c0_i32_882 c1_i32_883 k0_t1
  let c8_i32_1006 : BitVec 32 := 8#32
  let v1345 : BitVec 32 := Scalar.muli arg12 c8_i32_1006
  let v1346 : Index := Scalar.indexCast v1345
  let c128_1008 : Index := 128#32
  ![15, v1346.toNat, 128]
def k0_off25 (k0_t1 : Fin k0_t1_loop.trips) : Fin 5 → Nat :=
  let c1_1009 : Index := 1#32
  let c0_1010 : Index := 0#32
  let c0_i32_882 : BitVec 32 := 0#32
  let c1_i32_883 : BitVec 32 := 1#32
  let arg12 : BitVec 32 := Scf.iv c0_i32_882 c1_i32_883 k0_t1
  let c16_i32 : BitVec 32 := 16#32
  let v1051 : BitVec 32 := Scalar.muli arg12 c16_i32
  let v1350 : Index := Scalar.indexCast v1051
  let c0_1011 : Index := 0#32
  let c0_1012 : Index := 0#32
  ![1, 0, v1350.toNat, 0, 0]
def k0_off26 (k0_t1 : Fin k0_t1_loop.trips) : Fin 3 → Nat :=
  let c24_1022 : Index := 24#32
  let c0_i32_882 : BitVec 32 := 0#32
  let c1_i32_883 : BitVec 32 := 1#32
  let arg12 : BitVec 32 := Scf.iv c0_i32_882 c1_i32_883 k0_t1
  let c8_i32_1021 : BitVec 32 := 8#32
  let v1381 : BitVec 32 := Scalar.muli arg12 c8_i32_1021
  let v1382 : Index := Scalar.indexCast v1381
  let c0_1023 : Index := 0#32
  ![24, v1382.toNat, 0]
def k0_off27 (k0_t1 : Fin k0_t1_loop.trips) : Fin 3 → Nat :=
  let c24_1029 : Index := 24#32
  let c0_i32_882 : BitVec 32 := 0#32
  let c1_i32_883 : BitVec 32 := 1#32
  let arg12 : BitVec 32 := Scf.iv c0_i32_882 c1_i32_883 k0_t1
  let c8_i32_1028 : BitVec 32 := 8#32
  let v1397 : BitVec 32 := Scalar.muli arg12 c8_i32_1028
  let v1398 : Index := Scalar.indexCast v1397
  let c128_1030 : Index := 128#32
  ![24, v1398.toNat, 128]
def k0_off28 (k0_t1 : Fin k0_t1_loop.trips) : Fin 3 → Nat :=
  let c25_1036 : Index := 25#32
  let c0_i32_882 : BitVec 32 := 0#32
  let c1_i32_883 : BitVec 32 := 1#32
  let arg12 : BitVec 32 := Scf.iv c0_i32_882 c1_i32_883 k0_t1
  let c8_i32_1035 : BitVec 32 := 8#32
  let v1413 : BitVec 32 := Scalar.muli arg12 c8_i32_1035
  let v1414 : Index := Scalar.indexCast v1413
  let c0_1037 : Index := 0#32
  ![25, v1414.toNat, 0]
def k0_off29 (k0_t1 : Fin k0_t1_loop.trips) : Fin 3 → Nat :=
  let c25_1043 : Index := 25#32
  let c0_i32_882 : BitVec 32 := 0#32
  let c1_i32_883 : BitVec 32 := 1#32
  let arg12 : BitVec 32 := Scf.iv c0_i32_882 c1_i32_883 k0_t1
  let c8_i32_1042 : BitVec 32 := 8#32
  let v1429 : BitVec 32 := Scalar.muli arg12 c8_i32_1042
  let v1430 : Index := Scalar.indexCast v1429
  let c128_1044 : Index := 128#32
  ![25, v1430.toNat, 128]
def k0_off30 (k0_t1 : Fin k0_t1_loop.trips) : Fin 3 → Nat :=
  let c26_1050 : Index := 26#32
  let c0_i32_882 : BitVec 32 := 0#32
  let c1_i32_883 : BitVec 32 := 1#32
  let arg12 : BitVec 32 := Scf.iv c0_i32_882 c1_i32_883 k0_t1
  let c8_i32_1049 : BitVec 32 := 8#32
  let v1445 : BitVec 32 := Scalar.muli arg12 c8_i32_1049
  let v1446 : Index := Scalar.indexCast v1445
  let c0_1051 : Index := 0#32
  ![26, v1446.toNat, 0]
def k0_off31 (k0_t1 : Fin k0_t1_loop.trips) : Fin 3 → Nat :=
  let c26_1057 : Index := 26#32
  let c0_i32_882 : BitVec 32 := 0#32
  let c1_i32_883 : BitVec 32 := 1#32
  let arg12 : BitVec 32 := Scf.iv c0_i32_882 c1_i32_883 k0_t1
  let c8_i32_1056 : BitVec 32 := 8#32
  let v1461 : BitVec 32 := Scalar.muli arg12 c8_i32_1056
  let v1462 : Index := Scalar.indexCast v1461
  let c128_1058 : Index := 128#32
  ![26, v1462.toNat, 128]
def k0_off32 (k0_t1 : Fin k0_t1_loop.trips) : Fin 3 → Nat :=
  let c27_1064 : Index := 27#32
  let c0_i32_882 : BitVec 32 := 0#32
  let c1_i32_883 : BitVec 32 := 1#32
  let arg12 : BitVec 32 := Scf.iv c0_i32_882 c1_i32_883 k0_t1
  let c8_i32_1063 : BitVec 32 := 8#32
  let v1477 : BitVec 32 := Scalar.muli arg12 c8_i32_1063
  let v1478 : Index := Scalar.indexCast v1477
  let c0_1065 : Index := 0#32
  ![27, v1478.toNat, 0]
def k0_off33 (k0_t1 : Fin k0_t1_loop.trips) : Fin 3 → Nat :=
  let c27_1071 : Index := 27#32
  let c0_i32_882 : BitVec 32 := 0#32
  let c1_i32_883 : BitVec 32 := 1#32
  let arg12 : BitVec 32 := Scf.iv c0_i32_882 c1_i32_883 k0_t1
  let c8_i32_1070 : BitVec 32 := 8#32
  let v1493 : BitVec 32 := Scalar.muli arg12 c8_i32_1070
  let v1494 : Index := Scalar.indexCast v1493
  let c128_1072 : Index := 128#32
  ![27, v1494.toNat, 128]
def k0_off34 (k0_t1 : Fin k0_t1_loop.trips) : Fin 3 → Nat :=
  let c36_1086 : Index := 36#32
  let c0_i32_882 : BitVec 32 := 0#32
  let c1_i32_883 : BitVec 32 := 1#32
  let arg12 : BitVec 32 := Scf.iv c0_i32_882 c1_i32_883 k0_t1
  let c8_i32_1085 : BitVec 32 := 8#32
  let v1529 : BitVec 32 := Scalar.muli arg12 c8_i32_1085
  let v1530 : Index := Scalar.indexCast v1529
  let c0_1087 : Index := 0#32
  ![36, v1530.toNat, 0]
def k0_off35 (k0_t1 : Fin k0_t1_loop.trips) : Fin 3 → Nat :=
  let c36_1093 : Index := 36#32
  let c0_i32_882 : BitVec 32 := 0#32
  let c1_i32_883 : BitVec 32 := 1#32
  let arg12 : BitVec 32 := Scf.iv c0_i32_882 c1_i32_883 k0_t1
  let c8_i32_1092 : BitVec 32 := 8#32
  let v1545 : BitVec 32 := Scalar.muli arg12 c8_i32_1092
  let v1546 : Index := Scalar.indexCast v1545
  let c128_1094 : Index := 128#32
  ![36, v1546.toNat, 128]
def k0_off36 (k0_t1 : Fin k0_t1_loop.trips) : Fin 3 → Nat :=
  let c37_1100 : Index := 37#32
  let c0_i32_882 : BitVec 32 := 0#32
  let c1_i32_883 : BitVec 32 := 1#32
  let arg12 : BitVec 32 := Scf.iv c0_i32_882 c1_i32_883 k0_t1
  let c8_i32_1099 : BitVec 32 := 8#32
  let v1561 : BitVec 32 := Scalar.muli arg12 c8_i32_1099
  let v1562 : Index := Scalar.indexCast v1561
  let c0_1101 : Index := 0#32
  ![37, v1562.toNat, 0]
def k0_off37 (k0_t1 : Fin k0_t1_loop.trips) : Fin 3 → Nat :=
  let c37_1107 : Index := 37#32
  let c0_i32_882 : BitVec 32 := 0#32
  let c1_i32_883 : BitVec 32 := 1#32
  let arg12 : BitVec 32 := Scf.iv c0_i32_882 c1_i32_883 k0_t1
  let c8_i32_1106 : BitVec 32 := 8#32
  let v1577 : BitVec 32 := Scalar.muli arg12 c8_i32_1106
  let v1578 : Index := Scalar.indexCast v1577
  let c128_1108 : Index := 128#32
  ![37, v1578.toNat, 128]
def k0_off38 (k0_t1 : Fin k0_t1_loop.trips) : Fin 3 → Nat :=
  let c38_1114 : Index := 38#32
  let c0_i32_882 : BitVec 32 := 0#32
  let c1_i32_883 : BitVec 32 := 1#32
  let arg12 : BitVec 32 := Scf.iv c0_i32_882 c1_i32_883 k0_t1
  let c8_i32_1113 : BitVec 32 := 8#32
  let v1593 : BitVec 32 := Scalar.muli arg12 c8_i32_1113
  let v1594 : Index := Scalar.indexCast v1593
  let c0_1115 : Index := 0#32
  ![38, v1594.toNat, 0]
def k0_off39 (k0_t1 : Fin k0_t1_loop.trips) : Fin 3 → Nat :=
  let c38_1121 : Index := 38#32
  let c0_i32_882 : BitVec 32 := 0#32
  let c1_i32_883 : BitVec 32 := 1#32
  let arg12 : BitVec 32 := Scf.iv c0_i32_882 c1_i32_883 k0_t1
  let c8_i32_1120 : BitVec 32 := 8#32
  let v1609 : BitVec 32 := Scalar.muli arg12 c8_i32_1120
  let v1610 : Index := Scalar.indexCast v1609
  let c128_1122 : Index := 128#32
  ![38, v1610.toNat, 128]
def k0_off40 (k0_t1 : Fin k0_t1_loop.trips) : Fin 3 → Nat :=
  let c39_1128 : Index := 39#32
  let c0_i32_882 : BitVec 32 := 0#32
  let c1_i32_883 : BitVec 32 := 1#32
  let arg12 : BitVec 32 := Scf.iv c0_i32_882 c1_i32_883 k0_t1
  let c8_i32_1127 : BitVec 32 := 8#32
  let v1625 : BitVec 32 := Scalar.muli arg12 c8_i32_1127
  let v1626 : Index := Scalar.indexCast v1625
  let c0_1129 : Index := 0#32
  ![39, v1626.toNat, 0]
def k0_off41 (k0_t1 : Fin k0_t1_loop.trips) : Fin 3 → Nat :=
  let c39_1135 : Index := 39#32
  let c0_i32_882 : BitVec 32 := 0#32
  let c1_i32_883 : BitVec 32 := 1#32
  let arg12 : BitVec 32 := Scf.iv c0_i32_882 c1_i32_883 k0_t1
  let c8_i32_1134 : BitVec 32 := 8#32
  let v1641 : BitVec 32 := Scalar.muli arg12 c8_i32_1134
  let v1642 : Index := Scalar.indexCast v1641
  let c128_1136 : Index := 128#32
  ![39, v1642.toNat, 128]
def k0_off42 (k0_t1 : Fin k0_t1_loop.trips) : Fin 2 → Nat :=
  let c0_i32_882 : BitVec 32 := 0#32
  let c1_i32_883 : BitVec 32 := 1#32
  let arg12 : BitVec 32 := Scf.iv c0_i32_882 c1_i32_883 k0_t1
  let c16_i32 : BitVec 32 := 16#32
  let v1051 : BitVec 32 := Scalar.muli arg12 c16_i32
  let v1646 : Index := Scalar.indexCast v1051
  let c128_1137 : Index := 128#32
  ![v1646.toNat, 128]
def k0_off43 (k0_t1 : Fin k0_t1_loop.trips) : Fin 5 → Nat :=
  let c0_1138 : Index := 0#32
  let c1_1139 : Index := 1#32
  let c0_i32_882 : BitVec 32 := 0#32
  let c1_i32_883 : BitVec 32 := 1#32
  let arg12 : BitVec 32 := Scf.iv c0_i32_882 c1_i32_883 k0_t1
  let c16_i32 : BitVec 32 := 16#32
  let v1051 : BitVec 32 := Scalar.muli arg12 c16_i32
  let v1648 : Index := Scalar.indexCast v1051
  let c0_1140 : Index := 0#32
  let c0_1141 : Index := 0#32
  ![0, 1, v1648.toNat, 0, 0]
def k0_off44 (k0_t1 : Fin k0_t1_loop.trips) : Fin 3 → Nat :=
  let c4_1151 : Index := 4#32
  let c0_i32_882 : BitVec 32 := 0#32
  let c1_i32_883 : BitVec 32 := 1#32
  let arg12 : BitVec 32 := Scf.iv c0_i32_882 c1_i32_883 k0_t1
  let c8_i32_1150 : BitVec 32 := 8#32
  let v1679 : BitVec 32 := Scalar.muli arg12 c8_i32_1150
  let v1680 : Index := Scalar.indexCast v1679
  let c0_1152 : Index := 0#32
  ![4, v1680.toNat, 0]
def k0_off45 (k0_t1 : Fin k0_t1_loop.trips) : Fin 3 → Nat :=
  let c4_1158 : Index := 4#32
  let c0_i32_882 : BitVec 32 := 0#32
  let c1_i32_883 : BitVec 32 := 1#32
  let arg12 : BitVec 32 := Scf.iv c0_i32_882 c1_i32_883 k0_t1
  let c8_i32_1157 : BitVec 32 := 8#32
  let v1695 : BitVec 32 := Scalar.muli arg12 c8_i32_1157
  let v1696 : Index := Scalar.indexCast v1695
  let c128_1159 : Index := 128#32
  ![4, v1696.toNat, 128]
def k0_off46 (k0_t1 : Fin k0_t1_loop.trips) : Fin 3 → Nat :=
  let c5_1165 : Index := 5#32
  let c0_i32_882 : BitVec 32 := 0#32
  let c1_i32_883 : BitVec 32 := 1#32
  let arg12 : BitVec 32 := Scf.iv c0_i32_882 c1_i32_883 k0_t1
  let c8_i32_1164 : BitVec 32 := 8#32
  let v1711 : BitVec 32 := Scalar.muli arg12 c8_i32_1164
  let v1712 : Index := Scalar.indexCast v1711
  let c0_1166 : Index := 0#32
  ![5, v1712.toNat, 0]
def k0_off47 (k0_t1 : Fin k0_t1_loop.trips) : Fin 3 → Nat :=
  let c5_1172 : Index := 5#32
  let c0_i32_882 : BitVec 32 := 0#32
  let c1_i32_883 : BitVec 32 := 1#32
  let arg12 : BitVec 32 := Scf.iv c0_i32_882 c1_i32_883 k0_t1
  let c8_i32_1171 : BitVec 32 := 8#32
  let v1727 : BitVec 32 := Scalar.muli arg12 c8_i32_1171
  let v1728 : Index := Scalar.indexCast v1727
  let c128_1173 : Index := 128#32
  ![5, v1728.toNat, 128]
def k0_off48 (k0_t1 : Fin k0_t1_loop.trips) : Fin 3 → Nat :=
  let c6_1179 : Index := 6#32
  let c0_i32_882 : BitVec 32 := 0#32
  let c1_i32_883 : BitVec 32 := 1#32
  let arg12 : BitVec 32 := Scf.iv c0_i32_882 c1_i32_883 k0_t1
  let c8_i32_1178 : BitVec 32 := 8#32
  let v1743 : BitVec 32 := Scalar.muli arg12 c8_i32_1178
  let v1744 : Index := Scalar.indexCast v1743
  let c0_1180 : Index := 0#32
  ![6, v1744.toNat, 0]
def k0_off49 (k0_t1 : Fin k0_t1_loop.trips) : Fin 3 → Nat :=
  let c6_1186 : Index := 6#32
  let c0_i32_882 : BitVec 32 := 0#32
  let c1_i32_883 : BitVec 32 := 1#32
  let arg12 : BitVec 32 := Scf.iv c0_i32_882 c1_i32_883 k0_t1
  let c8_i32_1185 : BitVec 32 := 8#32
  let v1759 : BitVec 32 := Scalar.muli arg12 c8_i32_1185
  let v1760 : Index := Scalar.indexCast v1759
  let c128_1187 : Index := 128#32
  ![6, v1760.toNat, 128]
def k0_off50 (k0_t1 : Fin k0_t1_loop.trips) : Fin 3 → Nat :=
  let c7_1193 : Index := 7#32
  let c0_i32_882 : BitVec 32 := 0#32
  let c1_i32_883 : BitVec 32 := 1#32
  let arg12 : BitVec 32 := Scf.iv c0_i32_882 c1_i32_883 k0_t1
  let c8_i32_1192 : BitVec 32 := 8#32
  let v1775 : BitVec 32 := Scalar.muli arg12 c8_i32_1192
  let v1776 : Index := Scalar.indexCast v1775
  let c0_1194 : Index := 0#32
  ![7, v1776.toNat, 0]
def k0_off51 (k0_t1 : Fin k0_t1_loop.trips) : Fin 3 → Nat :=
  let c7_1200 : Index := 7#32
  let c0_i32_882 : BitVec 32 := 0#32
  let c1_i32_883 : BitVec 32 := 1#32
  let arg12 : BitVec 32 := Scf.iv c0_i32_882 c1_i32_883 k0_t1
  let c8_i32_1199 : BitVec 32 := 8#32
  let v1791 : BitVec 32 := Scalar.muli arg12 c8_i32_1199
  let v1792 : Index := Scalar.indexCast v1791
  let c128_1201 : Index := 128#32
  ![7, v1792.toNat, 128]
def k0_off52 (k0_t1 : Fin k0_t1_loop.trips) : Fin 3 → Nat :=
  let c16_1215 : Index := 16#32
  let c0_i32_882 : BitVec 32 := 0#32
  let c1_i32_883 : BitVec 32 := 1#32
  let arg12 : BitVec 32 := Scf.iv c0_i32_882 c1_i32_883 k0_t1
  let c8_i32_1214 : BitVec 32 := 8#32
  let v1827 : BitVec 32 := Scalar.muli arg12 c8_i32_1214
  let v1828 : Index := Scalar.indexCast v1827
  let c0_1216 : Index := 0#32
  ![16, v1828.toNat, 0]
def k0_off53 (k0_t1 : Fin k0_t1_loop.trips) : Fin 3 → Nat :=
  let c16_1222 : Index := 16#32
  let c0_i32_882 : BitVec 32 := 0#32
  let c1_i32_883 : BitVec 32 := 1#32
  let arg12 : BitVec 32 := Scf.iv c0_i32_882 c1_i32_883 k0_t1
  let c8_i32_1221 : BitVec 32 := 8#32
  let v1843 : BitVec 32 := Scalar.muli arg12 c8_i32_1221
  let v1844 : Index := Scalar.indexCast v1843
  let c128_1223 : Index := 128#32
  ![16, v1844.toNat, 128]
def k0_off54 (k0_t1 : Fin k0_t1_loop.trips) : Fin 3 → Nat :=
  let c17_1229 : Index := 17#32
  let c0_i32_882 : BitVec 32 := 0#32
  let c1_i32_883 : BitVec 32 := 1#32
  let arg12 : BitVec 32 := Scf.iv c0_i32_882 c1_i32_883 k0_t1
  let c8_i32_1228 : BitVec 32 := 8#32
  let v1859 : BitVec 32 := Scalar.muli arg12 c8_i32_1228
  let v1860 : Index := Scalar.indexCast v1859
  let c0_1230 : Index := 0#32
  ![17, v1860.toNat, 0]
def k0_off55 (k0_t1 : Fin k0_t1_loop.trips) : Fin 3 → Nat :=
  let c17_1236 : Index := 17#32
  let c0_i32_882 : BitVec 32 := 0#32
  let c1_i32_883 : BitVec 32 := 1#32
  let arg12 : BitVec 32 := Scf.iv c0_i32_882 c1_i32_883 k0_t1
  let c8_i32_1235 : BitVec 32 := 8#32
  let v1875 : BitVec 32 := Scalar.muli arg12 c8_i32_1235
  let v1876 : Index := Scalar.indexCast v1875
  let c128_1237 : Index := 128#32
  ![17, v1876.toNat, 128]
def k0_off56 (k0_t1 : Fin k0_t1_loop.trips) : Fin 3 → Nat :=
  let c18_1243 : Index := 18#32
  let c0_i32_882 : BitVec 32 := 0#32
  let c1_i32_883 : BitVec 32 := 1#32
  let arg12 : BitVec 32 := Scf.iv c0_i32_882 c1_i32_883 k0_t1
  let c8_i32_1242 : BitVec 32 := 8#32
  let v1891 : BitVec 32 := Scalar.muli arg12 c8_i32_1242
  let v1892 : Index := Scalar.indexCast v1891
  let c0_1244 : Index := 0#32
  ![18, v1892.toNat, 0]
def k0_off57 (k0_t1 : Fin k0_t1_loop.trips) : Fin 3 → Nat :=
  let c18_1250 : Index := 18#32
  let c0_i32_882 : BitVec 32 := 0#32
  let c1_i32_883 : BitVec 32 := 1#32
  let arg12 : BitVec 32 := Scf.iv c0_i32_882 c1_i32_883 k0_t1
  let c8_i32_1249 : BitVec 32 := 8#32
  let v1907 : BitVec 32 := Scalar.muli arg12 c8_i32_1249
  let v1908 : Index := Scalar.indexCast v1907
  let c128_1251 : Index := 128#32
  ![18, v1908.toNat, 128]
def k0_off58 (k0_t1 : Fin k0_t1_loop.trips) : Fin 3 → Nat :=
  let c19_1257 : Index := 19#32
  let c0_i32_882 : BitVec 32 := 0#32
  let c1_i32_883 : BitVec 32 := 1#32
  let arg12 : BitVec 32 := Scf.iv c0_i32_882 c1_i32_883 k0_t1
  let c8_i32_1256 : BitVec 32 := 8#32
  let v1923 : BitVec 32 := Scalar.muli arg12 c8_i32_1256
  let v1924 : Index := Scalar.indexCast v1923
  let c0_1258 : Index := 0#32
  ![19, v1924.toNat, 0]
def k0_off59 (k0_t1 : Fin k0_t1_loop.trips) : Fin 3 → Nat :=
  let c19_1264 : Index := 19#32
  let c0_i32_882 : BitVec 32 := 0#32
  let c1_i32_883 : BitVec 32 := 1#32
  let arg12 : BitVec 32 := Scf.iv c0_i32_882 c1_i32_883 k0_t1
  let c8_i32_1263 : BitVec 32 := 8#32
  let v1939 : BitVec 32 := Scalar.muli arg12 c8_i32_1263
  let v1940 : Index := Scalar.indexCast v1939
  let c128_1265 : Index := 128#32
  ![19, v1940.toNat, 128]
def k0_off60 (k0_t1 : Fin k0_t1_loop.trips) : Fin 5 → Nat :=
  let c1_1266 : Index := 1#32
  let c1_1267 : Index := 1#32
  let c0_i32_882 : BitVec 32 := 0#32
  let c1_i32_883 : BitVec 32 := 1#32
  let arg12 : BitVec 32 := Scf.iv c0_i32_882 c1_i32_883 k0_t1
  let c16_i32 : BitVec 32 := 16#32
  let v1051 : BitVec 32 := Scalar.muli arg12 c16_i32
  let v1944 : Index := Scalar.indexCast v1051
  let c0_1268 : Index := 0#32
  let c0_1269 : Index := 0#32
  ![1, 1, v1944.toNat, 0, 0]
def k0_off61 (k0_t1 : Fin k0_t1_loop.trips) : Fin 3 → Nat :=
  let c28_1279 : Index := 28#32
  let c0_i32_882 : BitVec 32 := 0#32
  let c1_i32_883 : BitVec 32 := 1#32
  let arg12 : BitVec 32 := Scf.iv c0_i32_882 c1_i32_883 k0_t1
  let c8_i32_1278 : BitVec 32 := 8#32
  let v1975 : BitVec 32 := Scalar.muli arg12 c8_i32_1278
  let v1976 : Index := Scalar.indexCast v1975
  let c0_1280 : Index := 0#32
  ![28, v1976.toNat, 0]
def k0_off62 (k0_t1 : Fin k0_t1_loop.trips) : Fin 3 → Nat :=
  let c28_1286 : Index := 28#32
  let c0_i32_882 : BitVec 32 := 0#32
  let c1_i32_883 : BitVec 32 := 1#32
  let arg12 : BitVec 32 := Scf.iv c0_i32_882 c1_i32_883 k0_t1
  let c8_i32_1285 : BitVec 32 := 8#32
  let v1991 : BitVec 32 := Scalar.muli arg12 c8_i32_1285
  let v1992 : Index := Scalar.indexCast v1991
  let c128_1287 : Index := 128#32
  ![28, v1992.toNat, 128]
def k0_off63 (k0_t1 : Fin k0_t1_loop.trips) : Fin 3 → Nat :=
  let c29_1293 : Index := 29#32
  let c0_i32_882 : BitVec 32 := 0#32
  let c1_i32_883 : BitVec 32 := 1#32
  let arg12 : BitVec 32 := Scf.iv c0_i32_882 c1_i32_883 k0_t1
  let c8_i32_1292 : BitVec 32 := 8#32
  let v2007 : BitVec 32 := Scalar.muli arg12 c8_i32_1292
  let v2008 : Index := Scalar.indexCast v2007
  let c0_1294 : Index := 0#32
  ![29, v2008.toNat, 0]
def k0_off64 (k0_t1 : Fin k0_t1_loop.trips) : Fin 3 → Nat :=
  let c29_1300 : Index := 29#32
  let c0_i32_882 : BitVec 32 := 0#32
  let c1_i32_883 : BitVec 32 := 1#32
  let arg12 : BitVec 32 := Scf.iv c0_i32_882 c1_i32_883 k0_t1
  let c8_i32_1299 : BitVec 32 := 8#32
  let v2023 : BitVec 32 := Scalar.muli arg12 c8_i32_1299
  let v2024 : Index := Scalar.indexCast v2023
  let c128_1301 : Index := 128#32
  ![29, v2024.toNat, 128]
def k0_off65 (k0_t1 : Fin k0_t1_loop.trips) : Fin 3 → Nat :=
  let c30_1307 : Index := 30#32
  let c0_i32_882 : BitVec 32 := 0#32
  let c1_i32_883 : BitVec 32 := 1#32
  let arg12 : BitVec 32 := Scf.iv c0_i32_882 c1_i32_883 k0_t1
  let c8_i32_1306 : BitVec 32 := 8#32
  let v2039 : BitVec 32 := Scalar.muli arg12 c8_i32_1306
  let v2040 : Index := Scalar.indexCast v2039
  let c0_1308 : Index := 0#32
  ![30, v2040.toNat, 0]
def k0_off66 (k0_t1 : Fin k0_t1_loop.trips) : Fin 3 → Nat :=
  let c30_1314 : Index := 30#32
  let c0_i32_882 : BitVec 32 := 0#32
  let c1_i32_883 : BitVec 32 := 1#32
  let arg12 : BitVec 32 := Scf.iv c0_i32_882 c1_i32_883 k0_t1
  let c8_i32_1313 : BitVec 32 := 8#32
  let v2055 : BitVec 32 := Scalar.muli arg12 c8_i32_1313
  let v2056 : Index := Scalar.indexCast v2055
  let c128_1315 : Index := 128#32
  ![30, v2056.toNat, 128]
def k0_off67 (k0_t1 : Fin k0_t1_loop.trips) : Fin 3 → Nat :=
  let c31_1321 : Index := 31#32
  let c0_i32_882 : BitVec 32 := 0#32
  let c1_i32_883 : BitVec 32 := 1#32
  let arg12 : BitVec 32 := Scf.iv c0_i32_882 c1_i32_883 k0_t1
  let c8_i32_1320 : BitVec 32 := 8#32
  let v2071 : BitVec 32 := Scalar.muli arg12 c8_i32_1320
  let v2072 : Index := Scalar.indexCast v2071
  let c0_1322 : Index := 0#32
  ![31, v2072.toNat, 0]
def k0_off68 (k0_t1 : Fin k0_t1_loop.trips) : Fin 3 → Nat :=
  let c31_1328 : Index := 31#32
  let c0_i32_882 : BitVec 32 := 0#32
  let c1_i32_883 : BitVec 32 := 1#32
  let arg12 : BitVec 32 := Scf.iv c0_i32_882 c1_i32_883 k0_t1
  let c8_i32_1327 : BitVec 32 := 8#32
  let v2087 : BitVec 32 := Scalar.muli arg12 c8_i32_1327
  let v2088 : Index := Scalar.indexCast v2087
  let c128_1329 : Index := 128#32
  ![31, v2088.toNat, 128]
def k0_off69 (k0_t1 : Fin k0_t1_loop.trips) : Fin 3 → Nat :=
  let c40_1343 : Index := 40#32
  let c0_i32_882 : BitVec 32 := 0#32
  let c1_i32_883 : BitVec 32 := 1#32
  let arg12 : BitVec 32 := Scf.iv c0_i32_882 c1_i32_883 k0_t1
  let c8_i32_1342 : BitVec 32 := 8#32
  let v2123 : BitVec 32 := Scalar.muli arg12 c8_i32_1342
  let v2124 : Index := Scalar.indexCast v2123
  let c0_1344 : Index := 0#32
  ![40, v2124.toNat, 0]
def k0_off70 (k0_t1 : Fin k0_t1_loop.trips) : Fin 3 → Nat :=
  let c40_1350 : Index := 40#32
  let c0_i32_882 : BitVec 32 := 0#32
  let c1_i32_883 : BitVec 32 := 1#32
  let arg12 : BitVec 32 := Scf.iv c0_i32_882 c1_i32_883 k0_t1
  let c8_i32_1349 : BitVec 32 := 8#32
  let v2139 : BitVec 32 := Scalar.muli arg12 c8_i32_1349
  let v2140 : Index := Scalar.indexCast v2139
  let c128_1351 : Index := 128#32
  ![40, v2140.toNat, 128]
def k0_off71 (k0_t1 : Fin k0_t1_loop.trips) : Fin 3 → Nat :=
  let c41_1357 : Index := 41#32
  let c0_i32_882 : BitVec 32 := 0#32
  let c1_i32_883 : BitVec 32 := 1#32
  let arg12 : BitVec 32 := Scf.iv c0_i32_882 c1_i32_883 k0_t1
  let c8_i32_1356 : BitVec 32 := 8#32
  let v2155 : BitVec 32 := Scalar.muli arg12 c8_i32_1356
  let v2156 : Index := Scalar.indexCast v2155
  let c0_1358 : Index := 0#32
  ![41, v2156.toNat, 0]
def k0_off72 (k0_t1 : Fin k0_t1_loop.trips) : Fin 3 → Nat :=
  let c41_1364 : Index := 41#32
  let c0_i32_882 : BitVec 32 := 0#32
  let c1_i32_883 : BitVec 32 := 1#32
  let arg12 : BitVec 32 := Scf.iv c0_i32_882 c1_i32_883 k0_t1
  let c8_i32_1363 : BitVec 32 := 8#32
  let v2171 : BitVec 32 := Scalar.muli arg12 c8_i32_1363
  let v2172 : Index := Scalar.indexCast v2171
  let c128_1365 : Index := 128#32
  ![41, v2172.toNat, 128]
def k0_off73 (k0_t1 : Fin k0_t1_loop.trips) : Fin 3 → Nat :=
  let c42_1371 : Index := 42#32
  let c0_i32_882 : BitVec 32 := 0#32
  let c1_i32_883 : BitVec 32 := 1#32
  let arg12 : BitVec 32 := Scf.iv c0_i32_882 c1_i32_883 k0_t1
  let c8_i32_1370 : BitVec 32 := 8#32
  let v2187 : BitVec 32 := Scalar.muli arg12 c8_i32_1370
  let v2188 : Index := Scalar.indexCast v2187
  let c0_1372 : Index := 0#32
  ![42, v2188.toNat, 0]
def k0_off74 (k0_t1 : Fin k0_t1_loop.trips) : Fin 3 → Nat :=
  let c42_1378 : Index := 42#32
  let c0_i32_882 : BitVec 32 := 0#32
  let c1_i32_883 : BitVec 32 := 1#32
  let arg12 : BitVec 32 := Scf.iv c0_i32_882 c1_i32_883 k0_t1
  let c8_i32_1377 : BitVec 32 := 8#32
  let v2203 : BitVec 32 := Scalar.muli arg12 c8_i32_1377
  let v2204 : Index := Scalar.indexCast v2203
  let c128_1379 : Index := 128#32
  ![42, v2204.toNat, 128]
def k0_off75 (k0_t1 : Fin k0_t1_loop.trips) : Fin 3 → Nat :=
  let c43_1385 : Index := 43#32
  let c0_i32_882 : BitVec 32 := 0#32
  let c1_i32_883 : BitVec 32 := 1#32
  let arg12 : BitVec 32 := Scf.iv c0_i32_882 c1_i32_883 k0_t1
  let c8_i32_1384 : BitVec 32 := 8#32
  let v2219 : BitVec 32 := Scalar.muli arg12 c8_i32_1384
  let v2220 : Index := Scalar.indexCast v2219
  let c0_1386 : Index := 0#32
  ![43, v2220.toNat, 0]
def k0_off76 (k0_t1 : Fin k0_t1_loop.trips) : Fin 3 → Nat :=
  let c43_1392 : Index := 43#32
  let c0_i32_882 : BitVec 32 := 0#32
  let c1_i32_883 : BitVec 32 := 1#32
  let arg12 : BitVec 32 := Scf.iv c0_i32_882 c1_i32_883 k0_t1
  let c8_i32_1391 : BitVec 32 := 8#32
  let v2235 : BitVec 32 := Scalar.muli arg12 c8_i32_1391
  let v2236 : Index := Scalar.indexCast v2235
  let c128_1393 : Index := 128#32
  ![43, v2236.toNat, 128]
def k0_off77 (k0_t1 : Fin k0_t1_loop.trips) : Fin 2 → Nat :=
  let c0_i32_882 : BitVec 32 := 0#32
  let c1_i32_883 : BitVec 32 := 1#32
  let arg12 : BitVec 32 := Scf.iv c0_i32_882 c1_i32_883 k0_t1
  let c16_i32 : BitVec 32 := 16#32
  let v1051 : BitVec 32 := Scalar.muli arg12 c16_i32
  let v2240 : Index := Scalar.indexCast v1051
  let c256_1394 : Index := 256#32
  ![v2240.toNat, 256]
def k0_off78 (k0_t1 : Fin k0_t1_loop.trips) : Fin 5 → Nat :=
  let c0_1395 : Index := 0#32
  let c2_1396 : Index := 2#32
  let c0_i32_882 : BitVec 32 := 0#32
  let c1_i32_883 : BitVec 32 := 1#32
  let arg12 : BitVec 32 := Scf.iv c0_i32_882 c1_i32_883 k0_t1
  let c16_i32 : BitVec 32 := 16#32
  let v1051 : BitVec 32 := Scalar.muli arg12 c16_i32
  let v2242 : Index := Scalar.indexCast v1051
  let c0_1397 : Index := 0#32
  let c0_1398 : Index := 0#32
  ![0, 2, v2242.toNat, 0, 0]
def k0_off79 (k0_t1 : Fin k0_t1_loop.trips) : Fin 3 → Nat :=
  let c8_1408 : Index := 8#32
  let c0_i32_882 : BitVec 32 := 0#32
  let c1_i32_883 : BitVec 32 := 1#32
  let arg12 : BitVec 32 := Scf.iv c0_i32_882 c1_i32_883 k0_t1
  let c8_i32_1407 : BitVec 32 := 8#32
  let v2273 : BitVec 32 := Scalar.muli arg12 c8_i32_1407
  let v2274 : Index := Scalar.indexCast v2273
  let c0_1409 : Index := 0#32
  ![8, v2274.toNat, 0]
def k0_off80 (k0_t1 : Fin k0_t1_loop.trips) : Fin 3 → Nat :=
  let c8_1415 : Index := 8#32
  let c0_i32_882 : BitVec 32 := 0#32
  let c1_i32_883 : BitVec 32 := 1#32
  let arg12 : BitVec 32 := Scf.iv c0_i32_882 c1_i32_883 k0_t1
  let c8_i32_1414 : BitVec 32 := 8#32
  let v2289 : BitVec 32 := Scalar.muli arg12 c8_i32_1414
  let v2290 : Index := Scalar.indexCast v2289
  let c128_1416 : Index := 128#32
  ![8, v2290.toNat, 128]
def k0_off81 (k0_t1 : Fin k0_t1_loop.trips) : Fin 3 → Nat :=
  let c9_1422 : Index := 9#32
  let c0_i32_882 : BitVec 32 := 0#32
  let c1_i32_883 : BitVec 32 := 1#32
  let arg12 : BitVec 32 := Scf.iv c0_i32_882 c1_i32_883 k0_t1
  let c8_i32_1421 : BitVec 32 := 8#32
  let v2305 : BitVec 32 := Scalar.muli arg12 c8_i32_1421
  let v2306 : Index := Scalar.indexCast v2305
  let c0_1423 : Index := 0#32
  ![9, v2306.toNat, 0]
def k0_off82 (k0_t1 : Fin k0_t1_loop.trips) : Fin 3 → Nat :=
  let c9_1429 : Index := 9#32
  let c0_i32_882 : BitVec 32 := 0#32
  let c1_i32_883 : BitVec 32 := 1#32
  let arg12 : BitVec 32 := Scf.iv c0_i32_882 c1_i32_883 k0_t1
  let c8_i32_1428 : BitVec 32 := 8#32
  let v2321 : BitVec 32 := Scalar.muli arg12 c8_i32_1428
  let v2322 : Index := Scalar.indexCast v2321
  let c128_1430 : Index := 128#32
  ![9, v2322.toNat, 128]
def k0_off83 (k0_t1 : Fin k0_t1_loop.trips) : Fin 3 → Nat :=
  let c10_1436 : Index := 10#32
  let c0_i32_882 : BitVec 32 := 0#32
  let c1_i32_883 : BitVec 32 := 1#32
  let arg12 : BitVec 32 := Scf.iv c0_i32_882 c1_i32_883 k0_t1
  let c8_i32_1435 : BitVec 32 := 8#32
  let v2337 : BitVec 32 := Scalar.muli arg12 c8_i32_1435
  let v2338 : Index := Scalar.indexCast v2337
  let c0_1437 : Index := 0#32
  ![10, v2338.toNat, 0]
def k0_off84 (k0_t1 : Fin k0_t1_loop.trips) : Fin 3 → Nat :=
  let c10_1443 : Index := 10#32
  let c0_i32_882 : BitVec 32 := 0#32
  let c1_i32_883 : BitVec 32 := 1#32
  let arg12 : BitVec 32 := Scf.iv c0_i32_882 c1_i32_883 k0_t1
  let c8_i32_1442 : BitVec 32 := 8#32
  let v2353 : BitVec 32 := Scalar.muli arg12 c8_i32_1442
  let v2354 : Index := Scalar.indexCast v2353
  let c128_1444 : Index := 128#32
  ![10, v2354.toNat, 128]
def k0_off85 (k0_t1 : Fin k0_t1_loop.trips) : Fin 3 → Nat :=
  let c11_1450 : Index := 11#32
  let c0_i32_882 : BitVec 32 := 0#32
  let c1_i32_883 : BitVec 32 := 1#32
  let arg12 : BitVec 32 := Scf.iv c0_i32_882 c1_i32_883 k0_t1
  let c8_i32_1449 : BitVec 32 := 8#32
  let v2369 : BitVec 32 := Scalar.muli arg12 c8_i32_1449
  let v2370 : Index := Scalar.indexCast v2369
  let c0_1451 : Index := 0#32
  ![11, v2370.toNat, 0]
def k0_off86 (k0_t1 : Fin k0_t1_loop.trips) : Fin 3 → Nat :=
  let c11_1457 : Index := 11#32
  let c0_i32_882 : BitVec 32 := 0#32
  let c1_i32_883 : BitVec 32 := 1#32
  let arg12 : BitVec 32 := Scf.iv c0_i32_882 c1_i32_883 k0_t1
  let c8_i32_1456 : BitVec 32 := 8#32
  let v2385 : BitVec 32 := Scalar.muli arg12 c8_i32_1456
  let v2386 : Index := Scalar.indexCast v2385
  let c128_1458 : Index := 128#32
  ![11, v2386.toNat, 128]
def k0_off87 (k0_t1 : Fin k0_t1_loop.trips) : Fin 3 → Nat :=
  let c20_1472 : Index := 20#32
  let c0_i32_882 : BitVec 32 := 0#32
  let c1_i32_883 : BitVec 32 := 1#32
  let arg12 : BitVec 32 := Scf.iv c0_i32_882 c1_i32_883 k0_t1
  let c8_i32_1471 : BitVec 32 := 8#32
  let v2421 : BitVec 32 := Scalar.muli arg12 c8_i32_1471
  let v2422 : Index := Scalar.indexCast v2421
  let c0_1473 : Index := 0#32
  ![20, v2422.toNat, 0]
def k0_off88 (k0_t1 : Fin k0_t1_loop.trips) : Fin 3 → Nat :=
  let c20_1479 : Index := 20#32
  let c0_i32_882 : BitVec 32 := 0#32
  let c1_i32_883 : BitVec 32 := 1#32
  let arg12 : BitVec 32 := Scf.iv c0_i32_882 c1_i32_883 k0_t1
  let c8_i32_1478 : BitVec 32 := 8#32
  let v2437 : BitVec 32 := Scalar.muli arg12 c8_i32_1478
  let v2438 : Index := Scalar.indexCast v2437
  let c128_1480 : Index := 128#32
  ![20, v2438.toNat, 128]
def k0_off89 (k0_t1 : Fin k0_t1_loop.trips) : Fin 3 → Nat :=
  let c21_1486 : Index := 21#32
  let c0_i32_882 : BitVec 32 := 0#32
  let c1_i32_883 : BitVec 32 := 1#32
  let arg12 : BitVec 32 := Scf.iv c0_i32_882 c1_i32_883 k0_t1
  let c8_i32_1485 : BitVec 32 := 8#32
  let v2453 : BitVec 32 := Scalar.muli arg12 c8_i32_1485
  let v2454 : Index := Scalar.indexCast v2453
  let c0_1487 : Index := 0#32
  ![21, v2454.toNat, 0]
def k0_off90 (k0_t1 : Fin k0_t1_loop.trips) : Fin 3 → Nat :=
  let c21_1493 : Index := 21#32
  let c0_i32_882 : BitVec 32 := 0#32
  let c1_i32_883 : BitVec 32 := 1#32
  let arg12 : BitVec 32 := Scf.iv c0_i32_882 c1_i32_883 k0_t1
  let c8_i32_1492 : BitVec 32 := 8#32
  let v2469 : BitVec 32 := Scalar.muli arg12 c8_i32_1492
  let v2470 : Index := Scalar.indexCast v2469
  let c128_1494 : Index := 128#32
  ![21, v2470.toNat, 128]
def k0_off91 (k0_t1 : Fin k0_t1_loop.trips) : Fin 3 → Nat :=
  let c22_1500 : Index := 22#32
  let c0_i32_882 : BitVec 32 := 0#32
  let c1_i32_883 : BitVec 32 := 1#32
  let arg12 : BitVec 32 := Scf.iv c0_i32_882 c1_i32_883 k0_t1
  let c8_i32_1499 : BitVec 32 := 8#32
  let v2485 : BitVec 32 := Scalar.muli arg12 c8_i32_1499
  let v2486 : Index := Scalar.indexCast v2485
  let c0_1501 : Index := 0#32
  ![22, v2486.toNat, 0]
def k0_off92 (k0_t1 : Fin k0_t1_loop.trips) : Fin 3 → Nat :=
  let c22_1507 : Index := 22#32
  let c0_i32_882 : BitVec 32 := 0#32
  let c1_i32_883 : BitVec 32 := 1#32
  let arg12 : BitVec 32 := Scf.iv c0_i32_882 c1_i32_883 k0_t1
  let c8_i32_1506 : BitVec 32 := 8#32
  let v2501 : BitVec 32 := Scalar.muli arg12 c8_i32_1506
  let v2502 : Index := Scalar.indexCast v2501
  let c128_1508 : Index := 128#32
  ![22, v2502.toNat, 128]
def k0_off93 (k0_t1 : Fin k0_t1_loop.trips) : Fin 3 → Nat :=
  let c23_1514 : Index := 23#32
  let c0_i32_882 : BitVec 32 := 0#32
  let c1_i32_883 : BitVec 32 := 1#32
  let arg12 : BitVec 32 := Scf.iv c0_i32_882 c1_i32_883 k0_t1
  let c8_i32_1513 : BitVec 32 := 8#32
  let v2517 : BitVec 32 := Scalar.muli arg12 c8_i32_1513
  let v2518 : Index := Scalar.indexCast v2517
  let c0_1515 : Index := 0#32
  ![23, v2518.toNat, 0]
def k0_off94 (k0_t1 : Fin k0_t1_loop.trips) : Fin 3 → Nat :=
  let c23_1521 : Index := 23#32
  let c0_i32_882 : BitVec 32 := 0#32
  let c1_i32_883 : BitVec 32 := 1#32
  let arg12 : BitVec 32 := Scf.iv c0_i32_882 c1_i32_883 k0_t1
  let c8_i32_1520 : BitVec 32 := 8#32
  let v2533 : BitVec 32 := Scalar.muli arg12 c8_i32_1520
  let v2534 : Index := Scalar.indexCast v2533
  let c128_1522 : Index := 128#32
  ![23, v2534.toNat, 128]
def k0_off95 (k0_t1 : Fin k0_t1_loop.trips) : Fin 5 → Nat :=
  let c1_1523 : Index := 1#32
  let c2_1524 : Index := 2#32
  let c0_i32_882 : BitVec 32 := 0#32
  let c1_i32_883 : BitVec 32 := 1#32
  let arg12 : BitVec 32 := Scf.iv c0_i32_882 c1_i32_883 k0_t1
  let c16_i32 : BitVec 32 := 16#32
  let v1051 : BitVec 32 := Scalar.muli arg12 c16_i32
  let v2538 : Index := Scalar.indexCast v1051
  let c0_1525 : Index := 0#32
  let c0_1526 : Index := 0#32
  ![1, 2, v2538.toNat, 0, 0]
def k0_off96 (k0_t1 : Fin k0_t1_loop.trips) : Fin 3 → Nat :=
  let c32_1536 : Index := 32#32
  let c0_i32_882 : BitVec 32 := 0#32
  let c1_i32_883 : BitVec 32 := 1#32
  let arg12 : BitVec 32 := Scf.iv c0_i32_882 c1_i32_883 k0_t1
  let c8_i32_1535 : BitVec 32 := 8#32
  let v2569 : BitVec 32 := Scalar.muli arg12 c8_i32_1535
  let v2570 : Index := Scalar.indexCast v2569
  let c0_1537 : Index := 0#32
  ![32, v2570.toNat, 0]
def k0_off97 (k0_t1 : Fin k0_t1_loop.trips) : Fin 3 → Nat :=
  let c32_1543 : Index := 32#32
  let c0_i32_882 : BitVec 32 := 0#32
  let c1_i32_883 : BitVec 32 := 1#32
  let arg12 : BitVec 32 := Scf.iv c0_i32_882 c1_i32_883 k0_t1
  let c8_i32_1542 : BitVec 32 := 8#32
  let v2585 : BitVec 32 := Scalar.muli arg12 c8_i32_1542
  let v2586 : Index := Scalar.indexCast v2585
  let c128_1544 : Index := 128#32
  ![32, v2586.toNat, 128]
def k0_off98 (k0_t1 : Fin k0_t1_loop.trips) : Fin 3 → Nat :=
  let c33_1550 : Index := 33#32
  let c0_i32_882 : BitVec 32 := 0#32
  let c1_i32_883 : BitVec 32 := 1#32
  let arg12 : BitVec 32 := Scf.iv c0_i32_882 c1_i32_883 k0_t1
  let c8_i32_1549 : BitVec 32 := 8#32
  let v2601 : BitVec 32 := Scalar.muli arg12 c8_i32_1549
  let v2602 : Index := Scalar.indexCast v2601
  let c0_1551 : Index := 0#32
  ![33, v2602.toNat, 0]
def k0_off99 (k0_t1 : Fin k0_t1_loop.trips) : Fin 3 → Nat :=
  let c33_1557 : Index := 33#32
  let c0_i32_882 : BitVec 32 := 0#32
  let c1_i32_883 : BitVec 32 := 1#32
  let arg12 : BitVec 32 := Scf.iv c0_i32_882 c1_i32_883 k0_t1
  let c8_i32_1556 : BitVec 32 := 8#32
  let v2617 : BitVec 32 := Scalar.muli arg12 c8_i32_1556
  let v2618 : Index := Scalar.indexCast v2617
  let c128_1558 : Index := 128#32
  ![33, v2618.toNat, 128]
def k0_off100 (k0_t1 : Fin k0_t1_loop.trips) : Fin 3 → Nat :=
  let c34_1564 : Index := 34#32
  let c0_i32_882 : BitVec 32 := 0#32
  let c1_i32_883 : BitVec 32 := 1#32
  let arg12 : BitVec 32 := Scf.iv c0_i32_882 c1_i32_883 k0_t1
  let c8_i32_1563 : BitVec 32 := 8#32
  let v2633 : BitVec 32 := Scalar.muli arg12 c8_i32_1563
  let v2634 : Index := Scalar.indexCast v2633
  let c0_1565 : Index := 0#32
  ![34, v2634.toNat, 0]
def k0_off101 (k0_t1 : Fin k0_t1_loop.trips) : Fin 3 → Nat :=
  let c34_1571 : Index := 34#32
  let c0_i32_882 : BitVec 32 := 0#32
  let c1_i32_883 : BitVec 32 := 1#32
  let arg12 : BitVec 32 := Scf.iv c0_i32_882 c1_i32_883 k0_t1
  let c8_i32_1570 : BitVec 32 := 8#32
  let v2649 : BitVec 32 := Scalar.muli arg12 c8_i32_1570
  let v2650 : Index := Scalar.indexCast v2649
  let c128_1572 : Index := 128#32
  ![34, v2650.toNat, 128]
def k0_off102 (k0_t1 : Fin k0_t1_loop.trips) : Fin 3 → Nat :=
  let c35_1578 : Index := 35#32
  let c0_i32_882 : BitVec 32 := 0#32
  let c1_i32_883 : BitVec 32 := 1#32
  let arg12 : BitVec 32 := Scf.iv c0_i32_882 c1_i32_883 k0_t1
  let c8_i32_1577 : BitVec 32 := 8#32
  let v2665 : BitVec 32 := Scalar.muli arg12 c8_i32_1577
  let v2666 : Index := Scalar.indexCast v2665
  let c0_1579 : Index := 0#32
  ![35, v2666.toNat, 0]
def k0_off103 (k0_t1 : Fin k0_t1_loop.trips) : Fin 3 → Nat :=
  let c35_1585 : Index := 35#32
  let c0_i32_882 : BitVec 32 := 0#32
  let c1_i32_883 : BitVec 32 := 1#32
  let arg12 : BitVec 32 := Scf.iv c0_i32_882 c1_i32_883 k0_t1
  let c8_i32_1584 : BitVec 32 := 8#32
  let v2681 : BitVec 32 := Scalar.muli arg12 c8_i32_1584
  let v2682 : Index := Scalar.indexCast v2681
  let c128_1586 : Index := 128#32
  ![35, v2682.toNat, 128]
def k0_off104 (k0_t1 : Fin k0_t1_loop.trips) : Fin 3 → Nat :=
  let c44_1600 : Index := 44#32
  let c0_i32_882 : BitVec 32 := 0#32
  let c1_i32_883 : BitVec 32 := 1#32
  let arg12 : BitVec 32 := Scf.iv c0_i32_882 c1_i32_883 k0_t1
  let c8_i32_1599 : BitVec 32 := 8#32
  let v2717 : BitVec 32 := Scalar.muli arg12 c8_i32_1599
  let v2718 : Index := Scalar.indexCast v2717
  let c0_1601 : Index := 0#32
  ![44, v2718.toNat, 0]
def k0_off105 (k0_t1 : Fin k0_t1_loop.trips) : Fin 3 → Nat :=
  let c44_1607 : Index := 44#32
  let c0_i32_882 : BitVec 32 := 0#32
  let c1_i32_883 : BitVec 32 := 1#32
  let arg12 : BitVec 32 := Scf.iv c0_i32_882 c1_i32_883 k0_t1
  let c8_i32_1606 : BitVec 32 := 8#32
  let v2733 : BitVec 32 := Scalar.muli arg12 c8_i32_1606
  let v2734 : Index := Scalar.indexCast v2733
  let c128_1608 : Index := 128#32
  ![44, v2734.toNat, 128]
def k0_off106 (k0_t1 : Fin k0_t1_loop.trips) : Fin 3 → Nat :=
  let c45_1614 : Index := 45#32
  let c0_i32_882 : BitVec 32 := 0#32
  let c1_i32_883 : BitVec 32 := 1#32
  let arg12 : BitVec 32 := Scf.iv c0_i32_882 c1_i32_883 k0_t1
  let c8_i32_1613 : BitVec 32 := 8#32
  let v2749 : BitVec 32 := Scalar.muli arg12 c8_i32_1613
  let v2750 : Index := Scalar.indexCast v2749
  let c0_1615 : Index := 0#32
  ![45, v2750.toNat, 0]
def k0_off107 (k0_t1 : Fin k0_t1_loop.trips) : Fin 3 → Nat :=
  let c45_1621 : Index := 45#32
  let c0_i32_882 : BitVec 32 := 0#32
  let c1_i32_883 : BitVec 32 := 1#32
  let arg12 : BitVec 32 := Scf.iv c0_i32_882 c1_i32_883 k0_t1
  let c8_i32_1620 : BitVec 32 := 8#32
  let v2765 : BitVec 32 := Scalar.muli arg12 c8_i32_1620
  let v2766 : Index := Scalar.indexCast v2765
  let c128_1622 : Index := 128#32
  ![45, v2766.toNat, 128]
def k0_off108 (k0_t1 : Fin k0_t1_loop.trips) : Fin 3 → Nat :=
  let c46_1628 : Index := 46#32
  let c0_i32_882 : BitVec 32 := 0#32
  let c1_i32_883 : BitVec 32 := 1#32
  let arg12 : BitVec 32 := Scf.iv c0_i32_882 c1_i32_883 k0_t1
  let c8_i32_1627 : BitVec 32 := 8#32
  let v2781 : BitVec 32 := Scalar.muli arg12 c8_i32_1627
  let v2782 : Index := Scalar.indexCast v2781
  let c0_1629 : Index := 0#32
  ![46, v2782.toNat, 0]
def k0_off109 (k0_t1 : Fin k0_t1_loop.trips) : Fin 3 → Nat :=
  let c46_1635 : Index := 46#32
  let c0_i32_882 : BitVec 32 := 0#32
  let c1_i32_883 : BitVec 32 := 1#32
  let arg12 : BitVec 32 := Scf.iv c0_i32_882 c1_i32_883 k0_t1
  let c8_i32_1634 : BitVec 32 := 8#32
  let v2797 : BitVec 32 := Scalar.muli arg12 c8_i32_1634
  let v2798 : Index := Scalar.indexCast v2797
  let c128_1636 : Index := 128#32
  ![46, v2798.toNat, 128]
def k0_off110 (k0_t1 : Fin k0_t1_loop.trips) : Fin 3 → Nat :=
  let c47_1642 : Index := 47#32
  let c0_i32_882 : BitVec 32 := 0#32
  let c1_i32_883 : BitVec 32 := 1#32
  let arg12 : BitVec 32 := Scf.iv c0_i32_882 c1_i32_883 k0_t1
  let c8_i32_1641 : BitVec 32 := 8#32
  let v2813 : BitVec 32 := Scalar.muli arg12 c8_i32_1641
  let v2814 : Index := Scalar.indexCast v2813
  let c0_1643 : Index := 0#32
  ![47, v2814.toNat, 0]
def k0_off111 (k0_t1 : Fin k0_t1_loop.trips) : Fin 3 → Nat :=
  let c47_1649 : Index := 47#32
  let c0_i32_882 : BitVec 32 := 0#32
  let c1_i32_883 : BitVec 32 := 1#32
  let arg12 : BitVec 32 := Scf.iv c0_i32_882 c1_i32_883 k0_t1
  let c8_i32_1648 : BitVec 32 := 8#32
  let v2829 : BitVec 32 := Scalar.muli arg12 c8_i32_1648
  let v2830 : Index := Scalar.indexCast v2829
  let c128_1650 : Index := 128#32
  ![47, v2830.toNat, 128]
def k0_cond3 (i : grid0.Coords) : BitVec 1 :=
  let arg0 : BitVec 32 := BitVec.ofNat 32 (i 0).val
  let c1_i32_885 : BitVec 32 := 1#32
  let v1047 : BitVec 32 := Scalar.addi arg0 c1_i32_885
  let c10_i32 : BitVec 32 := 10#32
  let v1048 : BitVec 1 := Scalar.cmpi .slt v1047 c10_i32
  let v1049 : BitVec 32 := Scalar.extui v1048
  let c0_i32_886 : BitVec 32 := 0#32
  let v1050 : BitVec 1 := Scalar.cmpi .ne v1049 c0_i32_886
  v1050

def k0_off112 (i : grid0.Coords) : Fin 3 → Nat :=
  let arg0 : BitVec 32 := BitVec.ofNat 32 (i 0).val
  let c1_i32_887 : BitVec 32 := 1#32
  let v1051 : BitVec 32 := Scalar.addi arg0 c1_i32_887
  let c1024_i32_888 : BitVec 32 := 1024#32
  let v1052 : BitVec 32 := Scalar.muli v1051 c1024_i32_888
  let c0_i32_899 : BitVec 32 := 0#32
  let c0_i32_900 : BitVec 32 := 0#32
  ![v1052.toNat, 0, 0]
def k0_off113 (i : grid0.Coords) : Fin 3 → Nat :=
  let arg0 : BitVec 32 := BitVec.ofNat 32 (i 0).val
  let c1_i32_887 : BitVec 32 := 1#32
  let v1051 : BitVec 32 := Scalar.addi arg0 c1_i32_887
  let c1024_i32_889 : BitVec 32 := 1024#32
  let v1053 : BitVec 32 := Scalar.muli v1051 c1024_i32_889
  let c0_i32_906 : BitVec 32 := 0#32
  let c128_i32_907 : BitVec 32 := 128#32
  ![v1053.toNat, 0, 128]
def k0_off114 (i : grid0.Coords) : Fin 3 → Nat :=
  let arg0 : BitVec 32 := BitVec.ofNat 32 (i 0).val
  let c1_i32_887 : BitVec 32 := 1#32
  let v1051 : BitVec 32 := Scalar.addi arg0 c1_i32_887
  let c1024_i32_890 : BitVec 32 := 1024#32
  let v1054 : BitVec 32 := Scalar.muli v1051 c1024_i32_890
  let c0_i32_913 : BitVec 32 := 0#32
  let c256_i32_914 : BitVec 32 := 256#32
  ![v1054.toNat, 0, 256]
def k0_off115 (i : grid0.Coords) : Fin 3 → Nat :=
  let arg0 : BitVec 32 := BitVec.ofNat 32 (i 0).val
  let c1_i32_887 : BitVec 32 := 1#32
  let v1051 : BitVec 32 := Scalar.addi arg0 c1_i32_887
  let c1024_i32_891 : BitVec 32 := 1024#32
  let v1055 : BitVec 32 := Scalar.muli v1051 c1024_i32_891
  let c8_i32_920 : BitVec 32 := 8#32
  let c0_i32_921 : BitVec 32 := 0#32
  ![v1055.toNat, 8, 0]
def k0_off116 (i : grid0.Coords) : Fin 3 → Nat :=
  let arg0 : BitVec 32 := BitVec.ofNat 32 (i 0).val
  let c1_i32_887 : BitVec 32 := 1#32
  let v1051 : BitVec 32 := Scalar.addi arg0 c1_i32_887
  let c1024_i32_892 : BitVec 32 := 1024#32
  let v1056 : BitVec 32 := Scalar.muli v1051 c1024_i32_892
  let c8_i32_927 : BitVec 32 := 8#32
  let c128_i32_928 : BitVec 32 := 128#32
  ![v1056.toNat, 8, 128]
def k0_off117 (i : grid0.Coords) : Fin 3 → Nat :=
  let arg0 : BitVec 32 := BitVec.ofNat 32 (i 0).val
  let c1_i32_887 : BitVec 32 := 1#32
  let v1051 : BitVec 32 := Scalar.addi arg0 c1_i32_887
  let c1024_i32_893 : BitVec 32 := 1024#32
  let v1057 : BitVec 32 := Scalar.muli v1051 c1024_i32_893
  let c8_i32_934 : BitVec 32 := 8#32
  let c256_i32_935 : BitVec 32 := 256#32
  ![v1057.toNat, 8, 256]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x48x128x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x8x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
abbrev S24x48x128x256 : Shape := ⟨4, ![24, 48, 128, 256]⟩
abbrev S6144x128 : Shape := ⟨2, ![6144, 128]⟩
abbrev S10240x384x16 : Shape := ⟨3, ![10240, 384, 16]⟩
abbrev S10240x384 : Shape := ⟨2, ![10240, 384]⟩
abbrev S10240x16x384 : Shape := ⟨3, ![10240, 16, 384]⟩
abbrev S6144x80x128 : Shape := ⟨3, ![6144, 80, 128]⟩
abbrev S1x48x128x256 : Shape := ⟨4, ![1, 48, 128, 256]⟩
abbrev S256x128 : Shape := ⟨2, ![256, 128]⟩
abbrev S1024x384 : Shape := ⟨2, ![1024, 384]⟩
abbrev S256x8x128 : Shape := ⟨3, ![256, 8, 128]⟩
abbrev S48x512x256 : Shape := ⟨3, ![48, 512, 256]⟩
abbrev S48x512x2x256 : Shape := ⟨4, ![48, 512, 2, 256]⟩
abbrev S48x512x1x256 : Shape := ⟨4, ![48, 512, 1, 256]⟩
abbrev S2x3x1024x8x128 : Shape := ⟨5, ![2, 3, 1024, 8, 128]⟩
abbrev S_ : Shape := ⟨0, ![]⟩
abbrev S1024x128 : Shape := ⟨2, ![1024, 128]⟩
abbrev S1024x2x128 : Shape := ⟨3, ![1024, 2, 128]⟩
abbrev S1024x1x128 : Shape := ⟨3, ![1024, 1, 128]⟩
abbrev S1x1x1024x8x128 : Shape := ⟨5, ![1, 1, 1024, 8, 128]⟩
abbrev S1024x8x128 : Shape := ⟨3, ![1024, 8, 128]⟩
abbrev S16x128 : Shape := ⟨2, ![16, 128]⟩
abbrev S1x1x16x8x128 : Shape := ⟨5, ![1, 1, 16, 8, 128]⟩
abbrev S16x8x128 : Shape := ⟨3, ![16, 8, 128]⟩
abbrev S128x128 : Shape := ⟨2, ![128, 128]⟩
abbrev S32x128 : Shape := ⟨2, ![32, 128]⟩
abbrev S8x4x128 : Shape := ⟨3, ![8, 4, 128]⟩
abbrev S8x1x128 : Shape := ⟨3, ![8, 1, 128]⟩
abbrev S8x128 : Shape := ⟨2, ![8, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S256x512 : Shape := ⟨2, ![256, 512]⟩
abbrev S1x1x128x256 : Shape := ⟨4, ![1, 1, 128, 256]⟩
abbrev S128x256 : Shape := ⟨2, ![128, 256]⟩
abbrev S256x256 : Shape := ⟨2, ![256, 256]⟩
abbrev S1x256x256 : Shape := ⟨3, ![1, 256, 256]⟩
abbrev S1x256x2x256 : Shape := ⟨4, ![1, 256, 2, 256]⟩
abbrev S1x256x1x256 : Shape := ⟨4, ![1, 256, 1, 256]⟩
abbrev S512x256 : Shape := ⟨2, ![512, 256]⟩
abbrev S256x2x128 : Shape := ⟨3, ![256, 2, 128]⟩
abbrev S256x1x128 : Shape := ⟨3, ![256, 1, 128]⟩
abbrev S2048x128 : Shape := ⟨2, ![2048, 128]⟩

abbrev nBuf : Space → Nat
  | .hbm => 7
  | .vmem => 13
  | .smem => 0
  | _ => 0

abbrev bufTy : (tb : Table) → Fin (tcTables nBuf tb) → BufTy
  | .hbm, ⟨0, _⟩ => ⟨S24x48x128x256, .i32⟩
  | .hbm, ⟨1, _⟩ => ⟨S6144x128, .f32⟩
  | .hbm, ⟨2, _⟩ => ⟨S6144x128, .f32⟩
  | .hbm, ⟨3, _⟩ => ⟨S10240x384x16, .i8⟩
  | .hbm, ⟨4, _⟩ => ⟨S10240x384, .bf16⟩
  | .hbm, ⟨5, _⟩ => ⟨S10240x16x384, .i8⟩
  | .hbm, ⟨6, _⟩ => ⟨S6144x80x128, .bf16⟩
  | .local _ .vmem, ⟨0, _⟩ => ⟨S1x48x128x256, .i32⟩
  | .local _ .vmem, ⟨1, _⟩ => ⟨S1x48x128x256, .i32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1024x384, .bf16⟩
  | .local _ .vmem, ⟨7, _⟩ => ⟨S1024x384, .bf16⟩
  | .local _ .vmem, ⟨8, _⟩ => ⟨S256x8x128, .bf16⟩
  | .local _ .vmem, ⟨9, _⟩ => ⟨S256x8x128, .bf16⟩
  | .local _ .vmem, ⟨10, _⟩ => ⟨S48x512x2x256, .bf16⟩
  | .local _ .vmem, ⟨11, _⟩ => ⟨S2x3x1024x8x128, .i8⟩
  | .local _ .vmem, ⟨12, _⟩ => ⟨S1024x2x128, .bf16⟩
  | _, _ => ⟨S24x48x128x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![10, 24], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg0 : BitVec 32 := BitVec.ofNat 32 (i 0).val
  let c1024_i32 : BitVec 32 := 1024#32
  let v1022 : BitVec 32 := Scalar.muli arg0 c1024_i32
  let c0_i32_848 : BitVec 32 := 0#32
  let c0_i32_849 : BitVec 32 := 0#32
  ![v1022.toNat, 0, 0]
def k0_off2 (i : grid0.Coords) : Fin 3 → Nat :=
  let arg0 : BitVec 32 := BitVec.ofNat 32 (i 0).val
  let c1024_i32_838 : BitVec 32 := 1024#32
  let v1023 : BitVec 32 := Scalar.muli arg0 c1024_i32_838
  let c0_i32_855 : BitVec 32 := 0#32
  let c128_i32 : BitVec 32 := 128#32
  ![v1023.toNat, 0, 128]
def k0_off3 (i : grid0.Coords) : Fin 3 → Nat :=
  let arg0 : BitVec 32 := BitVec.ofNat 32 (i 0).val
  let c1024_i32_839 : BitVec 32 := 1024#32
  let v1024 : BitVec 32 := Scalar.muli arg0 c1024_i32_839
  let c0_i32_861 : BitVec 32 := 0#32
  let c256_i32 : BitVec 32 := 256#32
  ![v1024.toNat, 0, 256]
def k0_off4 (i : grid0.Coords) : Fin 3 → Nat :=
  let arg0 : BitVec 32 := BitVec.ofNat 32 (i 0).val
  let c1024_i32_840 : BitVec 32 := 1024#32
  let v1025 : BitVec 32 := Scalar.muli arg0 c1024_i32_840
  let c8_i32 : BitVec 32 := 8#32
  let c0_i32_867 : BitVec 32 := 0#32
  ![v1025.toNat, 8, 0]
def k0_off5 (i : grid0.Coords) : Fin 3 → Nat :=
  let arg0 : BitVec 32 := BitVec.ofNat 32 (i 0).val
  let c1024_i32_841 : BitVec 32 := 1024#32
  let v1026 : BitVec 32 := Scalar.muli arg0 c1024_i32_841
  let c8_i32_873 : BitVec 32 := 8#32
  let c128_i32_874 : BitVec 32 := 128#32
  ![v1026.toNat, 8, 128]
def k0_off6 (i : grid0.Coords) : Fin 3 → Nat :=
  let arg0 : BitVec 32 := BitVec.ofNat 32 (i 0).val
  let c1024_i32_842 : BitVec 32 := 1024#32
  let v1027 : BitVec 32 := Scalar.muli arg0 c1024_i32_842
  let c8_i32_880 : BitVec 32 := 8#32
  let c256_i32_881 : BitVec 32 := 256#32
  ![v1027.toNat, 8, 256]
@[reducible] def k0_t1_loop : Scf.Loop 32 :=
  let c0_i32_882 : BitVec 32 := 0#32
  let c64_i32 : BitVec 32 := 64#32
  let v1046 : BitVec 32 := Scalar.addi c0_i32_882 c64_i32
  let c1_i32_883 : BitVec 32 := 1#32
  ⟨c0_i32_882, v1046, c1_i32_883⟩
def k0_off7 (k0_t1 : Fin k0_t1_loop.trips) : Fin 2 → Nat :=
  let c0_i32_882 : BitVec 32 := 0#32
  let c1_i32_883 : BitVec 32 := 1#32
  let arg12 : BitVec 32 := Scf.iv c0_i32_882 c1_i32_883 k0_t1
  let c16_i32 : BitVec 32 := 16#32
  let v1051 : BitVec 32 := Scalar.muli arg12 c16_i32
  let v1052 : Index := Scalar.indexCast v1051
  let c0_887 : Index := 0#32
  ![v1052.toNat, 0]
def k0_off8 (k0_t1 : Fin k0_t1_loop.trips) : Fin 5 → Nat :=
  let c0_888 : Index := 0#32
  let c0_889 : Index := 0#32
  let c0_i32_882 : BitVec 32 := 0#32
  let c1_i32_883 : BitVec 32 := 1#32
  let arg12 : BitVec 32 := Scf.iv c0_i32_882 c1_i32_883 k0_t1
  let c16_i32 : BitVec 32 := 16#32
  let v1051 : BitVec 32 := Scalar.muli arg12 c16_i32
  let v1054 : Index := Scalar.indexCast v1051
  let c0_890 : Index := 0#32
  let c0_891 : Index := 0#32
  ![0, 0, v1054.toNat, 0, 0]
def k0_off9 (k0_t1 : Fin k0_t1_loop.trips) : Fin 4 → Nat :=
  let c0_897 : Index := 0#32
  let c0_i32_882 : BitVec 32 := 0#32
  let c1_i32_883 : BitVec 32 := 1#32
  let arg12 : BitVec 32 := Scf.iv c0_i32_882 c1_i32_883 k0_t1
  let c8_i32_896 : BitVec 32 := 8#32
  let v1085 : BitVec 32 := Scalar.muli arg12 c8_i32_896
  let v1086 : Index := Scalar.indexCast v1085
  let c0_898 : Index := 0#32
  ![0, v1086.toNat, 0, 0]
def k0_off10 (k0_t1 : Fin k0_t1_loop.trips) : Fin 4 → Nat :=
  let c0_903 : Index := 0#32
  let c0_i32_882 : BitVec 32 := 0#32
  let c1_i32_883 : BitVec 32 := 1#32
  let arg12 : BitVec 32 := Scf.iv c0_i32_882 c1_i32_883 k0_t1
  let c8_i32_902 : BitVec 32 := 8#32
  let v1101 : BitVec 32 := Scalar.muli arg12 c8_i32_902
  let v1102 : Index := Scalar.indexCast v1101
  let c128 : Index := 128#32
  ![0, v1102.toNat, 0, 128]
def k0_off11 (k0_t1 : Fin k0_t1_loop.trips) : Fin 4 → Nat :=
  let c1_909 : Index := 1#32
  let c0_i32_882 : BitVec 32 := 0#32
  let c1_i32_883 : BitVec 32 := 1#32
  let arg12 : BitVec 32 := Scf.iv c0_i32_882 c1_i32_883 k0_t1
  let c8_i32_908 : BitVec 32 := 8#32
  let v1117 : BitVec 32 := Scalar.muli arg12 c8_i32_908
  let v1118 : Index := Scalar.indexCast v1117
  let c0_910 : Index := 0#32
  ![1, v1118.toNat, 0, 0]
def k0_off12 (k0_t1 : Fin k0_t1_loop.trips) : Fin 4 → Nat :=
  let c1_915 : Index := 1#32
  let c0_i32_882 : BitVec 32 := 0#32
  let c1_i32_883 : BitVec 32 := 1#32
  let arg12 : BitVec 32 := Scf.iv c0_i32_882 c1_i32_883 k0_t1
  let c8_i32_914 : BitVec 32 := 8#32
  let v1133 : BitVec 32 := Scalar.muli arg12 c8_i32_914
  let v1134 : Index := Scalar.indexCast v1133
  let c128_916 : Index := 128#32
  ![1, v1134.toNat, 0, 128]
def k0_off13 (k0_t1 : Fin k0_t1_loop.trips) : Fin 4 → Nat :=
  let c2_922 : Index := 2#32
  let c0_i32_882 : BitVec 32 := 0#32
  let c1_i32_883 : BitVec 32 := 1#32
  let arg12 : BitVec 32 := Scf.iv c0_i32_882 c1_i32_883 k0_t1
  let c8_i32_921 : BitVec 32 := 8#32
  let v1149 : BitVec 32 := Scalar.muli arg12 c8_i32_921
  let v1150 : Index := Scalar.indexCast v1149
  let c0_923 : Index := 0#32
  ![2, v1150.toNat, 0, 0]
def k0_off14 (k0_t1 : Fin k0_t1_loop.trips) : Fin 4 → Nat :=
  let c2_929 : Index := 2#32
  let c0_i32_882 : BitVec 32 := 0#32
  let c1_i32_883 : BitVec 32 := 1#32
  let arg12 : BitVec 32 := Scf.iv c0_i32_882 c1_i32_883 k0_t1
  let c8_i32_928 : BitVec 32 := 8#32
  let v1165 : BitVec 32 := Scalar.muli arg12 c8_i32_928
  let v1166 : Index := Scalar.indexCast v1165
  let c128_930 : Index := 128#32
  ![2, v1166.toNat, 0, 128]
def k0_off15 (k0_t1 : Fin k0_t1_loop.trips) : Fin 4 → Nat :=
  let c3_936 : Index := 3#32
  let c0_i32_882 : BitVec 32 := 0#32
  let c1_i32_883 : BitVec 32 := 1#32
  let arg12 : BitVec 32 := Scf.iv c0_i32_882 c1_i32_883 k0_t1
  let c8_i32_935 : BitVec 32 := 8#32
  let v1181 : BitVec 32 := Scalar.muli arg12 c8_i32_935
  let v1182 : Index := Scalar.indexCast v1181
  let c0_937 : Index := 0#32
  ![3, v1182.toNat, 0, 0]
def k0_off16 (k0_t1 : Fin k0_t1_loop.trips) : Fin 4 → Nat :=
  let c3_943 : Index := 3#32
  let c0_i32_882 : BitVec 32 := 0#32
  let c1_i32_883 : BitVec 32 := 1#32
  let arg12 : BitVec 32 := Scf.iv c0_i32_882 c1_i32_883 k0_t1
  let c8_i32_942 : BitVec 32 := 8#32
  let v1197 : BitVec 32 := Scalar.muli arg12 c8_i32_942
  let v1198 : Index := Scalar.indexCast v1197
  let c128_944 : Index := 128#32
  ![3, v1198.toNat, 0, 128]
def k0_off17 (k0_t1 : Fin k0_t1_loop.trips) : Fin 4 → Nat :=
  let c12_958 : Index := 12#32
  let c0_i32_882 : BitVec 32 := 0#32
  let c1_i32_883 : BitVec 32 := 1#32
  let arg12 : BitVec 32 := Scf.iv c0_i32_882 c1_i32_883 k0_t1
  let c8_i32_957 : BitVec 32 := 8#32
  let v1233 : BitVec 32 := Scalar.muli arg12 c8_i32_957
  let v1234 : Index := Scalar.indexCast v1233
  let c0_959 : Index := 0#32
  ![12, v1234.toNat, 0, 0]
def k0_off18 (k0_t1 : Fin k0_t1_loop.trips) : Fin 4 → Nat :=
  let c12_965 : Index := 12#32
  let c0_i32_882 : BitVec 32 := 0#32
  let c1_i32_883 : BitVec 32 := 1#32
  let arg12 : BitVec 32 := Scf.iv c0_i32_882 c1_i32_883 k0_t1
  let c8_i32_964 : BitVec 32 := 8#32
  let v1249 : BitVec 32 := Scalar.muli arg12 c8_i32_964
  let v1250 : Index := Scalar.indexCast v1249
  let c128_966 : Index := 128#32
  ![12, v1250.toNat, 0, 128]
def k0_off19 (k0_t1 : Fin k0_t1_loop.trips) : Fin 4 → Nat :=
  let c13_972 : Index := 13#32
  let c0_i32_882 : BitVec 32 := 0#32
  let c1_i32_883 : BitVec 32 := 1#32
  let arg12 : BitVec 32 := Scf.iv c0_i32_882 c1_i32_883 k0_t1
  let c8_i32_971 : BitVec 32 := 8#32
  let v1265 : BitVec 32 := Scalar.muli arg12 c8_i32_971
  let v1266 : Index := Scalar.indexCast v1265
  let c0_973 : Index := 0#32
  ![13, v1266.toNat, 0, 0]
def k0_off20 (k0_t1 : Fin k0_t1_loop.trips) : Fin 4 → Nat :=
  let c13_979 : Index := 13#32
  let c0_i32_882 : BitVec 32 := 0#32
  let c1_i32_883 : BitVec 32 := 1#32
  let arg12 : BitVec 32 := Scf.iv c0_i32_882 c1_i32_883 k0_t1
  let c8_i32_978 : BitVec 32 := 8#32
  let v1281 : BitVec 32 := Scalar.muli arg12 c8_i32_978
  let v1282 : Index := Scalar.indexCast v1281
  let c128_980 : Index := 128#32
  ![13, v1282.toNat, 0, 128]
def k0_off21 (k0_t1 : Fin k0_t1_loop.trips) : Fin 4 → Nat :=
  let c14_986 : Index := 14#32
  let c0_i32_882 : BitVec 32 := 0#32
  let c1_i32_883 : BitVec 32 := 1#32
  let arg12 : BitVec 32 := Scf.iv c0_i32_882 c1_i32_883 k0_t1
  let c8_i32_985 : BitVec 32 := 8#32
  let v1297 : BitVec 32 := Scalar.muli arg12 c8_i32_985
  let v1298 : Index := Scalar.indexCast v1297
  let c0_987 : Index := 0#32
  ![14, v1298.toNat, 0, 0]
def k0_off22 (k0_t1 : Fin k0_t1_loop.trips) : Fin 4 → Nat :=
  let c14_993 : Index := 14#32
  let c0_i32_882 : BitVec 32 := 0#32
  let c1_i32_883 : BitVec 32 := 1#32
  let arg12 : BitVec 32 := Scf.iv c0_i32_882 c1_i32_883 k0_t1
  let c8_i32_992 : BitVec 32 := 8#32
  let v1313 : BitVec 32 := Scalar.muli arg12 c8_i32_992
  let v1314 : Index := Scalar.indexCast v1313
  let c128_994 : Index := 128#32
  ![14, v1314.toNat, 0, 128]
def k0_off23 (k0_t1 : Fin k0_t1_loop.trips) : Fin 4 → Nat :=
  let c15_1000 : Index := 15#32
  let c0_i32_882 : BitVec 32 := 0#32
  let c1_i32_883 : BitVec 32 := 1#32
  let arg12 : BitVec 32 := Scf.iv c0_i32_882 c1_i32_883 k0_t1
  let c8_i32_999 : BitVec 32 := 8#32
  let v1329 : BitVec 32 := Scalar.muli arg12 c8_i32_999
  let v1330 : Index := Scalar.indexCast v1329
  let c0_1001 : Index := 0#32
  ![15, v1330.toNat, 0, 0]
def k0_off24 (k0_t1 : Fin k0_t1_loop.trips) : Fin 4 → Nat :=
  let c15_1007 : Index := 15#32
  let c0_i32_882 : BitVec 32 := 0#32
  let c1_i32_883 : BitVec 32 := 1#32
  let arg12 : BitVec 32 := Scf.iv c0_i32_882 c1_i32_883 k0_t1
  let c8_i32_1006 : BitVec 32 := 8#32
  let v1345 : BitVec 32 := Scalar.muli arg12 c8_i32_1006
  let v1346 : Index := Scalar.indexCast v1345
  let c128_1008 : Index := 128#32
  ![15, v1346.toNat, 0, 128]
def k0_off25 (k0_t1 : Fin k0_t1_loop.trips) : Fin 5 → Nat :=
  let c1_1009 : Index := 1#32
  let c0_1010 : Index := 0#32
  let c0_i32_882 : BitVec 32 := 0#32
  let c1_i32_883 : BitVec 32 := 1#32
  let arg12 : BitVec 32 := Scf.iv c0_i32_882 c1_i32_883 k0_t1
  let c16_i32 : BitVec 32 := 16#32
  let v1051 : BitVec 32 := Scalar.muli arg12 c16_i32
  let v1350 : Index := Scalar.indexCast v1051
  let c0_1011 : Index := 0#32
  let c0_1012 : Index := 0#32
  ![1, 0, v1350.toNat, 0, 0]
def k0_off26 (k0_t1 : Fin k0_t1_loop.trips) : Fin 4 → Nat :=
  let c24_1022 : Index := 24#32
  let c0_i32_882 : BitVec 32 := 0#32
  let c1_i32_883 : BitVec 32 := 1#32
  let arg12 : BitVec 32 := Scf.iv c0_i32_882 c1_i32_883 k0_t1
  let c8_i32_1021 : BitVec 32 := 8#32
  let v1381 : BitVec 32 := Scalar.muli arg12 c8_i32_1021
  let v1382 : Index := Scalar.indexCast v1381
  let c0_1023 : Index := 0#32
  ![24, v1382.toNat, 0, 0]
def k0_off27 (k0_t1 : Fin k0_t1_loop.trips) : Fin 4 → Nat :=
  let c24_1029 : Index := 24#32
  let c0_i32_882 : BitVec 32 := 0#32
  let c1_i32_883 : BitVec 32 := 1#32
  let arg12 : BitVec 32 := Scf.iv c0_i32_882 c1_i32_883 k0_t1
  let c8_i32_1028 : BitVec 32 := 8#32
  let v1397 : BitVec 32 := Scalar.muli arg12 c8_i32_1028
  let v1398 : Index := Scalar.indexCast v1397
  let c128_1030 : Index := 128#32
  ![24, v1398.toNat, 0, 128]
def k0_off28 (k0_t1 : Fin k0_t1_loop.trips) : Fin 4 → Nat :=
  let c25_1036 : Index := 25#32
  let c0_i32_882 : BitVec 32 := 0#32
  let c1_i32_883 : BitVec 32 := 1#32
  let arg12 : BitVec 32 := Scf.iv c0_i32_882 c1_i32_883 k0_t1
  let c8_i32_1035 : BitVec 32 := 8#32
  let v1413 : BitVec 32 := Scalar.muli arg12 c8_i32_1035
  let v1414 : Index := Scalar.indexCast v1413
  let c0_1037 : Index := 0#32
  ![25, v1414.toNat, 0, 0]
def k0_off29 (k0_t1 : Fin k0_t1_loop.trips) : Fin 4 → Nat :=
  let c25_1043 : Index := 25#32
  let c0_i32_882 : BitVec 32 := 0#32
  let c1_i32_883 : BitVec 32 := 1#32
  let arg12 : BitVec 32 := Scf.iv c0_i32_882 c1_i32_883 k0_t1
  let c8_i32_1042 : BitVec 32 := 8#32
  let v1429 : BitVec 32 := Scalar.muli arg12 c8_i32_1042
  let v1430 : Index := Scalar.indexCast v1429
  let c128_1044 : Index := 128#32
  ![25, v1430.toNat, 0, 128]
def k0_off30 (k0_t1 : Fin k0_t1_loop.trips) : Fin 4 → Nat :=
  let c26_1050 : Index := 26#32
  let c0_i32_882 : BitVec 32 := 0#32
  let c1_i32_883 : BitVec 32 := 1#32
  let arg12 : BitVec 32 := Scf.iv c0_i32_882 c1_i32_883 k0_t1
  let c8_i32_1049 : BitVec 32 := 8#32
  let v1445 : BitVec 32 := Scalar.muli arg12 c8_i32_1049
  let v1446 : Index := Scalar.indexCast v1445
  let c0_1051 : Index := 0#32
  ![26, v1446.toNat, 0, 0]
def k0_off31 (k0_t1 : Fin k0_t1_loop.trips) : Fin 4 → Nat :=
  let c26_1057 : Index := 26#32
  let c0_i32_882 : BitVec 32 := 0#32
  let c1_i32_883 : BitVec 32 := 1#32
  let arg12 : BitVec 32 := Scf.iv c0_i32_882 c1_i32_883 k0_t1
  let c8_i32_1056 : BitVec 32 := 8#32
  let v1461 : BitVec 32 := Scalar.muli arg12 c8_i32_1056
  let v1462 : Index := Scalar.indexCast v1461
  let c128_1058 : Index := 128#32
  ![26, v1462.toNat, 0, 128]
def k0_off32 (k0_t1 : Fin k0_t1_loop.trips) : Fin 4 → Nat :=
  let c27_1064 : Index := 27#32
  let c0_i32_882 : BitVec 32 := 0#32
  let c1_i32_883 : BitVec 32 := 1#32
  let arg12 : BitVec 32 := Scf.iv c0_i32_882 c1_i32_883 k0_t1
  let c8_i32_1063 : BitVec 32 := 8#32
  let v1477 : BitVec 32 := Scalar.muli arg12 c8_i32_1063
  let v1478 : Index := Scalar.indexCast v1477
  let c0_1065 : Index := 0#32
  ![27, v1478.toNat, 0, 0]
def k0_off33 (k0_t1 : Fin k0_t1_loop.trips) : Fin 4 → Nat :=
  let c27_1071 : Index := 27#32
  let c0_i32_882 : BitVec 32 := 0#32
  let c1_i32_883 : BitVec 32 := 1#32
  let arg12 : BitVec 32 := Scf.iv c0_i32_882 c1_i32_883 k0_t1
  let c8_i32_1070 : BitVec 32 := 8#32
  let v1493 : BitVec 32 := Scalar.muli arg12 c8_i32_1070
  let v1494 : Index := Scalar.indexCast v1493
  let c128_1072 : Index := 128#32
  ![27, v1494.toNat, 0, 128]
def k0_off34 (k0_t1 : Fin k0_t1_loop.trips) : Fin 4 → Nat :=
  let c36_1086 : Index := 36#32
  let c0_i32_882 : BitVec 32 := 0#32
  let c1_i32_883 : BitVec 32 := 1#32
  let arg12 : BitVec 32 := Scf.iv c0_i32_882 c1_i32_883 k0_t1
  let c8_i32_1085 : BitVec 32 := 8#32
  let v1529 : BitVec 32 := Scalar.muli arg12 c8_i32_1085
  let v1530 : Index := Scalar.indexCast v1529
  let c0_1087 : Index := 0#32
  ![36, v1530.toNat, 0, 0]
def k0_off35 (k0_t1 : Fin k0_t1_loop.trips) : Fin 4 → Nat :=
  let c36_1093 : Index := 36#32
  let c0_i32_882 : BitVec 32 := 0#32
  let c1_i32_883 : BitVec 32 := 1#32
  let arg12 : BitVec 32 := Scf.iv c0_i32_882 c1_i32_883 k0_t1
  let c8_i32_1092 : BitVec 32 := 8#32
  let v1545 : BitVec 32 := Scalar.muli arg12 c8_i32_1092
  let v1546 : Index := Scalar.indexCast v1545
  let c128_1094 : Index := 128#32
  ![36, v1546.toNat, 0, 128]
def k0_off36 (k0_t1 : Fin k0_t1_loop.trips) : Fin 4 → Nat :=
  let c37_1100 : Index := 37#32
  let c0_i32_882 : BitVec 32 := 0#32
  let c1_i32_883 : BitVec 32 := 1#32
  let arg12 : BitVec 32 := Scf.iv c0_i32_882 c1_i32_883 k0_t1
  let c8_i32_1099 : BitVec 32 := 8#32
  let v1561 : BitVec 32 := Scalar.muli arg12 c8_i32_1099
  let v1562 : Index := Scalar.indexCast v1561
  let c0_1101 : Index := 0#32
  ![37, v1562.toNat, 0, 0]
def k0_off37 (k0_t1 : Fin k0_t1_loop.trips) : Fin 4 → Nat :=
  let c37_1107 : Index := 37#32
  let c0_i32_882 : BitVec 32 := 0#32
  let c1_i32_883 : BitVec 32 := 1#32
  let arg12 : BitVec 32 := Scf.iv c0_i32_882 c1_i32_883 k0_t1
  let c8_i32_1106 : BitVec 32 := 8#32
  let v1577 : BitVec 32 := Scalar.muli arg12 c8_i32_1106
  let v1578 : Index := Scalar.indexCast v1577
  let c128_1108 : Index := 128#32
  ![37, v1578.toNat, 0, 128]
def k0_off38 (k0_t1 : Fin k0_t1_loop.trips) : Fin 4 → Nat :=
  let c38_1114 : Index := 38#32
  let c0_i32_882 : BitVec 32 := 0#32
  let c1_i32_883 : BitVec 32 := 1#32
  let arg12 : BitVec 32 := Scf.iv c0_i32_882 c1_i32_883 k0_t1
  let c8_i32_1113 : BitVec 32 := 8#32
  let v1593 : BitVec 32 := Scalar.muli arg12 c8_i32_1113
  let v1594 : Index := Scalar.indexCast v1593
  let c0_1115 : Index := 0#32
  ![38, v1594.toNat, 0, 0]
def k0_off39 (k0_t1 : Fin k0_t1_loop.trips) : Fin 4 → Nat :=
  let c38_1121 : Index := 38#32
  let c0_i32_882 : BitVec 32 := 0#32
  let c1_i32_883 : BitVec 32 := 1#32
  let arg12 : BitVec 32 := Scf.iv c0_i32_882 c1_i32_883 k0_t1
  let c8_i32_1120 : BitVec 32 := 8#32
  let v1609 : BitVec 32 := Scalar.muli arg12 c8_i32_1120
  let v1610 : Index := Scalar.indexCast v1609
  let c128_1122 : Index := 128#32
  ![38, v1610.toNat, 0, 128]
def k0_off40 (k0_t1 : Fin k0_t1_loop.trips) : Fin 4 → Nat :=
  let c39_1128 : Index := 39#32
  let c0_i32_882 : BitVec 32 := 0#32
  let c1_i32_883 : BitVec 32 := 1#32
  let arg12 : BitVec 32 := Scf.iv c0_i32_882 c1_i32_883 k0_t1
  let c8_i32_1127 : BitVec 32 := 8#32
  let v1625 : BitVec 32 := Scalar.muli arg12 c8_i32_1127
  let v1626 : Index := Scalar.indexCast v1625
  let c0_1129 : Index := 0#32
  ![39, v1626.toNat, 0, 0]
def k0_off41 (k0_t1 : Fin k0_t1_loop.trips) : Fin 4 → Nat :=
  let c39_1135 : Index := 39#32
  let c0_i32_882 : BitVec 32 := 0#32
  let c1_i32_883 : BitVec 32 := 1#32
  let arg12 : BitVec 32 := Scf.iv c0_i32_882 c1_i32_883 k0_t1
  let c8_i32_1134 : BitVec 32 := 8#32
  let v1641 : BitVec 32 := Scalar.muli arg12 c8_i32_1134
  let v1642 : Index := Scalar.indexCast v1641
  let c128_1136 : Index := 128#32
  ![39, v1642.toNat, 0, 128]
def k0_off42 (k0_t1 : Fin k0_t1_loop.trips) : Fin 2 → Nat :=
  let c0_i32_882 : BitVec 32 := 0#32
  let c1_i32_883 : BitVec 32 := 1#32
  let arg12 : BitVec 32 := Scf.iv c0_i32_882 c1_i32_883 k0_t1
  let c16_i32 : BitVec 32 := 16#32
  let v1051 : BitVec 32 := Scalar.muli arg12 c16_i32
  let v1646 : Index := Scalar.indexCast v1051
  let c128_1137 : Index := 128#32
  ![v1646.toNat, 128]
def k0_off43 (k0_t1 : Fin k0_t1_loop.trips) : Fin 5 → Nat :=
  let c0_1138 : Index := 0#32
  let c1_1139 : Index := 1#32
  let c0_i32_882 : BitVec 32 := 0#32
  let c1_i32_883 : BitVec 32 := 1#32
  let arg12 : BitVec 32 := Scf.iv c0_i32_882 c1_i32_883 k0_t1
  let c16_i32 : BitVec 32 := 16#32
  let v1051 : BitVec 32 := Scalar.muli arg12 c16_i32
  let v1648 : Index := Scalar.indexCast v1051
  let c0_1140 : Index := 0#32
  let c0_1141 : Index := 0#32
  ![0, 1, v1648.toNat, 0, 0]
def k0_off44 (k0_t1 : Fin k0_t1_loop.trips) : Fin 4 → Nat :=
  let c4_1151 : Index := 4#32
  let c0_i32_882 : BitVec 32 := 0#32
  let c1_i32_883 : BitVec 32 := 1#32
  let arg12 : BitVec 32 := Scf.iv c0_i32_882 c1_i32_883 k0_t1
  let c8_i32_1150 : BitVec 32 := 8#32
  let v1679 : BitVec 32 := Scalar.muli arg12 c8_i32_1150
  let v1680 : Index := Scalar.indexCast v1679
  let c0_1152 : Index := 0#32
  ![4, v1680.toNat, 0, 0]
def k0_off45 (k0_t1 : Fin k0_t1_loop.trips) : Fin 4 → Nat :=
  let c4_1158 : Index := 4#32
  let c0_i32_882 : BitVec 32 := 0#32
  let c1_i32_883 : BitVec 32 := 1#32
  let arg12 : BitVec 32 := Scf.iv c0_i32_882 c1_i32_883 k0_t1
  let c8_i32_1157 : BitVec 32 := 8#32
  let v1695 : BitVec 32 := Scalar.muli arg12 c8_i32_1157
  let v1696 : Index := Scalar.indexCast v1695
  let c128_1159 : Index := 128#32
  ![4, v1696.toNat, 0, 128]
def k0_off46 (k0_t1 : Fin k0_t1_loop.trips) : Fin 4 → Nat :=
  let c5_1165 : Index := 5#32
  let c0_i32_882 : BitVec 32 := 0#32
  let c1_i32_883 : BitVec 32 := 1#32
  let arg12 : BitVec 32 := Scf.iv c0_i32_882 c1_i32_883 k0_t1
  let c8_i32_1164 : BitVec 32 := 8#32
  let v1711 : BitVec 32 := Scalar.muli arg12 c8_i32_1164
  let v1712 : Index := Scalar.indexCast v1711
  let c0_1166 : Index := 0#32
  ![5, v1712.toNat, 0, 0]
def k0_off47 (k0_t1 : Fin k0_t1_loop.trips) : Fin 4 → Nat :=
  let c5_1172 : Index := 5#32
  let c0_i32_882 : BitVec 32 := 0#32
  let c1_i32_883 : BitVec 32 := 1#32
  let arg12 : BitVec 32 := Scf.iv c0_i32_882 c1_i32_883 k0_t1
  let c8_i32_1171 : BitVec 32 := 8#32
  let v1727 : BitVec 32 := Scalar.muli arg12 c8_i32_1171
  let v1728 : Index := Scalar.indexCast v1727
  let c128_1173 : Index := 128#32
  ![5, v1728.toNat, 0, 128]
def k0_off48 (k0_t1 : Fin k0_t1_loop.trips) : Fin 4 → Nat :=
  let c6_1179 : Index := 6#32
  let c0_i32_882 : BitVec 32 := 0#32
  let c1_i32_883 : BitVec 32 := 1#32
  let arg12 : BitVec 32 := Scf.iv c0_i32_882 c1_i32_883 k0_t1
  let c8_i32_1178 : BitVec 32 := 8#32
  let v1743 : BitVec 32 := Scalar.muli arg12 c8_i32_1178
  let v1744 : Index := Scalar.indexCast v1743
  let c0_1180 : Index := 0#32
  ![6, v1744.toNat, 0, 0]
def k0_off49 (k0_t1 : Fin k0_t1_loop.trips) : Fin 4 → Nat :=
  let c6_1186 : Index := 6#32
  let c0_i32_882 : BitVec 32 := 0#32
  let c1_i32_883 : BitVec 32 := 1#32
  let arg12 : BitVec 32 := Scf.iv c0_i32_882 c1_i32_883 k0_t1
  let c8_i32_1185 : BitVec 32 := 8#32
  let v1759 : BitVec 32 := Scalar.muli arg12 c8_i32_1185
  let v1760 : Index := Scalar.indexCast v1759
  let c128_1187 : Index := 128#32
  ![6, v1760.toNat, 0, 128]
def k0_off50 (k0_t1 : Fin k0_t1_loop.trips) : Fin 4 → Nat :=
  let c7_1193 : Index := 7#32
  let c0_i32_882 : BitVec 32 := 0#32
  let c1_i32_883 : BitVec 32 := 1#32
  let arg12 : BitVec 32 := Scf.iv c0_i32_882 c1_i32_883 k0_t1
  let c8_i32_1192 : BitVec 32 := 8#32
  let v1775 : BitVec 32 := Scalar.muli arg12 c8_i32_1192
  let v1776 : Index := Scalar.indexCast v1775
  let c0_1194 : Index := 0#32
  ![7, v1776.toNat, 0, 0]
def k0_off51 (k0_t1 : Fin k0_t1_loop.trips) : Fin 4 → Nat :=
  let c7_1200 : Index := 7#32
  let c0_i32_882 : BitVec 32 := 0#32
  let c1_i32_883 : BitVec 32 := 1#32
  let arg12 : BitVec 32 := Scf.iv c0_i32_882 c1_i32_883 k0_t1
  let c8_i32_1199 : BitVec 32 := 8#32
  let v1791 : BitVec 32 := Scalar.muli arg12 c8_i32_1199
  let v1792 : Index := Scalar.indexCast v1791
  let c128_1201 : Index := 128#32
  ![7, v1792.toNat, 0, 128]
def k0_off52 (k0_t1 : Fin k0_t1_loop.trips) : Fin 4 → Nat :=
  let c16_1215 : Index := 16#32
  let c0_i32_882 : BitVec 32 := 0#32
  let c1_i32_883 : BitVec 32 := 1#32
  let arg12 : BitVec 32 := Scf.iv c0_i32_882 c1_i32_883 k0_t1
  let c8_i32_1214 : BitVec 32 := 8#32
  let v1827 : BitVec 32 := Scalar.muli arg12 c8_i32_1214
  let v1828 : Index := Scalar.indexCast v1827
  let c0_1216 : Index := 0#32
  ![16, v1828.toNat, 0, 0]
def k0_off53 (k0_t1 : Fin k0_t1_loop.trips) : Fin 4 → Nat :=
  let c16_1222 : Index := 16#32
  let c0_i32_882 : BitVec 32 := 0#32
  let c1_i32_883 : BitVec 32 := 1#32
  let arg12 : BitVec 32 := Scf.iv c0_i32_882 c1_i32_883 k0_t1
  let c8_i32_1221 : BitVec 32 := 8#32
  let v1843 : BitVec 32 := Scalar.muli arg12 c8_i32_1221
  let v1844 : Index := Scalar.indexCast v1843
  let c128_1223 : Index := 128#32
  ![16, v1844.toNat, 0, 128]
def k0_off54 (k0_t1 : Fin k0_t1_loop.trips) : Fin 4 → Nat :=
  let c17_1229 : Index := 17#32
  let c0_i32_882 : BitVec 32 := 0#32
  let c1_i32_883 : BitVec 32 := 1#32
  let arg12 : BitVec 32 := Scf.iv c0_i32_882 c1_i32_883 k0_t1
  let c8_i32_1228 : BitVec 32 := 8#32
  let v1859 : BitVec 32 := Scalar.muli arg12 c8_i32_1228
  let v1860 : Index := Scalar.indexCast v1859
  let c0_1230 : Index := 0#32
  ![17, v1860.toNat, 0, 0]
def k0_off55 (k0_t1 : Fin k0_t1_loop.trips) : Fin 4 → Nat :=
  let c17_1236 : Index := 17#32
  let c0_i32_882 : BitVec 32 := 0#32
  let c1_i32_883 : BitVec 32 := 1#32
  let arg12 : BitVec 32 := Scf.iv c0_i32_882 c1_i32_883 k0_t1
  let c8_i32_1235 : BitVec 32 := 8#32
  let v1875 : BitVec 32 := Scalar.muli arg12 c8_i32_1235
  let v1876 : Index := Scalar.indexCast v1875
  let c128_1237 : Index := 128#32
  ![17, v1876.toNat, 0, 128]
def k0_off56 (k0_t1 : Fin k0_t1_loop.trips) : Fin 4 → Nat :=
  let c18_1243 : Index := 18#32
  let c0_i32_882 : BitVec 32 := 0#32
  let c1_i32_883 : BitVec 32 := 1#32
  let arg12 : BitVec 32 := Scf.iv c0_i32_882 c1_i32_883 k0_t1
  let c8_i32_1242 : BitVec 32 := 8#32
  let v1891 : BitVec 32 := Scalar.muli arg12 c8_i32_1242
  let v1892 : Index := Scalar.indexCast v1891
  let c0_1244 : Index := 0#32
  ![18, v1892.toNat, 0, 0]
def k0_off57 (k0_t1 : Fin k0_t1_loop.trips) : Fin 4 → Nat :=
  let c18_1250 : Index := 18#32
  let c0_i32_882 : BitVec 32 := 0#32
  let c1_i32_883 : BitVec 32 := 1#32
  let arg12 : BitVec 32 := Scf.iv c0_i32_882 c1_i32_883 k0_t1
  let c8_i32_1249 : BitVec 32 := 8#32
  let v1907 : BitVec 32 := Scalar.muli arg12 c8_i32_1249
  let v1908 : Index := Scalar.indexCast v1907
  let c128_1251 : Index := 128#32
  ![18, v1908.toNat, 0, 128]
def k0_off58 (k0_t1 : Fin k0_t1_loop.trips) : Fin 4 → Nat :=
  let c19_1257 : Index := 19#32
  let c0_i32_882 : BitVec 32 := 0#32
  let c1_i32_883 : BitVec 32 := 1#32
  let arg12 : BitVec 32 := Scf.iv c0_i32_882 c1_i32_883 k0_t1
  let c8_i32_1256 : BitVec 32 := 8#32
  let v1923 : BitVec 32 := Scalar.muli arg12 c8_i32_1256
  let v1924 : Index := Scalar.indexCast v1923
  let c0_1258 : Index := 0#32
  ![19, v1924.toNat, 0, 0]
def k0_off59 (k0_t1 : Fin k0_t1_loop.trips) : Fin 4 → Nat :=
  let c19_1264 : Index := 19#32
  let c0_i32_882 : BitVec 32 := 0#32
  let c1_i32_883 : BitVec 32 := 1#32
  let arg12 : BitVec 32 := Scf.iv c0_i32_882 c1_i32_883 k0_t1
  let c8_i32_1263 : BitVec 32 := 8#32
  let v1939 : BitVec 32 := Scalar.muli arg12 c8_i32_1263
  let v1940 : Index := Scalar.indexCast v1939
  let c128_1265 : Index := 128#32
  ![19, v1940.toNat, 0, 128]
def k0_off60 (k0_t1 : Fin k0_t1_loop.trips) : Fin 5 → Nat :=
  let c1_1266 : Index := 1#32
  let c1_1267 : Index := 1#32
  let c0_i32_882 : BitVec 32 := 0#32
  let c1_i32_883 : BitVec 32 := 1#32
  let arg12 : BitVec 32 := Scf.iv c0_i32_882 c1_i32_883 k0_t1
  let c16_i32 : BitVec 32 := 16#32
  let v1051 : BitVec 32 := Scalar.muli arg12 c16_i32
  let v1944 : Index := Scalar.indexCast v1051
  let c0_1268 : Index := 0#32
  let c0_1269 : Index := 0#32
  ![1, 1, v1944.toNat, 0, 0]
def k0_off61 (k0_t1 : Fin k0_t1_loop.trips) : Fin 4 → Nat :=
  let c28_1279 : Index := 28#32
  let c0_i32_882 : BitVec 32 := 0#32
  let c1_i32_883 : BitVec 32 := 1#32
  let arg12 : BitVec 32 := Scf.iv c0_i32_882 c1_i32_883 k0_t1
  let c8_i32_1278 : BitVec 32 := 8#32
  let v1975 : BitVec 32 := Scalar.muli arg12 c8_i32_1278
  let v1976 : Index := Scalar.indexCast v1975
  let c0_1280 : Index := 0#32
  ![28, v1976.toNat, 0, 0]
def k0_off62 (k0_t1 : Fin k0_t1_loop.trips) : Fin 4 → Nat :=
  let c28_1286 : Index := 28#32
  let c0_i32_882 : BitVec 32 := 0#32
  let c1_i32_883 : BitVec 32 := 1#32
  let arg12 : BitVec 32 := Scf.iv c0_i32_882 c1_i32_883 k0_t1
  let c8_i32_1285 : BitVec 32 := 8#32
  let v1991 : BitVec 32 := Scalar.muli arg12 c8_i32_1285
  let v1992 : Index := Scalar.indexCast v1991
  let c128_1287 : Index := 128#32
  ![28, v1992.toNat, 0, 128]
def k0_off63 (k0_t1 : Fin k0_t1_loop.trips) : Fin 4 → Nat :=
  let c29_1293 : Index := 29#32
  let c0_i32_882 : BitVec 32 := 0#32
  let c1_i32_883 : BitVec 32 := 1#32
  let arg12 : BitVec 32 := Scf.iv c0_i32_882 c1_i32_883 k0_t1
  let c8_i32_1292 : BitVec 32 := 8#32
  let v2007 : BitVec 32 := Scalar.muli arg12 c8_i32_1292
  let v2008 : Index := Scalar.indexCast v2007
  let c0_1294 : Index := 0#32
  ![29, v2008.toNat, 0, 0]
def k0_off64 (k0_t1 : Fin k0_t1_loop.trips) : Fin 4 → Nat :=
  let c29_1300 : Index := 29#32
  let c0_i32_882 : BitVec 32 := 0#32
  let c1_i32_883 : BitVec 32 := 1#32
  let arg12 : BitVec 32 := Scf.iv c0_i32_882 c1_i32_883 k0_t1
  let c8_i32_1299 : BitVec 32 := 8#32
  let v2023 : BitVec 32 := Scalar.muli arg12 c8_i32_1299
  let v2024 : Index := Scalar.indexCast v2023
  let c128_1301 : Index := 128#32
  ![29, v2024.toNat, 0, 128]
def k0_off65 (k0_t1 : Fin k0_t1_loop.trips) : Fin 4 → Nat :=
  let c30_1307 : Index := 30#32
  let c0_i32_882 : BitVec 32 := 0#32
  let c1_i32_883 : BitVec 32 := 1#32
  let arg12 : BitVec 32 := Scf.iv c0_i32_882 c1_i32_883 k0_t1
  let c8_i32_1306 : BitVec 32 := 8#32
  let v2039 : BitVec 32 := Scalar.muli arg12 c8_i32_1306
  let v2040 : Index := Scalar.indexCast v2039
  let c0_1308 : Index := 0#32
  ![30, v2040.toNat, 0, 0]
def k0_off66 (k0_t1 : Fin k0_t1_loop.trips) : Fin 4 → Nat :=
  let c30_1314 : Index := 30#32
  let c0_i32_882 : BitVec 32 := 0#32
  let c1_i32_883 : BitVec 32 := 1#32
  let arg12 : BitVec 32 := Scf.iv c0_i32_882 c1_i32_883 k0_t1
  let c8_i32_1313 : BitVec 32 := 8#32
  let v2055 : BitVec 32 := Scalar.muli arg12 c8_i32_1313
  let v2056 : Index := Scalar.indexCast v2055
  let c128_1315 : Index := 128#32
  ![30, v2056.toNat, 0, 128]
def k0_off67 (k0_t1 : Fin k0_t1_loop.trips) : Fin 4 → Nat :=
  let c31_1321 : Index := 31#32
  let c0_i32_882 : BitVec 32 := 0#32
  let c1_i32_883 : BitVec 32 := 1#32
  let arg12 : BitVec 32 := Scf.iv c0_i32_882 c1_i32_883 k0_t1
  let c8_i32_1320 : BitVec 32 := 8#32
  let v2071 : BitVec 32 := Scalar.muli arg12 c8_i32_1320
  let v2072 : Index := Scalar.indexCast v2071
  let c0_1322 : Index := 0#32
  ![31, v2072.toNat, 0, 0]
def k0_off68 (k0_t1 : Fin k0_t1_loop.trips) : Fin 4 → Nat :=
  let c31_1328 : Index := 31#32
  let c0_i32_882 : BitVec 32 := 0#32
  let c1_i32_883 : BitVec 32 := 1#32
  let arg12 : BitVec 32 := Scf.iv c0_i32_882 c1_i32_883 k0_t1
  let c8_i32_1327 : BitVec 32 := 8#32
  let v2087 : BitVec 32 := Scalar.muli arg12 c8_i32_1327
  let v2088 : Index := Scalar.indexCast v2087
  let c128_1329 : Index := 128#32
  ![31, v2088.toNat, 0, 128]
def k0_off69 (k0_t1 : Fin k0_t1_loop.trips) : Fin 4 → Nat :=
  let c40_1343 : Index := 40#32
  let c0_i32_882 : BitVec 32 := 0#32
  let c1_i32_883 : BitVec 32 := 1#32
  let arg12 : BitVec 32 := Scf.iv c0_i32_882 c1_i32_883 k0_t1
  let c8_i32_1342 : BitVec 32 := 8#32
  let v2123 : BitVec 32 := Scalar.muli arg12 c8_i32_1342
  let v2124 : Index := Scalar.indexCast v2123
  let c0_1344 : Index := 0#32
  ![40, v2124.toNat, 0, 0]
def k0_off70 (k0_t1 : Fin k0_t1_loop.trips) : Fin 4 → Nat :=
  let c40_1350 : Index := 40#32
  let c0_i32_882 : BitVec 32 := 0#32
  let c1_i32_883 : BitVec 32 := 1#32
  let arg12 : BitVec 32 := Scf.iv c0_i32_882 c1_i32_883 k0_t1
  let c8_i32_1349 : BitVec 32 := 8#32
  let v2139 : BitVec 32 := Scalar.muli arg12 c8_i32_1349
  let v2140 : Index := Scalar.indexCast v2139
  let c128_1351 : Index := 128#32
  ![40, v2140.toNat, 0, 128]
def k0_off71 (k0_t1 : Fin k0_t1_loop.trips) : Fin 4 → Nat :=
  let c41_1357 : Index := 41#32
  let c0_i32_882 : BitVec 32 := 0#32
  let c1_i32_883 : BitVec 32 := 1#32
  let arg12 : BitVec 32 := Scf.iv c0_i32_882 c1_i32_883 k0_t1
  let c8_i32_1356 : BitVec 32 := 8#32
  let v2155 : BitVec 32 := Scalar.muli arg12 c8_i32_1356
  let v2156 : Index := Scalar.indexCast v2155
  let c0_1358 : Index := 0#32
  ![41, v2156.toNat, 0, 0]
def k0_off72 (k0_t1 : Fin k0_t1_loop.trips) : Fin 4 → Nat :=
  let c41_1364 : Index := 41#32
  let c0_i32_882 : BitVec 32 := 0#32
  let c1_i32_883 : BitVec 32 := 1#32
  let arg12 : BitVec 32 := Scf.iv c0_i32_882 c1_i32_883 k0_t1
  let c8_i32_1363 : BitVec 32 := 8#32
  let v2171 : BitVec 32 := Scalar.muli arg12 c8_i32_1363
  let v2172 : Index := Scalar.indexCast v2171
  let c128_1365 : Index := 128#32
  ![41, v2172.toNat, 0, 128]
def k0_off73 (k0_t1 : Fin k0_t1_loop.trips) : Fin 4 → Nat :=
  let c42_1371 : Index := 42#32
  let c0_i32_882 : BitVec 32 := 0#32
  let c1_i32_883 : BitVec 32 := 1#32
  let arg12 : BitVec 32 := Scf.iv c0_i32_882 c1_i32_883 k0_t1
  let c8_i32_1370 : BitVec 32 := 8#32
  let v2187 : BitVec 32 := Scalar.muli arg12 c8_i32_1370
  let v2188 : Index := Scalar.indexCast v2187
  let c0_1372 : Index := 0#32
  ![42, v2188.toNat, 0, 0]
def k0_off74 (k0_t1 : Fin k0_t1_loop.trips) : Fin 4 → Nat :=
  let c42_1378 : Index := 42#32
  let c0_i32_882 : BitVec 32 := 0#32
  let c1_i32_883 : BitVec 32 := 1#32
  let arg12 : BitVec 32 := Scf.iv c0_i32_882 c1_i32_883 k0_t1
  let c8_i32_1377 : BitVec 32 := 8#32
  let v2203 : BitVec 32 := Scalar.muli arg12 c8_i32_1377
  let v2204 : Index := Scalar.indexCast v2203
  let c128_1379 : Index := 128#32
  ![42, v2204.toNat, 0, 128]
def k0_off75 (k0_t1 : Fin k0_t1_loop.trips) : Fin 4 → Nat :=
  let c43_1385 : Index := 43#32
  let c0_i32_882 : BitVec 32 := 0#32
  let c1_i32_883 : BitVec 32 := 1#32
  let arg12 : BitVec 32 := Scf.iv c0_i32_882 c1_i32_883 k0_t1
  let c8_i32_1384 : BitVec 32 := 8#32
  let v2219 : BitVec 32 := Scalar.muli arg12 c8_i32_1384
  let v2220 : Index := Scalar.indexCast v2219
  let c0_1386 : Index := 0#32
  ![43, v2220.toNat, 0, 0]
def k0_off76 (k0_t1 : Fin k0_t1_loop.trips) : Fin 4 → Nat :=
  let c43_1392 : Index := 43#32
  let c0_i32_882 : BitVec 32 := 0#32
  let c1_i32_883 : BitVec 32 := 1#32
  let arg12 : BitVec 32 := Scf.iv c0_i32_882 c1_i32_883 k0_t1
  let c8_i32_1391 : BitVec 32 := 8#32
  let v2235 : BitVec 32 := Scalar.muli arg12 c8_i32_1391
  let v2236 : Index := Scalar.indexCast v2235
  let c128_1393 : Index := 128#32
  ![43, v2236.toNat, 0, 128]
def k0_off77 (k0_t1 : Fin k0_t1_loop.trips) : Fin 2 → Nat :=
  let c0_i32_882 : BitVec 32 := 0#32
  let c1_i32_883 : BitVec 32 := 1#32
  let arg12 : BitVec 32 := Scf.iv c0_i32_882 c1_i32_883 k0_t1
  let c16_i32 : BitVec 32 := 16#32
  let v1051 : BitVec 32 := Scalar.muli arg12 c16_i32
  let v2240 : Index := Scalar.indexCast v1051
  let c256_1394 : Index := 256#32
  ![v2240.toNat, 256]
def k0_off78 (k0_t1 : Fin k0_t1_loop.trips) : Fin 5 → Nat :=
  let c0_1395 : Index := 0#32
  let c2_1396 : Index := 2#32
  let c0_i32_882 : BitVec 32 := 0#32
  let c1_i32_883 : BitVec 32 := 1#32
  let arg12 : BitVec 32 := Scf.iv c0_i32_882 c1_i32_883 k0_t1
  let c16_i32 : BitVec 32 := 16#32
  let v1051 : BitVec 32 := Scalar.muli arg12 c16_i32
  let v2242 : Index := Scalar.indexCast v1051
  let c0_1397 : Index := 0#32
  let c0_1398 : Index := 0#32
  ![0, 2, v2242.toNat, 0, 0]
def k0_off79 (k0_t1 : Fin k0_t1_loop.trips) : Fin 4 → Nat :=
  let c8_1408 : Index := 8#32
  let c0_i32_882 : BitVec 32 := 0#32
  let c1_i32_883 : BitVec 32 := 1#32
  let arg12 : BitVec 32 := Scf.iv c0_i32_882 c1_i32_883 k0_t1
  let c8_i32_1407 : BitVec 32 := 8#32
  let v2273 : BitVec 32 := Scalar.muli arg12 c8_i32_1407
  let v2274 : Index := Scalar.indexCast v2273
  let c0_1409 : Index := 0#32
  ![8, v2274.toNat, 0, 0]
def k0_off80 (k0_t1 : Fin k0_t1_loop.trips) : Fin 4 → Nat :=
  let c8_1415 : Index := 8#32
  let c0_i32_882 : BitVec 32 := 0#32
  let c1_i32_883 : BitVec 32 := 1#32
  let arg12 : BitVec 32 := Scf.iv c0_i32_882 c1_i32_883 k0_t1
  let c8_i32_1414 : BitVec 32 := 8#32
  let v2289 : BitVec 32 := Scalar.muli arg12 c8_i32_1414
  let v2290 : Index := Scalar.indexCast v2289
  let c128_1416 : Index := 128#32
  ![8, v2290.toNat, 0, 128]
def k0_off81 (k0_t1 : Fin k0_t1_loop.trips) : Fin 4 → Nat :=
  let c9_1422 : Index := 9#32
  let c0_i32_882 : BitVec 32 := 0#32
  let c1_i32_883 : BitVec 32 := 1#32
  let arg12 : BitVec 32 := Scf.iv c0_i32_882 c1_i32_883 k0_t1
  let c8_i32_1421 : BitVec 32 := 8#32
  let v2305 : BitVec 32 := Scalar.muli arg12 c8_i32_1421
  let v2306 : Index := Scalar.indexCast v2305
  let c0_1423 : Index := 0#32
  ![9, v2306.toNat, 0, 0]
def k0_off82 (k0_t1 : Fin k0_t1_loop.trips) : Fin 4 → Nat :=
  let c9_1429 : Index := 9#32
  let c0_i32_882 : BitVec 32 := 0#32
  let c1_i32_883 : BitVec 32 := 1#32
  let arg12 : BitVec 32 := Scf.iv c0_i32_882 c1_i32_883 k0_t1
  let c8_i32_1428 : BitVec 32 := 8#32
  let v2321 : BitVec 32 := Scalar.muli arg12 c8_i32_1428
  let v2322 : Index := Scalar.indexCast v2321
  let c128_1430 : Index := 128#32
  ![9, v2322.toNat, 0, 128]
def k0_off83 (k0_t1 : Fin k0_t1_loop.trips) : Fin 4 → Nat :=
  let c10_1436 : Index := 10#32
  let c0_i32_882 : BitVec 32 := 0#32
  let c1_i32_883 : BitVec 32 := 1#32
  let arg12 : BitVec 32 := Scf.iv c0_i32_882 c1_i32_883 k0_t1
  let c8_i32_1435 : BitVec 32 := 8#32
  let v2337 : BitVec 32 := Scalar.muli arg12 c8_i32_1435
  let v2338 : Index := Scalar.indexCast v2337
  let c0_1437 : Index := 0#32
  ![10, v2338.toNat, 0, 0]
def k0_off84 (k0_t1 : Fin k0_t1_loop.trips) : Fin 4 → Nat :=
  let c10_1443 : Index := 10#32
  let c0_i32_882 : BitVec 32 := 0#32
  let c1_i32_883 : BitVec 32 := 1#32
  let arg12 : BitVec 32 := Scf.iv c0_i32_882 c1_i32_883 k0_t1
  let c8_i32_1442 : BitVec 32 := 8#32
  let v2353 : BitVec 32 := Scalar.muli arg12 c8_i32_1442
  let v2354 : Index := Scalar.indexCast v2353
  let c128_1444 : Index := 128#32
  ![10, v2354.toNat, 0, 128]
def k0_off85 (k0_t1 : Fin k0_t1_loop.trips) : Fin 4 → Nat :=
  let c11_1450 : Index := 11#32
  let c0_i32_882 : BitVec 32 := 0#32
  let c1_i32_883 : BitVec 32 := 1#32
  let arg12 : BitVec 32 := Scf.iv c0_i32_882 c1_i32_883 k0_t1
  let c8_i32_1449 : BitVec 32 := 8#32
  let v2369 : BitVec 32 := Scalar.muli arg12 c8_i32_1449
  let v2370 : Index := Scalar.indexCast v2369
  let c0_1451 : Index := 0#32
  ![11, v2370.toNat, 0, 0]
def k0_off86 (k0_t1 : Fin k0_t1_loop.trips) : Fin 4 → Nat :=
  let c11_1457 : Index := 11#32
  let c0_i32_882 : BitVec 32 := 0#32
  let c1_i32_883 : BitVec 32 := 1#32
  let arg12 : BitVec 32 := Scf.iv c0_i32_882 c1_i32_883 k0_t1
  let c8_i32_1456 : BitVec 32 := 8#32
  let v2385 : BitVec 32 := Scalar.muli arg12 c8_i32_1456
  let v2386 : Index := Scalar.indexCast v2385
  let c128_1458 : Index := 128#32
  ![11, v2386.toNat, 0, 128]
def k0_off87 (k0_t1 : Fin k0_t1_loop.trips) : Fin 4 → Nat :=
  let c20_1472 : Index := 20#32
  let c0_i32_882 : BitVec 32 := 0#32
  let c1_i32_883 : BitVec 32 := 1#32
  let arg12 : BitVec 32 := Scf.iv c0_i32_882 c1_i32_883 k0_t1
  let c8_i32_1471 : BitVec 32 := 8#32
  let v2421 : BitVec 32 := Scalar.muli arg12 c8_i32_1471
  let v2422 : Index := Scalar.indexCast v2421
  let c0_1473 : Index := 0#32
  ![20, v2422.toNat, 0, 0]
def k0_off88 (k0_t1 : Fin k0_t1_loop.trips) : Fin 4 → Nat :=
  let c20_1479 : Index := 20#32
  let c0_i32_882 : BitVec 32 := 0#32
  let c1_i32_883 : BitVec 32 := 1#32
  let arg12 : BitVec 32 := Scf.iv c0_i32_882 c1_i32_883 k0_t1
  let c8_i32_1478 : BitVec 32 := 8#32
  let v2437 : BitVec 32 := Scalar.muli arg12 c8_i32_1478
  let v2438 : Index := Scalar.indexCast v2437
  let c128_1480 : Index := 128#32
  ![20, v2438.toNat, 0, 128]
def k0_off89 (k0_t1 : Fin k0_t1_loop.trips) : Fin 4 → Nat :=
  let c21_1486 : Index := 21#32
  let c0_i32_882 : BitVec 32 := 0#32
  let c1_i32_883 : BitVec 32 := 1#32
  let arg12 : BitVec 32 := Scf.iv c0_i32_882 c1_i32_883 k0_t1
  let c8_i32_1485 : BitVec 32 := 8#32
  let v2453 : BitVec 32 := Scalar.muli arg12 c8_i32_1485
  let v2454 : Index := Scalar.indexCast v2453
  let c0_1487 : Index := 0#32
  ![21, v2454.toNat, 0, 0]
def k0_off90 (k0_t1 : Fin k0_t1_loop.trips) : Fin 4 → Nat :=
  let c21_1493 : Index := 21#32
  let c0_i32_882 : BitVec 32 := 0#32
  let c1_i32_883 : BitVec 32 := 1#32
  let arg12 : BitVec 32 := Scf.iv c0_i32_882 c1_i32_883 k0_t1
  let c8_i32_1492 : BitVec 32 := 8#32
  let v2469 : BitVec 32 := Scalar.muli arg12 c8_i32_1492
  let v2470 : Index := Scalar.indexCast v2469
  let c128_1494 : Index := 128#32
  ![21, v2470.toNat, 0, 128]
def k0_off91 (k0_t1 : Fin k0_t1_loop.trips) : Fin 4 → Nat :=
  let c22_1500 : Index := 22#32
  let c0_i32_882 : BitVec 32 := 0#32
  let c1_i32_883 : BitVec 32 := 1#32
  let arg12 : BitVec 32 := Scf.iv c0_i32_882 c1_i32_883 k0_t1
  let c8_i32_1499 : BitVec 32 := 8#32
  let v2485 : BitVec 32 := Scalar.muli arg12 c8_i32_1499
  let v2486 : Index := Scalar.indexCast v2485
  let c0_1501 : Index := 0#32
  ![22, v2486.toNat, 0, 0]
def k0_off92 (k0_t1 : Fin k0_t1_loop.trips) : Fin 4 → Nat :=
  let c22_1507 : Index := 22#32
  let c0_i32_882 : BitVec 32 := 0#32
  let c1_i32_883 : BitVec 32 := 1#32
  let arg12 : BitVec 32 := Scf.iv c0_i32_882 c1_i32_883 k0_t1
  let c8_i32_1506 : BitVec 32 := 8#32
  let v2501 : BitVec 32 := Scalar.muli arg12 c8_i32_1506
  let v2502 : Index := Scalar.indexCast v2501
  let c128_1508 : Index := 128#32
  ![22, v2502.toNat, 0, 128]
def k0_off93 (k0_t1 : Fin k0_t1_loop.trips) : Fin 4 → Nat :=
  let c23_1514 : Index := 23#32
  let c0_i32_882 : BitVec 32 := 0#32
  let c1_i32_883 : BitVec 32 := 1#32
  let arg12 : BitVec 32 := Scf.iv c0_i32_882 c1_i32_883 k0_t1
  let c8_i32_1513 : BitVec 32 := 8#32
  let v2517 : BitVec 32 := Scalar.muli arg12 c8_i32_1513
  let v2518 : Index := Scalar.indexCast v2517
  let c0_1515 : Index := 0#32
  ![23, v2518.toNat, 0, 0]
def k0_off94 (k0_t1 : Fin k0_t1_loop.trips) : Fin 4 → Nat :=
  let c23_1521 : Index := 23#32
  let c0_i32_882 : BitVec 32 := 0#32
  let c1_i32_883 : BitVec 32 := 1#32
  let arg12 : BitVec 32 := Scf.iv c0_i32_882 c1_i32_883 k0_t1
  let c8_i32_1520 : BitVec 32 := 8#32
  let v2533 : BitVec 32 := Scalar.muli arg12 c8_i32_1520
  let v2534 : Index := Scalar.indexCast v2533
  let c128_1522 : Index := 128#32
  ![23, v2534.toNat, 0, 128]
def k0_off95 (k0_t1 : Fin k0_t1_loop.trips) : Fin 5 → Nat :=
  let c1_1523 : Index := 1#32
  let c2_1524 : Index := 2#32
  let c0_i32_882 : BitVec 32 := 0#32
  let c1_i32_883 : BitVec 32 := 1#32
  let arg12 : BitVec 32 := Scf.iv c0_i32_882 c1_i32_883 k0_t1
  let c16_i32 : BitVec 32 := 16#32
  let v1051 : BitVec 32 := Scalar.muli arg12 c16_i32
  let v2538 : Index := Scalar.indexCast v1051
  let c0_1525 : Index := 0#32
  let c0_1526 : Index := 0#32
  ![1, 2, v2538.toNat, 0, 0]
def k0_off96 (k0_t1 : Fin k0_t1_loop.trips) : Fin 4 → Nat :=
  let c32_1536 : Index := 32#32
  let c0_i32_882 : BitVec 32 := 0#32
  let c1_i32_883 : BitVec 32 := 1#32
  let arg12 : BitVec 32 := Scf.iv c0_i32_882 c1_i32_883 k0_t1
  let c8_i32_1535 : BitVec 32 := 8#32
  let v2569 : BitVec 32 := Scalar.muli arg12 c8_i32_1535
  let v2570 : Index := Scalar.indexCast v2569
  let c0_1537 : Index := 0#32
  ![32, v2570.toNat, 0, 0]
def k0_off97 (k0_t1 : Fin k0_t1_loop.trips) : Fin 4 → Nat :=
  let c32_1543 : Index := 32#32
  let c0_i32_882 : BitVec 32 := 0#32
  let c1_i32_883 : BitVec 32 := 1#32
  let arg12 : BitVec 32 := Scf.iv c0_i32_882 c1_i32_883 k0_t1
  let c8_i32_1542 : BitVec 32 := 8#32
  let v2585 : BitVec 32 := Scalar.muli arg12 c8_i32_1542
  let v2586 : Index := Scalar.indexCast v2585
  let c128_1544 : Index := 128#32
  ![32, v2586.toNat, 0, 128]
def k0_off98 (k0_t1 : Fin k0_t1_loop.trips) : Fin 4 → Nat :=
  let c33_1550 : Index := 33#32
  let c0_i32_882 : BitVec 32 := 0#32
  let c1_i32_883 : BitVec 32 := 1#32
  let arg12 : BitVec 32 := Scf.iv c0_i32_882 c1_i32_883 k0_t1
  let c8_i32_1549 : BitVec 32 := 8#32
  let v2601 : BitVec 32 := Scalar.muli arg12 c8_i32_1549
  let v2602 : Index := Scalar.indexCast v2601
  let c0_1551 : Index := 0#32
  ![33, v2602.toNat, 0, 0]
def k0_off99 (k0_t1 : Fin k0_t1_loop.trips) : Fin 4 → Nat :=
  let c33_1557 : Index := 33#32
  let c0_i32_882 : BitVec 32 := 0#32
  let c1_i32_883 : BitVec 32 := 1#32
  let arg12 : BitVec 32 := Scf.iv c0_i32_882 c1_i32_883 k0_t1
  let c8_i32_1556 : BitVec 32 := 8#32
  let v2617 : BitVec 32 := Scalar.muli arg12 c8_i32_1556
  let v2618 : Index := Scalar.indexCast v2617
  let c128_1558 : Index := 128#32
  ![33, v2618.toNat, 0, 128]
def k0_off100 (k0_t1 : Fin k0_t1_loop.trips) : Fin 4 → Nat :=
  let c34_1564 : Index := 34#32
  let c0_i32_882 : BitVec 32 := 0#32
  let c1_i32_883 : BitVec 32 := 1#32
  let arg12 : BitVec 32 := Scf.iv c0_i32_882 c1_i32_883 k0_t1
  let c8_i32_1563 : BitVec 32 := 8#32
  let v2633 : BitVec 32 := Scalar.muli arg12 c8_i32_1563
  let v2634 : Index := Scalar.indexCast v2633
  let c0_1565 : Index := 0#32
  ![34, v2634.toNat, 0, 0]
def k0_off101 (k0_t1 : Fin k0_t1_loop.trips) : Fin 4 → Nat :=
  let c34_1571 : Index := 34#32
  let c0_i32_882 : BitVec 32 := 0#32
  let c1_i32_883 : BitVec 32 := 1#32
  let arg12 : BitVec 32 := Scf.iv c0_i32_882 c1_i32_883 k0_t1
  let c8_i32_1570 : BitVec 32 := 8#32
  let v2649 : BitVec 32 := Scalar.muli arg12 c8_i32_1570
  let v2650 : Index := Scalar.indexCast v2649
  let c128_1572 : Index := 128#32
  ![34, v2650.toNat, 0, 128]
def k0_off102 (k0_t1 : Fin k0_t1_loop.trips) : Fin 4 → Nat :=
  let c35_1578 : Index := 35#32
  let c0_i32_882 : BitVec 32 := 0#32
  let c1_i32_883 : BitVec 32 := 1#32
  let arg12 : BitVec 32 := Scf.iv c0_i32_882 c1_i32_883 k0_t1
  let c8_i32_1577 : BitVec 32 := 8#32
  let v2665 : BitVec 32 := Scalar.muli arg12 c8_i32_1577
  let v2666 : Index := Scalar.indexCast v2665
  let c0_1579 : Index := 0#32
  ![35, v2666.toNat, 0, 0]
def k0_off103 (k0_t1 : Fin k0_t1_loop.trips) : Fin 4 → Nat :=
  let c35_1585 : Index := 35#32
  let c0_i32_882 : BitVec 32 := 0#32
  let c1_i32_883 : BitVec 32 := 1#32
  let arg12 : BitVec 32 := Scf.iv c0_i32_882 c1_i32_883 k0_t1
  let c8_i32_1584 : BitVec 32 := 8#32
  let v2681 : BitVec 32 := Scalar.muli arg12 c8_i32_1584
  let v2682 : Index := Scalar.indexCast v2681
  let c128_1586 : Index := 128#32
  ![35, v2682.toNat, 0, 128]
def k0_off104 (k0_t1 : Fin k0_t1_loop.trips) : Fin 4 → Nat :=
  let c44_1600 : Index := 44#32
  let c0_i32_882 : BitVec 32 := 0#32
  let c1_i32_883 : BitVec 32 := 1#32
  let arg12 : BitVec 32 := Scf.iv c0_i32_882 c1_i32_883 k0_t1
  let c8_i32_1599 : BitVec 32 := 8#32
  let v2717 : BitVec 32 := Scalar.muli arg12 c8_i32_1599
  let v2718 : Index := Scalar.indexCast v2717
  let c0_1601 : Index := 0#32
  ![44, v2718.toNat, 0, 0]
def k0_off105 (k0_t1 : Fin k0_t1_loop.trips) : Fin 4 → Nat :=
  let c44_1607 : Index := 44#32
  let c0_i32_882 : BitVec 32 := 0#32
  let c1_i32_883 : BitVec 32 := 1#32
  let arg12 : BitVec 32 := Scf.iv c0_i32_882 c1_i32_883 k0_t1
  let c8_i32_1606 : BitVec 32 := 8#32
  let v2733 : BitVec 32 := Scalar.muli arg12 c8_i32_1606
  let v2734 : Index := Scalar.indexCast v2733
  let c128_1608 : Index := 128#32
  ![44, v2734.toNat, 0, 128]
def k0_off106 (k0_t1 : Fin k0_t1_loop.trips) : Fin 4 → Nat :=
  let c45_1614 : Index := 45#32
  let c0_i32_882 : BitVec 32 := 0#32
  let c1_i32_883 : BitVec 32 := 1#32
  let arg12 : BitVec 32 := Scf.iv c0_i32_882 c1_i32_883 k0_t1
  let c8_i32_1613 : BitVec 32 := 8#32
  let v2749 : BitVec 32 := Scalar.muli arg12 c8_i32_1613
  let v2750 : Index := Scalar.indexCast v2749
  let c0_1615 : Index := 0#32
  ![45, v2750.toNat, 0, 0]
def k0_off107 (k0_t1 : Fin k0_t1_loop.trips) : Fin 4 → Nat :=
  let c45_1621 : Index := 45#32
  let c0_i32_882 : BitVec 32 := 0#32
  let c1_i32_883 : BitVec 32 := 1#32
  let arg12 : BitVec 32 := Scf.iv c0_i32_882 c1_i32_883 k0_t1
  let c8_i32_1620 : BitVec 32 := 8#32
  let v2765 : BitVec 32 := Scalar.muli arg12 c8_i32_1620
  let v2766 : Index := Scalar.indexCast v2765
  let c128_1622 : Index := 128#32
  ![45, v2766.toNat, 0, 128]
def k0_off108 (k0_t1 : Fin k0_t1_loop.trips) : Fin 4 → Nat :=
  let c46_1628 : Index := 46#32
  let c0_i32_882 : BitVec 32 := 0#32
  let c1_i32_883 : BitVec 32 := 1#32
  let arg12 : BitVec 32 := Scf.iv c0_i32_882 c1_i32_883 k0_t1
  let c8_i32_1627 : BitVec 32 := 8#32
  let v2781 : BitVec 32 := Scalar.muli arg12 c8_i32_1627
  let v2782 : Index := Scalar.indexCast v2781
  let c0_1629 : Index := 0#32
  ![46, v2782.toNat, 0, 0]
def k0_off109 (k0_t1 : Fin k0_t1_loop.trips) : Fin 4 → Nat :=
  let c46_1635 : Index := 46#32
  let c0_i32_882 : BitVec 32 := 0#32
  let c1_i32_883 : BitVec 32 := 1#32
  let arg12 : BitVec 32 := Scf.iv c0_i32_882 c1_i32_883 k0_t1
  let c8_i32_1634 : BitVec 32 := 8#32
  let v2797 : BitVec 32 := Scalar.muli arg12 c8_i32_1634
  let v2798 : Index := Scalar.indexCast v2797
  let c128_1636 : Index := 128#32
  ![46, v2798.toNat, 0, 128]
def k0_off110 (k0_t1 : Fin k0_t1_loop.trips) : Fin 4 → Nat :=
  let c47_1642 : Index := 47#32
  let c0_i32_882 : BitVec 32 := 0#32
  let c1_i32_883 : BitVec 32 := 1#32
  let arg12 : BitVec 32 := Scf.iv c0_i32_882 c1_i32_883 k0_t1
  let c8_i32_1641 : BitVec 32 := 8#32
  let v2813 : BitVec 32 := Scalar.muli arg12 c8_i32_1641
  let v2814 : Index := Scalar.indexCast v2813
  let c0_1643 : Index := 0#32
  ![47, v2814.toNat, 0, 0]
def k0_off111 (k0_t1 : Fin k0_t1_loop.trips) : Fin 4 → Nat :=
  let c47_1649 : Index := 47#32
  let c0_i32_882 : BitVec 32 := 0#32
  let c1_i32_883 : BitVec 32 := 1#32
  let arg12 : BitVec 32 := Scf.iv c0_i32_882 c1_i32_883 k0_t1
  let c8_i32_1648 : BitVec 32 := 8#32
  let v2829 : BitVec 32 := Scalar.muli arg12 c8_i32_1648
  let v2830 : Index := Scalar.indexCast v2829
  let c128_1650 : Index := 128#32
  ![47, v2830.toNat, 0, 128]
def k0_cond3 (i : grid0.Coords) : BitVec 1 :=
  let arg0 : BitVec 32 := BitVec.ofNat 32 (i 0).val
  let c1_i32_885 : BitVec 32 := 1#32
  let v1047 : BitVec 32 := Scalar.addi arg0 c1_i32_885
  let c10_i32 : BitVec 32 := 10#32
  let v1048 : BitVec 1 := Scalar.cmpi .slt v1047 c10_i32
  let v1049 : BitVec 32 := Scalar.extui v1048
  let c0_i32_886 : BitVec 32 := 0#32
  let v1050 : BitVec 1 := Scalar.cmpi .ne v1049 c0_i32_886
  v1050

def k0_off112 (i : grid0.Coords) : Fin 3 → Nat :=
  let arg0 : BitVec 32 := BitVec.ofNat 32 (i 0).val
  let c1_i32_887 : BitVec 32 := 1#32
  let v1051 : BitVec 32 := Scalar.addi arg0 c1_i32_887
  let c1024_i32_888 : BitVec 32 := 1024#32
  let v1052 : BitVec 32 := Scalar.muli v1051 c1024_i32_888
  let c0_i32_899 : BitVec 32 := 0#32
  let c0_i32_900 : BitVec 32 := 0#32
  ![v1052.toNat, 0, 0]
def k0_off113 (i : grid0.Coords) : Fin 3 → Nat :=
  let arg0 : BitVec 32 := BitVec.ofNat 32 (i 0).val
  let c1_i32_887 : BitVec 32 := 1#32
  let v1051 : BitVec 32 := Scalar.addi arg0 c1_i32_887
  let c1024_i32_889 : BitVec 32 := 1024#32
  let v1053 : BitVec 32 := Scalar.muli v1051 c1024_i32_889
  let c0_i32_906 : BitVec 32 := 0#32
  let c128_i32_907 : BitVec 32 := 128#32
  ![v1053.toNat, 0, 128]
def k0_off114 (i : grid0.Coords) : Fin 3 → Nat :=
  let arg0 : BitVec 32 := BitVec.ofNat 32 (i 0).val
  let c1_i32_887 : BitVec 32 := 1#32
  let v1051 : BitVec 32 := Scalar.addi arg0 c1_i32_887
  let c1024_i32_890 : BitVec 32 := 1024#32
  let v1054 : BitVec 32 := Scalar.muli v1051 c1024_i32_890
  let c0_i32_913 : BitVec 32 := 0#32
  let c256_i32_914 : BitVec 32 := 256#32
  ![v1054.toNat, 0, 256]
def k0_off115 (i : grid0.Coords) : Fin 3 → Nat :=
  let arg0 : BitVec 32 := BitVec.ofNat 32 (i 0).val
  let c1_i32_887 : BitVec 32 := 1#32
  let v1051 : BitVec 32 := Scalar.addi arg0 c1_i32_887
  let c1024_i32_891 : BitVec 32 := 1024#32
  let v1055 : BitVec 32 := Scalar.muli v1051 c1024_i32_891
  let c8_i32_920 : BitVec 32 := 8#32
  let c0_i32_921 : BitVec 32 := 0#32
  ![v1055.toNat, 8, 0]
def k0_off116 (i : grid0.Coords) : Fin 3 → Nat :=
  let arg0 : BitVec 32 := BitVec.ofNat 32 (i 0).val
  let c1_i32_887 : BitVec 32 := 1#32
  let v1051 : BitVec 32 := Scalar.addi arg0 c1_i32_887
  let c1024_i32_892 : BitVec 32 := 1024#32
  let v1056 : BitVec 32 := Scalar.muli v1051 c1024_i32_892
  let c8_i32_927 : BitVec 32 := 8#32
  let c128_i32_928 : BitVec 32 := 128#32
  ![v1056.toNat, 8, 128]
def k0_off117 (i : grid0.Coords) : Fin 3 → Nat :=
  let arg0 : BitVec 32 := BitVec.ofNat 32 (i 0).val
  let c1_i32_887 : BitVec 32 := 1#32
  let v1051 : BitVec 32 := Scalar.addi arg0 c1_i32_887
  let c1024_i32_893 : BitVec 32 := 1024#32
  let v1057 : BitVec 32 := Scalar.muli v1051 c1024_i32_893
  let c8_i32_934 : BitVec 32 := 8#32
  let c256_i32_935 : BitVec 32 := 256#32
  ![v1057.toNat, 8, 256]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x48x128x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x8x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S24x48x128x256 : Shape := ⟨4, ![24, 48, 128, 256]⟩
abbrev S6144x128 : Shape := ⟨2, ![6144, 128]⟩
abbrev S10240x384x16 : Shape := ⟨3, ![10240, 384, 16]⟩
abbrev S10240x384 : Shape := ⟨2, ![10240, 384]⟩
abbrev S24x4x3x4x128x2x128 : Shape := ⟨7, ![24, 4, 3, 4, 128, 2, 128]⟩
abbrev S24x4x3x4x128x2x128x2 : Shape := ⟨8, ![24, 4, 3, 4, 128, 2, 128, 2]⟩
abbrev S24x128x2x3x128x2x4x4 : Shape := ⟨8, ![24, 128, 2, 3, 128, 2, 4, 4]⟩
abbrev S6144x384x2x16 : Shape := ⟨4, ![6144, 384, 2, 16]⟩
abbrev S10240x384x1 : Shape := ⟨3, ![10240, 384, 1]⟩
abbrev S_ : Shape := ⟨0, ![]⟩
abbrev S6144x384x1x16 : Shape := ⟨4, ![6144, 384, 1, 16]⟩
abbrev S6144x384x16 : Shape := ⟨3, ![6144, 384, 16]⟩
abbrev S6144x10240 : Shape := ⟨2, ![6144, 10240]⟩
abbrev S6144x80x64x2 : Shape := ⟨4, ![6144, 80, 64, 2]⟩
abbrev S6144x1x64x2 : Shape := ⟨4, ![6144, 1, 64, 2]⟩
abbrev S6144x80x64x1 : Shape := ⟨4, ![6144, 80, 64, 1]⟩
abbrev S6144x80x64 : Shape := ⟨3, ![6144, 80, 64]⟩
abbrev S6144x1x64x1 : Shape := ⟨4, ![6144, 1, 64, 1]⟩
abbrev S6144x1x64 : Shape := ⟨3, ![6144, 1, 64]⟩
abbrev S6144x80x128 : Shape := ⟨3, ![6144, 80, 128]⟩

abbrev nBuf : Space → Nat
  | .hbm => 66
  | .vmem => 0
  | .smem => 0
  | _ => 0

abbrev bufTy : (tb : Table) → Fin (tcTables nBuf tb) → BufTy
  | .hbm, ⟨0, _⟩ => ⟨S24x48x128x256, .i32⟩
  | .hbm, ⟨1, _⟩ => ⟨S6144x128, .f32⟩
  | .hbm, ⟨2, _⟩ => ⟨S6144x128, .f32⟩
  | .hbm, ⟨3, _⟩ => ⟨S10240x384x16, .i8⟩
  | .hbm, ⟨4, _⟩ => ⟨S10240x384, .bf16⟩
  | .hbm, ⟨5, _⟩ => ⟨S24x4x3x4x128x2x128, .i32⟩
  | .hbm, ⟨6, _⟩ => ⟨S24x4x3x4x128x2x128x2, .bf16⟩
  | .hbm, ⟨7, _⟩ => ⟨S24x128x2x3x128x2x4x4, .bf16⟩
  | .hbm, ⟨8, _⟩ => ⟨S6144x384x2x16, .bf16⟩
  | .hbm, ⟨9, _⟩ => ⟨S10240x384x1, .bf16⟩
  | .hbm, ⟨10, _⟩ => ⟨S10240x384x16, .i32⟩
  | .hbm, ⟨11, _⟩ => ⟨S_, .i32⟩
  | .hbm, ⟨12, _⟩ => ⟨S10240x384x16, .i32⟩
  | .hbm, ⟨13, _⟩ => ⟨S10240x384x16, .i32⟩
  | .hbm, ⟨14, _⟩ => ⟨S10240x384x16, .bf16⟩
  | .hbm, ⟨15, _⟩ => ⟨S_, .bf16⟩
  | .hbm, ⟨16, _⟩ => ⟨S10240x384x16, .bf16⟩
  | .hbm, ⟨17, _⟩ => ⟨S10240x384x16, .bf16⟩
  | .hbm, ⟨18, _⟩ => ⟨S10240x384x16, .bf16⟩
  | .hbm, ⟨19, _⟩ => ⟨S10240x384x16, .bf16⟩
  | .hbm, ⟨20, _⟩ => ⟨S_, .i32⟩
  | .hbm, ⟨21, _⟩ => ⟨S10240x384x16, .i32⟩
  | .hbm, ⟨22, _⟩ => ⟨S10240x384x16, .i32⟩
  | .hbm, ⟨23, _⟩ => ⟨S10240x384x16, .bf16⟩
  | .hbm, ⟨24, _⟩ => ⟨S_, .bf16⟩
  | .hbm, ⟨25, _⟩ => ⟨S10240x384x16, .bf16⟩
  | .hbm, ⟨26, _⟩ => ⟨S10240x384x16, .bf16⟩
  | .hbm, ⟨27, _⟩ => ⟨S10240x384x16, .bf16⟩
  | .hbm, ⟨28, _⟩ => ⟨S10240x384x16, .bf16⟩
  | .hbm, ⟨29, _⟩ => ⟨S6144x384x1x16, .bf16⟩
  | .hbm, ⟨30, _⟩ => ⟨S6144x384x16, .bf16⟩
  | .hbm, ⟨31, _⟩ => ⟨S6144x10240, .f32⟩
  | .hbm, ⟨32, _⟩ => ⟨S6144x384x1x16, .bf16⟩
  | .hbm, ⟨33, _⟩ => ⟨S6144x384x16, .bf16⟩
  | .hbm, ⟨34, _⟩ => ⟨S6144x10240, .f32⟩
  | .hbm, ⟨35, _⟩ => ⟨S6144x10240, .f32⟩
  | .hbm, ⟨36, _⟩ => ⟨S6144x80x64x2, .f32⟩
  | .hbm, ⟨37, _⟩ => ⟨S6144x1x64x2, .f32⟩
  | .hbm, ⟨38, _⟩ => ⟨S6144x1x64x2, .f32⟩
  | .hbm, ⟨39, _⟩ => ⟨S6144x80x64x1, .f32⟩
  | .hbm, ⟨40, _⟩ => ⟨S6144x80x64, .f32⟩
  | .hbm, ⟨41, _⟩ => ⟨S6144x80x64x1, .f32⟩
  | .hbm, ⟨42, _⟩ => ⟨S6144x80x64, .f32⟩
  | .hbm, ⟨43, _⟩ => ⟨S6144x1x64x1, .f32⟩
  | .hbm, ⟨44, _⟩ => ⟨S6144x1x64, .f32⟩
  | .hbm, ⟨45, _⟩ => ⟨S6144x80x64, .f32⟩
  | .hbm, ⟨46, _⟩ => ⟨S6144x80x64, .f32⟩
  | .hbm, ⟨47, _⟩ => ⟨S6144x1x64x1, .f32⟩
  | .hbm, ⟨48, _⟩ => ⟨S6144x1x64, .f32⟩
  | .hbm, ⟨49, _⟩ => ⟨S6144x80x64, .f32⟩
  | .hbm, ⟨50, _⟩ => ⟨S6144x80x64, .f32⟩
  | .hbm, ⟨51, _⟩ => ⟨S6144x80x64, .f32⟩
  | .hbm, ⟨52, _⟩ => ⟨S6144x1x64x1, .f32⟩
  | .hbm, ⟨53, _⟩ => ⟨S6144x1x64, .f32⟩
  | .hbm, ⟨54, _⟩ => ⟨S6144x80x64, .f32⟩
  | .hbm, ⟨55, _⟩ => ⟨S6144x80x64, .f32⟩
  | .hbm, ⟨56, _⟩ => ⟨S6144x1x64x1, .f32⟩
  | .hbm, ⟨57, _⟩ => ⟨S6144x1x64, .f32⟩
  | .hbm, ⟨58, _⟩ => ⟨S6144x80x64, .f32⟩
  | .hbm, ⟨59, _⟩ => ⟨S6144x80x64, .f32⟩
  | .hbm, ⟨60, _⟩ => ⟨S6144x80x64, .f32⟩
  | .hbm, ⟨61, _⟩ => ⟨S6144x80x64x1, .f32⟩
  | .hbm, ⟨62, _⟩ => ⟨S6144x80x64x1, .f32⟩
  | .hbm, ⟨63, _⟩ => ⟨S6144x80x64x2, .f32⟩
  | .hbm, ⟨64, _⟩ => ⟨S6144x80x128, .f32⟩
  | .hbm, ⟨65, _⟩ => ⟨S6144x80x128, .bf16⟩
  | _, _ => ⟨S24x48x128x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩

abbrev nD : Nat := 1
abbrev τ : Topo := Topo.v7x

variable {F : FTy → Type} [FloatOps F]
-- ==== KernelV.lean ====
abbrev S24x48x128x256 : Shape := ⟨4, ![24, 48, 128, 256]⟩
abbrev S6144x128 : Shape := ⟨2, ![6144, 128]⟩
abbrev S2048x384x16 : Shape := ⟨3, ![2048, 384, 16]⟩
abbrev S2048x384 : Shape := ⟨2, ![2048, 384]⟩
abbrev S2048x16x384 : Shape := ⟨3, ![2048, 16, 384]⟩
abbrev S6144x16x128 : Shape := ⟨3, ![6144, 16, 128]⟩
abbrev S6x16x1024 : Shape := ⟨3, ![6, 16, 1024]⟩
abbrev S1x48x128x256 : Shape := ⟨4, ![1, 48, 128, 256]⟩
abbrev S256x128 : Shape := ⟨2, ![256, 128]⟩
abbrev S1024x384 : Shape := ⟨2, ![1024, 384]⟩
abbrev S256x8x128 : Shape := ⟨3, ![256, 8, 128]⟩
abbrev S1x8x256 : Shape := ⟨3, ![1, 8, 256]⟩
abbrev S48x512x256 : Shape := ⟨3, ![48, 512, 256]⟩
abbrev S2x3x1024x8x128 : Shape := ⟨5, ![2, 3, 1024, 8, 128]⟩
abbrev S_ : Shape := ⟨0, ![]⟩
abbrev S1x1x1024x8x128 : Shape := ⟨5, ![1, 1, 1024, 8, 128]⟩
abbrev S1024x8x128 : Shape := ⟨3, ![1024, 8, 128]⟩
abbrev S16x128 : Shape := ⟨2, ![16, 128]⟩
abbrev S1x1x16x8x128 : Shape := ⟨5, ![1, 1, 16, 8, 128]⟩
abbrev S16x8x128 : Shape := ⟨3, ![16, 8, 128]⟩
abbrev S128x128 : Shape := ⟨2, ![128, 128]⟩
abbrev S32x128 : Shape := ⟨2, ![32, 128]⟩
abbrev S8x4x128 : Shape := ⟨3, ![8, 4, 128]⟩
abbrev S8x1x128 : Shape := ⟨3, ![8, 1, 128]⟩
abbrev S8x128 : Shape := ⟨2, ![8, 128]⟩
abbrev S1x8x128 : Shape := ⟨3, ![1, 8, 128]⟩
abbrev S256x512 : Shape := ⟨2, ![256, 512]⟩
abbrev S1x1x128x256 : Shape := ⟨4, ![1, 1, 128, 256]⟩
abbrev S128x256 : Shape := ⟨2, ![128, 256]⟩
abbrev S256x256 : Shape := ⟨2, ![256, 256]⟩
abbrev S1x256x256 : Shape := ⟨3, ![1, 256, 256]⟩
abbrev S512x256 : Shape := ⟨2, ![512, 256]⟩
abbrev S256 : Shape := ⟨1, ![256]⟩
abbrev S256x1 : Shape := ⟨2, ![256, 1]⟩
abbrev S256x1x128 : Shape := ⟨3, ![256, 1, 128]⟩
abbrev S256x4x128 : Shape := ⟨3, ![256, 4, 128]⟩
abbrev S1x256 : Shape := ⟨2, ![1, 256]⟩
abbrev S1x1x256 : Shape := ⟨3, ![1, 1, 256]⟩

abbrev nBuf : Space → Nat
  | .hbm => 8
  | .vmem => 15
  | .smem => 0
  | _ => 0

abbrev bufTy : (tb : Table) → Fin (tcTables nBuf tb) → BufTy
  | .hbm, ⟨0, _⟩ => ⟨S24x48x128x256, .i32⟩
  | .hbm, ⟨1, _⟩ => ⟨S6144x128, .f32⟩
  | .hbm, ⟨2, _⟩ => ⟨S6144x128, .f32⟩
  | .hbm, ⟨3, _⟩ => ⟨S2048x384x16, .i8⟩
  | .hbm, ⟨4, _⟩ => ⟨S2048x384, .bf16⟩
  | .hbm, ⟨5, _⟩ => ⟨S2048x16x384, .i8⟩
  | .hbm, ⟨6, _⟩ => ⟨S6144x16x128, .fp8e4m3⟩
  | .hbm, ⟨7, _⟩ => ⟨S6x16x1024, .f32⟩
  | .local _ .vmem, ⟨0, _⟩ => ⟨S1x48x128x256, .i32⟩
  | .local _ .vmem, ⟨1, _⟩ => ⟨S1x48x128x256, .i32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1024x384, .bf16⟩
  | .local _ .vmem, ⟨7, _⟩ => ⟨S1024x384, .bf16⟩
  | .local _ .vmem, ⟨8, _⟩ => ⟨S256x8x128, .fp8e4m3⟩
  | .local _ .vmem, ⟨9, _⟩ => ⟨S256x8x128, .fp8e4m3⟩
  | .local _ .vmem, ⟨10, _⟩ => ⟨S1x8x256, .f32⟩
  | .local _ .vmem, ⟨11, _⟩ => ⟨S1x8x256, .f32⟩
  | .local _ .vmem, ⟨12, _⟩ => ⟨S48x512x256, .i32⟩
  | .local _ .vmem, ⟨13, _⟩ => ⟨S2x3x1024x8x128, .i8⟩
  | .local _ .vmem, ⟨14, _⟩ => ⟨S256x8x128, .fp8e4m3⟩
  | _, _ => ⟨S24x48x128x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![2, 24], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg0 : BitVec 32 := BitVec.ofNat 32 (i 0).val
  let c1024_i32 : BitVec 32 := 1024#32
  let v1212 : BitVec 32 := Scalar.muli arg0 c1024_i32
  let c0_i32_903 : BitVec 32 := 0#32
  let c0_i32_904 : BitVec 32 := 0#32
  ![v1212.toNat, 0, 0]
def k0_off2 (i : grid0.Coords) : Fin 3 → Nat :=
  let arg0 : BitVec 32 := BitVec.ofNat 32 (i 0).val
  let c1024_i32_893 : BitVec 32 := 1024#32
  let v1213 : BitVec 32 := Scalar.muli arg0 c1024_i32_893
  let c0_i32_910 : BitVec 32 := 0#32
  let c128_i32 : BitVec 32 := 128#32
  ![v1213.toNat, 0, 128]
def k0_off3 (i : grid0.Coords) : Fin 3 → Nat :=
  let arg0 : BitVec 32 := BitVec.ofNat 32 (i 0).val
  let c1024_i32_894 : BitVec 32 := 1024#32
  let v1214 : BitVec 32 := Scalar.muli arg0 c1024_i32_894
  let c0_i32_915 : BitVec 32 := 0#32
  let c256_i32 : BitVec 32 := 256#32
  ![v1214.toNat, 0, 256]
def k0_off4 (i : grid0.Coords) : Fin 3 → Nat :=
  let arg0 : BitVec 32 := BitVec.ofNat 32 (i 0).val
  let c1024_i32_895 : BitVec 32 := 1024#32
  let v1215 : BitVec 32 := Scalar.muli arg0 c1024_i32_895
  let c8_i32 : BitVec 32 := 8#32
  let c0_i32_921 : BitVec 32 := 0#32
  ![v1215.toNat, 8, 0]
def k0_off5 (i : grid0.Coords) : Fin 3 → Nat :=
  let arg0 : BitVec 32 := BitVec.ofNat 32 (i 0).val
  let c1024_i32_896 : BitVec 32 := 1024#32
  let v1216 : BitVec 32 := Scalar.muli arg0 c1024_i32_896
  let c8_i32_927 : BitVec 32 := 8#32
  let c128_i32_928 : BitVec 32 := 128#32
  ![v1216.toNat, 8, 128]
def k0_off6 (i : grid0.Coords) : Fin 3 → Nat :=
  let arg0 : BitVec 32 := BitVec.ofNat 32 (i 0).val
  let c1024_i32_897 : BitVec 32 := 1024#32
  let v1217 : BitVec 32 := Scalar.muli arg0 c1024_i32_897
  let c8_i32_934 : BitVec 32 := 8#32
  let c256_i32_935 : BitVec 32 := 256#32
  ![v1217.toNat, 8, 256]
@[reducible] def k0_t1_loop : Scf.Loop 32 :=
  let c0_i32_936 : BitVec 32 := 0#32
  let c64_i32 : BitVec 32 := 64#32
  let v1236 : BitVec 32 := Scalar.addi c0_i32_936 c64_i32
  let c1_i32_937 : BitVec 32 := 1#32
  ⟨c0_i32_936, v1236, c1_i32_937⟩
def k0_off7 (k0_t1 : Fin k0_t1_loop.trips) : Fin 2 → Nat :=
  let c0_i32_936 : BitVec 32 := 0#32
  let c1_i32_937 : BitVec 32 := 1#32
  let arg13 : BitVec 32 := Scf.iv c0_i32_936 c1_i32_937 k0_t1
  let c16_i32 : BitVec 32 := 16#32
  let v1241 : BitVec 32 := Scalar.muli arg13 c16_i32
  let v1242 : Index := Scalar.indexCast v1241
  let c0_942 : Index := 0#32
  ![v1242.toNat, 0]
def k0_off8 (k0_t1 : Fin k0_t1_loop.trips) : Fin 5 → Nat :=
  let c0_943 : Index := 0#32
  let c0_944 : Index := 0#32
  let c0_i32_936 : BitVec 32 := 0#32
  let c1_i32_937 : BitVec 32 := 1#32
  let arg13 : BitVec 32 := Scf.iv c0_i32_936 c1_i32_937 k0_t1
  let c16_i32 : BitVec 32 := 16#32
  let v1241 : BitVec 32 := Scalar.muli arg13 c16_i32
  let v1244 : Index := Scalar.indexCast v1241
  let c0_945 : Index := 0#32
  let c0_946 : Index := 0#32
  ![0, 0, v1244.toNat, 0, 0]
def k0_off9 (k0_t1 : Fin k0_t1_loop.trips) : Fin 3 → Nat :=
  let c0_952 : Index := 0#32
  let c0_i32_936 : BitVec 32 := 0#32
  let c1_i32_937 : BitVec 32 := 1#32
  let arg13 : BitVec 32 := Scf.iv c0_i32_936 c1_i32_937 k0_t1
  let c8_i32_951 : BitVec 32 := 8#32
  let v1275 : BitVec 32 := Scalar.muli arg13 c8_i32_951
  let v1276 : Index := Scalar.indexCast v1275
  let c0_953 : Index := 0#32
  ![0, v1276.toNat, 0]
def k0_off10 (k0_t1 : Fin k0_t1_loop.trips) : Fin 3 → Nat :=
  let c0_958 : Index := 0#32
  let c0_i32_936 : BitVec 32 := 0#32
  let c1_i32_937 : BitVec 32 := 1#32
  let arg13 : BitVec 32 := Scf.iv c0_i32_936 c1_i32_937 k0_t1
  let c8_i32_957 : BitVec 32 := 8#32
  let v1291 : BitVec 32 := Scalar.muli arg13 c8_i32_957
  let v1292 : Index := Scalar.indexCast v1291
  let c128 : Index := 128#32
  ![0, v1292.toNat, 128]
def k0_off11 (k0_t1 : Fin k0_t1_loop.trips) : Fin 3 → Nat :=
  let c1_964 : Index := 1#32
  let c0_i32_936 : BitVec 32 := 0#32
  let c1_i32_937 : BitVec 32 := 1#32
  let arg13 : BitVec 32 := Scf.iv c0_i32_936 c1_i32_937 k0_t1
  let c8_i32_963 : BitVec 32 := 8#32
  let v1307 : BitVec 32 := Scalar.muli arg13 c8_i32_963
  let v1308 : Index := Scalar.indexCast v1307
  let c0_965 : Index := 0#32
  ![1, v1308.toNat, 0]
def k0_off12 (k0_t1 : Fin k0_t1_loop.trips) : Fin 3 → Nat :=
  let c1_970 : Index := 1#32
  let c0_i32_936 : BitVec 32 := 0#32
  let c1_i32_937 : BitVec 32 := 1#32
  let arg13 : BitVec 32 := Scf.iv c0_i32_936 c1_i32_937 k0_t1
  let c8_i32_969 : BitVec 32 := 8#32
  let v1323 : BitVec 32 := Scalar.muli arg13 c8_i32_969
  let v1324 : Index := Scalar.indexCast v1323
  let c128_971 : Index := 128#32
  ![1, v1324.toNat, 128]
def k0_off13 (k0_t1 : Fin k0_t1_loop.trips) : Fin 3 → Nat :=
  let c2_977 : Index := 2#32
  let c0_i32_936 : BitVec 32 := 0#32
  let c1_i32_937 : BitVec 32 := 1#32
  let arg13 : BitVec 32 := Scf.iv c0_i32_936 c1_i32_937 k0_t1
  let c8_i32_976 : BitVec 32 := 8#32
  let v1339 : BitVec 32 := Scalar.muli arg13 c8_i32_976
  let v1340 : Index := Scalar.indexCast v1339
  let c0_978 : Index := 0#32
  ![2, v1340.toNat, 0]
def k0_off14 (k0_t1 : Fin k0_t1_loop.trips) : Fin 3 → Nat :=
  let c2_984 : Index := 2#32
  let c0_i32_936 : BitVec 32 := 0#32
  let c1_i32_937 : BitVec 32 := 1#32
  let arg13 : BitVec 32 := Scf.iv c0_i32_936 c1_i32_937 k0_t1
  let c8_i32_983 : BitVec 32 := 8#32
  let v1355 : BitVec 32 := Scalar.muli arg13 c8_i32_983
  let v1356 : Index := Scalar.indexCast v1355
  let c128_985 : Index := 128#32
  ![2, v1356.toNat, 128]
def k0_off15 (k0_t1 : Fin k0_t1_loop.trips) : Fin 3 → Nat :=
  let c3_991 : Index := 3#32
  let c0_i32_936 : BitVec 32 := 0#32
  let c1_i32_937 : BitVec 32 := 1#32
  let arg13 : BitVec 32 := Scf.iv c0_i32_936 c1_i32_937 k0_t1
  let c8_i32_990 : BitVec 32 := 8#32
  let v1371 : BitVec 32 := Scalar.muli arg13 c8_i32_990
  let v1372 : Index := Scalar.indexCast v1371
  let c0_992 : Index := 0#32
  ![3, v1372.toNat, 0]
def k0_off16 (k0_t1 : Fin k0_t1_loop.trips) : Fin 3 → Nat :=
  let c3_998 : Index := 3#32
  let c0_i32_936 : BitVec 32 := 0#32
  let c1_i32_937 : BitVec 32 := 1#32
  let arg13 : BitVec 32 := Scf.iv c0_i32_936 c1_i32_937 k0_t1
  let c8_i32_997 : BitVec 32 := 8#32
  let v1387 : BitVec 32 := Scalar.muli arg13 c8_i32_997
  let v1388 : Index := Scalar.indexCast v1387
  let c128_999 : Index := 128#32
  ![3, v1388.toNat, 128]
def k0_off17 (k0_t1 : Fin k0_t1_loop.trips) : Fin 3 → Nat :=
  let c12_1013 : Index := 12#32
  let c0_i32_936 : BitVec 32 := 0#32
  let c1_i32_937 : BitVec 32 := 1#32
  let arg13 : BitVec 32 := Scf.iv c0_i32_936 c1_i32_937 k0_t1
  let c8_i32_1012 : BitVec 32 := 8#32
  let v1423 : BitVec 32 := Scalar.muli arg13 c8_i32_1012
  let v1424 : Index := Scalar.indexCast v1423
  let c0_1014 : Index := 0#32
  ![12, v1424.toNat, 0]
def k0_off18 (k0_t1 : Fin k0_t1_loop.trips) : Fin 3 → Nat :=
  let c12_1020 : Index := 12#32
  let c0_i32_936 : BitVec 32 := 0#32
  let c1_i32_937 : BitVec 32 := 1#32
  let arg13 : BitVec 32 := Scf.iv c0_i32_936 c1_i32_937 k0_t1
  let c8_i32_1019 : BitVec 32 := 8#32
  let v1439 : BitVec 32 := Scalar.muli arg13 c8_i32_1019
  let v1440 : Index := Scalar.indexCast v1439
  let c128_1021 : Index := 128#32
  ![12, v1440.toNat, 128]
def k0_off19 (k0_t1 : Fin k0_t1_loop.trips) : Fin 3 → Nat :=
  let c13_1027 : Index := 13#32
  let c0_i32_936 : BitVec 32 := 0#32
  let c1_i32_937 : BitVec 32 := 1#32
  let arg13 : BitVec 32 := Scf.iv c0_i32_936 c1_i32_937 k0_t1
  let c8_i32_1026 : BitVec 32 := 8#32
  let v1455 : BitVec 32 := Scalar.muli arg13 c8_i32_1026
  let v1456 : Index := Scalar.indexCast v1455
  let c0_1028 : Index := 0#32
  ![13, v1456.toNat, 0]
def k0_off20 (k0_t1 : Fin k0_t1_loop.trips) : Fin 3 → Nat :=
  let c13_1034 : Index := 13#32
  let c0_i32_936 : BitVec 32 := 0#32
  let c1_i32_937 : BitVec 32 := 1#32
  let arg13 : BitVec 32 := Scf.iv c0_i32_936 c1_i32_937 k0_t1
  let c8_i32_1033 : BitVec 32 := 8#32
  let v1471 : BitVec 32 := Scalar.muli arg13 c8_i32_1033
  let v1472 : Index := Scalar.indexCast v1471
  let c128_1035 : Index := 128#32
  ![13, v1472.toNat, 128]
def k0_off21 (k0_t1 : Fin k0_t1_loop.trips) : Fin 3 → Nat :=
  let c14_1041 : Index := 14#32
  let c0_i32_936 : BitVec 32 := 0#32
  let c1_i32_937 : BitVec 32 := 1#32
  let arg13 : BitVec 32 := Scf.iv c0_i32_936 c1_i32_937 k0_t1
  let c8_i32_1040 : BitVec 32 := 8#32
  let v1487 : BitVec 32 := Scalar.muli arg13 c8_i32_1040
  let v1488 : Index := Scalar.indexCast v1487
  let c0_1042 : Index := 0#32
  ![14, v1488.toNat, 0]
def k0_off22 (k0_t1 : Fin k0_t1_loop.trips) : Fin 3 → Nat :=
  let c14_1048 : Index := 14#32
  let c0_i32_936 : BitVec 32 := 0#32
  let c1_i32_937 : BitVec 32 := 1#32
  let arg13 : BitVec 32 := Scf.iv c0_i32_936 c1_i32_937 k0_t1
  let c8_i32_1047 : BitVec 32 := 8#32
  let v1503 : BitVec 32 := Scalar.muli arg13 c8_i32_1047
  let v1504 : Index := Scalar.indexCast v1503
  let c128_1049 : Index := 128#32
  ![14, v1504.toNat, 128]
def k0_off23 (k0_t1 : Fin k0_t1_loop.trips) : Fin 3 → Nat :=
  let c15_1055 : Index := 15#32
  let c0_i32_936 : BitVec 32 := 0#32
  let c1_i32_937 : BitVec 32 := 1#32
  let arg13 : BitVec 32 := Scf.iv c0_i32_936 c1_i32_937 k0_t1
  let c8_i32_1054 : BitVec 32 := 8#32
  let v1519 : BitVec 32 := Scalar.muli arg13 c8_i32_1054
  let v1520 : Index := Scalar.indexCast v1519
  let c0_1056 : Index := 0#32
  ![15, v1520.toNat, 0]
def k0_off24 (k0_t1 : Fin k0_t1_loop.trips) : Fin 3 → Nat :=
  let c15_1062 : Index := 15#32
  let c0_i32_936 : BitVec 32 := 0#32
  let c1_i32_937 : BitVec 32 := 1#32
  let arg13 : BitVec 32 := Scf.iv c0_i32_936 c1_i32_937 k0_t1
  let c8_i32_1061 : BitVec 32 := 8#32
  let v1535 : BitVec 32 := Scalar.muli arg13 c8_i32_1061
  let v1536 : Index := Scalar.indexCast v1535
  let c128_1063 : Index := 128#32
  ![15, v1536.toNat, 128]
def k0_off25 (k0_t1 : Fin k0_t1_loop.trips) : Fin 5 → Nat :=
  let c1_1064 : Index := 1#32
  let c0_1065 : Index := 0#32
  let c0_i32_936 : BitVec 32 := 0#32
  let c1_i32_937 : BitVec 32 := 1#32
  let arg13 : BitVec 32 := Scf.iv c0_i32_936 c1_i32_937 k0_t1
  let c16_i32 : BitVec 32 := 16#32
  let v1241 : BitVec 32 := Scalar.muli arg13 c16_i32
  let v1540 : Index := Scalar.indexCast v1241
  let c0_1066 : Index := 0#32
  let c0_1067 : Index := 0#32
  ![1, 0, v1540.toNat, 0, 0]
def k0_off26 (k0_t1 : Fin k0_t1_loop.trips) : Fin 3 → Nat :=
  let c24_1077 : Index := 24#32
  let c0_i32_936 : BitVec 32 := 0#32
  let c1_i32_937 : BitVec 32 := 1#32
  let arg13 : BitVec 32 := Scf.iv c0_i32_936 c1_i32_937 k0_t1
  let c8_i32_1076 : BitVec 32 := 8#32
  let v1571 : BitVec 32 := Scalar.muli arg13 c8_i32_1076
  let v1572 : Index := Scalar.indexCast v1571
  let c0_1078 : Index := 0#32
  ![24, v1572.toNat, 0]
def k0_off27 (k0_t1 : Fin k0_t1_loop.trips) : Fin 3 → Nat :=
  let c24_1084 : Index := 24#32
  let c0_i32_936 : BitVec 32 := 0#32
  let c1_i32_937 : BitVec 32 := 1#32
  let arg13 : BitVec 32 := Scf.iv c0_i32_936 c1_i32_937 k0_t1
  let c8_i32_1083 : BitVec 32 := 8#32
  let v1587 : BitVec 32 := Scalar.muli arg13 c8_i32_1083
  let v1588 : Index := Scalar.indexCast v1587
  let c128_1085 : Index := 128#32
  ![24, v1588.toNat, 128]
def k0_off28 (k0_t1 : Fin k0_t1_loop.trips) : Fin 3 → Nat :=
  let c25_1091 : Index := 25#32
  let c0_i32_936 : BitVec 32 := 0#32
  let c1_i32_937 : BitVec 32 := 1#32
  let arg13 : BitVec 32 := Scf.iv c0_i32_936 c1_i32_937 k0_t1
  let c8_i32_1090 : BitVec 32 := 8#32
  let v1603 : BitVec 32 := Scalar.muli arg13 c8_i32_1090
  let v1604 : Index := Scalar.indexCast v1603
  let c0_1092 : Index := 0#32
  ![25, v1604.toNat, 0]
def k0_off29 (k0_t1 : Fin k0_t1_loop.trips) : Fin 3 → Nat :=
  let c25_1098 : Index := 25#32
  let c0_i32_936 : BitVec 32 := 0#32
  let c1_i32_937 : BitVec 32 := 1#32
  let arg13 : BitVec 32 := Scf.iv c0_i32_936 c1_i32_937 k0_t1
  let c8_i32_1097 : BitVec 32 := 8#32
  let v1619 : BitVec 32 := Scalar.muli arg13 c8_i32_1097
  let v1620 : Index := Scalar.indexCast v1619
  let c128_1099 : Index := 128#32
  ![25, v1620.toNat, 128]
def k0_off30 (k0_t1 : Fin k0_t1_loop.trips) : Fin 3 → Nat :=
  let c26_1105 : Index := 26#32
  let c0_i32_936 : BitVec 32 := 0#32
  let c1_i32_937 : BitVec 32 := 1#32
  let arg13 : BitVec 32 := Scf.iv c0_i32_936 c1_i32_937 k0_t1
  let c8_i32_1104 : BitVec 32 := 8#32
  let v1635 : BitVec 32 := Scalar.muli arg13 c8_i32_1104
  let v1636 : Index := Scalar.indexCast v1635
  let c0_1106 : Index := 0#32
  ![26, v1636.toNat, 0]
def k0_off31 (k0_t1 : Fin k0_t1_loop.trips) : Fin 3 → Nat :=
  let c26_1112 : Index := 26#32
  let c0_i32_936 : BitVec 32 := 0#32
  let c1_i32_937 : BitVec 32 := 1#32
  let arg13 : BitVec 32 := Scf.iv c0_i32_936 c1_i32_937 k0_t1
  let c8_i32_1111 : BitVec 32 := 8#32
  let v1651 : BitVec 32 := Scalar.muli arg13 c8_i32_1111
  let v1652 : Index := Scalar.indexCast v1651
  let c128_1113 : Index := 128#32
  ![26, v1652.toNat, 128]
def k0_off32 (k0_t1 : Fin k0_t1_loop.trips) : Fin 3 → Nat :=
  let c27_1119 : Index := 27#32
  let c0_i32_936 : BitVec 32 := 0#32
  let c1_i32_937 : BitVec 32 := 1#32
  let arg13 : BitVec 32 := Scf.iv c0_i32_936 c1_i32_937 k0_t1
  let c8_i32_1118 : BitVec 32 := 8#32
  let v1667 : BitVec 32 := Scalar.muli arg13 c8_i32_1118
  let v1668 : Index := Scalar.indexCast v1667
  let c0_1120 : Index := 0#32
  ![27, v1668.toNat, 0]
def k0_off33 (k0_t1 : Fin k0_t1_loop.trips) : Fin 3 → Nat :=
  let c27_1126 : Index := 27#32
  let c0_i32_936 : BitVec 32 := 0#32
  let c1_i32_937 : BitVec 32 := 1#32
  let arg13 : BitVec 32 := Scf.iv c0_i32_936 c1_i32_937 k0_t1
  let c8_i32_1125 : BitVec 32 := 8#32
  let v1683 : BitVec 32 := Scalar.muli arg13 c8_i32_1125
  let v1684 : Index := Scalar.indexCast v1683
  let c128_1127 : Index := 128#32
  ![27, v1684.toNat, 128]
def k0_off34 (k0_t1 : Fin k0_t1_loop.trips) : Fin 3 → Nat :=
  let c36_1141 : Index := 36#32
  let c0_i32_936 : BitVec 32 := 0#32
  let c1_i32_937 : BitVec 32 := 1#32
  let arg13 : BitVec 32 := Scf.iv c0_i32_936 c1_i32_937 k0_t1
  let c8_i32_1140 : BitVec 32 := 8#32
  let v1719 : BitVec 32 := Scalar.muli arg13 c8_i32_1140
  let v1720 : Index := Scalar.indexCast v1719
  let c0_1142 : Index := 0#32
  ![36, v1720.toNat, 0]
def k0_off35 (k0_t1 : Fin k0_t1_loop.trips) : Fin 3 → Nat :=
  let c36_1148 : Index := 36#32
  let c0_i32_936 : BitVec 32 := 0#32
  let c1_i32_937 : BitVec 32 := 1#32
  let arg13 : BitVec 32 := Scf.iv c0_i32_936 c1_i32_937 k0_t1
  let c8_i32_1147 : BitVec 32 := 8#32
  let v1735 : BitVec 32 := Scalar.muli arg13 c8_i32_1147
  let v1736 : Index := Scalar.indexCast v1735
  let c128_1149 : Index := 128#32
  ![36, v1736.toNat, 128]
def k0_off36 (k0_t1 : Fin k0_t1_loop.trips) : Fin 3 → Nat :=
  let c37_1155 : Index := 37#32
  let c0_i32_936 : BitVec 32 := 0#32
  let c1_i32_937 : BitVec 32 := 1#32
  let arg13 : BitVec 32 := Scf.iv c0_i32_936 c1_i32_937 k0_t1
  let c8_i32_1154 : BitVec 32 := 8#32
  let v1751 : BitVec 32 := Scalar.muli arg13 c8_i32_1154
  let v1752 : Index := Scalar.indexCast v1751
  let c0_1156 : Index := 0#32
  ![37, v1752.toNat, 0]
def k0_off37 (k0_t1 : Fin k0_t1_loop.trips) : Fin 3 → Nat :=
  let c37_1162 : Index := 37#32
  let c0_i32_936 : BitVec 32 := 0#32
  let c1_i32_937 : BitVec 32 := 1#32
  let arg13 : BitVec 32 := Scf.iv c0_i32_936 c1_i32_937 k0_t1
  let c8_i32_1161 : BitVec 32 := 8#32
  let v1767 : BitVec 32 := Scalar.muli arg13 c8_i32_1161
  let v1768 : Index := Scalar.indexCast v1767
  let c128_1163 : Index := 128#32
  ![37, v1768.toNat, 128]
def k0_off38 (k0_t1 : Fin k0_t1_loop.trips) : Fin 3 → Nat :=
  let c38_1169 : Index := 38#32
  let c0_i32_936 : BitVec 32 := 0#32
  let c1_i32_937 : BitVec 32 := 1#32
  let arg13 : BitVec 32 := Scf.iv c0_i32_936 c1_i32_937 k0_t1
  let c8_i32_1168 : BitVec 32 := 8#32
  let v1783 : BitVec 32 := Scalar.muli arg13 c8_i32_1168
  let v1784 : Index := Scalar.indexCast v1783
  let c0_1170 : Index := 0#32
  ![38, v1784.toNat, 0]
def k0_off39 (k0_t1 : Fin k0_t1_loop.trips) : Fin 3 → Nat :=
  let c38_1176 : Index := 38#32
  let c0_i32_936 : BitVec 32 := 0#32
  let c1_i32_937 : BitVec 32 := 1#32
  let arg13 : BitVec 32 := Scf.iv c0_i32_936 c1_i32_937 k0_t1
  let c8_i32_1175 : BitVec 32 := 8#32
  let v1799 : BitVec 32 := Scalar.muli arg13 c8_i32_1175
  let v1800 : Index := Scalar.indexCast v1799
  let c128_1177 : Index := 128#32
  ![38, v1800.toNat, 128]
def k0_off40 (k0_t1 : Fin k0_t1_loop.trips) : Fin 3 → Nat :=
  let c39_1183 : Index := 39#32
  let c0_i32_936 : BitVec 32 := 0#32
  let c1_i32_937 : BitVec 32 := 1#32
  let arg13 : BitVec 32 := Scf.iv c0_i32_936 c1_i32_937 k0_t1
  let c8_i32_1182 : BitVec 32 := 8#32
  let v1815 : BitVec 32 := Scalar.muli arg13 c8_i32_1182
  let v1816 : Index := Scalar.indexCast v1815
  let c0_1184 : Index := 0#32
  ![39, v1816.toNat, 0]
def k0_off41 (k0_t1 : Fin k0_t1_loop.trips) : Fin 3 → Nat :=
  let c39_1190 : Index := 39#32
  let c0_i32_936 : BitVec 32 := 0#32
  let c1_i32_937 : BitVec 32 := 1#32
  let arg13 : BitVec 32 := Scf.iv c0_i32_936 c1_i32_937 k0_t1
  let c8_i32_1189 : BitVec 32 := 8#32
  let v1831 : BitVec 32 := Scalar.muli arg13 c8_i32_1189
  let v1832 : Index := Scalar.indexCast v1831
  let c128_1191 : Index := 128#32
  ![39, v1832.toNat, 128]
def k0_off42 (k0_t1 : Fin k0_t1_loop.trips) : Fin 2 → Nat :=
  let c0_i32_936 : BitVec 32 := 0#32
  let c1_i32_937 : BitVec 32 := 1#32
  let arg13 : BitVec 32 := Scf.iv c0_i32_936 c1_i32_937 k0_t1
  let c16_i32 : BitVec 32 := 16#32
  let v1241 : BitVec 32 := Scalar.muli arg13 c16_i32
  let v1836 : Index := Scalar.indexCast v1241
  let c128_1192 : Index := 128#32
  ![v1836.toNat, 128]
def k0_off43 (k0_t1 : Fin k0_t1_loop.trips) : Fin 5 → Nat :=
  let c0_1193 : Index := 0#32
  let c1_1194 : Index := 1#32
  let c0_i32_936 : BitVec 32 := 0#32
  let c1_i32_937 : BitVec 32 := 1#32
  let arg13 : BitVec 32 := Scf.iv c0_i32_936 c1_i32_937 k0_t1
  let c16_i32 : BitVec 32 := 16#32
  let v1241 : BitVec 32 := Scalar.muli arg13 c16_i32
  let v1838 : Index := Scalar.indexCast v1241
  let c0_1195 : Index := 0#32
  let c0_1196 : Index := 0#32
  ![0, 1, v1838.toNat, 0, 0]
def k0_off44 (k0_t1 : Fin k0_t1_loop.trips) : Fin 3 → Nat :=
  let c4_1206 : Index := 4#32
  let c0_i32_936 : BitVec 32 := 0#32
  let c1_i32_937 : BitVec 32 := 1#32
  let arg13 : BitVec 32 := Scf.iv c0_i32_936 c1_i32_937 k0_t1
  let c8_i32_1205 : BitVec 32 := 8#32
  let v1869 : BitVec 32 := Scalar.muli arg13 c8_i32_1205
  let v1870 : Index := Scalar.indexCast v1869
  let c0_1207 : Index := 0#32
  ![4, v1870.toNat, 0]
def k0_off45 (k0_t1 : Fin k0_t1_loop.trips) : Fin 3 → Nat :=
  let c4_1213 : Index := 4#32
  let c0_i32_936 : BitVec 32 := 0#32
  let c1_i32_937 : BitVec 32 := 1#32
  let arg13 : BitVec 32 := Scf.iv c0_i32_936 c1_i32_937 k0_t1
  let c8_i32_1212 : BitVec 32 := 8#32
  let v1885 : BitVec 32 := Scalar.muli arg13 c8_i32_1212
  let v1886 : Index := Scalar.indexCast v1885
  let c128_1214 : Index := 128#32
  ![4, v1886.toNat, 128]
def k0_off46 (k0_t1 : Fin k0_t1_loop.trips) : Fin 3 → Nat :=
  let c5_1220 : Index := 5#32
  let c0_i32_936 : BitVec 32 := 0#32
  let c1_i32_937 : BitVec 32 := 1#32
  let arg13 : BitVec 32 := Scf.iv c0_i32_936 c1_i32_937 k0_t1
  let c8_i32_1219 : BitVec 32 := 8#32
  let v1901 : BitVec 32 := Scalar.muli arg13 c8_i32_1219
  let v1902 : Index := Scalar.indexCast v1901
  let c0_1221 : Index := 0#32
  ![5, v1902.toNat, 0]
def k0_off47 (k0_t1 : Fin k0_t1_loop.trips) : Fin 3 → Nat :=
  let c5_1227 : Index := 5#32
  let c0_i32_936 : BitVec 32 := 0#32
  let c1_i32_937 : BitVec 32 := 1#32
  let arg13 : BitVec 32 := Scf.iv c0_i32_936 c1_i32_937 k0_t1
  let c8_i32_1226 : BitVec 32 := 8#32
  let v1917 : BitVec 32 := Scalar.muli arg13 c8_i32_1226
  let v1918 : Index := Scalar.indexCast v1917
  let c128_1228 : Index := 128#32
  ![5, v1918.toNat, 128]
def k0_off48 (k0_t1 : Fin k0_t1_loop.trips) : Fin 3 → Nat :=
  let c6_1234 : Index := 6#32
  let c0_i32_936 : BitVec 32 := 0#32
  let c1_i32_937 : BitVec 32 := 1#32
  let arg13 : BitVec 32 := Scf.iv c0_i32_936 c1_i32_937 k0_t1
  let c8_i32_1233 : BitVec 32 := 8#32
  let v1933 : BitVec 32 := Scalar.muli arg13 c8_i32_1233
  let v1934 : Index := Scalar.indexCast v1933
  let c0_1235 : Index := 0#32
  ![6, v1934.toNat, 0]
def k0_off49 (k0_t1 : Fin k0_t1_loop.trips) : Fin 3 → Nat :=
  let c6_1241 : Index := 6#32
  let c0_i32_936 : BitVec 32 := 0#32
  let c1_i32_937 : BitVec 32 := 1#32
  let arg13 : BitVec 32 := Scf.iv c0_i32_936 c1_i32_937 k0_t1
  let c8_i32_1240 : BitVec 32 := 8#32
  let v1949 : BitVec 32 := Scalar.muli arg13 c8_i32_1240
  let v1950 : Index := Scalar.indexCast v1949
  let c128_1242 : Index := 128#32
  ![6, v1950.toNat, 128]
def k0_off50 (k0_t1 : Fin k0_t1_loop.trips) : Fin 3 → Nat :=
  let c7_1248 : Index := 7#32
  let c0_i32_936 : BitVec 32 := 0#32
  let c1_i32_937 : BitVec 32 := 1#32
  let arg13 : BitVec 32 := Scf.iv c0_i32_936 c1_i32_937 k0_t1
  let c8_i32_1247 : BitVec 32 := 8#32
  let v1965 : BitVec 32 := Scalar.muli arg13 c8_i32_1247
  let v1966 : Index := Scalar.indexCast v1965
  let c0_1249 : Index := 0#32
  ![7, v1966.toNat, 0]
def k0_off51 (k0_t1 : Fin k0_t1_loop.trips) : Fin 3 → Nat :=
  let c7_1255 : Index := 7#32
  let c0_i32_936 : BitVec 32 := 0#32
  let c1_i32_937 : BitVec 32 := 1#32
  let arg13 : BitVec 32 := Scf.iv c0_i32_936 c1_i32_937 k0_t1
  let c8_i32_1254 : BitVec 32 := 8#32
  let v1981 : BitVec 32 := Scalar.muli arg13 c8_i32_1254
  let v1982 : Index := Scalar.indexCast v1981
  let c128_1256 : Index := 128#32
  ![7, v1982.toNat, 128]
def k0_off52 (k0_t1 : Fin k0_t1_loop.trips) : Fin 3 → Nat :=
  let c16_1270 : Index := 16#32
  let c0_i32_936 : BitVec 32 := 0#32
  let c1_i32_937 : BitVec 32 := 1#32
  let arg13 : BitVec 32 := Scf.iv c0_i32_936 c1_i32_937 k0_t1
  let c8_i32_1269 : BitVec 32 := 8#32
  let v2017 : BitVec 32 := Scalar.muli arg13 c8_i32_1269
  let v2018 : Index := Scalar.indexCast v2017
  let c0_1271 : Index := 0#32
  ![16, v2018.toNat, 0]
def k0_off53 (k0_t1 : Fin k0_t1_loop.trips) : Fin 3 → Nat :=
  let c16_1277 : Index := 16#32
  let c0_i32_936 : BitVec 32 := 0#32
  let c1_i32_937 : BitVec 32 := 1#32
  let arg13 : BitVec 32 := Scf.iv c0_i32_936 c1_i32_937 k0_t1
  let c8_i32_1276 : BitVec 32 := 8#32
  let v2033 : BitVec 32 := Scalar.muli arg13 c8_i32_1276
  let v2034 : Index := Scalar.indexCast v2033
  let c128_1278 : Index := 128#32
  ![16, v2034.toNat, 128]
def k0_off54 (k0_t1 : Fin k0_t1_loop.trips) : Fin 3 → Nat :=
  let c17_1284 : Index := 17#32
  let c0_i32_936 : BitVec 32 := 0#32
  let c1_i32_937 : BitVec 32 := 1#32
  let arg13 : BitVec 32 := Scf.iv c0_i32_936 c1_i32_937 k0_t1
  let c8_i32_1283 : BitVec 32 := 8#32
  let v2049 : BitVec 32 := Scalar.muli arg13 c8_i32_1283
  let v2050 : Index := Scalar.indexCast v2049
  let c0_1285 : Index := 0#32
  ![17, v2050.toNat, 0]
def k0_off55 (k0_t1 : Fin k0_t1_loop.trips) : Fin 3 → Nat :=
  let c17_1291 : Index := 17#32
  let c0_i32_936 : BitVec 32 := 0#32
  let c1_i32_937 : BitVec 32 := 1#32
  let arg13 : BitVec 32 := Scf.iv c0_i32_936 c1_i32_937 k0_t1
  let c8_i32_1290 : BitVec 32 := 8#32
  let v2065 : BitVec 32 := Scalar.muli arg13 c8_i32_1290
  let v2066 : Index := Scalar.indexCast v2065
  let c128_1292 : Index := 128#32
  ![17, v2066.toNat, 128]
def k0_off56 (k0_t1 : Fin k0_t1_loop.trips) : Fin 3 → Nat :=
  let c18_1298 : Index := 18#32
  let c0_i32_936 : BitVec 32 := 0#32
  let c1_i32_937 : BitVec 32 := 1#32
  let arg13 : BitVec 32 := Scf.iv c0_i32_936 c1_i32_937 k0_t1
  let c8_i32_1297 : BitVec 32 := 8#32
  let v2081 : BitVec 32 := Scalar.muli arg13 c8_i32_1297
  let v2082 : Index := Scalar.indexCast v2081
  let c0_1299 : Index := 0#32
  ![18, v2082.toNat, 0]
def k0_off57 (k0_t1 : Fin k0_t1_loop.trips) : Fin 3 → Nat :=
  let c18_1305 : Index := 18#32
  let c0_i32_936 : BitVec 32 := 0#32
  let c1_i32_937 : BitVec 32 := 1#32
  let arg13 : BitVec 32 := Scf.iv c0_i32_936 c1_i32_937 k0_t1
  let c8_i32_1304 : BitVec 32 := 8#32
  let v2097 : BitVec 32 := Scalar.muli arg13 c8_i32_1304
  let v2098 : Index := Scalar.indexCast v2097
  let c128_1306 : Index := 128#32
  ![18, v2098.toNat, 128]
def k0_off58 (k0_t1 : Fin k0_t1_loop.trips) : Fin 3 → Nat :=
  let c19_1312 : Index := 19#32
  let c0_i32_936 : BitVec 32 := 0#32
  let c1_i32_937 : BitVec 32 := 1#32
  let arg13 : BitVec 32 := Scf.iv c0_i32_936 c1_i32_937 k0_t1
  let c8_i32_1311 : BitVec 32 := 8#32
  let v2113 : BitVec 32 := Scalar.muli arg13 c8_i32_1311
  let v2114 : Index := Scalar.indexCast v2113
  let c0_1313 : Index := 0#32
  ![19, v2114.toNat, 0]
def k0_off59 (k0_t1 : Fin k0_t1_loop.trips) : Fin 3 → Nat :=
  let c19_1319 : Index := 19#32
  let c0_i32_936 : BitVec 32 := 0#32
  let c1_i32_937 : BitVec 32 := 1#32
  let arg13 : BitVec 32 := Scf.iv c0_i32_936 c1_i32_937 k0_t1
  let c8_i32_1318 : BitVec 32 := 8#32
  let v2129 : BitVec 32 := Scalar.muli arg13 c8_i32_1318
  let v2130 : Index := Scalar.indexCast v2129
  let c128_1320 : Index := 128#32
  ![19, v2130.toNat, 128]
def k0_off60 (k0_t1 : Fin k0_t1_loop.trips) : Fin 5 → Nat :=
  let c1_1321 : Index := 1#32
  let c1_1322 : Index := 1#32
  let c0_i32_936 : BitVec 32 := 0#32
  let c1_i32_937 : BitVec 32 := 1#32
  let arg13 : BitVec 32 := Scf.iv c0_i32_936 c1_i32_937 k0_t1
  let c16_i32 : BitVec 32 := 16#32
  let v1241 : BitVec 32 := Scalar.muli arg13 c16_i32
  let v2134 : Index := Scalar.indexCast v1241
  let c0_1323 : Index := 0#32
  let c0_1324 : Index := 0#32
  ![1, 1, v2134.toNat, 0, 0]
def k0_off61 (k0_t1 : Fin k0_t1_loop.trips) : Fin 3 → Nat :=
  let c28_1334 : Index := 28#32
  let c0_i32_936 : BitVec 32 := 0#32
  let c1_i32_937 : BitVec 32 := 1#32
  let arg13 : BitVec 32 := Scf.iv c0_i32_936 c1_i32_937 k0_t1
  let c8_i32_1333 : BitVec 32 := 8#32
  let v2165 : BitVec 32 := Scalar.muli arg13 c8_i32_1333
  let v2166 : Index := Scalar.indexCast v2165
  let c0_1335 : Index := 0#32
  ![28, v2166.toNat, 0]
def k0_off62 (k0_t1 : Fin k0_t1_loop.trips) : Fin 3 → Nat :=
  let c28_1341 : Index := 28#32
  let c0_i32_936 : BitVec 32 := 0#32
  let c1_i32_937 : BitVec 32 := 1#32
  let arg13 : BitVec 32 := Scf.iv c0_i32_936 c1_i32_937 k0_t1
  let c8_i32_1340 : BitVec 32 := 8#32
  let v2181 : BitVec 32 := Scalar.muli arg13 c8_i32_1340
  let v2182 : Index := Scalar.indexCast v2181
  let c128_1342 : Index := 128#32
  ![28, v2182.toNat, 128]
def k0_off63 (k0_t1 : Fin k0_t1_loop.trips) : Fin 3 → Nat :=
  let c29_1348 : Index := 29#32
  let c0_i32_936 : BitVec 32 := 0#32
  let c1_i32_937 : BitVec 32 := 1#32
  let arg13 : BitVec 32 := Scf.iv c0_i32_936 c1_i32_937 k0_t1
  let c8_i32_1347 : BitVec 32 := 8#32
  let v2197 : BitVec 32 := Scalar.muli arg13 c8_i32_1347
  let v2198 : Index := Scalar.indexCast v2197
  let c0_1349 : Index := 0#32
  ![29, v2198.toNat, 0]
def k0_off64 (k0_t1 : Fin k0_t1_loop.trips) : Fin 3 → Nat :=
  let c29_1355 : Index := 29#32
  let c0_i32_936 : BitVec 32 := 0#32
  let c1_i32_937 : BitVec 32 := 1#32
  let arg13 : BitVec 32 := Scf.iv c0_i32_936 c1_i32_937 k0_t1
  let c8_i32_1354 : BitVec 32 := 8#32
  let v2213 : BitVec 32 := Scalar.muli arg13 c8_i32_1354
  let v2214 : Index := Scalar.indexCast v2213
  let c128_1356 : Index := 128#32
  ![29, v2214.toNat, 128]
def k0_off65 (k0_t1 : Fin k0_t1_loop.trips) : Fin 3 → Nat :=
  let c30_1362 : Index := 30#32
  let c0_i32_936 : BitVec 32 := 0#32
  let c1_i32_937 : BitVec 32 := 1#32
  let arg13 : BitVec 32 := Scf.iv c0_i32_936 c1_i32_937 k0_t1
  let c8_i32_1361 : BitVec 32 := 8#32
  let v2229 : BitVec 32 := Scalar.muli arg13 c8_i32_1361
  let v2230 : Index := Scalar.indexCast v2229
  let c0_1363 : Index := 0#32
  ![30, v2230.toNat, 0]
def k0_off66 (k0_t1 : Fin k0_t1_loop.trips) : Fin 3 → Nat :=
  let c30_1369 : Index := 30#32
  let c0_i32_936 : BitVec 32 := 0#32
  let c1_i32_937 : BitVec 32 := 1#32
  let arg13 : BitVec 32 := Scf.iv c0_i32_936 c1_i32_937 k0_t1
  let c8_i32_1368 : BitVec 32 := 8#32
  let v2245 : BitVec 32 := Scalar.muli arg13 c8_i32_1368
  let v2246 : Index := Scalar.indexCast v2245
  let c128_1370 : Index := 128#32
  ![30, v2246.toNat, 128]
def k0_off67 (k0_t1 : Fin k0_t1_loop.trips) : Fin 3 → Nat :=
  let c31_1376 : Index := 31#32
  let c0_i32_936 : BitVec 32 := 0#32
  let c1_i32_937 : BitVec 32 := 1#32
  let arg13 : BitVec 32 := Scf.iv c0_i32_936 c1_i32_937 k0_t1
  let c8_i32_1375 : BitVec 32 := 8#32
  let v2261 : BitVec 32 := Scalar.muli arg13 c8_i32_1375
  let v2262 : Index := Scalar.indexCast v2261
  let c0_1377 : Index := 0#32
  ![31, v2262.toNat, 0]
def k0_off68 (k0_t1 : Fin k0_t1_loop.trips) : Fin 3 → Nat :=
  let c31_1383 : Index := 31#32
  let c0_i32_936 : BitVec 32 := 0#32
  let c1_i32_937 : BitVec 32 := 1#32
  let arg13 : BitVec 32 := Scf.iv c0_i32_936 c1_i32_937 k0_t1
  let c8_i32_1382 : BitVec 32 := 8#32
  let v2277 : BitVec 32 := Scalar.muli arg13 c8_i32_1382
  let v2278 : Index := Scalar.indexCast v2277
  let c128_1384 : Index := 128#32
  ![31, v2278.toNat, 128]
def k0_off69 (k0_t1 : Fin k0_t1_loop.trips) : Fin 3 → Nat :=
  let c40_1398 : Index := 40#32
  let c0_i32_936 : BitVec 32 := 0#32
  let c1_i32_937 : BitVec 32 := 1#32
  let arg13 : BitVec 32 := Scf.iv c0_i32_936 c1_i32_937 k0_t1
  let c8_i32_1397 : BitVec 32 := 8#32
  let v2313 : BitVec 32 := Scalar.muli arg13 c8_i32_1397
  let v2314 : Index := Scalar.indexCast v2313
  let c0_1399 : Index := 0#32
  ![40, v2314.toNat, 0]
def k0_off70 (k0_t1 : Fin k0_t1_loop.trips) : Fin 3 → Nat :=
  let c40_1405 : Index := 40#32
  let c0_i32_936 : BitVec 32 := 0#32
  let c1_i32_937 : BitVec 32 := 1#32
  let arg13 : BitVec 32 := Scf.iv c0_i32_936 c1_i32_937 k0_t1
  let c8_i32_1404 : BitVec 32 := 8#32
  let v2329 : BitVec 32 := Scalar.muli arg13 c8_i32_1404
  let v2330 : Index := Scalar.indexCast v2329
  let c128_1406 : Index := 128#32
  ![40, v2330.toNat, 128]
def k0_off71 (k0_t1 : Fin k0_t1_loop.trips) : Fin 3 → Nat :=
  let c41_1412 : Index := 41#32
  let c0_i32_936 : BitVec 32 := 0#32
  let c1_i32_937 : BitVec 32 := 1#32
  let arg13 : BitVec 32 := Scf.iv c0_i32_936 c1_i32_937 k0_t1
  let c8_i32_1411 : BitVec 32 := 8#32
  let v2345 : BitVec 32 := Scalar.muli arg13 c8_i32_1411
  let v2346 : Index := Scalar.indexCast v2345
  let c0_1413 : Index := 0#32
  ![41, v2346.toNat, 0]
def k0_off72 (k0_t1 : Fin k0_t1_loop.trips) : Fin 3 → Nat :=
  let c41_1419 : Index := 41#32
  let c0_i32_936 : BitVec 32 := 0#32
  let c1_i32_937 : BitVec 32 := 1#32
  let arg13 : BitVec 32 := Scf.iv c0_i32_936 c1_i32_937 k0_t1
  let c8_i32_1418 : BitVec 32 := 8#32
  let v2361 : BitVec 32 := Scalar.muli arg13 c8_i32_1418
  let v2362 : Index := Scalar.indexCast v2361
  let c128_1420 : Index := 128#32
  ![41, v2362.toNat, 128]
def k0_off73 (k0_t1 : Fin k0_t1_loop.trips) : Fin 3 → Nat :=
  let c42_1426 : Index := 42#32
  let c0_i32_936 : BitVec 32 := 0#32
  let c1_i32_937 : BitVec 32 := 1#32
  let arg13 : BitVec 32 := Scf.iv c0_i32_936 c1_i32_937 k0_t1
  let c8_i32_1425 : BitVec 32 := 8#32
  let v2377 : BitVec 32 := Scalar.muli arg13 c8_i32_1425
  let v2378 : Index := Scalar.indexCast v2377
  let c0_1427 : Index := 0#32
  ![42, v2378.toNat, 0]
def k0_off74 (k0_t1 : Fin k0_t1_loop.trips) : Fin 3 → Nat :=
  let c42_1433 : Index := 42#32
  let c0_i32_936 : BitVec 32 := 0#32
  let c1_i32_937 : BitVec 32 := 1#32
  let arg13 : BitVec 32 := Scf.iv c0_i32_936 c1_i32_937 k0_t1
  let c8_i32_1432 : BitVec 32 := 8#32
  let v2393 : BitVec 32 := Scalar.muli arg13 c8_i32_1432
  let v2394 : Index := Scalar.indexCast v2393
  let c128_1434 : Index := 128#32
  ![42, v2394.toNat, 128]
def k0_off75 (k0_t1 : Fin k0_t1_loop.trips) : Fin 3 → Nat :=
  let c43_1440 : Index := 43#32
  let c0_i32_936 : BitVec 32 := 0#32
  let c1_i32_937 : BitVec 32 := 1#32
  let arg13 : BitVec 32 := Scf.iv c0_i32_936 c1_i32_937 k0_t1
  let c8_i32_1439 : BitVec 32 := 8#32
  let v2409 : BitVec 32 := Scalar.muli arg13 c8_i32_1439
  let v2410 : Index := Scalar.indexCast v2409
  let c0_1441 : Index := 0#32
  ![43, v2410.toNat, 0]
def k0_off76 (k0_t1 : Fin k0_t1_loop.trips) : Fin 3 → Nat :=
  let c43_1447 : Index := 43#32
  let c0_i32_936 : BitVec 32 := 0#32
  let c1_i32_937 : BitVec 32 := 1#32
  let arg13 : BitVec 32 := Scf.iv c0_i32_936 c1_i32_937 k0_t1
  let c8_i32_1446 : BitVec 32 := 8#32
  let v2425 : BitVec 32 := Scalar.muli arg13 c8_i32_1446
  let v2426 : Index := Scalar.indexCast v2425
  let c128_1448 : Index := 128#32
  ![43, v2426.toNat, 128]
def k0_off77 (k0_t1 : Fin k0_t1_loop.trips) : Fin 2 → Nat :=
  let c0_i32_936 : BitVec 32 := 0#32
  let c1_i32_937 : BitVec 32 := 1#32
  let arg13 : BitVec 32 := Scf.iv c0_i32_936 c1_i32_937 k0_t1
  let c16_i32 : BitVec 32 := 16#32
  let v1241 : BitVec 32 := Scalar.muli arg13 c16_i32
  let v2430 : Index := Scalar.indexCast v1241
  let c256_1449 : Index := 256#32
  ![v2430.toNat, 256]
def k0_off78 (k0_t1 : Fin k0_t1_loop.trips) : Fin 5 → Nat :=
  let c0_1450 : Index := 0#32
  let c2_1451 : Index := 2#32
  let c0_i32_936 : BitVec 32 := 0#32
  let c1_i32_937 : BitVec 32 := 1#32
  let arg13 : BitVec 32 := Scf.iv c0_i32_936 c1_i32_937 k0_t1
  let c16_i32 : BitVec 32 := 16#32
  let v1241 : BitVec 32 := Scalar.muli arg13 c16_i32
  let v2432 : Index := Scalar.indexCast v1241
  let c0_1452 : Index := 0#32
  let c0_1453 : Index := 0#32
  ![0, 2, v2432.toNat, 0, 0]
def k0_off79 (k0_t1 : Fin k0_t1_loop.trips) : Fin 3 → Nat :=
  let c8_1463 : Index := 8#32
  let c0_i32_936 : BitVec 32 := 0#32
  let c1_i32_937 : BitVec 32 := 1#32
  let arg13 : BitVec 32 := Scf.iv c0_i32_936 c1_i32_937 k0_t1
  let c8_i32_1462 : BitVec 32 := 8#32
  let v2463 : BitVec 32 := Scalar.muli arg13 c8_i32_1462
  let v2464 : Index := Scalar.indexCast v2463
  let c0_1464 : Index := 0#32
  ![8, v2464.toNat, 0]
def k0_off80 (k0_t1 : Fin k0_t1_loop.trips) : Fin 3 → Nat :=
  let c8_1470 : Index := 8#32
  let c0_i32_936 : BitVec 32 := 0#32
  let c1_i32_937 : BitVec 32 := 1#32
  let arg13 : BitVec 32 := Scf.iv c0_i32_936 c1_i32_937 k0_t1
  let c8_i32_1469 : BitVec 32 := 8#32
  let v2479 : BitVec 32 := Scalar.muli arg13 c8_i32_1469
  let v2480 : Index := Scalar.indexCast v2479
  let c128_1471 : Index := 128#32
  ![8, v2480.toNat, 128]
def k0_off81 (k0_t1 : Fin k0_t1_loop.trips) : Fin 3 → Nat :=
  let c9_1477 : Index := 9#32
  let c0_i32_936 : BitVec 32 := 0#32
  let c1_i32_937 : BitVec 32 := 1#32
  let arg13 : BitVec 32 := Scf.iv c0_i32_936 c1_i32_937 k0_t1
  let c8_i32_1476 : BitVec 32 := 8#32
  let v2495 : BitVec 32 := Scalar.muli arg13 c8_i32_1476
  let v2496 : Index := Scalar.indexCast v2495
  let c0_1478 : Index := 0#32
  ![9, v2496.toNat, 0]
def k0_off82 (k0_t1 : Fin k0_t1_loop.trips) : Fin 3 → Nat :=
  let c9_1484 : Index := 9#32
  let c0_i32_936 : BitVec 32 := 0#32
  let c1_i32_937 : BitVec 32 := 1#32
  let arg13 : BitVec 32 := Scf.iv c0_i32_936 c1_i32_937 k0_t1
  let c8_i32_1483 : BitVec 32 := 8#32
  let v2511 : BitVec 32 := Scalar.muli arg13 c8_i32_1483
  let v2512 : Index := Scalar.indexCast v2511
  let c128_1485 : Index := 128#32
  ![9, v2512.toNat, 128]
def k0_off83 (k0_t1 : Fin k0_t1_loop.trips) : Fin 3 → Nat :=
  let c10_1491 : Index := 10#32
  let c0_i32_936 : BitVec 32 := 0#32
  let c1_i32_937 : BitVec 32 := 1#32
  let arg13 : BitVec 32 := Scf.iv c0_i32_936 c1_i32_937 k0_t1
  let c8_i32_1490 : BitVec 32 := 8#32
  let v2527 : BitVec 32 := Scalar.muli arg13 c8_i32_1490
  let v2528 : Index := Scalar.indexCast v2527
  let c0_1492 : Index := 0#32
  ![10, v2528.toNat, 0]
def k0_off84 (k0_t1 : Fin k0_t1_loop.trips) : Fin 3 → Nat :=
  let c10_1498 : Index := 10#32
  let c0_i32_936 : BitVec 32 := 0#32
  let c1_i32_937 : BitVec 32 := 1#32
  let arg13 : BitVec 32 := Scf.iv c0_i32_936 c1_i32_937 k0_t1
  let c8_i32_1497 : BitVec 32 := 8#32
  let v2543 : BitVec 32 := Scalar.muli arg13 c8_i32_1497
  let v2544 : Index := Scalar.indexCast v2543
  let c128_1499 : Index := 128#32
  ![10, v2544.toNat, 128]
def k0_off85 (k0_t1 : Fin k0_t1_loop.trips) : Fin 3 → Nat :=
  let c11_1505 : Index := 11#32
  let c0_i32_936 : BitVec 32 := 0#32
  let c1_i32_937 : BitVec 32 := 1#32
  let arg13 : BitVec 32 := Scf.iv c0_i32_936 c1_i32_937 k0_t1
  let c8_i32_1504 : BitVec 32 := 8#32
  let v2559 : BitVec 32 := Scalar.muli arg13 c8_i32_1504
  let v2560 : Index := Scalar.indexCast v2559
  let c0_1506 : Index := 0#32
  ![11, v2560.toNat, 0]
def k0_off86 (k0_t1 : Fin k0_t1_loop.trips) : Fin 3 → Nat :=
  let c11_1512 : Index := 11#32
  let c0_i32_936 : BitVec 32 := 0#32
  let c1_i32_937 : BitVec 32 := 1#32
  let arg13 : BitVec 32 := Scf.iv c0_i32_936 c1_i32_937 k0_t1
  let c8_i32_1511 : BitVec 32 := 8#32
  let v2575 : BitVec 32 := Scalar.muli arg13 c8_i32_1511
  let v2576 : Index := Scalar.indexCast v2575
  let c128_1513 : Index := 128#32
  ![11, v2576.toNat, 128]
def k0_off87 (k0_t1 : Fin k0_t1_loop.trips) : Fin 3 → Nat :=
  let c20_1527 : Index := 20#32
  let c0_i32_936 : BitVec 32 := 0#32
  let c1_i32_937 : BitVec 32 := 1#32
  let arg13 : BitVec 32 := Scf.iv c0_i32_936 c1_i32_937 k0_t1
  let c8_i32_1526 : BitVec 32 := 8#32
  let v2611 : BitVec 32 := Scalar.muli arg13 c8_i32_1526
  let v2612 : Index := Scalar.indexCast v2611
  let c0_1528 : Index := 0#32
  ![20, v2612.toNat, 0]
def k0_off88 (k0_t1 : Fin k0_t1_loop.trips) : Fin 3 → Nat :=
  let c20_1534 : Index := 20#32
  let c0_i32_936 : BitVec 32 := 0#32
  let c1_i32_937 : BitVec 32 := 1#32
  let arg13 : BitVec 32 := Scf.iv c0_i32_936 c1_i32_937 k0_t1
  let c8_i32_1533 : BitVec 32 := 8#32
  let v2627 : BitVec 32 := Scalar.muli arg13 c8_i32_1533
  let v2628 : Index := Scalar.indexCast v2627
  let c128_1535 : Index := 128#32
  ![20, v2628.toNat, 128]
def k0_off89 (k0_t1 : Fin k0_t1_loop.trips) : Fin 3 → Nat :=
  let c21_1541 : Index := 21#32
  let c0_i32_936 : BitVec 32 := 0#32
  let c1_i32_937 : BitVec 32 := 1#32
  let arg13 : BitVec 32 := Scf.iv c0_i32_936 c1_i32_937 k0_t1
  let c8_i32_1540 : BitVec 32 := 8#32
  let v2643 : BitVec 32 := Scalar.muli arg13 c8_i32_1540
  let v2644 : Index := Scalar.indexCast v2643
  let c0_1542 : Index := 0#32
  ![21, v2644.toNat, 0]
def k0_off90 (k0_t1 : Fin k0_t1_loop.trips) : Fin 3 → Nat :=
  let c21_1548 : Index := 21#32
  let c0_i32_936 : BitVec 32 := 0#32
  let c1_i32_937 : BitVec 32 := 1#32
  let arg13 : BitVec 32 := Scf.iv c0_i32_936 c1_i32_937 k0_t1
  let c8_i32_1547 : BitVec 32 := 8#32
  let v2659 : BitVec 32 := Scalar.muli arg13 c8_i32_1547
  let v2660 : Index := Scalar.indexCast v2659
  let c128_1549 : Index := 128#32
  ![21, v2660.toNat, 128]
def k0_off91 (k0_t1 : Fin k0_t1_loop.trips) : Fin 3 → Nat :=
  let c22_1555 : Index := 22#32
  let c0_i32_936 : BitVec 32 := 0#32
  let c1_i32_937 : BitVec 32 := 1#32
  let arg13 : BitVec 32 := Scf.iv c0_i32_936 c1_i32_937 k0_t1
  let c8_i32_1554 : BitVec 32 := 8#32
  let v2675 : BitVec 32 := Scalar.muli arg13 c8_i32_1554
  let v2676 : Index := Scalar.indexCast v2675
  let c0_1556 : Index := 0#32
  ![22, v2676.toNat, 0]
def k0_off92 (k0_t1 : Fin k0_t1_loop.trips) : Fin 3 → Nat :=
  let c22_1562 : Index := 22#32
  let c0_i32_936 : BitVec 32 := 0#32
  let c1_i32_937 : BitVec 32 := 1#32
  let arg13 : BitVec 32 := Scf.iv c0_i32_936 c1_i32_937 k0_t1
  let c8_i32_1561 : BitVec 32 := 8#32
  let v2691 : BitVec 32 := Scalar.muli arg13 c8_i32_1561
  let v2692 : Index := Scalar.indexCast v2691
  let c128_1563 : Index := 128#32
  ![22, v2692.toNat, 128]
def k0_off93 (k0_t1 : Fin k0_t1_loop.trips) : Fin 3 → Nat :=
  let c23_1569 : Index := 23#32
  let c0_i32_936 : BitVec 32 := 0#32
  let c1_i32_937 : BitVec 32 := 1#32
  let arg13 : BitVec 32 := Scf.iv c0_i32_936 c1_i32_937 k0_t1
  let c8_i32_1568 : BitVec 32 := 8#32
  let v2707 : BitVec 32 := Scalar.muli arg13 c8_i32_1568
  let v2708 : Index := Scalar.indexCast v2707
  let c0_1570 : Index := 0#32
  ![23, v2708.toNat, 0]
def k0_off94 (k0_t1 : Fin k0_t1_loop.trips) : Fin 3 → Nat :=
  let c23_1576 : Index := 23#32
  let c0_i32_936 : BitVec 32 := 0#32
  let c1_i32_937 : BitVec 32 := 1#32
  let arg13 : BitVec 32 := Scf.iv c0_i32_936 c1_i32_937 k0_t1
  let c8_i32_1575 : BitVec 32 := 8#32
  let v2723 : BitVec 32 := Scalar.muli arg13 c8_i32_1575
  let v2724 : Index := Scalar.indexCast v2723
  let c128_1577 : Index := 128#32
  ![23, v2724.toNat, 128]
def k0_off95 (k0_t1 : Fin k0_t1_loop.trips) : Fin 5 → Nat :=
  let c1_1578 : Index := 1#32
  let c2_1579 : Index := 2#32
  let c0_i32_936 : BitVec 32 := 0#32
  let c1_i32_937 : BitVec 32 := 1#32
  let arg13 : BitVec 32 := Scf.iv c0_i32_936 c1_i32_937 k0_t1
  let c16_i32 : BitVec 32 := 16#32
  let v1241 : BitVec 32 := Scalar.muli arg13 c16_i32
  let v2728 : Index := Scalar.indexCast v1241
  let c0_1580 : Index := 0#32
  let c0_1581 : Index := 0#32
  ![1, 2, v2728.toNat, 0, 0]
def k0_off96 (k0_t1 : Fin k0_t1_loop.trips) : Fin 3 → Nat :=
  let c32_1591 : Index := 32#32
  let c0_i32_936 : BitVec 32 := 0#32
  let c1_i32_937 : BitVec 32 := 1#32
  let arg13 : BitVec 32 := Scf.iv c0_i32_936 c1_i32_937 k0_t1
  let c8_i32_1590 : BitVec 32 := 8#32
  let v2759 : BitVec 32 := Scalar.muli arg13 c8_i32_1590
  let v2760 : Index := Scalar.indexCast v2759
  let c0_1592 : Index := 0#32
  ![32, v2760.toNat, 0]
def k0_off97 (k0_t1 : Fin k0_t1_loop.trips) : Fin 3 → Nat :=
  let c32_1598 : Index := 32#32
  let c0_i32_936 : BitVec 32 := 0#32
  let c1_i32_937 : BitVec 32 := 1#32
  let arg13 : BitVec 32 := Scf.iv c0_i32_936 c1_i32_937 k0_t1
  let c8_i32_1597 : BitVec 32 := 8#32
  let v2775 : BitVec 32 := Scalar.muli arg13 c8_i32_1597
  let v2776 : Index := Scalar.indexCast v2775
  let c128_1599 : Index := 128#32
  ![32, v2776.toNat, 128]
def k0_off98 (k0_t1 : Fin k0_t1_loop.trips) : Fin 3 → Nat :=
  let c33_1605 : Index := 33#32
  let c0_i32_936 : BitVec 32 := 0#32
  let c1_i32_937 : BitVec 32 := 1#32
  let arg13 : BitVec 32 := Scf.iv c0_i32_936 c1_i32_937 k0_t1
  let c8_i32_1604 : BitVec 32 := 8#32
  let v2791 : BitVec 32 := Scalar.muli arg13 c8_i32_1604
  let v2792 : Index := Scalar.indexCast v2791
  let c0_1606 : Index := 0#32
  ![33, v2792.toNat, 0]
def k0_off99 (k0_t1 : Fin k0_t1_loop.trips) : Fin 3 → Nat :=
  let c33_1612 : Index := 33#32
  let c0_i32_936 : BitVec 32 := 0#32
  let c1_i32_937 : BitVec 32 := 1#32
  let arg13 : BitVec 32 := Scf.iv c0_i32_936 c1_i32_937 k0_t1
  let c8_i32_1611 : BitVec 32 := 8#32
  let v2807 : BitVec 32 := Scalar.muli arg13 c8_i32_1611
  let v2808 : Index := Scalar.indexCast v2807
  let c128_1613 : Index := 128#32
  ![33, v2808.toNat, 128]
def k0_off100 (k0_t1 : Fin k0_t1_loop.trips) : Fin 3 → Nat :=
  let c34_1619 : Index := 34#32
  let c0_i32_936 : BitVec 32 := 0#32
  let c1_i32_937 : BitVec 32 := 1#32
  let arg13 : BitVec 32 := Scf.iv c0_i32_936 c1_i32_937 k0_t1
  let c8_i32_1618 : BitVec 32 := 8#32
  let v2823 : BitVec 32 := Scalar.muli arg13 c8_i32_1618
  let v2824 : Index := Scalar.indexCast v2823
  let c0_1620 : Index := 0#32
  ![34, v2824.toNat, 0]
def k0_off101 (k0_t1 : Fin k0_t1_loop.trips) : Fin 3 → Nat :=
  let c34_1626 : Index := 34#32
  let c0_i32_936 : BitVec 32 := 0#32
  let c1_i32_937 : BitVec 32 := 1#32
  let arg13 : BitVec 32 := Scf.iv c0_i32_936 c1_i32_937 k0_t1
  let c8_i32_1625 : BitVec 32 := 8#32
  let v2839 : BitVec 32 := Scalar.muli arg13 c8_i32_1625
  let v2840 : Index := Scalar.indexCast v2839
  let c128_1627 : Index := 128#32
  ![34, v2840.toNat, 128]
def k0_off102 (k0_t1 : Fin k0_t1_loop.trips) : Fin 3 → Nat :=
  let c35_1633 : Index := 35#32
  let c0_i32_936 : BitVec 32 := 0#32
  let c1_i32_937 : BitVec 32 := 1#32
  let arg13 : BitVec 32 := Scf.iv c0_i32_936 c1_i32_937 k0_t1
  let c8_i32_1632 : BitVec 32 := 8#32
  let v2855 : BitVec 32 := Scalar.muli arg13 c8_i32_1632
  let v2856 : Index := Scalar.indexCast v2855
  let c0_1634 : Index := 0#32
  ![35, v2856.toNat, 0]
def k0_off103 (k0_t1 : Fin k0_t1_loop.trips) : Fin 3 → Nat :=
  let c35_1640 : Index := 35#32
  let c0_i32_936 : BitVec 32 := 0#32
  let c1_i32_937 : BitVec 32 := 1#32
  let arg13 : BitVec 32 := Scf.iv c0_i32_936 c1_i32_937 k0_t1
  let c8_i32_1639 : BitVec 32 := 8#32
  let v2871 : BitVec 32 := Scalar.muli arg13 c8_i32_1639
  let v2872 : Index := Scalar.indexCast v2871
  let c128_1641 : Index := 128#32
  ![35, v2872.toNat, 128]
def k0_off104 (k0_t1 : Fin k0_t1_loop.trips) : Fin 3 → Nat :=
  let c44_1655 : Index := 44#32
  let c0_i32_936 : BitVec 32 := 0#32
  let c1_i32_937 : BitVec 32 := 1#32
  let arg13 : BitVec 32 := Scf.iv c0_i32_936 c1_i32_937 k0_t1
  let c8_i32_1654 : BitVec 32 := 8#32
  let v2907 : BitVec 32 := Scalar.muli arg13 c8_i32_1654
  let v2908 : Index := Scalar.indexCast v2907
  let c0_1656 : Index := 0#32
  ![44, v2908.toNat, 0]
def k0_off105 (k0_t1 : Fin k0_t1_loop.trips) : Fin 3 → Nat :=
  let c44_1662 : Index := 44#32
  let c0_i32_936 : BitVec 32 := 0#32
  let c1_i32_937 : BitVec 32 := 1#32
  let arg13 : BitVec 32 := Scf.iv c0_i32_936 c1_i32_937 k0_t1
  let c8_i32_1661 : BitVec 32 := 8#32
  let v2923 : BitVec 32 := Scalar.muli arg13 c8_i32_1661
  let v2924 : Index := Scalar.indexCast v2923
  let c128_1663 : Index := 128#32
  ![44, v2924.toNat, 128]
def k0_off106 (k0_t1 : Fin k0_t1_loop.trips) : Fin 3 → Nat :=
  let c45_1669 : Index := 45#32
  let c0_i32_936 : BitVec 32 := 0#32
  let c1_i32_937 : BitVec 32 := 1#32
  let arg13 : BitVec 32 := Scf.iv c0_i32_936 c1_i32_937 k0_t1
  let c8_i32_1668 : BitVec 32 := 8#32
  let v2939 : BitVec 32 := Scalar.muli arg13 c8_i32_1668
  let v2940 : Index := Scalar.indexCast v2939
  let c0_1670 : Index := 0#32
  ![45, v2940.toNat, 0]
def k0_off107 (k0_t1 : Fin k0_t1_loop.trips) : Fin 3 → Nat :=
  let c45_1676 : Index := 45#32
  let c0_i32_936 : BitVec 32 := 0#32
  let c1_i32_937 : BitVec 32 := 1#32
  let arg13 : BitVec 32 := Scf.iv c0_i32_936 c1_i32_937 k0_t1
  let c8_i32_1675 : BitVec 32 := 8#32
  let v2955 : BitVec 32 := Scalar.muli arg13 c8_i32_1675
  let v2956 : Index := Scalar.indexCast v2955
  let c128_1677 : Index := 128#32
  ![45, v2956.toNat, 128]
def k0_off108 (k0_t1 : Fin k0_t1_loop.trips) : Fin 3 → Nat :=
  let c46_1683 : Index := 46#32
  let c0_i32_936 : BitVec 32 := 0#32
  let c1_i32_937 : BitVec 32 := 1#32
  let arg13 : BitVec 32 := Scf.iv c0_i32_936 c1_i32_937 k0_t1
  let c8_i32_1682 : BitVec 32 := 8#32
  let v2971 : BitVec 32 := Scalar.muli arg13 c8_i32_1682
  let v2972 : Index := Scalar.indexCast v2971
  let c0_1684 : Index := 0#32
  ![46, v2972.toNat, 0]
def k0_off109 (k0_t1 : Fin k0_t1_loop.trips) : Fin 3 → Nat :=
  let c46_1690 : Index := 46#32
  let c0_i32_936 : BitVec 32 := 0#32
  let c1_i32_937 : BitVec 32 := 1#32
  let arg13 : BitVec 32 := Scf.iv c0_i32_936 c1_i32_937 k0_t1
  let c8_i32_1689 : BitVec 32 := 8#32
  let v2987 : BitVec 32 := Scalar.muli arg13 c8_i32_1689
  let v2988 : Index := Scalar.indexCast v2987
  let c128_1691 : Index := 128#32
  ![46, v2988.toNat, 128]
def k0_off110 (k0_t1 : Fin k0_t1_loop.trips) : Fin 3 → Nat :=
  let c47_1697 : Index := 47#32
  let c0_i32_936 : BitVec 32 := 0#32
  let c1_i32_937 : BitVec 32 := 1#32
  let arg13 : BitVec 32 := Scf.iv c0_i32_936 c1_i32_937 k0_t1
  let c8_i32_1696 : BitVec 32 := 8#32
  let v3003 : BitVec 32 := Scalar.muli arg13 c8_i32_1696
  let v3004 : Index := Scalar.indexCast v3003
  let c0_1698 : Index := 0#32
  ![47, v3004.toNat, 0]
def k0_off111 (k0_t1 : Fin k0_t1_loop.trips) : Fin 3 → Nat :=
  let c47_1704 : Index := 47#32
  let c0_i32_936 : BitVec 32 := 0#32
  let c1_i32_937 : BitVec 32 := 1#32
  let arg13 : BitVec 32 := Scf.iv c0_i32_936 c1_i32_937 k0_t1
  let c8_i32_1703 : BitVec 32 := 8#32
  let v3019 : BitVec 32 := Scalar.muli arg13 c8_i32_1703
  let v3020 : Index := Scalar.indexCast v3019
  let c128_1705 : Index := 128#32
  ![47, v3020.toNat, 128]
def k0_cond3 (i : grid0.Coords) : BitVec 1 :=
  let arg0 : BitVec 32 := BitVec.ofNat 32 (i 0).val
  let c1_i32_939 : BitVec 32 := 1#32
  let v1237 : BitVec 32 := Scalar.addi arg0 c1_i32_939
  let c2_i32_940 : BitVec 32 := 2#32
  let v1238 : BitVec 1 := Scalar.cmpi .slt v1237 c2_i32_940
  let v1239 : BitVec 32 := Scalar.extui v1238
  let c0_i32_941 : BitVec 32 := 0#32
  let v1240 : BitVec 1 := Scalar.cmpi .ne v1239 c0_i32_941
  v1240

def k0_off112 (i : grid0.Coords) : Fin 3 → Nat :=
  let arg0 : BitVec 32 := BitVec.ofNat 32 (i 0).val
  let c1_i32_942 : BitVec 32 := 1#32
  let v1241 : BitVec 32 := Scalar.addi arg0 c1_i32_942
  let c1024_i32_943 : BitVec 32 := 1024#32
  let v1242 : BitVec 32 := Scalar.muli v1241 c1024_i32_943
  let c0_i32_954 : BitVec 32 := 0#32
  let c0_i32_955 : BitVec 32 := 0#32
  ![v1242.toNat, 0, 0]
def k0_off113 (i : grid0.Coords) : Fin 3 → Nat :=
  let arg0 : BitVec 32 := BitVec.ofNat 32 (i 0).val
  let c1_i32_942 : BitVec 32 := 1#32
  let v1241 : BitVec 32 := Scalar.addi arg0 c1_i32_942
  let c1024_i32_944 : BitVec 32 := 1024#32
  let v1243 : BitVec 32 := Scalar.muli v1241 c1024_i32_944
  let c0_i32_961 : BitVec 32 := 0#32
  let c128_i32_962 : BitVec 32 := 128#32
  ![v1243.toNat, 0, 128]
def k0_off114 (i : grid0.Coords) : Fin 3 → Nat :=
  let arg0 : BitVec 32 := BitVec.ofNat 32 (i 0).val
  let c1_i32_942 : BitVec 32 := 1#32
  let v1241 : BitVec 32 := Scalar.addi arg0 c1_i32_942
  let c1024_i32_945 : BitVec 32 := 1024#32
  let v1244 : BitVec 32 := Scalar.muli v1241 c1024_i32_945
  let c0_i32_968 : BitVec 32 := 0#32
  let c256_i32_969 : BitVec 32 := 256#32
  ![v1244.toNat, 0, 256]
def k0_off115 (i : grid0.Coords) : Fin 3 → Nat :=
  let arg0 : BitVec 32 := BitVec.ofNat 32 (i 0).val
  let c1_i32_942 : BitVec 32 := 1#32
  let v1241 : BitVec 32 := Scalar.addi arg0 c1_i32_942
  let c1024_i32_946 : BitVec 32 := 1024#32
  let v1245 : BitVec 32 := Scalar.muli v1241 c1024_i32_946
  let c8_i32_975 : BitVec 32 := 8#32
  let c0_i32_976 : BitVec 32 := 0#32
  ![v1245.toNat, 8, 0]
def k0_off116 (i : grid0.Coords) : Fin 3 → Nat :=
  let arg0 : BitVec 32 := BitVec.ofNat 32 (i 0).val
  let c1_i32_942 : BitVec 32 := 1#32
  let v1241 : BitVec 32 := Scalar.addi arg0 c1_i32_942
  let c1024_i32_947 : BitVec 32 := 1024#32
  let v1246 : BitVec 32 := Scalar.muli v1241 c1024_i32_947
  let c8_i32_982 : BitVec 32 := 8#32
  let c128_i32_983 : BitVec 32 := 128#32
  ![v1246.toNat, 8, 128]
def k0_off117 (i : grid0.Coords) : Fin 3 → Nat :=
  let arg0 : BitVec 32 := BitVec.ofNat 32 (i 0).val
  let c1_i32_942 : BitVec 32 := 1#32
  let v1241 : BitVec 32 := Scalar.addi arg0 c1_i32_942
  let c1024_i32_948 : BitVec 32 := 1024#32
  let v1247 : BitVec 32 := Scalar.muli v1241 c1024_i32_948
  let c8_i32_989 : BitVec 32 := 8#32
  let c256_i32_990 : BitVec 32 := 256#32
  ![v1247.toNat, 8, 256]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x48x128x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x8x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelVIdeal.lean ====
abbrev S24x48x128x256 : Shape := ⟨4, ![24, 48, 128, 256]⟩
abbrev S6144x128 : Shape := ⟨2, ![6144, 128]⟩
abbrev S2048x384x16 : Shape := ⟨3, ![2048, 384, 16]⟩
abbrev S2048x384 : Shape := ⟨2, ![2048, 384]⟩
abbrev S2048x16x384 : Shape := ⟨3, ![2048, 16, 384]⟩
abbrev S6144x16x128 : Shape := ⟨3, ![6144, 16, 128]⟩
abbrev S6x16x1024 : Shape := ⟨3, ![6, 16, 1024]⟩
abbrev S1x48x128x256 : Shape := ⟨4, ![1, 48, 128, 256]⟩
abbrev S256x128 : Shape := ⟨2, ![256, 128]⟩
abbrev S1024x384 : Shape := ⟨2, ![1024, 384]⟩
abbrev S256x8x128 : Shape := ⟨3, ![256, 8, 128]⟩
abbrev S1x8x256 : Shape := ⟨3, ![1, 8, 256]⟩
abbrev S48x512x256 : Shape := ⟨3, ![48, 512, 256]⟩
abbrev S48x512x2x256 : Shape := ⟨4, ![48, 512, 2, 256]⟩
abbrev S48x512x1x256 : Shape := ⟨4, ![48, 512, 1, 256]⟩
abbrev S2x3x1024x8x128 : Shape := ⟨5, ![2, 3, 1024, 8, 128]⟩
abbrev S_ : Shape := ⟨0, ![]⟩
abbrev S1x1x1024x8x128 : Shape := ⟨5, ![1, 1, 1024, 8, 128]⟩
abbrev S1024x8x128 : Shape := ⟨3, ![1024, 8, 128]⟩
abbrev S16x128 : Shape := ⟨2, ![16, 128]⟩
abbrev S1x1x16x8x128 : Shape := ⟨5, ![1, 1, 16, 8, 128]⟩
abbrev S16x8x128 : Shape := ⟨3, ![16, 8, 128]⟩
abbrev S128x128 : Shape := ⟨2, ![128, 128]⟩
abbrev S32x128 : Shape := ⟨2, ![32, 128]⟩
abbrev S8x4x128 : Shape := ⟨3, ![8, 4, 128]⟩
abbrev S8x1x128 : Shape := ⟨3, ![8, 1, 128]⟩
abbrev S8x128 : Shape := ⟨2, ![8, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S256x512 : Shape := ⟨2, ![256, 512]⟩
abbrev S1x1x128x256 : Shape := ⟨4, ![1, 1, 128, 256]⟩
abbrev S128x256 : Shape := ⟨2, ![128, 256]⟩
abbrev S256x256 : Shape := ⟨2, ![256, 256]⟩
abbrev S1x256x256 : Shape := ⟨3, ![1, 256, 256]⟩
abbrev S1x256x2x256 : Shape := ⟨4, ![1, 256, 2, 256]⟩
abbrev S1x256x1x256 : Shape := ⟨4, ![1, 256, 1, 256]⟩
abbrev S512x256 : Shape := ⟨2, ![512, 256]⟩
abbrev S256 : Shape := ⟨1, ![256]⟩
abbrev S256x1 : Shape := ⟨2, ![256, 1]⟩
abbrev S256x1x128 : Shape := ⟨3, ![256, 1, 128]⟩
abbrev S256x4x128 : Shape := ⟨3, ![256, 4, 128]⟩
abbrev S1x256 : Shape := ⟨2, ![1, 256]⟩
abbrev S1x1x256 : Shape := ⟨3, ![1, 1, 256]⟩

abbrev nBuf : Space → Nat
  | .hbm => 8
  | .vmem => 15
  | .smem => 0
  | _ => 0

abbrev bufTy : (tb : Table) → Fin (tcTables nBuf tb) → BufTy
  | .hbm, ⟨0, _⟩ => ⟨S24x48x128x256, .i32⟩
  | .hbm, ⟨1, _⟩ => ⟨S6144x128, .f32⟩
  | .hbm, ⟨2, _⟩ => ⟨S6144x128, .f32⟩
  | .hbm, ⟨3, _⟩ => ⟨S2048x384x16, .i8⟩
  | .hbm, ⟨4, _⟩ => ⟨S2048x384, .bf16⟩
  | .hbm, ⟨5, _⟩ => ⟨S2048x16x384, .i8⟩
  | .hbm, ⟨6, _⟩ => ⟨S6144x16x128, .fp8e4m3⟩
  | .hbm, ⟨7, _⟩ => ⟨S6x16x1024, .f32⟩
  | .local _ .vmem, ⟨0, _⟩ => ⟨S1x48x128x256, .i32⟩
  | .local _ .vmem, ⟨1, _⟩ => ⟨S1x48x128x256, .i32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1024x384, .bf16⟩
  | .local _ .vmem, ⟨7, _⟩ => ⟨S1024x384, .bf16⟩
  | .local _ .vmem, ⟨8, _⟩ => ⟨S256x8x128, .fp8e4m3⟩
  | .local _ .vmem, ⟨9, _⟩ => ⟨S256x8x128, .fp8e4m3⟩
  | .local _ .vmem, ⟨10, _⟩ => ⟨S1x8x256, .f32⟩
  | .local _ .vmem, ⟨11, _⟩ => ⟨S1x8x256, .f32⟩
  | .local _ .vmem, ⟨12, _⟩ => ⟨S48x512x2x256, .bf16⟩
  | .local _ .vmem, ⟨13, _⟩ => ⟨S2x3x1024x8x128, .i8⟩
  | .local _ .vmem, ⟨14, _⟩ => ⟨S256x8x128, .fp8e4m3⟩
  | _, _ => ⟨S24x48x128x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 24], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg0 : BitVec 32 := BitVec.ofNat 32 (i 0).val
  let c1024_i32 : BitVec 32 := 1024#32
  let v1212 : BitVec 32 := Scalar.muli arg0 c1024_i32
  let c0_i32_903 : BitVec 32 := 0#32
  let c0_i32_904 : BitVec 32 := 0#32
  ![v1212.toNat, 0, 0]
def k0_off2 (i : grid0.Coords) : Fin 3 → Nat :=
  let arg0 : BitVec 32 := BitVec.ofNat 32 (i 0).val
  let c1024_i32_893 : BitVec 32 := 1024#32
  let v1213 : BitVec 32 := Scalar.muli arg0 c1024_i32_893
  let c0_i32_910 : BitVec 32 := 0#32
  let c128_i32 : BitVec 32 := 128#32
  ![v1213.toNat, 0, 128]
def k0_off3 (i : grid0.Coords) : Fin 3 → Nat :=
  let arg0 : BitVec 32 := BitVec.ofNat 32 (i 0).val
  let c1024_i32_894 : BitVec 32 := 1024#32
  let v1214 : BitVec 32 := Scalar.muli arg0 c1024_i32_894
  let c0_i32_915 : BitVec 32 := 0#32
  let c256_i32 : BitVec 32 := 256#32
  ![v1214.toNat, 0, 256]
def k0_off4 (i : grid0.Coords) : Fin 3 → Nat :=
  let arg0 : BitVec 32 := BitVec.ofNat 32 (i 0).val
  let c1024_i32_895 : BitVec 32 := 1024#32
  let v1215 : BitVec 32 := Scalar.muli arg0 c1024_i32_895
  let c8_i32 : BitVec 32 := 8#32
  let c0_i32_921 : BitVec 32 := 0#32
  ![v1215.toNat, 8, 0]
def k0_off5 (i : grid0.Coords) : Fin 3 → Nat :=
  let arg0 : BitVec 32 := BitVec.ofNat 32 (i 0).val
  let c1024_i32_896 : BitVec 32 := 1024#32
  let v1216 : BitVec 32 := Scalar.muli arg0 c1024_i32_896
  let c8_i32_927 : BitVec 32 := 8#32
  let c128_i32_928 : BitVec 32 := 128#32
  ![v1216.toNat, 8, 128]
def k0_off6 (i : grid0.Coords) : Fin 3 → Nat :=
  let arg0 : BitVec 32 := BitVec.ofNat 32 (i 0).val
  let c1024_i32_897 : BitVec 32 := 1024#32
  let v1217 : BitVec 32 := Scalar.muli arg0 c1024_i32_897
  let c8_i32_934 : BitVec 32 := 8#32
  let c256_i32_935 : BitVec 32 := 256#32
  ![v1217.toNat, 8, 256]
@[reducible] def k0_t1_loop : Scf.Loop 32 :=
  let c0_i32_936 : BitVec 32 := 0#32
  let c64_i32 : BitVec 32 := 64#32
  let v1236 : BitVec 32 := Scalar.addi c0_i32_936 c64_i32
  let c1_i32_937 : BitVec 32 := 1#32
  ⟨c0_i32_936, v1236, c1_i32_937⟩
def k0_off7 (k0_t1 : Fin k0_t1_loop.trips) : Fin 2 → Nat :=
  let c0_i32_936 : BitVec 32 := 0#32
  let c1_i32_937 : BitVec 32 := 1#32
  let arg13 : BitVec 32 := Scf.iv c0_i32_936 c1_i32_937 k0_t1
  let c16_i32 : BitVec 32 := 16#32
  let v1241 : BitVec 32 := Scalar.muli arg13 c16_i32
  let v1242 : Index := Scalar.indexCast v1241
  let c0_942 : Index := 0#32
  ![v1242.toNat, 0]
def k0_off8 (k0_t1 : Fin k0_t1_loop.trips) : Fin 5 → Nat :=
  let c0_943 : Index := 0#32
  let c0_944 : Index := 0#32
  let c0_i32_936 : BitVec 32 := 0#32
  let c1_i32_937 : BitVec 32 := 1#32
  let arg13 : BitVec 32 := Scf.iv c0_i32_936 c1_i32_937 k0_t1
  let c16_i32 : BitVec 32 := 16#32
  let v1241 : BitVec 32 := Scalar.muli arg13 c16_i32
  let v1244 : Index := Scalar.indexCast v1241
  let c0_945 : Index := 0#32
  let c0_946 : Index := 0#32
  ![0, 0, v1244.toNat, 0, 0]
def k0_off9 (k0_t1 : Fin k0_t1_loop.trips) : Fin 4 → Nat :=
  let c0_952 : Index := 0#32
  let c0_i32_936 : BitVec 32 := 0#32
  let c1_i32_937 : BitVec 32 := 1#32
  let arg13 : BitVec 32 := Scf.iv c0_i32_936 c1_i32_937 k0_t1
  let c8_i32_951 : BitVec 32 := 8#32
  let v1275 : BitVec 32 := Scalar.muli arg13 c8_i32_951
  let v1276 : Index := Scalar.indexCast v1275
  let c0_953 : Index := 0#32
  ![0, v1276.toNat, 0, 0]
def k0_off10 (k0_t1 : Fin k0_t1_loop.trips) : Fin 4 → Nat :=
  let c0_958 : Index := 0#32
  let c0_i32_936 : BitVec 32 := 0#32
  let c1_i32_937 : BitVec 32 := 1#32
  let arg13 : BitVec 32 := Scf.iv c0_i32_936 c1_i32_937 k0_t1
  let c8_i32_957 : BitVec 32 := 8#32
  let v1291 : BitVec 32 := Scalar.muli arg13 c8_i32_957
  let v1292 : Index := Scalar.indexCast v1291
  let c128 : Index := 128#32
  ![0, v1292.toNat, 0, 128]
def k0_off11 (k0_t1 : Fin k0_t1_loop.trips) : Fin 4 → Nat :=
  let c1_964 : Index := 1#32
  let c0_i32_936 : BitVec 32 := 0#32
  let c1_i32_937 : BitVec 32 := 1#32
  let arg13 : BitVec 32 := Scf.iv c0_i32_936 c1_i32_937 k0_t1
  let c8_i32_963 : BitVec 32 := 8#32
  let v1307 : BitVec 32 := Scalar.muli arg13 c8_i32_963
  let v1308 : Index := Scalar.indexCast v1307
  let c0_965 : Index := 0#32
  ![1, v1308.toNat, 0, 0]
def k0_off12 (k0_t1 : Fin k0_t1_loop.trips) : Fin 4 → Nat :=
  let c1_970 : Index := 1#32
  let c0_i32_936 : BitVec 32 := 0#32
  let c1_i32_937 : BitVec 32 := 1#32
  let arg13 : BitVec 32 := Scf.iv c0_i32_936 c1_i32_937 k0_t1
  let c8_i32_969 : BitVec 32 := 8#32
  let v1323 : BitVec 32 := Scalar.muli arg13 c8_i32_969
  let v1324 : Index := Scalar.indexCast v1323
  let c128_971 : Index := 128#32
  ![1, v1324.toNat, 0, 128]
def k0_off13 (k0_t1 : Fin k0_t1_loop.trips) : Fin 4 → Nat :=
  let c2_977 : Index := 2#32
  let c0_i32_936 : BitVec 32 := 0#32
  let c1_i32_937 : BitVec 32 := 1#32
  let arg13 : BitVec 32 := Scf.iv c0_i32_936 c1_i32_937 k0_t1
  let c8_i32_976 : BitVec 32 := 8#32
  let v1339 : BitVec 32 := Scalar.muli arg13 c8_i32_976
  let v1340 : Index := Scalar.indexCast v1339
  let c0_978 : Index := 0#32
  ![2, v1340.toNat, 0, 0]
def k0_off14 (k0_t1 : Fin k0_t1_loop.trips) : Fin 4 → Nat :=
  let c2_984 : Index := 2#32
  let c0_i32_936 : BitVec 32 := 0#32
  let c1_i32_937 : BitVec 32 := 1#32
  let arg13 : BitVec 32 := Scf.iv c0_i32_936 c1_i32_937 k0_t1
  let c8_i32_983 : BitVec 32 := 8#32
  let v1355 : BitVec 32 := Scalar.muli arg13 c8_i32_983
  let v1356 : Index := Scalar.indexCast v1355
  let c128_985 : Index := 128#32
  ![2, v1356.toNat, 0, 128]
def k0_off15 (k0_t1 : Fin k0_t1_loop.trips) : Fin 4 → Nat :=
  let c3_991 : Index := 3#32
  let c0_i32_936 : BitVec 32 := 0#32
  let c1_i32_937 : BitVec 32 := 1#32
  let arg13 : BitVec 32 := Scf.iv c0_i32_936 c1_i32_937 k0_t1
  let c8_i32_990 : BitVec 32 := 8#32
  let v1371 : BitVec 32 := Scalar.muli arg13 c8_i32_990
  let v1372 : Index := Scalar.indexCast v1371
  let c0_992 : Index := 0#32
  ![3, v1372.toNat, 0, 0]
def k0_off16 (k0_t1 : Fin k0_t1_loop.trips) : Fin 4 → Nat :=
  let c3_998 : Index := 3#32
  let c0_i32_936 : BitVec 32 := 0#32
  let c1_i32_937 : BitVec 32 := 1#32
  let arg13 : BitVec 32 := Scf.iv c0_i32_936 c1_i32_937 k0_t1
  let c8_i32_997 : BitVec 32 := 8#32
  let v1387 : BitVec 32 := Scalar.muli arg13 c8_i32_997
  let v1388 : Index := Scalar.indexCast v1387
  let c128_999 : Index := 128#32
  ![3, v1388.toNat, 0, 128]
def k0_off17 (k0_t1 : Fin k0_t1_loop.trips) : Fin 4 → Nat :=
  let c12_1013 : Index := 12#32
  let c0_i32_936 : BitVec 32 := 0#32
  let c1_i32_937 : BitVec 32 := 1#32
  let arg13 : BitVec 32 := Scf.iv c0_i32_936 c1_i32_937 k0_t1
  let c8_i32_1012 : BitVec 32 := 8#32
  let v1423 : BitVec 32 := Scalar.muli arg13 c8_i32_1012
  let v1424 : Index := Scalar.indexCast v1423
  let c0_1014 : Index := 0#32
  ![12, v1424.toNat, 0, 0]
def k0_off18 (k0_t1 : Fin k0_t1_loop.trips) : Fin 4 → Nat :=
  let c12_1020 : Index := 12#32
  let c0_i32_936 : BitVec 32 := 0#32
  let c1_i32_937 : BitVec 32 := 1#32
  let arg13 : BitVec 32 := Scf.iv c0_i32_936 c1_i32_937 k0_t1
  let c8_i32_1019 : BitVec 32 := 8#32
  let v1439 : BitVec 32 := Scalar.muli arg13 c8_i32_1019
  let v1440 : Index := Scalar.indexCast v1439
  let c128_1021 : Index := 128#32
  ![12, v1440.toNat, 0, 128]
def k0_off19 (k0_t1 : Fin k0_t1_loop.trips) : Fin 4 → Nat :=
  let c13_1027 : Index := 13#32
  let c0_i32_936 : BitVec 32 := 0#32
  let c1_i32_937 : BitVec 32 := 1#32
  let arg13 : BitVec 32 := Scf.iv c0_i32_936 c1_i32_937 k0_t1
  let c8_i32_1026 : BitVec 32 := 8#32
  let v1455 : BitVec 32 := Scalar.muli arg13 c8_i32_1026
  let v1456 : Index := Scalar.indexCast v1455
  let c0_1028 : Index := 0#32
  ![13, v1456.toNat, 0, 0]
def k0_off20 (k0_t1 : Fin k0_t1_loop.trips) : Fin 4 → Nat :=
  let c13_1034 : Index := 13#32
  let c0_i32_936 : BitVec 32 := 0#32
  let c1_i32_937 : BitVec 32 := 1#32
  let arg13 : BitVec 32 := Scf.iv c0_i32_936 c1_i32_937 k0_t1
  let c8_i32_1033 : BitVec 32 := 8#32
  let v1471 : BitVec 32 := Scalar.muli arg13 c8_i32_1033
  let v1472 : Index := Scalar.indexCast v1471
  let c128_1035 : Index := 128#32
  ![13, v1472.toNat, 0, 128]
def k0_off21 (k0_t1 : Fin k0_t1_loop.trips) : Fin 4 → Nat :=
  let c14_1041 : Index := 14#32
  let c0_i32_936 : BitVec 32 := 0#32
  let c1_i32_937 : BitVec 32 := 1#32
  let arg13 : BitVec 32 := Scf.iv c0_i32_936 c1_i32_937 k0_t1
  let c8_i32_1040 : BitVec 32 := 8#32
  let v1487 : BitVec 32 := Scalar.muli arg13 c8_i32_1040
  let v1488 : Index := Scalar.indexCast v1487
  let c0_1042 : Index := 0#32
  ![14, v1488.toNat, 0, 0]
def k0_off22 (k0_t1 : Fin k0_t1_loop.trips) : Fin 4 → Nat :=
  let c14_1048 : Index := 14#32
  let c0_i32_936 : BitVec 32 := 0#32
  let c1_i32_937 : BitVec 32 := 1#32
  let arg13 : BitVec 32 := Scf.iv c0_i32_936 c1_i32_937 k0_t1
  let c8_i32_1047 : BitVec 32 := 8#32
  let v1503 : BitVec 32 := Scalar.muli arg13 c8_i32_1047
  let v1504 : Index := Scalar.indexCast v1503
  let c128_1049 : Index := 128#32
  ![14, v1504.toNat, 0, 128]
def k0_off23 (k0_t1 : Fin k0_t1_loop.trips) : Fin 4 → Nat :=
  let c15_1055 : Index := 15#32
  let c0_i32_936 : BitVec 32 := 0#32
  let c1_i32_937 : BitVec 32 := 1#32
  let arg13 : BitVec 32 := Scf.iv c0_i32_936 c1_i32_937 k0_t1
  let c8_i32_1054 : BitVec 32 := 8#32
  let v1519 : BitVec 32 := Scalar.muli arg13 c8_i32_1054
  let v1520 : Index := Scalar.indexCast v1519
  let c0_1056 : Index := 0#32
  ![15, v1520.toNat, 0, 0]
def k0_off24 (k0_t1 : Fin k0_t1_loop.trips) : Fin 4 → Nat :=
  let c15_1062 : Index := 15#32
  let c0_i32_936 : BitVec 32 := 0#32
  let c1_i32_937 : BitVec 32 := 1#32
  let arg13 : BitVec 32 := Scf.iv c0_i32_936 c1_i32_937 k0_t1
  let c8_i32_1061 : BitVec 32 := 8#32
  let v1535 : BitVec 32 := Scalar.muli arg13 c8_i32_1061
  let v1536 : Index := Scalar.indexCast v1535
  let c128_1063 : Index := 128#32
  ![15, v1536.toNat, 0, 128]
def k0_off25 (k0_t1 : Fin k0_t1_loop.trips) : Fin 5 → Nat :=
  let c1_1064 : Index := 1#32
  let c0_1065 : Index := 0#32
  let c0_i32_936 : BitVec 32 := 0#32
  let c1_i32_937 : BitVec 32 := 1#32
  let arg13 : BitVec 32 := Scf.iv c0_i32_936 c1_i32_937 k0_t1
  let c16_i32 : BitVec 32 := 16#32
  let v1241 : BitVec 32 := Scalar.muli arg13 c16_i32
  let v1540 : Index := Scalar.indexCast v1241
  let c0_1066 : Index := 0#32
  let c0_1067 : Index := 0#32
  ![1, 0, v1540.toNat, 0, 0]
def k0_off26 (k0_t1 : Fin k0_t1_loop.trips) : Fin 4 → Nat :=
  let c24_1077 : Index := 24#32
  let c0_i32_936 : BitVec 32 := 0#32
  let c1_i32_937 : BitVec 32 := 1#32
  let arg13 : BitVec 32 := Scf.iv c0_i32_936 c1_i32_937 k0_t1
  let c8_i32_1076 : BitVec 32 := 8#32
  let v1571 : BitVec 32 := Scalar.muli arg13 c8_i32_1076
  let v1572 : Index := Scalar.indexCast v1571
  let c0_1078 : Index := 0#32
  ![24, v1572.toNat, 0, 0]
def k0_off27 (k0_t1 : Fin k0_t1_loop.trips) : Fin 4 → Nat :=
  let c24_1084 : Index := 24#32
  let c0_i32_936 : BitVec 32 := 0#32
  let c1_i32_937 : BitVec 32 := 1#32
  let arg13 : BitVec 32 := Scf.iv c0_i32_936 c1_i32_937 k0_t1
  let c8_i32_1083 : BitVec 32 := 8#32
  let v1587 : BitVec 32 := Scalar.muli arg13 c8_i32_1083
  let v1588 : Index := Scalar.indexCast v1587
  let c128_1085 : Index := 128#32
  ![24, v1588.toNat, 0, 128]
def k0_off28 (k0_t1 : Fin k0_t1_loop.trips) : Fin 4 → Nat :=
  let c25_1091 : Index := 25#32
  let c0_i32_936 : BitVec 32 := 0#32
  let c1_i32_937 : BitVec 32 := 1#32
  let arg13 : BitVec 32 := Scf.iv c0_i32_936 c1_i32_937 k0_t1
  let c8_i32_1090 : BitVec 32 := 8#32
  let v1603 : BitVec 32 := Scalar.muli arg13 c8_i32_1090
  let v1604 : Index := Scalar.indexCast v1603
  let c0_1092 : Index := 0#32
  ![25, v1604.toNat, 0, 0]
def k0_off29 (k0_t1 : Fin k0_t1_loop.trips) : Fin 4 → Nat :=
  let c25_1098 : Index := 25#32
  let c0_i32_936 : BitVec 32 := 0#32
  let c1_i32_937 : BitVec 32 := 1#32
  let arg13 : BitVec 32 := Scf.iv c0_i32_936 c1_i32_937 k0_t1
  let c8_i32_1097 : BitVec 32 := 8#32
  let v1619 : BitVec 32 := Scalar.muli arg13 c8_i32_1097
  let v1620 : Index := Scalar.indexCast v1619
  let c128_1099 : Index := 128#32
  ![25, v1620.toNat, 0, 128]
def k0_off30 (k0_t1 : Fin k0_t1_loop.trips) : Fin 4 → Nat :=
  let c26_1105 : Index := 26#32
  let c0_i32_936 : BitVec 32 := 0#32
  let c1_i32_937 : BitVec 32 := 1#32
  let arg13 : BitVec 32 := Scf.iv c0_i32_936 c1_i32_937 k0_t1
  let c8_i32_1104 : BitVec 32 := 8#32
  let v1635 : BitVec 32 := Scalar.muli arg13 c8_i32_1104
  let v1636 : Index := Scalar.indexCast v1635
  let c0_1106 : Index := 0#32
  ![26, v1636.toNat, 0, 0]
def k0_off31 (k0_t1 : Fin k0_t1_loop.trips) : Fin 4 → Nat :=
  let c26_1112 : Index := 26#32
  let c0_i32_936 : BitVec 32 := 0#32
  let c1_i32_937 : BitVec 32 := 1#32
  let arg13 : BitVec 32 := Scf.iv c0_i32_936 c1_i32_937 k0_t1
  let c8_i32_1111 : BitVec 32 := 8#32
  let v1651 : BitVec 32 := Scalar.muli arg13 c8_i32_1111
  let v1652 : Index := Scalar.indexCast v1651
  let c128_1113 : Index := 128#32
  ![26, v1652.toNat, 0, 128]
def k0_off32 (k0_t1 : Fin k0_t1_loop.trips) : Fin 4 → Nat :=
  let c27_1119 : Index := 27#32
  let c0_i32_936 : BitVec 32 := 0#32
  let c1_i32_937 : BitVec 32 := 1#32
  let arg13 : BitVec 32 := Scf.iv c0_i32_936 c1_i32_937 k0_t1
  let c8_i32_1118 : BitVec 32 := 8#32
  let v1667 : BitVec 32 := Scalar.muli arg13 c8_i32_1118
  let v1668 : Index := Scalar.indexCast v1667
  let c0_1120 : Index := 0#32
  ![27, v1668.toNat, 0, 0]
def k0_off33 (k0_t1 : Fin k0_t1_loop.trips) : Fin 4 → Nat :=
  let c27_1126 : Index := 27#32
  let c0_i32_936 : BitVec 32 := 0#32
  let c1_i32_937 : BitVec 32 := 1#32
  let arg13 : BitVec 32 := Scf.iv c0_i32_936 c1_i32_937 k0_t1
  let c8_i32_1125 : BitVec 32 := 8#32
  let v1683 : BitVec 32 := Scalar.muli arg13 c8_i32_1125
  let v1684 : Index := Scalar.indexCast v1683
  let c128_1127 : Index := 128#32
  ![27, v1684.toNat, 0, 128]
def k0_off34 (k0_t1 : Fin k0_t1_loop.trips) : Fin 4 → Nat :=
  let c36_1141 : Index := 36#32
  let c0_i32_936 : BitVec 32 := 0#32
  let c1_i32_937 : BitVec 32 := 1#32
  let arg13 : BitVec 32 := Scf.iv c0_i32_936 c1_i32_937 k0_t1
  let c8_i32_1140 : BitVec 32 := 8#32
  let v1719 : BitVec 32 := Scalar.muli arg13 c8_i32_1140
  let v1720 : Index := Scalar.indexCast v1719
  let c0_1142 : Index := 0#32
  ![36, v1720.toNat, 0, 0]
def k0_off35 (k0_t1 : Fin k0_t1_loop.trips) : Fin 4 → Nat :=
  let c36_1148 : Index := 36#32
  let c0_i32_936 : BitVec 32 := 0#32
  let c1_i32_937 : BitVec 32 := 1#32
  let arg13 : BitVec 32 := Scf.iv c0_i32_936 c1_i32_937 k0_t1
  let c8_i32_1147 : BitVec 32 := 8#32
  let v1735 : BitVec 32 := Scalar.muli arg13 c8_i32_1147
  let v1736 : Index := Scalar.indexCast v1735
  let c128_1149 : Index := 128#32
  ![36, v1736.toNat, 0, 128]
def k0_off36 (k0_t1 : Fin k0_t1_loop.trips) : Fin 4 → Nat :=
  let c37_1155 : Index := 37#32
  let c0_i32_936 : BitVec 32 := 0#32
  let c1_i32_937 : BitVec 32 := 1#32
  let arg13 : BitVec 32 := Scf.iv c0_i32_936 c1_i32_937 k0_t1
  let c8_i32_1154 : BitVec 32 := 8#32
  let v1751 : BitVec 32 := Scalar.muli arg13 c8_i32_1154
  let v1752 : Index := Scalar.indexCast v1751
  let c0_1156 : Index := 0#32
  ![37, v1752.toNat, 0, 0]
def k0_off37 (k0_t1 : Fin k0_t1_loop.trips) : Fin 4 → Nat :=
  let c37_1162 : Index := 37#32
  let c0_i32_936 : BitVec 32 := 0#32
  let c1_i32_937 : BitVec 32 := 1#32
  let arg13 : BitVec 32 := Scf.iv c0_i32_936 c1_i32_937 k0_t1
  let c8_i32_1161 : BitVec 32 := 8#32
  let v1767 : BitVec 32 := Scalar.muli arg13 c8_i32_1161
  let v1768 : Index := Scalar.indexCast v1767
  let c128_1163 : Index := 128#32
  ![37, v1768.toNat, 0, 128]
def k0_off38 (k0_t1 : Fin k0_t1_loop.trips) : Fin 4 → Nat :=
  let c38_1169 : Index := 38#32
  let c0_i32_936 : BitVec 32 := 0#32
  let c1_i32_937 : BitVec 32 := 1#32
  let arg13 : BitVec 32 := Scf.iv c0_i32_936 c1_i32_937 k0_t1
  let c8_i32_1168 : BitVec 32 := 8#32
  let v1783 : BitVec 32 := Scalar.muli arg13 c8_i32_1168
  let v1784 : Index := Scalar.indexCast v1783
  let c0_1170 : Index := 0#32
  ![38, v1784.toNat, 0, 0]
def k0_off39 (k0_t1 : Fin k0_t1_loop.trips) : Fin 4 → Nat :=
  let c38_1176 : Index := 38#32
  let c0_i32_936 : BitVec 32 := 0#32
  let c1_i32_937 : BitVec 32 := 1#32
  let arg13 : BitVec 32 := Scf.iv c0_i32_936 c1_i32_937 k0_t1
  let c8_i32_1175 : BitVec 32 := 8#32
  let v1799 : BitVec 32 := Scalar.muli arg13 c8_i32_1175
  let v1800 : Index := Scalar.indexCast v1799
  let c128_1177 : Index := 128#32
  ![38, v1800.toNat, 0, 128]
def k0_off40 (k0_t1 : Fin k0_t1_loop.trips) : Fin 4 → Nat :=
  let c39_1183 : Index := 39#32
  let c0_i32_936 : BitVec 32 := 0#32
  let c1_i32_937 : BitVec 32 := 1#32
  let arg13 : BitVec 32 := Scf.iv c0_i32_936 c1_i32_937 k0_t1
  let c8_i32_1182 : BitVec 32 := 8#32
  let v1815 : BitVec 32 := Scalar.muli arg13 c8_i32_1182
  let v1816 : Index := Scalar.indexCast v1815
  let c0_1184 : Index := 0#32
  ![39, v1816.toNat, 0, 0]
def k0_off41 (k0_t1 : Fin k0_t1_loop.trips) : Fin 4 → Nat :=
  let c39_1190 : Index := 39#32
  let c0_i32_936 : BitVec 32 := 0#32
  let c1_i32_937 : BitVec 32 := 1#32
  let arg13 : BitVec 32 := Scf.iv c0_i32_936 c1_i32_937 k0_t1
  let c8_i32_1189 : BitVec 32 := 8#32
  let v1831 : BitVec 32 := Scalar.muli arg13 c8_i32_1189
  let v1832 : Index := Scalar.indexCast v1831
  let c128_1191 : Index := 128#32
  ![39, v1832.toNat, 0, 128]
def k0_off42 (k0_t1 : Fin k0_t1_loop.trips) : Fin 2 → Nat :=
  let c0_i32_936 : BitVec 32 := 0#32
  let c1_i32_937 : BitVec 32 := 1#32
  let arg13 : BitVec 32 := Scf.iv c0_i32_936 c1_i32_937 k0_t1
  let c16_i32 : BitVec 32 := 16#32
  let v1241 : BitVec 32 := Scalar.muli arg13 c16_i32
  let v1836 : Index := Scalar.indexCast v1241
  let c128_1192 : Index := 128#32
  ![v1836.toNat, 128]
def k0_off43 (k0_t1 : Fin k0_t1_loop.trips) : Fin 5 → Nat :=
  let c0_1193 : Index := 0#32
  let c1_1194 : Index := 1#32
  let c0_i32_936 : BitVec 32 := 0#32
  let c1_i32_937 : BitVec 32 := 1#32
  let arg13 : BitVec 32 := Scf.iv c0_i32_936 c1_i32_937 k0_t1
  let c16_i32 : BitVec 32 := 16#32
  let v1241 : BitVec 32 := Scalar.muli arg13 c16_i32
  let v1838 : Index := Scalar.indexCast v1241
  let c0_1195 : Index := 0#32
  let c0_1196 : Index := 0#32
  ![0, 1, v1838.toNat, 0, 0]
def k0_off44 (k0_t1 : Fin k0_t1_loop.trips) : Fin 4 → Nat :=
  let c4_1206 : Index := 4#32
  let c0_i32_936 : BitVec 32 := 0#32
  let c1_i32_937 : BitVec 32 := 1#32
  let arg13 : BitVec 32 := Scf.iv c0_i32_936 c1_i32_937 k0_t1
  let c8_i32_1205 : BitVec 32 := 8#32
  let v1869 : BitVec 32 := Scalar.muli arg13 c8_i32_1205
  let v1870 : Index := Scalar.indexCast v1869
  let c0_1207 : Index := 0#32
  ![4, v1870.toNat, 0, 0]
def k0_off45 (k0_t1 : Fin k0_t1_loop.trips) : Fin 4 → Nat :=
  let c4_1213 : Index := 4#32
  let c0_i32_936 : BitVec 32 := 0#32
  let c1_i32_937 : BitVec 32 := 1#32
  let arg13 : BitVec 32 := Scf.iv c0_i32_936 c1_i32_937 k0_t1
  let c8_i32_1212 : BitVec 32 := 8#32
  let v1885 : BitVec 32 := Scalar.muli arg13 c8_i32_1212
  let v1886 : Index := Scalar.indexCast v1885
  let c128_1214 : Index := 128#32
  ![4, v1886.toNat, 0, 128]
def k0_off46 (k0_t1 : Fin k0_t1_loop.trips) : Fin 4 → Nat :=
  let c5_1220 : Index := 5#32
  let c0_i32_936 : BitVec 32 := 0#32
  let c1_i32_937 : BitVec 32 := 1#32
  let arg13 : BitVec 32 := Scf.iv c0_i32_936 c1_i32_937 k0_t1
  let c8_i32_1219 : BitVec 32 := 8#32
  let v1901 : BitVec 32 := Scalar.muli arg13 c8_i32_1219
  let v1902 : Index := Scalar.indexCast v1901
  let c0_1221 : Index := 0#32
  ![5, v1902.toNat, 0, 0]
def k0_off47 (k0_t1 : Fin k0_t1_loop.trips) : Fin 4 → Nat :=
  let c5_1227 : Index := 5#32
  let c0_i32_936 : BitVec 32 := 0#32
  let c1_i32_937 : BitVec 32 := 1#32
  let arg13 : BitVec 32 := Scf.iv c0_i32_936 c1_i32_937 k0_t1
  let c8_i32_1226 : BitVec 32 := 8#32
  let v1917 : BitVec 32 := Scalar.muli arg13 c8_i32_1226
  let v1918 : Index := Scalar.indexCast v1917
  let c128_1228 : Index := 128#32
  ![5, v1918.toNat, 0, 128]
def k0_off48 (k0_t1 : Fin k0_t1_loop.trips) : Fin 4 → Nat :=
  let c6_1234 : Index := 6#32
  let c0_i32_936 : BitVec 32 := 0#32
  let c1_i32_937 : BitVec 32 := 1#32
  let arg13 : BitVec 32 := Scf.iv c0_i32_936 c1_i32_937 k0_t1
  let c8_i32_1233 : BitVec 32 := 8#32
  let v1933 : BitVec 32 := Scalar.muli arg13 c8_i32_1233
  let v1934 : Index := Scalar.indexCast v1933
  let c0_1235 : Index := 0#32
  ![6, v1934.toNat, 0, 0]
def k0_off49 (k0_t1 : Fin k0_t1_loop.trips) : Fin 4 → Nat :=
  let c6_1241 : Index := 6#32
  let c0_i32_936 : BitVec 32 := 0#32
  let c1_i32_937 : BitVec 32 := 1#32
  let arg13 : BitVec 32 := Scf.iv c0_i32_936 c1_i32_937 k0_t1
  let c8_i32_1240 : BitVec 32 := 8#32
  let v1949 : BitVec 32 := Scalar.muli arg13 c8_i32_1240
  let v1950 : Index := Scalar.indexCast v1949
  let c128_1242 : Index := 128#32
  ![6, v1950.toNat, 0, 128]
def k0_off50 (k0_t1 : Fin k0_t1_loop.trips) : Fin 4 → Nat :=
  let c7_1248 : Index := 7#32
  let c0_i32_936 : BitVec 32 := 0#32
  let c1_i32_937 : BitVec 32 := 1#32
  let arg13 : BitVec 32 := Scf.iv c0_i32_936 c1_i32_937 k0_t1
  let c8_i32_1247 : BitVec 32 := 8#32
  let v1965 : BitVec 32 := Scalar.muli arg13 c8_i32_1247
  let v1966 : Index := Scalar.indexCast v1965
  let c0_1249 : Index := 0#32
  ![7, v1966.toNat, 0, 0]
def k0_off51 (k0_t1 : Fin k0_t1_loop.trips) : Fin 4 → Nat :=
  let c7_1255 : Index := 7#32
  let c0_i32_936 : BitVec 32 := 0#32
  let c1_i32_937 : BitVec 32 := 1#32
  let arg13 : BitVec 32 := Scf.iv c0_i32_936 c1_i32_937 k0_t1
  let c8_i32_1254 : BitVec 32 := 8#32
  let v1981 : BitVec 32 := Scalar.muli arg13 c8_i32_1254
  let v1982 : Index := Scalar.indexCast v1981
  let c128_1256 : Index := 128#32
  ![7, v1982.toNat, 0, 128]
def k0_off52 (k0_t1 : Fin k0_t1_loop.trips) : Fin 4 → Nat :=
  let c16_1270 : Index := 16#32
  let c0_i32_936 : BitVec 32 := 0#32
  let c1_i32_937 : BitVec 32 := 1#32
  let arg13 : BitVec 32 := Scf.iv c0_i32_936 c1_i32_937 k0_t1
  let c8_i32_1269 : BitVec 32 := 8#32
  let v2017 : BitVec 32 := Scalar.muli arg13 c8_i32_1269
  let v2018 : Index := Scalar.indexCast v2017
  let c0_1271 : Index := 0#32
  ![16, v2018.toNat, 0, 0]
def k0_off53 (k0_t1 : Fin k0_t1_loop.trips) : Fin 4 → Nat :=
  let c16_1277 : Index := 16#32
  let c0_i32_936 : BitVec 32 := 0#32
  let c1_i32_937 : BitVec 32 := 1#32
  let arg13 : BitVec 32 := Scf.iv c0_i32_936 c1_i32_937 k0_t1
  let c8_i32_1276 : BitVec 32 := 8#32
  let v2033 : BitVec 32 := Scalar.muli arg13 c8_i32_1276
  let v2034 : Index := Scalar.indexCast v2033
  let c128_1278 : Index := 128#32
  ![16, v2034.toNat, 0, 128]
def k0_off54 (k0_t1 : Fin k0_t1_loop.trips) : Fin 4 → Nat :=
  let c17_1284 : Index := 17#32
  let c0_i32_936 : BitVec 32 := 0#32
  let c1_i32_937 : BitVec 32 := 1#32
  let arg13 : BitVec 32 := Scf.iv c0_i32_936 c1_i32_937 k0_t1
  let c8_i32_1283 : BitVec 32 := 8#32
  let v2049 : BitVec 32 := Scalar.muli arg13 c8_i32_1283
  let v2050 : Index := Scalar.indexCast v2049
  let c0_1285 : Index := 0#32
  ![17, v2050.toNat, 0, 0]
def k0_off55 (k0_t1 : Fin k0_t1_loop.trips) : Fin 4 → Nat :=
  let c17_1291 : Index := 17#32
  let c0_i32_936 : BitVec 32 := 0#32
  let c1_i32_937 : BitVec 32 := 1#32
  let arg13 : BitVec 32 := Scf.iv c0_i32_936 c1_i32_937 k0_t1
  let c8_i32_1290 : BitVec 32 := 8#32
  let v2065 : BitVec 32 := Scalar.muli arg13 c8_i32_1290
  let v2066 : Index := Scalar.indexCast v2065
  let c128_1292 : Index := 128#32
  ![17, v2066.toNat, 0, 128]
def k0_off56 (k0_t1 : Fin k0_t1_loop.trips) : Fin 4 → Nat :=
  let c18_1298 : Index := 18#32
  let c0_i32_936 : BitVec 32 := 0#32
  let c1_i32_937 : BitVec 32 := 1#32
  let arg13 : BitVec 32 := Scf.iv c0_i32_936 c1_i32_937 k0_t1
  let c8_i32_1297 : BitVec 32 := 8#32
  let v2081 : BitVec 32 := Scalar.muli arg13 c8_i32_1297
  let v2082 : Index := Scalar.indexCast v2081
  let c0_1299 : Index := 0#32
  ![18, v2082.toNat, 0, 0]
def k0_off57 (k0_t1 : Fin k0_t1_loop.trips) : Fin 4 → Nat :=
  let c18_1305 : Index := 18#32
  let c0_i32_936 : BitVec 32 := 0#32
  let c1_i32_937 : BitVec 32 := 1#32
  let arg13 : BitVec 32 := Scf.iv c0_i32_936 c1_i32_937 k0_t1
  let c8_i32_1304 : BitVec 32 := 8#32
  let v2097 : BitVec 32 := Scalar.muli arg13 c8_i32_1304
  let v2098 : Index := Scalar.indexCast v2097
  let c128_1306 : Index := 128#32
  ![18, v2098.toNat, 0, 128]
def k0_off58 (k0_t1 : Fin k0_t1_loop.trips) : Fin 4 → Nat :=
  let c19_1312 : Index := 19#32
  let c0_i32_936 : BitVec 32 := 0#32
  let c1_i32_937 : BitVec 32 := 1#32
  let arg13 : BitVec 32 := Scf.iv c0_i32_936 c1_i32_937 k0_t1
  let c8_i32_1311 : BitVec 32 := 8#32
  let v2113 : BitVec 32 := Scalar.muli arg13 c8_i32_1311
  let v2114 : Index := Scalar.indexCast v2113
  let c0_1313 : Index := 0#32
  ![19, v2114.toNat, 0, 0]
def k0_off59 (k0_t1 : Fin k0_t1_loop.trips) : Fin 4 → Nat :=
  let c19_1319 : Index := 19#32
  let c0_i32_936 : BitVec 32 := 0#32
  let c1_i32_937 : BitVec 32 := 1#32
  let arg13 : BitVec 32 := Scf.iv c0_i32_936 c1_i32_937 k0_t1
  let c8_i32_1318 : BitVec 32 := 8#32
  let v2129 : BitVec 32 := Scalar.muli arg13 c8_i32_1318
  let v2130 : Index := Scalar.indexCast v2129
  let c128_1320 : Index := 128#32
  ![19, v2130.toNat, 0, 128]
def k0_off60 (k0_t1 : Fin k0_t1_loop.trips) : Fin 5 → Nat :=
  let c1_1321 : Index := 1#32
  let c1_1322 : Index := 1#32
  let c0_i32_936 : BitVec 32 := 0#32
  let c1_i32_937 : BitVec 32 := 1#32
  let arg13 : BitVec 32 := Scf.iv c0_i32_936 c1_i32_937 k0_t1
  let c16_i32 : BitVec 32 := 16#32
  let v1241 : BitVec 32 := Scalar.muli arg13 c16_i32
  let v2134 : Index := Scalar.indexCast v1241
  let c0_1323 : Index := 0#32
  let c0_1324 : Index := 0#32
  ![1, 1, v2134.toNat, 0, 0]
def k0_off61 (k0_t1 : Fin k0_t1_loop.trips) : Fin 4 → Nat :=
  let c28_1334 : Index := 28#32
  let c0_i32_936 : BitVec 32 := 0#32
  let c1_i32_937 : BitVec 32 := 1#32
  let arg13 : BitVec 32 := Scf.iv c0_i32_936 c1_i32_937 k0_t1
  let c8_i32_1333 : BitVec 32 := 8#32
  let v2165 : BitVec 32 := Scalar.muli arg13 c8_i32_1333
  let v2166 : Index := Scalar.indexCast v2165
  let c0_1335 : Index := 0#32
  ![28, v2166.toNat, 0, 0]
def k0_off62 (k0_t1 : Fin k0_t1_loop.trips) : Fin 4 → Nat :=
  let c28_1341 : Index := 28#32
  let c0_i32_936 : BitVec 32 := 0#32
  let c1_i32_937 : BitVec 32 := 1#32
  let arg13 : BitVec 32 := Scf.iv c0_i32_936 c1_i32_937 k0_t1
  let c8_i32_1340 : BitVec 32 := 8#32
  let v2181 : BitVec 32 := Scalar.muli arg13 c8_i32_1340
  let v2182 : Index := Scalar.indexCast v2181
  let c128_1342 : Index := 128#32
  ![28, v2182.toNat, 0, 128]
def k0_off63 (k0_t1 : Fin k0_t1_loop.trips) : Fin 4 → Nat :=
  let c29_1348 : Index := 29#32
  let c0_i32_936 : BitVec 32 := 0#32
  let c1_i32_937 : BitVec 32 := 1#32
  let arg13 : BitVec 32 := Scf.iv c0_i32_936 c1_i32_937 k0_t1
  let c8_i32_1347 : BitVec 32 := 8#32
  let v2197 : BitVec 32 := Scalar.muli arg13 c8_i32_1347
  let v2198 : Index := Scalar.indexCast v2197
  let c0_1349 : Index := 0#32
  ![29, v2198.toNat, 0, 0]
def k0_off64 (k0_t1 : Fin k0_t1_loop.trips) : Fin 4 → Nat :=
  let c29_1355 : Index := 29#32
  let c0_i32_936 : BitVec 32 := 0#32
  let c1_i32_937 : BitVec 32 := 1#32
  let arg13 : BitVec 32 := Scf.iv c0_i32_936 c1_i32_937 k0_t1
  let c8_i32_1354 : BitVec 32 := 8#32
  let v2213 : BitVec 32 := Scalar.muli arg13 c8_i32_1354
  let v2214 : Index := Scalar.indexCast v2213
  let c128_1356 : Index := 128#32
  ![29, v2214.toNat, 0, 128]
def k0_off65 (k0_t1 : Fin k0_t1_loop.trips) : Fin 4 → Nat :=
  let c30_1362 : Index := 30#32
  let c0_i32_936 : BitVec 32 := 0#32
  let c1_i32_937 : BitVec 32 := 1#32
  let arg13 : BitVec 32 := Scf.iv c0_i32_936 c1_i32_937 k0_t1
  let c8_i32_1361 : BitVec 32 := 8#32
  let v2229 : BitVec 32 := Scalar.muli arg13 c8_i32_1361
  let v2230 : Index := Scalar.indexCast v2229
  let c0_1363 : Index := 0#32
  ![30, v2230.toNat, 0, 0]
def k0_off66 (k0_t1 : Fin k0_t1_loop.trips) : Fin 4 → Nat :=
  let c30_1369 : Index := 30#32
  let c0_i32_936 : BitVec 32 := 0#32
  let c1_i32_937 : BitVec 32 := 1#32
  let arg13 : BitVec 32 := Scf.iv c0_i32_936 c1_i32_937 k0_t1
  let c8_i32_1368 : BitVec 32 := 8#32
  let v2245 : BitVec 32 := Scalar.muli arg13 c8_i32_1368
  let v2246 : Index := Scalar.indexCast v2245
  let c128_1370 : Index := 128#32
  ![30, v2246.toNat, 0, 128]
def k0_off67 (k0_t1 : Fin k0_t1_loop.trips) : Fin 4 → Nat :=
  let c31_1376 : Index := 31#32
  let c0_i32_936 : BitVec 32 := 0#32
  let c1_i32_937 : BitVec 32 := 1#32
  let arg13 : BitVec 32 := Scf.iv c0_i32_936 c1_i32_937 k0_t1
  let c8_i32_1375 : BitVec 32 := 8#32
  let v2261 : BitVec 32 := Scalar.muli arg13 c8_i32_1375
  let v2262 : Index := Scalar.indexCast v2261
  let c0_1377 : Index := 0#32
  ![31, v2262.toNat, 0, 0]
def k0_off68 (k0_t1 : Fin k0_t1_loop.trips) : Fin 4 → Nat :=
  let c31_1383 : Index := 31#32
  let c0_i32_936 : BitVec 32 := 0#32
  let c1_i32_937 : BitVec 32 := 1#32
  let arg13 : BitVec 32 := Scf.iv c0_i32_936 c1_i32_937 k0_t1
  let c8_i32_1382 : BitVec 32 := 8#32
  let v2277 : BitVec 32 := Scalar.muli arg13 c8_i32_1382
  let v2278 : Index := Scalar.indexCast v2277
  let c128_1384 : Index := 128#32
  ![31, v2278.toNat, 0, 128]
def k0_off69 (k0_t1 : Fin k0_t1_loop.trips) : Fin 4 → Nat :=
  let c40_1398 : Index := 40#32
  let c0_i32_936 : BitVec 32 := 0#32
  let c1_i32_937 : BitVec 32 := 1#32
  let arg13 : BitVec 32 := Scf.iv c0_i32_936 c1_i32_937 k0_t1
  let c8_i32_1397 : BitVec 32 := 8#32
  let v2313 : BitVec 32 := Scalar.muli arg13 c8_i32_1397
  let v2314 : Index := Scalar.indexCast v2313
  let c0_1399 : Index := 0#32
  ![40, v2314.toNat, 0, 0]
def k0_off70 (k0_t1 : Fin k0_t1_loop.trips) : Fin 4 → Nat :=
  let c40_1405 : Index := 40#32
  let c0_i32_936 : BitVec 32 := 0#32
  let c1_i32_937 : BitVec 32 := 1#32
  let arg13 : BitVec 32 := Scf.iv c0_i32_936 c1_i32_937 k0_t1
  let c8_i32_1404 : BitVec 32 := 8#32
  let v2329 : BitVec 32 := Scalar.muli arg13 c8_i32_1404
  let v2330 : Index := Scalar.indexCast v2329
  let c128_1406 : Index := 128#32
  ![40, v2330.toNat, 0, 128]
def k0_off71 (k0_t1 : Fin k0_t1_loop.trips) : Fin 4 → Nat :=
  let c41_1412 : Index := 41#32
  let c0_i32_936 : BitVec 32 := 0#32
  let c1_i32_937 : BitVec 32 := 1#32
  let arg13 : BitVec 32 := Scf.iv c0_i32_936 c1_i32_937 k0_t1
  let c8_i32_1411 : BitVec 32 := 8#32
  let v2345 : BitVec 32 := Scalar.muli arg13 c8_i32_1411
  let v2346 : Index := Scalar.indexCast v2345
  let c0_1413 : Index := 0#32
  ![41, v2346.toNat, 0, 0]
def k0_off72 (k0_t1 : Fin k0_t1_loop.trips) : Fin 4 → Nat :=
  let c41_1419 : Index := 41#32
  let c0_i32_936 : BitVec 32 := 0#32
  let c1_i32_937 : BitVec 32 := 1#32
  let arg13 : BitVec 32 := Scf.iv c0_i32_936 c1_i32_937 k0_t1
  let c8_i32_1418 : BitVec 32 := 8#32
  let v2361 : BitVec 32 := Scalar.muli arg13 c8_i32_1418
  let v2362 : Index := Scalar.indexCast v2361
  let c128_1420 : Index := 128#32
  ![41, v2362.toNat, 0, 128]
def k0_off73 (k0_t1 : Fin k0_t1_loop.trips) : Fin 4 → Nat :=
  let c42_1426 : Index := 42#32
  let c0_i32_936 : BitVec 32 := 0#32
  let c1_i32_937 : BitVec 32 := 1#32
  let arg13 : BitVec 32 := Scf.iv c0_i32_936 c1_i32_937 k0_t1
  let c8_i32_1425 : BitVec 32 := 8#32
  let v2377 : BitVec 32 := Scalar.muli arg13 c8_i32_1425
  let v2378 : Index := Scalar.indexCast v2377
  let c0_1427 : Index := 0#32
  ![42, v2378.toNat, 0, 0]
def k0_off74 (k0_t1 : Fin k0_t1_loop.trips) : Fin 4 → Nat :=
  let c42_1433 : Index := 42#32
  let c0_i32_936 : BitVec 32 := 0#32
  let c1_i32_937 : BitVec 32 := 1#32
  let arg13 : BitVec 32 := Scf.iv c0_i32_936 c1_i32_937 k0_t1
  let c8_i32_1432 : BitVec 32 := 8#32
  let v2393 : BitVec 32 := Scalar.muli arg13 c8_i32_1432
  let v2394 : Index := Scalar.indexCast v2393
  let c128_1434 : Index := 128#32
  ![42, v2394.toNat, 0, 128]
def k0_off75 (k0_t1 : Fin k0_t1_loop.trips) : Fin 4 → Nat :=
  let c43_1440 : Index := 43#32
  let c0_i32_936 : BitVec 32 := 0#32
  let c1_i32_937 : BitVec 32 := 1#32
  let arg13 : BitVec 32 := Scf.iv c0_i32_936 c1_i32_937 k0_t1
  let c8_i32_1439 : BitVec 32 := 8#32
  let v2409 : BitVec 32 := Scalar.muli arg13 c8_i32_1439
  let v2410 : Index := Scalar.indexCast v2409
  let c0_1441 : Index := 0#32
  ![43, v2410.toNat, 0, 0]
def k0_off76 (k0_t1 : Fin k0_t1_loop.trips) : Fin 4 → Nat :=
  let c43_1447 : Index := 43#32
  let c0_i32_936 : BitVec 32 := 0#32
  let c1_i32_937 : BitVec 32 := 1#32
  let arg13 : BitVec 32 := Scf.iv c0_i32_936 c1_i32_937 k0_t1
  let c8_i32_1446 : BitVec 32 := 8#32
  let v2425 : BitVec 32 := Scalar.muli arg13 c8_i32_1446
  let v2426 : Index := Scalar.indexCast v2425
  let c128_1448 : Index := 128#32
  ![43, v2426.toNat, 0, 128]
def k0_off77 (k0_t1 : Fin k0_t1_loop.trips) : Fin 2 → Nat :=
  let c0_i32_936 : BitVec 32 := 0#32
  let c1_i32_937 : BitVec 32 := 1#32
  let arg13 : BitVec 32 := Scf.iv c0_i32_936 c1_i32_937 k0_t1
  let c16_i32 : BitVec 32 := 16#32
  let v1241 : BitVec 32 := Scalar.muli arg13 c16_i32
  let v2430 : Index := Scalar.indexCast v1241
  let c256_1449 : Index := 256#32
  ![v2430.toNat, 256]
def k0_off78 (k0_t1 : Fin k0_t1_loop.trips) : Fin 5 → Nat :=
  let c0_1450 : Index := 0#32
  let c2_1451 : Index := 2#32
  let c0_i32_936 : BitVec 32 := 0#32
  let c1_i32_937 : BitVec 32 := 1#32
  let arg13 : BitVec 32 := Scf.iv c0_i32_936 c1_i32_937 k0_t1
  let c16_i32 : BitVec 32 := 16#32
  let v1241 : BitVec 32 := Scalar.muli arg13 c16_i32
  let v2432 : Index := Scalar.indexCast v1241
  let c0_1452 : Index := 0#32
  let c0_1453 : Index := 0#32
  ![0, 2, v2432.toNat, 0, 0]
def k0_off79 (k0_t1 : Fin k0_t1_loop.trips) : Fin 4 → Nat :=
  let c8_1463 : Index := 8#32
  let c0_i32_936 : BitVec 32 := 0#32
  let c1_i32_937 : BitVec 32 := 1#32
  let arg13 : BitVec 32 := Scf.iv c0_i32_936 c1_i32_937 k0_t1
  let c8_i32_1462 : BitVec 32 := 8#32
  let v2463 : BitVec 32 := Scalar.muli arg13 c8_i32_1462
  let v2464 : Index := Scalar.indexCast v2463
  let c0_1464 : Index := 0#32
  ![8, v2464.toNat, 0, 0]
def k0_off80 (k0_t1 : Fin k0_t1_loop.trips) : Fin 4 → Nat :=
  let c8_1470 : Index := 8#32
  let c0_i32_936 : BitVec 32 := 0#32
  let c1_i32_937 : BitVec 32 := 1#32
  let arg13 : BitVec 32 := Scf.iv c0_i32_936 c1_i32_937 k0_t1
  let c8_i32_1469 : BitVec 32 := 8#32
  let v2479 : BitVec 32 := Scalar.muli arg13 c8_i32_1469
  let v2480 : Index := Scalar.indexCast v2479
  let c128_1471 : Index := 128#32
  ![8, v2480.toNat, 0, 128]
def k0_off81 (k0_t1 : Fin k0_t1_loop.trips) : Fin 4 → Nat :=
  let c9_1477 : Index := 9#32
  let c0_i32_936 : BitVec 32 := 0#32
  let c1_i32_937 : BitVec 32 := 1#32
  let arg13 : BitVec 32 := Scf.iv c0_i32_936 c1_i32_937 k0_t1
  let c8_i32_1476 : BitVec 32 := 8#32
  let v2495 : BitVec 32 := Scalar.muli arg13 c8_i32_1476
  let v2496 : Index := Scalar.indexCast v2495
  let c0_1478 : Index := 0#32
  ![9, v2496.toNat, 0, 0]
def k0_off82 (k0_t1 : Fin k0_t1_loop.trips) : Fin 4 → Nat :=
  let c9_1484 : Index := 9#32
  let c0_i32_936 : BitVec 32 := 0#32
  let c1_i32_937 : BitVec 32 := 1#32
  let arg13 : BitVec 32 := Scf.iv c0_i32_936 c1_i32_937 k0_t1
  let c8_i32_1483 : BitVec 32 := 8#32
  let v2511 : BitVec 32 := Scalar.muli arg13 c8_i32_1483
  let v2512 : Index := Scalar.indexCast v2511
  let c128_1485 : Index := 128#32
  ![9, v2512.toNat, 0, 128]
def k0_off83 (k0_t1 : Fin k0_t1_loop.trips) : Fin 4 → Nat :=
  let c10_1491 : Index := 10#32
  let c0_i32_936 : BitVec 32 := 0#32
  let c1_i32_937 : BitVec 32 := 1#32
  let arg13 : BitVec 32 := Scf.iv c0_i32_936 c1_i32_937 k0_t1
  let c8_i32_1490 : BitVec 32 := 8#32
  let v2527 : BitVec 32 := Scalar.muli arg13 c8_i32_1490
  let v2528 : Index := Scalar.indexCast v2527
  let c0_1492 : Index := 0#32
  ![10, v2528.toNat, 0, 0]
def k0_off84 (k0_t1 : Fin k0_t1_loop.trips) : Fin 4 → Nat :=
  let c10_1498 : Index := 10#32
  let c0_i32_936 : BitVec 32 := 0#32
  let c1_i32_937 : BitVec 32 := 1#32
  let arg13 : BitVec 32 := Scf.iv c0_i32_936 c1_i32_937 k0_t1
  let c8_i32_1497 : BitVec 32 := 8#32
  let v2543 : BitVec 32 := Scalar.muli arg13 c8_i32_1497
  let v2544 : Index := Scalar.indexCast v2543
  let c128_1499 : Index := 128#32
  ![10, v2544.toNat, 0, 128]
def k0_off85 (k0_t1 : Fin k0_t1_loop.trips) : Fin 4 → Nat :=
  let c11_1505 : Index := 11#32
  let c0_i32_936 : BitVec 32 := 0#32
  let c1_i32_937 : BitVec 32 := 1#32
  let arg13 : BitVec 32 := Scf.iv c0_i32_936 c1_i32_937 k0_t1
  let c8_i32_1504 : BitVec 32 := 8#32
  let v2559 : BitVec 32 := Scalar.muli arg13 c8_i32_1504
  let v2560 : Index := Scalar.indexCast v2559
  let c0_1506 : Index := 0#32
  ![11, v2560.toNat, 0, 0]
def k0_off86 (k0_t1 : Fin k0_t1_loop.trips) : Fin 4 → Nat :=
  let c11_1512 : Index := 11#32
  let c0_i32_936 : BitVec 32 := 0#32
  let c1_i32_937 : BitVec 32 := 1#32
  let arg13 : BitVec 32 := Scf.iv c0_i32_936 c1_i32_937 k0_t1
  let c8_i32_1511 : BitVec 32 := 8#32
  let v2575 : BitVec 32 := Scalar.muli arg13 c8_i32_1511
  let v2576 : Index := Scalar.indexCast v2575
  let c128_1513 : Index := 128#32
  ![11, v2576.toNat, 0, 128]
def k0_off87 (k0_t1 : Fin k0_t1_loop.trips) : Fin 4 → Nat :=
  let c20_1527 : Index := 20#32
  let c0_i32_936 : BitVec 32 := 0#32
  let c1_i32_937 : BitVec 32 := 1#32
  let arg13 : BitVec 32 := Scf.iv c0_i32_936 c1_i32_937 k0_t1
  let c8_i32_1526 : BitVec 32 := 8#32
  let v2611 : BitVec 32 := Scalar.muli arg13 c8_i32_1526
  let v2612 : Index := Scalar.indexCast v2611
  let c0_1528 : Index := 0#32
  ![20, v2612.toNat, 0, 0]
def k0_off88 (k0_t1 : Fin k0_t1_loop.trips) : Fin 4 → Nat :=
  let c20_1534 : Index := 20#32
  let c0_i32_936 : BitVec 32 := 0#32
  let c1_i32_937 : BitVec 32 := 1#32
  let arg13 : BitVec 32 := Scf.iv c0_i32_936 c1_i32_937 k0_t1
  let c8_i32_1533 : BitVec 32 := 8#32
  let v2627 : BitVec 32 := Scalar.muli arg13 c8_i32_1533
  let v2628 : Index := Scalar.indexCast v2627
  let c128_1535 : Index := 128#32
  ![20, v2628.toNat, 0, 128]
def k0_off89 (k0_t1 : Fin k0_t1_loop.trips) : Fin 4 → Nat :=
  let c21_1541 : Index := 21#32
  let c0_i32_936 : BitVec 32 := 0#32
  let c1_i32_937 : BitVec 32 := 1#32
  let arg13 : BitVec 32 := Scf.iv c0_i32_936 c1_i32_937 k0_t1
  let c8_i32_1540 : BitVec 32 := 8#32
  let v2643 : BitVec 32 := Scalar.muli arg13 c8_i32_1540
  let v2644 : Index := Scalar.indexCast v2643
  let c0_1542 : Index := 0#32
  ![21, v2644.toNat, 0, 0]
def k0_off90 (k0_t1 : Fin k0_t1_loop.trips) : Fin 4 → Nat :=
  let c21_1548 : Index := 21#32
  let c0_i32_936 : BitVec 32 := 0#32
  let c1_i32_937 : BitVec 32 := 1#32
  let arg13 : BitVec 32 := Scf.iv c0_i32_936 c1_i32_937 k0_t1
  let c8_i32_1547 : BitVec 32 := 8#32
  let v2659 : BitVec 32 := Scalar.muli arg13 c8_i32_1547
  let v2660 : Index := Scalar.indexCast v2659
  let c128_1549 : Index := 128#32
  ![21, v2660.toNat, 0, 128]
def k0_off91 (k0_t1 : Fin k0_t1_loop.trips) : Fin 4 → Nat :=
  let c22_1555 : Index := 22#32
  let c0_i32_936 : BitVec 32 := 0#32
  let c1_i32_937 : BitVec 32 := 1#32
  let arg13 : BitVec 32 := Scf.iv c0_i32_936 c1_i32_937 k0_t1
  let c8_i32_1554 : BitVec 32 := 8#32
  let v2675 : BitVec 32 := Scalar.muli arg13 c8_i32_1554
  let v2676 : Index := Scalar.indexCast v2675
  let c0_1556 : Index := 0#32
  ![22, v2676.toNat, 0, 0]
def k0_off92 (k0_t1 : Fin k0_t1_loop.trips) : Fin 4 → Nat :=
  let c22_1562 : Index := 22#32
  let c0_i32_936 : BitVec 32 := 0#32
  let c1_i32_937 : BitVec 32 := 1#32
  let arg13 : BitVec 32 := Scf.iv c0_i32_936 c1_i32_937 k0_t1
  let c8_i32_1561 : BitVec 32 := 8#32
  let v2691 : BitVec 32 := Scalar.muli arg13 c8_i32_1561
  let v2692 : Index := Scalar.indexCast v2691
  let c128_1563 : Index := 128#32
  ![22, v2692.toNat, 0, 128]
def k0_off93 (k0_t1 : Fin k0_t1_loop.trips) : Fin 4 → Nat :=
  let c23_1569 : Index := 23#32
  let c0_i32_936 : BitVec 32 := 0#32
  let c1_i32_937 : BitVec 32 := 1#32
  let arg13 : BitVec 32 := Scf.iv c0_i32_936 c1_i32_937 k0_t1
  let c8_i32_1568 : BitVec 32 := 8#32
  let v2707 : BitVec 32 := Scalar.muli arg13 c8_i32_1568
  let v2708 : Index := Scalar.indexCast v2707
  let c0_1570 : Index := 0#32
  ![23, v2708.toNat, 0, 0]
def k0_off94 (k0_t1 : Fin k0_t1_loop.trips) : Fin 4 → Nat :=
  let c23_1576 : Index := 23#32
  let c0_i32_936 : BitVec 32 := 0#32
  let c1_i32_937 : BitVec 32 := 1#32
  let arg13 : BitVec 32 := Scf.iv c0_i32_936 c1_i32_937 k0_t1
  let c8_i32_1575 : BitVec 32 := 8#32
  let v2723 : BitVec 32 := Scalar.muli arg13 c8_i32_1575
  let v2724 : Index := Scalar.indexCast v2723
  let c128_1577 : Index := 128#32
  ![23, v2724.toNat, 0, 128]
def k0_off95 (k0_t1 : Fin k0_t1_loop.trips) : Fin 5 → Nat :=
  let c1_1578 : Index := 1#32
  let c2_1579 : Index := 2#32
  let c0_i32_936 : BitVec 32 := 0#32
  let c1_i32_937 : BitVec 32 := 1#32
  let arg13 : BitVec 32 := Scf.iv c0_i32_936 c1_i32_937 k0_t1
  let c16_i32 : BitVec 32 := 16#32
  let v1241 : BitVec 32 := Scalar.muli arg13 c16_i32
  let v2728 : Index := Scalar.indexCast v1241
  let c0_1580 : Index := 0#32
  let c0_1581 : Index := 0#32
  ![1, 2, v2728.toNat, 0, 0]
def k0_off96 (k0_t1 : Fin k0_t1_loop.trips) : Fin 4 → Nat :=
  let c32_1591 : Index := 32#32
  let c0_i32_936 : BitVec 32 := 0#32
  let c1_i32_937 : BitVec 32 := 1#32
  let arg13 : BitVec 32 := Scf.iv c0_i32_936 c1_i32_937 k0_t1
  let c8_i32_1590 : BitVec 32 := 8#32
  let v2759 : BitVec 32 := Scalar.muli arg13 c8_i32_1590
  let v2760 : Index := Scalar.indexCast v2759
  let c0_1592 : Index := 0#32
  ![32, v2760.toNat, 0, 0]
def k0_off97 (k0_t1 : Fin k0_t1_loop.trips) : Fin 4 → Nat :=
  let c32_1598 : Index := 32#32
  let c0_i32_936 : BitVec 32 := 0#32
  let c1_i32_937 : BitVec 32 := 1#32
  let arg13 : BitVec 32 := Scf.iv c0_i32_936 c1_i32_937 k0_t1
  let c8_i32_1597 : BitVec 32 := 8#32
  let v2775 : BitVec 32 := Scalar.muli arg13 c8_i32_1597
  let v2776 : Index := Scalar.indexCast v2775
  let c128_1599 : Index := 128#32
  ![32, v2776.toNat, 0, 128]
def k0_off98 (k0_t1 : Fin k0_t1_loop.trips) : Fin 4 → Nat :=
  let c33_1605 : Index := 33#32
  let c0_i32_936 : BitVec 32 := 0#32
  let c1_i32_937 : BitVec 32 := 1#32
  let arg13 : BitVec 32 := Scf.iv c0_i32_936 c1_i32_937 k0_t1
  let c8_i32_1604 : BitVec 32 := 8#32
  let v2791 : BitVec 32 := Scalar.muli arg13 c8_i32_1604
  let v2792 : Index := Scalar.indexCast v2791
  let c0_1606 : Index := 0#32
  ![33, v2792.toNat, 0, 0]
def k0_off99 (k0_t1 : Fin k0_t1_loop.trips) : Fin 4 → Nat :=
  let c33_1612 : Index := 33#32
  let c0_i32_936 : BitVec 32 := 0#32
  let c1_i32_937 : BitVec 32 := 1#32
  let arg13 : BitVec 32 := Scf.iv c0_i32_936 c1_i32_937 k0_t1
  let c8_i32_1611 : BitVec 32 := 8#32
  let v2807 : BitVec 32 := Scalar.muli arg13 c8_i32_1611
  let v2808 : Index := Scalar.indexCast v2807
  let c128_1613 : Index := 128#32
  ![33, v2808.toNat, 0, 128]
def k0_off100 (k0_t1 : Fin k0_t1_loop.trips) : Fin 4 → Nat :=
  let c34_1619 : Index := 34#32
  let c0_i32_936 : BitVec 32 := 0#32
  let c1_i32_937 : BitVec 32 := 1#32
  let arg13 : BitVec 32 := Scf.iv c0_i32_936 c1_i32_937 k0_t1
  let c8_i32_1618 : BitVec 32 := 8#32
  let v2823 : BitVec 32 := Scalar.muli arg13 c8_i32_1618
  let v2824 : Index := Scalar.indexCast v2823
  let c0_1620 : Index := 0#32
  ![34, v2824.toNat, 0, 0]
def k0_off101 (k0_t1 : Fin k0_t1_loop.trips) : Fin 4 → Nat :=
  let c34_1626 : Index := 34#32
  let c0_i32_936 : BitVec 32 := 0#32
  let c1_i32_937 : BitVec 32 := 1#32
  let arg13 : BitVec 32 := Scf.iv c0_i32_936 c1_i32_937 k0_t1
  let c8_i32_1625 : BitVec 32 := 8#32
  let v2839 : BitVec 32 := Scalar.muli arg13 c8_i32_1625
  let v2840 : Index := Scalar.indexCast v2839
  let c128_1627 : Index := 128#32
  ![34, v2840.toNat, 0, 128]
def k0_off102 (k0_t1 : Fin k0_t1_loop.trips) : Fin 4 → Nat :=
  let c35_1633 : Index := 35#32
  let c0_i32_936 : BitVec 32 := 0#32
  let c1_i32_937 : BitVec 32 := 1#32
  let arg13 : BitVec 32 := Scf.iv c0_i32_936 c1_i32_937 k0_t1
  let c8_i32_1632 : BitVec 32 := 8#32
  let v2855 : BitVec 32 := Scalar.muli arg13 c8_i32_1632
  let v2856 : Index := Scalar.indexCast v2855
  let c0_1634 : Index := 0#32
  ![35, v2856.toNat, 0, 0]
def k0_off103 (k0_t1 : Fin k0_t1_loop.trips) : Fin 4 → Nat :=
  let c35_1640 : Index := 35#32
  let c0_i32_936 : BitVec 32 := 0#32
  let c1_i32_937 : BitVec 32 := 1#32
  let arg13 : BitVec 32 := Scf.iv c0_i32_936 c1_i32_937 k0_t1
  let c8_i32_1639 : BitVec 32 := 8#32
  let v2871 : BitVec 32 := Scalar.muli arg13 c8_i32_1639
  let v2872 : Index := Scalar.indexCast v2871
  let c128_1641 : Index := 128#32
  ![35, v2872.toNat, 0, 128]
def k0_off104 (k0_t1 : Fin k0_t1_loop.trips) : Fin 4 → Nat :=
  let c44_1655 : Index := 44#32
  let c0_i32_936 : BitVec 32 := 0#32
  let c1_i32_937 : BitVec 32 := 1#32
  let arg13 : BitVec 32 := Scf.iv c0_i32_936 c1_i32_937 k0_t1
  let c8_i32_1654 : BitVec 32 := 8#32
  let v2907 : BitVec 32 := Scalar.muli arg13 c8_i32_1654
  let v2908 : Index := Scalar.indexCast v2907
  let c0_1656 : Index := 0#32
  ![44, v2908.toNat, 0, 0]
def k0_off105 (k0_t1 : Fin k0_t1_loop.trips) : Fin 4 → Nat :=
  let c44_1662 : Index := 44#32
  let c0_i32_936 : BitVec 32 := 0#32
  let c1_i32_937 : BitVec 32 := 1#32
  let arg13 : BitVec 32 := Scf.iv c0_i32_936 c1_i32_937 k0_t1
  let c8_i32_1661 : BitVec 32 := 8#32
  let v2923 : BitVec 32 := Scalar.muli arg13 c8_i32_1661
  let v2924 : Index := Scalar.indexCast v2923
  let c128_1663 : Index := 128#32
  ![44, v2924.toNat, 0, 128]
def k0_off106 (k0_t1 : Fin k0_t1_loop.trips) : Fin 4 → Nat :=
  let c45_1669 : Index := 45#32
  let c0_i32_936 : BitVec 32 := 0#32
  let c1_i32_937 : BitVec 32 := 1#32
  let arg13 : BitVec 32 := Scf.iv c0_i32_936 c1_i32_937 k0_t1
  let c8_i32_1668 : BitVec 32 := 8#32
  let v2939 : BitVec 32 := Scalar.muli arg13 c8_i32_1668
  let v2940 : Index := Scalar.indexCast v2939
  let c0_1670 : Index := 0#32
  ![45, v2940.toNat, 0, 0]
def k0_off107 (k0_t1 : Fin k0_t1_loop.trips) : Fin 4 → Nat :=
  let c45_1676 : Index := 45#32
  let c0_i32_936 : BitVec 32 := 0#32
  let c1_i32_937 : BitVec 32 := 1#32
  let arg13 : BitVec 32 := Scf.iv c0_i32_936 c1_i32_937 k0_t1
  let c8_i32_1675 : BitVec 32 := 8#32
  let v2955 : BitVec 32 := Scalar.muli arg13 c8_i32_1675
  let v2956 : Index := Scalar.indexCast v2955
  let c128_1677 : Index := 128#32
  ![45, v2956.toNat, 0, 128]
def k0_off108 (k0_t1 : Fin k0_t1_loop.trips) : Fin 4 → Nat :=
  let c46_1683 : Index := 46#32
  let c0_i32_936 : BitVec 32 := 0#32
  let c1_i32_937 : BitVec 32 := 1#32
  let arg13 : BitVec 32 := Scf.iv c0_i32_936 c1_i32_937 k0_t1
  let c8_i32_1682 : BitVec 32 := 8#32
  let v2971 : BitVec 32 := Scalar.muli arg13 c8_i32_1682
  let v2972 : Index := Scalar.indexCast v2971
  let c0_1684 : Index := 0#32
  ![46, v2972.toNat, 0, 0]
def k0_off109 (k0_t1 : Fin k0_t1_loop.trips) : Fin 4 → Nat :=
  let c46_1690 : Index := 46#32
  let c0_i32_936 : BitVec 32 := 0#32
  let c1_i32_937 : BitVec 32 := 1#32
  let arg13 : BitVec 32 := Scf.iv c0_i32_936 c1_i32_937 k0_t1
  let c8_i32_1689 : BitVec 32 := 8#32
  let v2987 : BitVec 32 := Scalar.muli arg13 c8_i32_1689
  let v2988 : Index := Scalar.indexCast v2987
  let c128_1691 : Index := 128#32
  ![46, v2988.toNat, 0, 128]
def k0_off110 (k0_t1 : Fin k0_t1_loop.trips) : Fin 4 → Nat :=
  let c47_1697 : Index := 47#32
  let c0_i32_936 : BitVec 32 := 0#32
  let c1_i32_937 : BitVec 32 := 1#32
  let arg13 : BitVec 32 := Scf.iv c0_i32_936 c1_i32_937 k0_t1
  let c8_i32_1696 : BitVec 32 := 8#32
  let v3003 : BitVec 32 := Scalar.muli arg13 c8_i32_1696
  let v3004 : Index := Scalar.indexCast v3003
  let c0_1698 : Index := 0#32
  ![47, v3004.toNat, 0, 0]
def k0_off111 (k0_t1 : Fin k0_t1_loop.trips) : Fin 4 → Nat :=
  let c47_1704 : Index := 47#32
  let c0_i32_936 : BitVec 32 := 0#32
  let c1_i32_937 : BitVec 32 := 1#32
  let arg13 : BitVec 32 := Scf.iv c0_i32_936 c1_i32_937 k0_t1
  let c8_i32_1703 : BitVec 32 := 8#32
  let v3019 : BitVec 32 := Scalar.muli arg13 c8_i32_1703
  let v3020 : Index := Scalar.indexCast v3019
  let c128_1705 : Index := 128#32
  ![47, v3020.toNat, 0, 128]
def k0_cond3 (i : grid0.Coords) : BitVec 1 :=
  let arg0 : BitVec 32 := BitVec.ofNat 32 (i 0).val
  let c1_i32_939 : BitVec 32 := 1#32
  let v1237 : BitVec 32 := Scalar.addi arg0 c1_i32_939
  let c2_i32_940 : BitVec 32 := 2#32
  let v1238 : BitVec 1 := Scalar.cmpi .slt v1237 c2_i32_940
  let v1239 : BitVec 32 := Scalar.extui v1238
  let c0_i32_941 : BitVec 32 := 0#32
  let v1240 : BitVec 1 := Scalar.cmpi .ne v1239 c0_i32_941
  v1240

def k0_off112 (i : grid0.Coords) : Fin 3 → Nat :=
  let arg0 : BitVec 32 := BitVec.ofNat 32 (i 0).val
  let c1_i32_942 : BitVec 32 := 1#32
  let v1241 : BitVec 32 := Scalar.addi arg0 c1_i32_942
  let c1024_i32_943 : BitVec 32 := 1024#32
  let v1242 : BitVec 32 := Scalar.muli v1241 c1024_i32_943
  let c0_i32_954 : BitVec 32 := 0#32
  let c0_i32_955 : BitVec 32 := 0#32
  ![v1242.toNat, 0, 0]
def k0_off113 (i : grid0.Coords) : Fin 3 → Nat :=
  let arg0 : BitVec 32 := BitVec.ofNat 32 (i 0).val
  let c1_i32_942 : BitVec 32 := 1#32
  let v1241 : BitVec 32 := Scalar.addi arg0 c1_i32_942
  let c1024_i32_944 : BitVec 32 := 1024#32
  let v1243 : BitVec 32 := Scalar.muli v1241 c1024_i32_944
  let c0_i32_961 : BitVec 32 := 0#32
  let c128_i32_962 : BitVec 32 := 128#32
  ![v1243.toNat, 0, 128]
def k0_off114 (i : grid0.Coords) : Fin 3 → Nat :=
  let arg0 : BitVec 32 := BitVec.ofNat 32 (i 0).val
  let c1_i32_942 : BitVec 32 := 1#32
  let v1241 : BitVec 32 := Scalar.addi arg0 c1_i32_942
  let c1024_i32_945 : BitVec 32 := 1024#32
  let v1244 : BitVec 32 := Scalar.muli v1241 c1024_i32_945
  let c0_i32_968 : BitVec 32 := 0#32
  let c256_i32_969 : BitVec 32 := 256#32
  ![v1244.toNat, 0, 256]
def k0_off115 (i : grid0.Coords) : Fin 3 → Nat :=
  let arg0 : BitVec 32 := BitVec.ofNat 32 (i 0).val
  let c1_i32_942 : BitVec 32 := 1#32
  let v1241 : BitVec 32 := Scalar.addi arg0 c1_i32_942
  let c1024_i32_946 : BitVec 32 := 1024#32
  let v1245 : BitVec 32 := Scalar.muli v1241 c1024_i32_946
  let c8_i32_975 : BitVec 32 := 8#32
  let c0_i32_976 : BitVec 32 := 0#32
  ![v1245.toNat, 8, 0]
def k0_off116 (i : grid0.Coords) : Fin 3 → Nat :=
  let arg0 : BitVec 32 := BitVec.ofNat 32 (i 0).val
  let c1_i32_942 : BitVec 32 := 1#32
  let v1241 : BitVec 32 := Scalar.addi arg0 c1_i32_942
  let c1024_i32_947 : BitVec 32 := 1024#32
  let v1246 : BitVec 32 := Scalar.muli v1241 c1024_i32_947
  let c8_i32_982 : BitVec 32 := 8#32
  let c128_i32_983 : BitVec 32 := 128#32
  ![v1246.toNat, 8, 128]
def k0_off117 (i : grid0.Coords) : Fin 3 → Nat :=
  let arg0 : BitVec 32 := BitVec.ofNat 32 (i 0).val
  let c1_i32_942 : BitVec 32 := 1#32
  let v1241 : BitVec 32 := Scalar.addi arg0 c1_i32_942
  let c1024_i32_948 : BitVec 32 := 1024#32
  let v1247 : BitVec 32 := Scalar.muli v1241 c1024_i32_948
  let c8_i32_989 : BitVec 32 := 8#32
  let c256_i32_990 : BitVec 32 := 256#32
  ![v1247.toNat, 8, 256]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x48x128x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x8x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceVIdeal.lean ====
abbrev S24x48x128x256 : Shape := ⟨4, ![24, 48, 128, 256]⟩
abbrev S6144x128 : Shape := ⟨2, ![6144, 128]⟩
abbrev S2048x384x16 : Shape := ⟨3, ![2048, 384, 16]⟩
abbrev S2048x384 : Shape := ⟨2, ![2048, 384]⟩
abbrev S253 : Shape := ⟨1, ![253]⟩
abbrev S24x4x3x4x128x2x128 : Shape := ⟨7, ![24, 4, 3, 4, 128, 2, 128]⟩
abbrev S24x4x3x4x128x2x128x2 : Shape := ⟨8, ![24, 4, 3, 4, 128, 2, 128, 2]⟩
abbrev S24x128x2x3x128x2x4x4 : Shape := ⟨8, ![24, 128, 2, 3, 128, 2, 4, 4]⟩
abbrev S6144x384x2x16 : Shape := ⟨4, ![6144, 384, 2, 16]⟩
abbrev S2048x384x1 : Shape := ⟨3, ![2048, 384, 1]⟩
abbrev S_ : Shape := ⟨0, ![]⟩
abbrev S6144x384x1x16 : Shape := ⟨4, ![6144, 384, 1, 16]⟩
abbrev S6144x384x16 : Shape := ⟨3, ![6144, 384, 16]⟩
abbrev S6144x2048 : Shape := ⟨2, ![6144, 2048]⟩
abbrev S6144x16x128 : Shape := ⟨3, ![6144, 16, 128]⟩
abbrev S6144x16 : Shape := ⟨2, ![6144, 16]⟩
abbrev S6144x16x1 : Shape := ⟨3, ![6144, 16, 1]⟩
abbrev S1x1x253 : Shape := ⟨3, ![1, 1, 253]⟩
abbrev S6144x16x253 : Shape := ⟨3, ![6144, 16, 253]⟩
abbrev S6x1024x16 : Shape := ⟨3, ![6, 1024, 16]⟩
abbrev S6x16x1024 : Shape := ⟨3, ![6, 16, 1024]⟩

abbrev nBuf : Space → Nat
  | .hbm => 79
  | .vmem => 2
  | .smem => 0
  | _ => 0

abbrev bufTy : (tb : Table) → Fin (tcTables nBuf tb) → BufTy
  | .hbm, ⟨0, _⟩ => ⟨S24x48x128x256, .i32⟩
  | .hbm, ⟨1, _⟩ => ⟨S6144x128, .f32⟩
  | .hbm, ⟨2, _⟩ => ⟨S6144x128, .f32⟩
  | .hbm, ⟨3, _⟩ => ⟨S2048x384x16, .i8⟩
  | .hbm, ⟨4, _⟩ => ⟨S2048x384, .bf16⟩
  | .hbm, ⟨5, _⟩ => ⟨S253, .f32⟩
  | .hbm, ⟨6, _⟩ => ⟨S24x4x3x4x128x2x128, .i32⟩
  | .hbm, ⟨7, _⟩ => ⟨S24x4x3x4x128x2x128x2, .bf16⟩
  | .hbm, ⟨8, _⟩ => ⟨S24x128x2x3x128x2x4x4, .bf16⟩
  | .hbm, ⟨9, _⟩ => ⟨S6144x384x2x16, .bf16⟩
  | .hbm, ⟨10, _⟩ => ⟨S2048x384x1, .bf16⟩
  | .hbm, ⟨11, _⟩ => ⟨S2048x384x16, .i32⟩
  | .hbm, ⟨12, _⟩ => ⟨S_, .i32⟩
  | .hbm, ⟨13, _⟩ => ⟨S2048x384x16, .i32⟩
  | .hbm, ⟨14, _⟩ => ⟨S2048x384x16, .i32⟩
  | .hbm, ⟨15, _⟩ => ⟨S2048x384x16, .bf16⟩
  | .hbm, ⟨16, _⟩ => ⟨S_, .bf16⟩
  | .hbm, ⟨17, _⟩ => ⟨S2048x384x16, .bf16⟩
  | .hbm, ⟨18, _⟩ => ⟨S2048x384x16, .bf16⟩
  | .hbm, ⟨19, _⟩ => ⟨S2048x384x16, .bf16⟩
  | .hbm, ⟨20, _⟩ => ⟨S2048x384x16, .bf16⟩
  | .hbm, ⟨21, _⟩ => ⟨S_, .i32⟩
  | .hbm, ⟨22, _⟩ => ⟨S2048x384x16, .i32⟩
  | .hbm, ⟨23, _⟩ => ⟨S2048x384x16, .i32⟩
  | .hbm, ⟨24, _⟩ => ⟨S2048x384x16, .bf16⟩
  | .hbm, ⟨25, _⟩ => ⟨S_, .bf16⟩
  | .hbm, ⟨26, _⟩ => ⟨S2048x384x16, .bf16⟩
  | .hbm, ⟨27, _⟩ => ⟨S2048x384x16, .bf16⟩
  | .hbm, ⟨28, _⟩ => ⟨S2048x384x16, .bf16⟩
  | .hbm, ⟨29, _⟩ => ⟨S2048x384x16, .bf16⟩
  | .hbm, ⟨30, _⟩ => ⟨S6144x384x1x16, .bf16⟩
  | .hbm, ⟨31, _⟩ => ⟨S6144x384x16, .bf16⟩
  | .hbm, ⟨32, _⟩ => ⟨S6144x2048, .f32⟩
  | .hbm, ⟨33, _⟩ => ⟨S6144x384x1x16, .bf16⟩
  | .hbm, ⟨34, _⟩ => ⟨S6144x384x16, .bf16⟩
  | .hbm, ⟨35, _⟩ => ⟨S6144x2048, .f32⟩
  | .hbm, ⟨36, _⟩ => ⟨S6144x2048, .f32⟩
  | .hbm, ⟨37, _⟩ => ⟨S6144x16x128, .f32⟩
  | .hbm, ⟨38, _⟩ => ⟨S6144x16x128, .f32⟩
  | .hbm, ⟨39, _⟩ => ⟨S_, .f32⟩
  | .hbm, ⟨40, _⟩ => ⟨S6144x16, .f32⟩
  | .hbm, ⟨41, _⟩ => ⟨S_, .f32⟩
  | .hbm, ⟨42, _⟩ => ⟨S6144x16, .f32⟩
  | .hbm, ⟨43, _⟩ => ⟨S6144x16, .f32⟩
  | .hbm, ⟨44, _⟩ => ⟨S6144x16x1, .f32⟩
  | .hbm, ⟨45, _⟩ => ⟨S1x1x253, .f32⟩
  | .hbm, ⟨46, _⟩ => ⟨S6144x16x253, .f32⟩
  | .hbm, ⟨47, _⟩ => ⟨S6144x16x253, .f32⟩
  | .hbm, ⟨48, _⟩ => ⟨S6144x16x253, .i1⟩
  | .hbm, ⟨49, _⟩ => ⟨S_, .f32⟩
  | .hbm, ⟨50, _⟩ => ⟨S6144x16x253, .f32⟩
  | .hbm, ⟨51, _⟩ => ⟨S6144x16x253, .f32⟩
  | .hbm, ⟨52, _⟩ => ⟨S6144x16x253, .f32⟩
  | .hbm, ⟨53, _⟩ => ⟨S_, .f32⟩
  | .hbm, ⟨54, _⟩ => ⟨S6144x16, .f32⟩
  | .hbm, ⟨55, _⟩ => ⟨S_, .f32⟩
  | .hbm, ⟨56, _⟩ => ⟨S6144x16, .f32⟩
  | .hbm, ⟨57, _⟩ => ⟨S6144x16, .i1⟩
  | .hbm, ⟨58, _⟩ => ⟨S_, .f32⟩
  | .hbm, ⟨59, _⟩ => ⟨S_, .f32⟩
  | .hbm, ⟨60, _⟩ => ⟨S6144x16, .f32⟩
  | .hbm, ⟨61, _⟩ => ⟨S6144x16, .f32⟩
  | .hbm, ⟨62, _⟩ => ⟨S_, .f32⟩
  | .hbm, ⟨63, _⟩ => ⟨S6144x16, .f32⟩
  | .hbm, ⟨64, _⟩ => ⟨S6144x16, .f32⟩
  | .hbm, ⟨65, _⟩ => ⟨S6144x16x1, .f32⟩
  | .hbm, ⟨66, _⟩ => ⟨S6144x16x128, .f32⟩
  | .hbm, ⟨67, _⟩ => ⟨S6144x16x128, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S6144x16x128, .f32⟩
  | .hbm, ⟨72, _⟩ => ⟨S6144x16x128, .f32⟩
  | .hbm, ⟨73, _⟩ => ⟨S_, .f32⟩
  | .hbm, ⟨74, _⟩ => ⟨S6144x16x128, .f32⟩
  | .hbm, ⟨75, _⟩ => ⟨S6144x16x128, .f32⟩
  | .hbm, ⟨76, _⟩ => ⟨S6x1024x16, .f32⟩
  | .hbm, ⟨77, _⟩ => ⟨S6x16x1024, .f32⟩
  | .hbm, ⟨78, _⟩ => ⟨S6144x16x128, .fp8e4m3⟩
  | .local _ .vmem, ⟨0, _⟩ => ⟨S6144x16x128, .f32⟩
  | .local _ .vmem, ⟨1, _⟩ => ⟨S6144x16x128, .fp8e4m3⟩
  | _, _ => ⟨S24x48x128x256, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_call0_v0 : Ref sig .tc := ⟨.hbm, 50, rfl⟩
abbrev main_call0_v1 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_call1_v0 : Ref sig .tc := ⟨.hbm, 59, rfl⟩
abbrev main_call1_v1 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_cst_11 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S6144x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x16x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Blocks.lean ====
/-
  Of buffers held in part: storable, and joined from the blocks that tile them.
-/
module

public import Idealize.ShloMosaic.Lib.Pipeline.FrameBody
public import Idealize.ShloMosaic.Lib.Ring
public import Idealize.ShloMosaic.Lib.Batch
public import Idealize.ShloMosaic.Lib.Tactic

@[expose] public section

noncomputable section

namespace Cert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- A points-to is storable, stated over variables. -/
theorem storable_pt {nD' : Nat} {τ' : Topo} {sg : RefSig} {Ix' : Type} [DecidableEq Ix'] {Val' : EltTy → Type} {Name' : Type} [DecidableEq Name']
    {U' : Type} [URA U'] {Lvl' : Type} (ℓ : Loc nD' τ' sg) (I : Finset (Idx ℓ)) (q : PosShare TreeShare) (f : Buf Val' ℓ) :
    Storable (upEmb : UEmb _ (MT nD' τ' sg Ix' Val' Name' U' Lvl')) (ℓ ↦[I]{q} f) := inferInstance
/-- Blocks that tile a buffer, each held at contents of its own, are the buffer held whole at contents agreeing with each. -/
theorem blocks_join {F : FTy → Type} {nD : Nat} {τ : Topo} {sig : RefSig} {B : Type} [Fintype B] [DecidableEq B] {ℓ : Loc nD τ sig} (I : B → Finset (Idx ℓ)) (hd : ∀ b b', b ≠ b' → Disjoint (I b) (I b'))
    (hc : Finset.univ.biUnion I = Finset.univ) {q : PosShare TreeShare} (f : B → Buf (Elt F) ℓ) (f₀ : Buf (Elt F) ℓ) :
    bigSep Finset.univ (fun b => ℓ ↦[I b]{q} f b) ⊢ (iprop(∃ X, ⌜∀ b, ∀ i ∈ I b, X i = f b i⌝ ∗ ℓ ↦{q} X) : sProp (MT nD τ sig Unit (Elt F) ℕ (Pipeline.UD sig nD τ) ℕ)) := by
  refine (pointsTo_biUnion_join Finset.univ I f f₀ (fun b _ b' _ h => hd b b' h)).trans ?_
  rw [hc]
  iintro ⟨%X, %hX, H⟩; iexists X; isplitr; · ipureintro; exact fun w => hX w (Finset.mem_univ w)
  iexact H

end Cert

end
-- ==== Proof.KernelStream.lean ====
/-
  The weight stream of the kernel `Kernel`: the names and the resources its body's own transfers are stated over.

  The body keeps ONE tile of packed weights in scratch, as six windows (two words of eight bytes by three groups of 128
  scales), and fills it by six transfers counted on one semaphore cell. A tile is therefore in one of two states between
  grid points: FREE (the cell at zero, the scratch and the operand in HBM held whole) or BUSY (all six transfers of a
  block issued, none waited for: a `Transfers.Batch`, and of the operand what the transfers did not borrow).
-/
module

public import proofs.«01_k».proof.Proof.Gen.Kernel.Frame
public import proofs.«01_k».proof.Proof.Gen.Kernel.Skeleton
public import proofs.«01_k».proof.Proof.Blocks
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## The frame kit at the algebra of a body with transfers of its own -/

set_option maxHeartbeats 800000 in
/-- @main up to the region: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- An input window's current staging buffer holds its block at every point, fetched there or not. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions over the points -/

/-- The first conditional (the first tile's transfers): at the first point only. -/
abbrev cond0_0 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
theorem hcond0_0 : ∀ t : Fin cfg0.N, cond0_0 (grid0.coords t) ↔ t.val = 0 :=
  (by decide +kernel : ∀ t : Fin grid0.N, cond0_0 (grid0.coords t) ↔ t.val = 0)
/-- The second (waits, decoding, the next tile's transfers): where the token block is the first. -/
abbrev cond0_1 (i : grid0.Coords) : Prop := k0_cond2 i = 1#1
theorem hcond0_1 : ∀ t : Fin cfg0.N, cond0_1 (grid0.coords t) ↔ t.val % 24 = 0 :=
  (by decide +kernel : ∀ t : Fin grid0.N, cond0_1 (grid0.coords t) ↔ t.val % 24 = 0)
/-- The third (there is a next tile): before the last row of points. -/
abbrev cond0_2 (i : grid0.Coords) : Prop := k0_cond3 i = 1#1
theorem hcond0_2 : ∀ t : Fin cfg0.N, cond0_2 (grid0.coords t) ↔ t.val < 216 :=
  (by decide +kernel : ∀ t : Fin grid0.N, cond0_2 (grid0.coords t) ↔ t.val < 216)
/-- The tile of a point is its number over the 24 token blocks. -/
theorem coord0 : ∀ t : Fin cfg0.N, (grid0.coords t 0).val = t.val / 24 :=
  (by decide +kernel : ∀ t : Fin grid0.N, (grid0.coords t 0).val = t.val / 24)

/-! ## The memrefs the body is called with -/

abbrev ms0_0 (t : Fin cfg0.N) : Memref sig .tc .vmem S1x48x128x256 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x384 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x8x128 .bf16 := win0_4.stage (cfg0.slots t 4)
abbrev hs0_4 (t : Fin cfg0.N) : (ms0_4 t).IsWhole := hstage0_4 ((cfg0.slots t 4).cast nbuf0_4)
/-- The scratch: the decoded tile, the packed tile, the output staging. -/
abbrev scM0_0 : Memref sig .tc .vmem S48x512x256 .i32 := Memref.whole cc0_scratch0
abbrev scM0_1 : Memref sig .tc .vmem S2x3x1024x8x128 .i8 := Memref.whole cc0_scratch1
abbrev scM0_2 : Memref sig .tc .vmem S1024x128 .i32 := Memref.whole cc0_scratch3
/-- The packed weights, left in HBM. -/
abbrev hbM0_0 : Memref sig .tc .hbm S10240x16x384 .i8 := Memref.whole main_v0
/-- Memref `M`'s buffer on core `c`: its contents type, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own semaphore cell. -/
abbrev osem0 : Fin 1 → SemLoc sig := fun j => (![SemLoc.dma 10] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 10) 0 := by
  rw [Pipeline.ownSems0_eq_of_list c osem0 [0] (by decide) (by decide)]; rfl
/-- The operand the body moves out of HBM: no window's array. -/
def H0 : Finset (Ref sig .tc) := {main_v0}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_v0)) := by
  rw [BI.bigSep_eq_bigSepL_of_eq [main_v0] (by decide) (by decide)]; rfl
/-- What the launch hands a body with transfers of its own, and takes back, conjunct by conjunct. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ semVal ((c : Thread nD τ), SemLoc.dma 10) 0 ∗ iprop(hbPt0 c hbM0_0 (V m c main_v0))) := by
  rw [Pipeline.ΦD_eq, scopedRest0_eq, ownSems00_eq, hbmPts0_eq]; simp only [scM0_0, scM0_1, scM0_2, owns_whole]; try rfl

/-! ## The windows of the packed tile, and the blocks of the operand they are filled from -/

/-- Window (word `a`, group of scales `b`) of the packed tile. -/
abbrev mkWin (a b : ℕ) (h : ∀ x, (![a, b, 0, 0, 0] : Fin 5 → ℕ) x + S1x1x1024x8x128.size x ≤ S2x3x1024x8x128.size x) : Memref sig .tc .vmem S1024x8x128 .i8 :=
  (scM0_1.slice (Rect.unit (s := S2x3x1024x8x128) ![a, b, 0, 0, 0] S1x1x1024x8x128.size h) (fun _ => rfl)).squeeze S1024x8x128 squeezes_S1x1x1024x8x128_S1024x8x128
abbrev win0 : Memref sig .tc .vmem S1024x8x128 .i8 := mkWin 0 0 inb_S2x3x1024x8x128_S1x1x1024x8x128_0_0_0_0_0
abbrev win1 : Memref sig .tc .vmem S1024x8x128 .i8 := mkWin 0 1 inb_S2x3x1024x8x128_S1x1x1024x8x128_0_1_0_0_0
abbrev win2 : Memref sig .tc .vmem S1024x8x128 .i8 := mkWin 0 2 inb_S2x3x1024x8x128_S1x1x1024x8x128_0_2_0_0_0
abbrev win3 : Memref sig .tc .vmem S1024x8x128 .i8 := mkWin 1 0 inb_S2x3x1024x8x128_S1x1x1024x8x128_1_0_0_0_0
abbrev win4 : Memref sig .tc .vmem S1024x8x128 .i8 := mkWin 1 1 inb_S2x3x1024x8x128_S1x1x1024x8x128_1_1_0_0_0
abbrev win5 : Memref sig .tc .vmem S1024x8x128 .i8 := mkWin 1 2 inb_S2x3x1024x8x128_S1x1x1024x8x128_1_2_0_0_0
/-- Offsets at which a block of the operand fits. -/
abbrev Fits (o : Fin 3 → ℕ) : Prop := ∀ a, o a + S1024x8x128.size a ≤ S10240x16x384.size a
/-- The block of the operand at offsets `o`. -/
abbrev srcO (o : Fin 3 → ℕ) (h : Fits o) : Memref sig .tc .hbm S1024x8x128 .i8 :=
  hbM0_0.slice (Rect.unit (s := S10240x16x384) o S1024x8x128.size h) (fun _ => rfl)
/-- The cell the six transfers are counted on. -/
abbrev cellR : SemLoc sig := SemLoc.dma cc0_scratch2.sem
theorem cellR_eq : cellR = SemLoc.dma 10 := by decide

section Stream
variable (c : Dev nD) (W0 : HbBuf0 (F := F) c hbM0_0)

/-- The operand is lent by share, one share per window. -/
abbrev q0 : PosShare TreeShare := fullShare.left
abbrev q1 : PosShare TreeShare := fullShare.right.left
abbrev q2 : PosShare TreeShare := fullShare.right.right.left
abbrev q3 : PosShare TreeShare := fullShare.right.right.right.left
abbrev q4 : PosShare TreeShare := fullShare.right.right.right.right.left
abbrev q5 : PosShare TreeShare := fullShare.right.right.right.right.right

/-- A window held at `e`; the block at `o` of the operand at a share; the rest of the operand at that share; and it whole. -/
abbrev winP (M : Memref sig .tc .vmem S1024x8x128 .i8) (e : HbBuf0 (F := F) c M) : sProp 𝕄 := M.view.loc (c : Thread nD τ) ↦[M.view.set]{fullShare} e
abbrev srcP (q : PosShare TreeShare) (o : Fin 3 → ℕ) (h : Fits o) : sProp 𝕄 := (srcO o h).view.loc (c : Thread nD τ) ↦[(srcO o h).view.set]{q} W0
def restP (q : PosShare TreeShare) (o : Fin 3 → ℕ) (h : Fits o) : sProp 𝕄 := ((c : Thread nD τ).loc main_v0) ↦[Finset.univ \ (srcO o h).view.set]{q} W0
abbrev wholeP (q : PosShare TreeShare) : sProp 𝕄 := ((c : Thread nD τ).loc main_v0) ↦[Finset.univ]{q} W0
/-- What a window holds once the block at `o` has landed in it (over anything). -/
abbrev landed (M : Memref sig .tc .vmem S1024x8x128 .i8) (o : Fin 3 → ℕ) (h : Fits o) : HbBuf0 (F := F) c M :=
  M.view.writes (Elt F) M.view.junk [⟨Rect.whole S1024x8x128, ReadAs.same.apply ((srcO o h).view.read (Elt F) W0)⟩]
/-- What a transfer delivers: its window landed, and the block it read. -/
abbrev dlv (M : Memref sig .tc .vmem S1024x8x128 .i8) (q : PosShare TreeShare) (o : Fin 3 → ℕ) (h : Fits o) : sProp 𝕄 :=
  iprop(winP c M (landed c W0 M o h) ∗ srcP c W0 q o h)

variable (o0 o1 o2 o3 o4 o5 : Fin 3 → ℕ) (h0 : Fits o0) (h1 : Fits o1) (h2 : Fits o2) (h3 : Fits o3) (h4 : Fits o4) (h5 : Fits o5)
abbrev winD : Fin 6 → sProp 𝕄 :=
  ![dlv c W0 win0 q0 o0 h0, dlv c W0 win1 q1 o1 h1, dlv c W0 win2 q2 o2 h2, dlv c W0 win3 q3 o3 h3, dlv c W0 win4 q4 o4 h4, dlv c W0 win5 q5 o5 h5]
/-- One transfer's amount on the cell. -/
abbrev NN : ℕ := win0.view.amount cellR
/-- The batch with `k` transfers issued and none waited for. -/
abbrev batchP (k : ℕ) : sProp 𝕄 :=
  Transfers.Batch countersEmb (c : Thread nD τ) cellR default NN (winD c W0 o0 o1 o2 o3 o4 o5 h0 h1 h2 h3 h4 h5) k 0
/-- The rests of the six shares. -/
def restsP : sProp 𝕄 := iprop(restP c W0 q0 o0 h0 ∗ restP c W0 q1 o1 h1 ∗ restP c W0 q2 o2 h2 ∗ restP c W0 q3 o3 h3 ∗ restP c W0 q4 o4 h4 ∗ restP c W0 q5 o5 h5)
/-- BUSY: six transfers issued from the blocks at the offsets. -/
def busyO : sProp 𝕄 := iprop(batchP c W0 o0 o1 o2 o3 o4 o5 h0 h1 h2 h3 h4 h5 6 ∗ restsP c W0 o0 o1 o2 o3 o4 o5 h0 h1 h2 h3 h4 h5)

theorem storable_winD : ∀ w, Storable (upEmb : UEmb _ 𝕄) (winD c W0 o0 o1 o2 o3 o4 o5 h0 h1 h2 h3 h4 h5 w) := by
  intro w; fin_cases w <;> exact @Storable.sep _ _ _ _ _ _ _ _ (storable_pt _ _ _ _) (storable_pt _ _ _ _)

/-! ### The windows tile the packed tile -/

abbrev winOff (w : Fin 2 × Fin 3) : Fin 5 → ℕ := ![w.1.val, w.2.val, 0, 0, 0]
theorem inb_winOff (w : Fin 2 × Fin 3) : ∀ a, winOff w a + S1x1x1024x8x128.size a ≤ S2x3x1024x8x128.size a := by
  have := w.1.isLt; have := w.2.isLt; intro a; fin_cases a <;> simp <;> omega
abbrev winSet (w : Fin 2 × Fin 3) : Finset S2x3x1024x8x128.Idx := (Rect.unit (s := S2x3x1024x8x128) (winOff w) S1x1x1024x8x128.size (inb_winOff w)).set
theorem mkWin_set (a b : ℕ) (h) : (mkWin a b h).view.set = (Rect.unit (s := S2x3x1024x8x128) ![a, b, 0, 0, 0] S1x1x1024x8x128.size h).set := by
  simp only [mkWin, Memref.view_squeeze, View.set_reshape]; exact View.set_slice_whole _ _
theorem winSet_disjoint (w w' : Fin 2 × Fin 3) (h : w ≠ w') : Disjoint (winSet w) (winSet w') :=
  Ring.boxes_disjoint (s := S2x3x1024x8x128) S1x1x1024x8x128.size winOff inb_winOff (fun w => ![w.1.val, w.2.val, 0, 0, 0])
    (fun w a => by fin_cases a <;> simp [winOff] <;> omega) (fun v => (Fin.ofNat 2 (v 0), Fin.ofNat 3 (v 1))) (by decide +kernel) w w' h
theorem winSet_cover : Finset.univ.biUnion winSet = (Finset.univ : Finset S2x3x1024x8x128.Idx) := by
  ext i
  simp only [Finset.mem_biUnion, Finset.mem_univ, true_and, iff_true]
  refine ⟨(⟨(i 0).val, (i 0).isLt⟩, ⟨(i 1).val, (i 1).isLt⟩), Rect.mem_set_unit.2 fun a => ?_⟩
  have := (i a).isLt
  fin_cases a <;> simp [winOff] at this ⊢ <;> omega

/-- A window held is its box of the packed tile held. -/
theorem winP_eq (a b : ℕ) (h) (e : Buf (Elt F) ((c : Thread nD τ).loc cc0_scratch1)) :
    winP c (mkWin a b h) e = (((c : Thread nD τ).loc cc0_scratch1) ↦[(Rect.unit (s := S2x3x1024x8x128) ![a, b, 0, 0, 0] S1x1x1024x8x128.size h).set]{fullShare} e : sProp 𝕄) := by
  unfold winP; rw [mkWin_set]
/-- The six windows, each at contents of its own, over (word, group). -/
abbrev winFam (f : Fin 2 × Fin 3 → Buf (Elt F) ((c : Thread nD τ).loc cc0_scratch1)) : sProp 𝕄 :=
  bigSep Finset.univ fun w => ((c : Thread nD τ).loc cc0_scratch1) ↦[winSet w]{fullShare} f w
theorem winFam_eq (f : Fin 2 × Fin 3 → Buf (Elt F) ((c : Thread nD τ).loc cc0_scratch1)) :
    winFam c f = iprop(winP c win0 (f (0, 0)) ∗ winP c win1 (f (0, 1)) ∗ winP c win2 (f (0, 2)) ∗ winP c win3 (f (1, 0)) ∗ winP c win4 (f (1, 1)) ∗ winP c win5 (f (1, 2))) := by
  rw [winFam, BI.bigSep_eq_bigSepL_of_eq [(0, 0), (0, 1), (0, 2), (1, 0), (1, 1), (1, 2)] (by decide) (by decide),
    winP_eq, winP_eq, winP_eq, winP_eq, winP_eq, winP_eq]
  rfl
/-- The packed tile held whole is its six windows at the same contents. -/
theorem wins_split (X : Buf (Elt F) ((c : Thread nD τ).loc cc0_scratch1)) :
    (((c : Thread nD τ).loc cc0_scratch1) ↦{fullShare} X : sProp 𝕄) = iprop(winP c win0 X ∗ winP c win1 X ∗ winP c win2 X ∗ winP c win3 X ∗ winP c win4 X ∗ winP c win5 X) := by
  rw [Ring.pointsTo_blocks winSet winSet_disjoint winSet_cover X]; exact winFam_eq c fun _ => X
/-- Six windows at contents of their own are the tile whole at some contents that agree with each on its window. -/
theorem wins_join (f0 f1 f2 f3 f4 f5 : Buf (Elt F) ((c : Thread nD τ).loc cc0_scratch1)) :
    iprop(winP c win0 f0 ∗ winP c win1 f1 ∗ winP c win2 f2 ∗ winP c win3 f3 ∗ winP c win4 f4 ∗ winP c win5 f5)
      ⊢ (iprop(∃ X, ⌜(∀ i ∈ winSet (0, 0), X i = f0 i) ∧ (∀ i ∈ winSet (0, 1), X i = f1 i) ∧ (∀ i ∈ winSet (0, 2), X i = f2 i) ∧ (∀ i ∈ winSet (1, 0), X i = f3 i) ∧ (∀ i ∈ winSet (1, 1), X i = f4 i) ∧ (∀ i ∈ winSet (1, 2), X i = f5 i)⌝ ∗ ((c : Thread nD τ).loc cc0_scratch1) ↦{fullShare} X) : sProp 𝕄) := by
  have e := winFam_eq (F := F) c fun w => (![![f0, f1, f2], ![f3, f4, f5]] : Fin 2 → Fin 3 → Buf (Elt F) ((c : Thread nD τ).loc cc0_scratch1)) w.1 w.2
  refine (Entails.of_eq e.symm).trans ((blocks_join (ℓ := (c : Thread nD τ).loc cc0_scratch1) winSet winSet_disjoint winSet_cover _ f0).trans ?_)
  iintro ⟨%X, %hX, H⟩; iexists X; isplitr
  · ipureintro; exact ⟨hX (0, 0), hX (0, 1), hX (0, 2), hX (1, 0), hX (1, 1), hX (1, 2)⟩
  iexact H

/-! ### The operand by shares -/

theorem src_split (q : PosShare TreeShare) (o : Fin 3 → ℕ) (h : Fits o) : wholeP (F := F) c W0 q ⊣⊢ iprop(srcP c W0 q o h ∗ restP c W0 q o h) := by
  unfold restP; exact pointsTo_split_subset (Finset.subset_univ _)
theorem whole_split : (hbPt0 c hbM0_0 W0 : sProp 𝕄) ⊣⊢ iprop(wholeP c W0 q0 ∗ wholeP c W0 q1 ∗ wholeP c W0 q2 ∗ wholeP c W0 q3 ∗ wholeP c W0 q4 ∗ wholeP c W0 q5) := by
  refine ⟨?_, ?_⟩
  · iintro H
    ihave G0 := (pointsTo_share (PosShare.mem_left_op_right fullShare)).1 $$ H
    icases G0 with ⟨H0, R1⟩
    ihave G1 := (pointsTo_share (PosShare.mem_left_op_right fullShare.right)).1 $$ R1
    icases G1 with ⟨H1, R2⟩
    ihave G2 := (pointsTo_share (PosShare.mem_left_op_right fullShare.right.right)).1 $$ R2
    icases G2 with ⟨H2, R3⟩
    ihave G3 := (pointsTo_share (PosShare.mem_left_op_right fullShare.right.right.right)).1 $$ R3
    icases G3 with ⟨H3, R4⟩
    ihave G4 := (pointsTo_share (PosShare.mem_left_op_right fullShare.right.right.right.right)).1 $$ R4
    icases G4 with ⟨H4, H5⟩
    isplitl [H0]; · iexact H0
    isplitl [H1]; · iexact H1
    isplitl [H2]; · iexact H2
    isplitl [H3]; · iexact H3
    isplitl [H4]; · iexact H4
    iexact H5
  · iintro ⟨H0, H1, H2, H3, H4, H5⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2]; · iexact H2
    iapply (pointsTo_share (PosShare.mem_left_op_right fullShare.right.right.right)).2
    isplitl [H3]; · iexact H3
    iapply (pointsTo_share (PosShare.mem_left_op_right fullShare.right.right.right.right)).2
    isplitl [H4]; · iexact H4
    iexact H5
/-- The operand whole is, per window, the block at its offsets and the rest of its share. -/
theorem srcs_split : (hbPt0 c hbM0_0 W0 : sProp 𝕄) ⊣⊢ iprop((srcP c W0 q0 o0 h0 ∗ srcP c W0 q1 o1 h1 ∗ srcP c W0 q2 o2 h2 ∗ srcP c W0 q3 o3 h3 ∗ srcP c W0 q4 o4 h4 ∗ srcP c W0 q5 o5 h5) ∗ restsP c W0 o0 o1 o2 o3 o4 o5 h0 h1 h2 h3 h4 h5) := by
  unfold restsP
  refine ⟨?_, ?_⟩
  · iintro H
    ihave G := (whole_split c W0).1 $$ H
    icases G with ⟨H0, H1, H2, H3, H4, H5⟩
    ihave G0 := (src_split c W0 q0 o0 h0).1 $$ H0
    ihave G1 := (src_split c W0 q1 o1 h1).1 $$ H1
    ihave G2 := (src_split c W0 q2 o2 h2).1 $$ H2
    ihave G3 := (src_split c W0 q3 o3 h3).1 $$ H3
    ihave G4 := (src_split c W0 q4 o4 h4).1 $$ H4
    ihave G5 := (src_split c W0 q5 o5 h5).1 $$ H5
    icases G0 with ⟨A0, B0⟩; icases G1 with ⟨A1, B1⟩; icases G2 with ⟨A2, B2⟩; icases G3 with ⟨A3, B3⟩; icases G4 with ⟨A4, B4⟩; icases G5 with ⟨A5, B5⟩
    isplitl [A0 A1 A2 A3 A4 A5]
    · isplitl [A0]; · iexact A0
      isplitl [A1]; · iexact A1
      isplitl [A2]; · iexact A2
      isplitl [A3]; · iexact A3
      isplitl [A4]; · iexact A4
      iexact A5
    · isplitl [B0]; · iexact B0
      isplitl [B1]; · iexact B1
      isplitl [B2]; · iexact B2
      isplitl [B3]; · iexact B3
      isplitl [B4]; · iexact B4
      iexact B5
  · iintro ⟨⟨A0, A1, A2, A3, A4, A5⟩, B0, B1, B2, B3, B4, B5⟩
    iapply (whole_split c W0).2
    isplitl [A0 B0]; · iapply (src_split c W0 q0 o0 h0).2; isplitl [A0]; · iexact A0
                       iexact B0
    isplitl [A1 B1]; · iapply (src_split c W0 q1 o1 h1).2; isplitl [A1]; · iexact A1
                       iexact B1
    isplitl [A2 B2]; · iapply (src_split c W0 q2 o2 h2).2; isplitl [A2]; · iexact A2
                       iexact B2
    isplitl [A3 B3]; · iapply (src_split c W0 q3 o3 h3).2; isplitl [A3]; · iexact A3
                       iexact B3
    isplitl [A4 B4]; · iapply (src_split c W0 q4 o4 h4).2; isplitl [A4]; · iexact A4
                       iexact B4
    iapply (src_split c W0 q5 o5 h5).2; isplitl [A5]; · iexact A5
    iexact B5

/-! ### From free to six transfers about to be issued, and from six waited for to free -/

/-- The cell at zero. -/
abbrev cellP : sProp 𝕄 := semVal ((c : Thread nD τ), cellR) 0

/-- The packed tile held whole, spelt as the body reads it. -/
abbrev tileP (X : HbBuf0 (F := F) c scM0_1) : sProp 𝕄 := scM0_1.view.loc (c : Thread nD τ) ↦[scM0_1.view.set]{fullShare} X
theorem tileP_eq (X : Buf (Elt F) ((c : Thread nD τ).loc cc0_scratch1)) : tileP c X = (((c : Thread nD τ).loc cc0_scratch1) ↦{fullShare} X : sProp 𝕄) := by
  unfold tileP; rw [(Memref.isWhole_whole cc0_scratch1).set_eq_univ]
/-- FREE, the packed tile at `X`. -/
def freeX (X : Buf (Elt F) ((c : Thread nD τ).loc cc0_scratch1)) : sProp 𝕄 :=
  iprop(cellP (F := F) c ∗ tileP c X ∗ hbPt0 c hbM0_0 W0)

/-- Each window of `X` holds the block at its offsets. -/
def Holds (X : Buf (Elt F) ((c : Thread nD τ).loc cc0_scratch1)) : Prop :=
  (∀ i ∈ winSet (0, 0), X i = landed c W0 win0 o0 h0 i) ∧ (∀ i ∈ winSet (0, 1), X i = landed c W0 win1 o1 h1 i) ∧ (∀ i ∈ winSet (0, 2), X i = landed c W0 win2 o2 h2 i)
    ∧ (∀ i ∈ winSet (1, 0), X i = landed c W0 win3 o3 h3 i) ∧ (∀ i ∈ winSet (1, 1), X i = landed c W0 win4 o4 h4 i) ∧ (∀ i ∈ winSet (1, 2), X i = landed c W0 win5 o5 h5 i)

/-- The six windows landed, and what was lent, are the tile free again, each window holding its block. -/
theorem free_of_waited :
    iprop(cellP (F := F) c ∗ (winP c win0 (landed c W0 win0 o0 h0) ∗ winP c win1 (landed c W0 win1 o1 h1) ∗ winP c win2 (landed c W0 win2 o2 h2) ∗ winP c win3 (landed c W0 win3 o3 h3) ∗ winP c win4 (landed c W0 win4 o4 h4) ∗ winP c win5 (landed c W0 win5 o5 h5))
      ∗ (srcP c W0 q0 o0 h0 ∗ srcP c W0 q1 o1 h1 ∗ srcP c W0 q2 o2 h2 ∗ srcP c W0 q3 o3 h3 ∗ srcP c W0 q4 o4 h4 ∗ srcP c W0 q5 o5 h5) ∗ restsP c W0 o0 o1 o2 o3 o4 o5 h0 h1 h2 h3 h4 h5)
    ⊢ iprop(∃ X, ⌜Holds c W0 o0 o1 o2 o3 o4 o5 h0 h1 h2 h3 h4 h5 X⌝ ∗ freeX c W0 X) := by
  unfold freeX Holds
  iintro ⟨Hc, HW, HS, HR⟩
  ihave HJ := (wins_join (F := F) c (landed c W0 win0 o0 h0) (landed c W0 win1 o1 h1) (landed c W0 win2 o2 h2) (landed c W0 win3 o3 h3) (landed c W0 win4 o4 h4) (landed c W0 win5 o5 h5)) $$ HW
  icases HJ with ⟨%X, %hX, HX⟩
  iexists X
  isplitr; · ipureintro; exact hX
  isplitl [Hc]; · iexact Hc
  isplitl [HX]; · rw [tileP_eq]; iexact HX
  iapply (srcs_split c W0 o0 o1 o2 o3 o4 o5 h0 h1 h2 h3 h4 h5).2
  isplitl [HS]; · iexact HS
  iexact HR

end Stream

/-! ### The blocks of tile `b` -/

section Tile
variable (c : Dev nD) (W0 : HbBuf0 (F := F) c hbM0_0)

/-- Offsets of tile `b`'s block in word `r / 8`, group of scales `k / 128`. -/
abbrev offB (b r k : ℕ) : Fin 3 → ℕ := ![1024 * b, r, k]
theorem fits_offB (b : Fin 10) {r k : ℕ} (hr : r ≤ 8) (hk : k ≤ 256) : Fits (offB b.val r k) := by
  have := b.isLt; intro a; fin_cases a <;> simp [offB] <;> omega
/-- BUSY with tile `b`. -/
def busy (b : Fin 10) : sProp 𝕄 :=
  busyO c W0 (offB b.val 0 0) (offB b.val 0 128) (offB b.val 0 256) (offB b.val 8 0) (offB b.val 8 128) (offB b.val 8 256)
    (fits_offB b (by decide) (by decide)) (fits_offB b (by decide) (by decide)) (fits_offB b (by decide) (by decide))
    (fits_offB b (by decide) (by decide)) (fits_offB b (by decide) (by decide)) (fits_offB b (by decide) (by decide))
/-- `X` holds tile `b`. -/
def HoldsB (b : Fin 10) (X : Buf (Elt F) ((c : Thread nD τ).loc cc0_scratch1)) : Prop :=
  Holds c W0 (offB b.val 0 0) (offB b.val 0 128) (offB b.val 0 256) (offB b.val 8 0) (offB b.val 8 128) (offB b.val 8 256)
    (fits_offB b (by decide) (by decide)) (fits_offB b (by decide) (by decide)) (fits_offB b (by decide) (by decide))
    (fits_offB b (by decide) (by decide)) (fits_offB b (by decide) (by decide)) (fits_offB b (by decide) (by decide)) X
/-- Transfers issued from offsets equal to tile `b`'s are tile `b`'s. -/
theorem busyO_eq (b : Fin 10) (o0 o1 o2 o3 o4 o5 : Fin 3 → ℕ) (h0 : Fits o0) (h1 : Fits o1) (h2 : Fits o2) (h3 : Fits o3) (h4 : Fits o4) (h5 : Fits o5)
    (e0 : o0 = offB b.val 0 0) (e1 : o1 = offB b.val 0 128) (e2 : o2 = offB b.val 0 256) (e3 : o3 = offB b.val 8 0) (e4 : o4 = offB b.val 8 128) (e5 : o5 = offB b.val 8 256) :
    busyO c W0 o0 o1 o2 o3 o4 o5 h0 h1 h2 h3 h4 h5 = busy c W0 b := by
  subst e0 e1 e2 e3 e4 e5; rfl
theorem holdsO_eq (b : Fin 10) (o0 o1 o2 o3 o4 o5 : Fin 3 → ℕ) (h0 : Fits o0) (h1 : Fits o1) (h2 : Fits o2) (h3 : Fits o3) (h4 : Fits o4) (h5 : Fits o5)
    (e0 : o0 = offB b.val 0 0) (e1 : o1 = offB b.val 0 128) (e2 : o2 = offB b.val 0 256) (e3 : o3 = offB b.val 8 0) (e4 : o4 = offB b.val 8 128) (e5 : o5 = offB b.val 8 256)
    (X : Buf (Elt F) ((c : Thread nD τ).loc cc0_scratch1)) (hX : Holds c W0 o0 o1 o2 o3 o4 o5 h0 h1 h2 h3 h4 h5 X) : HoldsB c W0 b X := by
  subst e0 e1 e2 e3 e4 e5; exact hX
end Tile

end Cert.Kernel.Hand

end
-- ==== Proof.KernelLoop.lean ====
/-
  One trip of the decoding loop of `Kernel`'s body and the loop by its invariant, at the algebra of a body with transfers
  of its own: a trip reads the scales and the packed tile and writes pieces of the decoded tile, and before trip `k` the
  decoded tile holds the pieces of the trips before it written over what it held at entry.
-/
module

public import proofs.«01_k».proof.Proof.KernelStream
public import proofs.«01_k».proof.Proof.Gen.Kernel.Loops

@[expose] public section

set_option maxRecDepth 8192
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (c : Dev nD) (i : grid0.Coords)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole) (arg5 : Memref sig .tc .hbm S10240x16x384 .i8) (harg5 : arg5.IsWhole)
  (arg6 : Memref sig .tc .vmem S1024x384 .bf16) (harg6 : arg6.IsWhole) (arg7 : Memref sig .tc .vmem S256x8x128 .bf16) (harg7 : arg7.IsWhole)
  (arg8 : Memref sig .tc .vmem S48x512x256 .i32) (harg8 : arg8.IsWhole) (arg9 : Memref sig .tc .vmem S2x3x1024x8x128 .i8) (harg9 : arg9.IsWhole)
  (arg10 : DmaSems sig S_) (arg11 : Memref sig .tc .vmem S1024x128 .i32) (harg11 : arg11.IsWhole) (k0_h2 : k0_cond2 i = 1#1)
  (X6 : BufTy.Contents (Elt F) arg6.view.ty) (X9 : BufTy.Contents (Elt F) arg9.view.ty)

/-- What a trip holds: the scales and the packed tile at `X6`, `X9`, the decoded tile at `f8`. -/
abbrev Trip (f8 : BufTy.Contents (Elt F) arg8.view.ty) : sProp 𝕄 :=
  iprop((arg6.view.loc (c : Thread nD τ) ↦[arg6.view.set]{fullShare} X6) ∗ (arg9.view.loc (c : Thread nD τ) ↦[arg9.view.set]{fullShare} X9) ∗ (arg8.view.loc (c : Thread nD τ) ↦[arg8.view.set]{fullShare} f8))

/-- One trip at a symbolic `k`: the pieces it writes are the run's own finds. -/
@[irreducible] def trip (k : Fin k0_t1_loop.trips) :
    { L : List (View.Piece (Elt F) S48x512x256 .i32) // ∀ (E : Set ℕ) (f8 : BufTy.Contents (Elt F) arg8.view.ty),
      Trip (F := F) c arg6 arg8 arg9 X6 X9 f8
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 arg11 harg11 k0_h2 k PUnit.unit)
          (fun _ => Trip (F := F) c arg6 arg8 arg9 X6 X9 (arg8.view.writes (Elt F) f8 L)) } := by
  have hk : k.val < 64 := Nat.lt_of_lt_of_le k.isLt k0_t1_abs.2.1
  refine ⟨?_, fun E f8 => ?run⟩
  case run =>
    unfold k0_t1_body
    iintro ⟨HR6, HR9, HW8⟩
    sl_exec
    sl_step
    sl_close

/-- The pieces of trip `k`. -/
abbrev tripL (k : Fin k0_t1_loop.trips) : List (View.Piece (Elt F) S48x512x256 .i32) :=
  (trip (F := F) c i arg2 harg2 arg3 harg3 arg4 harg4 arg5 harg5 arg6 harg6 arg7 harg7 arg8 harg8 arg9 harg9 arg10 arg11 harg11 k0_h2 X6 X9 k).1

/-- The pieces of the trips before `k`, last first. -/
def pieces : ℕ → List (View.Piece (Elt F) S48x512x256 .i32)
  | 0 => []
  | k + 1 => if h : k < k0_t1_loop.trips then
      tripL (F := F) c i arg2 harg2 arg3 harg3 arg4 harg4 arg5 harg5 arg6 harg6 arg7 harg7 arg8 harg8 arg9 harg9 arg10 arg11 harg11 k0_h2 X6 X9 ⟨k, h⟩ ++ pieces k
    else pieces k
theorem pieces_succ (k : Fin k0_t1_loop.trips) :
    pieces (F := F) c i arg2 harg2 arg3 harg3 arg4 harg4 arg5 harg5 arg6 harg6 arg7 harg7 arg8 harg8 arg9 harg9 arg10 arg11 harg11 k0_h2 X6 X9 (k.val + 1)
      = tripL (F := F) c i arg2 harg2 arg3 harg3 arg4 harg4 arg5 harg5 arg6 harg6 arg7 harg7 arg8 harg8 arg9 harg9 arg10 arg11 harg11 k0_h2 X6 X9 k ++ pieces (F := F) c i arg2 harg2 arg3 harg3 arg4 harg4 arg5 harg5 arg6 harg6 arg7 harg7 arg8 harg8 arg9 harg9 arg10 arg11 harg11 k0_h2 X6 X9 k.val := by
  rw [pieces.eq_2]; exact dif_pos k.isLt

/-- The loop's invariant before trip `k`. -/
def loopInv (G8 : BufTy.Contents (Elt F) arg8.view.ty) (k : ℕ) : sProp 𝕄 :=
  iprop((arg6.view.loc (c : Thread nD τ) ↦[arg6.view.set]{fullShare} X6) ∗ (arg9.view.loc (c : Thread nD τ) ↦[arg9.view.set]{fullShare} X9)
    ∗ (∃ f, (arg8.view.loc (c : Thread nD τ) ↦[arg8.view.set]{fullShare} f) ∗ ⌜f = arg8.view.writes (Elt F) G8 (pieces (F := F) c i arg2 harg2 arg3 harg3 arg4 harg4 arg5 harg5 arg6 harg6 arg7 harg7 arg8 harg8 arg9 harg9 arg10 arg11 harg11 k0_h2 X6 X9 k)⌝))

set_option warn.classDefReducibility false in
/-- The decoding loop by its invariant. -/
def decodeLoop (E : Set ℕ) (G8 : BufTy.Contents (Elt F) arg8.view.ty) :
    LoopInvTy_k0_t1 (F := F) Unit ℕ (Pipeline.UD sig nD τ) ℕ Variants.none c none E i arg2 harg2 arg3 harg3 arg4 harg4 arg5 harg5 arg6 harg6 arg7 harg7 arg8 harg8 arg9 harg9 arg10 arg11 harg11 k0_h2 where
  inv k _ := loopInv (F := F) c i arg2 harg2 arg3 harg3 arg4 harg4 arg5 harg5 arg6 harg6 arg7 harg7 arg8 harg8 arg9 harg9 arg10 arg11 harg11 k0_h2 X6 X9 G8 k
  step k acc := by
    unfold loopInv
    iintro ⟨HR6, HR9, ⟨%f8, HW8, %h8⟩⟩
    iapply (wp_wand_r Idealize.ShloMosaic.frame (wpE (defs₀ (F := F)) Variants.none (c : Thread nD τ) none) E)
    isplitl [HR6 HR9 HW8]
    · iapply ((trip (F := F) c i arg2 harg2 arg3 harg3 arg4 harg4 arg5 harg5 arg6 harg6 arg7 harg7 arg8 harg8 arg9 harg9 arg10 arg11 harg11 k0_h2 X6 X9 k).2 E f8)
      isplitl [HR6]; · iexact HR6
      isplitl [HR9]; · iexact HR9
      iexact HW8
    · iintro %_ ⟨HR6, HR9, HW8⟩
      isplitl [HR6]; · iexact HR6
      isplitl [HR9]; · iexact HR9
      rw [pieces_succ]
      iexists _; isplitl [HW8]; · iexact HW8
      ipureintro; rw [h8, ← View.writes_append]

end Cert.Kernel.Hand

end
-- ==== Proof.KernelBody.lean ====
/-
  The first part of `Kernel`'s body, case by case: the conditionals that wait for a tile, decode it and start the next one's
  transfers, and the first products.
-/
module

public import proofs.«01_k».proof.Proof.KernelLoop

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

variable (c : Dev nD) (i : grid0.Coords) (W0 : HbBuf0 (F := F) c hbM0_0)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole)
  (arg6 : Memref sig .tc .vmem S1024x384 .bf16) (harg6 : arg6.IsWhole) (arg7 : Memref sig .tc .vmem S256x8x128 .bf16) (harg7 : arg7.IsWhole)
  (arg8 : Memref sig .tc .vmem S48x512x256 .i32) (harg8 : arg8.IsWhole)
  (arg11 : Memref sig .tc .vmem S1024x128 .i32) (harg11 : arg11.IsWhole)
  (X2 : BufTy.Contents (Elt F) arg2.view.ty) (X6 : BufTy.Contents (Elt F) arg6.view.ty) (G8 : BufTy.Contents (Elt F) arg8.view.ty)

/-- A memref held at contents `f`, spelt as the body reads it. -/
abbrev memP {sp : Space} {S : Shape} {e : EltTy} (M : Memref sig .tc sp S e) (f : BufTy.Contents (Elt F) M.view.ty) : sProp 𝕄 :=
  M.view.loc (c : Thread nD τ) ↦[M.view.set]{fullShare} f

/-- The first part of the body at the call's operands. -/
abbrev firstPart := k0_part48 (F := F) i arg2 harg2 arg3 harg3 arg4 harg4 (Memref.whole main_v0) (Memref.isWhole_whole _) arg6 harg6 arg7 harg7 arg8 harg8 scM0_1 (Memref.isWhole_whole _) cc0_scratch2 arg11 harg11

/-- What the first part hands on, over what the activations' block and the decoded tile hold. -/
abbrev firstV : (_ : FVec F S256x512 .f32) ×' FVec F S256x256 .bf16 := ⟨k0_pay199 (arg2.view.readAt (Elt F) (Rect.unit (s := S1x48x128x256) ![0, 0, 0, 0] S1x1x128x256.size inb_S1x48x128x256_S1x1x128x256_0_0_0_0).toLoadRect X2) (arg8.view.readAt (Elt F) (Rect.unit (s := S48x512x256) ![0, 0, 0] S1x256x256.size inb_S48x512x256_S1x256x256_0_0_0).toLoadRect G8) (arg2.view.readAt (Elt F) (Rect.unit (s := S1x48x128x256) ![0, 1, 0, 0] S1x1x128x256.size inb_S1x48x128x256_S1x1x128x256_0_1_0_0).toLoadRect X2) (arg8.view.readAt (Elt F) (Rect.unit (s := S48x512x256) ![1, 0, 0] S1x256x256.size inb_S48x512x256_S1x256x256_1_0_0).toLoadRect G8), k0_pay200 (arg2.view.readAt (Elt F) (Rect.unit (s := S1x48x128x256) ![0, 2, 0, 0] S1x1x128x256.size inb_S1x48x128x256_S1x1x128x256_0_2_0_0).toLoadRect X2)⟩

/-- The decoded tile after the loop, over the scales, the packed tile and what it held before. -/
abbrev decoded (hc1 : k0_cond2 i = 1#1) (X9 : HbBuf0 (F := F) c scM0_1) : BufTy.Contents (Elt F) arg8.view.ty :=
  arg8.view.writes (Elt F) G8 (pieces (F := F) c i arg2 harg2 arg3 harg3 arg4 harg4 (Memref.whole main_v0) (Memref.isWhole_whole _) arg6 harg6 arg7 harg7 arg8 harg8 scM0_1 (Memref.isWhole_whole _) cc0_scratch2 arg11 harg11 hc1 X6 X9 k0_t1_loop.trips)

/-- B: the token block is not the first of its tile, and the body reads what earlier points decoded. -/
theorem first_B (W : Waits sig Unit) (hc0 : ¬cond0_0 i) (hc1 : ¬cond0_1 i) :
    iprop(memP c arg2 X2 ∗ memP c arg8 G8 ∗ owes (c : Thread nD τ) 0 W)
    ⊢ wp frame (wpE (defs₀ (F := F)) Variants.none c none) Set.univ (firstPart (F := F) i arg2 harg2 arg3 harg3 arg4 harg4 arg6 harg6 arg7 harg7 arg8 harg8 arg11 harg11)
      (fun v => iprop(memP c arg2 X2 ∗ memP c arg8 G8 ∗ ⌜v = firstV arg2 arg8 X2 G8⌝ ∗ ∃ W', owes (c : Thread nD τ) 0 W')) := by
  haveI : Fact (¬cond0_0 i) := ⟨hc0⟩
  haveI : Fact (¬cond0_1 i) := ⟨hc1⟩
  iintro ⟨H2, H8, HW⟩
  unfold firstPart
  simp only [k0_part48_eq_skeleton]; unfold k0_part48_skel
  sl_exec (disch := first | sl_exact hc0 | sl_exact hc1)
  sl_step
  isplitl [H2]; · iexact H2
  isplitl [H8]; · iexact H8
  isplitr; · ipureintro; rfl
  iexists _; iexact HW

/-- C: the first token block of a tile that has a tile before and after it. -/
theorem first_C (W : Waits sig Unit) (hc0 : ¬cond0_0 i) (hc1 : cond0_1 i) (hc2 : cond0_2 i) (o0 o1 o2 o3 o4 o5 : Fin 3 → ℕ) (h0 : Fits o0) (h1 : Fits o1) (h2 : Fits o2) (h3 : Fits o3) (h4 : Fits o4) (h5 : Fits o5) :
    iprop(memP c arg2 X2 ∗ memP c arg6 X6 ∗ memP c arg8 G8 ∗ busyO c W0 o0 o1 o2 o3 o4 o5 h0 h1 h2 h3 h4 h5 ∗ owes (c : Thread nD τ) 0 W)
    ⊢ wp frame (wpE (defs₀ (F := F)) Variants.none c none) Set.univ (firstPart (F := F) i arg2 harg2 arg3 harg3 arg4 harg4 arg6 harg6 arg7 harg7 arg8 harg8 arg11 harg11)
      (fun v => iprop(∃ X9, ⌜Holds c W0 o0 o1 o2 o3 o4 o5 h0 h1 h2 h3 h4 h5 X9⌝ ∗ memP c arg2 X2 ∗ memP c arg6 X6
        ∗ memP c arg8 (decoded (F := F) c i arg2 harg2 arg3 harg3 arg4 harg4 arg6 harg6 arg7 harg7 arg8 harg8 arg11 harg11 X6 G8 hc1 X9)
        ∗ busyO c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)
        ∗ ⌜v = firstV arg2 arg8 X2 (decoded (F := F) c i arg2 harg2 arg3 harg3 arg4 harg4 arg6 harg6 arg7 harg7 arg8 harg8 arg11 harg11 X6 G8 hc1 X9)⌝
        ∗ ∃ W', owes (c : Thread nD τ) 0 W')) := by
  haveI : Fact (¬cond0_0 i) := ⟨hc0⟩
  haveI : Fact (cond0_1 i) := ⟨hc1⟩
  haveI : Fact (cond0_2 i) := ⟨hc2⟩
  iintro ⟨H2, H6, H8, HBB, HW⟩
  unfold firstPart
  simp only [k0_part48_eq_skeleton]; unfold k0_part48_skel
  unfold busyO restsP
  icases HBB with ⟨HB, Hr0, Hr1, Hr2, Hr3, Hr4, Hr5⟩
  sl_exec (disch := first | sl_exact hc0 | sl_exact hc1)
  ihave HF := (free_of_waited c W0 o0 o1 o2 o3 o4 o5 h0 h1 h2 h3 h4 h5) $$ [HB HB_dst0 HB_dst1 HB_dst2 HB_dst3 HB_dst4 HB_dst5 HB_src0 HB_src1 HB_src2 HB_src3 HB_src4 HB_src5 Hr0 Hr1 Hr2 Hr3 Hr4 Hr5]
  · isplitl [HB]; · iexact HB
    isplitl [HB_dst0 HB_dst1 HB_dst2 HB_dst3 HB_dst4 HB_dst5]
    · isplitl [HB_dst0]; · iexact HB_dst0
      isplitl [HB_dst1]; · iexact HB_dst1
      isplitl [HB_dst2]; · iexact HB_dst2
      isplitl [HB_dst3]; · iexact HB_dst3
      isplitl [HB_dst4]; · iexact HB_dst4
      iexact HB_dst5
    isplitl [HB_src0 HB_src1 HB_src2 HB_src3 HB_src4 HB_src5]
    · isplitl [HB_src0]; · iexact HB_src0
      isplitl [HB_src1]; · iexact HB_src1
      isplitl [HB_src2]; · iexact HB_src2
      isplitl [HB_src3]; · iexact HB_src3
      isplitl [HB_src4]; · iexact HB_src4
      iexact HB_src5
    unfold restsP
    isplitl [Hr0]; · iexact Hr0
    isplitl [Hr1]; · iexact Hr1
    isplitl [Hr2]; · iexact Hr2
    isplitl [Hr3]; · iexact Hr3
    isplitl [Hr4]; · iexact Hr4
    iexact Hr5
  icases HF with ⟨%X9, %hX9, HF⟩
  unfold freeX
  icases HF with ⟨HB, H9, HS⟩
  sl_for (fun k _ => loopInv (F := F) c i arg2 harg2 arg3 harg3 arg4 harg4 (Memref.whole main_v0) (Memref.isWhole_whole _) arg6 harg6 arg7 harg7 arg8 harg8 scM0_1 (Memref.isWhole_whole _) cc0_scratch2 arg11 harg11 hc1 X6 X9 G8 k) $$ [H6 H9 H8]
  · intro k acc; exact (decodeLoop (F := F) c i arg2 harg2 arg3 harg3 arg4 harg4 (Memref.whole main_v0) (Memref.isWhole_whole _) arg6 harg6 arg7 harg7 arg8 harg8 scM0_1 (Memref.isWhole_whole _) cc0_scratch2 arg11 harg11 hc1 X6 X9 Set.univ G8).step k acc
  · unfold loopInv
    isplitl [H6]; · iexact H6
    isplitl [H9]; · iexact H9
    iexists _; isplitl [H8]; · iexact H8
    ipureintro; rfl
  iintro %_ HI
  unfold loopInv
  icases HI with ⟨H6, H9, ⟨%f8, H8, %h8⟩⟩
  subst h8
  ihave H9 := (Entails.of_eq ((tileP_eq c X9).trans (wins_split c X9))) $$ H9
  icases H9 with ⟨HD0, HD1, HD2, HD3, HD4, HD5⟩
  ihave HS2 := (srcs_split c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)).1 $$ HS
  icases HS2 with ⟨⟨HS0, HS1, HS2, HS3, HS4, HS5⟩, HR⟩
  have hD := storable_winD (F := F) c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)
  imod (Transfers.batch_alloc' (Lvl := ℕ) countersEmb (c : Thread nD τ) default NN (winD c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)) (sm := cellR) (E := Set.univ)) $$ HB with HB
  clear hD
  sl_exec (disch := first | sl_exact hc2)
  sl_step
  iexists X9
  isplitr; · ipureintro; exact hX9
  isplitl [H2]; · iexact H2
  isplitl [H6]; · iexact H6
  isplitl [H8]; · iexact H8
  isplitl [HB HR]
  · try unfold busyO
    isplitl [HB]; · iexact HB
    try unfold restsP
    iexact HR
  isplitr; · ipureintro; rfl
  iexists _; iexact HW

/-- D: the first token block of the last tile. -/
theorem first_D (W : Waits sig Unit) (hc0 : ¬cond0_0 i) (hc1 : cond0_1 i) (hc2 : ¬cond0_2 i) (o0 o1 o2 o3 o4 o5 : Fin 3 → ℕ) (h0 : Fits o0) (h1 : Fits o1) (h2 : Fits o2) (h3 : Fits o3) (h4 : Fits o4) (h5 : Fits o5) :
    iprop(memP c arg2 X2 ∗ memP c arg6 X6 ∗ memP c arg8 G8 ∗ busyO c W0 o0 o1 o2 o3 o4 o5 h0 h1 h2 h3 h4 h5 ∗ owes (c : Thread nD τ) 0 W)
    ⊢ wp frame (wpE (defs₀ (F := F)) Variants.none c none) Set.univ (firstPart (F := F) i arg2 harg2 arg3 harg3 arg4 harg4 arg6 harg6 arg7 harg7 arg8 harg8 arg11 harg11)
      (fun v => iprop(∃ X9, ⌜Holds c W0 o0 o1 o2 o3 o4 o5 h0 h1 h2 h3 h4 h5 X9⌝ ∗ memP c arg2 X2 ∗ memP c arg6 X6
        ∗ memP c arg8 (decoded (F := F) c i arg2 harg2 arg3 harg3 arg4 harg4 arg6 harg6 arg7 harg7 arg8 harg8 arg11 harg11 X6 G8 hc1 X9)
        ∗ freeX c W0 X9
        ∗ ⌜v = firstV arg2 arg8 X2 (decoded (F := F) c i arg2 harg2 arg3 harg3 arg4 harg4 arg6 harg6 arg7 harg7 arg8 harg8 arg11 harg11 X6 G8 hc1 X9)⌝
        ∗ ∃ W', owes (c : Thread nD τ) 0 W')) := by
  haveI : Fact (¬cond0_0 i) := ⟨hc0⟩
  haveI : Fact (cond0_1 i) := ⟨hc1⟩
  haveI : Fact (¬cond0_2 i) := ⟨hc2⟩
  iintro ⟨H2, H6, H8, HBB, HW⟩
  unfold firstPart
  simp only [k0_part48_eq_skeleton]; unfold k0_part48_skel
  unfold busyO restsP
  icases HBB with ⟨HB, Hr0, Hr1, Hr2, Hr3, Hr4, Hr5⟩
  sl_exec (disch := first | sl_exact hc0 | sl_exact hc1)
  ihave HF := (free_of_waited c W0 o0 o1 o2 o3 o4 o5 h0 h1 h2 h3 h4 h5) $$ [HB HB_dst0 HB_dst1 HB_dst2 HB_dst3 HB_dst4 HB_dst5 HB_src0 HB_src1 HB_src2 HB_src3 HB_src4 HB_src5 Hr0 Hr1 Hr2 Hr3 Hr4 Hr5]
  · isplitl [HB]; · iexact HB
    isplitl [HB_dst0 HB_dst1 HB_dst2 HB_dst3 HB_dst4 HB_dst5]
    · isplitl [HB_dst0]; · iexact HB_dst0
      isplitl [HB_dst1]; · iexact HB_dst1
      isplitl [HB_dst2]; · iexact HB_dst2
      isplitl [HB_dst3]; · iexact HB_dst3
      isplitl [HB_dst4]; · iexact HB_dst4
      iexact HB_dst5
    isplitl [HB_src0 HB_src1 HB_src2 HB_src3 HB_src4 HB_src5]
    · isplitl [HB_src0]; · iexact HB_src0
      isplitl [HB_src1]; · iexact HB_src1
      isplitl [HB_src2]; · iexact HB_src2
      isplitl [HB_src3]; · iexact HB_src3
      isplitl [HB_src4]; · iexact HB_src4
      iexact HB_src5
    unfold restsP
    isplitl [Hr0]; · iexact Hr0
    isplitl [Hr1]; · iexact Hr1
    isplitl [Hr2]; · iexact Hr2
    isplitl [Hr3]; · iexact Hr3
    isplitl [Hr4]; · iexact Hr4
    iexact Hr5
  icases HF with ⟨%X9, %hX9, HF⟩
  unfold freeX
  icases HF with ⟨HB, H9, HS⟩
  sl_for (fun k _ => loopInv (F := F) c i arg2 harg2 arg3 harg3 arg4 harg4 (Memref.whole main_v0) (Memref.isWhole_whole _) arg6 harg6 arg7 harg7 arg8 harg8 scM0_1 (Memref.isWhole_whole _) cc0_scratch2 arg11 harg11 hc1 X6 X9 G8 k) $$ [H6 H9 H8]
  · intro k acc; exact (decodeLoop (F := F) c i arg2 harg2 arg3 harg3 arg4 harg4 (Memref.whole main_v0) (Memref.isWhole_whole _) arg6 harg6 arg7 harg7 arg8 harg8 scM0_1 (Memref.isWhole_whole _) cc0_scratch2 arg11 harg11 hc1 X6 X9 Set.univ G8).step k acc
  · unfold loopInv
    isplitl [H6]; · iexact H6
    isplitl [H9]; · iexact H9
    iexists _; isplitl [H8]; · iexact H8
    ipureintro; rfl
  iintro %_ HI
  unfold loopInv
  icases HI with ⟨H6, H9, ⟨%f8, H8, %h8⟩⟩
  subst h8
  sl_exec (disch := first | sl_exact hc2)
  sl_step
  iexists X9
  isplitr; · ipureintro; exact hX9
  isplitl [H2]; · iexact H2
  isplitl [H6]; · iexact H6
  isplitl [H8]; · iexact H8
  isplitl [HB H9 HS]
  · isplitl [HB]; · iexact HB
    isplitl [H9]; · iexact H9
    iexact HS
  isplitr; · ipureintro; rfl
  iexists _; iexact HW

/-- A: the first point, which starts the first tile as well as the second. -/
theorem first_A (W : Waits sig Unit) (hc0 : cond0_0 i) (hc1 : cond0_1 i) (hc2 : cond0_2 i) (X : HbBuf0 (F := F) c scM0_1) :
    iprop(memP c arg2 X2 ∗ memP c arg6 X6 ∗ memP c arg8 G8 ∗ freeX c W0 X ∗ owes (c : Thread nD τ) 0 W)
    ⊢ wp frame (wpE (defs₀ (F := F)) Variants.none c none) Set.univ (firstPart (F := F) i arg2 harg2 arg3 harg3 arg4 harg4 arg6 harg6 arg7 harg7 arg8 harg8 arg11 harg11)
      (fun v => iprop(∃ X9, ⌜Holds c W0 ![0, 0, 0] ![0, 0, 128] ![0, 0, 256] ![0, 8, 0] ![0, 8, 128] ![0, 8, 256] inb_S10240x16x384_S1024x8x128_0_0_0 inb_S10240x16x384_S1024x8x128_0_0_128 inb_S10240x16x384_S1024x8x128_0_0_256 inb_S10240x16x384_S1024x8x128_0_8_0 inb_S10240x16x384_S1024x8x128_0_8_128 inb_S10240x16x384_S1024x8x128_0_8_256 X9⌝ ∗ memP c arg2 X2 ∗ memP c arg6 X6
        ∗ memP c arg8 (decoded (F := F) c i arg2 harg2 arg3 harg3 arg4 harg4 arg6 harg6 arg7 harg7 arg8 harg8 arg11 harg11 X6 G8 hc1 X9)
        ∗ busyO c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)
        ∗ ⌜v = firstV arg2 arg8 X2 (decoded (F := F) c i arg2 harg2 arg3 harg3 arg4 harg4 arg6 harg6 arg7 harg7 arg8 harg8 arg11 harg11 X6 G8 hc1 X9)⌝
        ∗ ∃ W', owes (c : Thread nD τ) 0 W')) := by
  haveI : Fact (cond0_0 i) := ⟨hc0⟩
  haveI : Fact (cond0_1 i) := ⟨hc1⟩
  haveI : Fact (cond0_2 i) := ⟨hc2⟩
  iintro ⟨H2, H6, H8, HBB, HW⟩
  unfold firstPart
  simp only [k0_part48_eq_skeleton]; unfold k0_part48_skel
  unfold freeX
  icases HBB with ⟨HB, H9, HS⟩
  ihave H9 := (Entails.of_eq ((tileP_eq c X).trans (wins_split c X))) $$ H9
  icases H9 with ⟨HD0, HD1, HD2, HD3, HD4, HD5⟩
  ihave HS2 := (srcs_split c W0 ![0, 0, 0] ![0, 0, 128] ![0, 0, 256] ![0, 8, 0] ![0, 8, 128] ![0, 8, 256] inb_S10240x16x384_S1024x8x128_0_0_0 inb_S10240x16x384_S1024x8x128_0_0_128 inb_S10240x16x384_S1024x8x128_0_0_256 inb_S10240x16x384_S1024x8x128_0_8_0 inb_S10240x16x384_S1024x8x128_0_8_128 inb_S10240x16x384_S1024x8x128_0_8_256).1 $$ HS
  icases HS2 with ⟨⟨HS0, HS1, HS2, HS3, HS4, HS5⟩, HR⟩
  have hD := storable_winD (F := F) c W0 ![0, 0, 0] ![0, 0, 128] ![0, 0, 256] ![0, 8, 0] ![0, 8, 128] ![0, 8, 256] inb_S10240x16x384_S1024x8x128_0_0_0 inb_S10240x16x384_S1024x8x128_0_0_128 inb_S10240x16x384_S1024x8x128_0_0_256 inb_S10240x16x384_S1024x8x128_0_8_0 inb_S10240x16x384_S1024x8x128_0_8_128 inb_S10240x16x384_S1024x8x128_0_8_256
  imod (Transfers.batch_alloc' (Lvl := ℕ) countersEmb (c : Thread nD τ) default NN (winD c W0 ![0, 0, 0] ![0, 0, 128] ![0, 0, 256] ![0, 8, 0] ![0, 8, 128] ![0, 8, 256] inb_S10240x16x384_S1024x8x128_0_0_0 inb_S10240x16x384_S1024x8x128_0_0_128 inb_S10240x16x384_S1024x8x128_0_0_256 inb_S10240x16x384_S1024x8x128_0_8_0 inb_S10240x16x384_S1024x8x128_0_8_128 inb_S10240x16x384_S1024x8x128_0_8_256) (sm := cellR) (E := Set.univ)) $$ HB with HB
  clear hD
  sl_exec (disch := first | sl_exact hc0 | sl_exact hc1)
  ihave HF := (free_of_waited c W0 ![0, 0, 0] ![0, 0, 128] ![0, 0, 256] ![0, 8, 0] ![0, 8, 128] ![0, 8, 256] inb_S10240x16x384_S1024x8x128_0_0_0 inb_S10240x16x384_S1024x8x128_0_0_128 inb_S10240x16x384_S1024x8x128_0_0_256 inb_S10240x16x384_S1024x8x128_0_8_0 inb_S10240x16x384_S1024x8x128_0_8_128 inb_S10240x16x384_S1024x8x128_0_8_256) $$ [HB HB_dst0 HB_dst1 HB_dst2 HB_dst3 HB_dst4 HB_dst5 HB_src0 HB_src1 HB_src2 HB_src3 HB_src4 HB_src5 HR]
  · isplitl [HB]; · iexact HB
    isplitl [HB_dst0 HB_dst1 HB_dst2 HB_dst3 HB_dst4 HB_dst5]
    · isplitl [HB_dst0]; · iexact HB_dst0
      isplitl [HB_dst1]; · iexact HB_dst1
      isplitl [HB_dst2]; · iexact HB_dst2
      isplitl [HB_dst3]; · iexact HB_dst3
      isplitl [HB_dst4]; · iexact HB_dst4
      iexact HB_dst5
    isplitl [HB_src0 HB_src1 HB_src2 HB_src3 HB_src4 HB_src5]
    · isplitl [HB_src0]; · iexact HB_src0
      isplitl [HB_src1]; · iexact HB_src1
      isplitl [HB_src2]; · iexact HB_src2
      isplitl [HB_src3]; · iexact HB_src3
      isplitl [HB_src4]; · iexact HB_src4
      iexact HB_src5
    iexact HR
  icases HF with ⟨%X9, %hX9, HF⟩
  unfold freeX
  icases HF with ⟨HB, H9, HS⟩
  sl_for (fun k _ => loopInv (F := F) c i arg2 harg2 arg3 harg3 arg4 harg4 (Memref.whole main_v0) (Memref.isWhole_whole _) arg6 harg6 arg7 harg7 arg8 harg8 scM0_1 (Memref.isWhole_whole _) cc0_scratch2 arg11 harg11 hc1 X6 X9 G8 k) $$ [H6 H9 H8]
  · intro k acc; exact (decodeLoop (F := F) c i arg2 harg2 arg3 harg3 arg4 harg4 (Memref.whole main_v0) (Memref.isWhole_whole _) arg6 harg6 arg7 harg7 arg8 harg8 scM0_1 (Memref.isWhole_whole _) cc0_scratch2 arg11 harg11 hc1 X6 X9 Set.univ G8).step k acc
  · unfold loopInv
    isplitl [H6]; · iexact H6
    isplitl [H9]; · iexact H9
    iexists _; isplitl [H8]; · iexact H8
    ipureintro; rfl
  iintro %_ HI
  unfold loopInv
  icases HI with ⟨H6, H9, ⟨%f8, H8, %h8⟩⟩
  subst h8
  ihave H9 := (Entails.of_eq ((tileP_eq c X9).trans (wins_split c X9))) $$ H9
  icases H9 with ⟨HD0, HD1, HD2, HD3, HD4, HD5⟩
  ihave HS2 := (srcs_split c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)).1 $$ HS
  icases HS2 with ⟨⟨HS0, HS1, HS2, HS3, HS4, HS5⟩, HR⟩
  have hD := storable_winD (F := F) c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)
  imod (Transfers.batch_alloc' (Lvl := ℕ) countersEmb (c : Thread nD τ) default NN (winD c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)) (sm := cellR) (E := Set.univ)) $$ HB with HB
  clear hD
  sl_exec (disch := first | sl_exact hc2)
  sl_step
  iexists X9
  isplitr; · ipureintro; exact hX9
  isplitl [H2]; · iexact H2
  isplitl [H6]; · iexact H6
  isplitl [H8]; · iexact H8
  isplitl [HB HR]
  · try unfold busyO
    isplitl [HB]; · iexact HB
    try unfold restsP
    iexact HR
  isplitr; · ipureintro; rfl
  iexists _; iexact HW

end Cert.Kernel.Hand

end
-- ==== Proof.KernelTail.lean ====
/-
  The rest of `Kernel`'s body, which is the same at every point: from what its first part hands on, the products over the
  activations' chunks, the rotation, and the store of the block of results.
-/
module

public import proofs.«01_k».proof.Proof.KernelBody

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

variable (c : Dev nD) (i : grid0.Coords) (W0 : HbBuf0 (F := F) c hbM0_0)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole)
  (arg6 : Memref sig .tc .vmem S1024x384 .bf16) (harg6 : arg6.IsWhole) (arg7 : Memref sig .tc .vmem S256x8x128 .bf16) (harg7 : arg7.IsWhole)
  (arg8 : Memref sig .tc .vmem S48x512x256 .i32) (harg8 : arg8.IsWhole)
  (arg11 : Memref sig .tc .vmem S1024x128 .i32) (harg11 : arg11.IsWhole)
  (X2 : BufTy.Contents (Elt F) arg2.view.ty) (X6 : BufTy.Contents (Elt F) arg6.view.ty) (G8 : BufTy.Contents (Elt F) arg8.view.ty)
  (X3 : BufTy.Contents (Elt F) arg3.view.ty) (X4 : BufTy.Contents (Elt F) arg4.view.ty) (X11 : BufTy.Contents (Elt F) arg11.view.ty)

/-- The body at the call's operands. -/
abbrev bodyP : Prog (TpuEff nD τ sig (Elt F) Λ₀ .tc) PUnit := cc0_project_q (F := F) i arg2 harg2 arg3 harg3 arg4 harg4 (Memref.whole main_v0) (Memref.isWhole_whole _) arg6 harg6 arg7 harg7 arg8 harg8 scM0_1 (Memref.isWhole_whole _) cc0_scratch2 arg11 harg11

set_option maxRecDepth 65536 in
/-- The body is its first part and the rest, which takes what the first part hands on. -/
def contS : { k : (_ : FVec F S256x512 .f32) ×' FVec F S256x256 .bf16 → Prog (TpuEff nD τ sig (Elt F) Λ₀ .tc) PUnit // bodyP (F := F) i arg2 harg2 arg3 harg3 arg4 harg4 arg6 harg6 arg7 harg7 arg8 harg8 arg11 harg11 = firstPart (F := F) i arg2 harg2 arg3 harg3 arg4 harg4 arg6 harg6 arg7 harg7 arg8 harg8 arg11 harg11 >>= k } :=
  ⟨_, (congrArg (fun f => f i arg2 harg2 arg3 harg3 arg4 harg4 (Memref.whole main_v0) (Memref.isWhole_whole _) arg6 harg6 arg7 harg7 arg8 harg8 scM0_1 (Memref.isWhole_whole _) cc0_scratch2 arg11 harg11) (cc0_project_q_eq_skeleton (F := F))).trans rfl⟩
/-- The rest of the body. -/
abbrev cont (v : (_ : FVec F S256x512 .f32) ×' FVec F S256x256 .bf16) : Prog (TpuEff nD τ sig (Elt F) Λ₀ .tc) PUnit := (contS (F := F) i arg2 harg2 arg3 harg3 arg4 harg4 arg6 harg6 arg7 harg7 arg8 harg8 arg11 harg11).1 v

/-- The rest's run: the pieces it writes to the block of results are the run's own finds. -/
@[irreducible] def tail (c : Dev nD) :
    { L : List (View.Piece (Elt F) S256x8x128 .bf16) // ∀ (X7 : BufTy.Contents (Elt F) arg7.view.ty),
      iprop(memP c arg2 X2 ∗ memP c arg3 X3 ∗ memP c arg4 X4 ∗ memP c arg7 X7 ∗ memP c arg8 G8 ∗ memP c arg11 X11)
      ⊢ wp frame (wpE (defs₀ (F := F)) Variants.none c none) Set.univ (cont (F := F) i arg2 harg2 arg3 harg3 arg4 harg4 arg6 harg6 arg7 harg7 arg8 harg8 arg11 harg11 (firstV arg2 arg8 X2 G8))
          (fun _ => iprop(memP c arg2 X2 ∗ memP c arg3 X3 ∗ memP c arg4 X4 ∗ memP c arg7 (arg7.view.writes (Elt F) X7 L) ∗ memP c arg8 G8 ∗ ∃ X11', memP c arg11 X11')) } := by
  refine ⟨?_, fun X7 => ?run⟩
  case run =>
    unfold cont contS firstV
    simp only [k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton]
    iintro ⟨H2, H3, H4, H7, H8, H11⟩
    sl_exec
    sl_step
    isplitl [H2]; · iexact H2
    isplitl [H3]; · iexact H3
    isplitl [H4]; · iexact H4
    isplitl [H7]; · iexact H7
    isplitl [H8]; · iexact H8
    iexists _; iexact H11

/-- The block of results after the body. -/
abbrev outP (c : Dev nD) (X7 : BufTy.Contents (Elt F) arg7.view.ty) : BufTy.Contents (Elt F) arg7.view.ty :=
  arg7.view.writes (Elt F) X7 (tail (F := F) i arg2 harg2 arg3 harg3 arg4 harg4 arg6 harg6 arg7 harg7 arg8 harg8 arg11 harg11 X2 G8 X3 X4 X11 c).1

/-- The body, from what its first part does: `R` is what the first part starts from, `R' G` what it leaves besides the
    activations' block and the decoded tile at `G`. -/
theorem body_of_first (c : Dev nD) (R : sProp 𝕄) (R' : BufTy.Contents (Elt F) arg8.view.ty → sProp 𝕄) (X7 : BufTy.Contents (Elt F) arg7.view.ty)
    (h : R ⊢ wp frame (wpE (defs₀ (F := F)) Variants.none c none) Set.univ (firstPart (F := F) i arg2 harg2 arg3 harg3 arg4 harg4 arg6 harg6 arg7 harg7 arg8 harg8 arg11 harg11)
      (fun v => iprop(∃ G, memP c arg2 X2 ∗ memP c arg8 G ∗ ⌜v = firstV arg2 arg8 X2 G⌝ ∗ R' G))) :
    iprop(R ∗ memP c arg3 X3 ∗ memP c arg4 X4 ∗ memP c arg7 X7 ∗ memP c arg11 X11)
    ⊢ wp frame (wpE (defs₀ (F := F)) Variants.none c none) Set.univ (bodyP (F := F) i arg2 harg2 arg3 harg3 arg4 harg4 arg6 harg6 arg7 harg7 arg8 harg8 arg11 harg11)
      (fun _ => iprop(∃ G, memP c arg2 X2 ∗ memP c arg3 X3 ∗ memP c arg4 X4 ∗ memP c arg7 (outP i arg2 harg2 arg3 harg3 arg4 harg4 arg6 harg6 arg7 harg7 arg8 harg8 arg11 harg11 X2 G X3 X4 X11 c X7) ∗ memP c arg8 G ∗ (∃ X11', memP c arg11 X11') ∗ R' G)) := by
  rw [(contS (F := F) i arg2 harg2 arg3 harg3 arg4 harg4 arg6 harg6 arg7 harg7 arg8 harg8 arg11 harg11).2, wp_bind]
  iintro ⟨HR, H3, H4, H7, H11⟩
  iapply (wp_wand_r Idealize.ShloMosaic.frame (wpE (defs₀ (F := F)) Variants.none (c : Thread nD τ) none) Set.univ)
  isplitl [HR]
  · iapply h; iexact HR
  iintro %v ⟨%G, H2, H8, %hv, HR⟩
  subst hv
  iapply (wp_wand_r Idealize.ShloMosaic.frame (wpE (defs₀ (F := F)) Variants.none (c : Thread nD τ) none) Set.univ)
  isplitl [H2 H3 H4 H7 H8 H11]
  · iapply ((tail (F := F) i arg2 harg2 arg3 harg3 arg4 harg4 arg6 harg6 arg7 harg7 arg8 harg8 arg11 harg11 X2 G X3 X4 X11 c).2 X7)
    isplitl [H2]; · iexact H2
    isplitl [H3]; · iexact H3
    isplitl [H4]; · iexact H4
    isplitl [H7]; · iexact H7
    isplitl [H8]; · iexact H8
    iexact H11
  iintro %_ ⟨H2, H3, H4, H7, H8, H11⟩
  iexists G
  isplitl [H2]; · iexact H2
  isplitl [H3]; · iexact H3
  isplitl [H4]; · iexact H4
  isplitl [H7]; · iexact H7
  isplitl [H8]; · iexact H8
  isplitl [H11]; · iexact H11
  iexact HR

end Cert.Kernel.Hand

end
-- ==== Proof.KernelPoint.lean ====
/-
  The body of `Kernel` at a grid point: the stream's state before and after it, what its first part leaves in the decoded
  tile, and the whole body.
-/
module

public import proofs.«01_k».proof.Proof.KernelTail

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

/-! ## The stream between points -/

/-- How many tiles have been waited for before point `k`. -/
abbrev tiles (k : ℕ) : ℕ := (k + 23) / 24
/-- The stream before point `k`: the next tile's transfers issued, from the first tile waited for to the last; free otherwise. -/
def streamAt (c : Dev nD) (W0 : HbBuf0 (F := F) c hbM0_0) (n : ℕ) : sProp 𝕄 :=
  if h : 0 < n ∧ n < 10 then busy c W0 ⟨n, h.2⟩ else iprop(∃ X, freeX c W0 X)
theorem streamAt_busy (c : Dev nD) (W0 : HbBuf0 (F := F) c hbM0_0) {n : ℕ} (h0 : 0 < n) (h1 : n < 10) : streamAt c W0 n = busy c W0 ⟨n, h1⟩ := dif_pos ⟨h0, h1⟩
theorem streamAt_free (c : Dev nD) (W0 : HbBuf0 (F := F) c hbM0_0) {n : ℕ} (h : n = 0 ∨ n = 10) : streamAt c W0 n = iprop(∃ X, freeX c W0 X) := dif_neg (by omega)

/-- The tile of a point. -/
abbrev tileOf (t : Fin cfg0.N) : Fin 10 := ⟨t.val / 24, by have := lt_of_lt_of_eq t.isLt (show cfg0.N = 240 from N_0); omega⟩

theorem off112_tile (t : Fin cfg0.N) (b : ℕ) (h : b = t.val / 24 + 1) : k0_off112 (grid0.coords t) = offB b 0 0 := by
  rw [k0_off112_eq, coord0, h]; unfold offB; rw [Nat.mul_add]
theorem off113_tile (t : Fin cfg0.N) (b : ℕ) (h : b = t.val / 24 + 1) : k0_off113 (grid0.coords t) = offB b 0 128 := by
  rw [k0_off113_eq, coord0, h]; unfold offB; rw [Nat.mul_add]
theorem off114_tile (t : Fin cfg0.N) (b : ℕ) (h : b = t.val / 24 + 1) : k0_off114 (grid0.coords t) = offB b 0 256 := by
  rw [k0_off114_eq, coord0, h]; unfold offB; rw [Nat.mul_add]
theorem off115_tile (t : Fin cfg0.N) (b : ℕ) (h : b = t.val / 24 + 1) : k0_off115 (grid0.coords t) = offB b 8 0 := by
  rw [k0_off115_eq, coord0, h]; unfold offB; rw [Nat.mul_add]
theorem off116_tile (t : Fin cfg0.N) (b : ℕ) (h : b = t.val / 24 + 1) : k0_off116 (grid0.coords t) = offB b 8 128 := by
  rw [k0_off116_eq, coord0, h]; unfold offB; rw [Nat.mul_add]
theorem off117_tile (t : Fin cfg0.N) (b : ℕ) (h : b = t.val / 24 + 1) : k0_off117 (grid0.coords t) = offB b 8 256 := by
  rw [k0_off117_eq, coord0, h]; unfold offB; rw [Nat.mul_add]

/-- The transfers issued at a point before the last row are the next tile's. -/
theorem busy_next (c : Dev nD) (t : Fin cfg0.N) (W0 : HbBuf0 (F := F) c hbM0_0) (hc1 : cond0_1 (grid0.coords t)) (hc2 : cond0_2 (grid0.coords t)) (h : t.val / 24 + 1 < 10) :
    busyO c W0 (k0_off112 (grid0.coords t)) (k0_off113 (grid0.coords t)) (k0_off114 (grid0.coords t)) (k0_off115 (grid0.coords t)) (k0_off116 (grid0.coords t)) (k0_off117 (grid0.coords t)) (k0_off112_inb (grid0.coords t) hc1 hc2) (k0_off113_inb (grid0.coords t) hc1 hc2) (k0_off114_inb (grid0.coords t) hc1 hc2) (k0_off115_inb (grid0.coords t) hc1 hc2) (k0_off116_inb (grid0.coords t) hc1 hc2) (k0_off117_inb (grid0.coords t) hc1 hc2)
      = busy c W0 ⟨t.val / 24 + 1, h⟩ :=
  busyO_eq c W0 ⟨t.val / 24 + 1, h⟩ _ _ _ _ _ _ _ _ _ _ _ _ (off112_tile t _ rfl) (off113_tile t _ rfl) (off114_tile t _ rfl) (off115_tile t _ rfl) (off116_tile t _ rfl) (off117_tile t _ rfl)

section PointI
variable (c : Dev nD) (i : grid0.Coords) (W0 : HbBuf0 (F := F) c hbM0_0)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole)
  (arg6 : Memref sig .tc .vmem S1024x384 .bf16) (harg6 : arg6.IsWhole) (arg7 : Memref sig .tc .vmem S256x8x128 .bf16) (harg7 : arg7.IsWhole)
  (arg8 : Memref sig .tc .vmem S48x512x256 .i32) (harg8 : arg8.IsWhole)
  (arg11 : Memref sig .tc .vmem S1024x128 .i32) (harg11 : arg11.IsWhole)
  (X2 : BufTy.Contents (Elt F) arg2.view.ty) (X6 : BufTy.Contents (Elt F) arg6.view.ty) (G8 : BufTy.Contents (Elt F) arg8.view.ty)
  (X3 : BufTy.Contents (Elt F) arg3.view.ty) (X4 : BufTy.Contents (Elt F) arg4.view.ty) (X11 : BufTy.Contents (Elt F) arg11.view.ty)

/-- Case C from tile `b`'s transfers. -/
theorem first_Ct (W : Waits sig Unit) (hc0 : ¬cond0_0 i) (hc1 : cond0_1 i) (hc2 : cond0_2 i) (b : Fin 10) :
    iprop(memP c arg2 X2 ∗ memP c arg6 X6 ∗ memP c arg8 G8 ∗ busy c W0 b ∗ owes (c : Thread nD τ) 0 W)
    ⊢ wp frame (wpE (defs₀ (F := F)) Variants.none c none) Set.univ (firstPart (F := F) i arg2 harg2 arg3 harg3 arg4 harg4 arg6 harg6 arg7 harg7 arg8 harg8 arg11 harg11)
      (fun v => iprop(∃ X9, ⌜HoldsB c W0 b X9⌝ ∗ memP c arg2 X2 ∗ memP c arg6 X6 ∗ memP c arg8 (decoded (F := F) c i arg2 harg2 arg3 harg3 arg4 harg4 arg6 harg6 arg7 harg7 arg8 harg8 arg11 harg11 X6 G8 hc1 X9)
        ∗ busyO c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2) ∗ ⌜v = firstV arg2 arg8 X2 (decoded (F := F) c i arg2 harg2 arg3 harg3 arg4 harg4 arg6 harg6 arg7 harg7 arg8 harg8 arg11 harg11 X6 G8 hc1 X9)⌝ ∗ ∃ W', owes (c : Thread nD τ) 0 W')) := by
  unfold busy HoldsB
  exact first_C c i W0 arg2 harg2 arg3 harg3 arg4 harg4 arg6 harg6 arg7 harg7 arg8 harg8 arg11 harg11 X2 X6 G8 W hc0 hc1 hc2 (offB b.val 0 0) (offB b.val 0 128) (offB b.val 0 256) (offB b.val 8 0) (offB b.val 8 128) (offB b.val 8 256) (fits_offB b (by decide) (by decide)) (fits_offB b (by decide) (by decide)) (fits_offB b (by decide) (by decide)) (fits_offB b (by decide) (by decide)) (fits_offB b (by decide) (by decide)) (fits_offB b (by decide) (by decide))
/-- Case D from tile `b`'s transfers. -/
theorem first_Dt (W : Waits sig Unit) (hc0 : ¬cond0_0 i) (hc1 : cond0_1 i) (hc2 : ¬cond0_2 i) (b : Fin 10) :
    iprop(memP c arg2 X2 ∗ memP c arg6 X6 ∗ memP c arg8 G8 ∗ busy c W0 b ∗ owes (c : Thread nD τ) 0 W)
    ⊢ wp frame (wpE (defs₀ (F := F)) Variants.none c none) Set.univ (firstPart (F := F) i arg2 harg2 arg3 harg3 arg4 harg4 arg6 harg6 arg7 harg7 arg8 harg8 arg11 harg11)
      (fun v => iprop(∃ X9, ⌜HoldsB c W0 b X9⌝ ∗ memP c arg2 X2 ∗ memP c arg6 X6 ∗ memP c arg8 (decoded (F := F) c i arg2 harg2 arg3 harg3 arg4 harg4 arg6 harg6 arg7 harg7 arg8 harg8 arg11 harg11 X6 G8 hc1 X9)
        ∗ freeX c W0 X9 ∗ ⌜v = firstV arg2 arg8 X2 (decoded (F := F) c i arg2 harg2 arg3 harg3 arg4 harg4 arg6 harg6 arg7 harg7 arg8 harg8 arg11 harg11 X6 G8 hc1 X9)⌝ ∗ ∃ W', owes (c : Thread nD τ) 0 W')) := by
  unfold busy HoldsB
  exact first_D c i W0 arg2 harg2 arg3 harg3 arg4 harg4 arg6 harg6 arg7 harg7 arg8 harg8 arg11 harg11 X2 X6 G8 W hc0 hc1 hc2 (offB b.val 0 0) (offB b.val 0 128) (offB b.val 0 256) (offB b.val 8 0) (offB b.val 8 128) (offB b.val 8 256) (fits_offB b (by decide) (by decide)) (fits_offB b (by decide) (by decide)) (fits_offB b (by decide) (by decide)) (fits_offB b (by decide) (by decide)) (fits_offB b (by decide) (by decide)) (fits_offB b (by decide) (by decide))
end PointI

section Point
variable (c : Dev nD) (t : Fin cfg0.N) (W0 : HbBuf0 (F := F) c hbM0_0)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole)
  (arg6 : Memref sig .tc .vmem S1024x384 .bf16) (harg6 : arg6.IsWhole) (arg7 : Memref sig .tc .vmem S256x8x128 .bf16) (harg7 : arg7.IsWhole)
  (arg8 : Memref sig .tc .vmem S48x512x256 .i32) (harg8 : arg8.IsWhole)
  (arg11 : Memref sig .tc .vmem S1024x128 .i32) (harg11 : arg11.IsWhole)
  (X2 : BufTy.Contents (Elt F) arg2.view.ty) (X6 : BufTy.Contents (Elt F) arg6.view.ty) (G8 : BufTy.Contents (Elt F) arg8.view.ty)
  (X3 : BufTy.Contents (Elt F) arg3.view.ty) (X4 : BufTy.Contents (Elt F) arg4.view.ty) (X11 : BufTy.Contents (Elt F) arg11.view.ty)

/-- What a point's first part leaves in the decoded tile: at the first token block of a tile, that tile decoded; at the
    others, what it held. -/
def Step (t : Fin cfg0.N) (G : BufTy.Contents (Elt F) arg8.view.ty) : Prop :=
  if t.val % 24 = 0 then ∃ (hc1 : k0_cond2 (grid0.coords t) = 1#1) (X9 : _), HoldsB c W0 (tileOf t) X9 ∧ G = decoded (F := F) c (grid0.coords t) arg2 harg2 arg3 harg3 arg4 harg4 arg6 harg6 arg7 harg7 arg8 harg8 arg11 harg11 X6 G8 hc1 X9
  else G = G8

/-- The first part at any point. -/
theorem first_all (W : Waits sig Unit) :
    iprop(memP c arg2 X2 ∗ memP c arg6 X6 ∗ memP c arg8 G8 ∗ streamAt c W0 (tiles t.val) ∗ owes (c : Thread nD τ) 0 W)
    ⊢ wp frame (wpE (defs₀ (F := F)) Variants.none c none) Set.univ (firstPart (F := F) (grid0.coords t) arg2 harg2 arg3 harg3 arg4 harg4 arg6 harg6 arg7 harg7 arg8 harg8 arg11 harg11)
      (fun v => iprop(∃ G, memP c arg2 X2 ∗ memP c arg8 G ∗ ⌜v = firstV arg2 arg8 X2 G⌝
        ∗ iprop(memP c arg6 X6 ∗ ⌜Step (F := F) c W0 arg2 harg2 arg3 harg3 arg4 harg4 arg6 harg6 arg7 harg7 arg8 harg8 arg11 harg11 X6 G8 t G⌝ ∗ streamAt c W0 (tiles (t.val + 1)) ∗ ∃ W', owes (c : Thread nD τ) 0 W'))) := by
  have hN : t.val < 240 := lt_of_lt_of_eq t.isLt (show cfg0.N = 240 from N_0)
  by_cases h1 : t.val % 24 = 0
  · have hc1 := (hcond0_1 t).mpr h1
    by_cases h0 : t.val = 0
    · have hc0 := (hcond0_0 t).mpr h0
      have hc2 := (hcond0_2 t).mpr (by omega)
      rw [streamAt_free c W0 (n := tiles t.val) (by simp only [tiles]; omega), streamAt_busy c W0 (n := tiles (t.val + 1)) (by simp only [tiles]; omega) (by simp only [tiles]; omega)]
      iintro ⟨H2, H6, H8, ⟨%X, HS⟩, HW⟩
      iapply (wp_wand_r Idealize.ShloMosaic.frame (wpE (defs₀ (F := F)) Variants.none (c : Thread nD τ) none) Set.univ)
      isplitl [H2 H6 H8 HS HW]
      · iapply (first_A c (grid0.coords t) W0 arg2 harg2 arg3 harg3 arg4 harg4 arg6 harg6 arg7 harg7 arg8 harg8 arg11 harg11 X2 X6 G8 W hc0 hc1 hc2 X)
        isplitl [H2]; · iexact H2
        isplitl [H6]; · iexact H6
        isplitl [H8]; · iexact H8
        isplitl [HS]; · iexact HS
        iexact HW
      iintro %v ⟨%X9, %hX, H2, H6, H8, HS, %hv, HW⟩
      iexists _
      isplitl [H2]; · iexact H2
      isplitl [H8]; · iexact H8
      isplitr; · ipureintro; exact hv
      isplitl [H6]; · iexact H6
      isplitr
      · ipureintro; unfold Step; rw [if_pos h1]
        have eb : (tileOf t).val = 0 := by show t.val / 24 = 0; omega
        exact ⟨hc1, X9, holdsO_eq c W0 (tileOf t) _ _ _ _ _ _ _ _ _ _ _ _ (by rw [eb]) (by rw [eb]) (by rw [eb]) (by rw [eb]) (by rw [eb]) (by rw [eb]) X9 hX, rfl⟩
      isplitl [HS]
      · have e : (⟨tiles (t.val + 1), by simp only [tiles]; omega⟩ : Fin 10) = ⟨t.val / 24 + 1, by omega⟩ := Fin.ext (by simp only [tiles]; omega)
        rw [e]
        have hb : t.val / 24 + 1 < 10 := by omega
        iapply (Entails.of_eq (busy_next c t W0 hc1 hc2 hb)) $$ HS
      iexact HW
    · have hc0 : ¬cond0_0 (grid0.coords t) := fun h => h0 ((hcond0_0 t).mp h)
      by_cases h2 : t.val < 216
      · have hc2 := (hcond0_2 t).mpr h2
        rw [streamAt_busy c W0 (n := tiles t.val) (by simp only [tiles]; omega) (by simp only [tiles]; omega), streamAt_busy c W0 (n := tiles (t.val + 1)) (by simp only [tiles]; omega) (by simp only [tiles]; omega)]
        have e0 : (⟨tiles t.val, by simp only [tiles]; omega⟩ : Fin 10) = tileOf t := Fin.ext (by simp only [tiles]; omega)
        have e : (⟨tiles (t.val + 1), by simp only [tiles]; omega⟩ : Fin 10) = ⟨t.val / 24 + 1, by omega⟩ := Fin.ext (by simp only [tiles]; omega)
        rw [e0, e]
        iintro ⟨H2, H6, H8, HS, HW⟩
        iapply (wp_wand_r Idealize.ShloMosaic.frame (wpE (defs₀ (F := F)) Variants.none (c : Thread nD τ) none) Set.univ)
        isplitl [H2 H6 H8 HS HW]
        · iapply (first_Ct c (grid0.coords t) W0 arg2 harg2 arg3 harg3 arg4 harg4 arg6 harg6 arg7 harg7 arg8 harg8 arg11 harg11 X2 X6 G8 W hc0 hc1 hc2 (tileOf t))
          isplitl [H2]; · iexact H2
          isplitl [H6]; · iexact H6
          isplitl [H8]; · iexact H8
          isplitl [HS]; · iexact HS
          iexact HW
        iintro %v ⟨%X9, %hX, H2, H6, H8, HS, %hv, HW⟩
        iexists _
        isplitl [H2]; · iexact H2
        isplitl [H8]; · iexact H8
        isplitr; · ipureintro; exact hv
        isplitl [H6]; · iexact H6
        isplitr
        · ipureintro; unfold Step; rw [if_pos h1]
          exact ⟨hc1, X9, hX, rfl⟩
        isplitl [HS]
        · have hb : t.val / 24 + 1 < 10 := by omega
          iapply (Entails.of_eq (busy_next c t W0 hc1 hc2 hb)) $$ HS
        iexact HW
      · have hc2 : ¬cond0_2 (grid0.coords t) := fun h => h2 ((hcond0_2 t).mp h)
        rw [streamAt_busy c W0 (n := tiles t.val) (by simp only [tiles]; omega) (by simp only [tiles]; omega), streamAt_free c W0 (n := tiles (t.val + 1)) (by simp only [tiles]; omega)]
        have e0 : (⟨tiles t.val, by simp only [tiles]; omega⟩ : Fin 10) = tileOf t := Fin.ext (by simp only [tiles]; omega)
        rw [e0]
        iintro ⟨H2, H6, H8, HS, HW⟩
        iapply (wp_wand_r Idealize.ShloMosaic.frame (wpE (defs₀ (F := F)) Variants.none (c : Thread nD τ) none) Set.univ)
        isplitl [H2 H6 H8 HS HW]
        · iapply (first_Dt c (grid0.coords t) W0 arg2 harg2 arg3 harg3 arg4 harg4 arg6 harg6 arg7 harg7 arg8 harg8 arg11 harg11 X2 X6 G8 W hc0 hc1 hc2 (tileOf t))
          isplitl [H2]; · iexact H2
          isplitl [H6]; · iexact H6
          isplitl [H8]; · iexact H8
          isplitl [HS]; · iexact HS
          iexact HW
        iintro %v ⟨%X9, %hX, H2, H6, H8, HS, %hv, HW⟩
        iexists _
        isplitl [H2]; · iexact H2
        isplitl [H8]; · iexact H8
        isplitr; · ipureintro; exact hv
        isplitl [H6]; · iexact H6
        isplitr
        · ipureintro; unfold Step; rw [if_pos h1]
          exact ⟨hc1, X9, hX, rfl⟩
        isplitl [HS]
        · iexists X9; iexact HS
        iexact HW
  · have hc0 : ¬cond0_0 (grid0.coords t) := fun h => h1 (by rw [(hcond0_0 t).mp h])
    have hc1 : ¬cond0_1 (grid0.coords t) := fun h => h1 ((hcond0_1 t).mp h)
    have e : tiles (t.val + 1) = tiles t.val := by simp only [tiles]; omega
    rw [e]
    iintro ⟨H2, H6, H8, HS, HW⟩
    iapply (wp_wand_r Idealize.ShloMosaic.frame (wpE (defs₀ (F := F)) Variants.none (c : Thread nD τ) none) Set.univ)
    isplitl [H2 H8 HW]
    · iapply (first_B c (grid0.coords t) arg2 harg2 arg3 harg3 arg4 harg4 arg6 harg6 arg7 harg7 arg8 harg8 arg11 harg11 X2 G8 W hc0 hc1)
      isplitl [H2]; · iexact H2
      isplitl [H8]; · iexact H8
      iexact HW
    iintro %v ⟨H2, H8, %hv, HW⟩
    iexists _
    isplitl [H2]; · iexact H2
    isplitl [H8]; · iexact H8
    isplitr; · ipureintro; exact hv
    isplitl [H6]; · iexact H6
    isplitr; · ipureintro; unfold Step; rw [if_neg h1]
    isplitl [HS]; · iexact HS
    iexact HW

/-- The whole body at any point. -/
theorem body_all (W : Waits sig Unit) (X7 : BufTy.Contents (Elt F) arg7.view.ty) :
    iprop(iprop(memP c arg2 X2 ∗ memP c arg6 X6 ∗ memP c arg8 G8 ∗ streamAt c W0 (tiles t.val) ∗ owes (c : Thread nD τ) 0 W)
      ∗ memP c arg3 X3 ∗ memP c arg4 X4 ∗ memP c arg7 X7 ∗ memP c arg11 X11)
    ⊢ wp frame (wpE (defs₀ (F := F)) Variants.none c none) Set.univ (bodyP (F := F) (grid0.coords t) arg2 harg2 arg3 harg3 arg4 harg4 arg6 harg6 arg7 harg7 arg8 harg8 arg11 harg11)
      (fun _ => iprop(∃ G, memP c arg2 X2 ∗ memP c arg3 X3 ∗ memP c arg4 X4 ∗ memP c arg7 (outP (grid0.coords t) arg2 harg2 arg3 harg3 arg4 harg4 arg6 harg6 arg7 harg7 arg8 harg8 arg11 harg11 X2 G X3 X4 X11 c X7) ∗ memP c arg8 G ∗ (∃ X11', memP c arg11 X11')
        ∗ iprop(memP c arg6 X6 ∗ ⌜Step (F := F) c W0 arg2 harg2 arg3 harg3 arg4 harg4 arg6 harg6 arg7 harg7 arg8 harg8 arg11 harg11 X6 G8 t G⌝ ∗ streamAt c W0 (tiles (t.val + 1)) ∗ ∃ W', owes (c : Thread nD τ) 0 W'))) :=
  body_of_first (grid0.coords t) arg2 harg2 arg3 harg3 arg4 harg4 arg6 harg6 arg7 harg7 arg8 harg8 arg11 harg11 X2 X3 X4 X11 c _ _ X7 (first_all c t W0 arg2 harg2 arg3 harg3 arg4 harg4 arg6 harg6 arg7 harg7 arg8 harg8 arg11 harg11 X2 X6 G8 W)

end Point

/-! ## Memrefs owned, as the body reads them -/

/-- A whole memref owned at `d` is its buffer held at the contents read as `d`, -/
theorem mem_of_owns (c : Dev nD) {sp : Space} {S : Shape} {e : EltTy} (M : Memref sig .tc sp S e) (hM : M.IsWhole) (d : S.Idx → Elt F e) :
    owns (c : Thread nD τ) M fullShare d ⊢ (memP c M (hM.unread d) : sProp 𝕄) := by
  unfold owns
  iintro ⟨%f, %hf, H⟩
  obtain rfl := hM.eq_unread hf
  iexact H
/-- and the other way, at what the contents are read as. -/
theorem owns_of_mem (c : Dev nD) {sp : Space} {S : Shape} {e : EltTy} (M : Memref sig .tc sp S e) (f : BufTy.Contents (Elt F) M.view.ty) (d : S.Idx → Elt F e)
    (h : M.view.read (Elt F) f = d) : (memP c M f : sProp 𝕄) ⊢ owns (c : Thread nD τ) M fullShare d := by
  unfold owns
  iintro H
  iexists f; isplitr; · ipureintro; exact h
  iexact H

end Cert.Kernel.Hand

end
-- ==== Proof.KernelFrame.lean ====
/-
  The frame of `Kernel`: the proof data of its one pipeline, the body obligation at every point, the run, and what it says of
  the argument arrays and of the semaphore counters. What the kernel leaves in its results is not named here.
-/
module

public import proofs.«01_k».proof.Proof.KernelPoint
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## The pipeline's proof data -/

/-- The invariant before point `k`: the decoded tile and the output staging at anything, the generator register at some
    state, and the stream of packed tiles. -/
def PhiR (c : Dev nD) (k : ℕ) : sProp 𝕄 := iprop((∃ d, owns (c : Thread nD τ) scM0_0 fullShare d) ∗ (∃ d, owns (c : Thread nD τ) scM0_2 fullShare d) ∗ (∃ r, prngReg c r) ∗ streamAt c (V m c main_v0) (tiles k))

/-- The stream free, from what the launch hands over, -/
theorem free_in (c : Dev nD) (W0 : HbBuf0 (F := F) c hbM0_0) (X) :
    iprop(owns (c : Thread nD τ) scM0_1 fullShare X ∗ semVal ((c : Thread nD τ), SemLoc.dma 10) 0 ∗ hbPt0 c hbM0_0 W0) ⊢ (∃ X, freeX c W0 X : sProp 𝕄) := by
  rw [owns_whole]
  iintro ⟨H1, Hq, Hh⟩
  iexists X
  unfold freeX cellP
  rw [tileP_eq, cellR_eq]
  isplitl [Hq]; · iexact Hq
  isplitl [H1]; · iexact H1
  iexact Hh
/-- and handed back. -/
theorem free_out (c : Dev nD) (W0 : HbBuf0 (F := F) c hbM0_0) (X) :
    freeX c W0 X ⊢ (iprop((∃ d, owns (c : Thread nD τ) scM0_1 fullShare d) ∗ semVal ((c : Thread nD τ), SemLoc.dma 10) 0 ∗ hbPt0 c hbM0_0 W0) : sProp 𝕄) := by
  unfold freeX cellP
  rw [tileP_eq, cellR_eq]
  simp only [owns_whole]
  iintro ⟨Hq, H1, Hh⟩
  isplitl [H1]; · iexists X; iexact H1
  isplitl [Hq]; · iexact Hq
  iexact Hh

/-- The results' window, of which nothing is named. -/
def forgets0 : Fin 5 → Bool := fun w => w.val == 4

/-- The proof data: each input's buffer at its block, the results unnamed, nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ t := PhiR m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

set_option maxHeartbeats 1600000 in
/-- The body at any point: `body_all` between the blocks the windows hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [after0_0, after0_1, after0_2, after0_3]
  rw [PhiR_castSucc m c t, PhiR_succ m c t]
  unfold Dat.owesAt Pipeline.owesWithin
  rw [show (dats m 0 c).owed t.castSucc = 0 from rfl, show (dats m 0 c).owed t.succ = 0 from rfl]
  unfold PhiR
  iintro ⟨⟨⟨%e8, H8⟩, ⟨%e11, H11⟩, Hg, Hst⟩, ⟨%W, -, HW⟩, ⟨%d0, H0⟩, ⟨%d1, H1⟩, ⟨%d2, H2⟩, ⟨%d3, H3⟩, ⟨%d4, H4⟩⟩
  ihave K0 := (mem_of_owns c (ms0_0 t) (hs0_0 t) (iblk m c 0 t)) $$ H0
  ihave K1 := (mem_of_owns c (ms0_1 t) (hs0_1 t) (iblk m c 1 t)) $$ H1
  ihave K2 := (mem_of_owns c (ms0_2 t) (hs0_2 t) (iblk m c 2 t)) $$ H2
  ihave K3 := (mem_of_owns c (ms0_3 t) (hs0_3 t) (iblk m c 3 t)) $$ H3
  ihave K4 := (mem_of_owns c (ms0_4 t) (hs0_4 t) d4) $$ H4
  ihave K8 := (mem_of_owns c scM0_0 (Memref.isWhole_whole _) e8) $$ H8
  ihave K11 := (mem_of_owns c scM0_2 (Memref.isWhole_whole _) e11) $$ H11
  iapply (wp_wand_r Idealize.ShloMosaic.frame (wpE (defs₀ (F := F)) Variants.none (c : Thread nD τ) none) Set.univ)
  isplitl [K0 K1 K2 K3 K4 K8 K11 Hst HW]
  · iapply (body_all c t (V m c main_v0) (ms0_0 t) (hs0_0 t) (ms0_1 t) (hs0_1 t) (ms0_2 t) (hs0_2 t) (ms0_3 t) (hs0_3 t) (ms0_4 t) (hs0_4 t) scM0_0 (Memref.isWhole_whole _) scM0_2 (Memref.isWhole_whole _)
      ((hs0_0 t).unread (iblk m c 0 t)) ((hs0_3 t).unread (iblk m c 3 t)) ((Memref.isWhole_whole _).unread e8) ((hs0_1 t).unread (iblk m c 1 t)) ((hs0_2 t).unread (iblk m c 2 t)) ((Memref.isWhole_whole _).unread e11) W ((hs0_4 t).unread d4))
    isplitl [K0 K3 K8 Hst HW]
    · isplitl [K0]; · iexact K0
      isplitl [K3]; · iexact K3
      isplitl [K8]; · iexact K8
      isplitl [Hst]; · iexact Hst
      iexact HW
    isplitl [K1]; · iexact K1
    isplitl [K2]; · iexact K2
    isplitl [K4]; · iexact K4
    iexact K11
  iintro %_ ⟨%G, K0, K1, K2, K4, K8, ⟨%X11, K11⟩, K3, %hG, Hst, ⟨%W', HW'⟩⟩
  isplitl [K8 K11 Hg Hst]
  · isplitl [K8]; · iexists _; iapply (owns_of_mem c scM0_0 G _ rfl); iexact K8
    isplitl [K11]; · iexists _; iapply (owns_of_mem c scM0_2 X11 _ rfl); iexact K11
    isplitl [Hg]; · iexact Hg
    iexact Hst
  isplitl [HW']
  · iexists W'; isplitr; · ipureintro; exact fun _ _ => Or.inl trivial
    iexact HW'
  isplitl [K0]; · iapply (owns_of_mem c (ms0_0 t) _ _ ((hs0_0 t).read_unread _)); iexact K0
  isplitl [K1]; · iapply (owns_of_mem c (ms0_1 t) _ _ ((hs0_1 t).read_unread _)); iexact K1
  isplitl [K2]; · iapply (owns_of_mem c (ms0_2 t) _ _ ((hs0_2 t).read_unread _)); iexact K2
  isplitl [K3]; · iapply (owns_of_mem c (ms0_3 t) _ _ ((hs0_3 t).read_unread _)); iexact K3
  iexists _; iapply (owns_of_mem c (ms0_4 t) _ _ rfl); iexact K4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant before the first point, and the invariant after the last point hands
    it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  rw [streamAt_free c (V m c main_v0) (n := tiles 0) (Or.inl rfl)]
  iintro ⟨⟨HS0, ⟨%X, HS1⟩, HS2⟩, Hg, Hq, Hh⟩
  isplitl [HS0]; · iexact HS0
  isplitl [HS2]; · iexact HS2
  isplitl [Hg]; · iexact Hg
  iapply (free_in c (V m c main_v0) X)
  isplitl [HS1]; · iexact HS1
  isplitl [Hq]; · iexact Hq
  iexact Hh
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [streamAt_free c (V m c main_v0) (n := tiles grid0.N) (Or.inr (by rw [N_0]))]
  iintro ⟨HS0, HS2, Hg, ⟨%X, HX⟩⟩
  ihave HX' := (free_out c (V m c main_v0) X) $$ HX
  icases HX' with ⟨HS1, Hq, Hh⟩
  isplitl [HS0 HS1 HS2]
  · isplitl [HS0]; · iexact HS0
    isplitl [HS1]; · iexact HS1
    iexact HS2
  isplitl [Hg]; · iexact Hg
  isplitl [Hq]; · iexact Hq
  iexact Hh

/-! ## The run and the frame -/

set_option backward.isDefEq.respectTransparency.types false in
/-- The run, with every semaphore counter at zero at its end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every input array unchanged, every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays, from a run whose arrays are the region-entry contents. -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 3 rfl).trans ((hA c 3).trans (V_main_arg4 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.KernelIdealStream.lean ====
/-
  The weight stream of the kernel `KernelIdeal`: the names and the resources its body's own transfers are stated over.

  The body keeps ONE tile of packed weights in scratch, as six windows (two words of eight bytes by three groups of 128
  scales), and fills it by six transfers counted on one semaphore cell. A tile is therefore in one of two states between
  grid points: FREE (the cell at zero, the scratch and the operand in HBM held whole) or BUSY (all six transfers of a
  block issued, none waited for: a `Transfers.Batch`, and of the operand what the transfers did not borrow).
-/
module

public import proofs.«01_k».proof.Proof.Gen.KernelIdeal.Frame
public import proofs.«01_k».proof.Proof.Gen.KernelIdeal.Skeleton
public import proofs.«01_k».proof.Proof.Blocks
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The frame kit at the algebra of a body with transfers of its own -/

set_option maxHeartbeats 800000 in
/-- @main up to the region: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- An input window's current staging buffer holds its block at every point, fetched there or not. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions over the points -/

/-- The first conditional (the first tile's transfers): at the first point only. -/
abbrev cond0_0 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
theorem hcond0_0 : ∀ t : Fin cfg0.N, cond0_0 (grid0.coords t) ↔ t.val = 0 :=
  (by decide +kernel : ∀ t : Fin grid0.N, cond0_0 (grid0.coords t) ↔ t.val = 0)
/-- The second (waits, decoding, the next tile's transfers): where the token block is the first. -/
abbrev cond0_1 (i : grid0.Coords) : Prop := k0_cond2 i = 1#1
theorem hcond0_1 : ∀ t : Fin cfg0.N, cond0_1 (grid0.coords t) ↔ t.val % 24 = 0 :=
  (by decide +kernel : ∀ t : Fin grid0.N, cond0_1 (grid0.coords t) ↔ t.val % 24 = 0)
/-- The third (there is a next tile): before the last row of points. -/
abbrev cond0_2 (i : grid0.Coords) : Prop := k0_cond3 i = 1#1
theorem hcond0_2 : ∀ t : Fin cfg0.N, cond0_2 (grid0.coords t) ↔ t.val < 216 :=
  (by decide +kernel : ∀ t : Fin grid0.N, cond0_2 (grid0.coords t) ↔ t.val < 216)
/-- The tile of a point is its number over the 24 token blocks. -/
theorem coord0 : ∀ t : Fin cfg0.N, (grid0.coords t 0).val = t.val / 24 :=
  (by decide +kernel : ∀ t : Fin grid0.N, (grid0.coords t 0).val = t.val / 24)

/-! ## The memrefs the body is called with -/

abbrev ms0_0 (t : Fin cfg0.N) : Memref sig .tc .vmem S1x48x128x256 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x384 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x8x128 .bf16 := win0_4.stage (cfg0.slots t 4)
abbrev hs0_4 (t : Fin cfg0.N) : (ms0_4 t).IsWhole := hstage0_4 ((cfg0.slots t 4).cast nbuf0_4)
/-- The scratch: the decoded tile, the packed tile, the output staging. -/
abbrev scM0_0 : Memref sig .tc .vmem S48x512x2x256 .bf16 := Memref.whole cc0_scratch0
abbrev scM0_1 : Memref sig .tc .vmem S2x3x1024x8x128 .i8 := Memref.whole cc0_scratch1
abbrev scM0_2 : Memref sig .tc .vmem S1024x2x128 .bf16 := Memref.whole cc0_scratch3
/-- The packed weights, left in HBM. -/
abbrev hbM0_0 : Memref sig .tc .hbm S10240x16x384 .i8 := Memref.whole main_v0
/-- Memref `M`'s buffer on core `c`: its contents type, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own semaphore cell. -/
abbrev osem0 : Fin 1 → SemLoc sig := fun j => (![SemLoc.dma 10] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 10) 0 := by
  rw [Pipeline.ownSems0_eq_of_list c osem0 [0] (by decide) (by decide)]; rfl
/-- The operand the body moves out of HBM: no window's array. -/
def H0 : Finset (Ref sig .tc) := {main_v0}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_v0)) := by
  rw [BI.bigSep_eq_bigSepL_of_eq [main_v0] (by decide) (by decide)]; rfl
/-- What the launch hands a body with transfers of its own, and takes back, conjunct by conjunct. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ semVal ((c : Thread nD τ), SemLoc.dma 10) 0 ∗ iprop(hbPt0 c hbM0_0 (V m c main_v0))) := by
  rw [Pipeline.ΦD_eq, scopedRest0_eq, ownSems00_eq, hbmPts0_eq]; simp only [scM0_0, scM0_1, scM0_2, owns_whole]; try rfl

/-! ## The windows of the packed tile, and the blocks of the operand they are filled from -/

/-- Window (word `a`, group of scales `b`) of the packed tile. -/
abbrev mkWin (a b : ℕ) (h : ∀ x, (![a, b, 0, 0, 0] : Fin 5 → ℕ) x + S1x1x1024x8x128.size x ≤ S2x3x1024x8x128.size x) : Memref sig .tc .vmem S1024x8x128 .i8 :=
  (scM0_1.slice (Rect.unit (s := S2x3x1024x8x128) ![a, b, 0, 0, 0] S1x1x1024x8x128.size h) (fun _ => rfl)).squeeze S1024x8x128 squeezes_S1x1x1024x8x128_S1024x8x128
abbrev win0 : Memref sig .tc .vmem S1024x8x128 .i8 := mkWin 0 0 inb_S2x3x1024x8x128_S1x1x1024x8x128_0_0_0_0_0
abbrev win1 : Memref sig .tc .vmem S1024x8x128 .i8 := mkWin 0 1 inb_S2x3x1024x8x128_S1x1x1024x8x128_0_1_0_0_0
abbrev win2 : Memref sig .tc .vmem S1024x8x128 .i8 := mkWin 0 2 inb_S2x3x1024x8x128_S1x1x1024x8x128_0_2_0_0_0
abbrev win3 : Memref sig .tc .vmem S1024x8x128 .i8 := mkWin 1 0 inb_S2x3x1024x8x128_S1x1x1024x8x128_1_0_0_0_0
abbrev win4 : Memref sig .tc .vmem S1024x8x128 .i8 := mkWin 1 1 inb_S2x3x1024x8x128_S1x1x1024x8x128_1_1_0_0_0
abbrev win5 : Memref sig .tc .vmem S1024x8x128 .i8 := mkWin 1 2 inb_S2x3x1024x8x128_S1x1x1024x8x128_1_2_0_0_0
/-- Offsets at which a block of the operand fits. -/
abbrev Fits (o : Fin 3 → ℕ) : Prop := ∀ a, o a + S1024x8x128.size a ≤ S10240x16x384.size a
/-- The block of the operand at offsets `o`. -/
abbrev srcO (o : Fin 3 → ℕ) (h : Fits o) : Memref sig .tc .hbm S1024x8x128 .i8 :=
  hbM0_0.slice (Rect.unit (s := S10240x16x384) o S1024x8x128.size h) (fun _ => rfl)
/-- The cell the six transfers are counted on. -/
abbrev cellR : SemLoc sig := SemLoc.dma cc0_scratch2.sem
theorem cellR_eq : cellR = SemLoc.dma 10 := by decide

section Stream
variable (c : Dev nD) (W0 : HbBuf0 (F := F) c hbM0_0)

/-- The operand is lent by share, one share per window. -/
abbrev q0 : PosShare TreeShare := fullShare.left
abbrev q1 : PosShare TreeShare := fullShare.right.left
abbrev q2 : PosShare TreeShare := fullShare.right.right.left
abbrev q3 : PosShare TreeShare := fullShare.right.right.right.left
abbrev q4 : PosShare TreeShare := fullShare.right.right.right.right.left
abbrev q5 : PosShare TreeShare := fullShare.right.right.right.right.right

/-- A window held at `e`; the block at `o` of the operand at a share; the rest of the operand at that share; and it whole. -/
abbrev winP (M : Memref sig .tc .vmem S1024x8x128 .i8) (e : HbBuf0 (F := F) c M) : sProp 𝕄 := M.view.loc (c : Thread nD τ) ↦[M.view.set]{fullShare} e
abbrev srcP (q : PosShare TreeShare) (o : Fin 3 → ℕ) (h : Fits o) : sProp 𝕄 := (srcO o h).view.loc (c : Thread nD τ) ↦[(srcO o h).view.set]{q} W0
def restP (q : PosShare TreeShare) (o : Fin 3 → ℕ) (h : Fits o) : sProp 𝕄 := ((c : Thread nD τ).loc main_v0) ↦[Finset.univ \ (srcO o h).view.set]{q} W0
abbrev wholeP (q : PosShare TreeShare) : sProp 𝕄 := ((c : Thread nD τ).loc main_v0) ↦[Finset.univ]{q} W0
/-- What a window holds once the block at `o` has landed in it (over anything). -/
abbrev landed (M : Memref sig .tc .vmem S1024x8x128 .i8) (o : Fin 3 → ℕ) (h : Fits o) : HbBuf0 (F := F) c M :=
  M.view.writes (Elt F) M.view.junk [⟨Rect.whole S1024x8x128, ReadAs.same.apply ((srcO o h).view.read (Elt F) W0)⟩]
/-- What a transfer delivers: its window landed, and the block it read. -/
abbrev dlv (M : Memref sig .tc .vmem S1024x8x128 .i8) (q : PosShare TreeShare) (o : Fin 3 → ℕ) (h : Fits o) : sProp 𝕄 :=
  iprop(winP c M (landed c W0 M o h) ∗ srcP c W0 q o h)

variable (o0 o1 o2 o3 o4 o5 : Fin 3 → ℕ) (h0 : Fits o0) (h1 : Fits o1) (h2 : Fits o2) (h3 : Fits o3) (h4 : Fits o4) (h5 : Fits o5)
abbrev winD : Fin 6 → sProp 𝕄 :=
  ![dlv c W0 win0 q0 o0 h0, dlv c W0 win1 q1 o1 h1, dlv c W0 win2 q2 o2 h2, dlv c W0 win3 q3 o3 h3, dlv c W0 win4 q4 o4 h4, dlv c W0 win5 q5 o5 h5]
/-- One transfer's amount on the cell. -/
abbrev NN : ℕ := win0.view.amount cellR
/-- The batch with `k` transfers issued and none waited for. -/
abbrev batchP (k : ℕ) : sProp 𝕄 :=
  Transfers.Batch countersEmb (c : Thread nD τ) cellR default NN (winD c W0 o0 o1 o2 o3 o4 o5 h0 h1 h2 h3 h4 h5) k 0
/-- The rests of the six shares. -/
def restsP : sProp 𝕄 := iprop(restP c W0 q0 o0 h0 ∗ restP c W0 q1 o1 h1 ∗ restP c W0 q2 o2 h2 ∗ restP c W0 q3 o3 h3 ∗ restP c W0 q4 o4 h4 ∗ restP c W0 q5 o5 h5)
/-- BUSY: six transfers issued from the blocks at the offsets. -/
def busyO : sProp 𝕄 := iprop(batchP c W0 o0 o1 o2 o3 o4 o5 h0 h1 h2 h3 h4 h5 6 ∗ restsP c W0 o0 o1 o2 o3 o4 o5 h0 h1 h2 h3 h4 h5)

theorem storable_winD : ∀ w, Storable (upEmb : UEmb _ 𝕄) (winD c W0 o0 o1 o2 o3 o4 o5 h0 h1 h2 h3 h4 h5 w) := by
  intro w; fin_cases w <;> exact @Storable.sep _ _ _ _ _ _ _ _ (storable_pt _ _ _ _) (storable_pt _ _ _ _)

/-! ### The windows tile the packed tile -/

abbrev winOff (w : Fin 2 × Fin 3) : Fin 5 → ℕ := ![w.1.val, w.2.val, 0, 0, 0]
theorem inb_winOff (w : Fin 2 × Fin 3) : ∀ a, winOff w a + S1x1x1024x8x128.size a ≤ S2x3x1024x8x128.size a := by
  have := w.1.isLt; have := w.2.isLt; intro a; fin_cases a <;> simp <;> omega
abbrev winSet (w : Fin 2 × Fin 3) : Finset S2x3x1024x8x128.Idx := (Rect.unit (s := S2x3x1024x8x128) (winOff w) S1x1x1024x8x128.size (inb_winOff w)).set
theorem mkWin_set (a b : ℕ) (h) : (mkWin a b h).view.set = (Rect.unit (s := S2x3x1024x8x128) ![a, b, 0, 0, 0] S1x1x1024x8x128.size h).set := by
  simp only [mkWin, Memref.view_squeeze, View.set_reshape]; exact View.set_slice_whole _ _
theorem winSet_disjoint (w w' : Fin 2 × Fin 3) (h : w ≠ w') : Disjoint (winSet w) (winSet w') :=
  Ring.boxes_disjoint (s := S2x3x1024x8x128) S1x1x1024x8x128.size winOff inb_winOff (fun w => ![w.1.val, w.2.val, 0, 0, 0])
    (fun w a => by fin_cases a <;> simp [winOff] <;> omega) (fun v => (Fin.ofNat 2 (v 0), Fin.ofNat 3 (v 1))) (by decide +kernel) w w' h
theorem winSet_cover : Finset.univ.biUnion winSet = (Finset.univ : Finset S2x3x1024x8x128.Idx) := by
  ext i
  simp only [Finset.mem_biUnion, Finset.mem_univ, true_and, iff_true]
  refine ⟨(⟨(i 0).val, (i 0).isLt⟩, ⟨(i 1).val, (i 1).isLt⟩), Rect.mem_set_unit.2 fun a => ?_⟩
  have := (i a).isLt
  fin_cases a <;> simp [winOff] at this ⊢ <;> omega

/-- A window held is its box of the packed tile held. -/
theorem winP_eq (a b : ℕ) (h) (e : Buf (Elt F) ((c : Thread nD τ).loc cc0_scratch1)) :
    winP c (mkWin a b h) e = (((c : Thread nD τ).loc cc0_scratch1) ↦[(Rect.unit (s := S2x3x1024x8x128) ![a, b, 0, 0, 0] S1x1x1024x8x128.size h).set]{fullShare} e : sProp 𝕄) := by
  unfold winP; rw [mkWin_set]
/-- The six windows, each at contents of its own, over (word, group). -/
abbrev winFam (f : Fin 2 × Fin 3 → Buf (Elt F) ((c : Thread nD τ).loc cc0_scratch1)) : sProp 𝕄 :=
  bigSep Finset.univ fun w => ((c : Thread nD τ).loc cc0_scratch1) ↦[winSet w]{fullShare} f w
theorem winFam_eq (f : Fin 2 × Fin 3 → Buf (Elt F) ((c : Thread nD τ).loc cc0_scratch1)) :
    winFam c f = iprop(winP c win0 (f (0, 0)) ∗ winP c win1 (f (0, 1)) ∗ winP c win2 (f (0, 2)) ∗ winP c win3 (f (1, 0)) ∗ winP c win4 (f (1, 1)) ∗ winP c win5 (f (1, 2))) := by
  rw [winFam, BI.bigSep_eq_bigSepL_of_eq [(0, 0), (0, 1), (0, 2), (1, 0), (1, 1), (1, 2)] (by decide) (by decide),
    winP_eq, winP_eq, winP_eq, winP_eq, winP_eq, winP_eq]
  rfl
/-- The packed tile held whole is its six windows at the same contents. -/
theorem wins_split (X : Buf (Elt F) ((c : Thread nD τ).loc cc0_scratch1)) :
    (((c : Thread nD τ).loc cc0_scratch1) ↦{fullShare} X : sProp 𝕄) = iprop(winP c win0 X ∗ winP c win1 X ∗ winP c win2 X ∗ winP c win3 X ∗ winP c win4 X ∗ winP c win5 X) := by
  rw [Ring.pointsTo_blocks winSet winSet_disjoint winSet_cover X]; exact winFam_eq c fun _ => X
/-- Six windows at contents of their own are the tile whole at some contents that agree with each on its window. -/
theorem wins_join (f0 f1 f2 f3 f4 f5 : Buf (Elt F) ((c : Thread nD τ).loc cc0_scratch1)) :
    iprop(winP c win0 f0 ∗ winP c win1 f1 ∗ winP c win2 f2 ∗ winP c win3 f3 ∗ winP c win4 f4 ∗ winP c win5 f5)
      ⊢ (iprop(∃ X, ⌜(∀ i ∈ winSet (0, 0), X i = f0 i) ∧ (∀ i ∈ winSet (0, 1), X i = f1 i) ∧ (∀ i ∈ winSet (0, 2), X i = f2 i) ∧ (∀ i ∈ winSet (1, 0), X i = f3 i) ∧ (∀ i ∈ winSet (1, 1), X i = f4 i) ∧ (∀ i ∈ winSet (1, 2), X i = f5 i)⌝ ∗ ((c : Thread nD τ).loc cc0_scratch1) ↦{fullShare} X) : sProp 𝕄) := by
  have e := winFam_eq (F := F) c fun w => (![![f0, f1, f2], ![f3, f4, f5]] : Fin 2 → Fin 3 → Buf (Elt F) ((c : Thread nD τ).loc cc0_scratch1)) w.1 w.2
  refine (Entails.of_eq e.symm).trans ((blocks_join (ℓ := (c : Thread nD τ).loc cc0_scratch1) winSet winSet_disjoint winSet_cover _ f0).trans ?_)
  iintro ⟨%X, %hX, H⟩; iexists X; isplitr
  · ipureintro; exact ⟨hX (0, 0), hX (0, 1), hX (0, 2), hX (1, 0), hX (1, 1), hX (1, 2)⟩
  iexact H

/-! ### The operand by shares -/

theorem src_split (q : PosShare TreeShare) (o : Fin 3 → ℕ) (h : Fits o) : wholeP (F := F) c W0 q ⊣⊢ iprop(srcP c W0 q o h ∗ restP c W0 q o h) := by
  unfold restP; exact pointsTo_split_subset (Finset.subset_univ _)
theorem whole_split : (hbPt0 c hbM0_0 W0 : sProp 𝕄) ⊣⊢ iprop(wholeP c W0 q0 ∗ wholeP c W0 q1 ∗ wholeP c W0 q2 ∗ wholeP c W0 q3 ∗ wholeP c W0 q4 ∗ wholeP c W0 q5) := by
  refine ⟨?_, ?_⟩
  · iintro H
    ihave G0 := (pointsTo_share (PosShare.mem_left_op_right fullShare)).1 $$ H
    icases G0 with ⟨H0, R1⟩
    ihave G1 := (pointsTo_share (PosShare.mem_left_op_right fullShare.right)).1 $$ R1
    icases G1 with ⟨H1, R2⟩
    ihave G2 := (pointsTo_share (PosShare.mem_left_op_right fullShare.right.right)).1 $$ R2
    icases G2 with ⟨H2, R3⟩
    ihave G3 := (pointsTo_share (PosShare.mem_left_op_right fullShare.right.right.right)).1 $$ R3
    icases G3 with ⟨H3, R4⟩
    ihave G4 := (pointsTo_share (PosShare.mem_left_op_right fullShare.right.right.right.right)).1 $$ R4
    icases G4 with ⟨H4, H5⟩
    isplitl [H0]; · iexact H0
    isplitl [H1]; · iexact H1
    isplitl [H2]; · iexact H2
    isplitl [H3]; · iexact H3
    isplitl [H4]; · iexact H4
    iexact H5
  · iintro ⟨H0, H1, H2, H3, H4, H5⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2]; · iexact H2
    iapply (pointsTo_share (PosShare.mem_left_op_right fullShare.right.right.right)).2
    isplitl [H3]; · iexact H3
    iapply (pointsTo_share (PosShare.mem_left_op_right fullShare.right.right.right.right)).2
    isplitl [H4]; · iexact H4
    iexact H5
/-- The operand whole is, per window, the block at its offsets and the rest of its share. -/
theorem srcs_split : (hbPt0 c hbM0_0 W0 : sProp 𝕄) ⊣⊢ iprop((srcP c W0 q0 o0 h0 ∗ srcP c W0 q1 o1 h1 ∗ srcP c W0 q2 o2 h2 ∗ srcP c W0 q3 o3 h3 ∗ srcP c W0 q4 o4 h4 ∗ srcP c W0 q5 o5 h5) ∗ restsP c W0 o0 o1 o2 o3 o4 o5 h0 h1 h2 h3 h4 h5) := by
  unfold restsP
  refine ⟨?_, ?_⟩
  · iintro H
    ihave G := (whole_split c W0).1 $$ H
    icases G with ⟨H0, H1, H2, H3, H4, H5⟩
    ihave G0 := (src_split c W0 q0 o0 h0).1 $$ H0
    ihave G1 := (src_split c W0 q1 o1 h1).1 $$ H1
    ihave G2 := (src_split c W0 q2 o2 h2).1 $$ H2
    ihave G3 := (src_split c W0 q3 o3 h3).1 $$ H3
    ihave G4 := (src_split c W0 q4 o4 h4).1 $$ H4
    ihave G5 := (src_split c W0 q5 o5 h5).1 $$ H5
    icases G0 with ⟨A0, B0⟩; icases G1 with ⟨A1, B1⟩; icases G2 with ⟨A2, B2⟩; icases G3 with ⟨A3, B3⟩; icases G4 with ⟨A4, B4⟩; icases G5 with ⟨A5, B5⟩
    isplitl [A0 A1 A2 A3 A4 A5]
    · isplitl [A0]; · iexact A0
      isplitl [A1]; · iexact A1
      isplitl [A2]; · iexact A2
      isplitl [A3]; · iexact A3
      isplitl [A4]; · iexact A4
      iexact A5
    · isplitl [B0]; · iexact B0
      isplitl [B1]; · iexact B1
      isplitl [B2]; · iexact B2
      isplitl [B3]; · iexact B3
      isplitl [B4]; · iexact B4
      iexact B5
  · iintro ⟨⟨A0, A1, A2, A3, A4, A5⟩, B0, B1, B2, B3, B4, B5⟩
    iapply (whole_split c W0).2
    isplitl [A0 B0]; · iapply (src_split c W0 q0 o0 h0).2; isplitl [A0]; · iexact A0
                       iexact B0
    isplitl [A1 B1]; · iapply (src_split c W0 q1 o1 h1).2; isplitl [A1]; · iexact A1
                       iexact B1
    isplitl [A2 B2]; · iapply (src_split c W0 q2 o2 h2).2; isplitl [A2]; · iexact A2
                       iexact B2
    isplitl [A3 B3]; · iapply (src_split c W0 q3 o3 h3).2; isplitl [A3]; · iexact A3
                       iexact B3
    isplitl [A4 B4]; · iapply (src_split c W0 q4 o4 h4).2; isplitl [A4]; · iexact A4
                       iexact B4
    iapply (src_split c W0 q5 o5 h5).2; isplitl [A5]; · iexact A5
    iexact B5

/-! ### From free to six transfers about to be issued, and from six waited for to free -/

/-- The cell at zero. -/
abbrev cellP : sProp 𝕄 := semVal ((c : Thread nD τ), cellR) 0

/-- The packed tile held whole, spelt as the body reads it. -/
abbrev tileP (X : HbBuf0 (F := F) c scM0_1) : sProp 𝕄 := scM0_1.view.loc (c : Thread nD τ) ↦[scM0_1.view.set]{fullShare} X
theorem tileP_eq (X : Buf (Elt F) ((c : Thread nD τ).loc cc0_scratch1)) : tileP c X = (((c : Thread nD τ).loc cc0_scratch1) ↦{fullShare} X : sProp 𝕄) := by
  unfold tileP; rw [(Memref.isWhole_whole cc0_scratch1).set_eq_univ]
/-- FREE, the packed tile at `X`. -/
def freeX (X : Buf (Elt F) ((c : Thread nD τ).loc cc0_scratch1)) : sProp 𝕄 :=
  iprop(cellP (F := F) c ∗ tileP c X ∗ hbPt0 c hbM0_0 W0)

/-- Each window of `X` holds the block at its offsets. -/
def Holds (X : Buf (Elt F) ((c : Thread nD τ).loc cc0_scratch1)) : Prop :=
  (∀ i ∈ winSet (0, 0), X i = landed c W0 win0 o0 h0 i) ∧ (∀ i ∈ winSet (0, 1), X i = landed c W0 win1 o1 h1 i) ∧ (∀ i ∈ winSet (0, 2), X i = landed c W0 win2 o2 h2 i)
    ∧ (∀ i ∈ winSet (1, 0), X i = landed c W0 win3 o3 h3 i) ∧ (∀ i ∈ winSet (1, 1), X i = landed c W0 win4 o4 h4 i) ∧ (∀ i ∈ winSet (1, 2), X i = landed c W0 win5 o5 h5 i)

/-- The six windows landed, and what was lent, are the tile free again, each window holding its block. -/
theorem free_of_waited :
    iprop(cellP (F := F) c ∗ (winP c win0 (landed c W0 win0 o0 h0) ∗ winP c win1 (landed c W0 win1 o1 h1) ∗ winP c win2 (landed c W0 win2 o2 h2) ∗ winP c win3 (landed c W0 win3 o3 h3) ∗ winP c win4 (landed c W0 win4 o4 h4) ∗ winP c win5 (landed c W0 win5 o5 h5))
      ∗ (srcP c W0 q0 o0 h0 ∗ srcP c W0 q1 o1 h1 ∗ srcP c W0 q2 o2 h2 ∗ srcP c W0 q3 o3 h3 ∗ srcP c W0 q4 o4 h4 ∗ srcP c W0 q5 o5 h5) ∗ restsP c W0 o0 o1 o2 o3 o4 o5 h0 h1 h2 h3 h4 h5)
    ⊢ iprop(∃ X, ⌜Holds c W0 o0 o1 o2 o3 o4 o5 h0 h1 h2 h3 h4 h5 X⌝ ∗ freeX c W0 X) := by
  unfold freeX Holds
  iintro ⟨Hc, HW, HS, HR⟩
  ihave HJ := (wins_join (F := F) c (landed c W0 win0 o0 h0) (landed c W0 win1 o1 h1) (landed c W0 win2 o2 h2) (landed c W0 win3 o3 h3) (landed c W0 win4 o4 h4) (landed c W0 win5 o5 h5)) $$ HW
  icases HJ with ⟨%X, %hX, HX⟩
  iexists X
  isplitr; · ipureintro; exact hX
  isplitl [Hc]; · iexact Hc
  isplitl [HX]; · rw [tileP_eq]; iexact HX
  iapply (srcs_split c W0 o0 o1 o2 o3 o4 o5 h0 h1 h2 h3 h4 h5).2
  isplitl [HS]; · iexact HS
  iexact HR

end Stream

/-! ### The blocks of tile `b` -/

section Tile
variable (c : Dev nD) (W0 : HbBuf0 (F := F) c hbM0_0)

/-- Offsets of tile `b`'s block in word `r / 8`, group of scales `k / 128`. -/
abbrev offB (b r k : ℕ) : Fin 3 → ℕ := ![1024 * b, r, k]
theorem fits_offB (b : Fin 10) {r k : ℕ} (hr : r ≤ 8) (hk : k ≤ 256) : Fits (offB b.val r k) := by
  have := b.isLt; intro a; fin_cases a <;> simp [offB] <;> omega
/-- BUSY with tile `b`. -/
def busy (b : Fin 10) : sProp 𝕄 :=
  busyO c W0 (offB b.val 0 0) (offB b.val 0 128) (offB b.val 0 256) (offB b.val 8 0) (offB b.val 8 128) (offB b.val 8 256)
    (fits_offB b (by decide) (by decide)) (fits_offB b (by decide) (by decide)) (fits_offB b (by decide) (by decide))
    (fits_offB b (by decide) (by decide)) (fits_offB b (by decide) (by decide)) (fits_offB b (by decide) (by decide))
/-- `X` holds tile `b`. -/
def HoldsB (b : Fin 10) (X : Buf (Elt F) ((c : Thread nD τ).loc cc0_scratch1)) : Prop :=
  Holds c W0 (offB b.val 0 0) (offB b.val 0 128) (offB b.val 0 256) (offB b.val 8 0) (offB b.val 8 128) (offB b.val 8 256)
    (fits_offB b (by decide) (by decide)) (fits_offB b (by decide) (by decide)) (fits_offB b (by decide) (by decide))
    (fits_offB b (by decide) (by decide)) (fits_offB b (by decide) (by decide)) (fits_offB b (by decide) (by decide)) X
/-- Transfers issued from offsets equal to tile `b`'s are tile `b`'s. -/
theorem busyO_eq (b : Fin 10) (o0 o1 o2 o3 o4 o5 : Fin 3 → ℕ) (h0 : Fits o0) (h1 : Fits o1) (h2 : Fits o2) (h3 : Fits o3) (h4 : Fits o4) (h5 : Fits o5)
    (e0 : o0 = offB b.val 0 0) (e1 : o1 = offB b.val 0 128) (e2 : o2 = offB b.val 0 256) (e3 : o3 = offB b.val 8 0) (e4 : o4 = offB b.val 8 128) (e5 : o5 = offB b.val 8 256) :
    busyO c W0 o0 o1 o2 o3 o4 o5 h0 h1 h2 h3 h4 h5 = busy c W0 b := by
  subst e0 e1 e2 e3 e4 e5; rfl
theorem holdsO_eq (b : Fin 10) (o0 o1 o2 o3 o4 o5 : Fin 3 → ℕ) (h0 : Fits o0) (h1 : Fits o1) (h2 : Fits o2) (h3 : Fits o3) (h4 : Fits o4) (h5 : Fits o5)
    (e0 : o0 = offB b.val 0 0) (e1 : o1 = offB b.val 0 128) (e2 : o2 = offB b.val 0 256) (e3 : o3 = offB b.val 8 0) (e4 : o4 = offB b.val 8 128) (e5 : o5 = offB b.val 8 256)
    (X : Buf (Elt F) ((c : Thread nD τ).loc cc0_scratch1)) (hX : Holds c W0 o0 o1 o2 o3 o4 o5 h0 h1 h2 h3 h4 h5 X) : HoldsB c W0 b X := by
  subst e0 e1 e2 e3 e4 e5; exact hX
end Tile

end Cert.KernelIdeal.Hand

end
-- ==== Proof.KernelIdealLoop.lean ====
/-
  One trip of the decoding loop of `KernelIdeal`'s body and the loop by its invariant, at the algebra of a body with transfers
  of its own: a trip reads the scales and the packed tile and writes pieces of the decoded tile, and before trip `k` the
  decoded tile holds the pieces of the trips before it written over what it held at entry.
-/
module

public import proofs.«01_k».proof.Proof.KernelIdealStream
public import proofs.«01_k».proof.Proof.Gen.KernelIdeal.Loops

@[expose] public section

set_option maxRecDepth 8192
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole) (arg5 : Memref sig .tc .hbm S10240x16x384 .i8) (harg5 : arg5.IsWhole)
  (arg6 : Memref sig .tc .vmem S1024x384 .bf16) (harg6 : arg6.IsWhole) (arg7 : Memref sig .tc .vmem S256x8x128 .bf16) (harg7 : arg7.IsWhole)
  (arg8 : Memref sig .tc .vmem S48x512x2x256 .bf16) (harg8 : arg8.IsWhole) (arg9 : Memref sig .tc .vmem S2x3x1024x8x128 .i8) (harg9 : arg9.IsWhole)
  (arg10 : DmaSems sig S_) (arg11 : Memref sig .tc .vmem S1024x2x128 .bf16) (harg11 : arg11.IsWhole) (k0_h2 : k0_cond2 i = 1#1)
  (X6 : BufTy.Contents (Elt F) arg6.view.ty) (X9 : BufTy.Contents (Elt F) arg9.view.ty)

/-- What a trip holds: the scales and the packed tile at `X6`, `X9`, the decoded tile at `f8`. -/
abbrev Trip (f8 : BufTy.Contents (Elt F) arg8.view.ty) : sProp 𝕄 :=
  iprop((arg6.view.loc (c : Thread nD τ) ↦[arg6.view.set]{fullShare} X6) ∗ (arg9.view.loc (c : Thread nD τ) ↦[arg9.view.set]{fullShare} X9) ∗ (arg8.view.loc (c : Thread nD τ) ↦[arg8.view.set]{fullShare} f8))

/-- One trip at a symbolic `k`: the pieces it writes are the run's own finds. -/
@[irreducible] def trip (k : Fin k0_t1_loop.trips) :
    { L : List (View.Piece (Elt F) S48x512x2x256 .bf16) // ∀ (E : Set ℕ) (f8 : BufTy.Contents (Elt F) arg8.view.ty),
      Trip (F := F) c arg6 arg8 arg9 X6 X9 f8
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 arg11 harg11 k0_h2 k PUnit.unit)
          (fun _ => Trip (F := F) c arg6 arg8 arg9 X6 X9 (arg8.view.writes (Elt F) f8 L)) } := by
  have hk : k.val < 64 := Nat.lt_of_lt_of_le k.isLt k0_t1_abs.2.1
  refine ⟨?_, fun E f8 => ?run⟩
  case run =>
    unfold k0_t1_body
    iintro ⟨HR6, HR9, HW8⟩
    sl_exec
    sl_step
    sl_close

/-- The pieces of trip `k`. -/
abbrev tripL (k : Fin k0_t1_loop.trips) : List (View.Piece (Elt F) S48x512x2x256 .bf16) :=
  (trip (F := F) c i arg2 harg2 arg3 harg3 arg4 harg4 arg5 harg5 arg6 harg6 arg7 harg7 arg8 harg8 arg9 harg9 arg10 arg11 harg11 k0_h2 X6 X9 k).1

/-- The pieces of the trips before `k`, last first. -/
def pieces : ℕ → List (View.Piece (Elt F) S48x512x2x256 .bf16)
  | 0 => []
  | k + 1 => if h : k < k0_t1_loop.trips then
      tripL (F := F) c i arg2 harg2 arg3 harg3 arg4 harg4 arg5 harg5 arg6 harg6 arg7 harg7 arg8 harg8 arg9 harg9 arg10 arg11 harg11 k0_h2 X6 X9 ⟨k, h⟩ ++ pieces k
    else pieces k
theorem pieces_succ (k : Fin k0_t1_loop.trips) :
    pieces (F := F) c i arg2 harg2 arg3 harg3 arg4 harg4 arg5 harg5 arg6 harg6 arg7 harg7 arg8 harg8 arg9 harg9 arg10 arg11 harg11 k0_h2 X6 X9 (k.val + 1)
      = tripL (F := F) c i arg2 harg2 arg3 harg3 arg4 harg4 arg5 harg5 arg6 harg6 arg7 harg7 arg8 harg8 arg9 harg9 arg10 arg11 harg11 k0_h2 X6 X9 k ++ pieces (F := F) c i arg2 harg2 arg3 harg3 arg4 harg4 arg5 harg5 arg6 harg6 arg7 harg7 arg8 harg8 arg9 harg9 arg10 arg11 harg11 k0_h2 X6 X9 k.val := by
  rw [pieces.eq_2]; exact dif_pos k.isLt

/-- The loop's invariant before trip `k`. -/
def loopInv (G8 : BufTy.Contents (Elt F) arg8.view.ty) (k : ℕ) : sProp 𝕄 :=
  iprop((arg6.view.loc (c : Thread nD τ) ↦[arg6.view.set]{fullShare} X6) ∗ (arg9.view.loc (c : Thread nD τ) ↦[arg9.view.set]{fullShare} X9)
    ∗ (∃ f, (arg8.view.loc (c : Thread nD τ) ↦[arg8.view.set]{fullShare} f) ∗ ⌜f = arg8.view.writes (Elt F) G8 (pieces (F := F) c i arg2 harg2 arg3 harg3 arg4 harg4 arg5 harg5 arg6 harg6 arg7 harg7 arg8 harg8 arg9 harg9 arg10 arg11 harg11 k0_h2 X6 X9 k)⌝))

set_option warn.classDefReducibility false in
/-- The decoding loop by its invariant. -/
def decodeLoop (E : Set ℕ) (G8 : BufTy.Contents (Elt F) arg8.view.ty) :
    LoopInvTy_k0_t1 (F := F) Unit ℕ (Pipeline.UD sig nD τ) ℕ Variants.none c none E i arg2 harg2 arg3 harg3 arg4 harg4 arg5 harg5 arg6 harg6 arg7 harg7 arg8 harg8 arg9 harg9 arg10 arg11 harg11 k0_h2 where
  inv k _ := loopInv (F := F) c i arg2 harg2 arg3 harg3 arg4 harg4 arg5 harg5 arg6 harg6 arg7 harg7 arg8 harg8 arg9 harg9 arg10 arg11 harg11 k0_h2 X6 X9 G8 k
  step k acc := by
    unfold loopInv
    iintro ⟨HR6, HR9, ⟨%f8, HW8, %h8⟩⟩
    iapply (wp_wand_r Idealize.ShloMosaic.frame (wpE (defs₀ (F := F)) Variants.none (c : Thread nD τ) none) E)
    isplitl [HR6 HR9 HW8]
    · iapply ((trip (F := F) c i arg2 harg2 arg3 harg3 arg4 harg4 arg5 harg5 arg6 harg6 arg7 harg7 arg8 harg8 arg9 harg9 arg10 arg11 harg11 k0_h2 X6 X9 k).2 E f8)
      isplitl [HR6]; · iexact HR6
      isplitl [HR9]; · iexact HR9
      iexact HW8
    · iintro %_ ⟨HR6, HR9, HW8⟩
      isplitl [HR6]; · iexact HR6
      isplitl [HR9]; · iexact HR9
      rw [pieces_succ]
      iexists _; isplitl [HW8]; · iexact HW8
      ipureintro; rw [h8, ← View.writes_append]

end Cert.KernelIdeal.Hand

end
-- ==== Proof.KernelIdealBody.lean ====
/-
  The first part of `KernelIdeal`'s body, case by case: the conditionals that wait for a tile, decode it and start the next one's
  transfers, and the first products.
-/
module

public import proofs.«01_k».proof.Proof.KernelIdealLoop

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (i : grid0.Coords) (W0 : HbBuf0 (F := F) c hbM0_0)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole)
  (arg6 : Memref sig .tc .vmem S1024x384 .bf16) (harg6 : arg6.IsWhole) (arg7 : Memref sig .tc .vmem S256x8x128 .bf16) (harg7 : arg7.IsWhole)
  (arg8 : Memref sig .tc .vmem S48x512x2x256 .bf16) (harg8 : arg8.IsWhole)
  (arg11 : Memref sig .tc .vmem S1024x2x128 .bf16) (harg11 : arg11.IsWhole)
  (X2 : BufTy.Contents (Elt F) arg2.view.ty) (X6 : BufTy.Contents (Elt F) arg6.view.ty) (G8 : BufTy.Contents (Elt F) arg8.view.ty)

/-- A memref held at contents `f`, spelt as the body reads it. -/
abbrev memP {sp : Space} {S : Shape} {e : EltTy} (M : Memref sig .tc sp S e) (f : BufTy.Contents (Elt F) M.view.ty) : sProp 𝕄 :=
  M.view.loc (c : Thread nD τ) ↦[M.view.set]{fullShare} f

/-- The first part of the body at the call's operands. -/
abbrev firstPart := k0_part58 (F := F) i arg2 harg2 arg3 harg3 arg4 harg4 (Memref.whole main_v0) (Memref.isWhole_whole _) arg6 harg6 arg7 harg7 arg8 harg8 scM0_1 (Memref.isWhole_whole _) cc0_scratch2 arg11 harg11

/-- What the first part hands on, over what the activations' block and the decoded tile hold. -/
abbrev firstV : FVec F S256x512 .f32 := k0_pay233 (arg2.view.readAt (Elt F) (Rect.unit (s := S1x48x128x256) ![0, 0, 0, 0] S1x1x128x256.size inb_S1x48x128x256_S1x1x128x256_0_0_0_0).toLoadRect X2) (arg8.view.readAt (Elt F) (Rect.unit (s := S48x512x2x256) ![0, 0, 0, 0] S1x256x2x256.size inb_S48x512x2x256_S1x256x2x256_0_0_0_0).toLoadRect G8) (arg2.view.readAt (Elt F) (Rect.unit (s := S1x48x128x256) ![0, 1, 0, 0] S1x1x128x256.size inb_S1x48x128x256_S1x1x128x256_0_1_0_0).toLoadRect X2) (arg8.view.readAt (Elt F) (Rect.unit (s := S48x512x2x256) ![1, 0, 0, 0] S1x256x2x256.size inb_S48x512x2x256_S1x256x2x256_1_0_0_0).toLoadRect G8)

/-- The decoded tile after the loop, over the scales, the packed tile and what it held before. -/
abbrev decoded (hc1 : k0_cond2 i = 1#1) (X9 : HbBuf0 (F := F) c scM0_1) : BufTy.Contents (Elt F) arg8.view.ty :=
  arg8.view.writes (Elt F) G8 (pieces (F := F) c i arg2 harg2 arg3 harg3 arg4 harg4 (Memref.whole main_v0) (Memref.isWhole_whole _) arg6 harg6 arg7 harg7 arg8 harg8 scM0_1 (Memref.isWhole_whole _) cc0_scratch2 arg11 harg11 hc1 X6 X9 k0_t1_loop.trips)

/-- B: the token block is not the first of its tile, and the body reads what earlier points decoded. -/
theorem first_B (W : Waits sig Unit) (hc0 : ¬cond0_0 i) (hc1 : ¬cond0_1 i) :
    iprop(memP c arg2 X2 ∗ memP c arg8 G8 ∗ owes (c : Thread nD τ) 0 W)
    ⊢ wp frame (wpE (defs₀ (F := F)) Variants.none c none) Set.univ (firstPart (F := F) i arg2 harg2 arg3 harg3 arg4 harg4 arg6 harg6 arg7 harg7 arg8 harg8 arg11 harg11)
      (fun v => iprop(memP c arg2 X2 ∗ memP c arg8 G8 ∗ ⌜v = firstV arg2 arg8 X2 G8⌝ ∗ ∃ W', owes (c : Thread nD τ) 0 W')) := by
  haveI : Fact (¬cond0_0 i) := ⟨hc0⟩
  haveI : Fact (¬cond0_1 i) := ⟨hc1⟩
  iintro ⟨H2, H8, HW⟩
  unfold firstPart
  simp only [k0_part58_eq_skeleton]; unfold k0_part58_skel
  sl_exec (disch := first | sl_exact hc0 | sl_exact hc1)
  sl_step
  isplitl [H2]; · iexact H2
  isplitl [H8]; · iexact H8
  isplitr; · ipureintro; rfl
  iexists _; iexact HW

/-- C: the first token block of a tile that has a tile before and after it. -/
theorem first_C (W : Waits sig Unit) (hc0 : ¬cond0_0 i) (hc1 : cond0_1 i) (hc2 : cond0_2 i) (o0 o1 o2 o3 o4 o5 : Fin 3 → ℕ) (h0 : Fits o0) (h1 : Fits o1) (h2 : Fits o2) (h3 : Fits o3) (h4 : Fits o4) (h5 : Fits o5) :
    iprop(memP c arg2 X2 ∗ memP c arg6 X6 ∗ memP c arg8 G8 ∗ busyO c W0 o0 o1 o2 o3 o4 o5 h0 h1 h2 h3 h4 h5 ∗ owes (c : Thread nD τ) 0 W)
    ⊢ wp frame (wpE (defs₀ (F := F)) Variants.none c none) Set.univ (firstPart (F := F) i arg2 harg2 arg3 harg3 arg4 harg4 arg6 harg6 arg7 harg7 arg8 harg8 arg11 harg11)
      (fun v => iprop(∃ X9, ⌜Holds c W0 o0 o1 o2 o3 o4 o5 h0 h1 h2 h3 h4 h5 X9⌝ ∗ memP c arg2 X2 ∗ memP c arg6 X6
        ∗ memP c arg8 (decoded (F := F) c i arg2 harg2 arg3 harg3 arg4 harg4 arg6 harg6 arg7 harg7 arg8 harg8 arg11 harg11 X6 G8 hc1 X9)
        ∗ busyO c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)
        ∗ ⌜v = firstV arg2 arg8 X2 (decoded (F := F) c i arg2 harg2 arg3 harg3 arg4 harg4 arg6 harg6 arg7 harg7 arg8 harg8 arg11 harg11 X6 G8 hc1 X9)⌝
        ∗ ∃ W', owes (c : Thread nD τ) 0 W')) := by
  haveI : Fact (¬cond0_0 i) := ⟨hc0⟩
  haveI : Fact (cond0_1 i) := ⟨hc1⟩
  haveI : Fact (cond0_2 i) := ⟨hc2⟩
  iintro ⟨H2, H6, H8, HBB, HW⟩
  unfold firstPart
  simp only [k0_part58_eq_skeleton]; unfold k0_part58_skel
  unfold busyO restsP
  icases HBB with ⟨HB, Hr0, Hr1, Hr2, Hr3, Hr4, Hr5⟩
  sl_exec (disch := first | sl_exact hc0 | sl_exact hc1)
  ihave HF := (free_of_waited c W0 o0 o1 o2 o3 o4 o5 h0 h1 h2 h3 h4 h5) $$ [HB HB_dst0 HB_dst1 HB_dst2 HB_dst3 HB_dst4 HB_dst5 HB_src0 HB_src1 HB_src2 HB_src3 HB_src4 HB_src5 Hr0 Hr1 Hr2 Hr3 Hr4 Hr5]
  · isplitl [HB]; · iexact HB
    isplitl [HB_dst0 HB_dst1 HB_dst2 HB_dst3 HB_dst4 HB_dst5]
    · isplitl [HB_dst0]; · iexact HB_dst0
      isplitl [HB_dst1]; · iexact HB_dst1
      isplitl [HB_dst2]; · iexact HB_dst2
      isplitl [HB_dst3]; · iexact HB_dst3
      isplitl [HB_dst4]; · iexact HB_dst4
      iexact HB_dst5
    isplitl [HB_src0 HB_src1 HB_src2 HB_src3 HB_src4 HB_src5]
    · isplitl [HB_src0]; · iexact HB_src0
      isplitl [HB_src1]; · iexact HB_src1
      isplitl [HB_src2]; · iexact HB_src2
      isplitl [HB_src3]; · iexact HB_src3
      isplitl [HB_src4]; · iexact HB_src4
      iexact HB_src5
    unfold restsP
    isplitl [Hr0]; · iexact Hr0
    isplitl [Hr1]; · iexact Hr1
    isplitl [Hr2]; · iexact Hr2
    isplitl [Hr3]; · iexact Hr3
    isplitl [Hr4]; · iexact Hr4
    iexact Hr5
  icases HF with ⟨%X9, %hX9, HF⟩
  unfold freeX
  icases HF with ⟨HB, H9, HS⟩
  sl_for (fun k _ => loopInv (F := F) c i arg2 harg2 arg3 harg3 arg4 harg4 (Memref.whole main_v0) (Memref.isWhole_whole _) arg6 harg6 arg7 harg7 arg8 harg8 scM0_1 (Memref.isWhole_whole _) cc0_scratch2 arg11 harg11 hc1 X6 X9 G8 k) $$ [H6 H9 H8]
  · intro k acc; exact (decodeLoop (F := F) c i arg2 harg2 arg3 harg3 arg4 harg4 (Memref.whole main_v0) (Memref.isWhole_whole _) arg6 harg6 arg7 harg7 arg8 harg8 scM0_1 (Memref.isWhole_whole _) cc0_scratch2 arg11 harg11 hc1 X6 X9 Set.univ G8).step k acc
  · unfold loopInv
    isplitl [H6]; · iexact H6
    isplitl [H9]; · iexact H9
    iexists _; isplitl [H8]; · iexact H8
    ipureintro; rfl
  iintro %_ HI
  unfold loopInv
  icases HI with ⟨H6, H9, ⟨%f8, H8, %h8⟩⟩
  subst h8
  ihave H9 := (Entails.of_eq ((tileP_eq c X9).trans (wins_split c X9))) $$ H9
  icases H9 with ⟨HD0, HD1, HD2, HD3, HD4, HD5⟩
  ihave HS2 := (srcs_split c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)).1 $$ HS
  icases HS2 with ⟨⟨HS0, HS1, HS2, HS3, HS4, HS5⟩, HR⟩
  have hD := storable_winD (F := F) c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)
  imod (Transfers.batch_alloc' (Lvl := ℕ) countersEmb (c : Thread nD τ) default NN (winD c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)) (sm := cellR) (E := Set.univ)) $$ HB with HB
  clear hD
  sl_exec (disch := first | sl_exact hc2)
  sl_step
  iexists X9
  isplitr; · ipureintro; exact hX9
  isplitl [H2]; · iexact H2
  isplitl [H6]; · iexact H6
  isplitl [H8]; · iexact H8
  isplitl [HB HR]
  · try unfold busyO
    isplitl [HB]; · iexact HB
    try unfold restsP
    iexact HR
  isplitr; · ipureintro; rfl
  iexists _; iexact HW

/-- D: the first token block of the last tile. -/
theorem first_D (W : Waits sig Unit) (hc0 : ¬cond0_0 i) (hc1 : cond0_1 i) (hc2 : ¬cond0_2 i) (o0 o1 o2 o3 o4 o5 : Fin 3 → ℕ) (h0 : Fits o0) (h1 : Fits o1) (h2 : Fits o2) (h3 : Fits o3) (h4 : Fits o4) (h5 : Fits o5) :
    iprop(memP c arg2 X2 ∗ memP c arg6 X6 ∗ memP c arg8 G8 ∗ busyO c W0 o0 o1 o2 o3 o4 o5 h0 h1 h2 h3 h4 h5 ∗ owes (c : Thread nD τ) 0 W)
    ⊢ wp frame (wpE (defs₀ (F := F)) Variants.none c none) Set.univ (firstPart (F := F) i arg2 harg2 arg3 harg3 arg4 harg4 arg6 harg6 arg7 harg7 arg8 harg8 arg11 harg11)
      (fun v => iprop(∃ X9, ⌜Holds c W0 o0 o1 o2 o3 o4 o5 h0 h1 h2 h3 h4 h5 X9⌝ ∗ memP c arg2 X2 ∗ memP c arg6 X6
        ∗ memP c arg8 (decoded (F := F) c i arg2 harg2 arg3 harg3 arg4 harg4 arg6 harg6 arg7 harg7 arg8 harg8 arg11 harg11 X6 G8 hc1 X9)
        ∗ freeX c W0 X9
        ∗ ⌜v = firstV arg2 arg8 X2 (decoded (F := F) c i arg2 harg2 arg3 harg3 arg4 harg4 arg6 harg6 arg7 harg7 arg8 harg8 arg11 harg11 X6 G8 hc1 X9)⌝
        ∗ ∃ W', owes (c : Thread nD τ) 0 W')) := by
  haveI : Fact (¬cond0_0 i) := ⟨hc0⟩
  haveI : Fact (cond0_1 i) := ⟨hc1⟩
  haveI : Fact (¬cond0_2 i) := ⟨hc2⟩
  iintro ⟨H2, H6, H8, HBB, HW⟩
  unfold firstPart
  simp only [k0_part58_eq_skeleton]; unfold k0_part58_skel
  unfold busyO restsP
  icases HBB with ⟨HB, Hr0, Hr1, Hr2, Hr3, Hr4, Hr5⟩
  sl_exec (disch := first | sl_exact hc0 | sl_exact hc1)
  ihave HF := (free_of_waited c W0 o0 o1 o2 o3 o4 o5 h0 h1 h2 h3 h4 h5) $$ [HB HB_dst0 HB_dst1 HB_dst2 HB_dst3 HB_dst4 HB_dst5 HB_src0 HB_src1 HB_src2 HB_src3 HB_src4 HB_src5 Hr0 Hr1 Hr2 Hr3 Hr4 Hr5]
  · isplitl [HB]; · iexact HB
    isplitl [HB_dst0 HB_dst1 HB_dst2 HB_dst3 HB_dst4 HB_dst5]
    · isplitl [HB_dst0]; · iexact HB_dst0
      isplitl [HB_dst1]; · iexact HB_dst1
      isplitl [HB_dst2]; · iexact HB_dst2
      isplitl [HB_dst3]; · iexact HB_dst3
      isplitl [HB_dst4]; · iexact HB_dst4
      iexact HB_dst5
    isplitl [HB_src0 HB_src1 HB_src2 HB_src3 HB_src4 HB_src5]
    · isplitl [HB_src0]; · iexact HB_src0
      isplitl [HB_src1]; · iexact HB_src1
      isplitl [HB_src2]; · iexact HB_src2
      isplitl [HB_src3]; · iexact HB_src3
      isplitl [HB_src4]; · iexact HB_src4
      iexact HB_src5
    unfold restsP
    isplitl [Hr0]; · iexact Hr0
    isplitl [Hr1]; · iexact Hr1
    isplitl [Hr2]; · iexact Hr2
    isplitl [Hr3]; · iexact Hr3
    isplitl [Hr4]; · iexact Hr4
    iexact Hr5
  icases HF with ⟨%X9, %hX9, HF⟩
  unfold freeX
  icases HF with ⟨HB, H9, HS⟩
  sl_for (fun k _ => loopInv (F := F) c i arg2 harg2 arg3 harg3 arg4 harg4 (Memref.whole main_v0) (Memref.isWhole_whole _) arg6 harg6 arg7 harg7 arg8 harg8 scM0_1 (Memref.isWhole_whole _) cc0_scratch2 arg11 harg11 hc1 X6 X9 G8 k) $$ [H6 H9 H8]
  · intro k acc; exact (decodeLoop (F := F) c i arg2 harg2 arg3 harg3 arg4 harg4 (Memref.whole main_v0) (Memref.isWhole_whole _) arg6 harg6 arg7 harg7 arg8 harg8 scM0_1 (Memref.isWhole_whole _) cc0_scratch2 arg11 harg11 hc1 X6 X9 Set.univ G8).step k acc
  · unfold loopInv
    isplitl [H6]; · iexact H6
    isplitl [H9]; · iexact H9
    iexists _; isplitl [H8]; · iexact H8
    ipureintro; rfl
  iintro %_ HI
  unfold loopInv
  icases HI with ⟨H6, H9, ⟨%f8, H8, %h8⟩⟩
  subst h8
  sl_exec (disch := first | sl_exact hc2)
  sl_step
  iexists X9
  isplitr; · ipureintro; exact hX9
  isplitl [H2]; · iexact H2
  isplitl [H6]; · iexact H6
  isplitl [H8]; · iexact H8
  isplitl [HB H9 HS]
  · isplitl [HB]; · iexact HB
    isplitl [H9]; · iexact H9
    iexact HS
  isplitr; · ipureintro; rfl
  iexists _; iexact HW

/-- A: the first point, which starts the first tile as well as the second. -/
theorem first_A (W : Waits sig Unit) (hc0 : cond0_0 i) (hc1 : cond0_1 i) (hc2 : cond0_2 i) (X : HbBuf0 (F := F) c scM0_1) :
    iprop(memP c arg2 X2 ∗ memP c arg6 X6 ∗ memP c arg8 G8 ∗ freeX c W0 X ∗ owes (c : Thread nD τ) 0 W)
    ⊢ wp frame (wpE (defs₀ (F := F)) Variants.none c none) Set.univ (firstPart (F := F) i arg2 harg2 arg3 harg3 arg4 harg4 arg6 harg6 arg7 harg7 arg8 harg8 arg11 harg11)
      (fun v => iprop(∃ X9, ⌜Holds c W0 ![0, 0, 0] ![0, 0, 128] ![0, 0, 256] ![0, 8, 0] ![0, 8, 128] ![0, 8, 256] inb_S10240x16x384_S1024x8x128_0_0_0 inb_S10240x16x384_S1024x8x128_0_0_128 inb_S10240x16x384_S1024x8x128_0_0_256 inb_S10240x16x384_S1024x8x128_0_8_0 inb_S10240x16x384_S1024x8x128_0_8_128 inb_S10240x16x384_S1024x8x128_0_8_256 X9⌝ ∗ memP c arg2 X2 ∗ memP c arg6 X6
        ∗ memP c arg8 (decoded (F := F) c i arg2 harg2 arg3 harg3 arg4 harg4 arg6 harg6 arg7 harg7 arg8 harg8 arg11 harg11 X6 G8 hc1 X9)
        ∗ busyO c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)
        ∗ ⌜v = firstV arg2 arg8 X2 (decoded (F := F) c i arg2 harg2 arg3 harg3 arg4 harg4 arg6 harg6 arg7 harg7 arg8 harg8 arg11 harg11 X6 G8 hc1 X9)⌝
        ∗ ∃ W', owes (c : Thread nD τ) 0 W')) := by
  haveI : Fact (cond0_0 i) := ⟨hc0⟩
  haveI : Fact (cond0_1 i) := ⟨hc1⟩
  haveI : Fact (cond0_2 i) := ⟨hc2⟩
  iintro ⟨H2, H6, H8, HBB, HW⟩
  unfold firstPart
  simp only [k0_part58_eq_skeleton]; unfold k0_part58_skel
  unfold freeX
  icases HBB with ⟨HB, H9, HS⟩
  ihave H9 := (Entails.of_eq ((tileP_eq c X).trans (wins_split c X))) $$ H9
  icases H9 with ⟨HD0, HD1, HD2, HD3, HD4, HD5⟩
  ihave HS2 := (srcs_split c W0 ![0, 0, 0] ![0, 0, 128] ![0, 0, 256] ![0, 8, 0] ![0, 8, 128] ![0, 8, 256] inb_S10240x16x384_S1024x8x128_0_0_0 inb_S10240x16x384_S1024x8x128_0_0_128 inb_S10240x16x384_S1024x8x128_0_0_256 inb_S10240x16x384_S1024x8x128_0_8_0 inb_S10240x16x384_S1024x8x128_0_8_128 inb_S10240x16x384_S1024x8x128_0_8_256).1 $$ HS
  icases HS2 with ⟨⟨HS0, HS1, HS2, HS3, HS4, HS5⟩, HR⟩
  have hD := storable_winD (F := F) c W0 ![0, 0, 0] ![0, 0, 128] ![0, 0, 256] ![0, 8, 0] ![0, 8, 128] ![0, 8, 256] inb_S10240x16x384_S1024x8x128_0_0_0 inb_S10240x16x384_S1024x8x128_0_0_128 inb_S10240x16x384_S1024x8x128_0_0_256 inb_S10240x16x384_S1024x8x128_0_8_0 inb_S10240x16x384_S1024x8x128_0_8_128 inb_S10240x16x384_S1024x8x128_0_8_256
  imod (Transfers.batch_alloc' (Lvl := ℕ) countersEmb (c : Thread nD τ) default NN (winD c W0 ![0, 0, 0] ![0, 0, 128] ![0, 0, 256] ![0, 8, 0] ![0, 8, 128] ![0, 8, 256] inb_S10240x16x384_S1024x8x128_0_0_0 inb_S10240x16x384_S1024x8x128_0_0_128 inb_S10240x16x384_S1024x8x128_0_0_256 inb_S10240x16x384_S1024x8x128_0_8_0 inb_S10240x16x384_S1024x8x128_0_8_128 inb_S10240x16x384_S1024x8x128_0_8_256) (sm := cellR) (E := Set.univ)) $$ HB with HB
  clear hD
  sl_exec (disch := first | sl_exact hc0 | sl_exact hc1)
  ihave HF := (free_of_waited c W0 ![0, 0, 0] ![0, 0, 128] ![0, 0, 256] ![0, 8, 0] ![0, 8, 128] ![0, 8, 256] inb_S10240x16x384_S1024x8x128_0_0_0 inb_S10240x16x384_S1024x8x128_0_0_128 inb_S10240x16x384_S1024x8x128_0_0_256 inb_S10240x16x384_S1024x8x128_0_8_0 inb_S10240x16x384_S1024x8x128_0_8_128 inb_S10240x16x384_S1024x8x128_0_8_256) $$ [HB HB_dst0 HB_dst1 HB_dst2 HB_dst3 HB_dst4 HB_dst5 HB_src0 HB_src1 HB_src2 HB_src3 HB_src4 HB_src5 HR]
  · isplitl [HB]; · iexact HB
    isplitl [HB_dst0 HB_dst1 HB_dst2 HB_dst3 HB_dst4 HB_dst5]
    · isplitl [HB_dst0]; · iexact HB_dst0
      isplitl [HB_dst1]; · iexact HB_dst1
      isplitl [HB_dst2]; · iexact HB_dst2
      isplitl [HB_dst3]; · iexact HB_dst3
      isplitl [HB_dst4]; · iexact HB_dst4
      iexact HB_dst5
    isplitl [HB_src0 HB_src1 HB_src2 HB_src3 HB_src4 HB_src5]
    · isplitl [HB_src0]; · iexact HB_src0
      isplitl [HB_src1]; · iexact HB_src1
      isplitl [HB_src2]; · iexact HB_src2
      isplitl [HB_src3]; · iexact HB_src3
      isplitl [HB_src4]; · iexact HB_src4
      iexact HB_src5
    iexact HR
  icases HF with ⟨%X9, %hX9, HF⟩
  unfold freeX
  icases HF with ⟨HB, H9, HS⟩
  sl_for (fun k _ => loopInv (F := F) c i arg2 harg2 arg3 harg3 arg4 harg4 (Memref.whole main_v0) (Memref.isWhole_whole _) arg6 harg6 arg7 harg7 arg8 harg8 scM0_1 (Memref.isWhole_whole _) cc0_scratch2 arg11 harg11 hc1 X6 X9 G8 k) $$ [H6 H9 H8]
  · intro k acc; exact (decodeLoop (F := F) c i arg2 harg2 arg3 harg3 arg4 harg4 (Memref.whole main_v0) (Memref.isWhole_whole _) arg6 harg6 arg7 harg7 arg8 harg8 scM0_1 (Memref.isWhole_whole _) cc0_scratch2 arg11 harg11 hc1 X6 X9 Set.univ G8).step k acc
  · unfold loopInv
    isplitl [H6]; · iexact H6
    isplitl [H9]; · iexact H9
    iexists _; isplitl [H8]; · iexact H8
    ipureintro; rfl
  iintro %_ HI
  unfold loopInv
  icases HI with ⟨H6, H9, ⟨%f8, H8, %h8⟩⟩
  subst h8
  ihave H9 := (Entails.of_eq ((tileP_eq c X9).trans (wins_split c X9))) $$ H9
  icases H9 with ⟨HD0, HD1, HD2, HD3, HD4, HD5⟩
  ihave HS2 := (srcs_split c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)).1 $$ HS
  icases HS2 with ⟨⟨HS0, HS1, HS2, HS3, HS4, HS5⟩, HR⟩
  have hD := storable_winD (F := F) c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)
  imod (Transfers.batch_alloc' (Lvl := ℕ) countersEmb (c : Thread nD τ) default NN (winD c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)) (sm := cellR) (E := Set.univ)) $$ HB with HB
  clear hD
  sl_exec (disch := first | sl_exact hc2)
  sl_step
  iexists X9
  isplitr; · ipureintro; exact hX9
  isplitl [H2]; · iexact H2
  isplitl [H6]; · iexact H6
  isplitl [H8]; · iexact H8
  isplitl [HB HR]
  · try unfold busyO
    isplitl [HB]; · iexact HB
    try unfold restsP
    iexact HR
  isplitr; · ipureintro; rfl
  iexists _; iexact HW

end Cert.KernelIdeal.Hand

end
-- ==== Proof.KernelIdealTail.lean ====
/-
  The rest of `KernelIdeal`'s body, which is the same at every point: from what its first part hands on, the products over the
  activations' chunks, the rotation, and the store of the block of results.
-/
module

public import proofs.«01_k».proof.Proof.KernelIdealBody

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (i : grid0.Coords) (W0 : HbBuf0 (F := F) c hbM0_0)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole)
  (arg6 : Memref sig .tc .vmem S1024x384 .bf16) (harg6 : arg6.IsWhole) (arg7 : Memref sig .tc .vmem S256x8x128 .bf16) (harg7 : arg7.IsWhole)
  (arg8 : Memref sig .tc .vmem S48x512x2x256 .bf16) (harg8 : arg8.IsWhole)
  (arg11 : Memref sig .tc .vmem S1024x2x128 .bf16) (harg11 : arg11.IsWhole)
  (X2 : BufTy.Contents (Elt F) arg2.view.ty) (X6 : BufTy.Contents (Elt F) arg6.view.ty) (G8 : BufTy.Contents (Elt F) arg8.view.ty)
  (X3 : BufTy.Contents (Elt F) arg3.view.ty) (X4 : BufTy.Contents (Elt F) arg4.view.ty) (X11 : BufTy.Contents (Elt F) arg11.view.ty)

/-- The body at the call's operands. -/
abbrev bodyP : Prog (TpuEff nD τ sig (Elt F) Λ₀ .tc) PUnit := cc0_project_q (F := F) i arg2 harg2 arg3 harg3 arg4 harg4 (Memref.whole main_v0) (Memref.isWhole_whole _) arg6 harg6 arg7 harg7 arg8 harg8 scM0_1 (Memref.isWhole_whole _) cc0_scratch2 arg11 harg11

set_option maxRecDepth 65536 in
/-- The body is its first part and the rest, which takes what the first part hands on. -/
def contS : { k : FVec F S256x512 .f32 → Prog (TpuEff nD τ sig (Elt F) Λ₀ .tc) PUnit // bodyP (F := F) i arg2 harg2 arg3 harg3 arg4 harg4 arg6 harg6 arg7 harg7 arg8 harg8 arg11 harg11 = firstPart (F := F) i arg2 harg2 arg3 harg3 arg4 harg4 arg6 harg6 arg7 harg7 arg8 harg8 arg11 harg11 >>= k } :=
  ⟨_, (congrArg (fun f => f i arg2 harg2 arg3 harg3 arg4 harg4 (Memref.whole main_v0) (Memref.isWhole_whole _) arg6 harg6 arg7 harg7 arg8 harg8 scM0_1 (Memref.isWhole_whole _) cc0_scratch2 arg11 harg11) (cc0_project_q_eq_skeleton (F := F))).trans rfl⟩
/-- The rest of the body. -/
abbrev cont (v : FVec F S256x512 .f32) : Prog (TpuEff nD τ sig (Elt F) Λ₀ .tc) PUnit := (contS (F := F) i arg2 harg2 arg3 harg3 arg4 harg4 arg6 harg6 arg7 harg7 arg8 harg8 arg11 harg11).1 v

/-- The rest's run: the pieces it writes to the block of results are the run's own finds. -/
@[irreducible] def tail (c : Dev nD) :
    { L : List (View.Piece (Elt F) S256x8x128 .bf16) // ∀ (X7 : BufTy.Contents (Elt F) arg7.view.ty),
      iprop(memP c arg2 X2 ∗ memP c arg3 X3 ∗ memP c arg4 X4 ∗ memP c arg7 X7 ∗ memP c arg8 G8 ∗ memP c arg11 X11)
      ⊢ wp frame (wpE (defs₀ (F := F)) Variants.none c none) Set.univ (cont (F := F) i arg2 harg2 arg3 harg3 arg4 harg4 arg6 harg6 arg7 harg7 arg8 harg8 arg11 harg11 (firstV arg2 arg8 X2 G8))
          (fun _ => iprop(memP c arg2 X2 ∗ memP c arg3 X3 ∗ memP c arg4 X4 ∗ memP c arg7 (arg7.view.writes (Elt F) X7 L) ∗ memP c arg8 G8 ∗ ∃ X11', memP c arg11 X11')) } := by
  refine ⟨?_, fun X7 => ?run⟩
  case run =>
    unfold cont contS firstV
    simp only [k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton]
    iintro ⟨H2, H3, H4, H7, H8, H11⟩
    sl_exec
    sl_step
    isplitl [H2]; · iexact H2
    isplitl [H3]; · iexact H3
    isplitl [H4]; · iexact H4
    isplitl [H7]; · iexact H7
    isplitl [H8]; · iexact H8
    iexists _; iexact H11

/-- The block of results after the body. -/
abbrev outP (c : Dev nD) (X7 : BufTy.Contents (Elt F) arg7.view.ty) : BufTy.Contents (Elt F) arg7.view.ty :=
  arg7.view.writes (Elt F) X7 (tail (F := F) i arg2 harg2 arg3 harg3 arg4 harg4 arg6 harg6 arg7 harg7 arg8 harg8 arg11 harg11 X2 G8 X3 X4 X11 c).1

/-- The body, from what its first part does: `R` is what the first part starts from, `R' G` what it leaves besides the
    activations' block and the decoded tile at `G`. -/
theorem body_of_first (c : Dev nD) (R : sProp 𝕄) (R' : BufTy.Contents (Elt F) arg8.view.ty → sProp 𝕄) (X7 : BufTy.Contents (Elt F) arg7.view.ty)
    (h : R ⊢ wp frame (wpE (defs₀ (F := F)) Variants.none c none) Set.univ (firstPart (F := F) i arg2 harg2 arg3 harg3 arg4 harg4 arg6 harg6 arg7 harg7 arg8 harg8 arg11 harg11)
      (fun v => iprop(∃ G, memP c arg2 X2 ∗ memP c arg8 G ∗ ⌜v = firstV arg2 arg8 X2 G⌝ ∗ R' G))) :
    iprop(R ∗ memP c arg3 X3 ∗ memP c arg4 X4 ∗ memP c arg7 X7 ∗ memP c arg11 X11)
    ⊢ wp frame (wpE (defs₀ (F := F)) Variants.none c none) Set.univ (bodyP (F := F) i arg2 harg2 arg3 harg3 arg4 harg4 arg6 harg6 arg7 harg7 arg8 harg8 arg11 harg11)
      (fun _ => iprop(∃ G, memP c arg2 X2 ∗ memP c arg3 X3 ∗ memP c arg4 X4 ∗ memP c arg7 (outP i arg2 harg2 arg3 harg3 arg4 harg4 arg6 harg6 arg7 harg7 arg8 harg8 arg11 harg11 X2 G X3 X4 X11 c X7) ∗ memP c arg8 G ∗ (∃ X11', memP c arg11 X11') ∗ R' G)) := by
  rw [(contS (F := F) i arg2 harg2 arg3 harg3 arg4 harg4 arg6 harg6 arg7 harg7 arg8 harg8 arg11 harg11).2, wp_bind]
  iintro ⟨HR, H3, H4, H7, H11⟩
  iapply (wp_wand_r Idealize.ShloMosaic.frame (wpE (defs₀ (F := F)) Variants.none (c : Thread nD τ) none) Set.univ)
  isplitl [HR]
  · iapply h; iexact HR
  iintro %v ⟨%G, H2, H8, %hv, HR⟩
  subst hv
  iapply (wp_wand_r Idealize.ShloMosaic.frame (wpE (defs₀ (F := F)) Variants.none (c : Thread nD τ) none) Set.univ)
  isplitl [H2 H3 H4 H7 H8 H11]
  · iapply ((tail (F := F) i arg2 harg2 arg3 harg3 arg4 harg4 arg6 harg6 arg7 harg7 arg8 harg8 arg11 harg11 X2 G X3 X4 X11 c).2 X7)
    isplitl [H2]; · iexact H2
    isplitl [H3]; · iexact H3
    isplitl [H4]; · iexact H4
    isplitl [H7]; · iexact H7
    isplitl [H8]; · iexact H8
    iexact H11
  iintro %_ ⟨H2, H3, H4, H7, H8, H11⟩
  iexists G
  isplitl [H2]; · iexact H2
  isplitl [H3]; · iexact H3
  isplitl [H4]; · iexact H4
  isplitl [H7]; · iexact H7
  isplitl [H8]; · iexact H8
  isplitl [H11]; · iexact H11
  iexact HR

end Cert.KernelIdeal.Hand

end
-- ==== Proof.KernelIdealPoint.lean ====
/-
  The body of `KernelIdeal` at a grid point: the stream's state before and after it, what its first part leaves in the decoded
  tile, and the whole body.
-/
module

public import proofs.«01_k».proof.Proof.KernelIdealTail

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The stream between points -/

/-- How many tiles have been waited for before point `k`. -/
abbrev tiles (k : ℕ) : ℕ := (k + 23) / 24
/-- The stream before point `k`: the next tile's transfers issued, from the first tile waited for to the last; free otherwise. -/
def streamAt (c : Dev nD) (W0 : HbBuf0 (F := F) c hbM0_0) (n : ℕ) : sProp 𝕄 :=
  if h : 0 < n ∧ n < 10 then busy c W0 ⟨n, h.2⟩ else iprop(∃ X, freeX c W0 X)
theorem streamAt_busy (c : Dev nD) (W0 : HbBuf0 (F := F) c hbM0_0) {n : ℕ} (h0 : 0 < n) (h1 : n < 10) : streamAt c W0 n = busy c W0 ⟨n, h1⟩ := dif_pos ⟨h0, h1⟩
theorem streamAt_free (c : Dev nD) (W0 : HbBuf0 (F := F) c hbM0_0) {n : ℕ} (h : n = 0 ∨ n = 10) : streamAt c W0 n = iprop(∃ X, freeX c W0 X) := dif_neg (by omega)

/-- The tile of a point. -/
abbrev tileOf (t : Fin cfg0.N) : Fin 10 := ⟨t.val / 24, by have := lt_of_lt_of_eq t.isLt (show cfg0.N = 240 from N_0); omega⟩

theorem off112_tile (t : Fin cfg0.N) (b : ℕ) (h : b = t.val / 24 + 1) : k0_off112 (grid0.coords t) = offB b 0 0 := by
  rw [k0_off112_eq, coord0, h]; unfold offB; rw [Nat.mul_add]
theorem off113_tile (t : Fin cfg0.N) (b : ℕ) (h : b = t.val / 24 + 1) : k0_off113 (grid0.coords t) = offB b 0 128 := by
  rw [k0_off113_eq, coord0, h]; unfold offB; rw [Nat.mul_add]
theorem off114_tile (t : Fin cfg0.N) (b : ℕ) (h : b = t.val / 24 + 1) : k0_off114 (grid0.coords t) = offB b 0 256 := by
  rw [k0_off114_eq, coord0, h]; unfold offB; rw [Nat.mul_add]
theorem off115_tile (t : Fin cfg0.N) (b : ℕ) (h : b = t.val / 24 + 1) : k0_off115 (grid0.coords t) = offB b 8 0 := by
  rw [k0_off115_eq, coord0, h]; unfold offB; rw [Nat.mul_add]
theorem off116_tile (t : Fin cfg0.N) (b : ℕ) (h : b = t.val / 24 + 1) : k0_off116 (grid0.coords t) = offB b 8 128 := by
  rw [k0_off116_eq, coord0, h]; unfold offB; rw [Nat.mul_add]
theorem off117_tile (t : Fin cfg0.N) (b : ℕ) (h : b = t.val / 24 + 1) : k0_off117 (grid0.coords t) = offB b 8 256 := by
  rw [k0_off117_eq, coord0, h]; unfold offB; rw [Nat.mul_add]

/-- The transfers issued at a point before the last row are the next tile's. -/
theorem busy_next (c : Dev nD) (t : Fin cfg0.N) (W0 : HbBuf0 (F := F) c hbM0_0) (hc1 : cond0_1 (grid0.coords t)) (hc2 : cond0_2 (grid0.coords t)) (h : t.val / 24 + 1 < 10) :
    busyO c W0 (k0_off112 (grid0.coords t)) (k0_off113 (grid0.coords t)) (k0_off114 (grid0.coords t)) (k0_off115 (grid0.coords t)) (k0_off116 (grid0.coords t)) (k0_off117 (grid0.coords t)) (k0_off112_inb (grid0.coords t) hc1 hc2) (k0_off113_inb (grid0.coords t) hc1 hc2) (k0_off114_inb (grid0.coords t) hc1 hc2) (k0_off115_inb (grid0.coords t) hc1 hc2) (k0_off116_inb (grid0.coords t) hc1 hc2) (k0_off117_inb (grid0.coords t) hc1 hc2)
      = busy c W0 ⟨t.val / 24 + 1, h⟩ :=
  busyO_eq c W0 ⟨t.val / 24 + 1, h⟩ _ _ _ _ _ _ _ _ _ _ _ _ (off112_tile t _ rfl) (off113_tile t _ rfl) (off114_tile t _ rfl) (off115_tile t _ rfl) (off116_tile t _ rfl) (off117_tile t _ rfl)

section PointI
variable (c : Dev nD) (i : grid0.Coords) (W0 : HbBuf0 (F := F) c hbM0_0)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole)
  (arg6 : Memref sig .tc .vmem S1024x384 .bf16) (harg6 : arg6.IsWhole) (arg7 : Memref sig .tc .vmem S256x8x128 .bf16) (harg7 : arg7.IsWhole)
  (arg8 : Memref sig .tc .vmem S48x512x2x256 .bf16) (harg8 : arg8.IsWhole)
  (arg11 : Memref sig .tc .vmem S1024x2x128 .bf16) (harg11 : arg11.IsWhole)
  (X2 : BufTy.Contents (Elt F) arg2.view.ty) (X6 : BufTy.Contents (Elt F) arg6.view.ty) (G8 : BufTy.Contents (Elt F) arg8.view.ty)
  (X3 : BufTy.Contents (Elt F) arg3.view.ty) (X4 : BufTy.Contents (Elt F) arg4.view.ty) (X11 : BufTy.Contents (Elt F) arg11.view.ty)

/-- Case C from tile `b`'s transfers. -/
theorem first_Ct (W : Waits sig Unit) (hc0 : ¬cond0_0 i) (hc1 : cond0_1 i) (hc2 : cond0_2 i) (b : Fin 10) :
    iprop(memP c arg2 X2 ∗ memP c arg6 X6 ∗ memP c arg8 G8 ∗ busy c W0 b ∗ owes (c : Thread nD τ) 0 W)
    ⊢ wp frame (wpE (defs₀ (F := F)) Variants.none c none) Set.univ (firstPart (F := F) i arg2 harg2 arg3 harg3 arg4 harg4 arg6 harg6 arg7 harg7 arg8 harg8 arg11 harg11)
      (fun v => iprop(∃ X9, ⌜HoldsB c W0 b X9⌝ ∗ memP c arg2 X2 ∗ memP c arg6 X6 ∗ memP c arg8 (decoded (F := F) c i arg2 harg2 arg3 harg3 arg4 harg4 arg6 harg6 arg7 harg7 arg8 harg8 arg11 harg11 X6 G8 hc1 X9)
        ∗ busyO c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2) ∗ ⌜v = firstV arg2 arg8 X2 (decoded (F := F) c i arg2 harg2 arg3 harg3 arg4 harg4 arg6 harg6 arg7 harg7 arg8 harg8 arg11 harg11 X6 G8 hc1 X9)⌝ ∗ ∃ W', owes (c : Thread nD τ) 0 W')) := by
  unfold busy HoldsB
  exact first_C c i W0 arg2 harg2 arg3 harg3 arg4 harg4 arg6 harg6 arg7 harg7 arg8 harg8 arg11 harg11 X2 X6 G8 W hc0 hc1 hc2 (offB b.val 0 0) (offB b.val 0 128) (offB b.val 0 256) (offB b.val 8 0) (offB b.val 8 128) (offB b.val 8 256) (fits_offB b (by decide) (by decide)) (fits_offB b (by decide) (by decide)) (fits_offB b (by decide) (by decide)) (fits_offB b (by decide) (by decide)) (fits_offB b (by decide) (by decide)) (fits_offB b (by decide) (by decide))
/-- Case D from tile `b`'s transfers. -/
theorem first_Dt (W : Waits sig Unit) (hc0 : ¬cond0_0 i) (hc1 : cond0_1 i) (hc2 : ¬cond0_2 i) (b : Fin 10) :
    iprop(memP c arg2 X2 ∗ memP c arg6 X6 ∗ memP c arg8 G8 ∗ busy c W0 b ∗ owes (c : Thread nD τ) 0 W)
    ⊢ wp frame (wpE (defs₀ (F := F)) Variants.none c none) Set.univ (firstPart (F := F) i arg2 harg2 arg3 harg3 arg4 harg4 arg6 harg6 arg7 harg7 arg8 harg8 arg11 harg11)
      (fun v => iprop(∃ X9, ⌜HoldsB c W0 b X9⌝ ∗ memP c arg2 X2 ∗ memP c arg6 X6 ∗ memP c arg8 (decoded (F := F) c i arg2 harg2 arg3 harg3 arg4 harg4 arg6 harg6 arg7 harg7 arg8 harg8 arg11 harg11 X6 G8 hc1 X9)
        ∗ freeX c W0 X9 ∗ ⌜v = firstV arg2 arg8 X2 (decoded (F := F) c i arg2 harg2 arg3 harg3 arg4 harg4 arg6 harg6 arg7 harg7 arg8 harg8 arg11 harg11 X6 G8 hc1 X9)⌝ ∗ ∃ W', owes (c : Thread nD τ) 0 W')) := by
  unfold busy HoldsB
  exact first_D c i W0 arg2 harg2 arg3 harg3 arg4 harg4 arg6 harg6 arg7 harg7 arg8 harg8 arg11 harg11 X2 X6 G8 W hc0 hc1 hc2 (offB b.val 0 0) (offB b.val 0 128) (offB b.val 0 256) (offB b.val 8 0) (offB b.val 8 128) (offB b.val 8 256) (fits_offB b (by decide) (by decide)) (fits_offB b (by decide) (by decide)) (fits_offB b (by decide) (by decide)) (fits_offB b (by decide) (by decide)) (fits_offB b (by decide) (by decide)) (fits_offB b (by decide) (by decide))
end PointI

section Point
variable (c : Dev nD) (t : Fin cfg0.N) (W0 : HbBuf0 (F := F) c hbM0_0)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole)
  (arg6 : Memref sig .tc .vmem S1024x384 .bf16) (harg6 : arg6.IsWhole) (arg7 : Memref sig .tc .vmem S256x8x128 .bf16) (harg7 : arg7.IsWhole)
  (arg8 : Memref sig .tc .vmem S48x512x2x256 .bf16) (harg8 : arg8.IsWhole)
  (arg11 : Memref sig .tc .vmem S1024x2x128 .bf16) (harg11 : arg11.IsWhole)
  (X2 : BufTy.Contents (Elt F) arg2.view.ty) (X6 : BufTy.Contents (Elt F) arg6.view.ty) (G8 : BufTy.Contents (Elt F) arg8.view.ty)
  (X3 : BufTy.Contents (Elt F) arg3.view.ty) (X4 : BufTy.Contents (Elt F) arg4.view.ty) (X11 : BufTy.Contents (Elt F) arg11.view.ty)

/-- What a point's first part leaves in the decoded tile: at the first token block of a tile, that tile decoded; at the
    others, what it held. -/
def Step (t : Fin cfg0.N) (G : BufTy.Contents (Elt F) arg8.view.ty) : Prop :=
  if t.val % 24 = 0 then ∃ (hc1 : k0_cond2 (grid0.coords t) = 1#1) (X9 : _), HoldsB c W0 (tileOf t) X9 ∧ G = decoded (F := F) c (grid0.coords t) arg2 harg2 arg3 harg3 arg4 harg4 arg6 harg6 arg7 harg7 arg8 harg8 arg11 harg11 X6 G8 hc1 X9
  else G = G8

/-- The first part at any point. -/
theorem first_all (W : Waits sig Unit) :
    iprop(memP c arg2 X2 ∗ memP c arg6 X6 ∗ memP c arg8 G8 ∗ streamAt c W0 (tiles t.val) ∗ owes (c : Thread nD τ) 0 W)
    ⊢ wp frame (wpE (defs₀ (F := F)) Variants.none c none) Set.univ (firstPart (F := F) (grid0.coords t) arg2 harg2 arg3 harg3 arg4 harg4 arg6 harg6 arg7 harg7 arg8 harg8 arg11 harg11)
      (fun v => iprop(∃ G, memP c arg2 X2 ∗ memP c arg8 G ∗ ⌜v = firstV arg2 arg8 X2 G⌝
        ∗ iprop(memP c arg6 X6 ∗ ⌜Step (F := F) c W0 arg2 harg2 arg3 harg3 arg4 harg4 arg6 harg6 arg7 harg7 arg8 harg8 arg11 harg11 X6 G8 t G⌝ ∗ streamAt c W0 (tiles (t.val + 1)) ∗ ∃ W', owes (c : Thread nD τ) 0 W'))) := by
  have hN : t.val < 240 := lt_of_lt_of_eq t.isLt (show cfg0.N = 240 from N_0)
  by_cases h1 : t.val % 24 = 0
  · have hc1 := (hcond0_1 t).mpr h1
    by_cases h0 : t.val = 0
    · have hc0 := (hcond0_0 t).mpr h0
      have hc2 := (hcond0_2 t).mpr (by omega)
      rw [streamAt_free c W0 (n := tiles t.val) (by simp only [tiles]; omega), streamAt_busy c W0 (n := tiles (t.val + 1)) (by simp only [tiles]; omega) (by simp only [tiles]; omega)]
      iintro ⟨H2, H6, H8, ⟨%X, HS⟩, HW⟩
      iapply (wp_wand_r Idealize.ShloMosaic.frame (wpE (defs₀ (F := F)) Variants.none (c : Thread nD τ) none) Set.univ)
      isplitl [H2 H6 H8 HS HW]
      · iapply (first_A c (grid0.coords t) W0 arg2 harg2 arg3 harg3 arg4 harg4 arg6 harg6 arg7 harg7 arg8 harg8 arg11 harg11 X2 X6 G8 W hc0 hc1 hc2 X)
        isplitl [H2]; · iexact H2
        isplitl [H6]; · iexact H6
        isplitl [H8]; · iexact H8
        isplitl [HS]; · iexact HS
        iexact HW
      iintro %v ⟨%X9, %hX, H2, H6, H8, HS, %hv, HW⟩
      iexists _
      isplitl [H2]; · iexact H2
      isplitl [H8]; · iexact H8
      isplitr; · ipureintro; exact hv
      isplitl [H6]; · iexact H6
      isplitr
      · ipureintro; unfold Step; rw [if_pos h1]
        have eb : (tileOf t).val = 0 := by show t.val / 24 = 0; omega
        exact ⟨hc1, X9, holdsO_eq c W0 (tileOf t) _ _ _ _ _ _ _ _ _ _ _ _ (by rw [eb]) (by rw [eb]) (by rw [eb]) (by rw [eb]) (by rw [eb]) (by rw [eb]) X9 hX, rfl⟩
      isplitl [HS]
      · have e : (⟨tiles (t.val + 1), by simp only [tiles]; omega⟩ : Fin 10) = ⟨t.val / 24 + 1, by omega⟩ := Fin.ext (by simp only [tiles]; omega)
        rw [e]
        have hb : t.val / 24 + 1 < 10 := by omega
        iapply (Entails.of_eq (busy_next c t W0 hc1 hc2 hb)) $$ HS
      iexact HW
    · have hc0 : ¬cond0_0 (grid0.coords t) := fun h => h0 ((hcond0_0 t).mp h)
      by_cases h2 : t.val < 216
      · have hc2 := (hcond0_2 t).mpr h2
        rw [streamAt_busy c W0 (n := tiles t.val) (by simp only [tiles]; omega) (by simp only [tiles]; omega), streamAt_busy c W0 (n := tiles (t.val + 1)) (by simp only [tiles]; omega) (by simp only [tiles]; omega)]
        have e0 : (⟨tiles t.val, by simp only [tiles]; omega⟩ : Fin 10) = tileOf t := Fin.ext (by simp only [tiles]; omega)
        have e : (⟨tiles (t.val + 1), by simp only [tiles]; omega⟩ : Fin 10) = ⟨t.val / 24 + 1, by omega⟩ := Fin.ext (by simp only [tiles]; omega)
        rw [e0, e]
        iintro ⟨H2, H6, H8, HS, HW⟩
        iapply (wp_wand_r Idealize.ShloMosaic.frame (wpE (defs₀ (F := F)) Variants.none (c : Thread nD τ) none) Set.univ)
        isplitl [H2 H6 H8 HS HW]
        · iapply (first_Ct c (grid0.coords t) W0 arg2 harg2 arg3 harg3 arg4 harg4 arg6 harg6 arg7 harg7 arg8 harg8 arg11 harg11 X2 X6 G8 W hc0 hc1 hc2 (tileOf t))
          isplitl [H2]; · iexact H2
          isplitl [H6]; · iexact H6
          isplitl [H8]; · iexact H8
          isplitl [HS]; · iexact HS
          iexact HW
        iintro %v ⟨%X9, %hX, H2, H6, H8, HS, %hv, HW⟩
        iexists _
        isplitl [H2]; · iexact H2
        isplitl [H8]; · iexact H8
        isplitr; · ipureintro; exact hv
        isplitl [H6]; · iexact H6
        isplitr
        · ipureintro; unfold Step; rw [if_pos h1]
          exact ⟨hc1, X9, hX, rfl⟩
        isplitl [HS]
        · have hb : t.val / 24 + 1 < 10 := by omega
          iapply (Entails.of_eq (busy_next c t W0 hc1 hc2 hb)) $$ HS
        iexact HW
      · have hc2 : ¬cond0_2 (grid0.coords t) := fun h => h2 ((hcond0_2 t).mp h)
        rw [streamAt_busy c W0 (n := tiles t.val) (by simp only [tiles]; omega) (by simp only [tiles]; omega), streamAt_free c W0 (n := tiles (t.val + 1)) (by simp only [tiles]; omega)]
        have e0 : (⟨tiles t.val, by simp only [tiles]; omega⟩ : Fin 10) = tileOf t := Fin.ext (by simp only [tiles]; omega)
        rw [e0]
        iintro ⟨H2, H6, H8, HS, HW⟩
        iapply (wp_wand_r Idealize.ShloMosaic.frame (wpE (defs₀ (F := F)) Variants.none (c : Thread nD τ) none) Set.univ)
        isplitl [H2 H6 H8 HS HW]
        · iapply (first_Dt c (grid0.coords t) W0 arg2 harg2 arg3 harg3 arg4 harg4 arg6 harg6 arg7 harg7 arg8 harg8 arg11 harg11 X2 X6 G8 W hc0 hc1 hc2 (tileOf t))
          isplitl [H2]; · iexact H2
          isplitl [H6]; · iexact H6
          isplitl [H8]; · iexact H8
          isplitl [HS]; · iexact HS
          iexact HW
        iintro %v ⟨%X9, %hX, H2, H6, H8, HS, %hv, HW⟩
        iexists _
        isplitl [H2]; · iexact H2
        isplitl [H8]; · iexact H8
        isplitr; · ipureintro; exact hv
        isplitl [H6]; · iexact H6
        isplitr
        · ipureintro; unfold Step; rw [if_pos h1]
          exact ⟨hc1, X9, hX, rfl⟩
        isplitl [HS]
        · iexists X9; iexact HS
        iexact HW
  · have hc0 : ¬cond0_0 (grid0.coords t) := fun h => h1 (by rw [(hcond0_0 t).mp h])
    have hc1 : ¬cond0_1 (grid0.coords t) := fun h => h1 ((hcond0_1 t).mp h)
    have e : tiles (t.val + 1) = tiles t.val := by simp only [tiles]; omega
    rw [e]
    iintro ⟨H2, H6, H8, HS, HW⟩
    iapply (wp_wand_r Idealize.ShloMosaic.frame (wpE (defs₀ (F := F)) Variants.none (c : Thread nD τ) none) Set.univ)
    isplitl [H2 H8 HW]
    · iapply (first_B c (grid0.coords t) arg2 harg2 arg3 harg3 arg4 harg4 arg6 harg6 arg7 harg7 arg8 harg8 arg11 harg11 X2 G8 W hc0 hc1)
      isplitl [H2]; · iexact H2
      isplitl [H8]; · iexact H8
      iexact HW
    iintro %v ⟨H2, H8, %hv, HW⟩
    iexists _
    isplitl [H2]; · iexact H2
    isplitl [H8]; · iexact H8
    isplitr; · ipureintro; exact hv
    isplitl [H6]; · iexact H6
    isplitr; · ipureintro; unfold Step; rw [if_neg h1]
    isplitl [HS]; · iexact HS
    iexact HW

/-- The whole body at any point. -/
theorem body_all (W : Waits sig Unit) (X7 : BufTy.Contents (Elt F) arg7.view.ty) :
    iprop(iprop(memP c arg2 X2 ∗ memP c arg6 X6 ∗ memP c arg8 G8 ∗ streamAt c W0 (tiles t.val) ∗ owes (c : Thread nD τ) 0 W)
      ∗ memP c arg3 X3 ∗ memP c arg4 X4 ∗ memP c arg7 X7 ∗ memP c arg11 X11)
    ⊢ wp frame (wpE (defs₀ (F := F)) Variants.none c none) Set.univ (bodyP (F := F) (grid0.coords t) arg2 harg2 arg3 harg3 arg4 harg4 arg6 harg6 arg7 harg7 arg8 harg8 arg11 harg11)
      (fun _ => iprop(∃ G, memP c arg2 X2 ∗ memP c arg3 X3 ∗ memP c arg4 X4 ∗ memP c arg7 (outP (grid0.coords t) arg2 harg2 arg3 harg3 arg4 harg4 arg6 harg6 arg7 harg7 arg8 harg8 arg11 harg11 X2 G X3 X4 X11 c X7) ∗ memP c arg8 G ∗ (∃ X11', memP c arg11 X11')
        ∗ iprop(memP c arg6 X6 ∗ ⌜Step (F := F) c W0 arg2 harg2 arg3 harg3 arg4 harg4 arg6 harg6 arg7 harg7 arg8 harg8 arg11 harg11 X6 G8 t G⌝ ∗ streamAt c W0 (tiles (t.val + 1)) ∗ ∃ W', owes (c : Thread nD τ) 0 W'))) :=
  body_of_first (grid0.coords t) arg2 harg2 arg3 harg3 arg4 harg4 arg6 harg6 arg7 harg7 arg8 harg8 arg11 harg11 X2 X3 X4 X11 c _ _ X7 (first_all c t W0 arg2 harg2 arg3 harg3 arg4 harg4 arg6 harg6 arg7 harg7 arg8 harg8 arg11 harg11 X2 X6 G8 W)

end Point

/-! ## Memrefs owned, as the body reads them -/

/-- A whole memref owned at `d` is its buffer held at the contents read as `d`, -/
theorem mem_of_owns (c : Dev nD) {sp : Space} {S : Shape} {e : EltTy} (M : Memref sig .tc sp S e) (hM : M.IsWhole) (d : S.Idx → Elt F e) :
    owns (c : Thread nD τ) M fullShare d ⊢ (memP c M (hM.unread d) : sProp 𝕄) := by
  unfold owns
  iintro ⟨%f, %hf, H⟩
  obtain rfl := hM.eq_unread hf
  iexact H
/-- and the other way, at what the contents are read as. -/
theorem owns_of_mem (c : Dev nD) {sp : Space} {S : Shape} {e : EltTy} (M : Memref sig .tc sp S e) (f : BufTy.Contents (Elt F) M.view.ty) (d : S.Idx → Elt F e)
    (h : M.view.read (Elt F) f = d) : (memP c M f : sProp 𝕄) ⊢ owns (c : Thread nD τ) M fullShare d := by
  unfold owns
  iintro H
  iexists f; isplitr; · ipureintro; exact h
  iexact H

end Cert.KernelIdeal.Hand

end
-- ==== Proof.KernelIdealFrame.lean ====
/-
  The frame of `KernelIdeal`: the proof data of its one pipeline, the body obligation at every point, the run, and what it says of
  the argument arrays and of the semaphore counters. What the kernel leaves in its results is not named here.
-/
module

public import proofs.«01_k».proof.Proof.KernelIdealPoint
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The pipeline's proof data -/

/-- The invariant before point `k`: the decoded tile and the output staging at anything, the generator register at some
    state, and the stream of packed tiles. -/
def PhiR (c : Dev nD) (k : ℕ) : sProp 𝕄 := iprop((∃ d, owns (c : Thread nD τ) scM0_0 fullShare d) ∗ (∃ d, owns (c : Thread nD τ) scM0_2 fullShare d) ∗ (∃ r, prngReg c r) ∗ streamAt c (V m c main_v0) (tiles k))

/-- The stream free, from what the launch hands over, -/
theorem free_in (c : Dev nD) (W0 : HbBuf0 (F := F) c hbM0_0) (X) :
    iprop(owns (c : Thread nD τ) scM0_1 fullShare X ∗ semVal ((c : Thread nD τ), SemLoc.dma 10) 0 ∗ hbPt0 c hbM0_0 W0) ⊢ (∃ X, freeX c W0 X : sProp 𝕄) := by
  rw [owns_whole]
  iintro ⟨H1, Hq, Hh⟩
  iexists X
  unfold freeX cellP
  rw [tileP_eq, cellR_eq]
  isplitl [Hq]; · iexact Hq
  isplitl [H1]; · iexact H1
  iexact Hh
/-- and handed back. -/
theorem free_out (c : Dev nD) (W0 : HbBuf0 (F := F) c hbM0_0) (X) :
    freeX c W0 X ⊢ (iprop((∃ d, owns (c : Thread nD τ) scM0_1 fullShare d) ∗ semVal ((c : Thread nD τ), SemLoc.dma 10) 0 ∗ hbPt0 c hbM0_0 W0) : sProp 𝕄) := by
  unfold freeX cellP
  rw [tileP_eq, cellR_eq]
  simp only [owns_whole]
  iintro ⟨Hq, H1, Hh⟩
  isplitl [H1]; · iexists X; iexact H1
  isplitl [Hq]; · iexact Hq
  iexact Hh

/-- The results' window, of which nothing is named. -/
def forgets0 : Fin 5 → Bool := fun w => w.val == 4

/-- The proof data: each input's buffer at its block, the results unnamed, nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ t := PhiR m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

set_option maxHeartbeats 1600000 in
/-- The body at any point: `body_all` between the blocks the windows hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [after0_0, after0_1, after0_2, after0_3]
  rw [PhiR_castSucc m c t, PhiR_succ m c t]
  unfold Dat.owesAt Pipeline.owesWithin
  rw [show (dats m 0 c).owed t.castSucc = 0 from rfl, show (dats m 0 c).owed t.succ = 0 from rfl]
  unfold PhiR
  iintro ⟨⟨⟨%e8, H8⟩, ⟨%e11, H11⟩, Hg, Hst⟩, ⟨%W, -, HW⟩, ⟨%d0, H0⟩, ⟨%d1, H1⟩, ⟨%d2, H2⟩, ⟨%d3, H3⟩, ⟨%d4, H4⟩⟩
  ihave K0 := (mem_of_owns c (ms0_0 t) (hs0_0 t) (iblk m c 0 t)) $$ H0
  ihave K1 := (mem_of_owns c (ms0_1 t) (hs0_1 t) (iblk m c 1 t)) $$ H1
  ihave K2 := (mem_of_owns c (ms0_2 t) (hs0_2 t) (iblk m c 2 t)) $$ H2
  ihave K3 := (mem_of_owns c (ms0_3 t) (hs0_3 t) (iblk m c 3 t)) $$ H3
  ihave K4 := (mem_of_owns c (ms0_4 t) (hs0_4 t) d4) $$ H4
  ihave K8 := (mem_of_owns c scM0_0 (Memref.isWhole_whole _) e8) $$ H8
  ihave K11 := (mem_of_owns c scM0_2 (Memref.isWhole_whole _) e11) $$ H11
  iapply (wp_wand_r Idealize.ShloMosaic.frame (wpE (defs₀ (F := F)) Variants.none (c : Thread nD τ) none) Set.univ)
  isplitl [K0 K1 K2 K3 K4 K8 K11 Hst HW]
  · iapply (body_all c t (V m c main_v0) (ms0_0 t) (hs0_0 t) (ms0_1 t) (hs0_1 t) (ms0_2 t) (hs0_2 t) (ms0_3 t) (hs0_3 t) (ms0_4 t) (hs0_4 t) scM0_0 (Memref.isWhole_whole _) scM0_2 (Memref.isWhole_whole _)
      ((hs0_0 t).unread (iblk m c 0 t)) ((hs0_3 t).unread (iblk m c 3 t)) ((Memref.isWhole_whole _).unread e8) ((hs0_1 t).unread (iblk m c 1 t)) ((hs0_2 t).unread (iblk m c 2 t)) ((Memref.isWhole_whole _).unread e11) W ((hs0_4 t).unread d4))
    isplitl [K0 K3 K8 Hst HW]
    · isplitl [K0]; · iexact K0
      isplitl [K3]; · iexact K3
      isplitl [K8]; · iexact K8
      isplitl [Hst]; · iexact Hst
      iexact HW
    isplitl [K1]; · iexact K1
    isplitl [K2]; · iexact K2
    isplitl [K4]; · iexact K4
    iexact K11
  iintro %_ ⟨%G, K0, K1, K2, K4, K8, ⟨%X11, K11⟩, K3, %hG, Hst, ⟨%W', HW'⟩⟩
  isplitl [K8 K11 Hg Hst]
  · isplitl [K8]; · iexists _; iapply (owns_of_mem c scM0_0 G _ rfl); iexact K8
    isplitl [K11]; · iexists _; iapply (owns_of_mem c scM0_2 X11 _ rfl); iexact K11
    isplitl [Hg]; · iexact Hg
    iexact Hst
  isplitl [HW']
  · iexists W'; isplitr; · ipureintro; exact fun _ _ => Or.inl trivial
    iexact HW'
  isplitl [K0]; · iapply (owns_of_mem c (ms0_0 t) _ _ ((hs0_0 t).read_unread _)); iexact K0
  isplitl [K1]; · iapply (owns_of_mem c (ms0_1 t) _ _ ((hs0_1 t).read_unread _)); iexact K1
  isplitl [K2]; · iapply (owns_of_mem c (ms0_2 t) _ _ ((hs0_2 t).read_unread _)); iexact K2
  isplitl [K3]; · iapply (owns_of_mem c (ms0_3 t) _ _ ((hs0_3 t).read_unread _)); iexact K3
  iexists _; iapply (owns_of_mem c (ms0_4 t) _ _ rfl); iexact K4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant before the first point, and the invariant after the last point hands
    it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  rw [streamAt_free c (V m c main_v0) (n := tiles 0) (Or.inl rfl)]
  iintro ⟨⟨HS0, ⟨%X, HS1⟩, HS2⟩, Hg, Hq, Hh⟩
  isplitl [HS0]; · iexact HS0
  isplitl [HS2]; · iexact HS2
  isplitl [Hg]; · iexact Hg
  iapply (free_in c (V m c main_v0) X)
  isplitl [HS1]; · iexact HS1
  isplitl [Hq]; · iexact Hq
  iexact Hh
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [streamAt_free c (V m c main_v0) (n := tiles grid0.N) (Or.inr (by rw [N_0]))]
  iintro ⟨HS0, HS2, Hg, ⟨%X, HX⟩⟩
  ihave HX' := (free_out c (V m c main_v0) X) $$ HX
  icases HX' with ⟨HS1, Hq, Hh⟩
  isplitl [HS0 HS1 HS2]
  · isplitl [HS0]; · iexact HS0
    isplitl [HS1]; · iexact HS1
    iexact HS2
  isplitl [Hg]; · iexact Hg
  isplitl [Hq]; · iexact Hq
  iexact Hh

/-! ## The run and the frame -/

set_option backward.isDefEq.respectTransparency.types false in
/-- The run, with every semaphore counter at zero at its end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every input array unchanged, every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays, from a run whose arrays are the region-entry contents. -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 3 rfl).trans ((hA c 3).trans (V_main_arg4 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.Nibbles.lean ====
/-
  The nibbles of the packed weights: as the kernels decode them, by their bits, and as the references do, by arithmetic.
-/
module

public import Idealize.ShloMosaic.Lib.Pointwise

@[expose] public section

set_option maxRecDepth 65536

noncomputable section

namespace Cert

open Idealize.ShloMosaic

/-- Sixteen of the bits of a word that two source words' low halves make up, shifted, masked to a nibble and joined with the
    exponent: the pattern `0x430` followed by a nibble of the one source word or of the other. -/
theorem half_low (a b : BitVec 32) (q : Fin 4) (par : Fin 2) :
    ((((a &&& 65535#32 ||| b <<< (16#32 : BitVec 32)) >>> (BitVec.ofNat 32 (4 * q.val))) &&& 983055#32) ||| 1124090624#32).extractLsb' (16 * par.val) 16
      = 0x430#12 ++ (if par = 0 then a else b).extractLsb' (4 * q.val) 4 := by
  apply BitVec.eq_of_getLsbD_eq; intro i hi
  simp only [BitVec.getLsbD_append, BitVec.getLsbD_extractLsb', BitVec.getLsbD_or, BitVec.getLsbD_and, BitVec.ushiftRight_eq', BitVec.getLsbD_ushiftRight, BitVec.shiftLeft_eq', BitVec.getLsbD_shiftLeft]
  fin_cases q <;> fin_cases par <;> interval_cases i <;> simp

/-- The same of the word that the high halves make up. -/
theorem half_high (a b : BitVec 32) (q : Fin 4) (par : Fin 2) :
    ((((a >>> (16#32 : BitVec 32) ||| b &&& 4294901760#32) >>> (BitVec.ofNat 32 (4 * q.val))) &&& 983055#32) ||| 1124090624#32).extractLsb' (16 * par.val) 16
      = 0x430#12 ++ (if par = 0 then a else b).extractLsb' (16 + 4 * q.val) 4 := by
  apply BitVec.eq_of_getLsbD_eq; intro i hi
  simp only [BitVec.getLsbD_append, BitVec.getLsbD_extractLsb', BitVec.getLsbD_or, BitVec.getLsbD_and, BitVec.ushiftRight_eq', BitVec.getLsbD_ushiftRight, BitVec.shiftLeft_eq', BitVec.getLsbD_shiftLeft]
  fin_cases q <;> fin_cases par <;> interval_cases i <;> simp

/-- The pattern `0x430` followed by a nibble is 128 and the nibble. -/
theorem bf16_nib (n : BitVec 4) : (Ideal.ofBits .bf16 (0x430#12 ++ n) : EReal) = ((128 + n.toNat : ℝ) : EReal) := by
  have h : ∀ n : BitVec 4, ((0x430#12 ++ n : BitVec 16).extractLsb' 15 1 == 1#1) = false ∧ ((0x430#12 ++ n : BitVec 16).extractLsb' 7 8).toNat = 134 ∧ ((0x430#12 ++ n : BitVec 16).extractLsb' 0 7).toNat = n.toNat := by decide
  obtain ⟨h1, h2, h3⟩ := h n
  simp only [Ideal.ofBits, Ideal.ieee]
  rw [show (8 + 7 : ℕ) = 15 from rfl, h1, h2, h3]
  norm_num

theorem bf16_136 : (Ideal.ofBits .bf16 0x4308#16 : EReal) = ((136 : ℝ) : EReal) := by
  simp [Ideal.ofBits, Ideal.ieee, -EReal.coe_mul]

theorem eight : (Ideal.ofBits .bf16 0x4100#16 : EReal) = ((8 : ℝ) : EReal) := by
  simp [Ideal.ofBits, Ideal.ieee, -EReal.coe_mul]
  norm_num
theorem low_code : ∀ b : BitVec 8, (IntOp.andi (b.setWidth 32) 15#32).toInt = ((b.extractLsb' 0 4).toNat : ℤ) := by
  have h : ∀ n : Fin 256, (IntOp.andi ((BitVec.ofFin n : BitVec 8).setWidth 32) 15#32).toInt = (((BitVec.ofFin n : BitVec 8).extractLsb' 0 4).toNat : ℤ) := by
    decide +kernel
  exact fun b => h b.toFin
theorem high_code : ∀ b : BitVec 8, (IntOp.shrsi ArithUnit.host (b.setWidth 32) 4#32).toInt = ((b.extractLsb' 4 4).toNat : ℤ) := by
  have h : ∀ n : Fin 256, (((BitVec.ofFin n : BitVec 8).setWidth 32).sshiftRight' 4#32).toInt = (((BitVec.ofFin n : BitVec 8).extractLsb' 4 4).toNat : ℤ) := by
    decide +kernel
  intro b
  have e : IntOp.shrsi ArithUnit.host (b.setWidth 32) 4#32 = (b.setWidth 32).sshiftRight' 4#32 := if_pos (by decide)
  rw [e]; exact h b.toFin

/-- A code less eight, as the reference and as the sum spell it. -/
theorem code_eight (w : BitVec 32) (k : ℕ) (h : w.toInt = (k : ℤ)) :
    (FloatOps.sitofp (F := Ideal) .bf16 w - Ideal.ofBits .bf16 0x4100#16 : EReal) = (((k : ℝ) - 8 : ℝ) : EReal) := by
  rw [eight]
  show (((w.toInt : ℝ) : EReal) - ((8 : ℝ) : EReal)) = _
  rw [h]; norm_cast

end Cert

end
-- ==== Proof.KernelIdealDecode.lean ====
/-
  What one trip of `KernelIdeal`'s decoding loop writes, element by element: a nibble of a packed byte less eight, times its
  scale.
-/
module

public import proofs.«01_k».proof.Proof.KernelIdealLoop
public import proofs.«01_k».proof.Proof.Nibbles
public import Idealize.ShloMosaic.Lib.Pointwise
public import Idealize.ShloMosaic.Lib.BitcastFour
public import Idealize.ShloMosaic.Lib.BitcastPair

@[expose] public section

set_option maxRecDepth 65536

noncomputable section

namespace Cert.KernelIdeal.Hand

open Cert.KernelIdeal.Gen Cert.KernelIdeal.Facts Cert.KernelIdeal
open Idealize.ShloMosaic Idealize.ShloMosaic.TcCoe Idealize.ShloMosaic.Pointwise

variable {F : FTy → Type} [FloatOps F]

/-- Word row `o` of each group of four, of the packed rows read as words. -/
def wordRow (o : ℕ) (h : S8x4x128.Slices ![0, o, 0] S8x1x128) (b9 : Vec F S1x1x16x8x128 .i8) : IVec S8x128 32 :=
  shapeCast S8x128 (extractStridedSlice S8x1x128 ![0, o, 0]
    (shapeCast S8x4x128 (bitcast S32x128 32 (shapeCast S128x128 (shapeCast S16x8x128 b9 shapeCasts_S1x1x16x8x128_S16x8x128) shapeCasts_S16x8x128_S128x128) bitcasts_S128x128_w8_S32x128_w32) shapeCasts_S32x128_S8x4x128) h) shapeCasts_S8x1x128_S8x128

/-- The words' low halves joined. -/
def lowWord (a b : IVec S8x128 32) : IVec S8x128 32 := ori (andi a (broadcast S8x128 65535#32)) (shli b (broadcast S8x128 16#32))
/-- The words' high halves joined. -/
def highWord (a b : IVec S8x128 32) : IVec S8x128 32 := ori (shrui a (broadcast S8x128 16#32)) (andi b (broadcast S8x128 4294901760#32))

/-- The decoded elements of one shift of the joined words. -/
def decodePay (s6 : Vec F S16x128 .bf16) (v : IVec S8x128 32) (sh : BitVec 32) : Vec F S1x8x2x128 .bf16 :=
  have z : FVec F S16x128 .bf16 := mulf (subf (bitcastToFloat .bf16 (bitcast S16x128 16 (ori (andi (shrui v (broadcast S8x128 sh)) (broadcast S8x128 983055#32)) (broadcast S8x128 1124090624#32)) bitcasts_S8x128_w32_S16x128_w16)) (broadcast S16x128 (Scalar.ofBits .bf16 0x4308#16))) s6
  interleaveRows S1x8x2x128 (shapeCast S1x8x1x128 (shapeCast S1x8x128 (rowsOfParity 0 S8x128 z bitcasts_S16x128_w16_S8x128_w32) shapeCasts_S8x128_S1x8x128) shapeCasts_S1x8x128_S1x8x1x128) (shapeCast S1x8x1x128 (shapeCast S1x8x128 (rowsOfParity 1 S8x128 z bitcasts_S16x128_w16_S8x128_w32) shapeCasts_S8x128_S1x8x128) shapeCasts_S1x8x128_S1x8x1x128) bitcasts_S1x8x2x128_w16_S1x8x1x128_w32

theorem decodePay_apply (s6 : Vec Ideal S16x128 .bf16) (v : IVec S8x128 32) (sh : BitVec 32) (r : Fin 8) (par : Fin 2) (l : Fin 128)
    (n : BitVec 4) (hn : ((((IntOp.shrui .vector (v (ix2 r l)) sh) &&& 983055#32) ||| 1124090624#32).extractLsb' (16 * par.val) 16) = 0x430#12 ++ n) :
    decodePay s6 v sh (ix4 0 r par l) = ((n.toNat - 8 : ℝ) : EReal) * s6 (ix2 ⟨2 * r.val + par.val, by omega⟩ l) := by
  have key : ∀ (h : 2 * r.val + par.val < 16),
      (Ideal.ofBits FTy.bf16 (bitcast S16x128 16 (ori (andi (shrui v (broadcast S8x128 sh)) (broadcast S8x128 983055#32)) (broadcast S8x128 1124090624#32)) bitcasts_S8x128_w32_S16x128_w16 (ix2 ⟨2 * r.val + par.val, h⟩ l)) - Ideal.ofBits FTy.bf16 17160#16 : EReal)
        = ((n.toNat - 8 : ℝ) : EReal) := by
    intro h
    have e : bitcast S16x128 16 (ori (andi (shrui v (broadcast S8x128 sh)) (broadcast S8x128 983055#32)) (broadcast S8x128 1124090624#32)) bitcasts_S8x128_w32_S16x128_w16 (ix2 ⟨2 * r.val + par.val, h⟩ l) = 0x430#12 ++ n := by
      rw [← hn, bitcast_32_16]
      have hm : S16x128.row (ix2 ⟨2 * r.val + par.val, h⟩ l) % 2 = par.val := by
        show (2 * r.val + par.val) % 2 = par.val; omega
      have ei : ∀ hh, (bitcasts_S8x128_w32_S16x128_w16).srcIdx (ix2 ⟨2 * r.val + par.val, h⟩ l) (S16x128.row (ix2 ⟨2 * r.val + par.val, h⟩ l) / 2) hh = ix2 r l := by
        intro hh
        funext c
        match c with
        | ⟨0, _⟩ => exact Fin.ext (((bitcasts_S8x128_w32_S16x128_w16).srcIdx_row _ _ _ ⟨0, Nat.zero_lt_two⟩ rfl).trans (by show (2 * r.val + par.val) / 2 = r.val; omega))
        | ⟨1, _⟩ => exact Fin.ext ((bitcasts_S8x128_w32_S16x128_w16).srcIdx_other _ _ _ ⟨1, Nat.one_lt_two⟩ (by show ¬ 1 + 2 = 2; omega))
      rw [ei, hm]
      rfl
    rw [e, bf16_nib, bf16_136, ← EReal.coe_sub]
    congr 1; ring
  unfold decodePay
  pointwise []
  fin_cases par
  · exact congrArg (· * _) (key (by omega))
  · exact congrArg (· * _) (key (by simp; omega))

theorem byte_bit (x : S128x128.Idx → BitVec 8) (h : S128x128.Bitcasts 8 S32x128 32) (a : Fin 32) (l : Fin 128) (q : ℕ) (hq : q < 32)
    (p : Fin 128) (hp : p.val = 4 * a.val + q / 8) :
    (bitcast S32x128 32 x h (ix2 a l)).getLsbD q = (x (ix2 p l)).getLsbD (q % 8) := by
  rw [ix2_eq_valueIdx, ix2_eq_valueIdx]
  exact bitcast_8_32_getLsbD_ix2 x h a l q hq p hp

/-- A nibble of a word row is a nibble of a packed byte. -/
theorem wordRow_nib (o : ℕ) (h) (b9 : Vec F S1x1x16x8x128 .i8) (r : Fin 8) (l : Fin 128) (ho : o < 4) (q : ℕ) (hq : q < 8) :
    (wordRow o h b9 (ix2 r l)).extractLsb' (4 * q) 4
      = (b9 (ix5 0 0 ⟨2 * r.val + o / 2, by omega⟩ ⟨4 * (o % 2) + q / 2, by omega⟩ l) : BitVec 8).extractLsb' (4 * (q % 2)) 4 := by
  unfold wordRow
  pointwise []
  apply BitVec.eq_of_getLsbD_eq; intro i hi
  rw [BitVec.getLsbD_extractLsb', BitVec.getLsbD_extractLsb',
    byte_bit _ _ _ _ (4 * q + i) (by omega) ⟨4 * (r.val * 4 + o) + (4 * q + i) / 8, by omega⟩ rfl]
  have e : (4 * q + i) % 8 = 4 * (q % 2) + i := by omega
  rw [e]
  congr 2
  pointwise []
  congr 2 <;> (apply Fin.ext; dsimp only; omega)

variable (k : Fin k0_t1_loop.trips)
  (arg6 : Memref sig .tc .vmem S1024x384 .bf16) (arg9 : Memref sig .tc .vmem S2x3x1024x8x128 .i8)
  (X6 : BufTy.Contents (Elt Ideal) arg6.view.ty) (X9 : BufTy.Contents (Elt Ideal) arg9.view.ty)

/-- The decoded tile: lane `128 h + l` of chunk `c` and output row `n`, from bits `4 h` to `4 h + 3` of the packed byte of
    group lane `l`, and the scale of the group. -/
def wTile (x9 : S2x3x1024x8x128.Idx → BitVec 8) (x6 : S1024x384.Idx → EReal) : S48x512x2x256.Idx → EReal := fun y =>
  have h0 : (y 0).val < 48 := (y 0).isLt
  have h1 : (y 1).val < 512 := (y 1).isLt
  have h2 : (y 2).val < 2 := (y 2).isLt
  ((((x9 (ix5 ⟨(y 0).val / 24, by omega⟩ ⟨(y 0).val / 4 % 3, by omega⟩ ⟨2 * (y 1).val + (y 2).val, by omega⟩ ⟨4 * ((y 0).val / 12 % 2) + (y 0).val % 4, by omega⟩ ⟨(y 3).val % 128, by omega⟩)).extractLsb' (4 * ((y 3).val / 128)) 4).toNat - 8 : ℝ) : EReal)
    * x6 (ix2 ⟨2 * (y 1).val + (y 2).val, by omega⟩ ⟨((y 0).val / 4 % 3) * 128 + (y 3).val % 128, by omega⟩)

theorem trips_le : k.val < 64 := Nat.lt_of_lt_of_le k.isLt k0_t1_abs.2.1

theorem decode_at (hi : Bool) (o6 : Fin 2 → ℕ) (o8 : Fin 4 → ℕ) (o9 : Fin 5 → ℕ) (h6) (h8) (h9) (c hf : ℕ) (hc : c < 48) (hh : hf < 2)
    (hhi : hi = decide (2 ≤ c % 4))
    (e6 : o6 = ![16 * k.val, (c / 4 % 3) * 128]) (e8 : o8 = ![c, 8 * k.val, 0, 128 * hf]) (e9 : o9 = ![c / 24, c / 4 % 3, 16 * k.val, 0, 0])
    (ha hb) (w : IVec S8x128 32)
    (hw : w = (bif hi then highWord else lowWord)
      (wordRow (F := Ideal) (c / 12 % 2) ha (View.readAt (Elt Ideal) arg9.view (Rect.unit (s := S2x3x1024x8x128) o9 S1x1x16x8x128.size h9).toLoadRect X9))
      (wordRow (F := Ideal) (2 + c / 12 % 2) hb (View.readAt (Elt Ideal) arg9.view (Rect.unit (s := S2x3x1024x8x128) o9 S1x1x16x8x128.size h9).toLoadRect X9)))
    (x : S1x8x2x128.Idx) :
    decodePay (View.readAt (Elt Ideal) arg6.view (Rect.unit (s := S1024x384) o6 S16x128.size h6).toLoadRect X6) w (BitVec.ofNat 32 (4 * (2 * (c % 2) + hf))) x
      = wTile (arg9.view.read (Elt Ideal) X9) (arg6.view.read (Elt Ideal) X6) ((Rect.unit (s := S48x512x2x256) o8 S1x8x2x128.size h8).emb x) := by
  have hk := trips_le k
  subst e6 e8 e9
  obtain ⟨r, par, l, rfl⟩ : ∃ (r : Fin 8) (par : Fin 2) (l : Fin 128), x = ix4 0 r par l :=
    ⟨x 1, x 2, x 3, by funext a; match a with | ⟨0, _⟩ => exact Subsingleton.elim (α := Fin 1) _ _ | ⟨1, _⟩ => rfl | ⟨2, _⟩ => rfl | ⟨3, _⟩ => rfl⟩
  set b9 := View.readAt (Elt Ideal) arg9.view (Rect.unit (s := S2x3x1024x8x128) ![c / 24, c / 4 % 3, 16 * k.val, 0, 0] S1x1x16x8x128.size h9).toLoadRect X9 with hb9
  rw [decodePay_apply _ _ _ r par l (((b9 (ix5 0 0 ⟨2 * r.val + par.val, by omega⟩ ⟨4 * (c / 12 % 2) + c % 4, by omega⟩ l) : BitVec 8)).extractLsb' (4 * hf) 4)]
  · unfold wTile
    have hl : l.val < 128 := l.isLt
    have v0 : (((Rect.unit (s := S48x512x2x256) ![c, 8 * k.val, 0, 128 * hf] S1x8x2x128.size h8).emb (ix4 0 r par l)) 0).val = c := by
      show c + 1 * 0 = c; omega
    have v1 : (((Rect.unit (s := S48x512x2x256) ![c, 8 * k.val, 0, 128 * hf] S1x8x2x128.size h8).emb (ix4 0 r par l)) 1).val = 8 * k.val + r.val := by
      show 8 * k.val + 1 * r.val = _; omega
    have v2 : (((Rect.unit (s := S48x512x2x256) ![c, 8 * k.val, 0, 128 * hf] S1x8x2x128.size h8).emb (ix4 0 r par l)) 2).val = par.val := by
      show 0 + 1 * par.val = _; omega
    have v3 : (((Rect.unit (s := S48x512x2x256) ![c, 8 * k.val, 0, 128 * hf] S1x8x2x128.size h8).emb (ix4 0 r par l)) 3).val = 128 * hf + l.val := by
      show 128 * hf + 1 * l.val = _; omega
    congr 1
    · simp only [v3]
      rw [show (128 * hf + l.val) / 128 = hf by omega]
      congr 5
      rw [hb9, View.readAt_apply]
      congr 1
      funext a
      match a with
      | ⟨0, _⟩ => apply Fin.ext; dsimp only [ix5]; rw [v0]; show c / 24 + 1 * 0 = _; omega
      | ⟨1, _⟩ => apply Fin.ext; dsimp only [ix5]; rw [v0]; show c / 4 % 3 + 1 * 0 = _; omega
      | ⟨2, _⟩ => apply Fin.ext; dsimp only [ix5]; rw [v1, v2]; show 16 * k.val + 1 * (2 * r.val + par.val) = _; omega
      | ⟨3, _⟩ => apply Fin.ext; dsimp only [ix5]; rw [v0]; show 0 + 1 * (4 * (c / 12 % 2) + c % 4) = _; omega
      | ⟨4, _⟩ => apply Fin.ext; dsimp only [ix5]; show 0 + 1 * l.val = (128 * hf + l.val) % 128; omega
    · rw [View.readAt_apply]
      congr 1
      funext a
      match a with
      | ⟨0, _⟩ => apply Fin.ext; dsimp only [ix2]; rw [v1, v2]; show 16 * k.val + 1 * (2 * r.val + par.val) = _; omega
      | ⟨1, _⟩ => apply Fin.ext; dsimp only [ix2]; rw [v0, v3]; show (c / 4 % 3) * 128 + 1 * l.val = _; omega
  · rw [hw, hhi]
    have hq : 2 * (c % 2) + hf < 4 := by omega
    have key (f : ℕ) (hf' : c % 4 = 2 * f + c % 2) (hf1 : f < 2) : (if par = 0 then wordRow (F := Ideal) (c / 12 % 2) ha b9 (ix2 r l) else wordRow (F := Ideal) (2 + c / 12 % 2) hb b9 (ix2 r l)).extractLsb' (4 * (4 * f + (2 * (c % 2) + hf))) 4
        = (b9 (ix5 0 0 ⟨2 * r.val + par.val, by omega⟩ ⟨4 * (c / 12 % 2) + c % 4, by omega⟩ l) : BitVec 8).extractLsb' (4 * hf) 4 := by
      rcases (show par = 0 ∨ par = 1 by omega) with rfl | rfl
      · refine (wordRow_nib _ _ _ _ _ (by omega) _ (by omega)).trans ?_
        have e1 : (4 * f + (2 * (c % 2) + hf)) % 2 = hf := by omega
        rw [e1]
        congr 3
        · apply Fin.ext; show 2 * r.val + c / 12 % 2 / 2 = 2 * r.val + 0; omega
        · apply Fin.ext; show 4 * (c / 12 % 2 % 2) + (4 * f + (2 * (c % 2) + hf)) / 2 = 4 * (c / 12 % 2) + c % 4; omega
      · refine (wordRow_nib _ _ _ _ _ (by omega) _ (by omega)).trans ?_
        have e1 : (4 * f + (2 * (c % 2) + hf)) % 2 = hf := by omega
        rw [e1]
        congr 3
        · apply Fin.ext; show 2 * r.val + (2 + c / 12 % 2) / 2 = 2 * r.val + 1; omega
        · apply Fin.ext; show 4 * ((2 + c / 12 % 2) % 2) + (4 * f + (2 * (c % 2) + hf)) / 2 = 4 * (c / 12 % 2) + c % 4; omega
    have hsh : (BitVec.ofNat 32 (4 * (2 * (c % 2) + hf))).toNat < 32 := by
      rw [BitVec.toNat_ofNat]; omega
    by_cases h2 : 2 ≤ c % 4
    · have := half_high (wordRow (F := Ideal) (c / 12 % 2) ha b9 (ix2 r l)) (wordRow (F := Ideal) (2 + c / 12 % 2) hb b9 (ix2 r l)) ⟨2 * (c % 2) + hf, hq⟩ par
      rw [decide_eq_true h2, ← key 1 (by omega) (by omega)]
      refine Eq.trans ?_ (this.trans ?_)
      · simp only [cond_true, IntOp.shrui, if_pos hsh]; rfl
      · split <;> (congr 2; dsimp only; omega)
    · have := half_low (wordRow (F := Ideal) (c / 12 % 2) ha b9 (ix2 r l)) (wordRow (F := Ideal) (2 + c / 12 % 2) hb b9 (ix2 r l)) ⟨2 * (c % 2) + hf, hq⟩ par
      rw [decide_eq_false h2, ← key 0 (by omega) (by omega)]
      refine Eq.trans ?_ (this.trans ?_)
      · simp only [cond_false, IntOp.shrui, if_pos hsh]; rfl
      · split <;> (congr 2; dsimp only; omega)

variable (c : Dev nD) (i : grid0.Coords)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole) (arg5 : Memref sig .tc .hbm S10240x16x384 .i8) (harg5 : arg5.IsWhole)
  (harg6 : arg6.IsWhole) (arg7 : Memref sig .tc .vmem S256x8x128 .bf16) (harg7 : arg7.IsWhole)
  (arg8 : Memref sig .tc .vmem S48x512x2x256 .bf16) (harg8 : arg8.IsWhole) (harg9 : arg9.IsWhole)
  (arg10 : DmaSems sig S_) (arg11 : Memref sig .tc .vmem S1024x2x128 .bf16) (harg11 : arg11.IsWhole) (k0_h2 : k0_cond2 i = 1#1)

/-- What is known of a piece of trip `k`: its rectangle and its values. -/
def PieceOk (x9 : S2x3x1024x8x128.Idx → BitVec 8) (x6 : S1024x384.Idx → EReal) (p : View.Piece (Elt Ideal) S48x512x2x256 .bf16) : Prop :=
  (p.1.size = S1x8x2x128.size ∧ p.1.stride = fun _ => 1) ∧ ∀ x, p.2 x = wTile x9 x6 (p.1.emb x)

theorem pieceOk (o8 : Fin 4 → ℕ) (h8) [inst : ClosedOff o8] (o6 : Fin 2 → ℕ) (h6) [inst6 : ClosedOff o6] (o9 : Fin 5 → ℕ) (h9) [inst9 : ClosedOff o9]
    (cc l0 : ℕ) (hc : cc < 48) (hh : l0 / 128 < 2) (hl : 128 * (l0 / 128) = l0) (pay : Vec Ideal S1x8x2x128 .bf16) (ha hb)
    (e8 : inst.form = ![cc, 8 * k.val, 0, l0]) (e6 : inst6.form = ![16 * k.val, (cc / 4 % 3) * 128]) (e9 : inst9.form = ![cc / 24, cc / 4 % 3, 16 * k.val, 0, 0])
    (hp : pay = decodePay (View.readAt (Elt Ideal) arg6.view (Rect.unit (s := S1024x384) o6 S16x128.size h6).toLoadRect X6)
      ((bif decide (2 ≤ cc % 4) then highWord else lowWord)
        (wordRow (F := Ideal) (cc / 12 % 2) ha (View.readAt (Elt Ideal) arg9.view (Rect.unit (s := S2x3x1024x8x128) o9 S1x1x16x8x128.size h9).toLoadRect X9))
        (wordRow (F := Ideal) (2 + cc / 12 % 2) hb (View.readAt (Elt Ideal) arg9.view (Rect.unit (s := S2x3x1024x8x128) o9 S1x1x16x8x128.size h9).toLoadRect X9)))
      (BitVec.ofNat 32 (4 * (2 * (cc % 2) + l0 / 128)))) :
    PieceOk (arg9.view.read (Elt Ideal) X9) (arg6.view.read (Elt Ideal) X6) ⟨Rect.unit (s := S48x512x2x256) o8 S1x8x2x128.size h8, pay⟩ := by
  refine ⟨⟨rfl, rfl⟩, fun x => ?_⟩
  subst hp
  exact decode_at k arg6 arg9 X6 X9 _ o6 o8 o9 h6 h8 h9 cc (l0 / 128) hc hh rfl (inst6.eq.trans e6) (inst.eq.trans (e8.trans (by rw [hl]))) (inst9.eq.trans e9) ha hb _ rfl x

set_option maxHeartbeats 4000000 in
theorem trip_ok : ∀ p ∈ tripL (F := Ideal) c i arg2 harg2 arg3 harg3 arg4 harg4 arg5 harg5 arg6 harg6 arg7 harg7 arg8 harg8 arg9 harg9 arg10 arg11 harg11 k0_h2 X6 X9 k,
    PieceOk (arg9.view.read (Elt Ideal) X9) (arg6.view.read (Elt Ideal) X6) p := by
  unfold tripL trip; dsimp only
  repeat' (refine List.forall_mem_cons.2 ⟨?_, ?_⟩)
  all_goals first
    | exact List.forall_mem_nil _
    | (try dsimp only [trip.sl.r_19, trip.sl.r_20, trip.sl.r_21, trip.sl.r_22, trip.sl.r_14, k0_pay34, k0_pay33, trip.sl.r_11, trip.sl.r_13, k0_pay32])
      exact pieceOk k arg6 arg9 X6 X9 _ _ _ _ _ _ _ _ (by decide) (by decide) (by decide) _ (by decide) (by decide) rfl (by exact rfl) (by exact rfl) rfl

end Cert.KernelIdeal.Hand

end
-- ==== Proof.KernelIdealDecoded.lean ====
/-
  The pieces that the trips of `KernelIdeal`'s decoding loop write fill the decoded tile, so that after the loop it holds the
  decoded weights whatever it held before.
-/
module

public import proofs.«01_k».proof.Proof.KernelIdealDecode

@[expose] public section

set_option maxRecDepth 65536

noncomputable section

namespace Cert.KernelIdeal.Hand

open Cert.KernelIdeal.Gen Cert.KernelIdeal.Facts Cert.KernelIdeal
open Idealize.ShloMosaic Idealize.ShloMosaic.TcCoe Idealize.ShloMosaic.Pointwise

variable (k : Fin k0_t1_loop.trips)
  (arg6 : Memref sig .tc .vmem S1024x384 .bf16) (arg9 : Memref sig .tc .vmem S2x3x1024x8x128 .i8)
  (X6 : BufTy.Contents (Elt Ideal) arg6.view.ty) (X9 : BufTy.Contents (Elt Ideal) arg9.view.ty)
variable (c : Dev nD) (i : grid0.Coords)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole) (arg5 : Memref sig .tc .hbm S10240x16x384 .i8) (harg5 : arg5.IsWhole)
  (harg6 : arg6.IsWhole) (arg7 : Memref sig .tc .vmem S256x8x128 .bf16) (harg7 : arg7.IsWhole)
  (arg8 : Memref sig .tc .vmem S48x512x2x256 .bf16) (harg8 : arg8.IsWhole) (harg9 : arg9.IsWhole)
  (arg10 : DmaSems sig S_) (arg11 : Memref sig .tc .vmem S1024x2x128 .bf16) (harg11 : arg11.IsWhole) (k0_h2 : k0_cond2 i = 1#1)
  (G8 : BufTy.Contents (Elt Ideal) arg8.view.ty)

/-- Where the pieces of a trip lie: `q` counts them from the first. -/
def pieceOff (k q : ℕ) : Fin 4 → ℕ := ![((q / 8 % 4) * 3 + q / 32) * 4 + q % 8 / 2, 8 * k, 0, 128 * (q % 2)]

set_option maxHeartbeats 1000000 in
theorem trip_off : (tripL (F := Ideal) c i arg2 harg2 arg3 harg3 arg4 harg4 arg5 harg5 arg6 harg6 arg7 harg7 arg8 harg8 arg9 harg9 arg10 arg11 harg11 k0_h2 X6 X9 k).map (fun p => p.1.off)
    = (List.range 96).reverse.map (pieceOff k.val) := by
  have hr : (List.range 96).reverse = [95, 94, 93, 92, 91, 90, 89, 88, 87, 86, 85, 84, 83, 82, 81, 80, 79, 78, 77, 76, 75, 74, 73, 72, 71, 70, 69, 68, 67, 66, 65, 64, 63, 62, 61, 60, 59, 58, 57, 56, 55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0] := by decide
  rw [hr]
  unfold tripL trip
  simp only [List.map_cons, List.map_nil, Rect.off_unit]
  repeat' (refine congrArg₂ List.cons ?_ ?_)
  all_goals first
    | exact ClosedOff.eq
    | rfl

theorem trip_cover (y : S48x512x2x256.Idx) (hy : (y 1).val / 8 = k.val) :
    ∃ p ∈ tripL (F := Ideal) c i arg2 harg2 arg3 harg3 arg4 harg4 arg5 harg5 arg6 harg6 arg7 harg7 arg8 harg8 arg9 harg9 arg10 arg11 harg11 k0_h2 X6 X9 k, y ∈ p.1.set := by
  have h0 : (y 0).val < 48 := (y 0).isLt
  have h1 : (y 1).val < 512 := (y 1).isLt
  have h2 : (y 2).val < 2 := (y 2).isLt
  have h3 : (y 3).val < 256 := (y 3).isLt
  obtain ⟨q, hq⟩ : ∃ q, q = ((y 0).val / 4 % 3) * 32 + ((y 0).val / 12) * 8 + (y 0).val % 4 * 2 + (y 3).val / 128 := ⟨_, rfl⟩
  have q1 : q / 32 = (y 0).val / 4 % 3 := by omega
  have q2 : q / 8 % 4 = (y 0).val / 12 := by omega
  have q3 : q % 8 / 2 = (y 0).val % 4 := by omega
  have q4 : q % 2 = (y 3).val / 128 := by omega
  have hm : pieceOff k.val q ∈ (List.range 96).reverse.map (pieceOff k.val) :=
    List.mem_map_of_mem (List.mem_reverse.2 (List.mem_range.2 (by omega)))
  rw [← trip_off (k := k) (arg6 := arg6) (arg9 := arg9) (X6 := X6) (X9 := X9) (c := c) (i := i) (arg2 := arg2) (harg2 := harg2) (arg3 := arg3) (harg3 := harg3) (arg4 := arg4) (harg4 := harg4) (arg5 := arg5) (harg5 := harg5) (harg6 := harg6) (arg7 := arg7) (harg7 := harg7) (arg8 := arg8) (harg8 := harg8) (harg9 := harg9) (arg10 := arg10) (arg11 := arg11) (harg11 := harg11) (k0_h2 := k0_h2), List.mem_map] at hm
  obtain ⟨p, hp, ho⟩ := hm
  refine ⟨p, hp, ?_⟩
  obtain ⟨⟨hs, ht⟩, -⟩ := trip_ok k arg6 arg9 X6 X9 c i arg2 harg2 arg3 harg3 arg4 harg4 arg5 harg5 harg6 arg7 harg7 arg8 harg8 harg9 arg10 arg11 harg11 k0_h2 p hp
  rw [LoadRect.mem_set, ho, hs, ht]
  intro a
  match a with
  | ⟨0, _⟩ => exact ⟨0, Nat.one_pos, by show (y 0).val = (q / 8 % 4 * 3 + q / 32) * 4 + q % 8 / 2 + 1 * 0; rw [q1, q2, q3]; omega⟩
  | ⟨1, _⟩ => exact ⟨(y 1).val % 8, Nat.mod_lt _ (by decide), by show (y 1).val = 8 * k.val + 1 * ((y 1).val % 8); omega⟩
  | ⟨2, _⟩ => exact ⟨(y 2).val, h2, by show (y 2).val = 0 + 1 * (y 2).val; omega⟩
  | ⟨3, _⟩ => exact ⟨(y 3).val % 128, Nat.mod_lt _ (by decide), by show (y 3).val = 128 * (q % 2) + 1 * ((y 3).val % 128); omega⟩

/-- The decoded tile after the loop, whatever it held before. -/
theorem read_pieces : arg8.view.read (Elt Ideal) (arg8.view.writes (Elt Ideal) G8 (pieces (F := Ideal) c i arg2 harg2 arg3 harg3 arg4 harg4 arg5 harg5 arg6 harg6 arg7 harg7 arg8 harg8 arg9 harg9 arg10 arg11 harg11 k0_h2 X6 X9 k0_t1_loop.trips))
    = wTile (arg9.view.read (Elt Ideal) X9) (arg6.view.read (Elt Ideal) X6) := by
  have ok : ∀ n, ∀ p ∈ pieces (F := Ideal) c i arg2 harg2 arg3 harg3 arg4 harg4 arg5 harg5 arg6 harg6 arg7 harg7 arg8 harg8 arg9 harg9 arg10 arg11 harg11 k0_h2 X6 X9 n, PieceOk (arg9.view.read (Elt Ideal) X9) (arg6.view.read (Elt Ideal) X6) p := by
    intro n
    induction n with
    | zero => intro p hp; rw [pieces.eq_1] at hp; exact absurd hp List.not_mem_nil
    | succ n ih =>
      intro p hp
      rw [pieces.eq_2] at hp
      split at hp
      · rcases List.mem_append.1 hp with h | h
        · exact trip_ok _ arg6 arg9 X6 X9 c i arg2 harg2 arg3 harg3 arg4 harg4 arg5 harg5 harg6 arg7 harg7 arg8 harg8 harg9 arg10 arg11 harg11 k0_h2 p h
        · exact ih p h
      · exact ih p hp
  have sub : ∀ n (m : Fin k0_t1_loop.trips), m.val < n → ∀ p ∈ tripL (F := Ideal) c i arg2 harg2 arg3 harg3 arg4 harg4 arg5 harg5 arg6 harg6 arg7 harg7 arg8 harg8 arg9 harg9 arg10 arg11 harg11 k0_h2 X6 X9 m,
      p ∈ pieces (F := Ideal) c i arg2 harg2 arg3 harg3 arg4 harg4 arg5 harg5 arg6 harg6 arg7 harg7 arg8 harg8 arg9 harg9 arg10 arg11 harg11 k0_h2 X6 X9 n := by
    intro n
    induction n with
    | zero => intro m hm; omega
    | succ n ih =>
      intro m hm p hp
      rw [pieces.eq_2]
      split
      · rename_i hn
        rcases Nat.lt_or_eq_of_le (Nat.le_of_lt_succ hm) with h | h
        · exact List.mem_append_right _ (ih m h p hp)
        · obtain rfl : m = ⟨n, hn⟩ := Fin.ext h
          exact List.mem_append_left _ hp
      · rename_i hn
        exact ih m (by have := m.isLt; omega) p hp
  funext y
  refine View.read_writes_apply_of_pieces _ _ _ _ (fun p hp => (ok _ p hp).2) y ?_
  have ht : k0_t1_loop.trips = 64 := by decide
  have h1 : (y 1).val < 512 := (y 1).isLt
  obtain ⟨p, hp, hy⟩ := trip_cover ⟨(y 1).val / 8, by omega⟩ arg6 arg9 X6 X9 c i arg2 harg2 arg3 harg3 arg4 harg4 arg5 harg5 harg6 arg7 harg7 arg8 harg8 harg9 arg10 arg11 harg11 k0_h2 y rfl
  exact ⟨p, sub _ _ (Fin.isLt _) p hp, hy⟩

end Cert.KernelIdeal.Hand

end
-- ==== Proof.KernelIdealTailValue.lean ====
/-
  The value of `KernelIdeal`'s body after its first part: the products over the activations' chunks as one recursion, for both
  halves of the tile's columns.
-/
module

public import proofs.«01_k».proof.Proof.KernelIdealTail
public import Idealize.ShloMosaic.Lib.Pointwise
public import Idealize.ShloMosaic.Lib.BitcastPair

@[expose] public section

set_option maxRecDepth 65536

noncomputable section

namespace Cert.KernelIdeal.Hand

open Cert.KernelIdeal.Gen Cert.KernelIdeal.Facts Cert.KernelIdeal
open Idealize.ShloMosaic Idealize.ShloMosaic.TcCoe Idealize.ShloMosaic.Pointwise

variable {F : FTy → Type} [FloatOps F]

/-- Chunk `n` of the activations' block lies in it, -/
theorem inbA (n : ℕ) (h : n < 48) : ∀ a, (![0, n, 0, 0] : Fin 4 → ℕ) a + S1x1x128x256.size a ≤ S1x48x128x256.size a := by
  intro a; fin_cases a <;> simp [S1x1x128x256, S1x48x128x256] <;> omega
/-- and so does a half of the decoded tile's chunk `n` in the tile. -/
theorem inbW (n half : ℕ) (h : n < 48) (hh : half < 2) : ∀ a, (![n, 256 * half, 0, 0] : Fin 4 → ℕ) a + S1x256x2x256.size a ≤ S48x512x2x256.size a := by
  intro a; fin_cases a <;> simp [S1x256x2x256, S48x512x2x256] <;> omega

section Chain
variable (arg2 : Memref sig .tc .vmem S1x48x128x256 .i32) (arg3 : Memref sig .tc .vmem S256x128 .f32) (arg4 : Memref sig .tc .vmem S256x128 .f32)
  (arg8 : Memref sig .tc .vmem S48x512x2x256 .bf16)
  (X2 : BufTy.Contents (Elt F) arg2.view.ty) (G8 : BufTy.Contents (Elt F) arg8.view.ty)
  (X3 : BufTy.Contents (Elt F) arg3.view.ty) (X4 : BufTy.Contents (Elt F) arg4.view.ty)

/-- A chunk of activations, loaded, -/
abbrev ldA (n : ℕ) (h : n < 48) : Vec F S1x1x128x256 .i32 := View.readAt (Elt F) arg2.view (Rect.unit (s := S1x48x128x256) ![0, n, 0, 0] S1x1x128x256.size (inbA n h)).toLoadRect X2
/-- and a half of a decoded chunk. -/
abbrev ldW (n half : ℕ) (h : n < 48) (hh : half < 2) : Vec F S1x256x2x256 .bf16 := View.readAt (Elt F) arg8.view (Rect.unit (s := S48x512x2x256) ![n, 256 * half, 0, 0] S1x256x2x256.size (inbW n half h hh)).toLoadRect G8

/-- The product of a chunk of activations with half a decoded chunk. -/
def prodP (v : Vec F S1x1x128x256 .i32) (w : Vec F S1x256x2x256 .bf16) : FVec F S256x512 .f32 :=
  matmul dot_S256x256_S512x256_S256x512_1_1_0_0_n_n none (k0_pay281 v) (k0_pay282 w) (constant S256x512 .f32 0x00000000#32)

/-- The sum of the first `n` chunks' products. -/
def accG (half : ℕ) (hh : half < 2) : (n : ℕ) → n ≤ 48 → FVec F S256x512 .f32
  | 0, _ => k0_pay280
  | n + 1, h => addf (accG half hh n (Nat.le_of_succ_le h)) (prodP (ldA arg2 X2 n h) (ldW arg8 G8 n half h hh))

/-- A head's columns of the sum. -/
def headG (half : ℕ) (hh : half < 2) (w : ℕ) (hw : S256x512.Slices ![0, w] S256x128) : FVec F S256x128 .f32 := extractStridedSlice S256x128 ![0, w] (accG arg2 arg8 X2 G8 half hh 48 (Nat.le_refl 48)) hw

/-- The cosines' block, loaded, -/
abbrev ldC : Vec F S256x128 .f32 := View.readAt (Elt F) arg3.view (Rect.unit (s := S256x128) ![0, 0] S256x128.size inb_S256x128_S256x128_0_0).toLoadRect X3

/-- Two heads rotated and laid side by side: what one of the stores into the staged words writes. -/
def rowG (half : ℕ) (hh : half < 2) (w0 w1 : ℕ) (h0 : S256x512.Slices ![0, w0] S256x128) (h1 : S256x512.Slices ![0, w1] S256x128) : Vec F S256x2x128 .bf16 :=
  k0_pay323 (k0_pay317 (headG arg2 arg8 X2 G8 half hh w0 h0) (ldC arg3 X3) (ldC arg4 X4))
    (k0_pay317 (headG arg2 arg8 X2 G8 half hh w1 h1) (ldC arg3 X3) (ldC arg4 X4))

/-- The sums as the run names them. -/
theorem acc_lo : tail.sl.r_31 arg2 arg8 X2 G8 = accG arg2 arg8 X2 G8 0 (by decide) 46 (by decide) := rfl
theorem acc_hi : tail.sl.r_73 arg2 arg8 X2 G8 = accG arg2 arg8 X2 G8 1 (by decide) 45 (by decide) := rfl

/-- The pieces of the staged words. -/
def staged : List (View.Piece (Elt F) S1024x2x128 .bf16) :=
  [⟨{ off := ![3, 0, 0], size := S256x2x128.size, stride := ![4, 1, 1], inb := inb_S1024x2x128_S256x2x128_3_0_0_s_4_1_1, stride_pos := spos_4_1_1 },
      rowG arg2 arg3 arg4 arg8 X2 G8 X3 X4 1 (by decide) 256 384 slices_S256x512_o0_256_S256x128 slices_S256x512_o0_384_S256x128⟩,
    ⟨{ off := ![2, 0, 0], size := S256x2x128.size, stride := ![4, 1, 1], inb := inb_S1024x2x128_S256x2x128_2_0_0_s_4_1_1, stride_pos := spos_4_1_1 },
      rowG arg2 arg3 arg4 arg8 X2 G8 X3 X4 1 (by decide) 0 128 slices_S256x512_o0_0_S256x128 slices_S256x512_o0_128_S256x128⟩,
    ⟨{ off := ![1, 0, 0], size := S256x2x128.size, stride := ![4, 1, 1], inb := inb_S1024x2x128_S256x2x128_1_0_0_s_4_1_1, stride_pos := spos_4_1_1 },
      rowG arg2 arg3 arg4 arg8 X2 G8 X3 X4 0 (by decide) 256 384 slices_S256x512_o0_256_S256x128 slices_S256x512_o0_384_S256x128⟩,
    ⟨{ off := ![0, 0, 0], size := S256x2x128.size, stride := ![4, 1, 1], inb := inb_S1024x2x128_S256x2x128_0_0_0_s_4_1_1, stride_pos := spos_4_1_1 },
      rowG arg2 arg3 arg4 arg8 X2 G8 X3 X4 0 (by decide) 0 128 slices_S256x512_o0_0_S256x128 slices_S256x512_o0_128_S256x128⟩]
theorem staged_eq : tail.sl.H11_4 arg2 arg3 arg4 arg8 X2 G8 X3 X4 = staged arg2 arg3 arg4 arg8 X2 G8 X3 X4 := rfl

end Chain

section Out
variable (i : grid0.Coords)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole)
  (arg6 : Memref sig .tc .vmem S1024x384 .bf16) (harg6 : arg6.IsWhole) (arg7 : Memref sig .tc .vmem S256x8x128 .bf16) (harg7 : arg7.IsWhole)
  (arg8 : Memref sig .tc .vmem S48x512x2x256 .bf16) (harg8 : arg8.IsWhole)
  (arg11 : Memref sig .tc .vmem S1024x2x128 .bf16) (harg11 : arg11.IsWhole)
  (X2 : BufTy.Contents (Elt F) arg2.view.ty) (G8 : BufTy.Contents (Elt F) arg8.view.ty)
  (X3 : BufTy.Contents (Elt F) arg3.view.ty) (X4 : BufTy.Contents (Elt F) arg4.view.ty) (X11 : BufTy.Contents (Elt F) arg11.view.ty) (c : Dev nD)

/-- The one piece that the rest of the body writes to the block of results. -/
theorem tail_pieces : (tail (F := F) i arg2 harg2 arg3 harg3 arg4 harg4 arg6 harg6 arg7 harg7 arg8 harg8 arg11 harg11 X2 G8 X3 X4 X11 c).1
    = [⟨Rect.unit (s := S256x8x128) ![0, 0, 0] S256x8x128.size inb_S256x8x128_S256x8x128_0_0_0, k0_pay2 (View.readAt (Elt F) arg11.view (Rect.unit (s := S1024x2x128) ![0, 0, 0] S1024x2x128.size inb_S1024x2x128_S1024x2x128_0_0_0).toLoadRect
        (arg11.view.writes (Elt F) X11 (staged arg2 arg3 arg4 arg8 X2 G8 X3 X4)))⟩] := by
  rw [← staged_eq]
  unfold tail
  rfl

end Out

section Values
open Idealize.ShloMosaic (Ideal)

/-- The activation of token `t` in the words of a chunk: the half of the word that the token's parity names. -/
def actS (x2 : S1x48x128x256.Idx → BitVec 32) (cc : Fin 48) (t : Fin 256) (l : Fin 256) : EReal :=
  Ideal.ofBits .bf16 ((x2 (ix4 0 cc ⟨t.val / 2, by omega⟩ l)).extractLsb' (16 * (t.val % 2)) 16)

theorem lhs_bits (v : IVec S1x1x128x256 32) (t x : Fin 256) :
    bitcast S256x256 16 (shapeCast S128x256 v shapeCasts_S1x1x128x256_S128x256) bitcasts_S128x256_w32_S256x256_w16 (ix2 t x)
      = (v (ix4 0 0 ⟨t.val / 2, by omega⟩ x)).extractLsb' (16 * (t.val % 2)) 16 := by
  rw [bitcast_32_16]
  have hm : S256x256.row (ix2 t x) % 2 = t.val % 2 := rfl
  have ei : ∀ hh, (bitcasts_S128x256_w32_S256x256_w16).srcIdx (ix2 t x) (S256x256.row (ix2 t x) / 2) hh = ix2 ⟨t.val / 2, by omega⟩ x := by
    intro hh
    funext c
    match c with
    | ⟨0, _⟩ => rfl
    | ⟨1, _⟩ => rfl
  rw [ei]
  pointwise []

/-- A chunk's product at an element. -/
theorem prod_at (v : Vec Ideal S1x1x128x256 .i32) (w : Vec Ideal S1x256x2x256 .bf16) (t : Fin 256) (n : Fin 512) :
    prodP v w (ix2 t n) = ∑ l : Fin 256, Ideal.ofBits .bf16 ((v (ix4 0 0 ⟨t.val / 2, by omega⟩ l)).extractLsb' (16 * (t.val % 2)) 16) * w (ix4 0 ⟨n.val / 2, by omega⟩ ⟨n.val % 2, by omega⟩ l) := by
  unfold prodP k0_pay281 k0_pay282
  pointwise []
  refine Finset.sum_congr rfl fun l _ => ?_
  rw [lhs_bits]
  congr 1
  rcases Nat.mod_two_eq_zero_or_one n.val with h | h
  · rw [if_pos h]; congr 2; exact Fin.ext h.symm
  · rw [if_neg (by omega)]; congr 2; exact Fin.ext h.symm

/-- The lane that a lane of a head is rotated with: its neighbour in the pair. -/
def pairOf (l : Fin 128) : Fin 128 := if l.val % 2 = 0 then ⟨(l.val + 1) % 128, Nat.mod_lt _ (by decide)⟩ else ⟨(l.val + 127) % 128, Nat.mod_lt _ (by decide)⟩

theorem even_sel : ∀ l : Fin 128, (IntOp.cmpi CmpIPredicate.eq
            (Scalar.select
              (IntOp.andi
                (IntOp.xori
                  (IntOp.cmpi CmpIPredicate.slt
                    (IntOp.remsi ArithUnit.vector (BitVec.ofNat 32 l.val)
                      (Scalar.select (Scalar.cmpi CmpIPredicate.eq 2#32 0#32) 1#32 2#32))
                    0#32)
                  (Scalar.cmpi CmpIPredicate.slt (Scalar.select (Scalar.cmpi CmpIPredicate.eq 2#32 0#32) 1#32 2#32)
                    0#32))
                (IntOp.cmpi CmpIPredicate.ne
                  (IntOp.remsi ArithUnit.vector (BitVec.ofNat 32 l.val)
                    (Scalar.select (Scalar.cmpi CmpIPredicate.eq 2#32 0#32) 1#32 2#32))
                  0#32))
              (IntOp.addi
                (IntOp.remsi ArithUnit.vector (BitVec.ofNat 32 l.val)
                  (Scalar.select (Scalar.cmpi CmpIPredicate.eq 2#32 0#32) 1#32 2#32))
                (Scalar.select (Scalar.cmpi CmpIPredicate.eq 2#32 0#32) 1#32 2#32))
              (IntOp.remsi ArithUnit.vector (BitVec.ofNat 32 l.val)
                (Scalar.select (Scalar.cmpi CmpIPredicate.eq 2#32 0#32) 1#32 2#32)))
            0#32) = if l.val % 2 = 0 then 1#1 else 0#1 := by decide

/-- The rotation of a head at an element. -/
theorem rot_at (y : FVec Ideal S256x128 .f32) (cs sn : Vec Ideal S256x128 .f32) (t : Fin 256) (l : Fin 128) :
    k0_pay317 y cs sn (ix2 t l) = y (ix2 t l) * cs (ix2 t l) + y (ix2 t (pairOf l)) * sn (ix2 t l) := by
  unfold k0_pay317
  pointwise []
  rw [even_sel]
  unfold pairOf
  by_cases h : l.val % 2 = 0
  · rw [if_pos h, if_pos h]; rfl
  · rw [if_neg h, if_neg h]; rfl

/-- Two heads side by side, at an element. -/
theorem row_at (a b : FVec Ideal S256x128 .f32) (t : Fin 256) (p : Fin 2) (l : Fin 128) : k0_pay323 a b (ix3 t p l) = (if p.val % 2 = 0 then a else b) (ix2 t l) := by
  unfold k0_pay323
  pointwise []
  split <;> rfl

/-- The staged words as the block of results, at an element. -/
theorem out_at (v : Vec Ideal S1024x2x128 .bf16) (t : Fin 256) (h : Fin 8) (l : Fin 128) : k0_pay2 v (ix3 t h l) = v (ix3 ⟨4 * t.val + h.val / 2, by omega⟩ ⟨h.val % 2, by omega⟩ l) := by
  unfold k0_pay2
  pointwise []
  have e : (⟨(t.val * 8 + h.val) / 2, by omega⟩ : Fin 1024) = ⟨4 * t.val + h.val / 2, by omega⟩ := Fin.ext (by show (t.val * 8 + h.val) / 2 = 4 * t.val + h.val / 2; omega)
  rw [e]
  rcases Nat.mod_two_eq_zero_or_one h.val with h' | h'
  · rw [if_pos (by omega)]; congr 2; exact Fin.ext h'.symm
  · rw [if_neg (by omega)]; congr 2; exact Fin.ext h'.symm

/-- The product of the activations with the decoded tile, over all of the chunks. -/
def rowSum (x2 : S1x48x128x256.Idx → BitVec 32) (w : S48x512x2x256.Idx → EReal) (t : Fin 256) (n : Fin 1024) : EReal :=
  ∑ cc : Fin 48, ∑ l : Fin 256, actS x2 cc t l * w (ix4 cc ⟨n.val / 2, by omega⟩ ⟨n.val % 2, by omega⟩ l)

/-- The block of results: every head rotated. -/
def outS (x2 : S1x48x128x256.Idx → BitVec 32) (w : S48x512x2x256.Idx → EReal) (cs sn : S256x128.Idx → EReal) (t : Fin 256) (h : Fin 8) (l : Fin 128) : EReal :=
  rowSum x2 w t ⟨128 * h.val + l.val, by omega⟩ * cs (ix2 t l) + rowSum x2 w t ⟨128 * h.val + (pairOf l).val, by omega⟩ * sn (ix2 t l)

variable (i : grid0.Coords)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole)
  (arg6 : Memref sig .tc .vmem S1024x384 .bf16) (harg6 : arg6.IsWhole) (arg7 : Memref sig .tc .vmem S256x8x128 .bf16) (harg7 : arg7.IsWhole)
  (arg8 : Memref sig .tc .vmem S48x512x2x256 .bf16) (harg8 : arg8.IsWhole)
  (arg11 : Memref sig .tc .vmem S1024x2x128 .bf16) (harg11 : arg11.IsWhole)
  (X2 : BufTy.Contents (Elt Ideal) arg2.view.ty) (G8 : BufTy.Contents (Elt Ideal) arg8.view.ty)
  (X3 : BufTy.Contents (Elt Ideal) arg3.view.ty) (X4 : BufTy.Contents (Elt Ideal) arg4.view.ty) (X11 : BufTy.Contents (Elt Ideal) arg11.view.ty) (c : Dev nD)

theorem ldA_at (n : ℕ) (h : n < 48) (r : Fin 128) (l : Fin 256) : ldA arg2 X2 n h (ix4 0 0 r l) = arg2.view.read (Elt Ideal) X2 (ix4 0 ⟨n, h⟩ r l) := by
  show arg2.view.read (Elt Ideal) X2 _ = _
  congr 1
  funext a
  match a with
  | ⟨0, _⟩ => rfl
  | ⟨1, _⟩ => exact Fin.ext (by show n + 1 * 0 = n; omega)
  | ⟨2, _⟩ => exact Fin.ext (by show 0 + 1 * r.val = r.val; omega)
  | ⟨3, _⟩ => exact Fin.ext (by show 0 + 1 * l.val = l.val; omega)

theorem ldW_at (n half : ℕ) (h : n < 48) (hh : half < 2) (r : Fin 256) (p : Fin 2) (l : Fin 256) :
    ldW arg8 G8 n half h hh (ix4 0 r p l) = arg8.view.read (Elt Ideal) G8 (ix4 ⟨n, h⟩ ⟨256 * half + r.val, by omega⟩ p l) := by
  show arg8.view.read (Elt Ideal) G8 _ = _
  congr 1
  funext a
  match a with
  | ⟨0, _⟩ => exact Fin.ext (by show n + 1 * 0 = n; omega)
  | ⟨1, _⟩ => exact Fin.ext (by show 256 * half + 1 * r.val = 256 * half + r.val; omega)
  | ⟨2, _⟩ => exact Fin.ext (by show 0 + 1 * p.val = p.val; omega)
  | ⟨3, _⟩ => exact Fin.ext (by show 0 + 1 * l.val = l.val; omega)

/-- The sum over the chunks at an element. -/
theorem acc_at (half : ℕ) (hh : half < 2) (t : Fin 256) (k : Fin 512) : ∀ (n : ℕ) (h : n ≤ 48),
    accG arg2 arg8 X2 G8 half hh n h (ix2 t k)
      = ∑ cc : Fin n, ∑ l : Fin 256, actS (arg2.view.read (Elt Ideal) X2) ⟨cc.val, by omega⟩ t l * arg8.view.read (Elt Ideal) G8 (ix4 ⟨cc.val, by omega⟩ ⟨256 * half + k.val / 2, by omega⟩ ⟨k.val % 2, by omega⟩ l) := by
  intro n
  induction n with
  | zero =>
    intro h
    rw [accG, Fin.sum_univ_zero]
    unfold k0_pay280
    pointwise []
  | succ n ih =>
    intro h
    rw [accG, Fin.sum_univ_castSucc]
    show accG arg2 arg8 X2 G8 half hh n _ (ix2 t k) + prodP _ _ (ix2 t k) = _
    rw [ih, prod_at]
    congr 1
    refine Finset.sum_congr rfl fun l _ => ?_
    rw [ldA_at, ldW_at]
    rfl

theorem acc_sum (half : ℕ) (hh : half < 2) (t : Fin 256) (k : Fin 512) :
    accG arg2 arg8 X2 G8 half hh 48 (Nat.le_refl 48) (ix2 t k) = rowSum (arg2.view.read (Elt Ideal) X2) (arg8.view.read (Elt Ideal) G8) t ⟨512 * half + k.val, by omega⟩ := by
  rw [acc_at]
  unfold rowSum
  refine Finset.sum_congr rfl fun cc _ => Finset.sum_congr rfl fun l _ => ?_
  congr 3
  · exact Fin.ext (by show 256 * half + k.val / 2 = (512 * half + k.val) / 2; omega)
  · exact Fin.ext (by show k.val % 2 = (512 * half + k.val) % 2; omega)

/-- A head of a half at an element. -/
theorem head_at (half : ℕ) (hh : half < 2) (w : ℕ) (hw : S256x512.Slices ![0, w] S256x128) (hw' : w + 128 ≤ 512) (t : Fin 256) (l : Fin 128) :
    headG arg2 arg8 X2 G8 half hh w hw (ix2 t l) = rowSum (arg2.view.read (Elt Ideal) X2) (arg8.view.read (Elt Ideal) G8) t ⟨512 * half + (w + l.val), by omega⟩ := by
  rw [← acc_sum arg2 arg8 X2 G8 half hh t ⟨w + l.val, by omega⟩]
  unfold headG
  show accG arg2 arg8 X2 G8 half hh 48 _ _ = _
  congr 1
  funext a
  match a with
  | ⟨0, _⟩ => exact Fin.ext (by show 0 + t.val = t.val; omega)
  | ⟨1, _⟩ => rfl

theorem ldC_at (arg3 : Memref sig .tc .vmem S256x128 .f32) (X3 : BufTy.Contents (Elt Ideal) arg3.view.ty) (t : Fin 256) (l : Fin 128) : ldC arg3 X3 (ix2 t l) = arg3.view.read (Elt Ideal) X3 (ix2 t l) := by
  show arg3.view.read (Elt Ideal) X3 _ = _
  congr 1
  funext a
  match a with
  | ⟨0, _⟩ => exact Fin.ext (by show 0 + 1 * t.val = t.val; omega)
  | ⟨1, _⟩ => exact Fin.ext (by show 0 + 1 * l.val = l.val; omega)

/-- Two heads of a half, staged side by side, at an element. -/
theorem rowG_at (half : ℕ) (hh : half < 2) (w : ℕ) (hw : w < 2) (h0 : S256x512.Slices ![0, 256 * w] S256x128) (h1 : S256x512.Slices ![0, 256 * w + 128] S256x128) (t : Fin 256) (p : Fin 2) (l : Fin 128) :
    rowG arg2 arg3 arg4 arg8 X2 G8 X3 X4 half hh (256 * w) (256 * w + 128) h0 h1 (ix3 t p l)
      = outS (arg2.view.read (Elt Ideal) X2) (arg8.view.read (Elt Ideal) G8) (arg3.view.read (Elt Ideal) X3) (arg4.view.read (Elt Ideal) X4) t ⟨4 * half + 2 * w + p.val, by omega⟩ l := by
  unfold rowG outS
  rw [row_at]
  rcases Nat.mod_two_eq_zero_or_one p.val with h | h
  · rw [if_pos h, rot_at, head_at _ _ _ _ _ _ _ _ (by omega), head_at _ _ _ _ _ _ _ _ (by omega), ldC_at, ldC_at]
    congr 3
    · exact Fin.ext (by show 512 * half + (256 * w + l.val) = 128 * (4 * half + 2 * w + p.val) + l.val; omega)
    · exact Fin.ext (by show 512 * half + (256 * w + (pairOf l).val) = 128 * (4 * half + 2 * w + p.val) + (pairOf l).val; omega)
  · rw [if_neg (by omega), rot_at, head_at _ _ _ _ _ _ _ _ (by omega), head_at _ _ _ _ _ _ _ _ (by omega), ldC_at, ldC_at]
    congr 3
    · exact Fin.ext (by show 512 * half + (256 * w + 128 + l.val) = 128 * (4 * half + 2 * w + p.val) + l.val; omega)
    · exact Fin.ext (by show 512 * half + (256 * w + 128 + (pairOf l).val) = 128 * (4 * half + 2 * w + p.val) + (pairOf l).val; omega)

/-- The staged words, all of them, as one function of the index. -/
def stagedS : S1024x2x128.Idx → EReal := fun y =>
  outS (arg2.view.read (Elt Ideal) X2) (arg8.view.read (Elt Ideal) G8) (arg3.view.read (Elt Ideal) X3) (arg4.view.read (Elt Ideal) X4)
    ⟨(y 0).val / 4, by have := (y 0).isLt; change (y 0).val < 1024 at this; omega⟩ ⟨2 * ((y 0).val % 4) + (y 1).val, by have := (y 1).isLt; change (y 1).val < 2 at this; omega⟩ (y 2)

theorem stagedS_emb (r : ℕ) (hr : r < 4) (half w : ℕ) (hh : half < 2) (hw : w < 2) (er : r = 2 * half + w) (inb spos) (h0 h1) (x : Shape.Idx ⟨3, S256x2x128.size⟩) :
    rowG arg2 arg3 arg4 arg8 X2 G8 X3 X4 half hh (256 * w) (256 * w + 128) h0 h1 x
      = stagedS arg2 arg3 arg4 arg8 X2 G8 X3 X4 (Rect.emb (s := S1024x2x128) { off := ![r, 0, 0], size := S256x2x128.size, stride := ![4, 1, 1], inb := inb, stride_pos := spos } x) := by
  obtain ⟨a, b, d, rfl⟩ : ∃ (a : Fin 256) (b : Fin 2) (d : Fin 128), x = (ix3 a b d : S256x2x128.Idx) :=
    ⟨x 0, x 1, x 2, by funext a; match a with | ⟨0, _⟩ => rfl | ⟨1, _⟩ => rfl | ⟨2, _⟩ => rfl⟩
  refine (rowG_at arg2 arg3 arg4 arg8 X2 G8 X3 X4 half hh w hw h0 h1 a b d).trans ?_
  unfold stagedS
  congr 1
  · exact Fin.ext (by show a.val = (r + 4 * a.val) / 4; omega)
  · exact Fin.ext (by show 4 * half + 2 * w + b.val = 2 * ((r + 4 * a.val) % 4) + (0 + 1 * b.val); omega)
  · exact Fin.ext (by show d.val = 0 + 1 * d.val; omega)

theorem staged_ok : ∀ p ∈ staged arg2 arg3 arg4 arg8 X2 G8 X3 X4, ∀ x, p.2 x = stagedS arg2 arg3 arg4 arg8 X2 G8 X3 X4 (p.1.emb x) := by
  unfold staged
  refine List.forall_mem_cons.2 ⟨?_, List.forall_mem_cons.2 ⟨?_, List.forall_mem_cons.2 ⟨?_, List.forall_mem_cons.2 ⟨?_, List.forall_mem_nil _⟩⟩⟩⟩
  · exact stagedS_emb arg2 arg3 arg4 arg8 X2 G8 X3 X4 3 (by decide) 1 1 (by decide) (by decide) rfl _ _ _ _
  · exact stagedS_emb arg2 arg3 arg4 arg8 X2 G8 X3 X4 2 (by decide) 1 0 (by decide) (by decide) rfl _ _ _ _
  · exact stagedS_emb arg2 arg3 arg4 arg8 X2 G8 X3 X4 1 (by decide) 0 1 (by decide) (by decide) rfl _ _ _ _
  · exact stagedS_emb arg2 arg3 arg4 arg8 X2 G8 X3 X4 0 (by decide) 0 0 (by decide) (by decide) rfl _ _ _ _

theorem staged_cover (y : S1024x2x128.Idx) : ∃ p ∈ staged arg2 arg3 arg4 arg8 X2 G8 X3 X4, y ∈ p.1.set := by
  have l0 : (y 0).val < 1024 := (y 0).isLt
  have l1 : (y 1).val < 2 := (y 1).isLt
  have l2 : (y 2).val < 128 := (y 2).isLt
  have key : ∀ r, r = (y 0).val % 4 → ∀ a : Fin 3, ∃ k, k < S256x2x128.size a ∧ (y a).val = (![r, 0, 0] : Fin 3 → ℕ) a + (![4, 1, 1] : Fin 3 → ℕ) a * k := by
    intro r hr a
    match a with
    | ⟨0, _⟩ => exact ⟨(y 0).val / 4, by show (y 0).val / 4 < 256; omega, by show (y 0).val = r + 4 * ((y 0).val / 4); omega⟩
    | ⟨1, _⟩ => exact ⟨(y 1).val, l1, by show (y 1).val = 0 + 1 * (y 1).val; omega⟩
    | ⟨2, _⟩ => exact ⟨(y 2).val, l2, by show (y 2).val = 0 + 1 * (y 2).val; omega⟩
  have h4 : (y 0).val % 4 = 3 ∨ (y 0).val % 4 = 2 ∨ (y 0).val % 4 = 1 ∨ (y 0).val % 4 = 0 := by omega
  unfold staged
  rcases h4 with h | h | h | h
  · exact ⟨_, List.mem_cons_self, (LoadRect.mem_set _).2 (key 3 h.symm)⟩
  · exact ⟨_, List.mem_cons_of_mem _ List.mem_cons_self, (LoadRect.mem_set _).2 (key 2 h.symm)⟩
  · exact ⟨_, List.mem_cons_of_mem _ (List.mem_cons_of_mem _ List.mem_cons_self), (LoadRect.mem_set _).2 (key 1 h.symm)⟩
  · exact ⟨_, List.mem_cons_of_mem _ (List.mem_cons_of_mem _ (List.mem_cons_of_mem _ List.mem_cons_self)), (LoadRect.mem_set _).2 (key 0 h.symm)⟩

/-- The block of results after the body, whatever it and the staged words held before. -/
theorem out_val (X7 : BufTy.Contents (Elt Ideal) arg7.view.ty) :
    arg7.view.read (Elt Ideal) (outP (F := Ideal) i arg2 harg2 arg3 harg3 arg4 harg4 arg6 harg6 arg7 harg7 arg8 harg8 arg11 harg11 X2 G8 X3 X4 X11 c X7)
      = fun y => outS (arg2.view.read (Elt Ideal) X2) (arg8.view.read (Elt Ideal) G8) (arg3.view.read (Elt Ideal) X3) (arg4.view.read (Elt Ideal) X4) (y 0) (y 1) (y 2) := by
  unfold outP
  rw [tail_pieces]
  funext y
  refine View.read_writes_apply_of_pieces (Val := Elt Ideal) (e := .bf16) _ _ (fun y : S256x8x128.Idx => outS (arg2.view.read (Elt Ideal) X2) (arg8.view.read (Elt Ideal) G8) (arg3.view.read (Elt Ideal) X3) (arg4.view.read (Elt Ideal) X4) (y 0) (y 1) (y 2)) _ ?_ y ⟨_, List.mem_cons_self, ?_⟩
  · refine List.forall_mem_cons.2 ⟨?_, List.forall_mem_nil _⟩
    intro x
    obtain ⟨a, b, d, rfl⟩ : ∃ (a : Fin 256) (b : Fin 8) (d : Fin 128), x = (ix3 a b d : S256x8x128.Idx) :=
      ⟨x 0, x 1, x 2, by funext a; match a with | ⟨0, _⟩ => rfl | ⟨1, _⟩ => rfl | ⟨2, _⟩ => rfl⟩
    refine (out_at _ a b d).trans ?_
    rw [View.readAt_apply]
    rw [View.read_writes_apply_of_pieces _ _ (stagedS arg2 arg3 arg4 arg8 X2 G8 X3 X4) _ (staged_ok arg2 arg3 arg4 arg8 X2 G8 X3 X4) _ (staged_cover arg2 arg3 arg4 arg8 X2 G8 X3 X4 _)]
    unfold stagedS
    congr 1
    · exact Fin.ext (by show (0 + 1 * (4 * a.val + b.val / 2)) / 4 = 0 + 1 * a.val; omega)
    · exact Fin.ext (by show 2 * ((0 + 1 * (4 * a.val + b.val / 2)) % 4) + (0 + 1 * (b.val % 2)) = 0 + 1 * b.val; omega)
  · refine (LoadRect.mem_set _).2 fun a => ?_
    match a with
    | ⟨0, _⟩ => exact ⟨(y 0).val, (y 0).isLt, by show (y 0).val = 0 + 1 * (y 0).val; omega⟩
    | ⟨1, _⟩ => exact ⟨(y 1).val, (y 1).isLt, by show (y 1).val = 0 + 1 * (y 1).val; omega⟩
    | ⟨2, _⟩ => exact ⟨(y 2).val, (y 2).isLt, by show (y 2).val = 0 + 1 * (y 2).val; omega⟩

end Values
end Cert.KernelIdeal.Hand
-- ==== Proof.KernelIdealPacked.lean ====
/-
  What the packed tile of `KernelIdeal` holds once its six transfers have landed: the tile's rows of the packed weights.
-/
module

public import proofs.«01_k».proof.Proof.KernelIdealStream
public import Idealize.ShloMosaic.Lib.Pointwise
public import Idealize.ShloMosaic.Lib.Pipeline.ValueKit

@[expose] public section

set_option maxRecDepth 65536

noncomputable section

namespace Cert.KernelIdeal.Hand

open Cert.KernelIdeal.Gen Cert.KernelIdeal.Facts Cert.KernelIdeal
open Idealize.ShloMosaic Idealize.ShloMosaic.TcCoe Idealize.ShloMosaic.Pointwise

variable (c : Dev nD)

/-- A window of the packed tile, read: row `x0`, byte `x1` of the word, group `x2` of the window's groups. -/
theorem win_read (a : Fin 2) (b : Fin 3) (h) (X : HbBuf0 (F := Ideal) c scM0_1) (x0 : Fin 1024) (x1 : Fin 8) (x2 : Fin 128) :
    (mkWin a.val b.val h).view.read (Elt Ideal) X (ix3 x0 x1 x2) = scM0_1.view.read (Elt Ideal) X (ix5 a b x0 x1 x2) := by
  have hc : (⟨5, S1x1x1024x8x128.size⟩ : Shape).ShapeCasts S1024x8x128 := by decide
  refine (congrFun (Memref.read_squeeze_slice (Val := Elt Ideal) scM0_1 (Rect.unit (s := S2x3x1024x8x128) ![a.val, b.val, 0, 0, 0] S1x1x1024x8x128.size h) (fun _ => rfl) squeezes_S1x1x1024x8x128_S1024x8x128 hc X) _).trans ?_
  have e : ∀ v : S1x1x1024x8x128.Idx → Elt Ideal .i8, shapeCast S1024x8x128 v hc (ix3 x0 x1 x2) = v (ix5 0 0 x0 x1 x2) := by
    intro v; pointwise []
  refine (e _).trans ?_
  rw [View.readAt_apply]
  refine congrArg (scM0_1.view.read (Elt Ideal) X) (funext fun d => Fin.ext ?_)
  fin_cases d <;> simp [Rect.toLoadRect, LoadRect.idx, ix5]

/-- A block of the packed weights, read. -/
theorem src_read (W0 : HbBuf0 (F := Ideal) c hbM0_0) (o : Fin 3 → ℕ) (h : Fits o) (x : S1024x8x128.Idx) (y : S10240x16x384.Idx)
    (hy : ∀ a, (y a).val = o a + (x a).val) : (srcO o h).view.read (Elt Ideal) W0 x = hbM0_0.view.read (Elt Ideal) W0 y := by
  show hbM0_0.view.read (Elt Ideal) W0 ((Rect.unit (s := S10240x16x384) o S1024x8x128.size h).emb x) = _
  refine congrArg (hbM0_0.view.read (Elt Ideal) W0) (funext fun d => Fin.ext ?_)
  rw [hy d]
  exact ValueKit.rect_emb_unit_val (s := S10240x16x384) o S1024x8x128.size h x d

/-- A window whose elements are a landed block's reads that block. -/
theorem win_landed (W0 : HbBuf0 (F := Ideal) c hbM0_0) (a : Fin 2) (b : Fin 3) (h) (o : Fin 3 → ℕ) (ho : Fits o) (X : HbBuf0 (F := Ideal) c scM0_1)
    (hX : ∀ i ∈ (Rect.unit (s := S2x3x1024x8x128) ![a.val, b.val, 0, 0, 0] S1x1x1024x8x128.size h).set, X i = landed c W0 (mkWin a.val b.val h) o ho i)
    (x : S1024x8x128.Idx) : (mkWin a.val b.val h).view.read (Elt Ideal) X x = (srcO o ho).view.read (Elt Ideal) W0 x := by
  have e := congrFun (View.read_writes_whole (Val := Elt Ideal) (mkWin a.val b.val h).view (mkWin a.val b.val h).view.junk ((srcO o ho).view.read (Elt Ideal) W0)) x
  refine Eq.trans ?_ e
  have hm : (mkWin a.val b.val h).view.emb x ∈ (Rect.unit (s := S2x3x1024x8x128) ![a.val, b.val, 0, 0, 0] S1x1x1024x8x128.size h).set := by
    rw [← mkWin_set a.val b.val h]; exact View.emb_mem_set _ _
  exact congrArg _ (hX _ hm)

/-- The packed tile `b`: word, group of scales, row, byte of the word, group in the group of scales. -/
def packedB (W0 : HbBuf0 (F := Ideal) c hbM0_0) (b : Fin 10) : S2x3x1024x8x128.Idx → BitVec 8 := fun y =>
  hbM0_0.view.read (Elt Ideal) W0 (ix3 ⟨1024 * b.val + (y 2).val, by have := b.isLt; have : (y 2).val < 1024 := (y 2).isLt; omega⟩
    ⟨8 * (y 0).val + (y 3).val, by have : (y 0).val < 2 := (y 0).isLt; have : (y 3).val < 8 := (y 3).isLt; omega⟩
    ⟨128 * (y 1).val + (y 4).val, by have : (y 1).val < 3 := (y 1).isLt; have : (y 4).val < 128 := (y 4).isLt; omega⟩)

theorem packed_at (W0 : HbBuf0 (F := Ideal) c hbM0_0) (t : Fin 10) (a : Fin 2) (b : Fin 3) (h) (ho : Fits (offB t.val (8 * a.val) (128 * b.val))) (X : HbBuf0 (F := Ideal) c scM0_1)
    (hX : ∀ i ∈ (Rect.unit (s := S2x3x1024x8x128) ![a.val, b.val, 0, 0, 0] S1x1x1024x8x128.size h).set, X i = landed c W0 (mkWin a.val b.val h) _ ho i)
    (x0 : Fin 1024) (x1 : Fin 8) (x2 : Fin 128) :
    scM0_1.view.read (Elt Ideal) X (ix5 a b x0 x1 x2) = packedB c W0 t (ix5 a b x0 x1 x2) := by
  rw [← win_read c a b h X, win_landed c W0 a b h _ ho X hX]
  refine src_read c W0 _ ho _ _ fun d => ?_
  fin_cases d <;> rfl

/-- Once tile `b`'s transfers have landed, the packed tile is tile `b`. -/
theorem holds_packed (W0 : HbBuf0 (F := Ideal) c hbM0_0) (t : Fin 10) (X : HbBuf0 (F := Ideal) c scM0_1) (hX : HoldsB c W0 t X) :
    scM0_1.view.read (Elt Ideal) X = packedB c W0 t := by
  obtain ⟨h0, h1, h2, h3, h4, h5⟩ := hX
  funext y
  obtain ⟨a, b, x0, x1, x2, rfl⟩ : ∃ (a : Fin 2) (b : Fin 3) (x0 : Fin 1024) (x1 : Fin 8) (x2 : Fin 128), y = (ix5 a b x0 x1 x2 : S2x3x1024x8x128.Idx) :=
    ⟨y 0, y 1, y 2, y 3, y 4, by funext d; match d with | ⟨0, _⟩ => rfl | ⟨1, _⟩ => rfl | ⟨2, _⟩ => rfl | ⟨3, _⟩ => rfl | ⟨4, _⟩ => rfl⟩
  match a, b with
  | ⟨0, _⟩, ⟨0, _⟩ => exact packed_at c W0 t 0 0 _ _ X h0 x0 x1 x2
  | ⟨0, _⟩, ⟨1, _⟩ => exact packed_at c W0 t 0 1 _ _ X h1 x0 x1 x2
  | ⟨0, _⟩, ⟨2, _⟩ => exact packed_at c W0 t 0 2 _ _ X h2 x0 x1 x2
  | ⟨1, _⟩, ⟨0, _⟩ => exact packed_at c W0 t 1 0 _ _ X h3 x0 x1 x2
  | ⟨1, _⟩, ⟨1, _⟩ => exact packed_at c W0 t 1 1 _ _ X h4 x0 x1 x2
  | ⟨1, _⟩, ⟨2, _⟩ => exact packed_at c W0 t 1 2 _ _ X h5 x0 x1 x2

end Cert.KernelIdeal.Hand

end
-- ==== Proof.KernelIdealValue.lean ====
/-
  The run of `KernelIdeal` with its results named: at every point the decoded tile holds the point's tile of weights, and the
  results' window is left at the rotated sums of products.
-/
module

public import proofs.«01_k».proof.Proof.KernelIdealFrame
public import proofs.«01_k».proof.Proof.KernelIdealDecoded
public import proofs.«01_k».proof.Proof.KernelIdealTailValue
public import proofs.«01_k».proof.Proof.KernelIdealPacked
public import Idealize.ShloMosaic.Lib.Pipeline.ValueKit

@[expose] public section

set_option maxRecDepth 65536

noncomputable section

namespace Cert.KernelIdeal.Val

open Cert.KernelIdeal.Gen Cert.KernelIdeal.Hand Cert.KernelIdeal.Facts Cert.KernelIdeal
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-! ## The decoded tile of a point -/

/-- The scales of tile `b`. -/
def scalesB (c : Dev nD) (b : Fin 10) : S1024x384.Idx → EReal := fun y =>
  V m c main_arg4 (ix2 ⟨1024 * b.val + (y 0).val, by have := b.isLt; have : (y 0).val < 1024 := (y 0).isLt; omega⟩ ⟨(y 1).val, (y 1).isLt⟩ : S10240x384.Idx)

theorem index3 : ∀ t : Fin cfg0.N, win0_3.index t = ![t.val / 24, 0] :=
  (by decide +kernel : ∀ t : Fin grid0.N, win0_3.index t = ![t.val / 24, 0])

/-- The block of scales of a point is its tile's. -/
theorem iblk3 (c : Dev nD) (t : Fin cfg0.N) : iblk m c 3 t = scalesB m c (tileOf t) := by
  funext y
  unfold scalesB
  blk_simp [iblk]
  refine congrArg (V m c main_arg4) ?_
  blk_ext [index3]

/-- The decoded weights of tile `b`. -/
def weightsB (c : Dev nD) (b : Fin 10) : S48x512x2x256.Idx → EReal := wTile (packedB c (V m c main_v0) b) (scalesB m c b)

/-- What a point's results are. -/
def resAt (c : Dev nD) (t : Fin cfg0.N) : S256x8x128.Idx → EReal := fun y =>
  outS (iblk m c 0 t) (weightsB m c (tileOf t)) (iblk m c 1 t) (iblk m c 2 t) (y 0) (y 1) (y 2)

/-! ## The pipeline's proof data -/

/-- The decoded tile before point `k` is that of the point before. -/
def Decoded (c : Dev nD) (k : ℕ) (d : S48x512x2x256.Idx → EReal) : Prop := ∀ t : Fin cfg0.N, t.val + 1 = k → d = weightsB m c (tileOf t)

def PhiV (c : Dev nD) (k : ℕ) : sProp 𝕄 := iprop((∃ d, ⌜Decoded m c k d⌝ ∗ owns (c : Thread nD τ) scM0_0 fullShare d) ∗ (∃ d, owns (c : Thread nD τ) scM0_2 fullShare d) ∗ (∃ r, prngReg c r) ∗ streamAt c (V m c main_v0) (tiles k))

/-- The proof data: each input's buffer at its block, the results at the point's, nothing owed, full shares. -/
def datsV (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => resAt m c t
  Φ t := PhiV m c t.val
  q _ := fullShare
  owed _ := 0

theorem A_eq (c : Dev nD) (w : Fin cfg0.W) : (datsV m 0 c).A w = V m c (Pipeline.arrRef spec0 w) := by
  dsimp only [datsV]
theorem PhiV_castSucc (c : Dev nD) (t : Fin cfg0.N) : (datsV m 0 c).Φ t.castSucc = PhiV m c t.val := by
  dsimp only [datsV]; simp only [Fin.coe_castSucc]
theorem PhiV_succ (c : Dev nD) (t : Fin cfg0.N) : (datsV m 0 c).Φ t.succ = PhiV m c (t.val + 1) := by
  dsimp only [datsV]; simp only [Fin.val_succ]
theorem after0_0 (c : Dev nD) (t : Fin cfg0.N) : (datsV m 0 c).after 0 t = iblk m c 0 t := by dsimp only [datsV]
theorem after0_1 (c : Dev nD) (t : Fin cfg0.N) : (datsV m 0 c).after 1 t = iblk m c 1 t := by dsimp only [datsV]
theorem after0_2 (c : Dev nD) (t : Fin cfg0.N) : (datsV m 0 c).after 2 t = iblk m c 2 t := by dsimp only [datsV]
theorem after0_3 (c : Dev nD) (t : Fin cfg0.N) : (datsV m 0 c).after 3 t = iblk m c 3 t := by dsimp only [datsV]
theorem after0_4 (c : Dev nD) (t : Fin cfg0.N) : (datsV m 0 c).after 4 t = resAt m c t := by dsimp only [datsV]
theorem before0_0 (c : Dev nD) (t : Fin cfg0.N) (d) : (datsV m 0 c).before 0 t d = iblk m c 0 t :=
  before0_0_of m (datsV m 0 c) (A_eq m c 0) (after0_0 m c) t d
theorem before0_1 (c : Dev nD) (t : Fin cfg0.N) (d) : (datsV m 0 c).before 1 t d = iblk m c 1 t :=
  before0_1_of m (datsV m 0 c) (A_eq m c 1) (after0_1 m c) t d
theorem before0_2 (c : Dev nD) (t : Fin cfg0.N) (d) : (datsV m 0 c).before 2 t d = iblk m c 2 t :=
  before0_2_of m (datsV m 0 c) (A_eq m c 2) (after0_2 m c) t d
theorem before0_3 (c : Dev nD) (t : Fin cfg0.N) (d) : (datsV m 0 c).before 3 t d = iblk m c 3 t :=
  before0_3_of m (datsV m 0 c) (A_eq m c 3) (after0_3 m c) t d

/-! ## The body obligation -/

/-- The decoded tile after a point's first part is the point's: decoded there at the first token block, kept otherwise. -/
theorem step_decoded (c : Dev nD) (t : Fin cfg0.N)
    (arg2 : Memref sig .tc .vmem S1x48x128x256 .i32) (harg2 : arg2.IsWhole) (arg3 : Memref sig .tc .vmem S256x128 .f32) (harg3 : arg3.IsWhole)
    (arg4 : Memref sig .tc .vmem S256x128 .f32) (harg4 : arg4.IsWhole)
    (arg6 : Memref sig .tc .vmem S1024x384 .bf16) (harg6 : arg6.IsWhole) (arg7 : Memref sig .tc .vmem S256x8x128 .bf16) (harg7 : arg7.IsWhole)
    (arg8 : Memref sig .tc .vmem S48x512x2x256 .bf16) (harg8 : arg8.IsWhole) (arg11 : Memref sig .tc .vmem S1024x2x128 .bf16) (harg11 : arg11.IsWhole)
    (X6 : BufTy.Contents (Elt Ideal) arg6.view.ty) (G8 G : BufTy.Contents (Elt Ideal) arg8.view.ty)
    (h6 : arg6.view.read (Elt Ideal) X6 = iblk m c 3 t) (h8 : Decoded m c t.val (arg8.view.read (Elt Ideal) G8))
    (hG : Step c (V m c main_v0) arg2 harg2 arg3 harg3 arg4 harg4 arg6 harg6 arg7 harg7 arg8 harg8 arg11 harg11 X6 G8 t G) :
    arg8.view.read (Elt Ideal) G = weightsB m c (tileOf t) := by
  unfold Step at hG
  split at hG
  · obtain ⟨hc1, X9, hX9, rfl⟩ := hG
    refine (read_pieces arg6 scM0_1 X6 X9 c (grid0.coords t) arg2 harg2 arg3 harg3 arg4 harg4 (Memref.whole main_v0) (Memref.isWhole_whole _) harg6 arg7 harg7 arg8 harg8 (Memref.isWhole_whole _) cc0_scratch2 arg11 harg11 hc1 G8).trans ?_
    rw [holds_packed c (V m c main_v0) (tileOf t) X9 hX9, h6, iblk3]
    rfl
  · rename_i hne
    subst hG
    have hlt := t.isLt
    refine (h8 ⟨t.val - 1, by omega⟩ (by show t.val - 1 + 1 = t.val; omega)).trans ?_
    refine congrArg (weightsB m c) (Fin.ext ?_)
    show (t.val - 1) / 24 = t.val / 24
    omega

/-- The results' window after a point's last part, over a decoded tile that is the point's. -/
theorem out_read (c : Dev nD) (t : Fin cfg0.N)
    (arg2 : Memref sig .tc .vmem S1x48x128x256 .i32) (harg2 : arg2.IsWhole) (arg3 : Memref sig .tc .vmem S256x128 .f32) (harg3 : arg3.IsWhole)
    (arg4 : Memref sig .tc .vmem S256x128 .f32) (harg4 : arg4.IsWhole)
    (arg6 : Memref sig .tc .vmem S1024x384 .bf16) (harg6 : arg6.IsWhole) (arg7 : Memref sig .tc .vmem S256x8x128 .bf16) (harg7 : arg7.IsWhole)
    (arg8 : Memref sig .tc .vmem S48x512x2x256 .bf16) (harg8 : arg8.IsWhole) (arg11 : Memref sig .tc .vmem S1024x2x128 .bf16) (harg11 : arg11.IsWhole)
    (X2 : BufTy.Contents (Elt Ideal) arg2.view.ty) (G : BufTy.Contents (Elt Ideal) arg8.view.ty)
    (X3 : BufTy.Contents (Elt Ideal) arg3.view.ty) (X4 : BufTy.Contents (Elt Ideal) arg4.view.ty) (X11 : BufTy.Contents (Elt Ideal) arg11.view.ty)
    (X7 : BufTy.Contents (Elt Ideal) arg7.view.ty)
    (h2 : arg2.view.read (Elt Ideal) X2 = iblk m c 0 t) (hr : arg8.view.read (Elt Ideal) G = weightsB m c (tileOf t))
    (h3 : arg3.view.read (Elt Ideal) X3 = iblk m c 1 t) (h4 : arg4.view.read (Elt Ideal) X4 = iblk m c 2 t) :
    arg7.view.read (Elt Ideal) (outP (F := Ideal) (grid0.coords t) arg2 harg2 arg3 harg3 arg4 harg4 arg6 harg6 arg7 harg7 arg8 harg8 arg11 harg11 X2 G X3 X4 X11 c X7) = resAt m c t := by
  refine (out_val (grid0.coords t) arg2 harg2 arg3 harg3 arg4 harg4 arg6 harg6 arg7 harg7 arg8 harg8 arg11 harg11 X2 G X3 X4 X11 c X7).trans ?_
  rw [h2, hr, h3, h4]; rfl

/-- What the body is called with at point `t` (the windows one by one), -/
def bodyPre (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d))
    ∗ (∃ d, owns (c : Thread nD τ) (ms0_4 t) fullShare ((datsV m 0 c).before 4 t d)))
/-- and what it returns. -/
def bodyPost (c : Dev nD) (t : Fin cfg0.N) : sProp 𝕄 :=
  iprop((datsV m 0 c).Φ t.succ ∗ (datsV m 0 c).owesAt () t.succ
    ∗ owns (c : Thread nD τ) (ms0_0 t) fullShare ((datsV m 0 c).after 0 t)
    ∗ owns (c : Thread nD τ) (ms0_1 t) fullShare ((datsV m 0 c).after 1 t)
    ∗ owns (c : Thread nD τ) (ms0_2 t) fullShare ((datsV m 0 c).after 2 t)
    ∗ owns (c : Thread nD τ) (ms0_3 t) fullShare ((datsV m 0 c).after 3 t)
    ∗ owns (c : Thread nD τ) (ms0_4 t) fullShare ((datsV m 0 c).after 4 t))

set_option maxHeartbeats 1600000 in
/-- The body at any point: `body_all` between the blocks the windows hold. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [after0_0, after0_1, after0_2, after0_3, after0_4]
  rw [PhiV_castSucc m c t, PhiV_succ m c t]
  unfold Dat.owesAt Pipeline.owesWithin
  rw [show (datsV m 0 c).owed t.castSucc = 0 from rfl, show (datsV m 0 c).owed t.succ = 0 from rfl]
  unfold PhiV
  iintro ⟨⟨⟨%e8, %h8, H8⟩, ⟨%e11, H11⟩, Hg, Hst⟩, ⟨%W, -, HW⟩, ⟨%d0, H0⟩, ⟨%d1, H1⟩, ⟨%d2, H2⟩, ⟨%d3, H3⟩, ⟨%d4, H4⟩⟩
  ihave K0 := (mem_of_owns c (ms0_0 t) (hs0_0 t) (iblk m c 0 t)) $$ H0
  ihave K1 := (mem_of_owns c (ms0_1 t) (hs0_1 t) (iblk m c 1 t)) $$ H1
  ihave K2 := (mem_of_owns c (ms0_2 t) (hs0_2 t) (iblk m c 2 t)) $$ H2
  ihave K3 := (mem_of_owns c (ms0_3 t) (hs0_3 t) (iblk m c 3 t)) $$ H3
  ihave K4 := (mem_of_owns c (ms0_4 t) (hs0_4 t) ((datsV m 0 c).before 4 t d4)) $$ H4
  ihave K8 := (mem_of_owns c scM0_0 (Memref.isWhole_whole _) e8) $$ H8
  ihave K11 := (mem_of_owns c scM0_2 (Memref.isWhole_whole _) e11) $$ H11
  iapply (wp_wand_r Idealize.ShloMosaic.frame (wpE (defs₀ (F := Ideal)) Variants.none (c : Thread nD τ) none) Set.univ)
  isplitl [K0 K1 K2 K3 K4 K8 K11 Hst HW]
  · iapply (body_all c t (V m c main_v0) (ms0_0 t) (hs0_0 t) (ms0_1 t) (hs0_1 t) (ms0_2 t) (hs0_2 t) (ms0_3 t) (hs0_3 t) (ms0_4 t) (hs0_4 t) scM0_0 (Memref.isWhole_whole _) scM0_2 (Memref.isWhole_whole _)
      ((hs0_0 t).unread (iblk m c 0 t)) ((hs0_3 t).unread (iblk m c 3 t)) ((Memref.isWhole_whole _).unread e8) ((hs0_1 t).unread (iblk m c 1 t)) ((hs0_2 t).unread (iblk m c 2 t)) ((Memref.isWhole_whole _).unread e11) W ((hs0_4 t).unread ((datsV m 0 c).before 4 t d4)))
    isplitl [K0 K3 K8 Hst HW]
    · isplitl [K0]; · iexact K0
      isplitl [K3]; · iexact K3
      isplitl [K8]; · iexact K8
      isplitl [Hst]; · iexact Hst
      iexact HW
    isplitl [K1]; · iexact K1
    isplitl [K2]; · iexact K2
    isplitl [K4]; · iexact K4
    iexact K11
  iintro %_ ⟨%G, K0, K1, K2, K4, K8, ⟨%X11, K11⟩, K3, %hG, Hst, ⟨%W', HW'⟩⟩
  have hr : scM0_0.view.read (Elt Ideal) G = weightsB m c (tileOf t) :=
    step_decoded m c t _ _ _ _ _ _ _ _ _ _ _ _ _ _ _ _ _ ((hs0_3 t).read_unread _) (by rw [(Memref.isWhole_whole cc0_scratch0).read_unread]; exact h8) hG
  isplitl [K8 K11 Hg Hst]
  · isplitl [K8]
    · iexists (weightsB m c (tileOf t))
      isplitr
      · ipureintro; intro t' ht'; rw [Fin.ext (Nat.succ.inj ht') (a := t') (b := t)]
      iapply (owns_of_mem c scM0_0 G _ hr); iexact K8
    isplitl [K11]; · iexists _; iapply (owns_of_mem c scM0_2 X11 _ rfl); iexact K11
    isplitl [Hg]; · iexact Hg
    iexact Hst
  isplitl [HW']
  · iexists W'; isplitr; · ipureintro; exact fun _ _ => Or.inl trivial
    iexact HW'
  isplitl [K0]; · iapply (owns_of_mem c (ms0_0 t) _ _ ((hs0_0 t).read_unread _)); iexact K0
  isplitl [K1]; · iapply (owns_of_mem c (ms0_1 t) _ _ ((hs0_1 t).read_unread _)); iexact K1
  isplitl [K2]; · iapply (owns_of_mem c (ms0_2 t) _ _ ((hs0_2 t).read_unread _)); iexact K2
  isplitl [K3]; · iapply (owns_of_mem c (ms0_3 t) _ _ ((hs0_3 t).read_unread _)); iexact K3
  have ho := out_read m c t (ms0_0 t) (hs0_0 t) (ms0_1 t) (hs0_1 t) (ms0_2 t) (hs0_2 t) (ms0_3 t) (hs0_3 t) (ms0_4 t) (hs0_4 t) scM0_0 (Memref.isWhole_whole _) scM0_2 (Memref.isWhole_whole _)
      ((hs0_0 t).unread (iblk m c 0 t)) G ((hs0_1 t).unread (iblk m c 1 t)) ((hs0_2 t).unread (iblk m c 2 t)) ((Memref.isWhole_whole _).unread e11) ((hs0_4 t).unread ((datsV m 0 c).before 4 t d4))
      ((hs0_0 t).read_unread _) hr ((hs0_1 t).read_unread _) ((hs0_2 t).read_unread _)
  iapply (owns_of_mem c (ms0_4 t) _ _ ho)
  iexact K4

/-- The body obligation, at every point. -/
theorem body_obligation (c : Dev nD) : BodyObligation (datsV m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (datsV m 0 c).Φ 0 := by
  refine (Hand.hin m c).trans ?_
  rw [show (datsV m 0 c).Φ 0 = PhiV m c 0 from rfl, show (dats m 0 c).Φ 0 = PhiR m c 0 from rfl]
  unfold PhiV PhiR
  iintro ⟨⟨%d, H⟩, HR⟩
  isplitl [H]
  · iexists d
    isplitr; · ipureintro; intro t ht; exact absurd ht (Nat.succ_ne_zero _)
    iexact H
  iexact HR
theorem phi_forget (c : Dev nD) (k : ℕ) : PhiV m c k ⊢ PhiR m c k := by
  unfold PhiV PhiR
  iintro ⟨⟨%d, -, H⟩, HR⟩
  isplitl [H]; · iexists d; iexact H
  iexact HR
theorem hout (c : Dev nD) : (datsV m 0 c).Φ (Fin.last cfg0.N) ⊢ Pipeline.ΦD osem0 spec0 H0 (V m) c :=
  (phi_forget m c grid0.N).trans (Hand.hout m c)

/-! ## The run -/

set_option backward.isDefEq.respectTransparency.types false in
/-- The run: every array at what the proof data says of it. -/
theorem run_main : θ_run defs (onTc (τ := τ) (main (F := Ideal))) (s₀ m ρ) (Pipeline.FramePost cfgs (datsV m) 0 (V m)) :=
  Pipeline.θ_run_frame_dma (Q' := _) cfgs (datsV m) (0 : Fin 1) launch0 osem0 defs₀ Variants.none ownSemFacts0 H0 H0_sub m ρ main
    (hbody := fun c => (body_obligation m c).loose) (hshare := fun c => (datsV m 0 c).share_full fun _ => rfl)
    (howed := fun _ _ => rfl) (V := V m) (hmain := hmain m Variants.none) (hA := A_eq m) (hin := hin m) (hout := hout m)

end Cert.KernelIdeal.Val

end
-- ==== Proof.QuerySum.lean ====
/-
  The query projection as a sum over groups and bytes, and the same sum in the order of the activations' chunks and lanes.
-/
module

public import Idealize.ShloMosaic.Lib.Pointwise

@[expose] public section

noncomputable section

namespace Cert.Query

open Idealize.ShloMosaic

/-- The chunk of the activations' words holding byte `j` of group `g`: by word of four bytes, group of 128 groups, byte. -/
def chunk (g : Fin 384) (j : Fin 16) : Fin 48 := ⟨j.val / 4 * 12 + g.val / 128 * 4 + j.val % 4, by omega⟩
/-- The lane holding group `g` of the low (`h = 0`) or high (`h = 1`) halves of the bytes. -/
def lane (h : Fin 2) (g : Fin 384) : Fin 256 := ⟨128 * h.val + g.val % 128, by omega⟩

/-- Summing over chunks and lanes is summing over groups and bytes, low halves and high halves. -/
theorem sum_chunks {M : Type} [AddCommMonoid M] (f : Fin 48 → Fin 256 → M) :
    ∑ cc, ∑ l, f cc l = (∑ g, ∑ j, f (chunk g j) (lane 0 g)) + ∑ g, ∑ j, f (chunk g j) (lane 1 g) := by
  have h2 : (∑ g, ∑ j, f (chunk g j) (lane 0 g)) + (∑ g, ∑ j, f (chunk g j) (lane 1 g)) = ∑ h : Fin 2, ∑ g, ∑ j, f (chunk g j) (lane h g) := by
    rw [Fin.sum_univ_two]
  rw [h2]
  simp only [← Fintype.sum_prod_type']
  refine Finset.sum_nbij' (fun p => (⟨p.2.val / 128, by omega⟩, ⟨p.1.val / 4 % 3 * 128 + p.2.val % 128, by omega⟩, ⟨p.1.val / 12 * 4 + p.1.val % 4, by omega⟩))
    (fun p => (chunk p.2.1 p.2.2, lane p.1 p.2.1)) (fun _ _ => Finset.mem_univ _) (fun _ _ => Finset.mem_univ _) ?_ ?_ ?_
  · rintro ⟨cc, l⟩ -
    refine Prod.ext (Fin.ext ?_) (Fin.ext ?_) <;> simp only [chunk, lane] <;> omega
  · rintro ⟨h, g, j⟩ -
    refine Prod.ext (Fin.ext ?_) (Prod.ext (Fin.ext ?_) (Fin.ext ?_)) <;> simp only [chunk, lane] <;> omega
  · rintro ⟨cc, l⟩ -
    refine congrArg₂ f (Fin.ext ?_) (Fin.ext ?_) <;> simp only [chunk, lane] <;> omega

variable (X : Fin 24 → Fin 48 → Fin 128 → Fin 256 → BitVec 32) (P : Fin 10240 → Fin 384 → Fin 16 → BitVec 8) (Sc : Fin 10240 → Fin 384 → EReal)
variable (C S : Fin 6144 → Fin 128 → EReal)

/-- Token `s`'s activation in chunk `cc`, lane `l`: two tokens share a word, the even one in its low half. -/
def act (s : Fin 6144) (cc : Fin 48) (l : Fin 256) : EReal :=
  Ideal.ofBits .bf16 ((X ⟨s.val / 256, by omega⟩ cc ⟨s.val % 256 / 2, by omega⟩ l).extractLsb' (16 * (s.val % 2)) 16)
/-- The weight of column `n` in group `g`: half `h` of byte `j`, less eight, times the group's scale. -/
def weight (h : Fin 2) (n : Fin 10240) (g : Fin 384) (j : Fin 16) : EReal :=
  (((((P n g j).extractLsb' (4 * h.val) 4).toNat - 8 : ℝ) : ℝ) : EReal) * Sc n g
/-- Token `s` projected on column `n`. -/
def proj (s : Fin 6144) (n : Fin 10240) : EReal :=
  (∑ g, ∑ j, act X s (chunk g j) (lane 0 g) * weight P Sc 0 n g j) + ∑ g, ∑ j, act X s (chunk g j) (lane 1 g) * weight P Sc 1 n g j
/-- The other lane of a pair. -/
def other (l : Fin 128) : Fin 128 := ⟨if l.val % 2 = 0 then l.val + 1 else l.val - 1, by split <;> omega⟩
/-- Column `l` of head `h`. -/
def col (h : Fin 80) (l : Fin 128) : Fin 10240 := ⟨128 * h.val + l.val, by omega⟩
/-- The rotated projection of token `s` on lane `l` of head `h`. -/
def out (s : Fin 6144) (h : Fin 80) (l : Fin 128) : EReal :=
  proj X P Sc s (col h l) * C s l + proj X P Sc s (col h (other l)) * S s l

end Cert.Query

end
-- ==== Proof.KernelIdealResult.lean ====
/-
  What `KernelIdeal` leaves in its results: the rotated projection of `QuerySum`, of its arguments.
-/
module

public import proofs.«01_k».proof.Proof.KernelIdealValue
public import proofs.«01_k».proof.Proof.QuerySum

@[expose] public section

set_option maxRecDepth 65536

noncomputable section

namespace Cert.KernelIdeal.Val

open Cert.KernelIdeal.Gen Cert.KernelIdeal.Hand Cert.KernelIdeal.Facts Cert.KernelIdeal
open Idealize.ShloMosaic Idealize.ShloMosaic.TcCoe Idealize.ShloMosaic.Tactic Idealize.ShloMosaic.Pointwise
open Idealize.SL.Sem

variable (m : (ℓ : Loc nD τ sig) → Buf (Elt Ideal) ℓ) (ρ : Dev nD → PrngReg) (c : Dev nD)

/-! ## The arguments by coordinates -/

abbrev argX : Fin 24 → Fin 48 → Fin 128 → Fin 256 → BitVec 32 := fun a b d e => (m ((c.tc : Thread nD τ).loc main_arg0)) (ix4 a b d e : S24x48x128x256.Idx)
abbrev argC : Fin 6144 → Fin 128 → EReal := fun a b => (m ((c.tc : Thread nD τ).loc main_arg1)) (ix2 a b : S6144x128.Idx)
abbrev argS : Fin 6144 → Fin 128 → EReal := fun a b => (m ((c.tc : Thread nD τ).loc main_arg2)) (ix2 a b : S6144x128.Idx)
abbrev argP : Fin 10240 → Fin 384 → Fin 16 → BitVec 8 := fun a b d => (m ((c.tc : Thread nD τ).loc main_arg3)) (ix3 a b d : S10240x384x16.Idx)
abbrev argSc : Fin 10240 → Fin 384 → EReal := fun a b => (m ((c.tc : Thread nD τ).loc main_arg4)) (ix2 a b : S10240x384.Idx)

/-- The operand the body moves is the packed weights, bytes before groups. -/
theorem V_main_v0 : V m c main_v0 = (transpose S10240x16x384 [0, 2, 1] (m ((c.tc : Thread nD τ).loc main_arg3) : S10240x384x16.Idx → BitVec 8) transposes_S10240x384x16_S10240x16x384_0_2_1) := rfl

theorem index0 : ∀ t : Fin cfg0.N, win0_0.index t = ![t.val % 24, 0, 0, 0] :=
  (by decide +kernel : ∀ t : Fin grid0.N, win0_0.index t = ![t.val % 24, 0, 0, 0])
theorem index1 : ∀ t : Fin cfg0.N, win0_1.index t = ![t.val % 24, 0] :=
  (by decide +kernel : ∀ t : Fin grid0.N, win0_1.index t = ![t.val % 24, 0])
theorem index2 : ∀ t : Fin cfg0.N, win0_2.index t = ![t.val % 24, 0] :=
  (by decide +kernel : ∀ t : Fin grid0.N, win0_2.index t = ![t.val % 24, 0])
theorem index4 : ∀ t : Fin cfg0.N, win0_4.index t = ![t.val % 24, t.val / 24, 0] :=
  (by decide +kernel : ∀ t : Fin grid0.N, win0_4.index t = ![t.val % 24, t.val / 24, 0])

/-- The token `u` of a point's block of tokens. -/
def token (t : Fin cfg0.N) (u : Fin 256) : Fin 6144 := ⟨256 * (t.val % 24) + u.val, by omega⟩
/-- Row `r` of tile `b`. -/
def row (b : Fin 10) (r : Fin 1024) : Fin 10240 := ⟨1024 * b.val + r.val, by omega⟩

theorem iblk0 (t : Fin cfg0.N) (cc : Fin 48) (r : Fin 128) (l : Fin 256) :
    iblk m c 0 t (ix4 0 cc r l : S1x48x128x256.Idx) = argX m c ⟨t.val % 24, by omega⟩ cc r l := by
  have e : (V m c main_arg0) = m ((c.tc : Thread nD τ).loc main_arg0) := V_main_arg0 m c
  unfold argX; rw [← e]
  blk_simp [iblk]
  refine congrArg (V m c main_arg0) ?_
  blk_ext [index0]
theorem iblk1 (t : Fin cfg0.N) (u : Fin 256) (l : Fin 128) : iblk m c 1 t (ix2 u l : S256x128.Idx) = argC m c (token t u) l := by
  have e : (V m c main_arg1) = m ((c.tc : Thread nD τ).loc main_arg1) := V_main_arg1 m c
  unfold argC token; rw [← e]
  blk_simp [iblk]
  refine congrArg (V m c main_arg1) ?_
  blk_ext [index1]
theorem iblk2 (t : Fin cfg0.N) (u : Fin 256) (l : Fin 128) : iblk m c 2 t (ix2 u l : S256x128.Idx) = argS m c (token t u) l := by
  have e : (V m c main_arg2) = m ((c.tc : Thread nD τ).loc main_arg2) := V_main_arg2 m c
  unfold argS token; rw [← e]
  blk_simp [iblk]
  refine congrArg (V m c main_arg2) ?_
  blk_ext [index2]

/-! ## A point's sums -/

theorem act_at (t : Fin cfg0.N) (cc : Fin 48) (u l : Fin 256) : actS (iblk m c 0 t) cc u l = Query.act (argX m c) (token t u) cc l := by
  unfold actS Query.act
  rw [iblk0]
  have e : ∀ (k k' : ℕ) (a a' : Fin 24) (r r' : Fin 128), k = k' → a = a' → r = r' → Ideal.ofBits .bf16 ((argX m c a cc r l).extractLsb' k 16) = Ideal.ofBits .bf16 ((argX m c a' cc r' l).extractLsb' k' 16) := by
    rintro k _ a _ r _ rfl rfl rfl; rfl
  refine e _ _ _ _ _ _ ?_ (Fin.ext ?_) (Fin.ext ?_) <;> simp only [token] <;> omega

theorem weight_at (b : Fin 10) (r : Fin 1024) (cc : Fin 48) (l : Fin 256) :
    weightsB m c b (ix4 cc ⟨r.val / 2, by omega⟩ ⟨r.val % 2, by omega⟩ l)
      = Query.weight (argP m c) (argSc m c) ⟨l.val / 128, by omega⟩ (row b r) ⟨cc.val / 4 % 3 * 128 + l.val % 128, by omega⟩ ⟨cc.val / 12 * 4 + cc.val % 4, by omega⟩ := by
  have e4 : (V m c main_arg4) = m ((c.tc : Thread nD τ).loc main_arg4) := V_main_arg4 m c
  have hp : ∀ (n : Fin 10240) (j : Fin 16) (g : Fin 384), hbM0_0.view.read (Elt Ideal) (V m c main_v0) (ix3 n j g : S10240x16x384.Idx) = argP m c n g j := by
    intro n j g
    rw [V_main_v0]
    show transpose S10240x16x384 [0, 2, 1] (m ((c.tc : Thread nD τ).loc main_arg3) : S10240x384x16.Idx → BitVec 8) transposes_S10240x384x16_S10240x16x384_0_2_1 (ix3 n j g) = _
    pointwise []
  unfold weightsB wTile packedB scalesB Query.weight
  have e : ∀ (h h' : ℕ) (n n' n2 : Fin 10240) (g g' g2 : Fin 384) (j j' : Fin 16), h = h' → n = n' → n2 = n' → g = g' → g2 = g' → j = j' →
      ((((((hbM0_0.view.read (Elt Ideal) (V m c main_v0) (ix3 n j g : S10240x16x384.Idx) : BitVec 8)).extractLsb' h 4).toNat - 8 : ℝ) : ℝ) : EReal) * (V m c main_arg4 (ix2 n2 g2 : S10240x384.Idx) : EReal)
        = (((((argP m c n' g' j').extractLsb' h' 4).toNat - 8 : ℝ) : ℝ) : EReal) * argSc m c n' g' := by
    rintro h _ n _ _ g _ _ j _ rfl rfl rfl rfl rfl rfl; rw [hp, e4]
  refine e _ _ _ _ _ _ _ _ _ _ rfl (Fin.ext ?_) (Fin.ext ?_) (Fin.ext ?_) (Fin.ext ?_) (Fin.ext ?_)
  · show 1024 * b.val + (2 * (r.val / 2) + r.val % 2) = 1024 * b.val + r.val
    omega
  · show 1024 * b.val + (2 * (r.val / 2) + r.val % 2) = 1024 * b.val + r.val
    omega
  · show 128 * (cc.val / 4 % 3) + l.val % 128 = cc.val / 4 % 3 * 128 + l.val % 128
    omega
  · show cc.val / 4 % 3 * 128 + l.val % 128 = cc.val / 4 % 3 * 128 + l.val % 128
    rfl
  · show 8 * (cc.val / 24) + (4 * (cc.val / 12 % 2) + cc.val % 4) = cc.val / 12 * 4 + cc.val % 4
    omega

/-- A point's sum over chunks and lanes is the projection. -/
theorem rowSum_at (t : Fin cfg0.N) (u : Fin 256) (r : Fin 1024) :
    rowSum (iblk m c 0 t) (weightsB m c (tileOf t)) u r = Query.proj (argX m c) (argP m c) (argSc m c) (token t u) (row (tileOf t) r) := by
  unfold rowSum
  simp only [act_at, weight_at]
  rw [Query.sum_chunks]
  unfold Query.proj
  have e : ∀ (h : Fin 2) (g : Fin 384) (j : Fin 16), Query.weight (argP m c) (argSc m c) ⟨(Query.lane h g).val / 128, by omega⟩ (row (tileOf t) r) ⟨(Query.chunk g j).val / 4 % 3 * 128 + (Query.lane h g).val % 128, by omega⟩ ⟨(Query.chunk g j).val / 12 * 4 + (Query.chunk g j).val % 4, by omega⟩
      = Query.weight (argP m c) (argSc m c) h (row (tileOf t) r) g j := by
    intro h g j
    have e3 : ∀ (h h' : Fin 2) (g g' : Fin 384) (j j' : Fin 16), h = h' → g = g' → j = j' → Query.weight (argP m c) (argSc m c) h (row (tileOf t) r) g j = Query.weight (argP m c) (argSc m c) h' (row (tileOf t) r) g' j' := by
      rintro h _ g _ j _ rfl rfl rfl; rfl
    refine e3 _ _ _ _ _ _ (Fin.ext ?_) (Fin.ext ?_) (Fin.ext ?_) <;> simp only [Query.chunk, Query.lane] <;> omega
  simp only [e]

/-- The results, of the arguments. -/
def resOf : S6144x80x128.Idx → EReal := fun i => Query.out (argX m c) (argP m c) (argSc m c) (argC m c) (argS m c) (i 0) (i 1) (i 2)

theorem resAt_eq (t : Fin cfg0.N) (u : Fin 256) (h : Fin 8) (l : Fin 128) :
    resAt m c t (ix3 u h l) = resOf m c (ix3 (token t u) ⟨8 * (tileOf t).val + h.val, by have := (tileOf t).isLt; omega⟩ l) := by
  show outS (iblk m c 0 t) (weightsB m c (tileOf t)) (iblk m c 1 t) (iblk m c 2 t) u h l = Query.out (argX m c) (argP m c) (argSc m c) (argC m c) (argS m c) (token t u) ⟨8 * (tileOf t).val + h.val, _⟩ l
  unfold outS Query.out
  rw [rowSum_at, rowSum_at, iblk1, iblk2]
  have ep : ∀ n n' : Fin 10240, n = n' → Query.proj (argX m c) (argP m c) (argSc m c) (token t u) n = Query.proj (argX m c) (argP m c) (argSc m c) (token t u) n' := by
    rintro n _ rfl; rfl
  have hp : (pairOf l).val = (Query.other l).val := by
    have hl := l.isLt
    by_cases h0 : l.val % 2 = 0
    · rw [pairOf, if_pos h0]; simp only [Query.other, if_pos h0]; omega
    · rw [pairOf, if_neg h0]; simp only [Query.other, if_neg h0]; omega
  refine congrArg₂ (· + ·) (congrArg (· * _) (ep _ _ (Fin.ext ?_))) (congrArg (· * _) (ep _ _ (Fin.ext ?_)))
  · show 1024 * (tileOf t).val + (128 * h.val + l.val) = 128 * (8 * (tileOf t).val + h.val) + l.val
    omega
  · show 1024 * (tileOf t).val + (128 * h.val + (pairOf l).val) = 128 * (8 * (tileOf t).val + h.val) + (Query.other l).val
    rw [hp]; omega

/-! ## The results' array -/

theorem final : (datsV m 0 c).arrAt 4 cfg0.N = resOf m c := by
  refine (datsV m 0 c).arrAt_eq_of_covers 4 _ (by decide +kernel) fun t hf y => ?_
  blk_simp
  rw [after0_4]
  obtain ⟨u, h, l, rfl⟩ : ∃ (u : Fin 256) (h : Fin 8) (l : Fin 128), y = (ix3 u h l : S256x8x128.Idx) :=
    ⟨y 0, y 1, y 2, by funext d; match d with | ⟨0, _⟩ => rfl | ⟨1, _⟩ => rfl | ⟨2, _⟩ => rfl⟩
  refine (resAt_eq m c t u h l).trans (congrArg (resOf m c) ?_)
  blk_ext [index4, token]

/-- The run: the results at the rotated projection of the arguments, the arguments unchanged. -/
theorem run : θ_run defs (onTc (τ := τ) (main (F := Ideal))) ⟨m, fun _ => 0, ρ⟩ (fun r => ∀ c : Dev nD,
      r.2.mem ((c.tc : Thread nD τ).loc main_v1) = resOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.out_eq c 4).trans (final m c),
      (h.in_eq c 0 rfl).trans ((A_eq m c 0).trans (V_main_arg0 m c)),
      (h.in_eq c 1 rfl).trans ((A_eq m c 1).trans (V_main_arg1 m c)),
      (h.in_eq c 2 rfl).trans ((A_eq m c 2).trans (V_main_arg2 m c)),
      (h.rest_eq c main_arg3 (Pipeline.mem_restRefs_of main_arg3 (by decide) (by decide))).trans (V_main_arg3 m c),
      (h.in_eq c 3 rfl).trans ((A_eq m c 3).trans (V_main_arg4 m c))⟩) (run_main m ρ)

end Cert.KernelIdeal.Val

end
-- ==== Proof.ReferenceIdealValue.lean ====
/-
  The reference, read at one element: the rotated projection of `QuerySum`.
-/
module

public import proofs.«01_k».proof.Proof.Gen.ReferenceIdeal.Run
public import proofs.«01_k».proof.Proof.QuerySum
public import proofs.«01_k».proof.Proof.Nibbles
public import Idealize.ShloMosaic.Lib.Pointwise
public import Idealize.ShloMosaic.Lib.BitcastConvert

@[expose] public section

set_option maxRecDepth 65536

noncomputable section

namespace Cert.ReferenceIdeal.Value

open Cert.ReferenceIdeal Cert.ReferenceIdeal.Gen
open Idealize.ShloMosaic Idealize.ShloMosaic.TcCoe Idealize.ShloMosaic.Pointwise

/-! ## The activations -/

/-- The activations by token, group, half and byte. -/
def actR (x : S24x48x128x256.Idx → BitVec 32) : S6144x384x2x16.Idx → EReal :=
  shapeCast _ (transpose S24x128x2x3x128x2x4x4 [0, 4, 7, 2, 6, 5, 1, 3] (bitcastToFloat (F := Ideal) .bf16 (Host.bitcastConvertNarrow S24x4x3x4x128x2x128x2 16 (shapeCast _ x shapeCasts_S24x48x128x256_S24x4x3x4x128x2x128) splits_S24x4x3x4x128x2x128_w32_S24x4x3x4x128x2x128x2_w16)) transposes_S24x4x3x4x128x2x128x2_S24x128x2x3x128x2x4x4_0_4_7_2_6_5_1_3) shapeCasts_S24x128x2x3x128x2x4x4_S6144x384x2x16

theorem actR_at (x) (s : Fin 6144) (g : Fin 384) (h : Fin 2) (j : Fin 16) :
    actR x (ix4 s g h j) = Query.act (fun a b d e => x (ix4 a b d e)) s (Query.chunk g j) (Query.lane h g) := by
  unfold actR
  pointwise []
  unfold Query.act
  have e : ∀ (k k' : ℕ) (b b' : BitVec 32), k = k' → b = b' → Ideal.ofBits .bf16 (b.extractLsb' k 16) = Ideal.ofBits .bf16 (b'.extractLsb' k' 16) := by
    rintro k _ b _ rfl rfl; rfl
  refine e _ _ _ _ (Nat.mul_comm _ _) ?_
  have e4 : ∀ (a a' : Fin 24) (b b' : Fin 48) (d d' : Fin 128) (l l' : Fin 256), a.val = a'.val → b.val = b'.val → d.val = d'.val → l.val = l'.val →
      x (ix4 a b d l) = x (ix4 a' b' d' l') := by
    intro a a' b b' d d' l l' h0 h1 h2 h3; rw [Fin.ext h0, Fin.ext h1, Fin.ext h2, Fin.ext h3]
  refine e4 _ _ _ _ _ _ _ _ rfl rfl ?_ ?_
  · show s.val / 2 % 128 = s.val % 256 / 2
    omega
  · show h.val * 128 + g.val % 128 = 128 * h.val + g.val % 128
    omega

/-! ## The weights -/

/-- The weights of the bytes' low halves, -/
def wlo (p : S10240x384x16.Idx → BitVec 8) (sc : S10240x384.Idx → EReal) : S10240x384x16.Idx → EReal :=
  mulf (F := Ideal) (φ := .bf16) (subf (sitofp .bf16 (andi (extui 32 p natLt_8_32) (broadcastInDim S10240x384x16 ![] bcast_S_S10240x384x16 (constantI S_ 32 15#32)))) (broadcastInDim S10240x384x16 ![] bcast_S_S10240x384x16 (constant S_ .bf16 0x4100#16))) (broadcastInDim S10240x384x16 ![0, 1, 2] bcast_S10240x384x1_S10240x384x16_0_1_2 (broadcastInDim S10240x384x1 ![0, 1] bcast_S10240x384_S10240x384x1_0_1 sc))
/-- and of their high halves. -/
def whi (p : S10240x384x16.Idx → BitVec 8) (sc : S10240x384.Idx → EReal) : S10240x384x16.Idx → EReal :=
  mulf (F := Ideal) (φ := .bf16) (subf (sitofp .bf16 (Host.shrsi (extui 32 p natLt_8_32) (broadcastInDim S10240x384x16 ![] bcast_S_S10240x384x16 (constantI S_ 32 4#32)))) (broadcastInDim S10240x384x16 ![] bcast_S_S10240x384x16 (constant S_ .bf16 0x4100#16))) (broadcastInDim S10240x384x16 ![0, 1, 2] bcast_S10240x384x1_S10240x384x16_0_1_2 (broadcastInDim S10240x384x1 ![0, 1] bcast_S10240x384_S10240x384x1_0_1 sc))

theorem wlo_at (p sc) (n : Fin 10240) (g : Fin 384) (j : Fin 16) :
    wlo p sc (ix3 n g j) = Query.weight (fun a b d => p (ix3 a b d)) (fun a b => sc (ix2 a b)) 0 n g j := by
  unfold wlo
  pointwise []
  exact congrArg (· * _) (code_eight _ _ (low_code _))
theorem whi_at (p sc) (n : Fin 10240) (g : Fin 384) (j : Fin 16) :
    whi p sc (ix3 n g j) = Query.weight (fun a b d => p (ix3 a b d)) (fun a b => sc (ix2 a b)) 1 n g j := by
  unfold whi
  pointwise []
  exact congrArg (· * _) (code_eight _ _ (high_code _))

/-! ## The projection -/

/-- The projection: the low halves' product plus the high halves'. -/
def projR (x : S24x48x128x256.Idx → BitVec 32) (p : S10240x384x16.Idx → BitVec 8) (sc : S10240x384.Idx → EReal) : S6144x10240.Idx → EReal :=
  addf (F := Ideal) (φ := .f32) (Host.dotGeneral (F := Ideal) (φ₁ := .bf16) (φ₂ := .f32) dot_S6144x384x16_S10240x384x16_S6144x10240_12_12_0_0_n_n none (shapeCast _ (extractStridedSlice S6144x384x1x16 ![0, 0, 0, 0] (actR x) slices_S6144x384x2x16_S6144x384x1x16_0_0_0_0) shapeCasts_S6144x384x1x16_S6144x384x16) (wlo p sc))
    (Host.dotGeneral (F := Ideal) (φ₁ := .bf16) (φ₂ := .f32) dot_S6144x384x16_S10240x384x16_S6144x10240_12_12_0_0_n_n none (shapeCast _ (extractStridedSlice S6144x384x1x16 ![0, 0, 1, 0] (actR x) slices_S6144x384x2x16_S6144x384x1x16_0_0_1_0) shapeCasts_S6144x384x1x16_S6144x384x16) (whi p sc))

theorem projR_at (x p sc) (s : Fin 6144) (n : Fin 10240) :
    projR x p sc (ix2 s n) = Query.proj (fun a b d e => x (ix4 a b d e)) (fun a b d => p (ix3 a b d)) (fun a b => sc (ix2 a b)) s n := by
  unfold projR
  pointwise []
  unfold Query.proj
  simp only [actR_at, wlo_at, whi_at]

/-! ## The rotation -/

/-- The rotation of pairs of lanes, rounded. -/
def ropeR (q : S6144x10240.Idx → EReal) (C S : S6144x128.Idx → EReal) : S6144x80x128.Idx → EReal :=
  let e : S6144x80x64x2.Idx → EReal := shapeCast _ q shapeCasts_S6144x10240_S6144x80x64x2
  let a : S6144x80x64.Idx → EReal := shapeCast _ (extractStridedSlice S6144x80x64x1 ![0, 0, 0, 0] e slices_S6144x80x64x2_S6144x80x64x1_0_0_0_0) shapeCasts_S6144x80x64x1_S6144x80x64
  let b : S6144x80x64.Idx → EReal := shapeCast _ (extractStridedSlice S6144x80x64x1 ![0, 0, 0, 1] e slices_S6144x80x64x2_S6144x80x64x1_0_0_0_1) shapeCasts_S6144x80x64x1_S6144x80x64
  let c0 : S6144x80x64.Idx → EReal := broadcastInDim S6144x80x64 ![0, 1, 2] bcast_S6144x1x64_S6144x80x64_0_1_2 (shapeCast _ (extractStridedSlice S6144x1x64x1 ![0, 0, 0, 0] (shapeCast _ C shapeCasts_S6144x128_S6144x1x64x2) slices_S6144x1x64x2_S6144x1x64x1_0_0_0_0) shapeCasts_S6144x1x64x1_S6144x1x64)
  let s0 : S6144x80x64.Idx → EReal := broadcastInDim S6144x80x64 ![0, 1, 2] bcast_S6144x1x64_S6144x80x64_0_1_2 (shapeCast _ (extractStridedSlice S6144x1x64x1 ![0, 0, 0, 0] (shapeCast _ S shapeCasts_S6144x128_S6144x1x64x2) slices_S6144x1x64x2_S6144x1x64x1_0_0_0_0) shapeCasts_S6144x1x64x1_S6144x1x64)
  let c1 : S6144x80x64.Idx → EReal := broadcastInDim S6144x80x64 ![0, 1, 2] bcast_S6144x1x64_S6144x80x64_0_1_2 (shapeCast _ (extractStridedSlice S6144x1x64x1 ![0, 0, 0, 1] (shapeCast _ C shapeCasts_S6144x128_S6144x1x64x2) slices_S6144x1x64x2_S6144x1x64x1_0_0_0_1) shapeCasts_S6144x1x64x1_S6144x1x64)
  let s1 : S6144x80x64.Idx → EReal := broadcastInDim S6144x80x64 ![0, 1, 2] bcast_S6144x1x64_S6144x80x64_0_1_2 (shapeCast _ (extractStridedSlice S6144x1x64x1 ![0, 0, 0, 1] (shapeCast _ S shapeCasts_S6144x128_S6144x1x64x2) slices_S6144x1x64x2_S6144x1x64x1_0_0_0_1) shapeCasts_S6144x1x64x1_S6144x1x64)
  truncf (F := Ideal) .bf16 (shapeCast _ (concatenate S6144x80x64x2 3
    [⟨S6144x80x64x1, broadcastInDim S6144x80x64x1 ![0, 1, 2] bcast_S6144x80x64_S6144x80x64x1_0_1_2 (addf (F := Ideal) (φ := .f32) (mulf (F := Ideal) (φ := .f32) a c0) (mulf (F := Ideal) (φ := .f32) b s0))⟩,
     ⟨S6144x80x64x1, broadcastInDim S6144x80x64x1 ![0, 1, 2] bcast_S6144x80x64_S6144x80x64x1_0_1_2 (addf (F := Ideal) (φ := .f32) (mulf (F := Ideal) (φ := .f32) a s1) (mulf (F := Ideal) (φ := .f32) b c1))⟩] concatenates_S6144x80x64x1_S6144x80x64x1_S6144x80x64x2_d3) shapeCasts_S6144x80x64x2_S6144x80x128) bitsLt_bf16_f32

theorem ropeR_at (q C S) (s : Fin 6144) (h : Fin 80) (l : Fin 128) :
    ropeR q C S (ix3 s h l) = q (ix2 s (Query.col h l)) * C (ix2 s l) + q (ix2 s (Query.col h (Query.other l))) * S (ix2 s l) := by
  unfold ropeR
  dsimp only
  pointwise []
  have hl := l.isLt
  have eq : ∀ (n n' : Fin 10240), n.val = n'.val → q (ix2 s n) = q (ix2 s n') := by intro n n' h; rw [Fin.ext h]
  have el : ∀ (D : S6144x128.Idx → EReal) (n n' : Fin 128), n.val = n'.val → D (ix2 s n) = D (ix2 s n') := by intro D n n' h; rw [Fin.ext h]
  split
  · rename_i hp
    have ho : (Query.other l).val = l.val + 1 := if_pos (by omega)
    refine congrArg₂ (· + ·) (congrArg₂ (· * ·) (eq _ _ ?_) (el _ _ _ ?_)) (congrArg₂ (· * ·) (eq _ _ ?_) (el _ _ _ ?_))
    all_goals simp only [Query.col, ho]
    all_goals omega
  · rename_i hp
    have ho : (Query.other l).val = l.val - 1 := if_neg (by omega)
    refine (add_comm _ _).trans ?_
    refine congrArg₂ (· + ·) (congrArg₂ (· * ·) (eq _ _ ?_) (el _ _ _ ?_)) (congrArg₂ (· * ·) (eq _ _ ?_) (el _ _ _ ?_))
    all_goals simp only [Query.col, ho]
    all_goals omega

/-! ## The reference -/

theorem res_eq (m : (ℓ : Loc nD τ sig) → Buf (Elt Ideal) ℓ) (c : Dev nD) : res_main_v56 m c
    = ropeR (projR (m ((c.tc : Thread nD τ).loc main_arg0)) (m ((c.tc : Thread nD τ).loc main_arg3)) (m ((c.tc : Thread nD τ).loc main_arg4))) (m ((c.tc : Thread nD τ).loc main_arg1)) (m ((c.tc : Thread nD τ).loc main_arg2)) := rfl

/-- The rotated projection of the arguments. -/
def outOf (x : S24x48x128x256.Idx → BitVec 32) (C S : S6144x128.Idx → EReal) (p : S10240x384x16.Idx → BitVec 8) (sc : S10240x384.Idx → EReal) : S6144x80x128.Idx → EReal :=
  fun i => Query.out (fun a b d e => x (ix4 a b d e)) (fun a b d => p (ix3 a b d)) (fun a b => sc (ix2 a b)) (fun a b => C (ix2 a b)) (fun a b => S (ix2 a b)) (i 0) (i 1) (i 2)

theorem res_out (m : (ℓ : Loc nD τ sig) → Buf (Elt Ideal) ℓ) (c : Dev nD) : res_main_v56 m c
    = outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [res_eq]
  funext i
  obtain ⟨s, h, l, rfl⟩ : ∃ (s : Fin 6144) (h : Fin 80) (l : Fin 128), i = (ix3 s h l : S6144x80x128.Idx) :=
    ⟨i 0, i 1, i 2, by funext d; match d with | ⟨0, _⟩ => rfl | ⟨1, _⟩ => rfl | ⟨2, _⟩ => rfl⟩
  refine (ropeR_at _ _ _ s h l).trans ?_
  rw [projR_at, projR_at]
  rfl

end Cert.ReferenceIdeal.Value

end
-- ==== Proof.KernelVStream.lean ====
/-
  The weight stream of the kernel `KernelV`: the names and the resources its body's own transfers are stated over.

  The body keeps ONE tile of packed weights in scratch, as six windows (two words of eight bytes by three groups of 128
  scales), and fills it by six transfers counted on one semaphore cell. A tile is therefore in one of two states between
  grid points: FREE (the cell at zero, the scratch and the operand in HBM held whole) or BUSY (all six transfers of a
  block issued, none waited for: a `Transfers.Batch`, and of the operand what the transfers did not borrow).
-/
module

public import proofs.«01_k».proof.Proof.Gen.KernelV.Frame
public import proofs.«01_k».proof.Proof.Gen.KernelV.Skeleton
public import proofs.«01_k».proof.Proof.Blocks
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp

@[expose] public section

set_option maxRecDepth 16384

noncomputable section

namespace Cert.KernelV.Hand

open Cert.KernelV.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## The frame kit at the algebra of a body with transfers of its own -/

set_option maxHeartbeats 800000 in
/-- @main up to the region: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- An input window's current staging buffer holds its block at every point, fetched there or not. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions over the points -/

/-- The first conditional (the first tile's transfers): at the first point only. -/
abbrev cond0_0 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
theorem hcond0_0 : ∀ t : Fin cfg0.N, cond0_0 (grid0.coords t) ↔ t.val = 0 :=
  (by decide +kernel : ∀ t : Fin grid0.N, cond0_0 (grid0.coords t) ↔ t.val = 0)
/-- The second (waits, decoding, the next tile's transfers): where the token block is the first. -/
abbrev cond0_1 (i : grid0.Coords) : Prop := k0_cond2 i = 1#1
theorem hcond0_1 : ∀ t : Fin cfg0.N, cond0_1 (grid0.coords t) ↔ t.val % 24 = 0 :=
  (by decide +kernel : ∀ t : Fin grid0.N, cond0_1 (grid0.coords t) ↔ t.val % 24 = 0)
/-- The third (there is a next tile): before the last row of points. -/
abbrev cond0_2 (i : grid0.Coords) : Prop := k0_cond3 i = 1#1
theorem hcond0_2 : ∀ t : Fin cfg0.N, cond0_2 (grid0.coords t) ↔ t.val < 24 :=
  (by decide +kernel : ∀ t : Fin grid0.N, cond0_2 (grid0.coords t) ↔ t.val < 24)
/-- The tile of a point is its number over the 24 token blocks. -/
theorem coord0 : ∀ t : Fin cfg0.N, (grid0.coords t 0).val = t.val / 24 :=
  (by decide +kernel : ∀ t : Fin grid0.N, (grid0.coords t 0).val = t.val / 24)

/-! ## The memrefs the body is called with -/

abbrev ms0_0 (t : Fin cfg0.N) : Memref sig .tc .vmem S1x48x128x256 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x384 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x8x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x256 .f32 := win0_5.stage (cfg0.slots t 5)
abbrev hs0_5 (t : Fin cfg0.N) : (ms0_5 t).IsWhole := hstage0_5 ((cfg0.slots t 5).cast nbuf0_5)
/-- The scratch: the decoded tile, the packed tile, the output staging. -/
abbrev scM0_0 : Memref sig .tc .vmem S48x512x256 .i32 := Memref.whole cc0_scratch0
abbrev scM0_1 : Memref sig .tc .vmem S2x3x1024x8x128 .i8 := Memref.whole cc0_scratch1
abbrev scM0_2 : Memref sig .tc .vmem S256x8x128 .fp8e4m3 := Memref.whole cc0_scratch3
/-- The packed weights, left in HBM. -/
abbrev hbM0_0 : Memref sig .tc .hbm S2048x16x384 .i8 := Memref.whole main_v0
/-- Memref `M`'s buffer on core `c`: its contents type, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own semaphore cell. -/
abbrev osem0 : Fin 1 → SemLoc sig := fun j => (![SemLoc.dma 12] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 12) 0 := by
  rw [Pipeline.ownSems0_eq_of_list c osem0 [0] (by decide) (by decide)]; rfl
/-- The operand the body moves out of HBM: no window's array. -/
def H0 : Finset (Ref sig .tc) := {main_v0}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_v0)) := by
  rw [BI.bigSep_eq_bigSepL_of_eq [main_v0] (by decide) (by decide)]; rfl
/-- What the launch hands a body with transfers of its own, and takes back, conjunct by conjunct. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ semVal ((c : Thread nD τ), SemLoc.dma 12) 0 ∗ iprop(hbPt0 c hbM0_0 (V m c main_v0))) := by
  rw [Pipeline.ΦD_eq, scopedRest0_eq, ownSems00_eq, hbmPts0_eq]; simp only [scM0_0, scM0_1, scM0_2, owns_whole]; try rfl

/-! ## The windows of the packed tile, and the blocks of the operand they are filled from -/

/-- Window (word `a`, group of scales `b`) of the packed tile. -/
abbrev mkWin (a b : ℕ) (h : ∀ x, (![a, b, 0, 0, 0] : Fin 5 → ℕ) x + S1x1x1024x8x128.size x ≤ S2x3x1024x8x128.size x) : Memref sig .tc .vmem S1024x8x128 .i8 :=
  (scM0_1.slice (Rect.unit (s := S2x3x1024x8x128) ![a, b, 0, 0, 0] S1x1x1024x8x128.size h) (fun _ => rfl)).squeeze S1024x8x128 squeezes_S1x1x1024x8x128_S1024x8x128
abbrev win0 : Memref sig .tc .vmem S1024x8x128 .i8 := mkWin 0 0 inb_S2x3x1024x8x128_S1x1x1024x8x128_0_0_0_0_0
abbrev win1 : Memref sig .tc .vmem S1024x8x128 .i8 := mkWin 0 1 inb_S2x3x1024x8x128_S1x1x1024x8x128_0_1_0_0_0
abbrev win2 : Memref sig .tc .vmem S1024x8x128 .i8 := mkWin 0 2 inb_S2x3x1024x8x128_S1x1x1024x8x128_0_2_0_0_0
abbrev win3 : Memref sig .tc .vmem S1024x8x128 .i8 := mkWin 1 0 inb_S2x3x1024x8x128_S1x1x1024x8x128_1_0_0_0_0
abbrev win4 : Memref sig .tc .vmem S1024x8x128 .i8 := mkWin 1 1 inb_S2x3x1024x8x128_S1x1x1024x8x128_1_1_0_0_0
abbrev win5 : Memref sig .tc .vmem S1024x8x128 .i8 := mkWin 1 2 inb_S2x3x1024x8x128_S1x1x1024x8x128_1_2_0_0_0
/-- Offsets at which a block of the operand fits. -/
abbrev Fits (o : Fin 3 → ℕ) : Prop := ∀ a, o a + S1024x8x128.size a ≤ S2048x16x384.size a
/-- The block of the operand at offsets `o`. -/
abbrev srcO (o : Fin 3 → ℕ) (h : Fits o) : Memref sig .tc .hbm S1024x8x128 .i8 :=
  hbM0_0.slice (Rect.unit (s := S2048x16x384) o S1024x8x128.size h) (fun _ => rfl)
/-- The cell the six transfers are counted on. -/
abbrev cellR : SemLoc sig := SemLoc.dma cc0_scratch2.sem
theorem cellR_eq : cellR = SemLoc.dma 12 := by decide

section Stream
variable (c : Dev nD) (W0 : HbBuf0 (F := F) c hbM0_0)

/-- The operand is lent by share, one share per window. -/
abbrev q0 : PosShare TreeShare := fullShare.left
abbrev q1 : PosShare TreeShare := fullShare.right.left
abbrev q2 : PosShare TreeShare := fullShare.right.right.left
abbrev q3 : PosShare TreeShare := fullShare.right.right.right.left
abbrev q4 : PosShare TreeShare := fullShare.right.right.right.right.left
abbrev q5 : PosShare TreeShare := fullShare.right.right.right.right.right

/-- A window held at `e`; the block at `o` of the operand at a share; the rest of the operand at that share; and it whole. -/
abbrev winP (M : Memref sig .tc .vmem S1024x8x128 .i8) (e : HbBuf0 (F := F) c M) : sProp 𝕄 := M.view.loc (c : Thread nD τ) ↦[M.view.set]{fullShare} e
abbrev srcP (q : PosShare TreeShare) (o : Fin 3 → ℕ) (h : Fits o) : sProp 𝕄 := (srcO o h).view.loc (c : Thread nD τ) ↦[(srcO o h).view.set]{q} W0
def restP (q : PosShare TreeShare) (o : Fin 3 → ℕ) (h : Fits o) : sProp 𝕄 := ((c : Thread nD τ).loc main_v0) ↦[Finset.univ \ (srcO o h).view.set]{q} W0
abbrev wholeP (q : PosShare TreeShare) : sProp 𝕄 := ((c : Thread nD τ).loc main_v0) ↦[Finset.univ]{q} W0
/-- What a window holds once the block at `o` has landed in it (over anything). -/
abbrev landed (M : Memref sig .tc .vmem S1024x8x128 .i8) (o : Fin 3 → ℕ) (h : Fits o) : HbBuf0 (F := F) c M :=
  M.view.writes (Elt F) M.view.junk [⟨Rect.whole S1024x8x128, ReadAs.same.apply ((srcO o h).view.read (Elt F) W0)⟩]
/-- What a transfer delivers: its window landed, and the block it read. -/
abbrev dlv (M : Memref sig .tc .vmem S1024x8x128 .i8) (q : PosShare TreeShare) (o : Fin 3 → ℕ) (h : Fits o) : sProp 𝕄 :=
  iprop(winP c M (landed c W0 M o h) ∗ srcP c W0 q o h)

variable (o0 o1 o2 o3 o4 o5 : Fin 3 → ℕ) (h0 : Fits o0) (h1 : Fits o1) (h2 : Fits o2) (h3 : Fits o3) (h4 : Fits o4) (h5 : Fits o5)
abbrev winD : Fin 6 → sProp 𝕄 :=
  ![dlv c W0 win0 q0 o0 h0, dlv c W0 win1 q1 o1 h1, dlv c W0 win2 q2 o2 h2, dlv c W0 win3 q3 o3 h3, dlv c W0 win4 q4 o4 h4, dlv c W0 win5 q5 o5 h5]
/-- One transfer's amount on the cell. -/
abbrev NN : ℕ := win0.view.amount cellR
/-- The batch with `k` transfers issued and none waited for. -/
abbrev batchP (k : ℕ) : sProp 𝕄 :=
  Transfers.Batch countersEmb (c : Thread nD τ) cellR default NN (winD c W0 o0 o1 o2 o3 o4 o5 h0 h1 h2 h3 h4 h5) k 0
/-- The rests of the six shares. -/
def restsP : sProp 𝕄 := iprop(restP c W0 q0 o0 h0 ∗ restP c W0 q1 o1 h1 ∗ restP c W0 q2 o2 h2 ∗ restP c W0 q3 o3 h3 ∗ restP c W0 q4 o4 h4 ∗ restP c W0 q5 o5 h5)
/-- BUSY: six transfers issued from the blocks at the offsets. -/
def busyO : sProp 𝕄 := iprop(batchP c W0 o0 o1 o2 o3 o4 o5 h0 h1 h2 h3 h4 h5 6 ∗ restsP c W0 o0 o1 o2 o3 o4 o5 h0 h1 h2 h3 h4 h5)

theorem storable_winD : ∀ w, Storable (upEmb : UEmb _ 𝕄) (winD c W0 o0 o1 o2 o3 o4 o5 h0 h1 h2 h3 h4 h5 w) := by
  intro w; fin_cases w <;> exact @Storable.sep _ _ _ _ _ _ _ _ (storable_pt _ _ _ _) (storable_pt _ _ _ _)

/-! ### The windows tile the packed tile -/

abbrev winOff (w : Fin 2 × Fin 3) : Fin 5 → ℕ := ![w.1.val, w.2.val, 0, 0, 0]
theorem inb_winOff (w : Fin 2 × Fin 3) : ∀ a, winOff w a + S1x1x1024x8x128.size a ≤ S2x3x1024x8x128.size a := by
  have := w.1.isLt; have := w.2.isLt; intro a; fin_cases a <;> simp <;> omega
abbrev winSet (w : Fin 2 × Fin 3) : Finset S2x3x1024x8x128.Idx := (Rect.unit (s := S2x3x1024x8x128) (winOff w) S1x1x1024x8x128.size (inb_winOff w)).set
theorem mkWin_set (a b : ℕ) (h) : (mkWin a b h).view.set = (Rect.unit (s := S2x3x1024x8x128) ![a, b, 0, 0, 0] S1x1x1024x8x128.size h).set := by
  simp only [mkWin, Memref.view_squeeze, View.set_reshape]; exact View.set_slice_whole _ _
theorem winSet_disjoint (w w' : Fin 2 × Fin 3) (h : w ≠ w') : Disjoint (winSet w) (winSet w') :=
  Ring.boxes_disjoint (s := S2x3x1024x8x128) S1x1x1024x8x128.size winOff inb_winOff (fun w => ![w.1.val, w.2.val, 0, 0, 0])
    (fun w a => by fin_cases a <;> simp [winOff] <;> omega) (fun v => (Fin.ofNat 2 (v 0), Fin.ofNat 3 (v 1))) (by decide +kernel) w w' h
theorem winSet_cover : Finset.univ.biUnion winSet = (Finset.univ : Finset S2x3x1024x8x128.Idx) := by
  ext i
  simp only [Finset.mem_biUnion, Finset.mem_univ, true_and, iff_true]
  refine ⟨(⟨(i 0).val, (i 0).isLt⟩, ⟨(i 1).val, (i 1).isLt⟩), Rect.mem_set_unit.2 fun a => ?_⟩
  have := (i a).isLt
  fin_cases a <;> simp [winOff] at this ⊢ <;> omega

/-- A window held is its box of the packed tile held. -/
theorem winP_eq (a b : ℕ) (h) (e : Buf (Elt F) ((c : Thread nD τ).loc cc0_scratch1)) :
    winP c (mkWin a b h) e = (((c : Thread nD τ).loc cc0_scratch1) ↦[(Rect.unit (s := S2x3x1024x8x128) ![a, b, 0, 0, 0] S1x1x1024x8x128.size h).set]{fullShare} e : sProp 𝕄) := by
  unfold winP; rw [mkWin_set]
/-- The six windows, each at contents of its own, over (word, group). -/
abbrev winFam (f : Fin 2 × Fin 3 → Buf (Elt F) ((c : Thread nD τ).loc cc0_scratch1)) : sProp 𝕄 :=
  bigSep Finset.univ fun w => ((c : Thread nD τ).loc cc0_scratch1) ↦[winSet w]{fullShare} f w
theorem winFam_eq (f : Fin 2 × Fin 3 → Buf (Elt F) ((c : Thread nD τ).loc cc0_scratch1)) :
    winFam c f = iprop(winP c win0 (f (0, 0)) ∗ winP c win1 (f (0, 1)) ∗ winP c win2 (f (0, 2)) ∗ winP c win3 (f (1, 0)) ∗ winP c win4 (f (1, 1)) ∗ winP c win5 (f (1, 2))) := by
  rw [winFam, BI.bigSep_eq_bigSepL_of_eq [(0, 0), (0, 1), (0, 2), (1, 0), (1, 1), (1, 2)] (by decide) (by decide),
    winP_eq, winP_eq, winP_eq, winP_eq, winP_eq, winP_eq]
  rfl
/-- The packed tile held whole is its six windows at the same contents. -/
theorem wins_split (X : Buf (Elt F) ((c : Thread nD τ).loc cc0_scratch1)) :
    (((c : Thread nD τ).loc cc0_scratch1) ↦{fullShare} X : sProp 𝕄) = iprop(winP c win0 X ∗ winP c win1 X ∗ winP c win2 X ∗ winP c win3 X ∗ winP c win4 X ∗ winP c win5 X) := by
  rw [Ring.pointsTo_blocks winSet winSet_disjoint winSet_cover X]; exact winFam_eq c fun _ => X
/-- Six windows at contents of their own are the tile whole at some contents that agree with each on its window. -/
theorem wins_join (f0 f1 f2 f3 f4 f5 : Buf (Elt F) ((c : Thread nD τ).loc cc0_scratch1)) :
    iprop(winP c win0 f0 ∗ winP c win1 f1 ∗ winP c win2 f2 ∗ winP c win3 f3 ∗ winP c win4 f4 ∗ winP c win5 f5)
      ⊢ (iprop(∃ X, ⌜(∀ i ∈ winSet (0, 0), X i = f0 i) ∧ (∀ i ∈ winSet (0, 1), X i = f1 i) ∧ (∀ i ∈ winSet (0, 2), X i = f2 i) ∧ (∀ i ∈ winSet (1, 0), X i = f3 i) ∧ (∀ i ∈ winSet (1, 1), X i = f4 i) ∧ (∀ i ∈ winSet (1, 2), X i = f5 i)⌝ ∗ ((c : Thread nD τ).loc cc0_scratch1) ↦{fullShare} X) : sProp 𝕄) := by
  have e := winFam_eq (F := F) c fun w => (![![f0, f1, f2], ![f3, f4, f5]] : Fin 2 → Fin 3 → Buf (Elt F) ((c : Thread nD τ).loc cc0_scratch1)) w.1 w.2
  refine (Entails.of_eq e.symm).trans ((blocks_join (ℓ := (c : Thread nD τ).loc cc0_scratch1) winSet winSet_disjoint winSet_cover _ f0).trans ?_)
  iintro ⟨%X, %hX, H⟩; iexists X; isplitr
  · ipureintro; exact ⟨hX (0, 0), hX (0, 1), hX (0, 2), hX (1, 0), hX (1, 1), hX (1, 2)⟩
  iexact H

/-! ### The operand by shares -/

theorem src_split (q : PosShare TreeShare) (o : Fin 3 → ℕ) (h : Fits o) : wholeP (F := F) c W0 q ⊣⊢ iprop(srcP c W0 q o h ∗ restP c W0 q o h) := by
  unfold restP; exact pointsTo_split_subset (Finset.subset_univ _)
theorem whole_split : (hbPt0 c hbM0_0 W0 : sProp 𝕄) ⊣⊢ iprop(wholeP c W0 q0 ∗ wholeP c W0 q1 ∗ wholeP c W0 q2 ∗ wholeP c W0 q3 ∗ wholeP c W0 q4 ∗ wholeP c W0 q5) := by
  refine ⟨?_, ?_⟩
  · iintro H
    ihave G0 := (pointsTo_share (PosShare.mem_left_op_right fullShare)).1 $$ H
    icases G0 with ⟨H0, R1⟩
    ihave G1 := (pointsTo_share (PosShare.mem_left_op_right fullShare.right)).1 $$ R1
    icases G1 with ⟨H1, R2⟩
    ihave G2 := (pointsTo_share (PosShare.mem_left_op_right fullShare.right.right)).1 $$ R2
    icases G2 with ⟨H2, R3⟩
    ihave G3 := (pointsTo_share (PosShare.mem_left_op_right fullShare.right.right.right)).1 $$ R3
    icases G3 with ⟨H3, R4⟩
    ihave G4 := (pointsTo_share (PosShare.mem_left_op_right fullShare.right.right.right.right)).1 $$ R4
    icases G4 with ⟨H4, H5⟩
    isplitl [H0]; · iexact H0
    isplitl [H1]; · iexact H1
    isplitl [H2]; · iexact H2
    isplitl [H3]; · iexact H3
    isplitl [H4]; · iexact H4
    iexact H5
  · iintro ⟨H0, H1, H2, H3, H4, H5⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2]; · iexact H2
    iapply (pointsTo_share (PosShare.mem_left_op_right fullShare.right.right.right)).2
    isplitl [H3]; · iexact H3
    iapply (pointsTo_share (PosShare.mem_left_op_right fullShare.right.right.right.right)).2
    isplitl [H4]; · iexact H4
    iexact H5
/-- The operand whole is, per window, the block at its offsets and the rest of its share. -/
theorem srcs_split : (hbPt0 c hbM0_0 W0 : sProp 𝕄) ⊣⊢ iprop((srcP c W0 q0 o0 h0 ∗ srcP c W0 q1 o1 h1 ∗ srcP c W0 q2 o2 h2 ∗ srcP c W0 q3 o3 h3 ∗ srcP c W0 q4 o4 h4 ∗ srcP c W0 q5 o5 h5) ∗ restsP c W0 o0 o1 o2 o3 o4 o5 h0 h1 h2 h3 h4 h5) := by
  unfold restsP
  refine ⟨?_, ?_⟩
  · iintro H
    ihave G := (whole_split c W0).1 $$ H
    icases G with ⟨H0, H1, H2, H3, H4, H5⟩
    ihave G0 := (src_split c W0 q0 o0 h0).1 $$ H0
    ihave G1 := (src_split c W0 q1 o1 h1).1 $$ H1
    ihave G2 := (src_split c W0 q2 o2 h2).1 $$ H2
    ihave G3 := (src_split c W0 q3 o3 h3).1 $$ H3
    ihave G4 := (src_split c W0 q4 o4 h4).1 $$ H4
    ihave G5 := (src_split c W0 q5 o5 h5).1 $$ H5
    icases G0 with ⟨A0, B0⟩; icases G1 with ⟨A1, B1⟩; icases G2 with ⟨A2, B2⟩; icases G3 with ⟨A3, B3⟩; icases G4 with ⟨A4, B4⟩; icases G5 with ⟨A5, B5⟩
    isplitl [A0 A1 A2 A3 A4 A5]
    · isplitl [A0]; · iexact A0
      isplitl [A1]; · iexact A1
      isplitl [A2]; · iexact A2
      isplitl [A3]; · iexact A3
      isplitl [A4]; · iexact A4
      iexact A5
    · isplitl [B0]; · iexact B0
      isplitl [B1]; · iexact B1
      isplitl [B2]; · iexact B2
      isplitl [B3]; · iexact B3
      isplitl [B4]; · iexact B4
      iexact B5
  · iintro ⟨⟨A0, A1, A2, A3, A4, A5⟩, B0, B1, B2, B3, B4, B5⟩
    iapply (whole_split c W0).2
    isplitl [A0 B0]; · iapply (src_split c W0 q0 o0 h0).2; isplitl [A0]; · iexact A0
                       iexact B0
    isplitl [A1 B1]; · iapply (src_split c W0 q1 o1 h1).2; isplitl [A1]; · iexact A1
                       iexact B1
    isplitl [A2 B2]; · iapply (src_split c W0 q2 o2 h2).2; isplitl [A2]; · iexact A2
                       iexact B2
    isplitl [A3 B3]; · iapply (src_split c W0 q3 o3 h3).2; isplitl [A3]; · iexact A3
                       iexact B3
    isplitl [A4 B4]; · iapply (src_split c W0 q4 o4 h4).2; isplitl [A4]; · iexact A4
                       iexact B4
    iapply (src_split c W0 q5 o5 h5).2; isplitl [A5]; · iexact A5
    iexact B5

/-! ### From free to six transfers about to be issued, and from six waited for to free -/

/-- The cell at zero. -/
abbrev cellP : sProp 𝕄 := semVal ((c : Thread nD τ), cellR) 0

/-- The packed tile held whole, spelt as the body reads it. -/
abbrev tileP (X : HbBuf0 (F := F) c scM0_1) : sProp 𝕄 := scM0_1.view.loc (c : Thread nD τ) ↦[scM0_1.view.set]{fullShare} X
theorem tileP_eq (X : Buf (Elt F) ((c : Thread nD τ).loc cc0_scratch1)) : tileP c X = (((c : Thread nD τ).loc cc0_scratch1) ↦{fullShare} X : sProp 𝕄) := by
  unfold tileP; rw [(Memref.isWhole_whole cc0_scratch1).set_eq_univ]
/-- FREE, the packed tile at `X`. -/
def freeX (X : Buf (Elt F) ((c : Thread nD τ).loc cc0_scratch1)) : sProp 𝕄 :=
  iprop(cellP (F := F) c ∗ tileP c X ∗ hbPt0 c hbM0_0 W0)

/-- Each window of `X` holds the block at its offsets. -/
def Holds (X : Buf (Elt F) ((c : Thread nD τ).loc cc0_scratch1)) : Prop :=
  (∀ i ∈ winSet (0, 0), X i = landed c W0 win0 o0 h0 i) ∧ (∀ i ∈ winSet (0, 1), X i = landed c W0 win1 o1 h1 i) ∧ (∀ i ∈ winSet (0, 2), X i = landed c W0 win2 o2 h2 i)
    ∧ (∀ i ∈ winSet (1, 0), X i = landed c W0 win3 o3 h3 i) ∧ (∀ i ∈ winSet (1, 1), X i = landed c W0 win4 o4 h4 i) ∧ (∀ i ∈ winSet (1, 2), X i = landed c W0 win5 o5 h5 i)

/-- The six windows landed, and what was lent, are the tile free again, each window holding its block. -/
theorem free_of_waited :
    iprop(cellP (F := F) c ∗ (winP c win0 (landed c W0 win0 o0 h0) ∗ winP c win1 (landed c W0 win1 o1 h1) ∗ winP c win2 (landed c W0 win2 o2 h2) ∗ winP c win3 (landed c W0 win3 o3 h3) ∗ winP c win4 (landed c W0 win4 o4 h4) ∗ winP c win5 (landed c W0 win5 o5 h5))
      ∗ (srcP c W0 q0 o0 h0 ∗ srcP c W0 q1 o1 h1 ∗ srcP c W0 q2 o2 h2 ∗ srcP c W0 q3 o3 h3 ∗ srcP c W0 q4 o4 h4 ∗ srcP c W0 q5 o5 h5) ∗ restsP c W0 o0 o1 o2 o3 o4 o5 h0 h1 h2 h3 h4 h5)
    ⊢ iprop(∃ X, ⌜Holds c W0 o0 o1 o2 o3 o4 o5 h0 h1 h2 h3 h4 h5 X⌝ ∗ freeX c W0 X) := by
  unfold freeX Holds
  iintro ⟨Hc, HW, HS, HR⟩
  ihave HJ := (wins_join (F := F) c (landed c W0 win0 o0 h0) (landed c W0 win1 o1 h1) (landed c W0 win2 o2 h2) (landed c W0 win3 o3 h3) (landed c W0 win4 o4 h4) (landed c W0 win5 o5 h5)) $$ HW
  icases HJ with ⟨%X, %hX, HX⟩
  iexists X
  isplitr; · ipureintro; exact hX
  isplitl [Hc]; · iexact Hc
  isplitl [HX]; · rw [tileP_eq]; iexact HX
  iapply (srcs_split c W0 o0 o1 o2 o3 o4 o5 h0 h1 h2 h3 h4 h5).2
  isplitl [HS]; · iexact HS
  iexact HR

end Stream

/-! ### The blocks of tile `b` -/

section Tile
variable (c : Dev nD) (W0 : HbBuf0 (F := F) c hbM0_0)

/-- Offsets of tile `b`'s block in word `r / 8`, group of scales `k / 128`. -/
abbrev offB (b r k : ℕ) : Fin 3 → ℕ := ![1024 * b, r, k]
theorem fits_offB (b : Fin 2) {r k : ℕ} (hr : r ≤ 8) (hk : k ≤ 256) : Fits (offB b.val r k) := by
  have := b.isLt; intro a; fin_cases a <;> simp [offB] <;> omega
/-- BUSY with tile `b`. -/
def busy (b : Fin 2) : sProp 𝕄 :=
  busyO c W0 (offB b.val 0 0) (offB b.val 0 128) (offB b.val 0 256) (offB b.val 8 0) (offB b.val 8 128) (offB b.val 8 256)
    (fits_offB b (by decide) (by decide)) (fits_offB b (by decide) (by decide)) (fits_offB b (by decide) (by decide))
    (fits_offB b (by decide) (by decide)) (fits_offB b (by decide) (by decide)) (fits_offB b (by decide) (by decide))
/-- `X` holds tile `b`. -/
def HoldsB (b : Fin 2) (X : Buf (Elt F) ((c : Thread nD τ).loc cc0_scratch1)) : Prop :=
  Holds c W0 (offB b.val 0 0) (offB b.val 0 128) (offB b.val 0 256) (offB b.val 8 0) (offB b.val 8 128) (offB b.val 8 256)
    (fits_offB b (by decide) (by decide)) (fits_offB b (by decide) (by decide)) (fits_offB b (by decide) (by decide))
    (fits_offB b (by decide) (by decide)) (fits_offB b (by decide) (by decide)) (fits_offB b (by decide) (by decide)) X
/-- Transfers issued from offsets equal to tile `b`'s are tile `b`'s. -/
theorem busyO_eq (b : Fin 2) (o0 o1 o2 o3 o4 o5 : Fin 3 → ℕ) (h0 : Fits o0) (h1 : Fits o1) (h2 : Fits o2) (h3 : Fits o3) (h4 : Fits o4) (h5 : Fits o5)
    (e0 : o0 = offB b.val 0 0) (e1 : o1 = offB b.val 0 128) (e2 : o2 = offB b.val 0 256) (e3 : o3 = offB b.val 8 0) (e4 : o4 = offB b.val 8 128) (e5 : o5 = offB b.val 8 256) :
    busyO c W0 o0 o1 o2 o3 o4 o5 h0 h1 h2 h3 h4 h5 = busy c W0 b := by
  subst e0 e1 e2 e3 e4 e5; rfl
theorem holdsO_eq (b : Fin 2) (o0 o1 o2 o3 o4 o5 : Fin 3 → ℕ) (h0 : Fits o0) (h1 : Fits o1) (h2 : Fits o2) (h3 : Fits o3) (h4 : Fits o4) (h5 : Fits o5)
    (e0 : o0 = offB b.val 0 0) (e1 : o1 = offB b.val 0 128) (e2 : o2 = offB b.val 0 256) (e3 : o3 = offB b.val 8 0) (e4 : o4 = offB b.val 8 128) (e5 : o5 = offB b.val 8 256)
    (X : Buf (Elt F) ((c : Thread nD τ).loc cc0_scratch1)) (hX : Holds c W0 o0 o1 o2 o3 o4 o5 h0 h1 h2 h3 h4 h5 X) : HoldsB c W0 b X := by
  subst e0 e1 e2 e3 e4 e5; exact hX
end Tile

end Cert.KernelV.Hand

end
-- ==== Proof.KernelVLoop.lean ====
/-
  One trip of the decoding loop of `KernelV`'s body and the loop by its invariant, at the algebra of a body with transfers
  of its own: a trip reads the scales and the packed tile and writes pieces of the decoded tile, and before trip `k` the
  decoded tile holds the pieces of the trips before it written over what it held at entry.
-/
module

public import proofs.«01_k».proof.Proof.KernelVStream
public import proofs.«01_k».proof.Proof.Gen.KernelV.Loops

@[expose] public section

set_option maxRecDepth 8192
set_option maxHeartbeats 4000000

noncomputable section

namespace Cert.KernelV.Hand

open Cert.KernelV.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (c : Dev nD) (i : grid0.Coords)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole) (arg5 : Memref sig .tc .hbm S2048x16x384 .i8) (harg5 : arg5.IsWhole)
  (arg6 : Memref sig .tc .vmem S1024x384 .bf16) (harg6 : arg6.IsWhole) (arg7 : Memref sig .tc .vmem S256x8x128 .fp8e4m3) (harg7 : arg7.IsWhole) (arg8 : Memref sig .tc .vmem S1x8x256 .f32) (harg8 : arg8.IsWhole)
  (arg9 : Memref sig .tc .vmem S48x512x256 .i32) (harg9 : arg9.IsWhole) (arg10 : Memref sig .tc .vmem S2x3x1024x8x128 .i8) (harg10 : arg10.IsWhole)
  (arg11 : DmaSems sig S_) (arg12 : Memref sig .tc .vmem S256x8x128 .fp8e4m3) (harg12 : arg12.IsWhole) (k0_h2 : k0_cond2 i = 1#1)
  (X6 : BufTy.Contents (Elt F) arg6.view.ty) (X10 : BufTy.Contents (Elt F) arg10.view.ty)

/-- What a trip holds: the scales and the packed tile at `X6`, `X10`, the decoded tile at `f8`. -/
abbrev Trip (f8 : BufTy.Contents (Elt F) arg9.view.ty) : sProp 𝕄 :=
  iprop((arg6.view.loc (c : Thread nD τ) ↦[arg6.view.set]{fullShare} X6) ∗ (arg10.view.loc (c : Thread nD τ) ↦[arg10.view.set]{fullShare} X10) ∗ (arg9.view.loc (c : Thread nD τ) ↦[arg9.view.set]{fullShare} f8))

/-- One trip at a symbolic `k`: the pieces it writes are the run's own finds. -/
@[irreducible] def trip (k : Fin k0_t1_loop.trips) :
    { L : List (View.Piece (Elt F) S48x512x256 .i32) // ∀ (E : Set ℕ) (f8 : BufTy.Contents (Elt F) arg9.view.ty),
      Trip (F := F) c arg6 arg9 arg10 X6 X10 f8
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 arg12 harg12 k0_h2 k PUnit.unit)
          (fun _ => Trip (F := F) c arg6 arg9 arg10 X6 X10 (arg9.view.writes (Elt F) f8 L)) } := by
  have hk : k.val < 64 := Nat.lt_of_lt_of_le k.isLt k0_t1_abs.2.1
  refine ⟨?_, fun E f8 => ?run⟩
  case run =>
    unfold k0_t1_body
    iintro ⟨HR6, HR9, HW8⟩
    sl_exec
    sl_step
    sl_close

/-- The pieces of trip `k`. -/
abbrev tripL (k : Fin k0_t1_loop.trips) : List (View.Piece (Elt F) S48x512x256 .i32) :=
  (trip (F := F) c i arg2 harg2 arg3 harg3 arg4 harg4 arg5 harg5 arg6 harg6 arg7 harg7 arg8 harg8 arg9 harg9 arg10 harg10 arg11 arg12 harg12 k0_h2 X6 X10 k).1

/-- The pieces of the trips before `k`, last first. -/
def pieces : ℕ → List (View.Piece (Elt F) S48x512x256 .i32)
  | 0 => []
  | k + 1 => if h : k < k0_t1_loop.trips then
      tripL (F := F) c i arg2 harg2 arg3 harg3 arg4 harg4 arg5 harg5 arg6 harg6 arg7 harg7 arg8 harg8 arg9 harg9 arg10 harg10 arg11 arg12 harg12 k0_h2 X6 X10 ⟨k, h⟩ ++ pieces k
    else pieces k
theorem pieces_succ (k : Fin k0_t1_loop.trips) :
    pieces (F := F) c i arg2 harg2 arg3 harg3 arg4 harg4 arg5 harg5 arg6 harg6 arg7 harg7 arg8 harg8 arg9 harg9 arg10 harg10 arg11 arg12 harg12 k0_h2 X6 X10 (k.val + 1)
      = tripL (F := F) c i arg2 harg2 arg3 harg3 arg4 harg4 arg5 harg5 arg6 harg6 arg7 harg7 arg8 harg8 arg9 harg9 arg10 harg10 arg11 arg12 harg12 k0_h2 X6 X10 k ++ pieces (F := F) c i arg2 harg2 arg3 harg3 arg4 harg4 arg5 harg5 arg6 harg6 arg7 harg7 arg8 harg8 arg9 harg9 arg10 harg10 arg11 arg12 harg12 k0_h2 X6 X10 k.val := by
  rw [pieces.eq_2]; exact dif_pos k.isLt

/-- The loop's invariant before trip `k`. -/
def loopInv (G9 : BufTy.Contents (Elt F) arg9.view.ty) (k : ℕ) : sProp 𝕄 :=
  iprop((arg6.view.loc (c : Thread nD τ) ↦[arg6.view.set]{fullShare} X6) ∗ (arg10.view.loc (c : Thread nD τ) ↦[arg10.view.set]{fullShare} X10)
    ∗ (∃ f, (arg9.view.loc (c : Thread nD τ) ↦[arg9.view.set]{fullShare} f) ∗ ⌜f = arg9.view.writes (Elt F) G9 (pieces (F := F) c i arg2 harg2 arg3 harg3 arg4 harg4 arg5 harg5 arg6 harg6 arg7 harg7 arg8 harg8 arg9 harg9 arg10 harg10 arg11 arg12 harg12 k0_h2 X6 X10 k)⌝))

set_option warn.classDefReducibility false in
/-- The decoding loop by its invariant. -/
def decodeLoop (E : Set ℕ) (G9 : BufTy.Contents (Elt F) arg9.view.ty) :
    LoopInvTy_k0_t1 (F := F) Unit ℕ (Pipeline.UD sig nD τ) ℕ Variants.none c none E i arg2 harg2 arg3 harg3 arg4 harg4 arg5 harg5 arg6 harg6 arg7 harg7 arg8 harg8 arg9 harg9 arg10 harg10 arg11 arg12 harg12 k0_h2 where
  inv k _ := loopInv (F := F) c i arg2 harg2 arg3 harg3 arg4 harg4 arg5 harg5 arg6 harg6 arg7 harg7 arg8 harg8 arg9 harg9 arg10 harg10 arg11 arg12 harg12 k0_h2 X6 X10 G9 k
  step k acc := by
    unfold loopInv
    iintro ⟨HR6, HR9, ⟨%f8, HW8, %h8⟩⟩
    iapply (wp_wand_r Idealize.ShloMosaic.frame (wpE (defs₀ (F := F)) Variants.none (c : Thread nD τ) none) E)
    isplitl [HR6 HR9 HW8]
    · iapply ((trip (F := F) c i arg2 harg2 arg3 harg3 arg4 harg4 arg5 harg5 arg6 harg6 arg7 harg7 arg8 harg8 arg9 harg9 arg10 harg10 arg11 arg12 harg12 k0_h2 X6 X10 k).2 E f8)
      isplitl [HR6]; · iexact HR6
      isplitl [HR9]; · iexact HR9
      iexact HW8
    · iintro %_ ⟨HR6, HR9, HW8⟩
      isplitl [HR6]; · iexact HR6
      isplitl [HR9]; · iexact HR9
      rw [pieces_succ]
      iexists _; isplitl [HW8]; · iexact HW8
      ipureintro; rw [h8, ← View.writes_append]

end Cert.KernelV.Hand

end
-- ==== Proof.KernelVBody.lean ====
/-
  The first part of `KernelV`'s body, case by case: the conditionals that wait for a tile, decode it and start the next one's
  transfers, and the first products.
-/
module

public import proofs.«01_k».proof.Proof.KernelVLoop

@[expose] public section

set_option maxRecDepth 16384
set_option maxHeartbeats 4000000

noncomputable section

namespace Cert.KernelV.Hand

open Cert.KernelV.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

variable (c : Dev nD) (i : grid0.Coords) (W0 : HbBuf0 (F := F) c hbM0_0)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole)
  (arg6 : Memref sig .tc .vmem S1024x384 .bf16) (harg6 : arg6.IsWhole) (arg7 : Memref sig .tc .vmem S256x8x128 .fp8e4m3) (harg7 : arg7.IsWhole) (arg8 : Memref sig .tc .vmem S1x8x256 .f32) (harg8 : arg8.IsWhole)
  (arg9 : Memref sig .tc .vmem S48x512x256 .i32) (harg9 : arg9.IsWhole)
  (arg12 : Memref sig .tc .vmem S256x8x128 .fp8e4m3) (harg12 : arg12.IsWhole)
  (X2 : BufTy.Contents (Elt F) arg2.view.ty) (X6 : BufTy.Contents (Elt F) arg6.view.ty) (G9 : BufTy.Contents (Elt F) arg9.view.ty)

/-- A memref held at contents `f`, spelt as the body reads it. -/
abbrev memP {sp : Space} {S : Shape} {e : EltTy} (M : Memref sig .tc sp S e) (f : BufTy.Contents (Elt F) M.view.ty) : sProp 𝕄 :=
  M.view.loc (c : Thread nD τ) ↦[M.view.set]{fullShare} f

/-- The first part of the body at the call's operands. -/
abbrev firstPart := k0_part48 (F := F) i arg2 harg2 arg3 harg3 arg4 harg4 (Memref.whole main_v0) (Memref.isWhole_whole _) arg6 harg6 arg7 harg7 arg8 harg8 arg9 harg9 scM0_1 (Memref.isWhole_whole _) cc0_scratch2 arg12 harg12

/-- What the first part hands on, over what the activations' block and the decoded tile hold. -/
abbrev firstV : (_ : FVec F S256x512 .f32) ×' FVec F S256x256 .bf16 := ⟨k0_pay201 (arg2.view.readAt (Elt F) (Rect.unit (s := S1x48x128x256) ![0, 0, 0, 0] S1x1x128x256.size inb_S1x48x128x256_S1x1x128x256_0_0_0_0).toLoadRect X2) (arg9.view.readAt (Elt F) (Rect.unit (s := S48x512x256) ![0, 0, 0] S1x256x256.size inb_S48x512x256_S1x256x256_0_0_0).toLoadRect G9) (arg2.view.readAt (Elt F) (Rect.unit (s := S1x48x128x256) ![0, 1, 0, 0] S1x1x128x256.size inb_S1x48x128x256_S1x1x128x256_0_1_0_0).toLoadRect X2) (arg9.view.readAt (Elt F) (Rect.unit (s := S48x512x256) ![1, 0, 0] S1x256x256.size inb_S48x512x256_S1x256x256_1_0_0).toLoadRect G9), k0_pay202 (arg2.view.readAt (Elt F) (Rect.unit (s := S1x48x128x256) ![0, 2, 0, 0] S1x1x128x256.size inb_S1x48x128x256_S1x1x128x256_0_2_0_0).toLoadRect X2)⟩

/-- The decoded tile after the loop, over the scales, the packed tile and what it held before. -/
abbrev decoded (hc1 : k0_cond2 i = 1#1) (X10 : HbBuf0 (F := F) c scM0_1) : BufTy.Contents (Elt F) arg9.view.ty :=
  arg9.view.writes (Elt F) G9 (pieces (F := F) c i arg2 harg2 arg3 harg3 arg4 harg4 (Memref.whole main_v0) (Memref.isWhole_whole _) arg6 harg6 arg7 harg7 arg8 harg8 arg9 harg9 scM0_1 (Memref.isWhole_whole _) cc0_scratch2 arg12 harg12 hc1 X6 X10 k0_t1_loop.trips)

/-- B: the token block is not the first of its tile, and the body reads what earlier points decoded. -/
theorem first_B (W : Waits sig Unit) (hc0 : ¬cond0_0 i) (hc1 : ¬cond0_1 i) :
    iprop(memP c arg2 X2 ∗ memP c arg9 G9 ∗ owes (c : Thread nD τ) 0 W)
    ⊢ wp frame (wpE (defs₀ (F := F)) Variants.none c none) Set.univ (firstPart (F := F) i arg2 harg2 arg3 harg3 arg4 harg4 arg6 harg6 arg7 harg7 arg8 harg8 arg9 harg9 arg12 harg12)
      (fun v => iprop(memP c arg2 X2 ∗ memP c arg9 G9 ∗ ⌜v = firstV arg2 arg9 X2 G9⌝ ∗ ∃ W', owes (c : Thread nD τ) 0 W')) := by
  haveI : Fact (¬cond0_0 i) := ⟨hc0⟩
  haveI : Fact (¬cond0_1 i) := ⟨hc1⟩
  iintro ⟨H2, H8, HW⟩
  unfold firstPart
  simp only [k0_part48_eq_skeleton]; unfold k0_part48_skel
  sl_exec (disch := first | sl_exact hc0 | sl_exact hc1)
  sl_step
  isplitl [H2]; · iexact H2
  isplitl [H8]; · iexact H8
  isplitr; · ipureintro; rfl
  iexists _; iexact HW

/-- D: the first token block of the last tile. -/
theorem first_D (W : Waits sig Unit) (hc0 : ¬cond0_0 i) (hc1 : cond0_1 i) (hc2 : ¬cond0_2 i) (o0 o1 o2 o3 o4 o5 : Fin 3 → ℕ) (h0 : Fits o0) (h1 : Fits o1) (h2 : Fits o2) (h3 : Fits o3) (h4 : Fits o4) (h5 : Fits o5) :
    iprop(memP c arg2 X2 ∗ memP c arg6 X6 ∗ memP c arg9 G9 ∗ busyO c W0 o0 o1 o2 o3 o4 o5 h0 h1 h2 h3 h4 h5 ∗ owes (c : Thread nD τ) 0 W)
    ⊢ wp frame (wpE (defs₀ (F := F)) Variants.none c none) Set.univ (firstPart (F := F) i arg2 harg2 arg3 harg3 arg4 harg4 arg6 harg6 arg7 harg7 arg8 harg8 arg9 harg9 arg12 harg12)
      (fun v => iprop(∃ X10, ⌜Holds c W0 o0 o1 o2 o3 o4 o5 h0 h1 h2 h3 h4 h5 X10⌝ ∗ memP c arg2 X2 ∗ memP c arg6 X6
        ∗ memP c arg9 (decoded (F := F) c i arg2 harg2 arg3 harg3 arg4 harg4 arg6 harg6 arg7 harg7 arg8 harg8 arg9 harg9 arg12 harg12 X6 G9 hc1 X10)
        ∗ freeX c W0 X10
        ∗ ⌜v = firstV arg2 arg9 X2 (decoded (F := F) c i arg2 harg2 arg3 harg3 arg4 harg4 arg6 harg6 arg7 harg7 arg8 harg8 arg9 harg9 arg12 harg12 X6 G9 hc1 X10)⌝
        ∗ ∃ W', owes (c : Thread nD τ) 0 W')) := by
  haveI : Fact (¬cond0_0 i) := ⟨hc0⟩
  haveI : Fact (cond0_1 i) := ⟨hc1⟩
  haveI : Fact (¬cond0_2 i) := ⟨hc2⟩
  iintro ⟨H2, H6, H8, HBB, HW⟩
  unfold firstPart
  simp only [k0_part48_eq_skeleton]; unfold k0_part48_skel
  unfold busyO restsP
  icases HBB with ⟨HB, Hr0, Hr1, Hr2, Hr3, Hr4, Hr5⟩
  sl_exec (disch := first | sl_exact hc0 | sl_exact hc1)
  ihave HF := (free_of_waited c W0 o0 o1 o2 o3 o4 o5 h0 h1 h2 h3 h4 h5) $$ [HB HB_dst0 HB_dst1 HB_dst2 HB_dst3 HB_dst4 HB_dst5 HB_src0 HB_src1 HB_src2 HB_src3 HB_src4 HB_src5 Hr0 Hr1 Hr2 Hr3 Hr4 Hr5]
  · isplitl [HB]; · iexact HB
    isplitl [HB_dst0 HB_dst1 HB_dst2 HB_dst3 HB_dst4 HB_dst5]
    · isplitl [HB_dst0]; · iexact HB_dst0
      isplitl [HB_dst1]; · iexact HB_dst1
      isplitl [HB_dst2]; · iexact HB_dst2
      isplitl [HB_dst3]; · iexact HB_dst3
      isplitl [HB_dst4]; · iexact HB_dst4
      iexact HB_dst5
    isplitl [HB_src0 HB_src1 HB_src2 HB_src3 HB_src4 HB_src5]
    · isplitl [HB_src0]; · iexact HB_src0
      isplitl [HB_src1]; · iexact HB_src1
      isplitl [HB_src2]; · iexact HB_src2
      isplitl [HB_src3]; · iexact HB_src3
      isplitl [HB_src4]; · iexact HB_src4
      iexact HB_src5
    unfold restsP
    isplitl [Hr0]; · iexact Hr0
    isplitl [Hr1]; · iexact Hr1
    isplitl [Hr2]; · iexact Hr2
    isplitl [Hr3]; · iexact Hr3
    isplitl [Hr4]; · iexact Hr4
    iexact Hr5
  icases HF with ⟨%X10, %hX10, HF⟩
  unfold freeX
  icases HF with ⟨HB, H9, HS⟩
  sl_for (fun k _ => loopInv (F := F) c i arg2 harg2 arg3 harg3 arg4 harg4 (Memref.whole main_v0) (Memref.isWhole_whole _) arg6 harg6 arg7 harg7 arg8 harg8 arg9 harg9 scM0_1 (Memref.isWhole_whole _) cc0_scratch2 arg12 harg12 hc1 X6 X10 G9 k) $$ [H6 H9 H8]
  · intro k acc; exact (decodeLoop (F := F) c i arg2 harg2 arg3 harg3 arg4 harg4 (Memref.whole main_v0) (Memref.isWhole_whole _) arg6 harg6 arg7 harg7 arg8 harg8 arg9 harg9 scM0_1 (Memref.isWhole_whole _) cc0_scratch2 arg12 harg12 hc1 X6 X10 Set.univ G9).step k acc
  · unfold loopInv
    isplitl [H6]; · iexact H6
    isplitl [H9]; · iexact H9
    iexists _; isplitl [H8]; · iexact H8
    ipureintro; rfl
  iintro %_ HI
  unfold loopInv
  icases HI with ⟨H6, H9, ⟨%f8, H8, %h8⟩⟩
  subst h8
  sl_exec (disch := first | sl_exact hc2)
  sl_step
  iexists X10
  isplitr; · ipureintro; exact hX10
  isplitl [H2]; · iexact H2
  isplitl [H6]; · iexact H6
  isplitl [H8]; · iexact H8
  isplitl [HB H9 HS]
  · isplitl [HB]; · iexact HB
    isplitl [H9]; · iexact H9
    iexact HS
  isplitr; · ipureintro; rfl
  iexists _; iexact HW

/-- A: the first point, which starts the first tile as well as the second. -/
theorem first_A (W : Waits sig Unit) (hc0 : cond0_0 i) (hc1 : cond0_1 i) (hc2 : cond0_2 i) (X : HbBuf0 (F := F) c scM0_1) :
    iprop(memP c arg2 X2 ∗ memP c arg6 X6 ∗ memP c arg9 G9 ∗ freeX c W0 X ∗ owes (c : Thread nD τ) 0 W)
    ⊢ wp frame (wpE (defs₀ (F := F)) Variants.none c none) Set.univ (firstPart (F := F) i arg2 harg2 arg3 harg3 arg4 harg4 arg6 harg6 arg7 harg7 arg8 harg8 arg9 harg9 arg12 harg12)
      (fun v => iprop(∃ X10, ⌜Holds c W0 ![0, 0, 0] ![0, 0, 128] ![0, 0, 256] ![0, 8, 0] ![0, 8, 128] ![0, 8, 256] inb_S2048x16x384_S1024x8x128_0_0_0 inb_S2048x16x384_S1024x8x128_0_0_128 inb_S2048x16x384_S1024x8x128_0_0_256 inb_S2048x16x384_S1024x8x128_0_8_0 inb_S2048x16x384_S1024x8x128_0_8_128 inb_S2048x16x384_S1024x8x128_0_8_256 X10⌝ ∗ memP c arg2 X2 ∗ memP c arg6 X6
        ∗ memP c arg9 (decoded (F := F) c i arg2 harg2 arg3 harg3 arg4 harg4 arg6 harg6 arg7 harg7 arg8 harg8 arg9 harg9 arg12 harg12 X6 G9 hc1 X10)
        ∗ busyO c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)
        ∗ ⌜v = firstV arg2 arg9 X2 (decoded (F := F) c i arg2 harg2 arg3 harg3 arg4 harg4 arg6 harg6 arg7 harg7 arg8 harg8 arg9 harg9 arg12 harg12 X6 G9 hc1 X10)⌝
        ∗ ∃ W', owes (c : Thread nD τ) 0 W')) := by
  haveI : Fact (cond0_0 i) := ⟨hc0⟩
  haveI : Fact (cond0_1 i) := ⟨hc1⟩
  haveI : Fact (cond0_2 i) := ⟨hc2⟩
  iintro ⟨H2, H6, H8, HBB, HW⟩
  unfold firstPart
  simp only [k0_part48_eq_skeleton]; unfold k0_part48_skel
  unfold freeX
  icases HBB with ⟨HB, H9, HS⟩
  ihave H9 := (Entails.of_eq ((tileP_eq c X).trans (wins_split c X))) $$ H9
  icases H9 with ⟨HD0, HD1, HD2, HD3, HD4, HD5⟩
  ihave HS2 := (srcs_split c W0 ![0, 0, 0] ![0, 0, 128] ![0, 0, 256] ![0, 8, 0] ![0, 8, 128] ![0, 8, 256] inb_S2048x16x384_S1024x8x128_0_0_0 inb_S2048x16x384_S1024x8x128_0_0_128 inb_S2048x16x384_S1024x8x128_0_0_256 inb_S2048x16x384_S1024x8x128_0_8_0 inb_S2048x16x384_S1024x8x128_0_8_128 inb_S2048x16x384_S1024x8x128_0_8_256).1 $$ HS
  icases HS2 with ⟨⟨HS0, HS1, HS2, HS3, HS4, HS5⟩, HR⟩
  have hD := storable_winD (F := F) c W0 ![0, 0, 0] ![0, 0, 128] ![0, 0, 256] ![0, 8, 0] ![0, 8, 128] ![0, 8, 256] inb_S2048x16x384_S1024x8x128_0_0_0 inb_S2048x16x384_S1024x8x128_0_0_128 inb_S2048x16x384_S1024x8x128_0_0_256 inb_S2048x16x384_S1024x8x128_0_8_0 inb_S2048x16x384_S1024x8x128_0_8_128 inb_S2048x16x384_S1024x8x128_0_8_256
  imod (Transfers.batch_alloc' (Lvl := ℕ) countersEmb (c : Thread nD τ) default NN (winD c W0 ![0, 0, 0] ![0, 0, 128] ![0, 0, 256] ![0, 8, 0] ![0, 8, 128] ![0, 8, 256] inb_S2048x16x384_S1024x8x128_0_0_0 inb_S2048x16x384_S1024x8x128_0_0_128 inb_S2048x16x384_S1024x8x128_0_0_256 inb_S2048x16x384_S1024x8x128_0_8_0 inb_S2048x16x384_S1024x8x128_0_8_128 inb_S2048x16x384_S1024x8x128_0_8_256) (sm := cellR) (E := Set.univ)) $$ HB with HB
  clear hD
  sl_exec (disch := first | sl_exact hc0 | sl_exact hc1)
  ihave HF := (free_of_waited c W0 ![0, 0, 0] ![0, 0, 128] ![0, 0, 256] ![0, 8, 0] ![0, 8, 128] ![0, 8, 256] inb_S2048x16x384_S1024x8x128_0_0_0 inb_S2048x16x384_S1024x8x128_0_0_128 inb_S2048x16x384_S1024x8x128_0_0_256 inb_S2048x16x384_S1024x8x128_0_8_0 inb_S2048x16x384_S1024x8x128_0_8_128 inb_S2048x16x384_S1024x8x128_0_8_256) $$ [HB HB_dst0 HB_dst1 HB_dst2 HB_dst3 HB_dst4 HB_dst5 HB_src0 HB_src1 HB_src2 HB_src3 HB_src4 HB_src5 HR]
  · isplitl [HB]; · iexact HB
    isplitl [HB_dst0 HB_dst1 HB_dst2 HB_dst3 HB_dst4 HB_dst5]
    · isplitl [HB_dst0]; · iexact HB_dst0
      isplitl [HB_dst1]; · iexact HB_dst1
      isplitl [HB_dst2]; · iexact HB_dst2
      isplitl [HB_dst3]; · iexact HB_dst3
      isplitl [HB_dst4]; · iexact HB_dst4
      iexact HB_dst5
    isplitl [HB_src0 HB_src1 HB_src2 HB_src3 HB_src4 HB_src5]
    · isplitl [HB_src0]; · iexact HB_src0
      isplitl [HB_src1]; · iexact HB_src1
      isplitl [HB_src2]; · iexact HB_src2
      isplitl [HB_src3]; · iexact HB_src3
      isplitl [HB_src4]; · iexact HB_src4
      iexact HB_src5
    iexact HR
  icases HF with ⟨%X10, %hX10, HF⟩
  unfold freeX
  icases HF with ⟨HB, H9, HS⟩
  sl_for (fun k _ => loopInv (F := F) c i arg2 harg2 arg3 harg3 arg4 harg4 (Memref.whole main_v0) (Memref.isWhole_whole _) arg6 harg6 arg7 harg7 arg8 harg8 arg9 harg9 scM0_1 (Memref.isWhole_whole _) cc0_scratch2 arg12 harg12 hc1 X6 X10 G9 k) $$ [H6 H9 H8]
  · intro k acc; exact (decodeLoop (F := F) c i arg2 harg2 arg3 harg3 arg4 harg4 (Memref.whole main_v0) (Memref.isWhole_whole _) arg6 harg6 arg7 harg7 arg8 harg8 arg9 harg9 scM0_1 (Memref.isWhole_whole _) cc0_scratch2 arg12 harg12 hc1 X6 X10 Set.univ G9).step k acc
  · unfold loopInv
    isplitl [H6]; · iexact H6
    isplitl [H9]; · iexact H9
    iexists _; isplitl [H8]; · iexact H8
    ipureintro; rfl
  iintro %_ HI
  unfold loopInv
  icases HI with ⟨H6, H9, ⟨%f8, H8, %h8⟩⟩
  subst h8
  ihave H9 := (Entails.of_eq ((tileP_eq c X10).trans (wins_split c X10))) $$ H9
  icases H9 with ⟨HD0, HD1, HD2, HD3, HD4, HD5⟩
  ihave HS2 := (srcs_split c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)).1 $$ HS
  icases HS2 with ⟨⟨HS0, HS1, HS2, HS3, HS4, HS5⟩, HR⟩
  have hD := storable_winD (F := F) c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)
  imod (Transfers.batch_alloc' (Lvl := ℕ) countersEmb (c : Thread nD τ) default NN (winD c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)) (sm := cellR) (E := Set.univ)) $$ HB with HB
  clear hD
  sl_exec (disch := first | sl_exact hc2)
  sl_step
  iexists X10
  isplitr; · ipureintro; exact hX10
  isplitl [H2]; · iexact H2
  isplitl [H6]; · iexact H6
  isplitl [H8]; · iexact H8
  isplitl [HB HR]
  · try unfold busyO
    isplitl [HB]; · iexact HB
    try unfold restsP
    iexact HR
  isplitr; · ipureintro; rfl
  iexists _; iexact HW

end Cert.KernelV.Hand

end
-- ==== Proof.KernelVTail.lean ====
/-
  The rest of `KernelV`'s body, which is the same at every point: from what its first part hands on, the products over the
  activations' chunks, the codes and their scales, and the stores of both blocks.
-/
module

public import proofs.«01_k».proof.Proof.KernelVBody

@[expose] public section

set_option maxRecDepth 16384
set_option maxHeartbeats 4000000

noncomputable section

namespace Cert.KernelV.Hand

open Cert.KernelV.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

variable (c : Dev nD) (i : grid0.Coords) (W0 : HbBuf0 (F := F) c hbM0_0)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole)
  (arg6 : Memref sig .tc .vmem S1024x384 .bf16) (harg6 : arg6.IsWhole) (arg7 : Memref sig .tc .vmem S256x8x128 .fp8e4m3) (harg7 : arg7.IsWhole) (arg8 : Memref sig .tc .vmem S1x8x256 .f32) (harg8 : arg8.IsWhole)
  (arg9 : Memref sig .tc .vmem S48x512x256 .i32) (harg9 : arg9.IsWhole)
  (arg12 : Memref sig .tc .vmem S256x8x128 .fp8e4m3) (harg12 : arg12.IsWhole)
  (X2 : BufTy.Contents (Elt F) arg2.view.ty) (X6 : BufTy.Contents (Elt F) arg6.view.ty) (G9 : BufTy.Contents (Elt F) arg9.view.ty)
  (X3 : BufTy.Contents (Elt F) arg3.view.ty) (X4 : BufTy.Contents (Elt F) arg4.view.ty) (X12 : BufTy.Contents (Elt F) arg12.view.ty)

/-- The body at the call's operands. -/
abbrev bodyP : Prog (TpuEff nD τ sig (Elt F) Λ₀ .tc) PUnit := cc0_project_v (F := F) i arg2 harg2 arg3 harg3 arg4 harg4 (Memref.whole main_v0) (Memref.isWhole_whole _) arg6 harg6 arg7 harg7 arg8 harg8 arg9 harg9 scM0_1 (Memref.isWhole_whole _) cc0_scratch2 arg12 harg12

set_option maxRecDepth 65536 in
/-- The body is its first part and the rest, which takes what the first part hands on. -/
def contS : { k : (_ : FVec F S256x512 .f32) ×' FVec F S256x256 .bf16 → Prog (TpuEff nD τ sig (Elt F) Λ₀ .tc) PUnit // bodyP (F := F) i arg2 harg2 arg3 harg3 arg4 harg4 arg6 harg6 arg7 harg7 arg8 harg8 arg9 harg9 arg12 harg12 = firstPart (F := F) i arg2 harg2 arg3 harg3 arg4 harg4 arg6 harg6 arg7 harg7 arg8 harg8 arg9 harg9 arg12 harg12 >>= k } :=
  ⟨_, (congrArg (fun f => f i arg2 harg2 arg3 harg3 arg4 harg4 (Memref.whole main_v0) (Memref.isWhole_whole _) arg6 harg6 arg7 harg7 arg8 harg8 arg9 harg9 scM0_1 (Memref.isWhole_whole _) cc0_scratch2 arg12 harg12) (cc0_project_v_eq_skeleton (F := F))).trans rfl⟩
/-- The rest of the body. -/
abbrev cont (v : (_ : FVec F S256x512 .f32) ×' FVec F S256x256 .bf16) : Prog (TpuEff nD τ sig (Elt F) Λ₀ .tc) PUnit := (contS (F := F) i arg2 harg2 arg3 harg3 arg4 harg4 arg6 harg6 arg7 harg7 arg8 harg8 arg9 harg9 arg12 harg12).1 v

/-- The rest's run: the pieces it writes to the block of results are the run's own finds. -/
@[irreducible] def tail (c : Dev nD) :
    { L : List (View.Piece (Elt F) S256x8x128 .fp8e4m3) × List (View.Piece (Elt F) S1x8x256 .f32) // ∀ (X7 : BufTy.Contents (Elt F) arg7.view.ty) (X8 : BufTy.Contents (Elt F) arg8.view.ty),
      iprop(memP c arg2 X2 ∗ memP c arg3 X3 ∗ memP c arg4 X4 ∗ memP c arg7 X7 ∗ memP c arg8 X8 ∗ memP c arg9 G9 ∗ memP c arg12 X12)
      ⊢ wp frame (wpE (defs₀ (F := F)) Variants.none c none) Set.univ (cont (F := F) i arg2 harg2 arg3 harg3 arg4 harg4 arg6 harg6 arg7 harg7 arg8 harg8 arg9 harg9 arg12 harg12 (firstV arg2 arg9 X2 G9))
          (fun _ => iprop(memP c arg2 X2 ∗ memP c arg3 X3 ∗ memP c arg4 X4 ∗ memP c arg7 (arg7.view.writes (Elt F) X7 L.1) ∗ memP c arg8 (arg8.view.writes (Elt F) X8 L.2) ∗ memP c arg9 G9 ∗ ∃ X12', memP c arg12 X12')) } := by
  refine ⟨⟨?_, ?_⟩, fun X7 X8 => ?run⟩
  case run =>
    unfold cont contS firstV
    simp only [k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton]
    iintro ⟨H2, H3, H4, H7, H8, H9, H11⟩
    sl_exec
    sl_step
    isplitl [H2]; · iexact H2
    isplitl [H3]; · iexact H3
    isplitl [H4]; · iexact H4
    isplitl [H7]; · iexact H7
    isplitl [H8]; · iexact H8
    isplitl [H9]; · iexact H9
    iexists _; iexact H11

/-- The block of results after the body. -/
abbrev outP (c : Dev nD) (X7 : BufTy.Contents (Elt F) arg7.view.ty) : BufTy.Contents (Elt F) arg7.view.ty :=
  arg7.view.writes (Elt F) X7 (tail (F := F) i arg2 harg2 arg3 harg3 arg4 harg4 arg6 harg6 arg7 harg7 arg8 harg8 arg9 harg9 arg12 harg12 X2 G9 X3 X4 X12 c).1.1

/-- The block of scales after the body. -/
abbrev outS (c : Dev nD) (X8 : BufTy.Contents (Elt F) arg8.view.ty) : BufTy.Contents (Elt F) arg8.view.ty :=
  arg8.view.writes (Elt F) X8 (tail (F := F) i arg2 harg2 arg3 harg3 arg4 harg4 arg6 harg6 arg7 harg7 arg8 harg8 arg9 harg9 arg12 harg12 X2 G9 X3 X4 X12 c).1.2

/-- The body, from what its first part does: `R` is what the first part starts from, `R' G` what it leaves besides the
    activations' block and the decoded tile at `G`. -/
theorem body_of_first (c : Dev nD) (R : sProp 𝕄) (R' : BufTy.Contents (Elt F) arg9.view.ty → sProp 𝕄) (X7 : BufTy.Contents (Elt F) arg7.view.ty) (X8 : BufTy.Contents (Elt F) arg8.view.ty)
    (h : R ⊢ wp frame (wpE (defs₀ (F := F)) Variants.none c none) Set.univ (firstPart (F := F) i arg2 harg2 arg3 harg3 arg4 harg4 arg6 harg6 arg7 harg7 arg8 harg8 arg9 harg9 arg12 harg12)
      (fun v => iprop(∃ G, memP c arg2 X2 ∗ memP c arg9 G ∗ ⌜v = firstV arg2 arg9 X2 G⌝ ∗ R' G))) :
    iprop(R ∗ memP c arg3 X3 ∗ memP c arg4 X4 ∗ memP c arg7 X7 ∗ memP c arg8 X8 ∗ memP c arg12 X12)
    ⊢ wp frame (wpE (defs₀ (F := F)) Variants.none c none) Set.univ (bodyP (F := F) i arg2 harg2 arg3 harg3 arg4 harg4 arg6 harg6 arg7 harg7 arg8 harg8 arg9 harg9 arg12 harg12)
      (fun _ => iprop(∃ G, memP c arg2 X2 ∗ memP c arg3 X3 ∗ memP c arg4 X4 ∗ memP c arg7 (outP i arg2 harg2 arg3 harg3 arg4 harg4 arg6 harg6 arg7 harg7 arg8 harg8 arg9 harg9 arg12 harg12 X2 G X3 X4 X12 c X7) ∗ memP c arg8 (outS i arg2 harg2 arg3 harg3 arg4 harg4 arg6 harg6 arg7 harg7 arg8 harg8 arg9 harg9 arg12 harg12 X2 G X3 X4 X12 c X8) ∗ memP c arg9 G ∗ (∃ X12', memP c arg12 X12') ∗ R' G)) := by
  rw [(contS (F := F) i arg2 harg2 arg3 harg3 arg4 harg4 arg6 harg6 arg7 harg7 arg8 harg8 arg9 harg9 arg12 harg12).2, wp_bind]
  iintro ⟨HR, H3, H4, H7, H8, H11⟩
  iapply (wp_wand_r Idealize.ShloMosaic.frame (wpE (defs₀ (F := F)) Variants.none (c : Thread nD τ) none) Set.univ)
  isplitl [HR]
  · iapply h; iexact HR
  iintro %v ⟨%G, H2, H9, %hv, HR⟩
  subst hv
  iapply (wp_wand_r Idealize.ShloMosaic.frame (wpE (defs₀ (F := F)) Variants.none (c : Thread nD τ) none) Set.univ)
  isplitl [H2 H3 H4 H7 H8 H9 H11]
  · iapply ((tail (F := F) i arg2 harg2 arg3 harg3 arg4 harg4 arg6 harg6 arg7 harg7 arg8 harg8 arg9 harg9 arg12 harg12 X2 G X3 X4 X12 c).2 X7 X8)
    isplitl [H2]; · iexact H2
    isplitl [H3]; · iexact H3
    isplitl [H4]; · iexact H4
    isplitl [H7]; · iexact H7
    isplitl [H8]; · iexact H8
    isplitl [H9]; · iexact H9
    iexact H11
  iintro %_ ⟨H2, H3, H4, H7, H8, H9, H11⟩
  iexists G
  isplitl [H2]; · iexact H2
  isplitl [H3]; · iexact H3
  isplitl [H4]; · iexact H4
  isplitl [H7]; · iexact H7
  isplitl [H8]; · iexact H8
  isplitl [H9]; · iexact H9
  isplitl [H11]; · iexact H11
  iexact HR

end Cert.KernelV.Hand

end
-- ==== Proof.KernelVPoint.lean ====
/-
  The body of `KernelV` at a grid point: the stream's state before and after it, what its first part leaves in the decoded
  tile, and the whole body.
-/
module

public import proofs.«01_k».proof.Proof.KernelVTail

@[expose] public section

set_option maxRecDepth 16384
set_option maxHeartbeats 4000000

noncomputable section

namespace Cert.KernelV.Hand

open Cert.KernelV.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

/-! ## The stream between points -/

/-- How many tiles have been waited for before point `k`. -/
abbrev tiles (k : ℕ) : ℕ := (k + 23) / 24
/-- The stream before point `k`: the next tile's transfers issued, from the first tile waited for to the last; free otherwise. -/
def streamAt (c : Dev nD) (W0 : HbBuf0 (F := F) c hbM0_0) (n : ℕ) : sProp 𝕄 :=
  if h : 0 < n ∧ n < 2 then busy c W0 ⟨n, h.2⟩ else iprop(∃ X, freeX c W0 X)
theorem streamAt_busy (c : Dev nD) (W0 : HbBuf0 (F := F) c hbM0_0) {n : ℕ} (h0 : 0 < n) (h1 : n < 2) : streamAt c W0 n = busy c W0 ⟨n, h1⟩ := dif_pos ⟨h0, h1⟩
theorem streamAt_free (c : Dev nD) (W0 : HbBuf0 (F := F) c hbM0_0) {n : ℕ} (h : n = 0 ∨ n = 2) : streamAt c W0 n = iprop(∃ X, freeX c W0 X) := dif_neg (by omega)

/-- The tile of a point. -/
abbrev tileOf (t : Fin cfg0.N) : Fin 2 := ⟨t.val / 24, by have := lt_of_lt_of_eq t.isLt (show cfg0.N = 48 from N_0); omega⟩

theorem off112_tile (t : Fin cfg0.N) (b : ℕ) (h : b = t.val / 24 + 1) : k0_off112 (grid0.coords t) = offB b 0 0 := by
  rw [k0_off112_eq, coord0, h]; unfold offB; rw [Nat.mul_add]
theorem off113_tile (t : Fin cfg0.N) (b : ℕ) (h : b = t.val / 24 + 1) : k0_off113 (grid0.coords t) = offB b 0 128 := by
  rw [k0_off113_eq, coord0, h]; unfold offB; rw [Nat.mul_add]
theorem off114_tile (t : Fin cfg0.N) (b : ℕ) (h : b = t.val / 24 + 1) : k0_off114 (grid0.coords t) = offB b 0 256 := by
  rw [k0_off114_eq, coord0, h]; unfold offB; rw [Nat.mul_add]
theorem off115_tile (t : Fin cfg0.N) (b : ℕ) (h : b = t.val / 24 + 1) : k0_off115 (grid0.coords t) = offB b 8 0 := by
  rw [k0_off115_eq, coord0, h]; unfold offB; rw [Nat.mul_add]
theorem off116_tile (t : Fin cfg0.N) (b : ℕ) (h : b = t.val / 24 + 1) : k0_off116 (grid0.coords t) = offB b 8 128 := by
  rw [k0_off116_eq, coord0, h]; unfold offB; rw [Nat.mul_add]
theorem off117_tile (t : Fin cfg0.N) (b : ℕ) (h : b = t.val / 24 + 1) : k0_off117 (grid0.coords t) = offB b 8 256 := by
  rw [k0_off117_eq, coord0, h]; unfold offB; rw [Nat.mul_add]

/-- The transfers issued at a point before the last row are the next tile's. -/
theorem busy_next (c : Dev nD) (t : Fin cfg0.N) (W0 : HbBuf0 (F := F) c hbM0_0) (hc1 : cond0_1 (grid0.coords t)) (hc2 : cond0_2 (grid0.coords t)) (h : t.val / 24 + 1 < 2) :
    busyO c W0 (k0_off112 (grid0.coords t)) (k0_off113 (grid0.coords t)) (k0_off114 (grid0.coords t)) (k0_off115 (grid0.coords t)) (k0_off116 (grid0.coords t)) (k0_off117 (grid0.coords t)) (k0_off112_inb (grid0.coords t) hc1 hc2) (k0_off113_inb (grid0.coords t) hc1 hc2) (k0_off114_inb (grid0.coords t) hc1 hc2) (k0_off115_inb (grid0.coords t) hc1 hc2) (k0_off116_inb (grid0.coords t) hc1 hc2) (k0_off117_inb (grid0.coords t) hc1 hc2)
      = busy c W0 ⟨t.val / 24 + 1, h⟩ :=
  busyO_eq c W0 ⟨t.val / 24 + 1, h⟩ _ _ _ _ _ _ _ _ _ _ _ _ (off112_tile t _ rfl) (off113_tile t _ rfl) (off114_tile t _ rfl) (off115_tile t _ rfl) (off116_tile t _ rfl) (off117_tile t _ rfl)

section PointI
variable (c : Dev nD) (i : grid0.Coords) (W0 : HbBuf0 (F := F) c hbM0_0)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole)
  (arg6 : Memref sig .tc .vmem S1024x384 .bf16) (harg6 : arg6.IsWhole) (arg7 : Memref sig .tc .vmem S256x8x128 .fp8e4m3) (harg7 : arg7.IsWhole) (arg8 : Memref sig .tc .vmem S1x8x256 .f32) (harg8 : arg8.IsWhole)
  (arg9 : Memref sig .tc .vmem S48x512x256 .i32) (harg9 : arg9.IsWhole)
  (arg12 : Memref sig .tc .vmem S256x8x128 .fp8e4m3) (harg12 : arg12.IsWhole)
  (X2 : BufTy.Contents (Elt F) arg2.view.ty) (X6 : BufTy.Contents (Elt F) arg6.view.ty) (G9 : BufTy.Contents (Elt F) arg9.view.ty)
  (X3 : BufTy.Contents (Elt F) arg3.view.ty) (X4 : BufTy.Contents (Elt F) arg4.view.ty) (X12 : BufTy.Contents (Elt F) arg12.view.ty)

/-- Case D from tile `b`'s transfers. -/
theorem first_Dt (W : Waits sig Unit) (hc0 : ¬cond0_0 i) (hc1 : cond0_1 i) (hc2 : ¬cond0_2 i) (b : Fin 2) :
    iprop(memP c arg2 X2 ∗ memP c arg6 X6 ∗ memP c arg9 G9 ∗ busy c W0 b ∗ owes (c : Thread nD τ) 0 W)
    ⊢ wp frame (wpE (defs₀ (F := F)) Variants.none c none) Set.univ (firstPart (F := F) i arg2 harg2 arg3 harg3 arg4 harg4 arg6 harg6 arg7 harg7 arg8 harg8 arg9 harg9 arg12 harg12)
      (fun v => iprop(∃ X10, ⌜HoldsB c W0 b X10⌝ ∗ memP c arg2 X2 ∗ memP c arg6 X6 ∗ memP c arg9 (decoded (F := F) c i arg2 harg2 arg3 harg3 arg4 harg4 arg6 harg6 arg7 harg7 arg8 harg8 arg9 harg9 arg12 harg12 X6 G9 hc1 X10)
        ∗ freeX c W0 X10 ∗ ⌜v = firstV arg2 arg9 X2 (decoded (F := F) c i arg2 harg2 arg3 harg3 arg4 harg4 arg6 harg6 arg7 harg7 arg8 harg8 arg9 harg9 arg12 harg12 X6 G9 hc1 X10)⌝ ∗ ∃ W', owes (c : Thread nD τ) 0 W')) := by
  unfold busy HoldsB
  exact first_D c i W0 arg2 harg2 arg3 harg3 arg4 harg4 arg6 harg6 arg7 harg7 arg8 harg8 arg9 harg9 arg12 harg12 X2 X6 G9 W hc0 hc1 hc2 (offB b.val 0 0) (offB b.val 0 128) (offB b.val 0 256) (offB b.val 8 0) (offB b.val 8 128) (offB b.val 8 256) (fits_offB b (by decide) (by decide)) (fits_offB b (by decide) (by decide)) (fits_offB b (by decide) (by decide)) (fits_offB b (by decide) (by decide)) (fits_offB b (by decide) (by decide)) (fits_offB b (by decide) (by decide))
end PointI

section Point
variable (c : Dev nD) (t : Fin cfg0.N) (W0 : HbBuf0 (F := F) c hbM0_0)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole)
  (arg6 : Memref sig .tc .vmem S1024x384 .bf16) (harg6 : arg6.IsWhole) (arg7 : Memref sig .tc .vmem S256x8x128 .fp8e4m3) (harg7 : arg7.IsWhole) (arg8 : Memref sig .tc .vmem S1x8x256 .f32) (harg8 : arg8.IsWhole)
  (arg9 : Memref sig .tc .vmem S48x512x256 .i32) (harg9 : arg9.IsWhole)
  (arg12 : Memref sig .tc .vmem S256x8x128 .fp8e4m3) (harg12 : arg12.IsWhole)
  (X2 : BufTy.Contents (Elt F) arg2.view.ty) (X6 : BufTy.Contents (Elt F) arg6.view.ty) (G9 : BufTy.Contents (Elt F) arg9.view.ty)
  (X3 : BufTy.Contents (Elt F) arg3.view.ty) (X4 : BufTy.Contents (Elt F) arg4.view.ty) (X12 : BufTy.Contents (Elt F) arg12.view.ty)

/-- What a point's first part leaves in the decoded tile: at the first token block of a tile, that tile decoded; at the
    others, what it held. -/
def Step (t : Fin cfg0.N) (G : BufTy.Contents (Elt F) arg9.view.ty) : Prop :=
  if t.val % 24 = 0 then ∃ (hc1 : k0_cond2 (grid0.coords t) = 1#1) (X10 : _), HoldsB c W0 (tileOf t) X10 ∧ G = decoded (F := F) c (grid0.coords t) arg2 harg2 arg3 harg3 arg4 harg4 arg6 harg6 arg7 harg7 arg8 harg8 arg9 harg9 arg12 harg12 X6 G9 hc1 X10
  else G = G9

/-- The first part at any point. -/
theorem first_all (W : Waits sig Unit) :
    iprop(memP c arg2 X2 ∗ memP c arg6 X6 ∗ memP c arg9 G9 ∗ streamAt c W0 (tiles t.val) ∗ owes (c : Thread nD τ) 0 W)
    ⊢ wp frame (wpE (defs₀ (F := F)) Variants.none c none) Set.univ (firstPart (F := F) (grid0.coords t) arg2 harg2 arg3 harg3 arg4 harg4 arg6 harg6 arg7 harg7 arg8 harg8 arg9 harg9 arg12 harg12)
      (fun v => iprop(∃ G, memP c arg2 X2 ∗ memP c arg9 G ∗ ⌜v = firstV arg2 arg9 X2 G⌝
        ∗ iprop(memP c arg6 X6 ∗ ⌜Step (F := F) c W0 arg2 harg2 arg3 harg3 arg4 harg4 arg6 harg6 arg7 harg7 arg8 harg8 arg9 harg9 arg12 harg12 X6 G9 t G⌝ ∗ streamAt c W0 (tiles (t.val + 1)) ∗ ∃ W', owes (c : Thread nD τ) 0 W'))) := by
  have hN : t.val < 48 := lt_of_lt_of_eq t.isLt (show cfg0.N = 48 from N_0)
  by_cases h1 : t.val % 24 = 0
  · have hc1 := (hcond0_1 t).mpr h1
    by_cases h0 : t.val = 0
    · have hc0 := (hcond0_0 t).mpr h0
      have hc2 := (hcond0_2 t).mpr (by omega)
      rw [streamAt_free c W0 (n := tiles t.val) (by simp only [tiles]; omega), streamAt_busy c W0 (n := tiles (t.val + 1)) (by simp only [tiles]; omega) (by simp only [tiles]; omega)]
      iintro ⟨H2, H6, H8, ⟨%X, HS⟩, HW⟩
      iapply (wp_wand_r Idealize.ShloMosaic.frame (wpE (defs₀ (F := F)) Variants.none (c : Thread nD τ) none) Set.univ)
      isplitl [H2 H6 H8 HS HW]
      · iapply (first_A c (grid0.coords t) W0 arg2 harg2 arg3 harg3 arg4 harg4 arg6 harg6 arg7 harg7 arg8 harg8 arg9 harg9 arg12 harg12 X2 X6 G9 W hc0 hc1 hc2 X)
        isplitl [H2]; · iexact H2
        isplitl [H6]; · iexact H6
        isplitl [H8]; · iexact H8
        isplitl [HS]; · iexact HS
        iexact HW
      iintro %v ⟨%X10, %hX, H2, H6, H8, HS, %hv, HW⟩
      iexists _
      isplitl [H2]; · iexact H2
      isplitl [H8]; · iexact H8
      isplitr; · ipureintro; exact hv
      isplitl [H6]; · iexact H6
      isplitr
      · ipureintro; unfold Step; rw [if_pos h1]
        have eb : (tileOf t).val = 0 := by show t.val / 24 = 0; omega
        exact ⟨hc1, X10, holdsO_eq c W0 (tileOf t) _ _ _ _ _ _ _ _ _ _ _ _ (by rw [eb]) (by rw [eb]) (by rw [eb]) (by rw [eb]) (by rw [eb]) (by rw [eb]) X10 hX, rfl⟩
      isplitl [HS]
      · have e : (⟨tiles (t.val + 1), by simp only [tiles]; omega⟩ : Fin 2) = ⟨t.val / 24 + 1, by omega⟩ := Fin.ext (by simp only [tiles]; omega)
        rw [e]
        have hb : t.val / 24 + 1 < 2 := by omega
        iapply (Entails.of_eq (busy_next c t W0 hc1 hc2 hb)) $$ HS
      iexact HW
    · have hc0 : ¬cond0_0 (grid0.coords t) := fun h => h0 ((hcond0_0 t).mp h)
      by_cases h2 : t.val < 24
      · exact absurd h2 (by omega)
      · have hc2 : ¬cond0_2 (grid0.coords t) := fun h => h2 ((hcond0_2 t).mp h)
        rw [streamAt_busy c W0 (n := tiles t.val) (by simp only [tiles]; omega) (by simp only [tiles]; omega), streamAt_free c W0 (n := tiles (t.val + 1)) (by simp only [tiles]; omega)]
        have e0 : (⟨tiles t.val, by simp only [tiles]; omega⟩ : Fin 2) = tileOf t := Fin.ext (by simp only [tiles]; omega)
        rw [e0]
        iintro ⟨H2, H6, H8, HS, HW⟩
        iapply (wp_wand_r Idealize.ShloMosaic.frame (wpE (defs₀ (F := F)) Variants.none (c : Thread nD τ) none) Set.univ)
        isplitl [H2 H6 H8 HS HW]
        · iapply (first_Dt c (grid0.coords t) W0 arg2 harg2 arg3 harg3 arg4 harg4 arg6 harg6 arg7 harg7 arg8 harg8 arg9 harg9 arg12 harg12 X2 X6 G9 W hc0 hc1 hc2 (tileOf t))
          isplitl [H2]; · iexact H2
          isplitl [H6]; · iexact H6
          isplitl [H8]; · iexact H8
          isplitl [HS]; · iexact HS
          iexact HW
        iintro %v ⟨%X10, %hX, H2, H6, H8, HS, %hv, HW⟩
        iexists _
        isplitl [H2]; · iexact H2
        isplitl [H8]; · iexact H8
        isplitr; · ipureintro; exact hv
        isplitl [H6]; · iexact H6
        isplitr
        · ipureintro; unfold Step; rw [if_pos h1]
          exact ⟨hc1, X10, hX, rfl⟩
        isplitl [HS]
        · iexists X10; iexact HS
        iexact HW
  · have hc0 : ¬cond0_0 (grid0.coords t) := fun h => h1 (by rw [(hcond0_0 t).mp h])
    have hc1 : ¬cond0_1 (grid0.coords t) := fun h => h1 ((hcond0_1 t).mp h)
    have e : tiles (t.val + 1) = tiles t.val := by simp only [tiles]; omega
    rw [e]
    iintro ⟨H2, H6, H8, HS, HW⟩
    iapply (wp_wand_r Idealize.ShloMosaic.frame (wpE (defs₀ (F := F)) Variants.none (c : Thread nD τ) none) Set.univ)
    isplitl [H2 H8 HW]
    · iapply (first_B c (grid0.coords t) arg2 harg2 arg3 harg3 arg4 harg4 arg6 harg6 arg7 harg7 arg8 harg8 arg9 harg9 arg12 harg12 X2 G9 W hc0 hc1)
      isplitl [H2]; · iexact H2
      isplitl [H8]; · iexact H8
      iexact HW
    iintro %v ⟨H2, H8, %hv, HW⟩
    iexists _
    isplitl [H2]; · iexact H2
    isplitl [H8]; · iexact H8
    isplitr; · ipureintro; exact hv
    isplitl [H6]; · iexact H6
    isplitr; · ipureintro; unfold Step; rw [if_neg h1]
    isplitl [HS]; · iexact HS
    iexact HW

/-- The whole body at any point. -/
theorem body_all (W : Waits sig Unit) (X7 : BufTy.Contents (Elt F) arg7.view.ty) (X8 : BufTy.Contents (Elt F) arg8.view.ty) :
    iprop(iprop(memP c arg2 X2 ∗ memP c arg6 X6 ∗ memP c arg9 G9 ∗ streamAt c W0 (tiles t.val) ∗ owes (c : Thread nD τ) 0 W)
      ∗ memP c arg3 X3 ∗ memP c arg4 X4 ∗ memP c arg7 X7 ∗ memP c arg8 X8 ∗ memP c arg12 X12)
    ⊢ wp frame (wpE (defs₀ (F := F)) Variants.none c none) Set.univ (bodyP (F := F) (grid0.coords t) arg2 harg2 arg3 harg3 arg4 harg4 arg6 harg6 arg7 harg7 arg8 harg8 arg9 harg9 arg12 harg12)
      (fun _ => iprop(∃ G, memP c arg2 X2 ∗ memP c arg3 X3 ∗ memP c arg4 X4 ∗ memP c arg7 (outP (grid0.coords t) arg2 harg2 arg3 harg3 arg4 harg4 arg6 harg6 arg7 harg7 arg8 harg8 arg9 harg9 arg12 harg12 X2 G X3 X4 X12 c X7) ∗ memP c arg8 (outS (grid0.coords t) arg2 harg2 arg3 harg3 arg4 harg4 arg6 harg6 arg7 harg7 arg8 harg8 arg9 harg9 arg12 harg12 X2 G X3 X4 X12 c X8) ∗ memP c arg9 G ∗ (∃ X12', memP c arg12 X12')
        ∗ iprop(memP c arg6 X6 ∗ ⌜Step (F := F) c W0 arg2 harg2 arg3 harg3 arg4 harg4 arg6 harg6 arg7 harg7 arg8 harg8 arg9 harg9 arg12 harg12 X6 G9 t G⌝ ∗ streamAt c W0 (tiles (t.val + 1)) ∗ ∃ W', owes (c : Thread nD τ) 0 W'))) :=
  body_of_first (grid0.coords t) arg2 harg2 arg3 harg3 arg4 harg4 arg6 harg6 arg7 harg7 arg8 harg8 arg9 harg9 arg12 harg12 X2 X3 X4 X12 c _ _ X7 X8 (first_all c t W0 arg2 harg2 arg3 harg3 arg4 harg4 arg6 harg6 arg7 harg7 arg8 harg8 arg9 harg9 arg12 harg12 X2 X6 G9 W)

end Point

/-! ## Memrefs owned, as the body reads them -/

/-- A whole memref owned at `d` is its buffer held at the contents read as `d`, -/
theorem mem_of_owns (c : Dev nD) {sp : Space} {S : Shape} {e : EltTy} (M : Memref sig .tc sp S e) (hM : M.IsWhole) (d : S.Idx → Elt F e) :
    owns (c : Thread nD τ) M fullShare d ⊢ (memP c M (hM.unread d) : sProp 𝕄) := by
  unfold owns
  iintro ⟨%f, %hf, H⟩
  obtain rfl := hM.eq_unread hf
  iexact H
/-- and the other way, at what the contents are read as. -/
theorem owns_of_mem (c : Dev nD) {sp : Space} {S : Shape} {e : EltTy} (M : Memref sig .tc sp S e) (f : BufTy.Contents (Elt F) M.view.ty) (d : S.Idx → Elt F e)
    (h : M.view.read (Elt F) f = d) : (memP c M f : sProp 𝕄) ⊢ owns (c : Thread nD τ) M fullShare d := by
  unfold owns
  iintro H
  iexists f; isplitr; · ipureintro; exact h
  iexact H

end Cert.KernelV.Hand

end
-- ==== Proof.KernelVFrame.lean ====
/-
  The frame of `KernelV`: the proof data of its one pipeline, the body obligation at every point, the run, and what it says of
  the argument arrays and of the semaphore counters. What the kernel leaves in its results is not named here.
-/
module

public import proofs.«01_k».proof.Proof.KernelVPoint
public import Idealize.ShloMosaic.Lib.Claim

@[expose] public section

set_option maxRecDepth 16384

noncomputable section

namespace Cert.KernelV.Hand

open Cert.KernelV.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## The pipeline's proof data -/

/-- The invariant before point `k`: the decoded tile and the output staging at anything, the generator register at some
    state, and the stream of packed tiles. -/
def PhiR (c : Dev nD) (k : ℕ) : sProp 𝕄 := iprop((∃ d, owns (c : Thread nD τ) scM0_0 fullShare d) ∗ (∃ d, owns (c : Thread nD τ) scM0_2 fullShare d) ∗ (∃ r, prngReg c r) ∗ streamAt c (V m c main_v0) (tiles k))

/-- The stream free, from what the launch hands over, -/
theorem free_in (c : Dev nD) (W0 : HbBuf0 (F := F) c hbM0_0) (X) :
    iprop(owns (c : Thread nD τ) scM0_1 fullShare X ∗ semVal ((c : Thread nD τ), SemLoc.dma 12) 0 ∗ hbPt0 c hbM0_0 W0) ⊢ (∃ X, freeX c W0 X : sProp 𝕄) := by
  rw [owns_whole]
  iintro ⟨H1, Hq, Hh⟩
  iexists X
  unfold freeX cellP
  rw [tileP_eq, cellR_eq]
  isplitl [Hq]; · iexact Hq
  isplitl [H1]; · iexact H1
  iexact Hh
/-- and handed back. -/
theorem free_out (c : Dev nD) (W0 : HbBuf0 (F := F) c hbM0_0) (X) :
    freeX c W0 X ⊢ (iprop((∃ d, owns (c : Thread nD τ) scM0_1 fullShare d) ∗ semVal ((c : Thread nD τ), SemLoc.dma 12) 0 ∗ hbPt0 c hbM0_0 W0) : sProp 𝕄) := by
  unfold freeX cellP
  rw [tileP_eq, cellR_eq]
  simp only [owns_whole]
  iintro ⟨Hq, H1, Hh⟩
  isplitl [H1]; · iexists X; iexact H1
  isplitl [Hq]; · iexact Hq
  iexact Hh

/-- The results' windows, of which nothing is named. -/
def forgets0 : Fin 6 → Bool := fun w => w.val == 4 || w.val == 5

/-- The proof data: each input's buffer at its block, the results unnamed, nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ t := PhiR m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d))

set_option maxHeartbeats 1600000 in
/-- The body at any point: `body_all` between the blocks the windows hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [after0_0, after0_1, after0_2, after0_3]
  rw [PhiR_castSucc m c t, PhiR_succ m c t]
  unfold Dat.owesAt Pipeline.owesWithin
  rw [show (dats m 0 c).owed t.castSucc = 0 from rfl, show (dats m 0 c).owed t.succ = 0 from rfl]
  unfold PhiR
  iintro ⟨⟨⟨%e8, H8⟩, ⟨%e11, H11⟩, Hg, Hst⟩, ⟨%W, -, HW⟩, ⟨%d0, H0⟩, ⟨%d1, H1⟩, ⟨%d2, H2⟩, ⟨%d3, H3⟩, ⟨%d4, H4⟩, ⟨%d5, H5⟩⟩
  ihave K0 := (mem_of_owns c (ms0_0 t) (hs0_0 t) (iblk m c 0 t)) $$ H0
  ihave K1 := (mem_of_owns c (ms0_1 t) (hs0_1 t) (iblk m c 1 t)) $$ H1
  ihave K2 := (mem_of_owns c (ms0_2 t) (hs0_2 t) (iblk m c 2 t)) $$ H2
  ihave K3 := (mem_of_owns c (ms0_3 t) (hs0_3 t) (iblk m c 3 t)) $$ H3
  ihave K4 := (mem_of_owns c (ms0_4 t) (hs0_4 t) d4) $$ H4
  ihave K5 := (mem_of_owns c (ms0_5 t) (hs0_5 t) d5) $$ H5
  ihave K8 := (mem_of_owns c scM0_0 (Memref.isWhole_whole _) e8) $$ H8
  ihave K11 := (mem_of_owns c scM0_2 (Memref.isWhole_whole _) e11) $$ H11
  iapply (wp_wand_r Idealize.ShloMosaic.frame (wpE (defs₀ (F := F)) Variants.none (c : Thread nD τ) none) Set.univ)
  isplitl [K0 K1 K2 K3 K4 K5 K8 K11 Hst HW]
  · iapply (body_all c t (V m c main_v0) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_2 (Memref.isWhole_whole _)
      ((hs0_0 t).unread (iblk m c 0 t)) ((hs0_3 t).unread (iblk m c 3 t)) ((Memref.isWhole_whole _).unread e8) ((hs0_1 t).unread (iblk m c 1 t)) ((hs0_2 t).unread (iblk m c 2 t)) ((Memref.isWhole_whole _).unread e11) W ((hs0_4 t).unread d4) ((hs0_5 t).unread d5))
    isplitl [K0 K3 K8 Hst HW]
    · isplitl [K0]; · iexact K0
      isplitl [K3]; · iexact K3
      isplitl [K8]; · iexact K8
      isplitl [Hst]; · iexact Hst
      iexact HW
    isplitl [K1]; · iexact K1
    isplitl [K2]; · iexact K2
    isplitl [K4]; · iexact K4
    isplitl [K5]; · iexact K5
    iexact K11
  iintro %_ ⟨%G, K0, K1, K2, K4, K5, K8, ⟨%X12, K11⟩, K3, %hG, Hst, ⟨%W', HW'⟩⟩
  isplitl [K8 K11 Hg Hst]
  · isplitl [K8]; · iexists _; iapply (owns_of_mem c scM0_0 G _ rfl); iexact K8
    isplitl [K11]; · iexists _; iapply (owns_of_mem c scM0_2 X12 _ rfl); iexact K11
    isplitl [Hg]; · iexact Hg
    iexact Hst
  isplitl [HW']
  · iexists W'; isplitr; · ipureintro; exact fun _ _ => Or.inl trivial
    iexact HW'
  isplitl [K0]; · iapply (owns_of_mem c (ms0_0 t) _ _ ((hs0_0 t).read_unread _)); iexact K0
  isplitl [K1]; · iapply (owns_of_mem c (ms0_1 t) _ _ ((hs0_1 t).read_unread _)); iexact K1
  isplitl [K2]; · iapply (owns_of_mem c (ms0_2 t) _ _ ((hs0_2 t).read_unread _)); iexact K2
  isplitl [K3]; · iapply (owns_of_mem c (ms0_3 t) _ _ ((hs0_3 t).read_unread _)); iexact K3
  isplitl [K4]; · iexists _; iapply (owns_of_mem c (ms0_4 t) _ _ rfl); iexact K4
  iexists _; iapply (owns_of_mem c (ms0_5 t) _ _ rfl); iexact K5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant before the first point, and the invariant after the last point hands
    it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  rw [streamAt_free c (V m c main_v0) (n := tiles 0) (Or.inl rfl)]
  iintro ⟨⟨HS0, ⟨%X, HS1⟩, HS2⟩, Hg, Hq, Hh⟩
  isplitl [HS0]; · iexact HS0
  isplitl [HS2]; · iexact HS2
  isplitl [Hg]; · iexact Hg
  iapply (free_in c (V m c main_v0) X)
  isplitl [HS1]; · iexact HS1
  isplitl [Hq]; · iexact Hq
  iexact Hh
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [streamAt_free c (V m c main_v0) (n := tiles grid0.N) (Or.inr (by rw [N_0]))]
  iintro ⟨HS0, HS2, Hg, ⟨%X, HX⟩⟩
  ihave HX' := (free_out c (V m c main_v0) X) $$ HX
  icases HX' with ⟨HS1, Hq, Hh⟩
  isplitl [HS0 HS1 HS2]
  · isplitl [HS0]; · iexact HS0
    isplitl [HS1]; · iexact HS1
    iexact HS2
  isplitl [Hg]; · iexact Hg
  isplitl [Hq]; · iexact Hq
  iexact Hh

/-! ## The run and the frame -/

set_option backward.isDefEq.respectTransparency.types false in
/-- The run, with every semaphore counter at zero at its end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every input array unchanged, every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays, from a run whose arrays are the region-entry contents. -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 3 rfl).trans ((hA c 3).trans (V_main_arg4 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelV.Hand

end
-- ==== Proof.KernelVIdealStream.lean ====
/-
  The weight stream of the kernel `KernelVIdeal`: the names and the resources its body's own transfers are stated over.

  The body keeps ONE tile of packed weights in scratch, as six windows (two words of eight bytes by three groups of 128
  scales), and fills it by six transfers counted on one semaphore cell. A tile is therefore in one of two states between
  grid points: FREE (the cell at zero, the scratch and the operand in HBM held whole) or BUSY (all six transfers of a
  block issued, none waited for: a `Transfers.Batch`, and of the operand what the transfers did not borrow).
-/
module

public import proofs.«01_k».proof.Proof.Gen.KernelVIdeal.Frame
public import proofs.«01_k».proof.Proof.Gen.KernelVIdeal.Skeleton
public import proofs.«01_k».proof.Proof.Blocks
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp

@[expose] public section

set_option maxRecDepth 16384

noncomputable section

namespace Cert.KernelVIdeal.Hand

open Cert.KernelVIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The frame kit at the algebra of a body with transfers of its own -/

set_option maxHeartbeats 800000 in
/-- @main up to the region: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- An input window's current staging buffer holds its block at every point, fetched there or not. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions over the points -/

/-- The first conditional (the first tile's transfers): at the first point only. -/
abbrev cond0_0 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
theorem hcond0_0 : ∀ t : Fin cfg0.N, cond0_0 (grid0.coords t) ↔ t.val = 0 :=
  (by decide +kernel : ∀ t : Fin grid0.N, cond0_0 (grid0.coords t) ↔ t.val = 0)
/-- The second (waits, decoding, the next tile's transfers): where the token block is the first. -/
abbrev cond0_1 (i : grid0.Coords) : Prop := k0_cond2 i = 1#1
theorem hcond0_1 : ∀ t : Fin cfg0.N, cond0_1 (grid0.coords t) ↔ t.val % 24 = 0 :=
  (by decide +kernel : ∀ t : Fin grid0.N, cond0_1 (grid0.coords t) ↔ t.val % 24 = 0)
/-- The third (there is a next tile): before the last row of points. -/
abbrev cond0_2 (i : grid0.Coords) : Prop := k0_cond3 i = 1#1
theorem hcond0_2 : ∀ t : Fin cfg0.N, cond0_2 (grid0.coords t) ↔ t.val < 24 :=
  (by decide +kernel : ∀ t : Fin grid0.N, cond0_2 (grid0.coords t) ↔ t.val < 24)
/-- The tile of a point is its number over the 24 token blocks. -/
theorem coord0 : ∀ t : Fin cfg0.N, (grid0.coords t 0).val = t.val / 24 :=
  (by decide +kernel : ∀ t : Fin grid0.N, (grid0.coords t 0).val = t.val / 24)

/-! ## The memrefs the body is called with -/

abbrev ms0_0 (t : Fin cfg0.N) : Memref sig .tc .vmem S1x48x128x256 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x384 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x8x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x256 .f32 := win0_5.stage (cfg0.slots t 5)
abbrev hs0_5 (t : Fin cfg0.N) : (ms0_5 t).IsWhole := hstage0_5 ((cfg0.slots t 5).cast nbuf0_5)
/-- The scratch: the decoded tile, the packed tile, the output staging. -/
abbrev scM0_0 : Memref sig .tc .vmem S48x512x2x256 .bf16 := Memref.whole cc0_scratch0
abbrev scM0_1 : Memref sig .tc .vmem S2x3x1024x8x128 .i8 := Memref.whole cc0_scratch1
abbrev scM0_2 : Memref sig .tc .vmem S256x8x128 .fp8e4m3 := Memref.whole cc0_scratch3
/-- The packed weights, left in HBM. -/
abbrev hbM0_0 : Memref sig .tc .hbm S2048x16x384 .i8 := Memref.whole main_v0
/-- Memref `M`'s buffer on core `c`: its contents type, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own semaphore cell. -/
abbrev osem0 : Fin 1 → SemLoc sig := fun j => (![SemLoc.dma 12] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 12) 0 := by
  rw [Pipeline.ownSems0_eq_of_list c osem0 [0] (by decide) (by decide)]; rfl
/-- The operand the body moves out of HBM: no window's array. -/
def H0 : Finset (Ref sig .tc) := {main_v0}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_v0)) := by
  rw [BI.bigSep_eq_bigSepL_of_eq [main_v0] (by decide) (by decide)]; rfl
/-- What the launch hands a body with transfers of its own, and takes back, conjunct by conjunct. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ semVal ((c : Thread nD τ), SemLoc.dma 12) 0 ∗ iprop(hbPt0 c hbM0_0 (V m c main_v0))) := by
  rw [Pipeline.ΦD_eq, scopedRest0_eq, ownSems00_eq, hbmPts0_eq]; simp only [scM0_0, scM0_1, scM0_2, owns_whole]; try rfl

/-! ## The windows of the packed tile, and the blocks of the operand they are filled from -/

/-- Window (word `a`, group of scales `b`) of the packed tile. -/
abbrev mkWin (a b : ℕ) (h : ∀ x, (![a, b, 0, 0, 0] : Fin 5 → ℕ) x + S1x1x1024x8x128.size x ≤ S2x3x1024x8x128.size x) : Memref sig .tc .vmem S1024x8x128 .i8 :=
  (scM0_1.slice (Rect.unit (s := S2x3x1024x8x128) ![a, b, 0, 0, 0] S1x1x1024x8x128.size h) (fun _ => rfl)).squeeze S1024x8x128 squeezes_S1x1x1024x8x128_S1024x8x128
abbrev win0 : Memref sig .tc .vmem S1024x8x128 .i8 := mkWin 0 0 inb_S2x3x1024x8x128_S1x1x1024x8x128_0_0_0_0_0
abbrev win1 : Memref sig .tc .vmem S1024x8x128 .i8 := mkWin 0 1 inb_S2x3x1024x8x128_S1x1x1024x8x128_0_1_0_0_0
abbrev win2 : Memref sig .tc .vmem S1024x8x128 .i8 := mkWin 0 2 inb_S2x3x1024x8x128_S1x1x1024x8x128_0_2_0_0_0
abbrev win3 : Memref sig .tc .vmem S1024x8x128 .i8 := mkWin 1 0 inb_S2x3x1024x8x128_S1x1x1024x8x128_1_0_0_0_0
abbrev win4 : Memref sig .tc .vmem S1024x8x128 .i8 := mkWin 1 1 inb_S2x3x1024x8x128_S1x1x1024x8x128_1_1_0_0_0
abbrev win5 : Memref sig .tc .vmem S1024x8x128 .i8 := mkWin 1 2 inb_S2x3x1024x8x128_S1x1x1024x8x128_1_2_0_0_0
/-- Offsets at which a block of the operand fits. -/
abbrev Fits (o : Fin 3 → ℕ) : Prop := ∀ a, o a + S1024x8x128.size a ≤ S2048x16x384.size a
/-- The block of the operand at offsets `o`. -/
abbrev srcO (o : Fin 3 → ℕ) (h : Fits o) : Memref sig .tc .hbm S1024x8x128 .i8 :=
  hbM0_0.slice (Rect.unit (s := S2048x16x384) o S1024x8x128.size h) (fun _ => rfl)
/-- The cell the six transfers are counted on. -/
abbrev cellR : SemLoc sig := SemLoc.dma cc0_scratch2.sem
theorem cellR_eq : cellR = SemLoc.dma 12 := by decide

section Stream
variable (c : Dev nD) (W0 : HbBuf0 (F := F) c hbM0_0)

/-- The operand is lent by share, one share per window. -/
abbrev q0 : PosShare TreeShare := fullShare.left
abbrev q1 : PosShare TreeShare := fullShare.right.left
abbrev q2 : PosShare TreeShare := fullShare.right.right.left
abbrev q3 : PosShare TreeShare := fullShare.right.right.right.left
abbrev q4 : PosShare TreeShare := fullShare.right.right.right.right.left
abbrev q5 : PosShare TreeShare := fullShare.right.right.right.right.right

/-- A window held at `e`; the block at `o` of the operand at a share; the rest of the operand at that share; and it whole. -/
abbrev winP (M : Memref sig .tc .vmem S1024x8x128 .i8) (e : HbBuf0 (F := F) c M) : sProp 𝕄 := M.view.loc (c : Thread nD τ) ↦[M.view.set]{fullShare} e
abbrev srcP (q : PosShare TreeShare) (o : Fin 3 → ℕ) (h : Fits o) : sProp 𝕄 := (srcO o h).view.loc (c : Thread nD τ) ↦[(srcO o h).view.set]{q} W0
def restP (q : PosShare TreeShare) (o : Fin 3 → ℕ) (h : Fits o) : sProp 𝕄 := ((c : Thread nD τ).loc main_v0) ↦[Finset.univ \ (srcO o h).view.set]{q} W0
abbrev wholeP (q : PosShare TreeShare) : sProp 𝕄 := ((c : Thread nD τ).loc main_v0) ↦[Finset.univ]{q} W0
/-- What a window holds once the block at `o` has landed in it (over anything). -/
abbrev landed (M : Memref sig .tc .vmem S1024x8x128 .i8) (o : Fin 3 → ℕ) (h : Fits o) : HbBuf0 (F := F) c M :=
  M.view.writes (Elt F) M.view.junk [⟨Rect.whole S1024x8x128, ReadAs.same.apply ((srcO o h).view.read (Elt F) W0)⟩]
/-- What a transfer delivers: its window landed, and the block it read. -/
abbrev dlv (M : Memref sig .tc .vmem S1024x8x128 .i8) (q : PosShare TreeShare) (o : Fin 3 → ℕ) (h : Fits o) : sProp 𝕄 :=
  iprop(winP c M (landed c W0 M o h) ∗ srcP c W0 q o h)

variable (o0 o1 o2 o3 o4 o5 : Fin 3 → ℕ) (h0 : Fits o0) (h1 : Fits o1) (h2 : Fits o2) (h3 : Fits o3) (h4 : Fits o4) (h5 : Fits o5)
abbrev winD : Fin 6 → sProp 𝕄 :=
  ![dlv c W0 win0 q0 o0 h0, dlv c W0 win1 q1 o1 h1, dlv c W0 win2 q2 o2 h2, dlv c W0 win3 q3 o3 h3, dlv c W0 win4 q4 o4 h4, dlv c W0 win5 q5 o5 h5]
/-- One transfer's amount on the cell. -/
abbrev NN : ℕ := win0.view.amount cellR
/-- The batch with `k` transfers issued and none waited for. -/
abbrev batchP (k : ℕ) : sProp 𝕄 :=
  Transfers.Batch countersEmb (c : Thread nD τ) cellR default NN (winD c W0 o0 o1 o2 o3 o4 o5 h0 h1 h2 h3 h4 h5) k 0
/-- The rests of the six shares. -/
def restsP : sProp 𝕄 := iprop(restP c W0 q0 o0 h0 ∗ restP c W0 q1 o1 h1 ∗ restP c W0 q2 o2 h2 ∗ restP c W0 q3 o3 h3 ∗ restP c W0 q4 o4 h4 ∗ restP c W0 q5 o5 h5)
/-- BUSY: six transfers issued from the blocks at the offsets. -/
def busyO : sProp 𝕄 := iprop(batchP c W0 o0 o1 o2 o3 o4 o5 h0 h1 h2 h3 h4 h5 6 ∗ restsP c W0 o0 o1 o2 o3 o4 o5 h0 h1 h2 h3 h4 h5)

theorem storable_winD : ∀ w, Storable (upEmb : UEmb _ 𝕄) (winD c W0 o0 o1 o2 o3 o4 o5 h0 h1 h2 h3 h4 h5 w) := by
  intro w; fin_cases w <;> exact @Storable.sep _ _ _ _ _ _ _ _ (storable_pt _ _ _ _) (storable_pt _ _ _ _)

/-! ### The windows tile the packed tile -/

abbrev winOff (w : Fin 2 × Fin 3) : Fin 5 → ℕ := ![w.1.val, w.2.val, 0, 0, 0]
theorem inb_winOff (w : Fin 2 × Fin 3) : ∀ a, winOff w a + S1x1x1024x8x128.size a ≤ S2x3x1024x8x128.size a := by
  have := w.1.isLt; have := w.2.isLt; intro a; fin_cases a <;> simp <;> omega
abbrev winSet (w : Fin 2 × Fin 3) : Finset S2x3x1024x8x128.Idx := (Rect.unit (s := S2x3x1024x8x128) (winOff w) S1x1x1024x8x128.size (inb_winOff w)).set
theorem mkWin_set (a b : ℕ) (h) : (mkWin a b h).view.set = (Rect.unit (s := S2x3x1024x8x128) ![a, b, 0, 0, 0] S1x1x1024x8x128.size h).set := by
  simp only [mkWin, Memref.view_squeeze, View.set_reshape]; exact View.set_slice_whole _ _
theorem winSet_disjoint (w w' : Fin 2 × Fin 3) (h : w ≠ w') : Disjoint (winSet w) (winSet w') :=
  Ring.boxes_disjoint (s := S2x3x1024x8x128) S1x1x1024x8x128.size winOff inb_winOff (fun w => ![w.1.val, w.2.val, 0, 0, 0])
    (fun w a => by fin_cases a <;> simp [winOff] <;> omega) (fun v => (Fin.ofNat 2 (v 0), Fin.ofNat 3 (v 1))) (by decide +kernel) w w' h
theorem winSet_cover : Finset.univ.biUnion winSet = (Finset.univ : Finset S2x3x1024x8x128.Idx) := by
  ext i
  simp only [Finset.mem_biUnion, Finset.mem_univ, true_and, iff_true]
  refine ⟨(⟨(i 0).val, (i 0).isLt⟩, ⟨(i 1).val, (i 1).isLt⟩), Rect.mem_set_unit.2 fun a => ?_⟩
  have := (i a).isLt
  fin_cases a <;> simp [winOff] at this ⊢ <;> omega

/-- A window held is its box of the packed tile held. -/
theorem winP_eq (a b : ℕ) (h) (e : Buf (Elt F) ((c : Thread nD τ).loc cc0_scratch1)) :
    winP c (mkWin a b h) e = (((c : Thread nD τ).loc cc0_scratch1) ↦[(Rect.unit (s := S2x3x1024x8x128) ![a, b, 0, 0, 0] S1x1x1024x8x128.size h).set]{fullShare} e : sProp 𝕄) := by
  unfold winP; rw [mkWin_set]
/-- The six windows, each at contents of its own, over (word, group). -/
abbrev winFam (f : Fin 2 × Fin 3 → Buf (Elt F) ((c : Thread nD τ).loc cc0_scratch1)) : sProp 𝕄 :=
  bigSep Finset.univ fun w => ((c : Thread nD τ).loc cc0_scratch1) ↦[winSet w]{fullShare} f w
theorem winFam_eq (f : Fin 2 × Fin 3 → Buf (Elt F) ((c : Thread nD τ).loc cc0_scratch1)) :
    winFam c f = iprop(winP c win0 (f (0, 0)) ∗ winP c win1 (f (0, 1)) ∗ winP c win2 (f (0, 2)) ∗ winP c win3 (f (1, 0)) ∗ winP c win4 (f (1, 1)) ∗ winP c win5 (f (1, 2))) := by
  rw [winFam, BI.bigSep_eq_bigSepL_of_eq [(0, 0), (0, 1), (0, 2), (1, 0), (1, 1), (1, 2)] (by decide) (by decide),
    winP_eq, winP_eq, winP_eq, winP_eq, winP_eq, winP_eq]
  rfl
/-- The packed tile held whole is its six windows at the same contents. -/
theorem wins_split (X : Buf (Elt F) ((c : Thread nD τ).loc cc0_scratch1)) :
    (((c : Thread nD τ).loc cc0_scratch1) ↦{fullShare} X : sProp 𝕄) = iprop(winP c win0 X ∗ winP c win1 X ∗ winP c win2 X ∗ winP c win3 X ∗ winP c win4 X ∗ winP c win5 X) := by
  rw [Ring.pointsTo_blocks winSet winSet_disjoint winSet_cover X]; exact winFam_eq c fun _ => X
/-- Six windows at contents of their own are the tile whole at some contents that agree with each on its window. -/
theorem wins_join (f0 f1 f2 f3 f4 f5 : Buf (Elt F) ((c : Thread nD τ).loc cc0_scratch1)) :
    iprop(winP c win0 f0 ∗ winP c win1 f1 ∗ winP c win2 f2 ∗ winP c win3 f3 ∗ winP c win4 f4 ∗ winP c win5 f5)
      ⊢ (iprop(∃ X, ⌜(∀ i ∈ winSet (0, 0), X i = f0 i) ∧ (∀ i ∈ winSet (0, 1), X i = f1 i) ∧ (∀ i ∈ winSet (0, 2), X i = f2 i) ∧ (∀ i ∈ winSet (1, 0), X i = f3 i) ∧ (∀ i ∈ winSet (1, 1), X i = f4 i) ∧ (∀ i ∈ winSet (1, 2), X i = f5 i)⌝ ∗ ((c : Thread nD τ).loc cc0_scratch1) ↦{fullShare} X) : sProp 𝕄) := by
  have e := winFam_eq (F := F) c fun w => (![![f0, f1, f2], ![f3, f4, f5]] : Fin 2 → Fin 3 → Buf (Elt F) ((c : Thread nD τ).loc cc0_scratch1)) w.1 w.2
  refine (Entails.of_eq e.symm).trans ((blocks_join (ℓ := (c : Thread nD τ).loc cc0_scratch1) winSet winSet_disjoint winSet_cover _ f0).trans ?_)
  iintro ⟨%X, %hX, H⟩; iexists X; isplitr
  · ipureintro; exact ⟨hX (0, 0), hX (0, 1), hX (0, 2), hX (1, 0), hX (1, 1), hX (1, 2)⟩
  iexact H

/-! ### The operand by shares -/

theorem src_split (q : PosShare TreeShare) (o : Fin 3 → ℕ) (h : Fits o) : wholeP (F := F) c W0 q ⊣⊢ iprop(srcP c W0 q o h ∗ restP c W0 q o h) := by
  unfold restP; exact pointsTo_split_subset (Finset.subset_univ _)
theorem whole_split : (hbPt0 c hbM0_0 W0 : sProp 𝕄) ⊣⊢ iprop(wholeP c W0 q0 ∗ wholeP c W0 q1 ∗ wholeP c W0 q2 ∗ wholeP c W0 q3 ∗ wholeP c W0 q4 ∗ wholeP c W0 q5) := by
  refine ⟨?_, ?_⟩
  · iintro H
    ihave G0 := (pointsTo_share (PosShare.mem_left_op_right fullShare)).1 $$ H
    icases G0 with ⟨H0, R1⟩
    ihave G1 := (pointsTo_share (PosShare.mem_left_op_right fullShare.right)).1 $$ R1
    icases G1 with ⟨H1, R2⟩
    ihave G2 := (pointsTo_share (PosShare.mem_left_op_right fullShare.right.right)).1 $$ R2
    icases G2 with ⟨H2, R3⟩
    ihave G3 := (pointsTo_share (PosShare.mem_left_op_right fullShare.right.right.right)).1 $$ R3
    icases G3 with ⟨H3, R4⟩
    ihave G4 := (pointsTo_share (PosShare.mem_left_op_right fullShare.right.right.right.right)).1 $$ R4
    icases G4 with ⟨H4, H5⟩
    isplitl [H0]; · iexact H0
    isplitl [H1]; · iexact H1
    isplitl [H2]; · iexact H2
    isplitl [H3]; · iexact H3
    isplitl [H4]; · iexact H4
    iexact H5
  · iintro ⟨H0, H1, H2, H3, H4, H5⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2]; · iexact H2
    iapply (pointsTo_share (PosShare.mem_left_op_right fullShare.right.right.right)).2
    isplitl [H3]; · iexact H3
    iapply (pointsTo_share (PosShare.mem_left_op_right fullShare.right.right.right.right)).2
    isplitl [H4]; · iexact H4
    iexact H5
/-- The operand whole is, per window, the block at its offsets and the rest of its share. -/
theorem srcs_split : (hbPt0 c hbM0_0 W0 : sProp 𝕄) ⊣⊢ iprop((srcP c W0 q0 o0 h0 ∗ srcP c W0 q1 o1 h1 ∗ srcP c W0 q2 o2 h2 ∗ srcP c W0 q3 o3 h3 ∗ srcP c W0 q4 o4 h4 ∗ srcP c W0 q5 o5 h5) ∗ restsP c W0 o0 o1 o2 o3 o4 o5 h0 h1 h2 h3 h4 h5) := by
  unfold restsP
  refine ⟨?_, ?_⟩
  · iintro H
    ihave G := (whole_split c W0).1 $$ H
    icases G with ⟨H0, H1, H2, H3, H4, H5⟩
    ihave G0 := (src_split c W0 q0 o0 h0).1 $$ H0
    ihave G1 := (src_split c W0 q1 o1 h1).1 $$ H1
    ihave G2 := (src_split c W0 q2 o2 h2).1 $$ H2
    ihave G3 := (src_split c W0 q3 o3 h3).1 $$ H3
    ihave G4 := (src_split c W0 q4 o4 h4).1 $$ H4
    ihave G5 := (src_split c W0 q5 o5 h5).1 $$ H5
    icases G0 with ⟨A0, B0⟩; icases G1 with ⟨A1, B1⟩; icases G2 with ⟨A2, B2⟩; icases G3 with ⟨A3, B3⟩; icases G4 with ⟨A4, B4⟩; icases G5 with ⟨A5, B5⟩
    isplitl [A0 A1 A2 A3 A4 A5]
    · isplitl [A0]; · iexact A0
      isplitl [A1]; · iexact A1
      isplitl [A2]; · iexact A2
      isplitl [A3]; · iexact A3
      isplitl [A4]; · iexact A4
      iexact A5
    · isplitl [B0]; · iexact B0
      isplitl [B1]; · iexact B1
      isplitl [B2]; · iexact B2
      isplitl [B3]; · iexact B3
      isplitl [B4]; · iexact B4
      iexact B5
  · iintro ⟨⟨A0, A1, A2, A3, A4, A5⟩, B0, B1, B2, B3, B4, B5⟩
    iapply (whole_split c W0).2
    isplitl [A0 B0]; · iapply (src_split c W0 q0 o0 h0).2; isplitl [A0]; · iexact A0
                       iexact B0
    isplitl [A1 B1]; · iapply (src_split c W0 q1 o1 h1).2; isplitl [A1]; · iexact A1
                       iexact B1
    isplitl [A2 B2]; · iapply (src_split c W0 q2 o2 h2).2; isplitl [A2]; · iexact A2
                       iexact B2
    isplitl [A3 B3]; · iapply (src_split c W0 q3 o3 h3).2; isplitl [A3]; · iexact A3
                       iexact B3
    isplitl [A4 B4]; · iapply (src_split c W0 q4 o4 h4).2; isplitl [A4]; · iexact A4
                       iexact B4
    iapply (src_split c W0 q5 o5 h5).2; isplitl [A5]; · iexact A5
    iexact B5

/-! ### From free to six transfers about to be issued, and from six waited for to free -/

/-- The cell at zero. -/
abbrev cellP : sProp 𝕄 := semVal ((c : Thread nD τ), cellR) 0

/-- The packed tile held whole, spelt as the body reads it. -/
abbrev tileP (X : HbBuf0 (F := F) c scM0_1) : sProp 𝕄 := scM0_1.view.loc (c : Thread nD τ) ↦[scM0_1.view.set]{fullShare} X
theorem tileP_eq (X : Buf (Elt F) ((c : Thread nD τ).loc cc0_scratch1)) : tileP c X = (((c : Thread nD τ).loc cc0_scratch1) ↦{fullShare} X : sProp 𝕄) := by
  unfold tileP; rw [(Memref.isWhole_whole cc0_scratch1).set_eq_univ]
/-- FREE, the packed tile at `X`. -/
def freeX (X : Buf (Elt F) ((c : Thread nD τ).loc cc0_scratch1)) : sProp 𝕄 :=
  iprop(cellP (F := F) c ∗ tileP c X ∗ hbPt0 c hbM0_0 W0)

/-- Each window of `X` holds the block at its offsets. -/
def Holds (X : Buf (Elt F) ((c : Thread nD τ).loc cc0_scratch1)) : Prop :=
  (∀ i ∈ winSet (0, 0), X i = landed c W0 win0 o0 h0 i) ∧ (∀ i ∈ winSet (0, 1), X i = landed c W0 win1 o1 h1 i) ∧ (∀ i ∈ winSet (0, 2), X i = landed c W0 win2 o2 h2 i)
    ∧ (∀ i ∈ winSet (1, 0), X i = landed c W0 win3 o3 h3 i) ∧ (∀ i ∈ winSet (1, 1), X i = landed c W0 win4 o4 h4 i) ∧ (∀ i ∈ winSet (1, 2), X i = landed c W0 win5 o5 h5 i)

/-- The six windows landed, and what was lent, are the tile free again, each window holding its block. -/
theorem free_of_waited :
    iprop(cellP (F := F) c ∗ (winP c win0 (landed c W0 win0 o0 h0) ∗ winP c win1 (landed c W0 win1 o1 h1) ∗ winP c win2 (landed c W0 win2 o2 h2) ∗ winP c win3 (landed c W0 win3 o3 h3) ∗ winP c win4 (landed c W0 win4 o4 h4) ∗ winP c win5 (landed c W0 win5 o5 h5))
      ∗ (srcP c W0 q0 o0 h0 ∗ srcP c W0 q1 o1 h1 ∗ srcP c W0 q2 o2 h2 ∗ srcP c W0 q3 o3 h3 ∗ srcP c W0 q4 o4 h4 ∗ srcP c W0 q5 o5 h5) ∗ restsP c W0 o0 o1 o2 o3 o4 o5 h0 h1 h2 h3 h4 h5)
    ⊢ iprop(∃ X, ⌜Holds c W0 o0 o1 o2 o3 o4 o5 h0 h1 h2 h3 h4 h5 X⌝ ∗ freeX c W0 X) := by
  unfold freeX Holds
  iintro ⟨Hc, HW, HS, HR⟩
  ihave HJ := (wins_join (F := F) c (landed c W0 win0 o0 h0) (landed c W0 win1 o1 h1) (landed c W0 win2 o2 h2) (landed c W0 win3 o3 h3) (landed c W0 win4 o4 h4) (landed c W0 win5 o5 h5)) $$ HW
  icases HJ with ⟨%X, %hX, HX⟩
  iexists X
  isplitr; · ipureintro; exact hX
  isplitl [Hc]; · iexact Hc
  isplitl [HX]; · rw [tileP_eq]; iexact HX
  iapply (srcs_split c W0 o0 o1 o2 o3 o4 o5 h0 h1 h2 h3 h4 h5).2
  isplitl [HS]; · iexact HS
  iexact HR

end Stream

/-! ### The blocks of tile `b` -/

section Tile
variable (c : Dev nD) (W0 : HbBuf0 (F := F) c hbM0_0)

/-- Offsets of tile `b`'s block in word `r / 8`, group of scales `k / 128`. -/
abbrev offB (b r k : ℕ) : Fin 3 → ℕ := ![1024 * b, r, k]
theorem fits_offB (b : Fin 2) {r k : ℕ} (hr : r ≤ 8) (hk : k ≤ 256) : Fits (offB b.val r k) := by
  have := b.isLt; intro a; fin_cases a <;> simp [offB] <;> omega
/-- BUSY with tile `b`. -/
def busy (b : Fin 2) : sProp 𝕄 :=
  busyO c W0 (offB b.val 0 0) (offB b.val 0 128) (offB b.val 0 256) (offB b.val 8 0) (offB b.val 8 128) (offB b.val 8 256)
    (fits_offB b (by decide) (by decide)) (fits_offB b (by decide) (by decide)) (fits_offB b (by decide) (by decide))
    (fits_offB b (by decide) (by decide)) (fits_offB b (by decide) (by decide)) (fits_offB b (by decide) (by decide))
/-- `X` holds tile `b`. -/
def HoldsB (b : Fin 2) (X : Buf (Elt F) ((c : Thread nD τ).loc cc0_scratch1)) : Prop :=
  Holds c W0 (offB b.val 0 0) (offB b.val 0 128) (offB b.val 0 256) (offB b.val 8 0) (offB b.val 8 128) (offB b.val 8 256)
    (fits_offB b (by decide) (by decide)) (fits_offB b (by decide) (by decide)) (fits_offB b (by decide) (by decide))
    (fits_offB b (by decide) (by decide)) (fits_offB b (by decide) (by decide)) (fits_offB b (by decide) (by decide)) X
/-- Transfers issued from offsets equal to tile `b`'s are tile `b`'s. -/
theorem busyO_eq (b : Fin 2) (o0 o1 o2 o3 o4 o5 : Fin 3 → ℕ) (h0 : Fits o0) (h1 : Fits o1) (h2 : Fits o2) (h3 : Fits o3) (h4 : Fits o4) (h5 : Fits o5)
    (e0 : o0 = offB b.val 0 0) (e1 : o1 = offB b.val 0 128) (e2 : o2 = offB b.val 0 256) (e3 : o3 = offB b.val 8 0) (e4 : o4 = offB b.val 8 128) (e5 : o5 = offB b.val 8 256) :
    busyO c W0 o0 o1 o2 o3 o4 o5 h0 h1 h2 h3 h4 h5 = busy c W0 b := by
  subst e0 e1 e2 e3 e4 e5; rfl
theorem holdsO_eq (b : Fin 2) (o0 o1 o2 o3 o4 o5 : Fin 3 → ℕ) (h0 : Fits o0) (h1 : Fits o1) (h2 : Fits o2) (h3 : Fits o3) (h4 : Fits o4) (h5 : Fits o5)
    (e0 : o0 = offB b.val 0 0) (e1 : o1 = offB b.val 0 128) (e2 : o2 = offB b.val 0 256) (e3 : o3 = offB b.val 8 0) (e4 : o4 = offB b.val 8 128) (e5 : o5 = offB b.val 8 256)
    (X : Buf (Elt F) ((c : Thread nD τ).loc cc0_scratch1)) (hX : Holds c W0 o0 o1 o2 o3 o4 o5 h0 h1 h2 h3 h4 h5 X) : HoldsB c W0 b X := by
  subst e0 e1 e2 e3 e4 e5; exact hX
end Tile

end Cert.KernelVIdeal.Hand

end
-- ==== Proof.KernelVIdealLoop.lean ====
/-
  One trip of the decoding loop of `KernelVIdeal`'s body and the loop by its invariant, at the algebra of a body with transfers
  of its own: a trip reads the scales and the packed tile and writes pieces of the decoded tile, and before trip `k` the
  decoded tile holds the pieces of the trips before it written over what it held at entry.
-/
module

public import proofs.«01_k».proof.Proof.KernelVIdealStream
public import proofs.«01_k».proof.Proof.Gen.KernelVIdeal.Loops

@[expose] public section

set_option maxRecDepth 8192
set_option maxHeartbeats 4000000

noncomputable section

namespace Cert.KernelVIdeal.Hand

open Cert.KernelVIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole) (arg5 : Memref sig .tc .hbm S2048x16x384 .i8) (harg5 : arg5.IsWhole)
  (arg6 : Memref sig .tc .vmem S1024x384 .bf16) (harg6 : arg6.IsWhole) (arg7 : Memref sig .tc .vmem S256x8x128 .fp8e4m3) (harg7 : arg7.IsWhole) (arg8 : Memref sig .tc .vmem S1x8x256 .f32) (harg8 : arg8.IsWhole)
  (arg9 : Memref sig .tc .vmem S48x512x2x256 .bf16) (harg9 : arg9.IsWhole) (arg10 : Memref sig .tc .vmem S2x3x1024x8x128 .i8) (harg10 : arg10.IsWhole)
  (arg11 : DmaSems sig S_) (arg12 : Memref sig .tc .vmem S256x8x128 .fp8e4m3) (harg12 : arg12.IsWhole) (k0_h2 : k0_cond2 i = 1#1)
  (X6 : BufTy.Contents (Elt F) arg6.view.ty) (X10 : BufTy.Contents (Elt F) arg10.view.ty)

/-- What a trip holds: the scales and the packed tile at `X6`, `X10`, the decoded tile at `f8`. -/
abbrev Trip (f8 : BufTy.Contents (Elt F) arg9.view.ty) : sProp 𝕄 :=
  iprop((arg6.view.loc (c : Thread nD τ) ↦[arg6.view.set]{fullShare} X6) ∗ (arg10.view.loc (c : Thread nD τ) ↦[arg10.view.set]{fullShare} X10) ∗ (arg9.view.loc (c : Thread nD τ) ↦[arg9.view.set]{fullShare} f8))

/-- One trip at a symbolic `k`: the pieces it writes are the run's own finds. -/
@[irreducible] def trip (k : Fin k0_t1_loop.trips) :
    { L : List (View.Piece (Elt F) S48x512x2x256 .bf16) // ∀ (E : Set ℕ) (f8 : BufTy.Contents (Elt F) arg9.view.ty),
      Trip (F := F) c arg6 arg9 arg10 X6 X10 f8
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 arg12 harg12 k0_h2 k PUnit.unit)
          (fun _ => Trip (F := F) c arg6 arg9 arg10 X6 X10 (arg9.view.writes (Elt F) f8 L)) } := by
  have hk : k.val < 64 := Nat.lt_of_lt_of_le k.isLt k0_t1_abs.2.1
  refine ⟨?_, fun E f8 => ?run⟩
  case run =>
    unfold k0_t1_body
    iintro ⟨HR6, HR9, HW8⟩
    sl_exec
    sl_step
    sl_close

/-- The pieces of trip `k`. -/
abbrev tripL (k : Fin k0_t1_loop.trips) : List (View.Piece (Elt F) S48x512x2x256 .bf16) :=
  (trip (F := F) c i arg2 harg2 arg3 harg3 arg4 harg4 arg5 harg5 arg6 harg6 arg7 harg7 arg8 harg8 arg9 harg9 arg10 harg10 arg11 arg12 harg12 k0_h2 X6 X10 k).1

/-- The pieces of the trips before `k`, last first. -/
def pieces : ℕ → List (View.Piece (Elt F) S48x512x2x256 .bf16)
  | 0 => []
  | k + 1 => if h : k < k0_t1_loop.trips then
      tripL (F := F) c i arg2 harg2 arg3 harg3 arg4 harg4 arg5 harg5 arg6 harg6 arg7 harg7 arg8 harg8 arg9 harg9 arg10 harg10 arg11 arg12 harg12 k0_h2 X6 X10 ⟨k, h⟩ ++ pieces k
    else pieces k
theorem pieces_succ (k : Fin k0_t1_loop.trips) :
    pieces (F := F) c i arg2 harg2 arg3 harg3 arg4 harg4 arg5 harg5 arg6 harg6 arg7 harg7 arg8 harg8 arg9 harg9 arg10 harg10 arg11 arg12 harg12 k0_h2 X6 X10 (k.val + 1)
      = tripL (F := F) c i arg2 harg2 arg3 harg3 arg4 harg4 arg5 harg5 arg6 harg6 arg7 harg7 arg8 harg8 arg9 harg9 arg10 harg10 arg11 arg12 harg12 k0_h2 X6 X10 k ++ pieces (F := F) c i arg2 harg2 arg3 harg3 arg4 harg4 arg5 harg5 arg6 harg6 arg7 harg7 arg8 harg8 arg9 harg9 arg10 harg10 arg11 arg12 harg12 k0_h2 X6 X10 k.val := by
  rw [pieces.eq_2]; exact dif_pos k.isLt

/-- The loop's invariant before trip `k`. -/
def loopInv (G9 : BufTy.Contents (Elt F) arg9.view.ty) (k : ℕ) : sProp 𝕄 :=
  iprop((arg6.view.loc (c : Thread nD τ) ↦[arg6.view.set]{fullShare} X6) ∗ (arg10.view.loc (c : Thread nD τ) ↦[arg10.view.set]{fullShare} X10)
    ∗ (∃ f, (arg9.view.loc (c : Thread nD τ) ↦[arg9.view.set]{fullShare} f) ∗ ⌜f = arg9.view.writes (Elt F) G9 (pieces (F := F) c i arg2 harg2 arg3 harg3 arg4 harg4 arg5 harg5 arg6 harg6 arg7 harg7 arg8 harg8 arg9 harg9 arg10 harg10 arg11 arg12 harg12 k0_h2 X6 X10 k)⌝))

set_option warn.classDefReducibility false in
/-- The decoding loop by its invariant. -/
def decodeLoop (E : Set ℕ) (G9 : BufTy.Contents (Elt F) arg9.view.ty) :
    LoopInvTy_k0_t1 (F := F) Unit ℕ (Pipeline.UD sig nD τ) ℕ Variants.none c none E i arg2 harg2 arg3 harg3 arg4 harg4 arg5 harg5 arg6 harg6 arg7 harg7 arg8 harg8 arg9 harg9 arg10 harg10 arg11 arg12 harg12 k0_h2 where
  inv k _ := loopInv (F := F) c i arg2 harg2 arg3 harg3 arg4 harg4 arg5 harg5 arg6 harg6 arg7 harg7 arg8 harg8 arg9 harg9 arg10 harg10 arg11 arg12 harg12 k0_h2 X6 X10 G9 k
  step k acc := by
    unfold loopInv
    iintro ⟨HR6, HR9, ⟨%f8, HW8, %h8⟩⟩
    iapply (wp_wand_r Idealize.ShloMosaic.frame (wpE (defs₀ (F := F)) Variants.none (c : Thread nD τ) none) E)
    isplitl [HR6 HR9 HW8]
    · iapply ((trip (F := F) c i arg2 harg2 arg3 harg3 arg4 harg4 arg5 harg5 arg6 harg6 arg7 harg7 arg8 harg8 arg9 harg9 arg10 harg10 arg11 arg12 harg12 k0_h2 X6 X10 k).2 E f8)
      isplitl [HR6]; · iexact HR6
      isplitl [HR9]; · iexact HR9
      iexact HW8
    · iintro %_ ⟨HR6, HR9, HW8⟩
      isplitl [HR6]; · iexact HR6
      isplitl [HR9]; · iexact HR9
      rw [pieces_succ]
      iexists _; isplitl [HW8]; · iexact HW8
      ipureintro; rw [h8, ← View.writes_append]

end Cert.KernelVIdeal.Hand

end
-- ==== Proof.KernelVIdealBody.lean ====
/-
  The first part of `KernelVIdeal`'s body, case by case: the conditionals that wait for a tile, decode it and start the next one's
  transfers, and the first products.
-/
module

public import proofs.«01_k».proof.Proof.KernelVIdealLoop

@[expose] public section

set_option maxRecDepth 16384
set_option maxHeartbeats 4000000

noncomputable section

namespace Cert.KernelVIdeal.Hand

open Cert.KernelVIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (i : grid0.Coords) (W0 : HbBuf0 (F := F) c hbM0_0)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole)
  (arg6 : Memref sig .tc .vmem S1024x384 .bf16) (harg6 : arg6.IsWhole) (arg7 : Memref sig .tc .vmem S256x8x128 .fp8e4m3) (harg7 : arg7.IsWhole) (arg8 : Memref sig .tc .vmem S1x8x256 .f32) (harg8 : arg8.IsWhole)
  (arg9 : Memref sig .tc .vmem S48x512x2x256 .bf16) (harg9 : arg9.IsWhole)
  (arg12 : Memref sig .tc .vmem S256x8x128 .fp8e4m3) (harg12 : arg12.IsWhole)
  (X2 : BufTy.Contents (Elt F) arg2.view.ty) (X6 : BufTy.Contents (Elt F) arg6.view.ty) (G9 : BufTy.Contents (Elt F) arg9.view.ty)

/-- A memref held at contents `f`, spelt as the body reads it. -/
abbrev memP {sp : Space} {S : Shape} {e : EltTy} (M : Memref sig .tc sp S e) (f : BufTy.Contents (Elt F) M.view.ty) : sProp 𝕄 :=
  M.view.loc (c : Thread nD τ) ↦[M.view.set]{fullShare} f

/-- The first part of the body at the call's operands. -/
abbrev firstPart := k0_part58 (F := F) i arg2 harg2 arg3 harg3 arg4 harg4 (Memref.whole main_v0) (Memref.isWhole_whole _) arg6 harg6 arg7 harg7 arg8 harg8 arg9 harg9 scM0_1 (Memref.isWhole_whole _) cc0_scratch2 arg12 harg12

/-- What the first part hands on, over what the activations' block and the decoded tile hold. -/
abbrev firstV : FVec F S256x512 .f32 := k0_pay231 (arg2.view.readAt (Elt F) (Rect.unit (s := S1x48x128x256) ![0, 0, 0, 0] S1x1x128x256.size inb_S1x48x128x256_S1x1x128x256_0_0_0_0).toLoadRect X2) (arg9.view.readAt (Elt F) (Rect.unit (s := S48x512x2x256) ![0, 0, 0, 0] S1x256x2x256.size inb_S48x512x2x256_S1x256x2x256_0_0_0_0).toLoadRect G9) (arg2.view.readAt (Elt F) (Rect.unit (s := S1x48x128x256) ![0, 1, 0, 0] S1x1x128x256.size inb_S1x48x128x256_S1x1x128x256_0_1_0_0).toLoadRect X2) (arg9.view.readAt (Elt F) (Rect.unit (s := S48x512x2x256) ![1, 0, 0, 0] S1x256x2x256.size inb_S48x512x2x256_S1x256x2x256_1_0_0_0).toLoadRect G9)

/-- The decoded tile after the loop, over the scales, the packed tile and what it held before. -/
abbrev decoded (hc1 : k0_cond2 i = 1#1) (X10 : HbBuf0 (F := F) c scM0_1) : BufTy.Contents (Elt F) arg9.view.ty :=
  arg9.view.writes (Elt F) G9 (pieces (F := F) c i arg2 harg2 arg3 harg3 arg4 harg4 (Memref.whole main_v0) (Memref.isWhole_whole _) arg6 harg6 arg7 harg7 arg8 harg8 arg9 harg9 scM0_1 (Memref.isWhole_whole _) cc0_scratch2 arg12 harg12 hc1 X6 X10 k0_t1_loop.trips)

/-- B: the token block is not the first of its tile, and the body reads what earlier points decoded. -/
theorem first_B (W : Waits sig Unit) (hc0 : ¬cond0_0 i) (hc1 : ¬cond0_1 i) :
    iprop(memP c arg2 X2 ∗ memP c arg9 G9 ∗ owes (c : Thread nD τ) 0 W)
    ⊢ wp frame (wpE (defs₀ (F := F)) Variants.none c none) Set.univ (firstPart (F := F) i arg2 harg2 arg3 harg3 arg4 harg4 arg6 harg6 arg7 harg7 arg8 harg8 arg9 harg9 arg12 harg12)
      (fun v => iprop(memP c arg2 X2 ∗ memP c arg9 G9 ∗ ⌜v = firstV arg2 arg9 X2 G9⌝ ∗ ∃ W', owes (c : Thread nD τ) 0 W')) := by
  haveI : Fact (¬cond0_0 i) := ⟨hc0⟩
  haveI : Fact (¬cond0_1 i) := ⟨hc1⟩
  iintro ⟨H2, H8, HW⟩
  unfold firstPart
  simp only [k0_part58_eq_skeleton]; unfold k0_part58_skel
  sl_exec (disch := first | sl_exact hc0 | sl_exact hc1)
  sl_step
  isplitl [H2]; · iexact H2
  isplitl [H8]; · iexact H8
  isplitr; · ipureintro; rfl
  iexists _; iexact HW

/-- D: the first token block of the last tile. -/
theorem first_D (W : Waits sig Unit) (hc0 : ¬cond0_0 i) (hc1 : cond0_1 i) (hc2 : ¬cond0_2 i) (o0 o1 o2 o3 o4 o5 : Fin 3 → ℕ) (h0 : Fits o0) (h1 : Fits o1) (h2 : Fits o2) (h3 : Fits o3) (h4 : Fits o4) (h5 : Fits o5) :
    iprop(memP c arg2 X2 ∗ memP c arg6 X6 ∗ memP c arg9 G9 ∗ busyO c W0 o0 o1 o2 o3 o4 o5 h0 h1 h2 h3 h4 h5 ∗ owes (c : Thread nD τ) 0 W)
    ⊢ wp frame (wpE (defs₀ (F := F)) Variants.none c none) Set.univ (firstPart (F := F) i arg2 harg2 arg3 harg3 arg4 harg4 arg6 harg6 arg7 harg7 arg8 harg8 arg9 harg9 arg12 harg12)
      (fun v => iprop(∃ X10, ⌜Holds c W0 o0 o1 o2 o3 o4 o5 h0 h1 h2 h3 h4 h5 X10⌝ ∗ memP c arg2 X2 ∗ memP c arg6 X6
        ∗ memP c arg9 (decoded (F := F) c i arg2 harg2 arg3 harg3 arg4 harg4 arg6 harg6 arg7 harg7 arg8 harg8 arg9 harg9 arg12 harg12 X6 G9 hc1 X10)
        ∗ freeX c W0 X10
        ∗ ⌜v = firstV arg2 arg9 X2 (decoded (F := F) c i arg2 harg2 arg3 harg3 arg4 harg4 arg6 harg6 arg7 harg7 arg8 harg8 arg9 harg9 arg12 harg12 X6 G9 hc1 X10)⌝
        ∗ ∃ W', owes (c : Thread nD τ) 0 W')) := by
  haveI : Fact (¬cond0_0 i) := ⟨hc0⟩
  haveI : Fact (cond0_1 i) := ⟨hc1⟩
  haveI : Fact (¬cond0_2 i) := ⟨hc2⟩
  iintro ⟨H2, H6, H8, HBB, HW⟩
  unfold firstPart
  simp only [k0_part58_eq_skeleton]; unfold k0_part58_skel
  unfold busyO restsP
  icases HBB with ⟨HB, Hr0, Hr1, Hr2, Hr3, Hr4, Hr5⟩
  sl_exec (disch := first | sl_exact hc0 | sl_exact hc1)
  ihave HF := (free_of_waited c W0 o0 o1 o2 o3 o4 o5 h0 h1 h2 h3 h4 h5) $$ [HB HB_dst0 HB_dst1 HB_dst2 HB_dst3 HB_dst4 HB_dst5 HB_src0 HB_src1 HB_src2 HB_src3 HB_src4 HB_src5 Hr0 Hr1 Hr2 Hr3 Hr4 Hr5]
  · isplitl [HB]; · iexact HB
    isplitl [HB_dst0 HB_dst1 HB_dst2 HB_dst3 HB_dst4 HB_dst5]
    · isplitl [HB_dst0]; · iexact HB_dst0
      isplitl [HB_dst1]; · iexact HB_dst1
      isplitl [HB_dst2]; · iexact HB_dst2
      isplitl [HB_dst3]; · iexact HB_dst3
      isplitl [HB_dst4]; · iexact HB_dst4
      iexact HB_dst5
    isplitl [HB_src0 HB_src1 HB_src2 HB_src3 HB_src4 HB_src5]
    · isplitl [HB_src0]; · iexact HB_src0
      isplitl [HB_src1]; · iexact HB_src1
      isplitl [HB_src2]; · iexact HB_src2
      isplitl [HB_src3]; · iexact HB_src3
      isplitl [HB_src4]; · iexact HB_src4
      iexact HB_src5
    unfold restsP
    isplitl [Hr0]; · iexact Hr0
    isplitl [Hr1]; · iexact Hr1
    isplitl [Hr2]; · iexact Hr2
    isplitl [Hr3]; · iexact Hr3
    isplitl [Hr4]; · iexact Hr4
    iexact Hr5
  icases HF with ⟨%X10, %hX10, HF⟩
  unfold freeX
  icases HF with ⟨HB, H9, HS⟩
  sl_for (fun k _ => loopInv (F := F) c i arg2 harg2 arg3 harg3 arg4 harg4 (Memref.whole main_v0) (Memref.isWhole_whole _) arg6 harg6 arg7 harg7 arg8 harg8 arg9 harg9 scM0_1 (Memref.isWhole_whole _) cc0_scratch2 arg12 harg12 hc1 X6 X10 G9 k) $$ [H6 H9 H8]
  · intro k acc; exact (decodeLoop (F := F) c i arg2 harg2 arg3 harg3 arg4 harg4 (Memref.whole main_v0) (Memref.isWhole_whole _) arg6 harg6 arg7 harg7 arg8 harg8 arg9 harg9 scM0_1 (Memref.isWhole_whole _) cc0_scratch2 arg12 harg12 hc1 X6 X10 Set.univ G9).step k acc
  · unfold loopInv
    isplitl [H6]; · iexact H6
    isplitl [H9]; · iexact H9
    iexists _; isplitl [H8]; · iexact H8
    ipureintro; rfl
  iintro %_ HI
  unfold loopInv
  icases HI with ⟨H6, H9, ⟨%f8, H8, %h8⟩⟩
  subst h8
  sl_exec (disch := first | sl_exact hc2)
  sl_step
  iexists X10
  isplitr; · ipureintro; exact hX10
  isplitl [H2]; · iexact H2
  isplitl [H6]; · iexact H6
  isplitl [H8]; · iexact H8
  isplitl [HB H9 HS]
  · isplitl [HB]; · iexact HB
    isplitl [H9]; · iexact H9
    iexact HS
  isplitr; · ipureintro; rfl
  iexists _; iexact HW

/-- A: the first point, which starts the first tile as well as the second. -/
theorem first_A (W : Waits sig Unit) (hc0 : cond0_0 i) (hc1 : cond0_1 i) (hc2 : cond0_2 i) (X : HbBuf0 (F := F) c scM0_1) :
    iprop(memP c arg2 X2 ∗ memP c arg6 X6 ∗ memP c arg9 G9 ∗ freeX c W0 X ∗ owes (c : Thread nD τ) 0 W)
    ⊢ wp frame (wpE (defs₀ (F := F)) Variants.none c none) Set.univ (firstPart (F := F) i arg2 harg2 arg3 harg3 arg4 harg4 arg6 harg6 arg7 harg7 arg8 harg8 arg9 harg9 arg12 harg12)
      (fun v => iprop(∃ X10, ⌜Holds c W0 ![0, 0, 0] ![0, 0, 128] ![0, 0, 256] ![0, 8, 0] ![0, 8, 128] ![0, 8, 256] inb_S2048x16x384_S1024x8x128_0_0_0 inb_S2048x16x384_S1024x8x128_0_0_128 inb_S2048x16x384_S1024x8x128_0_0_256 inb_S2048x16x384_S1024x8x128_0_8_0 inb_S2048x16x384_S1024x8x128_0_8_128 inb_S2048x16x384_S1024x8x128_0_8_256 X10⌝ ∗ memP c arg2 X2 ∗ memP c arg6 X6
        ∗ memP c arg9 (decoded (F := F) c i arg2 harg2 arg3 harg3 arg4 harg4 arg6 harg6 arg7 harg7 arg8 harg8 arg9 harg9 arg12 harg12 X6 G9 hc1 X10)
        ∗ busyO c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)
        ∗ ⌜v = firstV arg2 arg9 X2 (decoded (F := F) c i arg2 harg2 arg3 harg3 arg4 harg4 arg6 harg6 arg7 harg7 arg8 harg8 arg9 harg9 arg12 harg12 X6 G9 hc1 X10)⌝
        ∗ ∃ W', owes (c : Thread nD τ) 0 W')) := by
  haveI : Fact (cond0_0 i) := ⟨hc0⟩
  haveI : Fact (cond0_1 i) := ⟨hc1⟩
  haveI : Fact (cond0_2 i) := ⟨hc2⟩
  iintro ⟨H2, H6, H8, HBB, HW⟩
  unfold firstPart
  simp only [k0_part58_eq_skeleton]; unfold k0_part58_skel
  unfold freeX
  icases HBB with ⟨HB, H9, HS⟩
  ihave H9 := (Entails.of_eq ((tileP_eq c X).trans (wins_split c X))) $$ H9
  icases H9 with ⟨HD0, HD1, HD2, HD3, HD4, HD5⟩
  ihave HS2 := (srcs_split c W0 ![0, 0, 0] ![0, 0, 128] ![0, 0, 256] ![0, 8, 0] ![0, 8, 128] ![0, 8, 256] inb_S2048x16x384_S1024x8x128_0_0_0 inb_S2048x16x384_S1024x8x128_0_0_128 inb_S2048x16x384_S1024x8x128_0_0_256 inb_S2048x16x384_S1024x8x128_0_8_0 inb_S2048x16x384_S1024x8x128_0_8_128 inb_S2048x16x384_S1024x8x128_0_8_256).1 $$ HS
  icases HS2 with ⟨⟨HS0, HS1, HS2, HS3, HS4, HS5⟩, HR⟩
  have hD := storable_winD (F := F) c W0 ![0, 0, 0] ![0, 0, 128] ![0, 0, 256] ![0, 8, 0] ![0, 8, 128] ![0, 8, 256] inb_S2048x16x384_S1024x8x128_0_0_0 inb_S2048x16x384_S1024x8x128_0_0_128 inb_S2048x16x384_S1024x8x128_0_0_256 inb_S2048x16x384_S1024x8x128_0_8_0 inb_S2048x16x384_S1024x8x128_0_8_128 inb_S2048x16x384_S1024x8x128_0_8_256
  imod (Transfers.batch_alloc' (Lvl := ℕ) countersEmb (c : Thread nD τ) default NN (winD c W0 ![0, 0, 0] ![0, 0, 128] ![0, 0, 256] ![0, 8, 0] ![0, 8, 128] ![0, 8, 256] inb_S2048x16x384_S1024x8x128_0_0_0 inb_S2048x16x384_S1024x8x128_0_0_128 inb_S2048x16x384_S1024x8x128_0_0_256 inb_S2048x16x384_S1024x8x128_0_8_0 inb_S2048x16x384_S1024x8x128_0_8_128 inb_S2048x16x384_S1024x8x128_0_8_256) (sm := cellR) (E := Set.univ)) $$ HB with HB
  clear hD
  sl_exec (disch := first | sl_exact hc0 | sl_exact hc1)
  ihave HF := (free_of_waited c W0 ![0, 0, 0] ![0, 0, 128] ![0, 0, 256] ![0, 8, 0] ![0, 8, 128] ![0, 8, 256] inb_S2048x16x384_S1024x8x128_0_0_0 inb_S2048x16x384_S1024x8x128_0_0_128 inb_S2048x16x384_S1024x8x128_0_0_256 inb_S2048x16x384_S1024x8x128_0_8_0 inb_S2048x16x384_S1024x8x128_0_8_128 inb_S2048x16x384_S1024x8x128_0_8_256) $$ [HB HB_dst0 HB_dst1 HB_dst2 HB_dst3 HB_dst4 HB_dst5 HB_src0 HB_src1 HB_src2 HB_src3 HB_src4 HB_src5 HR]
  · isplitl [HB]; · iexact HB
    isplitl [HB_dst0 HB_dst1 HB_dst2 HB_dst3 HB_dst4 HB_dst5]
    · isplitl [HB_dst0]; · iexact HB_dst0
      isplitl [HB_dst1]; · iexact HB_dst1
      isplitl [HB_dst2]; · iexact HB_dst2
      isplitl [HB_dst3]; · iexact HB_dst3
      isplitl [HB_dst4]; · iexact HB_dst4
      iexact HB_dst5
    isplitl [HB_src0 HB_src1 HB_src2 HB_src3 HB_src4 HB_src5]
    · isplitl [HB_src0]; · iexact HB_src0
      isplitl [HB_src1]; · iexact HB_src1
      isplitl [HB_src2]; · iexact HB_src2
      isplitl [HB_src3]; · iexact HB_src3
      isplitl [HB_src4]; · iexact HB_src4
      iexact HB_src5
    iexact HR
  icases HF with ⟨%X10, %hX10, HF⟩
  unfold freeX
  icases HF with ⟨HB, H9, HS⟩
  sl_for (fun k _ => loopInv (F := F) c i arg2 harg2 arg3 harg3 arg4 harg4 (Memref.whole main_v0) (Memref.isWhole_whole _) arg6 harg6 arg7 harg7 arg8 harg8 arg9 harg9 scM0_1 (Memref.isWhole_whole _) cc0_scratch2 arg12 harg12 hc1 X6 X10 G9 k) $$ [H6 H9 H8]
  · intro k acc; exact (decodeLoop (F := F) c i arg2 harg2 arg3 harg3 arg4 harg4 (Memref.whole main_v0) (Memref.isWhole_whole _) arg6 harg6 arg7 harg7 arg8 harg8 arg9 harg9 scM0_1 (Memref.isWhole_whole _) cc0_scratch2 arg12 harg12 hc1 X6 X10 Set.univ G9).step k acc
  · unfold loopInv
    isplitl [H6]; · iexact H6
    isplitl [H9]; · iexact H9
    iexists _; isplitl [H8]; · iexact H8
    ipureintro; rfl
  iintro %_ HI
  unfold loopInv
  icases HI with ⟨H6, H9, ⟨%f8, H8, %h8⟩⟩
  subst h8
  ihave H9 := (Entails.of_eq ((tileP_eq c X10).trans (wins_split c X10))) $$ H9
  icases H9 with ⟨HD0, HD1, HD2, HD3, HD4, HD5⟩
  ihave HS2 := (srcs_split c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)).1 $$ HS
  icases HS2 with ⟨⟨HS0, HS1, HS2, HS3, HS4, HS5⟩, HR⟩
  have hD := storable_winD (F := F) c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)
  imod (Transfers.batch_alloc' (Lvl := ℕ) countersEmb (c : Thread nD τ) default NN (winD c W0 (k0_off112 i) (k0_off113 i) (k0_off114 i) (k0_off115 i) (k0_off116 i) (k0_off117 i) (k0_off112_inb i hc1 hc2) (k0_off113_inb i hc1 hc2) (k0_off114_inb i hc1 hc2) (k0_off115_inb i hc1 hc2) (k0_off116_inb i hc1 hc2) (k0_off117_inb i hc1 hc2)) (sm := cellR) (E := Set.univ)) $$ HB with HB
  clear hD
  sl_exec (disch := first | sl_exact hc2)
  sl_step
  iexists X10
  isplitr; · ipureintro; exact hX10
  isplitl [H2]; · iexact H2
  isplitl [H6]; · iexact H6
  isplitl [H8]; · iexact H8
  isplitl [HB HR]
  · try unfold busyO
    isplitl [HB]; · iexact HB
    try unfold restsP
    iexact HR
  isplitr; · ipureintro; rfl
  iexists _; iexact HW

end Cert.KernelVIdeal.Hand

end
-- ==== Proof.KernelVIdealTail.lean ====
/-
  The rest of `KernelVIdeal`'s body, which is the same at every point: from what its first part hands on, the products over the
  activations' chunks, the codes and their scales, and the stores of both blocks.
-/
module

public import proofs.«01_k».proof.Proof.KernelVIdealBody

@[expose] public section

set_option maxRecDepth 16384
set_option maxHeartbeats 4000000

noncomputable section

namespace Cert.KernelVIdeal.Hand

open Cert.KernelVIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (i : grid0.Coords) (W0 : HbBuf0 (F := F) c hbM0_0)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole)
  (arg6 : Memref sig .tc .vmem S1024x384 .bf16) (harg6 : arg6.IsWhole) (arg7 : Memref sig .tc .vmem S256x8x128 .fp8e4m3) (harg7 : arg7.IsWhole) (arg8 : Memref sig .tc .vmem S1x8x256 .f32) (harg8 : arg8.IsWhole)
  (arg9 : Memref sig .tc .vmem S48x512x2x256 .bf16) (harg9 : arg9.IsWhole)
  (arg12 : Memref sig .tc .vmem S256x8x128 .fp8e4m3) (harg12 : arg12.IsWhole)
  (X2 : BufTy.Contents (Elt F) arg2.view.ty) (X6 : BufTy.Contents (Elt F) arg6.view.ty) (G9 : BufTy.Contents (Elt F) arg9.view.ty)
  (X3 : BufTy.Contents (Elt F) arg3.view.ty) (X4 : BufTy.Contents (Elt F) arg4.view.ty) (X12 : BufTy.Contents (Elt F) arg12.view.ty)

/-- The body at the call's operands. -/
abbrev bodyP : Prog (TpuEff nD τ sig (Elt F) Λ₀ .tc) PUnit := cc0_project_v (F := F) i arg2 harg2 arg3 harg3 arg4 harg4 (Memref.whole main_v0) (Memref.isWhole_whole _) arg6 harg6 arg7 harg7 arg8 harg8 arg9 harg9 scM0_1 (Memref.isWhole_whole _) cc0_scratch2 arg12 harg12

set_option maxRecDepth 65536 in
/-- The body is its first part and the rest, which takes what the first part hands on. -/
def contS : { k : FVec F S256x512 .f32 → Prog (TpuEff nD τ sig (Elt F) Λ₀ .tc) PUnit // bodyP (F := F) i arg2 harg2 arg3 harg3 arg4 harg4 arg6 harg6 arg7 harg7 arg8 harg8 arg9 harg9 arg12 harg12 = firstPart (F := F) i arg2 harg2 arg3 harg3 arg4 harg4 arg6 harg6 arg7 harg7 arg8 harg8 arg9 harg9 arg12 harg12 >>= k } :=
  ⟨_, (congrArg (fun f => f i arg2 harg2 arg3 harg3 arg4 harg4 (Memref.whole main_v0) (Memref.isWhole_whole _) arg6 harg6 arg7 harg7 arg8 harg8 arg9 harg9 scM0_1 (Memref.isWhole_whole _) cc0_scratch2 arg12 harg12) (cc0_project_v_eq_skeleton (F := F))).trans rfl⟩
/-- The rest of the body. -/
abbrev cont (v : FVec F S256x512 .f32) : Prog (TpuEff nD τ sig (Elt F) Λ₀ .tc) PUnit := (contS (F := F) i arg2 harg2 arg3 harg3 arg4 harg4 arg6 harg6 arg7 harg7 arg8 harg8 arg9 harg9 arg12 harg12).1 v

/-- The rest's run: the pieces it writes to the block of results are the run's own finds. -/
@[irreducible] def tail (c : Dev nD) :
    { L : List (View.Piece (Elt F) S256x8x128 .fp8e4m3) × List (View.Piece (Elt F) S1x8x256 .f32) // ∀ (X7 : BufTy.Contents (Elt F) arg7.view.ty) (X8 : BufTy.Contents (Elt F) arg8.view.ty),
      iprop(memP c arg2 X2 ∗ memP c arg3 X3 ∗ memP c arg4 X4 ∗ memP c arg7 X7 ∗ memP c arg8 X8 ∗ memP c arg9 G9 ∗ memP c arg12 X12)
      ⊢ wp frame (wpE (defs₀ (F := F)) Variants.none c none) Set.univ (cont (F := F) i arg2 harg2 arg3 harg3 arg4 harg4 arg6 harg6 arg7 harg7 arg8 harg8 arg9 harg9 arg12 harg12 (firstV arg2 arg9 X2 G9))
          (fun _ => iprop(memP c arg2 X2 ∗ memP c arg3 X3 ∗ memP c arg4 X4 ∗ memP c arg7 (arg7.view.writes (Elt F) X7 L.1) ∗ memP c arg8 (arg8.view.writes (Elt F) X8 L.2) ∗ memP c arg9 G9 ∗ ∃ X12', memP c arg12 X12')) } := by
  refine ⟨⟨?_, ?_⟩, fun X7 X8 => ?run⟩
  case run =>
    unfold cont contS firstV
    simp only [k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton]
    iintro ⟨H2, H3, H4, H7, H8, H9, H11⟩
    sl_exec
    sl_step
    isplitl [H2]; · iexact H2
    isplitl [H3]; · iexact H3
    isplitl [H4]; · iexact H4
    isplitl [H7]; · iexact H7
    isplitl [H8]; · iexact H8
    isplitl [H9]; · iexact H9
    iexists _; iexact H11

/-- The block of results after the body. -/
abbrev outP (c : Dev nD) (X7 : BufTy.Contents (Elt F) arg7.view.ty) : BufTy.Contents (Elt F) arg7.view.ty :=
  arg7.view.writes (Elt F) X7 (tail (F := F) i arg2 harg2 arg3 harg3 arg4 harg4 arg6 harg6 arg7 harg7 arg8 harg8 arg9 harg9 arg12 harg12 X2 G9 X3 X4 X12 c).1.1

/-- The block of scales after the body. -/
abbrev outS (c : Dev nD) (X8 : BufTy.Contents (Elt F) arg8.view.ty) : BufTy.Contents (Elt F) arg8.view.ty :=
  arg8.view.writes (Elt F) X8 (tail (F := F) i arg2 harg2 arg3 harg3 arg4 harg4 arg6 harg6 arg7 harg7 arg8 harg8 arg9 harg9 arg12 harg12 X2 G9 X3 X4 X12 c).1.2

/-- The body, from what its first part does: `R` is what the first part starts from, `R' G` what it leaves besides the
    activations' block and the decoded tile at `G`. -/
theorem body_of_first (c : Dev nD) (R : sProp 𝕄) (R' : BufTy.Contents (Elt F) arg9.view.ty → sProp 𝕄) (X7 : BufTy.Contents (Elt F) arg7.view.ty) (X8 : BufTy.Contents (Elt F) arg8.view.ty)
    (h : R ⊢ wp frame (wpE (defs₀ (F := F)) Variants.none c none) Set.univ (firstPart (F := F) i arg2 harg2 arg3 harg3 arg4 harg4 arg6 harg6 arg7 harg7 arg8 harg8 arg9 harg9 arg12 harg12)
      (fun v => iprop(∃ G, memP c arg2 X2 ∗ memP c arg9 G ∗ ⌜v = firstV arg2 arg9 X2 G⌝ ∗ R' G))) :
    iprop(R ∗ memP c arg3 X3 ∗ memP c arg4 X4 ∗ memP c arg7 X7 ∗ memP c arg8 X8 ∗ memP c arg12 X12)
    ⊢ wp frame (wpE (defs₀ (F := F)) Variants.none c none) Set.univ (bodyP (F := F) i arg2 harg2 arg3 harg3 arg4 harg4 arg6 harg6 arg7 harg7 arg8 harg8 arg9 harg9 arg12 harg12)
      (fun _ => iprop(∃ G, memP c arg2 X2 ∗ memP c arg3 X3 ∗ memP c arg4 X4 ∗ memP c arg7 (outP i arg2 harg2 arg3 harg3 arg4 harg4 arg6 harg6 arg7 harg7 arg8 harg8 arg9 harg9 arg12 harg12 X2 G X3 X4 X12 c X7) ∗ memP c arg8 (outS i arg2 harg2 arg3 harg3 arg4 harg4 arg6 harg6 arg7 harg7 arg8 harg8 arg9 harg9 arg12 harg12 X2 G X3 X4 X12 c X8) ∗ memP c arg9 G ∗ (∃ X12', memP c arg12 X12') ∗ R' G)) := by
  rw [(contS (F := F) i arg2 harg2 arg3 harg3 arg4 harg4 arg6 harg6 arg7 harg7 arg8 harg8 arg9 harg9 arg12 harg12).2, wp_bind]
  iintro ⟨HR, H3, H4, H7, H8, H11⟩
  iapply (wp_wand_r Idealize.ShloMosaic.frame (wpE (defs₀ (F := F)) Variants.none (c : Thread nD τ) none) Set.univ)
  isplitl [HR]
  · iapply h; iexact HR
  iintro %v ⟨%G, H2, H9, %hv, HR⟩
  subst hv
  iapply (wp_wand_r Idealize.ShloMosaic.frame (wpE (defs₀ (F := F)) Variants.none (c : Thread nD τ) none) Set.univ)
  isplitl [H2 H3 H4 H7 H8 H9 H11]
  · iapply ((tail (F := F) i arg2 harg2 arg3 harg3 arg4 harg4 arg6 harg6 arg7 harg7 arg8 harg8 arg9 harg9 arg12 harg12 X2 G X3 X4 X12 c).2 X7 X8)
    isplitl [H2]; · iexact H2
    isplitl [H3]; · iexact H3
    isplitl [H4]; · iexact H4
    isplitl [H7]; · iexact H7
    isplitl [H8]; · iexact H8
    isplitl [H9]; · iexact H9
    iexact H11
  iintro %_ ⟨H2, H3, H4, H7, H8, H9, H11⟩
  iexists G
  isplitl [H2]; · iexact H2
  isplitl [H3]; · iexact H3
  isplitl [H4]; · iexact H4
  isplitl [H7]; · iexact H7
  isplitl [H8]; · iexact H8
  isplitl [H9]; · iexact H9
  isplitl [H11]; · iexact H11
  iexact HR

end Cert.KernelVIdeal.Hand

end
-- ==== Proof.KernelVIdealPoint.lean ====
/-
  The body of `KernelVIdeal` at a grid point: the stream's state before and after it, what its first part leaves in the decoded
  tile, and the whole body.
-/
module

public import proofs.«01_k».proof.Proof.KernelVIdealTail

@[expose] public section

set_option maxRecDepth 16384
set_option maxHeartbeats 4000000

noncomputable section

namespace Cert.KernelVIdeal.Hand

open Cert.KernelVIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The stream between points -/

/-- How many tiles have been waited for before point `k`. -/
abbrev tiles (k : ℕ) : ℕ := (k + 23) / 24
/-- The stream before point `k`: the next tile's transfers issued, from the first tile waited for to the last; free otherwise. -/
def streamAt (c : Dev nD) (W0 : HbBuf0 (F := F) c hbM0_0) (n : ℕ) : sProp 𝕄 :=
  if h : 0 < n ∧ n < 2 then busy c W0 ⟨n, h.2⟩ else iprop(∃ X, freeX c W0 X)
theorem streamAt_busy (c : Dev nD) (W0 : HbBuf0 (F := F) c hbM0_0) {n : ℕ} (h0 : 0 < n) (h1 : n < 2) : streamAt c W0 n = busy c W0 ⟨n, h1⟩ := dif_pos ⟨h0, h1⟩
theorem streamAt_free (c : Dev nD) (W0 : HbBuf0 (F := F) c hbM0_0) {n : ℕ} (h : n = 0 ∨ n = 2) : streamAt c W0 n = iprop(∃ X, freeX c W0 X) := dif_neg (by omega)

/-- The tile of a point. -/
abbrev tileOf (t : Fin cfg0.N) : Fin 2 := ⟨t.val / 24, by have := lt_of_lt_of_eq t.isLt (show cfg0.N = 48 from N_0); omega⟩

theorem off112_tile (t : Fin cfg0.N) (b : ℕ) (h : b = t.val / 24 + 1) : k0_off112 (grid0.coords t) = offB b 0 0 := by
  rw [k0_off112_eq, coord0, h]; unfold offB; rw [Nat.mul_add]
theorem off113_tile (t : Fin cfg0.N) (b : ℕ) (h : b = t.val / 24 + 1) : k0_off113 (grid0.coords t) = offB b 0 128 := by
  rw [k0_off113_eq, coord0, h]; unfold offB; rw [Nat.mul_add]
theorem off114_tile (t : Fin cfg0.N) (b : ℕ) (h : b = t.val / 24 + 1) : k0_off114 (grid0.coords t) = offB b 0 256 := by
  rw [k0_off114_eq, coord0, h]; unfold offB; rw [Nat.mul_add]
theorem off115_tile (t : Fin cfg0.N) (b : ℕ) (h : b = t.val / 24 + 1) : k0_off115 (grid0.coords t) = offB b 8 0 := by
  rw [k0_off115_eq, coord0, h]; unfold offB; rw [Nat.mul_add]
theorem off116_tile (t : Fin cfg0.N) (b : ℕ) (h : b = t.val / 24 + 1) : k0_off116 (grid0.coords t) = offB b 8 128 := by
  rw [k0_off116_eq, coord0, h]; unfold offB; rw [Nat.mul_add]
theorem off117_tile (t : Fin cfg0.N) (b : ℕ) (h : b = t.val / 24 + 1) : k0_off117 (grid0.coords t) = offB b 8 256 := by
  rw [k0_off117_eq, coord0, h]; unfold offB; rw [Nat.mul_add]

/-- The transfers issued at a point before the last row are the next tile's. -/
theorem busy_next (c : Dev nD) (t : Fin cfg0.N) (W0 : HbBuf0 (F := F) c hbM0_0) (hc1 : cond0_1 (grid0.coords t)) (hc2 : cond0_2 (grid0.coords t)) (h : t.val / 24 + 1 < 2) :
    busyO c W0 (k0_off112 (grid0.coords t)) (k0_off113 (grid0.coords t)) (k0_off114 (grid0.coords t)) (k0_off115 (grid0.coords t)) (k0_off116 (grid0.coords t)) (k0_off117 (grid0.coords t)) (k0_off112_inb (grid0.coords t) hc1 hc2) (k0_off113_inb (grid0.coords t) hc1 hc2) (k0_off114_inb (grid0.coords t) hc1 hc2) (k0_off115_inb (grid0.coords t) hc1 hc2) (k0_off116_inb (grid0.coords t) hc1 hc2) (k0_off117_inb (grid0.coords t) hc1 hc2)
      = busy c W0 ⟨t.val / 24 + 1, h⟩ :=
  busyO_eq c W0 ⟨t.val / 24 + 1, h⟩ _ _ _ _ _ _ _ _ _ _ _ _ (off112_tile t _ rfl) (off113_tile t _ rfl) (off114_tile t _ rfl) (off115_tile t _ rfl) (off116_tile t _ rfl) (off117_tile t _ rfl)

section PointI
variable (c : Dev nD) (i : grid0.Coords) (W0 : HbBuf0 (F := F) c hbM0_0)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole)
  (arg6 : Memref sig .tc .vmem S1024x384 .bf16) (harg6 : arg6.IsWhole) (arg7 : Memref sig .tc .vmem S256x8x128 .fp8e4m3) (harg7 : arg7.IsWhole) (arg8 : Memref sig .tc .vmem S1x8x256 .f32) (harg8 : arg8.IsWhole)
  (arg9 : Memref sig .tc .vmem S48x512x2x256 .bf16) (harg9 : arg9.IsWhole)
  (arg12 : Memref sig .tc .vmem S256x8x128 .fp8e4m3) (harg12 : arg12.IsWhole)
  (X2 : BufTy.Contents (Elt F) arg2.view.ty) (X6 : BufTy.Contents (Elt F) arg6.view.ty) (G9 : BufTy.Contents (Elt F) arg9.view.ty)
  (X3 : BufTy.Contents (Elt F) arg3.view.ty) (X4 : BufTy.Contents (Elt F) arg4.view.ty) (X12 : BufTy.Contents (Elt F) arg12.view.ty)

/-- Case D from tile `b`'s transfers. -/
theorem first_Dt (W : Waits sig Unit) (hc0 : ¬cond0_0 i) (hc1 : cond0_1 i) (hc2 : ¬cond0_2 i) (b : Fin 2) :
    iprop(memP c arg2 X2 ∗ memP c arg6 X6 ∗ memP c arg9 G9 ∗ busy c W0 b ∗ owes (c : Thread nD τ) 0 W)
    ⊢ wp frame (wpE (defs₀ (F := F)) Variants.none c none) Set.univ (firstPart (F := F) i arg2 harg2 arg3 harg3 arg4 harg4 arg6 harg6 arg7 harg7 arg8 harg8 arg9 harg9 arg12 harg12)
      (fun v => iprop(∃ X10, ⌜HoldsB c W0 b X10⌝ ∗ memP c arg2 X2 ∗ memP c arg6 X6 ∗ memP c arg9 (decoded (F := F) c i arg2 harg2 arg3 harg3 arg4 harg4 arg6 harg6 arg7 harg7 arg8 harg8 arg9 harg9 arg12 harg12 X6 G9 hc1 X10)
        ∗ freeX c W0 X10 ∗ ⌜v = firstV arg2 arg9 X2 (decoded (F := F) c i arg2 harg2 arg3 harg3 arg4 harg4 arg6 harg6 arg7 harg7 arg8 harg8 arg9 harg9 arg12 harg12 X6 G9 hc1 X10)⌝ ∗ ∃ W', owes (c : Thread nD τ) 0 W')) := by
  unfold busy HoldsB
  exact first_D c i W0 arg2 harg2 arg3 harg3 arg4 harg4 arg6 harg6 arg7 harg7 arg8 harg8 arg9 harg9 arg12 harg12 X2 X6 G9 W hc0 hc1 hc2 (offB b.val 0 0) (offB b.val 0 128) (offB b.val 0 256) (offB b.val 8 0) (offB b.val 8 128) (offB b.val 8 256) (fits_offB b (by decide) (by decide)) (fits_offB b (by decide) (by decide)) (fits_offB b (by decide) (by decide)) (fits_offB b (by decide) (by decide)) (fits_offB b (by decide) (by decide)) (fits_offB b (by decide) (by decide))
end PointI

section Point
variable (c : Dev nD) (t : Fin cfg0.N) (W0 : HbBuf0 (F := F) c hbM0_0)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole)
  (arg6 : Memref sig .tc .vmem S1024x384 .bf16) (harg6 : arg6.IsWhole) (arg7 : Memref sig .tc .vmem S256x8x128 .fp8e4m3) (harg7 : arg7.IsWhole) (arg8 : Memref sig .tc .vmem S1x8x256 .f32) (harg8 : arg8.IsWhole)
  (arg9 : Memref sig .tc .vmem S48x512x2x256 .bf16) (harg9 : arg9.IsWhole)
  (arg12 : Memref sig .tc .vmem S256x8x128 .fp8e4m3) (harg12 : arg12.IsWhole)
  (X2 : BufTy.Contents (Elt F) arg2.view.ty) (X6 : BufTy.Contents (Elt F) arg6.view.ty) (G9 : BufTy.Contents (Elt F) arg9.view.ty)
  (X3 : BufTy.Contents (Elt F) arg3.view.ty) (X4 : BufTy.Contents (Elt F) arg4.view.ty) (X12 : BufTy.Contents (Elt F) arg12.view.ty)

/-- What a point's first part leaves in the decoded tile: at the first token block of a tile, that tile decoded; at the
    others, what it held. -/
def Step (t : Fin cfg0.N) (G : BufTy.Contents (Elt F) arg9.view.ty) : Prop :=
  if t.val % 24 = 0 then ∃ (hc1 : k0_cond2 (grid0.coords t) = 1#1) (X10 : _), HoldsB c W0 (tileOf t) X10 ∧ G = decoded (F := F) c (grid0.coords t) arg2 harg2 arg3 harg3 arg4 harg4 arg6 harg6 arg7 harg7 arg8 harg8 arg9 harg9 arg12 harg12 X6 G9 hc1 X10
  else G = G9

/-- The first part at any point. -/
theorem first_all (W : Waits sig Unit) :
    iprop(memP c arg2 X2 ∗ memP c arg6 X6 ∗ memP c arg9 G9 ∗ streamAt c W0 (tiles t.val) ∗ owes (c : Thread nD τ) 0 W)
    ⊢ wp frame (wpE (defs₀ (F := F)) Variants.none c none) Set.univ (firstPart (F := F) (grid0.coords t) arg2 harg2 arg3 harg3 arg4 harg4 arg6 harg6 arg7 harg7 arg8 harg8 arg9 harg9 arg12 harg12)
      (fun v => iprop(∃ G, memP c arg2 X2 ∗ memP c arg9 G ∗ ⌜v = firstV arg2 arg9 X2 G⌝
        ∗ iprop(memP c arg6 X6 ∗ ⌜Step (F := F) c W0 arg2 harg2 arg3 harg3 arg4 harg4 arg6 harg6 arg7 harg7 arg8 harg8 arg9 harg9 arg12 harg12 X6 G9 t G⌝ ∗ streamAt c W0 (tiles (t.val + 1)) ∗ ∃ W', owes (c : Thread nD τ) 0 W'))) := by
  have hN : t.val < 48 := lt_of_lt_of_eq t.isLt (show cfg0.N = 48 from N_0)
  by_cases h1 : t.val % 24 = 0
  · have hc1 := (hcond0_1 t).mpr h1
    by_cases h0 : t.val = 0
    · have hc0 := (hcond0_0 t).mpr h0
      have hc2 := (hcond0_2 t).mpr (by omega)
      rw [streamAt_free c W0 (n := tiles t.val) (by simp only [tiles]; omega), streamAt_busy c W0 (n := tiles (t.val + 1)) (by simp only [tiles]; omega) (by simp only [tiles]; omega)]
      iintro ⟨H2, H6, H8, ⟨%X, HS⟩, HW⟩
      iapply (wp_wand_r Idealize.ShloMosaic.frame (wpE (defs₀ (F := F)) Variants.none (c : Thread nD τ) none) Set.univ)
      isplitl [H2 H6 H8 HS HW]
      · iapply (first_A c (grid0.coords t) W0 arg2 harg2 arg3 harg3 arg4 harg4 arg6 harg6 arg7 harg7 arg8 harg8 arg9 harg9 arg12 harg12 X2 X6 G9 W hc0 hc1 hc2 X)
        isplitl [H2]; · iexact H2
        isplitl [H6]; · iexact H6
        isplitl [H8]; · iexact H8
        isplitl [HS]; · iexact HS
        iexact HW
      iintro %v ⟨%X10, %hX, H2, H6, H8, HS, %hv, HW⟩
      iexists _
      isplitl [H2]; · iexact H2
      isplitl [H8]; · iexact H8
      isplitr; · ipureintro; exact hv
      isplitl [H6]; · iexact H6
      isplitr
      · ipureintro; unfold Step; rw [if_pos h1]
        have eb : (tileOf t).val = 0 := by show t.val / 24 = 0; omega
        exact ⟨hc1, X10, holdsO_eq c W0 (tileOf t) _ _ _ _ _ _ _ _ _ _ _ _ (by rw [eb]) (by rw [eb]) (by rw [eb]) (by rw [eb]) (by rw [eb]) (by rw [eb]) X10 hX, rfl⟩
      isplitl [HS]
      · have e : (⟨tiles (t.val + 1), by simp only [tiles]; omega⟩ : Fin 2) = ⟨t.val / 24 + 1, by omega⟩ := Fin.ext (by simp only [tiles]; omega)
        rw [e]
        have hb : t.val / 24 + 1 < 2 := by omega
        iapply (Entails.of_eq (busy_next c t W0 hc1 hc2 hb)) $$ HS
      iexact HW
    · have hc0 : ¬cond0_0 (grid0.coords t) := fun h => h0 ((hcond0_0 t).mp h)
      by_cases h2 : t.val < 24
      · exact absurd h2 (by omega)
      · have hc2 : ¬cond0_2 (grid0.coords t) := fun h => h2 ((hcond0_2 t).mp h)
        rw [streamAt_busy c W0 (n := tiles t.val) (by simp only [tiles]; omega) (by simp only [tiles]; omega), streamAt_free c W0 (n := tiles (t.val + 1)) (by simp only [tiles]; omega)]
        have e0 : (⟨tiles t.val, by simp only [tiles]; omega⟩ : Fin 2) = tileOf t := Fin.ext (by simp only [tiles]; omega)
        rw [e0]
        iintro ⟨H2, H6, H8, HS, HW⟩
        iapply (wp_wand_r Idealize.ShloMosaic.frame (wpE (defs₀ (F := F)) Variants.none (c : Thread nD τ) none) Set.univ)
        isplitl [H2 H6 H8 HS HW]
        · iapply (first_Dt c (grid0.coords t) W0 arg2 harg2 arg3 harg3 arg4 harg4 arg6 harg6 arg7 harg7 arg8 harg8 arg9 harg9 arg12 harg12 X2 X6 G9 W hc0 hc1 hc2 (tileOf t))
          isplitl [H2]; · iexact H2
          isplitl [H6]; · iexact H6
          isplitl [H8]; · iexact H8
          isplitl [HS]; · iexact HS
          iexact HW
        iintro %v ⟨%X10, %hX, H2, H6, H8, HS, %hv, HW⟩
        iexists _
        isplitl [H2]; · iexact H2
        isplitl [H8]; · iexact H8
        isplitr; · ipureintro; exact hv
        isplitl [H6]; · iexact H6
        isplitr
        · ipureintro; unfold Step; rw [if_pos h1]
          exact ⟨hc1, X10, hX, rfl⟩
        isplitl [HS]
        · iexists X10; iexact HS
        iexact HW
  · have hc0 : ¬cond0_0 (grid0.coords t) := fun h => h1 (by rw [(hcond0_0 t).mp h])
    have hc1 : ¬cond0_1 (grid0.coords t) := fun h => h1 ((hcond0_1 t).mp h)
    have e : tiles (t.val + 1) = tiles t.val := by simp only [tiles]; omega
    rw [e]
    iintro ⟨H2, H6, H8, HS, HW⟩
    iapply (wp_wand_r Idealize.ShloMosaic.frame (wpE (defs₀ (F := F)) Variants.none (c : Thread nD τ) none) Set.univ)
    isplitl [H2 H8 HW]
    · iapply (first_B c (grid0.coords t) arg2 harg2 arg3 harg3 arg4 harg4 arg6 harg6 arg7 harg7 arg8 harg8 arg9 harg9 arg12 harg12 X2 G9 W hc0 hc1)
      isplitl [H2]; · iexact H2
      isplitl [H8]; · iexact H8
      iexact HW
    iintro %v ⟨H2, H8, %hv, HW⟩
    iexists _
    isplitl [H2]; · iexact H2
    isplitl [H8]; · iexact H8
    isplitr; · ipureintro; exact hv
    isplitl [H6]; · iexact H6
    isplitr; · ipureintro; unfold Step; rw [if_neg h1]
    isplitl [HS]; · iexact HS
    iexact HW

/-- The whole body at any point. -/
theorem body_all (W : Waits sig Unit) (X7 : BufTy.Contents (Elt F) arg7.view.ty) (X8 : BufTy.Contents (Elt F) arg8.view.ty) :
    iprop(iprop(memP c arg2 X2 ∗ memP c arg6 X6 ∗ memP c arg9 G9 ∗ streamAt c W0 (tiles t.val) ∗ owes (c : Thread nD τ) 0 W)
      ∗ memP c arg3 X3 ∗ memP c arg4 X4 ∗ memP c arg7 X7 ∗ memP c arg8 X8 ∗ memP c arg12 X12)
    ⊢ wp frame (wpE (defs₀ (F := F)) Variants.none c none) Set.univ (bodyP (F := F) (grid0.coords t) arg2 harg2 arg3 harg3 arg4 harg4 arg6 harg6 arg7 harg7 arg8 harg8 arg9 harg9 arg12 harg12)
      (fun _ => iprop(∃ G, memP c arg2 X2 ∗ memP c arg3 X3 ∗ memP c arg4 X4 ∗ memP c arg7 (outP (grid0.coords t) arg2 harg2 arg3 harg3 arg4 harg4 arg6 harg6 arg7 harg7 arg8 harg8 arg9 harg9 arg12 harg12 X2 G X3 X4 X12 c X7) ∗ memP c arg8 (outS (grid0.coords t) arg2 harg2 arg3 harg3 arg4 harg4 arg6 harg6 arg7 harg7 arg8 harg8 arg9 harg9 arg12 harg12 X2 G X3 X4 X12 c X8) ∗ memP c arg9 G ∗ (∃ X12', memP c arg12 X12')
        ∗ iprop(memP c arg6 X6 ∗ ⌜Step (F := F) c W0 arg2 harg2 arg3 harg3 arg4 harg4 arg6 harg6 arg7 harg7 arg8 harg8 arg9 harg9 arg12 harg12 X6 G9 t G⌝ ∗ streamAt c W0 (tiles (t.val + 1)) ∗ ∃ W', owes (c : Thread nD τ) 0 W'))) :=
  body_of_first (grid0.coords t) arg2 harg2 arg3 harg3 arg4 harg4 arg6 harg6 arg7 harg7 arg8 harg8 arg9 harg9 arg12 harg12 X2 X3 X4 X12 c _ _ X7 X8 (first_all c t W0 arg2 harg2 arg3 harg3 arg4 harg4 arg6 harg6 arg7 harg7 arg8 harg8 arg9 harg9 arg12 harg12 X2 X6 G9 W)

end Point

/-! ## Memrefs owned, as the body reads them -/

/-- A whole memref owned at `d` is its buffer held at the contents read as `d`, -/
theorem mem_of_owns (c : Dev nD) {sp : Space} {S : Shape} {e : EltTy} (M : Memref sig .tc sp S e) (hM : M.IsWhole) (d : S.Idx → Elt F e) :
    owns (c : Thread nD τ) M fullShare d ⊢ (memP c M (hM.unread d) : sProp 𝕄) := by
  unfold owns
  iintro ⟨%f, %hf, H⟩
  obtain rfl := hM.eq_unread hf
  iexact H
/-- and the other way, at what the contents are read as. -/
theorem owns_of_mem (c : Dev nD) {sp : Space} {S : Shape} {e : EltTy} (M : Memref sig .tc sp S e) (f : BufTy.Contents (Elt F) M.view.ty) (d : S.Idx → Elt F e)
    (h : M.view.read (Elt F) f = d) : (memP c M f : sProp 𝕄) ⊢ owns (c : Thread nD τ) M fullShare d := by
  unfold owns
  iintro H
  iexists f; isplitr; · ipureintro; exact h
  iexact H

end Cert.KernelVIdeal.Hand

end
-- ==== Proof.KernelVIdealFrame.lean ====
/-
  The frame of `KernelVIdeal`: the proof data of its one pipeline, the body obligation at every point, the run, and what it says of
  the argument arrays and of the semaphore counters. What the kernel leaves in its results is not named here.
-/
module

public import proofs.«01_k».proof.Proof.KernelVIdealPoint
public import Idealize.ShloMosaic.Lib.Claim

@[expose] public section

set_option maxRecDepth 16384

noncomputable section

namespace Cert.KernelVIdeal.Hand

open Cert.KernelVIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The pipeline's proof data -/

/-- The invariant before point `k`: the decoded tile and the output staging at anything, the generator register at some
    state, and the stream of packed tiles. -/
def PhiR (c : Dev nD) (k : ℕ) : sProp 𝕄 := iprop((∃ d, owns (c : Thread nD τ) scM0_0 fullShare d) ∗ (∃ d, owns (c : Thread nD τ) scM0_2 fullShare d) ∗ (∃ r, prngReg c r) ∗ streamAt c (V m c main_v0) (tiles k))

/-- The stream free, from what the launch hands over, -/
theorem free_in (c : Dev nD) (W0 : HbBuf0 (F := F) c hbM0_0) (X) :
    iprop(owns (c : Thread nD τ) scM0_1 fullShare X ∗ semVal ((c : Thread nD τ), SemLoc.dma 12) 0 ∗ hbPt0 c hbM0_0 W0) ⊢ (∃ X, freeX c W0 X : sProp 𝕄) := by
  rw [owns_whole]
  iintro ⟨H1, Hq, Hh⟩
  iexists X
  unfold freeX cellP
  rw [tileP_eq, cellR_eq]
  isplitl [Hq]; · iexact Hq
  isplitl [H1]; · iexact H1
  iexact Hh
/-- and handed back. -/
theorem free_out (c : Dev nD) (W0 : HbBuf0 (F := F) c hbM0_0) (X) :
    freeX c W0 X ⊢ (iprop((∃ d, owns (c : Thread nD τ) scM0_1 fullShare d) ∗ semVal ((c : Thread nD τ), SemLoc.dma 12) 0 ∗ hbPt0 c hbM0_0 W0) : sProp 𝕄) := by
  unfold freeX cellP
  rw [tileP_eq, cellR_eq]
  simp only [owns_whole]
  iintro ⟨Hq, H1, Hh⟩
  isplitl [H1]; · iexists X; iexact H1
  isplitl [Hq]; · iexact Hq
  iexact Hh

/-- The results' windows, of which nothing is named. -/
def forgets0 : Fin 6 → Bool := fun w => w.val == 4 || w.val == 5

/-- The proof data: each input's buffer at its block, the results unnamed, nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ t := PhiR m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d))

set_option maxHeartbeats 1600000 in
/-- The body at any point: `body_all` between the blocks the windows hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [after0_0, after0_1, after0_2, after0_3]
  rw [PhiR_castSucc m c t, PhiR_succ m c t]
  unfold Dat.owesAt Pipeline.owesWithin
  rw [show (dats m 0 c).owed t.castSucc = 0 from rfl, show (dats m 0 c).owed t.succ = 0 from rfl]
  unfold PhiR
  iintro ⟨⟨⟨%e8, H8⟩, ⟨%e11, H11⟩, Hg, Hst⟩, ⟨%W, -, HW⟩, ⟨%d0, H0⟩, ⟨%d1, H1⟩, ⟨%d2, H2⟩, ⟨%d3, H3⟩, ⟨%d4, H4⟩, ⟨%d5, H5⟩⟩
  ihave K0 := (mem_of_owns c (ms0_0 t) (hs0_0 t) (iblk m c 0 t)) $$ H0
  ihave K1 := (mem_of_owns c (ms0_1 t) (hs0_1 t) (iblk m c 1 t)) $$ H1
  ihave K2 := (mem_of_owns c (ms0_2 t) (hs0_2 t) (iblk m c 2 t)) $$ H2
  ihave K3 := (mem_of_owns c (ms0_3 t) (hs0_3 t) (iblk m c 3 t)) $$ H3
  ihave K4 := (mem_of_owns c (ms0_4 t) (hs0_4 t) d4) $$ H4
  ihave K5 := (mem_of_owns c (ms0_5 t) (hs0_5 t) d5) $$ H5
  ihave K8 := (mem_of_owns c scM0_0 (Memref.isWhole_whole _) e8) $$ H8
  ihave K11 := (mem_of_owns c scM0_2 (Memref.isWhole_whole _) e11) $$ H11
  iapply (wp_wand_r Idealize.ShloMosaic.frame (wpE (defs₀ (F := F)) Variants.none (c : Thread nD τ) none) Set.univ)
  isplitl [K0 K1 K2 K3 K4 K5 K8 K11 Hst HW]
  · iapply (body_all c t (V m c main_v0) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_2 (Memref.isWhole_whole _)
      ((hs0_0 t).unread (iblk m c 0 t)) ((hs0_3 t).unread (iblk m c 3 t)) ((Memref.isWhole_whole _).unread e8) ((hs0_1 t).unread (iblk m c 1 t)) ((hs0_2 t).unread (iblk m c 2 t)) ((Memref.isWhole_whole _).unread e11) W ((hs0_4 t).unread d4) ((hs0_5 t).unread d5))
    isplitl [K0 K3 K8 Hst HW]
    · isplitl [K0]; · iexact K0
      isplitl [K3]; · iexact K3
      isplitl [K8]; · iexact K8
      isplitl [Hst]; · iexact Hst
      iexact HW
    isplitl [K1]; · iexact K1
    isplitl [K2]; · iexact K2
    isplitl [K4]; · iexact K4
    isplitl [K5]; · iexact K5
    iexact K11
  iintro %_ ⟨%G, K0, K1, K2, K4, K5, K8, ⟨%X12, K11⟩, K3, %hG, Hst, ⟨%W', HW'⟩⟩
  isplitl [K8 K11 Hg Hst]
  · isplitl [K8]; · iexists _; iapply (owns_of_mem c scM0_0 G _ rfl); iexact K8
    isplitl [K11]; · iexists _; iapply (owns_of_mem c scM0_2 X12 _ rfl); iexact K11
    isplitl [Hg]; · iexact Hg
    iexact Hst
  isplitl [HW']
  · iexists W'; isplitr; · ipureintro; exact fun _ _ => Or.inl trivial
    iexact HW'
  isplitl [K0]; · iapply (owns_of_mem c (ms0_0 t) _ _ ((hs0_0 t).read_unread _)); iexact K0
  isplitl [K1]; · iapply (owns_of_mem c (ms0_1 t) _ _ ((hs0_1 t).read_unread _)); iexact K1
  isplitl [K2]; · iapply (owns_of_mem c (ms0_2 t) _ _ ((hs0_2 t).read_unread _)); iexact K2
  isplitl [K3]; · iapply (owns_of_mem c (ms0_3 t) _ _ ((hs0_3 t).read_unread _)); iexact K3
  isplitl [K4]; · iexists _; iapply (owns_of_mem c (ms0_4 t) _ _ rfl); iexact K4
  iexists _; iapply (owns_of_mem c (ms0_5 t) _ _ rfl); iexact K5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant before the first point, and the invariant after the last point hands
    it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  rw [streamAt_free c (V m c main_v0) (n := tiles 0) (Or.inl rfl)]
  iintro ⟨⟨HS0, ⟨%X, HS1⟩, HS2⟩, Hg, Hq, Hh⟩
  isplitl [HS0]; · iexact HS0
  isplitl [HS2]; · iexact HS2
  isplitl [Hg]; · iexact Hg
  iapply (free_in c (V m c main_v0) X)
  isplitl [HS1]; · iexact HS1
  isplitl [Hq]; · iexact Hq
  iexact Hh
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [streamAt_free c (V m c main_v0) (n := tiles grid0.N) (Or.inr (by rw [N_0]))]
  iintro ⟨HS0, HS2, Hg, ⟨%X, HX⟩⟩
  ihave HX' := (free_out c (V m c main_v0) X) $$ HX
  icases HX' with ⟨HS1, Hq, Hh⟩
  isplitl [HS0 HS1 HS2]
  · isplitl [HS0]; · iexact HS0
    isplitl [HS1]; · iexact HS1
    iexact HS2
  isplitl [Hg]; · iexact Hg
  isplitl [Hq]; · iexact Hq
  iexact Hh

/-! ## The run and the frame -/

set_option backward.isDefEq.respectTransparency.types false in
/-- The run, with every semaphore counter at zero at its end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every input array unchanged, every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays, from a run whose arrays are the region-entry contents. -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 3 rfl).trans ((hA c 3).trans (V_main_arg4 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelVIdeal.Hand

end
-- ==== Proof.KernelVIdealDecode.lean ====
/-
  What one trip of `KernelVIdeal`'s decoding loop writes, element by element: a nibble of a packed byte less eight, times its
  scale.
-/
module

public import proofs.«01_k».proof.Proof.KernelVIdealLoop
public import proofs.«01_k».proof.Proof.Nibbles
public import Idealize.ShloMosaic.Lib.Pointwise
public import Idealize.ShloMosaic.Lib.BitcastFour
public import Idealize.ShloMosaic.Lib.BitcastPair

@[expose] public section

set_option maxRecDepth 65536

noncomputable section

namespace Cert.KernelVIdeal.Hand

open Cert.KernelVIdeal.Gen Cert.KernelVIdeal.Facts Cert.KernelVIdeal
open Idealize.ShloMosaic Idealize.ShloMosaic.TcCoe Idealize.ShloMosaic.Pointwise

variable {F : FTy → Type} [FloatOps F]

/-- Word row `o` of each group of four, of the packed rows read as words. -/
def wordRow (o : ℕ) (h : S8x4x128.Slices ![0, o, 0] S8x1x128) (b9 : Vec F S1x1x16x8x128 .i8) : IVec S8x128 32 :=
  shapeCast S8x128 (extractStridedSlice S8x1x128 ![0, o, 0]
    (shapeCast S8x4x128 (bitcast S32x128 32 (shapeCast S128x128 (shapeCast S16x8x128 b9 shapeCasts_S1x1x16x8x128_S16x8x128) shapeCasts_S16x8x128_S128x128) bitcasts_S128x128_w8_S32x128_w32) shapeCasts_S32x128_S8x4x128) h) shapeCasts_S8x1x128_S8x128

/-- The words' low halves joined. -/
def lowWord (a b : IVec S8x128 32) : IVec S8x128 32 := ori (andi a (broadcast S8x128 65535#32)) (shli b (broadcast S8x128 16#32))
/-- The words' high halves joined. -/
def highWord (a b : IVec S8x128 32) : IVec S8x128 32 := ori (shrui a (broadcast S8x128 16#32)) (andi b (broadcast S8x128 4294901760#32))

/-- The decoded elements of one shift of the joined words. -/
def decodePay (s6 : Vec F S16x128 .bf16) (v : IVec S8x128 32) (sh : BitVec 32) : Vec F S1x8x2x128 .bf16 :=
  have z : FVec F S16x128 .bf16 := mulf (subf (bitcastToFloat .bf16 (bitcast S16x128 16 (ori (andi (shrui v (broadcast S8x128 sh)) (broadcast S8x128 983055#32)) (broadcast S8x128 1124090624#32)) bitcasts_S8x128_w32_S16x128_w16)) (broadcast S16x128 (Scalar.ofBits .bf16 0x4308#16))) s6
  interleaveRows S1x8x2x128 (shapeCast S1x8x1x128 (shapeCast S1x8x128 (rowsOfParity 0 S8x128 z bitcasts_S16x128_w16_S8x128_w32) shapeCasts_S8x128_S1x8x128) shapeCasts_S1x8x128_S1x8x1x128) (shapeCast S1x8x1x128 (shapeCast S1x8x128 (rowsOfParity 1 S8x128 z bitcasts_S16x128_w16_S8x128_w32) shapeCasts_S8x128_S1x8x128) shapeCasts_S1x8x128_S1x8x1x128) bitcasts_S1x8x2x128_w16_S1x8x1x128_w32

theorem decodePay_apply (s6 : Vec Ideal S16x128 .bf16) (v : IVec S8x128 32) (sh : BitVec 32) (r : Fin 8) (par : Fin 2) (l : Fin 128)
    (n : BitVec 4) (hn : ((((IntOp.shrui .vector (v (ix2 r l)) sh) &&& 983055#32) ||| 1124090624#32).extractLsb' (16 * par.val) 16) = 0x430#12 ++ n) :
    decodePay s6 v sh (ix4 0 r par l) = ((n.toNat - 8 : ℝ) : EReal) * s6 (ix2 ⟨2 * r.val + par.val, by omega⟩ l) := by
  have key : ∀ (h : 2 * r.val + par.val < 16),
      (Ideal.ofBits FTy.bf16 (bitcast S16x128 16 (ori (andi (shrui v (broadcast S8x128 sh)) (broadcast S8x128 983055#32)) (broadcast S8x128 1124090624#32)) bitcasts_S8x128_w32_S16x128_w16 (ix2 ⟨2 * r.val + par.val, h⟩ l)) - Ideal.ofBits FTy.bf16 17160#16 : EReal)
        = ((n.toNat - 8 : ℝ) : EReal) := by
    intro h
    have e : bitcast S16x128 16 (ori (andi (shrui v (broadcast S8x128 sh)) (broadcast S8x128 983055#32)) (broadcast S8x128 1124090624#32)) bitcasts_S8x128_w32_S16x128_w16 (ix2 ⟨2 * r.val + par.val, h⟩ l) = 0x430#12 ++ n := by
      rw [← hn, bitcast_32_16]
      have hm : S16x128.row (ix2 ⟨2 * r.val + par.val, h⟩ l) % 2 = par.val := by
        show (2 * r.val + par.val) % 2 = par.val; omega
      have ei : ∀ hh, (bitcasts_S8x128_w32_S16x128_w16).srcIdx (ix2 ⟨2 * r.val + par.val, h⟩ l) (S16x128.row (ix2 ⟨2 * r.val + par.val, h⟩ l) / 2) hh = ix2 r l := by
        intro hh
        funext c
        match c with
        | ⟨0, _⟩ => exact Fin.ext (((bitcasts_S8x128_w32_S16x128_w16).srcIdx_row _ _ _ ⟨0, Nat.zero_lt_two⟩ rfl).trans (by show (2 * r.val + par.val) / 2 = r.val; omega))
        | ⟨1, _⟩ => exact Fin.ext ((bitcasts_S8x128_w32_S16x128_w16).srcIdx_other _ _ _ ⟨1, Nat.one_lt_two⟩ (by show ¬ 1 + 2 = 2; omega))
      rw [ei, hm]
      rfl
    rw [e, bf16_nib, bf16_136, ← EReal.coe_sub]
    congr 1; ring
  unfold decodePay
  pointwise []
  fin_cases par
  · exact congrArg (· * _) (key (by omega))
  · exact congrArg (· * _) (key (by simp; omega))

theorem byte_bit (x : S128x128.Idx → BitVec 8) (h : S128x128.Bitcasts 8 S32x128 32) (a : Fin 32) (l : Fin 128) (q : ℕ) (hq : q < 32)
    (p : Fin 128) (hp : p.val = 4 * a.val + q / 8) :
    (bitcast S32x128 32 x h (ix2 a l)).getLsbD q = (x (ix2 p l)).getLsbD (q % 8) := by
  rw [ix2_eq_valueIdx, ix2_eq_valueIdx]
  exact bitcast_8_32_getLsbD_ix2 x h a l q hq p hp

/-- A nibble of a word row is a nibble of a packed byte. -/
theorem wordRow_nib (o : ℕ) (h) (b9 : Vec F S1x1x16x8x128 .i8) (r : Fin 8) (l : Fin 128) (ho : o < 4) (q : ℕ) (hq : q < 8) :
    (wordRow o h b9 (ix2 r l)).extractLsb' (4 * q) 4
      = (b9 (ix5 0 0 ⟨2 * r.val + o / 2, by omega⟩ ⟨4 * (o % 2) + q / 2, by omega⟩ l) : BitVec 8).extractLsb' (4 * (q % 2)) 4 := by
  unfold wordRow
  pointwise []
  apply BitVec.eq_of_getLsbD_eq; intro i hi
  rw [BitVec.getLsbD_extractLsb', BitVec.getLsbD_extractLsb',
    byte_bit _ _ _ _ (4 * q + i) (by omega) ⟨4 * (r.val * 4 + o) + (4 * q + i) / 8, by omega⟩ rfl]
  have e : (4 * q + i) % 8 = 4 * (q % 2) + i := by omega
  rw [e]
  congr 2
  pointwise []
  congr 2 <;> (apply Fin.ext; dsimp only; omega)

variable (k : Fin k0_t1_loop.trips)
  (arg6 : Memref sig .tc .vmem S1024x384 .bf16) (arg10 : Memref sig .tc .vmem S2x3x1024x8x128 .i8)
  (X6 : BufTy.Contents (Elt Ideal) arg6.view.ty) (X10 : BufTy.Contents (Elt Ideal) arg10.view.ty)

/-- The decoded tile: lane `128 h + l` of chunk `c` and output row `n`, from bits `4 h` to `4 h + 3` of the packed byte of
    group lane `l`, and the scale of the group. -/
def wTile (x9 : S2x3x1024x8x128.Idx → BitVec 8) (x6 : S1024x384.Idx → EReal) : S48x512x2x256.Idx → EReal := fun y =>
  have h0 : (y 0).val < 48 := (y 0).isLt
  have h1 : (y 1).val < 512 := (y 1).isLt
  have h2 : (y 2).val < 2 := (y 2).isLt
  ((((x9 (ix5 ⟨(y 0).val / 24, by omega⟩ ⟨(y 0).val / 4 % 3, by omega⟩ ⟨2 * (y 1).val + (y 2).val, by omega⟩ ⟨4 * ((y 0).val / 12 % 2) + (y 0).val % 4, by omega⟩ ⟨(y 3).val % 128, by omega⟩)).extractLsb' (4 * ((y 3).val / 128)) 4).toNat - 8 : ℝ) : EReal)
    * x6 (ix2 ⟨2 * (y 1).val + (y 2).val, by omega⟩ ⟨((y 0).val / 4 % 3) * 128 + (y 3).val % 128, by omega⟩)

theorem trips_le : k.val < 64 := Nat.lt_of_lt_of_le k.isLt k0_t1_abs.2.1

theorem decode_at (hi : Bool) (o6 : Fin 2 → ℕ) (o8 : Fin 4 → ℕ) (o9 : Fin 5 → ℕ) (h6) (h8) (h9) (c hf : ℕ) (hc : c < 48) (hh : hf < 2)
    (hhi : hi = decide (2 ≤ c % 4))
    (e6 : o6 = ![16 * k.val, (c / 4 % 3) * 128]) (e8 : o8 = ![c, 8 * k.val, 0, 128 * hf]) (e9 : o9 = ![c / 24, c / 4 % 3, 16 * k.val, 0, 0])
    (ha hb) (w : IVec S8x128 32)
    (hw : w = (bif hi then highWord else lowWord)
      (wordRow (F := Ideal) (c / 12 % 2) ha (View.readAt (Elt Ideal) arg10.view (Rect.unit (s := S2x3x1024x8x128) o9 S1x1x16x8x128.size h9).toLoadRect X10))
      (wordRow (F := Ideal) (2 + c / 12 % 2) hb (View.readAt (Elt Ideal) arg10.view (Rect.unit (s := S2x3x1024x8x128) o9 S1x1x16x8x128.size h9).toLoadRect X10)))
    (x : S1x8x2x128.Idx) :
    decodePay (View.readAt (Elt Ideal) arg6.view (Rect.unit (s := S1024x384) o6 S16x128.size h6).toLoadRect X6) w (BitVec.ofNat 32 (4 * (2 * (c % 2) + hf))) x
      = wTile (arg10.view.read (Elt Ideal) X10) (arg6.view.read (Elt Ideal) X6) ((Rect.unit (s := S48x512x2x256) o8 S1x8x2x128.size h8).emb x) := by
  have hk := trips_le k
  subst e6 e8 e9
  obtain ⟨r, par, l, rfl⟩ : ∃ (r : Fin 8) (par : Fin 2) (l : Fin 128), x = ix4 0 r par l :=
    ⟨x 1, x 2, x 3, by funext a; match a with | ⟨0, _⟩ => exact Subsingleton.elim (α := Fin 1) _ _ | ⟨1, _⟩ => rfl | ⟨2, _⟩ => rfl | ⟨3, _⟩ => rfl⟩
  set b9 := View.readAt (Elt Ideal) arg10.view (Rect.unit (s := S2x3x1024x8x128) ![c / 24, c / 4 % 3, 16 * k.val, 0, 0] S1x1x16x8x128.size h9).toLoadRect X10 with hb9
  rw [decodePay_apply _ _ _ r par l (((b9 (ix5 0 0 ⟨2 * r.val + par.val, by omega⟩ ⟨4 * (c / 12 % 2) + c % 4, by omega⟩ l) : BitVec 8)).extractLsb' (4 * hf) 4)]
  · unfold wTile
    have hl : l.val < 128 := l.isLt
    have v0 : (((Rect.unit (s := S48x512x2x256) ![c, 8 * k.val, 0, 128 * hf] S1x8x2x128.size h8).emb (ix4 0 r par l)) 0).val = c := by
      show c + 1 * 0 = c; omega
    have v1 : (((Rect.unit (s := S48x512x2x256) ![c, 8 * k.val, 0, 128 * hf] S1x8x2x128.size h8).emb (ix4 0 r par l)) 1).val = 8 * k.val + r.val := by
      show 8 * k.val + 1 * r.val = _; omega
    have v2 : (((Rect.unit (s := S48x512x2x256) ![c, 8 * k.val, 0, 128 * hf] S1x8x2x128.size h8).emb (ix4 0 r par l)) 2).val = par.val := by
      show 0 + 1 * par.val = _; omega
    have v3 : (((Rect.unit (s := S48x512x2x256) ![c, 8 * k.val, 0, 128 * hf] S1x8x2x128.size h8).emb (ix4 0 r par l)) 3).val = 128 * hf + l.val := by
      show 128 * hf + 1 * l.val = _; omega
    congr 1
    · simp only [v3]
      rw [show (128 * hf + l.val) / 128 = hf by omega]
      congr 5
      rw [hb9, View.readAt_apply]
      congr 1
      funext a
      match a with
      | ⟨0, _⟩ => apply Fin.ext; dsimp only [ix5]; rw [v0]; show c / 24 + 1 * 0 = _; omega
      | ⟨1, _⟩ => apply Fin.ext; dsimp only [ix5]; rw [v0]; show c / 4 % 3 + 1 * 0 = _; omega
      | ⟨2, _⟩ => apply Fin.ext; dsimp only [ix5]; rw [v1, v2]; show 16 * k.val + 1 * (2 * r.val + par.val) = _; omega
      | ⟨3, _⟩ => apply Fin.ext; dsimp only [ix5]; rw [v0]; show 0 + 1 * (4 * (c / 12 % 2) + c % 4) = _; omega
      | ⟨4, _⟩ => apply Fin.ext; dsimp only [ix5]; show 0 + 1 * l.val = (128 * hf + l.val) % 128; omega
    · rw [View.readAt_apply]
      congr 1
      funext a
      match a with
      | ⟨0, _⟩ => apply Fin.ext; dsimp only [ix2]; rw [v1, v2]; show 16 * k.val + 1 * (2 * r.val + par.val) = _; omega
      | ⟨1, _⟩ => apply Fin.ext; dsimp only [ix2]; rw [v0, v3]; show (c / 4 % 3) * 128 + 1 * l.val = _; omega
  · rw [hw, hhi]
    have hq : 2 * (c % 2) + hf < 4 := by omega
    have key (f : ℕ) (hf' : c % 4 = 2 * f + c % 2) (hf1 : f < 2) : (if par = 0 then wordRow (F := Ideal) (c / 12 % 2) ha b9 (ix2 r l) else wordRow (F := Ideal) (2 + c / 12 % 2) hb b9 (ix2 r l)).extractLsb' (4 * (4 * f + (2 * (c % 2) + hf))) 4
        = (b9 (ix5 0 0 ⟨2 * r.val + par.val, by omega⟩ ⟨4 * (c / 12 % 2) + c % 4, by omega⟩ l) : BitVec 8).extractLsb' (4 * hf) 4 := by
      rcases (show par = 0 ∨ par = 1 by omega) with rfl | rfl
      · refine (wordRow_nib _ _ _ _ _ (by omega) _ (by omega)).trans ?_
        have e1 : (4 * f + (2 * (c % 2) + hf)) % 2 = hf := by omega
        rw [e1]
        congr 3
        · apply Fin.ext; show 2 * r.val + c / 12 % 2 / 2 = 2 * r.val + 0; omega
        · apply Fin.ext; show 4 * (c / 12 % 2 % 2) + (4 * f + (2 * (c % 2) + hf)) / 2 = 4 * (c / 12 % 2) + c % 4; omega
      · refine (wordRow_nib _ _ _ _ _ (by omega) _ (by omega)).trans ?_
        have e1 : (4 * f + (2 * (c % 2) + hf)) % 2 = hf := by omega
        rw [e1]
        congr 3
        · apply Fin.ext; show 2 * r.val + (2 + c / 12 % 2) / 2 = 2 * r.val + 1; omega
        · apply Fin.ext; show 4 * ((2 + c / 12 % 2) % 2) + (4 * f + (2 * (c % 2) + hf)) / 2 = 4 * (c / 12 % 2) + c % 4; omega
    have hsh : (BitVec.ofNat 32 (4 * (2 * (c % 2) + hf))).toNat < 32 := by
      rw [BitVec.toNat_ofNat]; omega
    by_cases h2 : 2 ≤ c % 4
    · have := half_high (wordRow (F := Ideal) (c / 12 % 2) ha b9 (ix2 r l)) (wordRow (F := Ideal) (2 + c / 12 % 2) hb b9 (ix2 r l)) ⟨2 * (c % 2) + hf, hq⟩ par
      rw [decide_eq_true h2, ← key 1 (by omega) (by omega)]
      refine Eq.trans ?_ (this.trans ?_)
      · simp only [cond_true, IntOp.shrui, if_pos hsh]; rfl
      · split <;> (congr 2; dsimp only; omega)
    · have := half_low (wordRow (F := Ideal) (c / 12 % 2) ha b9 (ix2 r l)) (wordRow (F := Ideal) (2 + c / 12 % 2) hb b9 (ix2 r l)) ⟨2 * (c % 2) + hf, hq⟩ par
      rw [decide_eq_false h2, ← key 0 (by omega) (by omega)]
      refine Eq.trans ?_ (this.trans ?_)
      · simp only [cond_false, IntOp.shrui, if_pos hsh]; rfl
      · split <;> (congr 2; dsimp only; omega)

variable (c : Dev nD) (i : grid0.Coords)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole) (arg5 : Memref sig .tc .hbm S2048x16x384 .i8) (harg5 : arg5.IsWhole)
  (harg6 : arg6.IsWhole) (arg7 : Memref sig .tc .vmem S256x8x128 .fp8e4m3) (harg7 : arg7.IsWhole) (arg8 : Memref sig .tc .vmem S1x8x256 .f32) (harg8 : arg8.IsWhole)
  (arg9 : Memref sig .tc .vmem S48x512x2x256 .bf16) (harg9 : arg9.IsWhole) (harg10 : arg10.IsWhole)
  (arg11 : DmaSems sig S_) (arg12 : Memref sig .tc .vmem S256x8x128 .fp8e4m3) (harg12 : arg12.IsWhole) (k0_h2 : k0_cond2 i = 1#1)

/-- What is known of a piece of trip `k`: its rectangle and its values. -/
def PieceOk (x9 : S2x3x1024x8x128.Idx → BitVec 8) (x6 : S1024x384.Idx → EReal) (p : View.Piece (Elt Ideal) S48x512x2x256 .bf16) : Prop :=
  (p.1.size = S1x8x2x128.size ∧ p.1.stride = fun _ => 1) ∧ ∀ x, p.2 x = wTile x9 x6 (p.1.emb x)

theorem pieceOk (o8 : Fin 4 → ℕ) (h8) [inst : ClosedOff o8] (o6 : Fin 2 → ℕ) (h6) [inst6 : ClosedOff o6] (o9 : Fin 5 → ℕ) (h9) [inst9 : ClosedOff o9]
    (cc l0 : ℕ) (hc : cc < 48) (hh : l0 / 128 < 2) (hl : 128 * (l0 / 128) = l0) (pay : Vec Ideal S1x8x2x128 .bf16) (ha hb)
    (e8 : inst.form = ![cc, 8 * k.val, 0, l0]) (e6 : inst6.form = ![16 * k.val, (cc / 4 % 3) * 128]) (e9 : inst9.form = ![cc / 24, cc / 4 % 3, 16 * k.val, 0, 0])
    (hp : pay = decodePay (View.readAt (Elt Ideal) arg6.view (Rect.unit (s := S1024x384) o6 S16x128.size h6).toLoadRect X6)
      ((bif decide (2 ≤ cc % 4) then highWord else lowWord)
        (wordRow (F := Ideal) (cc / 12 % 2) ha (View.readAt (Elt Ideal) arg10.view (Rect.unit (s := S2x3x1024x8x128) o9 S1x1x16x8x128.size h9).toLoadRect X10))
        (wordRow (F := Ideal) (2 + cc / 12 % 2) hb (View.readAt (Elt Ideal) arg10.view (Rect.unit (s := S2x3x1024x8x128) o9 S1x1x16x8x128.size h9).toLoadRect X10)))
      (BitVec.ofNat 32 (4 * (2 * (cc % 2) + l0 / 128)))) :
    PieceOk (arg10.view.read (Elt Ideal) X10) (arg6.view.read (Elt Ideal) X6) ⟨Rect.unit (s := S48x512x2x256) o8 S1x8x2x128.size h8, pay⟩ := by
  refine ⟨⟨rfl, rfl⟩, fun x => ?_⟩
  subst hp
  exact decode_at k arg6 arg10 X6 X10 _ o6 o8 o9 h6 h8 h9 cc (l0 / 128) hc hh rfl (inst6.eq.trans e6) (inst.eq.trans (e8.trans (by rw [hl]))) (inst9.eq.trans e9) ha hb _ rfl x

set_option maxHeartbeats 4000000 in
theorem trip_ok : ∀ p ∈ tripL (F := Ideal) c i arg2 harg2 arg3 harg3 arg4 harg4 arg5 harg5 arg6 harg6 arg7 harg7 arg8 harg8 arg9 harg9 arg10 harg10 arg11 arg12 harg12 k0_h2 X6 X10 k,
    PieceOk (arg10.view.read (Elt Ideal) X10) (arg6.view.read (Elt Ideal) X6) p := by
  unfold tripL trip; dsimp only
  repeat' (refine List.forall_mem_cons.2 ⟨?_, ?_⟩)
  all_goals first
    | exact List.forall_mem_nil _
    | (try dsimp only [trip.sl.r_19, trip.sl.r_20, trip.sl.r_21, trip.sl.r_22, trip.sl.r_14, k0_pay34, k0_pay33, trip.sl.r_11, trip.sl.r_13, k0_pay32])
      exact pieceOk k arg6 arg10 X6 X10 _ _ _ _ _ _ _ _ (by decide) (by decide) (by decide) _ (by decide) (by decide) rfl (by exact rfl) (by exact rfl) rfl

end Cert.KernelVIdeal.Hand

end
-- ==== Proof.KernelVIdealDecoded.lean ====
/-
  The pieces that the trips of `KernelVIdeal`'s decoding loop write fill the decoded tile, so that after the loop it holds the
  decoded weights whatever it held before.
-/
module

public import proofs.«01_k».proof.Proof.KernelVIdealDecode

@[expose] public section

set_option maxRecDepth 65536

noncomputable section

namespace Cert.KernelVIdeal.Hand

open Cert.KernelVIdeal.Gen Cert.KernelVIdeal.Facts Cert.KernelVIdeal
open Idealize.ShloMosaic Idealize.ShloMosaic.TcCoe Idealize.ShloMosaic.Pointwise

variable (k : Fin k0_t1_loop.trips)
  (arg6 : Memref sig .tc .vmem S1024x384 .bf16) (arg10 : Memref sig .tc .vmem S2x3x1024x8x128 .i8)
  (X6 : BufTy.Contents (Elt Ideal) arg6.view.ty) (X10 : BufTy.Contents (Elt Ideal) arg10.view.ty)
variable (c : Dev nD) (i : grid0.Coords)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole) (arg5 : Memref sig .tc .hbm S2048x16x384 .i8) (harg5 : arg5.IsWhole)
  (harg6 : arg6.IsWhole) (arg7 : Memref sig .tc .vmem S256x8x128 .fp8e4m3) (harg7 : arg7.IsWhole) (arg8 : Memref sig .tc .vmem S1x8x256 .f32) (harg8 : arg8.IsWhole)
  (arg9 : Memref sig .tc .vmem S48x512x2x256 .bf16) (harg9 : arg9.IsWhole) (harg10 : arg10.IsWhole)
  (arg11 : DmaSems sig S_) (arg12 : Memref sig .tc .vmem S256x8x128 .fp8e4m3) (harg12 : arg12.IsWhole) (k0_h2 : k0_cond2 i = 1#1)
  (G9 : BufTy.Contents (Elt Ideal) arg9.view.ty)

/-- Where the pieces of a trip lie: `q` counts them from the first. -/
def pieceOff (k q : ℕ) : Fin 4 → ℕ := ![((q / 8 % 4) * 3 + q / 32) * 4 + q % 8 / 2, 8 * k, 0, 128 * (q % 2)]

set_option maxHeartbeats 1000000 in
theorem trip_off : (tripL (F := Ideal) c i arg2 harg2 arg3 harg3 arg4 harg4 arg5 harg5 arg6 harg6 arg7 harg7 arg8 harg8 arg9 harg9 arg10 harg10 arg11 arg12 harg12 k0_h2 X6 X10 k).map (fun p => p.1.off)
    = (List.range 96).reverse.map (pieceOff k.val) := by
  have hr : (List.range 96).reverse = [95, 94, 93, 92, 91, 90, 89, 88, 87, 86, 85, 84, 83, 82, 81, 80, 79, 78, 77, 76, 75, 74, 73, 72, 71, 70, 69, 68, 67, 66, 65, 64, 63, 62, 61, 60, 59, 58, 57, 56, 55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0] := by decide
  rw [hr]
  unfold tripL trip
  simp only [List.map_cons, List.map_nil, Rect.off_unit]
  repeat' (refine congrArg₂ List.cons ?_ ?_)
  all_goals first
    | exact ClosedOff.eq
    | rfl

theorem trip_cover (y : S48x512x2x256.Idx) (hy : (y 1).val / 8 = k.val) :
    ∃ p ∈ tripL (F := Ideal) c i arg2 harg2 arg3 harg3 arg4 harg4 arg5 harg5 arg6 harg6 arg7 harg7 arg8 harg8 arg9 harg9 arg10 harg10 arg11 arg12 harg12 k0_h2 X6 X10 k, y ∈ p.1.set := by
  have h0 : (y 0).val < 48 := (y 0).isLt
  have h1 : (y 1).val < 512 := (y 1).isLt
  have h2 : (y 2).val < 2 := (y 2).isLt
  have h3 : (y 3).val < 256 := (y 3).isLt
  obtain ⟨q, hq⟩ : ∃ q, q = ((y 0).val / 4 % 3) * 32 + ((y 0).val / 12) * 8 + (y 0).val % 4 * 2 + (y 3).val / 128 := ⟨_, rfl⟩
  have q1 : q / 32 = (y 0).val / 4 % 3 := by omega
  have q2 : q / 8 % 4 = (y 0).val / 12 := by omega
  have q3 : q % 8 / 2 = (y 0).val % 4 := by omega
  have q4 : q % 2 = (y 3).val / 128 := by omega
  have hm : pieceOff k.val q ∈ (List.range 96).reverse.map (pieceOff k.val) :=
    List.mem_map_of_mem (List.mem_reverse.2 (List.mem_range.2 (by omega)))
  rw [← trip_off (k := k) (arg6 := arg6) (arg10 := arg10) (X6 := X6) (X10 := X10) (c := c) (i := i) (arg2 := arg2) (harg2 := harg2) (arg3 := arg3) (harg3 := harg3) (arg4 := arg4) (harg4 := harg4) (arg5 := arg5) (harg5 := harg5) (harg6 := harg6) (arg7 := arg7) (harg7 := harg7) (harg8 := harg8) (arg9 := arg9) (harg9 := harg9) (harg10 := harg10) (arg11 := arg11) (arg12 := arg12) (harg12 := harg12) (k0_h2 := k0_h2), List.mem_map] at hm
  obtain ⟨p, hp, ho⟩ := hm
  refine ⟨p, hp, ?_⟩
  obtain ⟨⟨hs, ht⟩, -⟩ := trip_ok k arg6 arg10 X6 X10 c i arg2 harg2 arg3 harg3 arg4 harg4 arg5 harg5 harg6 arg7 harg7 arg8 harg8 arg9 harg9 harg10 arg11 arg12 harg12 k0_h2 p hp
  rw [LoadRect.mem_set, ho, hs, ht]
  intro a
  match a with
  | ⟨0, _⟩ => exact ⟨0, Nat.one_pos, by show (y 0).val = (q / 8 % 4 * 3 + q / 32) * 4 + q % 8 / 2 + 1 * 0; rw [q1, q2, q3]; omega⟩
  | ⟨1, _⟩ => exact ⟨(y 1).val % 8, Nat.mod_lt _ (by decide), by show (y 1).val = 8 * k.val + 1 * ((y 1).val % 8); omega⟩
  | ⟨2, _⟩ => exact ⟨(y 2).val, h2, by show (y 2).val = 0 + 1 * (y 2).val; omega⟩
  | ⟨3, _⟩ => exact ⟨(y 3).val % 128, Nat.mod_lt _ (by decide), by show (y 3).val = 128 * (q % 2) + 1 * ((y 3).val % 128); omega⟩

/-- The decoded tile after the loop, whatever it held before. -/
theorem read_pieces : arg9.view.read (Elt Ideal) (arg9.view.writes (Elt Ideal) G9 (pieces (F := Ideal) c i arg2 harg2 arg3 harg3 arg4 harg4 arg5 harg5 arg6 harg6 arg7 harg7 arg8 harg8 arg9 harg9 arg10 harg10 arg11 arg12 harg12 k0_h2 X6 X10 k0_t1_loop.trips))
    = wTile (arg10.view.read (Elt Ideal) X10) (arg6.view.read (Elt Ideal) X6) := by
  have ok : ∀ n, ∀ p ∈ pieces (F := Ideal) c i arg2 harg2 arg3 harg3 arg4 harg4 arg5 harg5 arg6 harg6 arg7 harg7 arg8 harg8 arg9 harg9 arg10 harg10 arg11 arg12 harg12 k0_h2 X6 X10 n, PieceOk (arg10.view.read (Elt Ideal) X10) (arg6.view.read (Elt Ideal) X6) p := by
    intro n
    induction n with
    | zero => intro p hp; rw [pieces.eq_1] at hp; exact absurd hp List.not_mem_nil
    | succ n ih =>
      intro p hp
      rw [pieces.eq_2] at hp
      split at hp
      · rcases List.mem_append.1 hp with h | h
        · exact trip_ok _ arg6 arg10 X6 X10 c i arg2 harg2 arg3 harg3 arg4 harg4 arg5 harg5 harg6 arg7 harg7 arg8 harg8 arg9 harg9 harg10 arg11 arg12 harg12 k0_h2 p h
        · exact ih p h
      · exact ih p hp
  have sub : ∀ n (m : Fin k0_t1_loop.trips), m.val < n → ∀ p ∈ tripL (F := Ideal) c i arg2 harg2 arg3 harg3 arg4 harg4 arg5 harg5 arg6 harg6 arg7 harg7 arg8 harg8 arg9 harg9 arg10 harg10 arg11 arg12 harg12 k0_h2 X6 X10 m,
      p ∈ pieces (F := Ideal) c i arg2 harg2 arg3 harg3 arg4 harg4 arg5 harg5 arg6 harg6 arg7 harg7 arg8 harg8 arg9 harg9 arg10 harg10 arg11 arg12 harg12 k0_h2 X6 X10 n := by
    intro n
    induction n with
    | zero => intro m hm; omega
    | succ n ih =>
      intro m hm p hp
      rw [pieces.eq_2]
      split
      · rename_i hn
        rcases Nat.lt_or_eq_of_le (Nat.le_of_lt_succ hm) with h | h
        · exact List.mem_append_right _ (ih m h p hp)
        · obtain rfl : m = ⟨n, hn⟩ := Fin.ext h
          exact List.mem_append_left _ hp
      · rename_i hn
        exact ih m (by have := m.isLt; omega) p hp
  funext y
  refine View.read_writes_apply_of_pieces _ _ _ _ (fun p hp => (ok _ p hp).2) y ?_
  have ht : k0_t1_loop.trips = 64 := by decide
  have h1 : (y 1).val < 512 := (y 1).isLt
  obtain ⟨p, hp, hy⟩ := trip_cover ⟨(y 1).val / 8, by omega⟩ arg6 arg10 X6 X10 c i arg2 harg2 arg3 harg3 arg4 harg4 arg5 harg5 harg6 arg7 harg7 arg8 harg8 arg9 harg9 harg10 arg11 arg12 harg12 k0_h2 y rfl
  exact ⟨p, sub _ _ (Fin.isLt _) p hp, hy⟩

end Cert.KernelVIdeal.Hand

end
-- ==== Proof.RowScale.lean ====
module

public import Idealize.ShloMosaic.Lib.Pointwise

/-!
The scale of a row: the powers of two by their exponent field, the least of them above a nonnegative bound, found by
counting (as the kernel does) and by a minimum (as the reference does), and its reciprocal.
-/

@[expose] public section

namespace Cert.RowScale

open Idealize.ShloMosaic

/-- The number whose float has exponent field `n`, no fraction and no sign: zero, or `2 ^ (n - 127)`. -/
noncomputable def pw (n : ℕ) : EReal := if n = 0 then 0 else (((2 : ℝ) ^ ((n : ℤ) - 127) : ℝ) : EReal)

theorem pw_zero : pw 0 = 0 := if_pos rfl

theorem pw_pos {n : ℕ} (h : n ≠ 0) : pw n = (((2 : ℝ) ^ ((n : ℤ) - 127) : ℝ) : EReal) := if_neg h

theorem pw_one : pw 127 = 1 := by
  rw [pw_pos (by decide)]
  norm_num

theorem pw_mono {a b : ℕ} (h : a ≤ b) : pw a ≤ pw b := by
  by_cases ha : a = 0
  · subst ha
    rw [pw_zero]
    by_cases hb : b = 0
    · rw [hb, pw_zero]
    · rw [pw_pos hb]
      exact_mod_cast (by positivity : (0 : ℝ) ≤ (2 : ℝ) ^ ((b : ℤ) - 127))
  · have hb : b ≠ 0 := by omega
    rw [pw_pos ha, pw_pos hb]
    have : (2 : ℝ) ^ ((a : ℤ) - 127) ≤ (2 : ℝ) ^ ((b : ℤ) - 127) :=
      zpow_le_zpow_right₀ (by norm_num) (by omega)
    exact_mod_cast this

/-- The reciprocal of a power is the power with the opposite exponent. -/
theorem one_div_pw {n : ℕ} (h1 : 1 ≤ n) (h2 : n ≤ 253) : (1 : EReal) / pw n = pw (254 - n) := by
  rw [pw_pos (by omega), pw_pos (by omega)]
  have hp : (2 : ℝ) ^ ((n : ℤ) - 127) ≠ 0 := by positivity
  have : (2 : ℝ) ^ (((254 - n : ℕ) : ℤ) - 127) = 1 / (2 : ℝ) ^ ((n : ℤ) - 127) := by
    rw [one_div, ← zpow_neg]
    congr 1
    omega
  rw [this, EReal.coe_div]
  rfl

/-- A word that is an exponent field alone reads as its power. -/
theorem ofBits_field {n : ℕ} (h : n ≤ 254) : Ideal.ofBits .f32 (BitVec.ofNat 32 n <<< 23) = pw n := by
  have e1 : ∀ k : Fin 255, (BitVec.extractLsb' 31 1 (BitVec.ofNat 32 k.val <<< 23) == 1#1) = false := by decide
  have e2 : ∀ k : Fin 255, (BitVec.extractLsb' 23 8 (BitVec.ofNat 32 k.val <<< 23)).toNat = k.val := by decide
  have e3 : ∀ k : Fin 255, (BitVec.extractLsb' 0 23 (BitVec.ofNat 32 k.val <<< 23)).toNat = 0 := by decide
  have f1 := e1 ⟨n, by omega⟩
  have f2 := e2 ⟨n, by omega⟩
  have f3 := e3 ⟨n, by omega⟩
  clear e1 e2 e3
  show Ideal.ieee 8 23 (BitVec.ofNat 32 n <<< 23) = pw n
  generalize BitVec.ofNat 32 n <<< 23 = b at f1 f2 f3
  unfold Ideal.ieee
  simp only [Nat.reduceAdd]
  simp only at f1 f2 f3
  rw [f1, f2, f3]
  have h1 : n ≠ 2 ^ 8 - 1 := by omega
  rw [if_neg h1]
  by_cases h0 : n = 0
  · rw [if_pos h0, h0, pw_zero]
    norm_num
  · rw [if_neg h0, pw_pos h0]
    refine congrArg _ ?_
    have : (2 : ℝ) ^ ((n : ℤ) - 127) = (2 : ℝ) ^ (23 : ℤ) * (2 : ℝ) ^ ((n : ℤ) - 127 - 23) := by
      rw [← zpow_add₀ (by norm_num)]
      congr 1
      omega
    rw [this]
    norm_num

/-- The lane shift's word reads as the lane's power. -/
theorem ofBits_shli {n : ℕ} (h : n ≤ 254) :
    Ideal.ofBits .f32 (IntOp.shli ArithUnit.vector (BitVec.ofNat 32 n) 23#32) = pw n := ofBits_field h

theorem lane_lt : ∀ x : Fin 256, IntOp.cmpi CmpIPredicate.slt (BitVec.ofNat 32 x.val) 253#32 = if x.val < 253 then 1#1 else 0#1 := by decide

/-- How many of the powers `pw 0`, …, `pw 252` lie at or below `s`. -/
noncomputable def count (s : EReal) : ℕ := (Finset.univ.filter (fun x : Fin 256 => x.val < 253 ∧ pw x.val ≤ s)).card

theorem count_spec (s : EReal) : count s ≤ 253 ∧ ∀ k, k < count s ↔ (k < 253 ∧ pw k ≤ s) := by
  classical
  have hex : ∃ n, ¬ (n < 253 ∧ pw n ≤ s) := ⟨253, fun h => absurd h.1 (by omega)⟩
  have hN : Nat.find hex ≤ 253 := Nat.find_min' hex (fun h => absurd h.1 (by omega))
  have key : ∀ k, k < Nat.find hex ↔ (k < 253 ∧ pw k ≤ s) := by
    intro k
    constructor
    · exact fun hk => not_not.mp (Nat.find_min hex hk)
    · intro hk
      refine Nat.lt_of_not_le fun hc => ?_
      exact Nat.find_spec hex ⟨lt_of_le_of_lt hc hk.1, le_trans (pw_mono hc) hk.2⟩
  have hc : count s = Nat.find hex := by
    unfold count
    rw [Finset.filter_congr (fun x _ => (key x.val).symm), Fin.card_filter_val_lt]
    omega
  rw [hc]
  exact ⟨hN, key⟩

theorem count_pos {s : EReal} (h : 0 ≤ s) : 1 ≤ count s :=
  ((count_spec s).2 0).mpr ⟨by omega, by rw [pw_zero]; exact h⟩

/-- The minimum over the powers above `s`, the greatest standing for those at or below it, is the power counted. -/
theorem fold_min_pw {s : EReal} (h : 0 ≤ s) (f : Fin 253 → EReal)
    (hf : ∀ k, f k = if s < pw (k.val + 1) then pw (k.val + 1) else pw 253) :
    Finset.fold min ⊤ f Finset.univ = pw (count s) := by
  obtain ⟨h2, h3⟩ := count_spec s
  have h1 := count_pos h
  apply le_antisymm
  · rw [Finset.fold_min_le]
    refine .inr ⟨⟨count s - 1, by omega⟩, Finset.mem_univ _, ?_⟩
    rw [hf]
    have e : count s - 1 + 1 = count s := by omega
    show (if s < pw (count s - 1 + 1) then pw (count s - 1 + 1) else pw 253) ≤ _
    rw [e]
    split
    · exact le_rfl
    · rename_i hs
      by_cases hc : count s = 253
      · rw [hc]
      · exact absurd (lt_of_not_ge fun hle => absurd ((h3 (count s)).mpr ⟨by omega, hle⟩) (lt_irrefl _)) hs
  · rw [Finset.le_fold_min]
    refine ⟨le_top, fun k _ => ?_⟩
    rw [hf]
    split
    · rename_i hs
      refine pw_mono ?_
      by_contra hc
      push Not at hc
      exact absurd ((h3 (k.val + 1)).mp hc).2 (not_le_of_gt hs)
    · exact pw_mono h2

/-- A sum of ones over the lanes that pass is their number. -/
theorem fold_addi {ι : Type} [DecidableEq ι] (S : Finset ι) (p : ι → Prop) [DecidablePred p] (f : ι → BitVec 32)
    (hf : ∀ x, f x = if p x then 1#32 else 0#32) :
    Finset.fold IntOp.addi 0#32 f S = BitVec.ofNat 32 (S.filter p).card := by
  induction S using Finset.induction_on with
  | empty => rfl
  | insert a S ha ih =>
    rw [Finset.fold_insert ha, ih, Finset.filter_insert, hf]
    split
    · rw [Finset.card_insert_of_notMem (fun h => ha (Finset.mem_filter.mp h).1), BitVec.ofNat_add, BitVec.add_comm]
      rfl
    · exact BitVec.zero_add _

/-- The sum of the lanes' marks, below `253` and at or below `s`, is the count. -/
theorem fold_count (s : EReal) (f : Fin 256 → BitVec 32)
    (hf : ∀ x, f x = if x.val < 253 ∧ pw x.val ≤ s then 1#32 else 0#32) :
    Finset.fold IntOp.addi 0#32 f Finset.univ = BitVec.ofNat 32 (count s) := by
  classical
  exact (fold_addi Finset.univ (fun x : Fin 256 => x.val < 253 ∧ pw x.val ≤ s) f hf).trans
    (by unfold count; congr!)

/-- A lane's mark, as the kernel computes it. -/
theorem lane_mark (s : EReal) (x : Fin 256) :
    BitVec.setWidth 32 (IntOp.andi (BitVec.ofBool (decide (Ideal.ofBits .f32 (IntOp.shli ArithUnit.vector (BitVec.ofNat 32 x.val) 23#32) ≤ s)))
      (IntOp.cmpi CmpIPredicate.slt (BitVec.ofNat 32 x.val) 253#32)) = if x.val < 253 ∧ pw x.val ≤ s then 1#32 else 0#32 := by
  rw [lane_lt]
  by_cases h : x.val < 253
  · rw [if_pos h, ofBits_shli (by omega)]
    by_cases hs : pw x.val ≤ s
    · rw [if_pos ⟨h, hs⟩, decide_eq_true hs]; rfl
    · rw [if_neg (fun hh => hs hh.2), decide_eq_false hs]; rfl
  · rw [if_neg h, if_neg (fun hh => h hh.1)]
    generalize BitVec.ofBool _ = b
    show BitVec.setWidth 32 (b &&& 0#1) = 0#32
    rw [BitVec.and_zero]
    rfl

/-- The greatest magnitude of a row. -/
noncomputable def amax (y : Fin 128 → EReal) : EReal :=
  Finset.fold max (Ideal.ofBits .f32 0xFF800000#32) (fun l => FloatOps.absf (F := Ideal) (φ := .f32) (y l)) Finset.univ

theorem amax_nonneg (y : Fin 128 → EReal) : 0 ≤ amax y := by
  unfold amax
  rw [Finset.le_fold_max]
  refine .inr ⟨0, Finset.mem_univ _, ?_⟩
  show (0 : EReal) ≤ max (y 0) (-(y 0))
  rcases le_total 0 (y 0) with h | h
  · exact le_max_of_le_left h
  · exact le_max_of_le_right (EReal.neg_nonneg.mpr h)

/-- The float nearest `1 / 448`. -/
noncomputable def inv448 : EReal := Ideal.ofBits .f32 0x3B124925#32

theorem inv448_nonneg : 0 ≤ inv448 := by
  unfold inv448
  simp only [Ideal.ofBits, Ideal.ieee]
  norm_num
  refine EReal.coe_nonneg.mpr ?_
  rw [if_neg (by decide)]
  positivity

/-- The exponent field of a row's scale, from its greatest magnitude. -/
noncomputable def field (a : EReal) : ℕ := if a = 0 then 127 else count (a * inv448)

theorem field_bounds {a : EReal} (h : 0 ≤ a) : 1 ≤ field a ∧ field a ≤ 253 := by
  unfold field
  split
  · omega
  · exact ⟨count_pos (mul_nonneg h inv448_nonneg), (count_spec _).1⟩

/-- The scale of a row: a power of two. -/
noncomputable def scale (y : Fin 128 → EReal) : EReal := pw (field (amax y))

/-- The codes of a row: over its scale, and clipped. -/
noncomputable def code (y : Fin 128 → EReal) (l : Fin 128) : EReal :=
  min (Ideal.ofBits .f32 0x43E00000#32) (max (Ideal.ofBits .f32 0xC3E00000#32) (y l * pw (254 - field (amax y))))

/-- The exponent as the kernel finds it. -/
theorem exponent_bits {a : EReal} (h : 0 ≤ a) (N e : BitVec 32) (hN : N = BitVec.ofNat 32 (count (a * inv448)))
    (he : e = if a = 0 then 0#32 else IntOp.subi (IntOp.subi N 1#32) 126#32) :
    IntOp.addi e 127#32 = BitVec.ofNat 32 (field a) ∧ IntOp.subi 127#32 e = BitVec.ofNat 32 (254 - field a) := by
  have hb := field_bounds h
  unfold field at hb ⊢
  by_cases ha : a = 0
  · rw [if_pos ha] at he ⊢
    subst he
    exact ⟨rfl, rfl⟩
  · rw [if_neg ha] at he hb ⊢
    subst he hN
    generalize count (a * inv448) = n at hb ⊢
    show BitVec.ofNat 32 n - 1#32 - 126#32 + 127#32 = _ ∧ 127#32 - (BitVec.ofNat 32 n - 1#32 - 126#32) = _
    constructor <;> bv_omega

/-- The reference's scale: the least power above the bound. -/
theorem scale_ref (y : Fin 128 → EReal) (f : Fin 253 → EReal)
    (hf : ∀ k, f k = if amax y * inv448 < pw (k.val + 1) then pw (k.val + 1) else pw 253) :
    (if amax y = 0 then 1 else Finset.fold min ⊤ f Finset.univ) = scale y := by
  unfold scale field
  by_cases h : amax y = 0
  · rw [if_pos h, if_pos h, pw_one]
  · rw [if_neg h, if_neg h]
    exact fold_min_pw (mul_nonneg (amax_nonneg y) inv448_nonneg) f hf

/-- The reference's reciprocal of the scale. -/
theorem one_div_scale (y : Fin 128 → EReal) : (1 : EReal) / scale y = pw (254 - field (amax y)) :=
  one_div_pw (field_bounds (amax_nonneg y)).1 (field_bounds (amax_nonneg y)).2

end Cert.RowScale
-- ==== Proof.KernelVIdealTailValue.lean ====
/-
  The value of `KernelVIdeal`'s body after its first part: the products over the activations' chunks as one recursion, for both
  halves of the tile's columns.
-/
module

public import proofs.«01_k».proof.Proof.KernelVIdealTail
public import Idealize.ShloMosaic.Lib.Pointwise
public import proofs.«01_k».proof.Proof.RowScale
public import Idealize.ShloMosaic.Lib.BitcastPair

@[expose] public section

set_option maxRecDepth 65536

noncomputable section

namespace Cert.KernelVIdeal.Hand

open Cert.KernelVIdeal.Gen Cert.KernelVIdeal.Facts Cert.KernelVIdeal
open Idealize.ShloMosaic Idealize.ShloMosaic.TcCoe Idealize.ShloMosaic.Pointwise

variable {F : FTy → Type} [FloatOps F]

/-- Chunk `n` of the activations' block lies in it, -/
theorem inbA (n : ℕ) (h : n < 48) : ∀ a, (![0, n, 0, 0] : Fin 4 → ℕ) a + S1x1x128x256.size a ≤ S1x48x128x256.size a := by
  intro a; fin_cases a <;> simp [S1x1x128x256, S1x48x128x256] <;> omega
/-- and so does a half of the decoded tile's chunk `n` in the tile. -/
theorem inbW (n half : ℕ) (h : n < 48) (hh : half < 2) : ∀ a, (![n, 256 * half, 0, 0] : Fin 4 → ℕ) a + S1x256x2x256.size a ≤ S48x512x2x256.size a := by
  intro a; fin_cases a <;> simp [S1x256x2x256, S48x512x2x256] <;> omega

section Chain
variable (arg2 : Memref sig .tc .vmem S1x48x128x256 .i32) (arg3 : Memref sig .tc .vmem S256x128 .f32) (arg4 : Memref sig .tc .vmem S256x128 .f32)
  (arg9 : Memref sig .tc .vmem S48x512x2x256 .bf16)
  (X2 : BufTy.Contents (Elt F) arg2.view.ty) (G9 : BufTy.Contents (Elt F) arg9.view.ty)
  (X3 : BufTy.Contents (Elt F) arg3.view.ty) (X4 : BufTy.Contents (Elt F) arg4.view.ty)

/-- A chunk of activations, loaded, -/
abbrev ldA (n : ℕ) (h : n < 48) : Vec F S1x1x128x256 .i32 := View.readAt (Elt F) arg2.view (Rect.unit (s := S1x48x128x256) ![0, n, 0, 0] S1x1x128x256.size (inbA n h)).toLoadRect X2
/-- and a half of a decoded chunk. -/
abbrev ldW (n half : ℕ) (h : n < 48) (hh : half < 2) : Vec F S1x256x2x256 .bf16 := View.readAt (Elt F) arg9.view (Rect.unit (s := S48x512x2x256) ![n, 256 * half, 0, 0] S1x256x2x256.size (inbW n half h hh)).toLoadRect G9

/-- The product of a chunk of activations with half a decoded chunk. -/
def prodP (v : Vec F S1x1x128x256 .i32) (w : Vec F S1x256x2x256 .bf16) : FVec F S256x512 .f32 :=
  matmul dot_S256x256_S512x256_S256x512_1_1_0_0_n_n none (k0_pay250 v) (k0_pay257 w) (constant S256x512 .f32 0x00000000#32)

/-- The sum of the first `n` chunks' products. -/
def accG (half : ℕ) (hh : half < 2) : (n : ℕ) → n ≤ 48 → FVec F S256x512 .f32
  | 0, _ => broadcast S256x512 (Scalar.ofBits .f32 0x00000000#32)
  | n + 1, h => addf (accG half hh n (Nat.le_of_succ_le h)) (prodP (ldA arg2 X2 n h) (ldW arg9 G9 n half h hh))

/-- A head's columns of the sum. -/
def headG (half : ℕ) (hh : half < 2) (w : ℕ) (hw : S256x512.Slices ![0, w] S256x128) : FVec F S256x128 .f32 := extractStridedSlice S256x128 ![0, w] (accG arg2 arg9 X2 G9 half hh 48 (Nat.le_refl 48)) hw

/-- The greatest magnitude of each row, -/
def amaxG (y : FVec F S256x128 .f32) : FVec F S256 .f32 := multiReduction .maximumf [1] S256 (absf y) 0xFF800000#32 reduces_S256x128_S256 (.inl rfl) rfl
/-- each row's scale, -/
def scaleG (y : FVec F S256x128 .f32) : FVec F S256x1 .f32 := k0_pay331 (amaxG y)
/-- and its codes. -/
def codesG (y : FVec F S256x128 .f32) : FVec F S256x128 .fp8e4m3 := k0_pay332 y (amaxG y)

/-- The sums as the run names them. -/
theorem acc_lo : tail.sl.r_31 arg2 arg9 X2 G9 = accG arg2 arg9 X2 G9 0 (by decide) 46 (by decide) := rfl
theorem acc_hi : tail.sl.r_85 arg2 arg9 X2 G9 = accG arg2 arg9 X2 G9 1 (by decide) 45 (by decide) := rfl

theorem head_0 : tail.sl.r_33 arg2 arg9 X2 G9 = headG arg2 arg9 X2 G9 0 (by decide) 0 slices_S256x512_o0_0_S256x128 := rfl
theorem codes_0 : tail.sl.r_40 arg2 arg9 X2 G9 = codesG (headG arg2 arg9 X2 G9 0 (by decide) 0 slices_S256x512_o0_0_S256x128) := by rw [← head_0]; rfl
theorem scale_0 : tail.sl.r_39 arg2 arg9 X2 G9 = scaleG (headG arg2 arg9 X2 G9 0 (by decide) 0 slices_S256x512_o0_0_S256x128) := by rw [← head_0]; rfl
theorem head_1 : tail.sl.r_34 arg2 arg9 X2 G9 = headG arg2 arg9 X2 G9 0 (by decide) 128 slices_S256x512_o0_128_S256x128 := rfl
theorem codes_1 : tail.sl.r_44 arg2 arg9 X2 G9 = codesG (headG arg2 arg9 X2 G9 0 (by decide) 128 slices_S256x512_o0_128_S256x128) := by rw [← head_1]; rfl
theorem scale_1 : tail.sl.r_43 arg2 arg9 X2 G9 = scaleG (headG arg2 arg9 X2 G9 0 (by decide) 128 slices_S256x512_o0_128_S256x128) := by rw [← head_1]; rfl
theorem head_2 : tail.sl.r_35 arg2 arg9 X2 G9 = headG arg2 arg9 X2 G9 0 (by decide) 256 slices_S256x512_o0_256_S256x128 := rfl
theorem codes_2 : tail.sl.r_48 arg2 arg9 X2 G9 = codesG (headG arg2 arg9 X2 G9 0 (by decide) 256 slices_S256x512_o0_256_S256x128) := by rw [← head_2]; rfl
theorem scale_2 : tail.sl.r_47 arg2 arg9 X2 G9 = scaleG (headG arg2 arg9 X2 G9 0 (by decide) 256 slices_S256x512_o0_256_S256x128) := by rw [← head_2]; rfl
theorem head_3 : tail.sl.r_36 arg2 arg9 X2 G9 = headG arg2 arg9 X2 G9 0 (by decide) 384 slices_S256x512_o0_384_S256x128 := rfl
theorem codes_3 : tail.sl.r_51 arg2 arg9 X2 G9 = codesG (headG arg2 arg9 X2 G9 0 (by decide) 384 slices_S256x512_o0_384_S256x128) := by rw [← head_3]; rfl
theorem scale_3 : tail.sl.r_50 arg2 arg9 X2 G9 = scaleG (headG arg2 arg9 X2 G9 0 (by decide) 384 slices_S256x512_o0_384_S256x128) := by rw [← head_3]; rfl
theorem head_4 : tail.sl.r_86 arg2 arg9 X2 G9 = headG arg2 arg9 X2 G9 1 (by decide) 0 slices_S256x512_o0_0_S256x128 := rfl
theorem codes_4 : tail.sl.r_92 arg2 arg9 X2 G9 = codesG (headG arg2 arg9 X2 G9 1 (by decide) 0 slices_S256x512_o0_0_S256x128) := by rw [← head_4]; rfl
theorem scale_4 : tail.sl.r_91 arg2 arg9 X2 G9 = scaleG (headG arg2 arg9 X2 G9 1 (by decide) 0 slices_S256x512_o0_0_S256x128) := by rw [← head_4]; rfl
theorem head_5 : tail.sl.r_87 arg2 arg9 X2 G9 = headG arg2 arg9 X2 G9 1 (by decide) 128 slices_S256x512_o0_128_S256x128 := rfl
theorem codes_5 : tail.sl.r_95 arg2 arg9 X2 G9 = codesG (headG arg2 arg9 X2 G9 1 (by decide) 128 slices_S256x512_o0_128_S256x128) := by rw [← head_5]; rfl
theorem scale_5 : tail.sl.r_94 arg2 arg9 X2 G9 = scaleG (headG arg2 arg9 X2 G9 1 (by decide) 128 slices_S256x512_o0_128_S256x128) := by rw [← head_5]; rfl
theorem head_6 : tail.sl.r_88 arg2 arg9 X2 G9 = headG arg2 arg9 X2 G9 1 (by decide) 256 slices_S256x512_o0_256_S256x128 := rfl
theorem codes_6 : tail.sl.r_99 arg2 arg9 X2 G9 = codesG (headG arg2 arg9 X2 G9 1 (by decide) 256 slices_S256x512_o0_256_S256x128) := by rw [← head_6]; rfl
theorem scale_6 : tail.sl.r_98 arg2 arg9 X2 G9 = scaleG (headG arg2 arg9 X2 G9 1 (by decide) 256 slices_S256x512_o0_256_S256x128) := by rw [← head_6]; rfl
theorem head_7 : tail.sl.r_89 arg2 arg9 X2 G9 = headG arg2 arg9 X2 G9 1 (by decide) 384 slices_S256x512_o0_384_S256x128 := rfl
theorem codes_7 : tail.sl.r_103 arg2 arg9 X2 G9 = codesG (headG arg2 arg9 X2 G9 1 (by decide) 384 slices_S256x512_o0_384_S256x128) := by rw [← head_7]; rfl
theorem scale_7 : tail.sl.r_102 arg2 arg9 X2 G9 = scaleG (headG arg2 arg9 X2 G9 1 (by decide) 384 slices_S256x512_o0_384_S256x128) := by rw [← head_7]; rfl

end Chain

section Out
variable (arg2 : Memref sig .tc .vmem S1x48x128x256 .i32) (arg9 : Memref sig .tc .vmem S48x512x2x256 .bf16) (arg12 : Memref sig .tc .vmem S256x8x128 .fp8e4m3)
  (X2 : BufTy.Contents (Elt F) arg2.view.ty) (G9 : BufTy.Contents (Elt F) arg9.view.ty) (X12 : BufTy.Contents (Elt F) arg12.view.ty)

/-- The first four heads of the staged codes, -/
abbrev rectLo : Rect S256x8x128 := Rect.unit (s := S256x8x128) ![0, 0, 0] S256x4x128.size inb_S256x8x128_S256x4x128_0_0_0
/-- and the last four. -/
abbrev rectHi : Rect S256x8x128 := Rect.unit (s := S256x8x128) ![0, 4, 0] S256x4x128.size inb_S256x8x128_S256x4x128_0_4_0

/-- One head written among four. -/
def updG (old : S256x4x128.Idx → Elt F .fp8e4m3) (y : FVec F S256x128 .f32) (j : ℕ) (hs : S256x4x128.Slices ![0, j, 0] S256x1x128) : S256x4x128.Idx → Elt F .fp8e4m3 :=
  updateSlice old (k0_pay349 (codesG y)) ![0, j, 0] hs

/-- The pieces of the staged codes after each store. -/
def st1 : List (View.Piece (Elt F) S256x8x128 .fp8e4m3) := ⟨rectLo, updG (View.readAt (Elt F) arg12.view rectLo.toLoadRect X12) (headG arg2 arg9 X2 G9 0 (by decide) 0 slices_S256x512_o0_0_S256x128) 0 slices_S256x4x128_S256x1x128_0_0_0⟩ :: []
def st2 : List (View.Piece (Elt F) S256x8x128 .fp8e4m3) := ⟨rectLo, updG (View.readCov (Val := Elt F) arg12.view (st1 arg2 arg9 arg12 X2 G9 X12) rectLo.toLoadRect) (headG arg2 arg9 X2 G9 0 (by decide) 128 slices_S256x512_o0_128_S256x128) 1 slices_S256x4x128_S256x1x128_0_1_0⟩ :: st1 arg2 arg9 arg12 X2 G9 X12
def st3 : List (View.Piece (Elt F) S256x8x128 .fp8e4m3) := ⟨rectLo, updG (View.readCov (Val := Elt F) arg12.view (st2 arg2 arg9 arg12 X2 G9 X12) rectLo.toLoadRect) (headG arg2 arg9 X2 G9 0 (by decide) 256 slices_S256x512_o0_256_S256x128) 2 slices_S256x4x128_S256x1x128_0_2_0⟩ :: st2 arg2 arg9 arg12 X2 G9 X12
def st4 : List (View.Piece (Elt F) S256x8x128 .fp8e4m3) := ⟨rectLo, updG (View.readCov (Val := Elt F) arg12.view (st3 arg2 arg9 arg12 X2 G9 X12) rectLo.toLoadRect) (headG arg2 arg9 X2 G9 0 (by decide) 384 slices_S256x512_o0_384_S256x128) 3 slices_S256x4x128_S256x1x128_0_3_0⟩ :: st3 arg2 arg9 arg12 X2 G9 X12
def st5 : List (View.Piece (Elt F) S256x8x128 .fp8e4m3) := ⟨rectHi, updG (View.readAt (Elt F) arg12.view rectHi.toLoadRect X12) (headG arg2 arg9 X2 G9 1 (by decide) 0 slices_S256x512_o0_0_S256x128) 0 slices_S256x4x128_S256x1x128_0_0_0⟩ :: st4 arg2 arg9 arg12 X2 G9 X12
def st6 : List (View.Piece (Elt F) S256x8x128 .fp8e4m3) := ⟨rectHi, updG (View.readCov (Val := Elt F) arg12.view (st5 arg2 arg9 arg12 X2 G9 X12) rectHi.toLoadRect) (headG arg2 arg9 X2 G9 1 (by decide) 128 slices_S256x512_o0_128_S256x128) 1 slices_S256x4x128_S256x1x128_0_1_0⟩ :: st5 arg2 arg9 arg12 X2 G9 X12
def st7 : List (View.Piece (Elt F) S256x8x128 .fp8e4m3) := ⟨rectHi, updG (View.readCov (Val := Elt F) arg12.view (st6 arg2 arg9 arg12 X2 G9 X12) rectHi.toLoadRect) (headG arg2 arg9 X2 G9 1 (by decide) 256 slices_S256x512_o0_256_S256x128) 2 slices_S256x4x128_S256x1x128_0_2_0⟩ :: st6 arg2 arg9 arg12 X2 G9 X12
def st8 : List (View.Piece (Elt F) S256x8x128 .fp8e4m3) := ⟨rectHi, updG (View.readCov (Val := Elt F) arg12.view (st7 arg2 arg9 arg12 X2 G9 X12) rectHi.toLoadRect) (headG arg2 arg9 X2 G9 1 (by decide) 384 slices_S256x512_o0_384_S256x128) 3 slices_S256x4x128_S256x1x128_0_3_0⟩ :: st7 arg2 arg9 arg12 X2 G9 X12
theorem H11_1_eq : tail.sl.H11_1 arg2 arg9 arg12 X2 G9 X12 = st1 arg2 arg9 arg12 X2 G9 X12 := by
  unfold tail.sl.H11_1
  rw [codes_0]
  rfl
theorem H11_2_eq : tail.sl.H11_2 arg2 arg9 arg12 X2 G9 X12 = st2 arg2 arg9 arg12 X2 G9 X12 := by
  unfold tail.sl.H11_2 tail.sl.old
  rw [codes_1, H11_1_eq]
  rfl
theorem H11_3_eq : tail.sl.H11_3 arg2 arg9 arg12 X2 G9 X12 = st3 arg2 arg9 arg12 X2 G9 X12 := by
  unfold tail.sl.H11_3 tail.sl.old_1
  rw [codes_2, H11_2_eq]
  rfl
theorem H11_5_eq : tail.sl.H11_5 arg2 arg9 arg12 X2 G9 X12 = st5 arg2 arg9 arg12 X2 G9 X12 := by
  unfold tail.sl.H11_5 tail.sl.old_2 tail.sl.old_3
  rw [codes_4, codes_3, H11_3_eq]
  rfl
theorem H11_6_eq : tail.sl.H11_6 arg2 arg9 arg12 X2 G9 X12 = st6 arg2 arg9 arg12 X2 G9 X12 := by
  unfold tail.sl.H11_6 tail.sl.old_4
  rw [codes_5, H11_5_eq]
  rfl
theorem H11_7_eq : tail.sl.H11_7 arg2 arg9 arg12 X2 G9 X12 = st7 arg2 arg9 arg12 X2 G9 X12 := by
  unfold tail.sl.H11_7 tail.sl.old_5
  rw [codes_6, H11_6_eq]
  rfl
theorem H11_8_eq : tail.sl.H11_8 arg2 arg9 arg12 X2 G9 X12 = st8 arg2 arg9 arg12 X2 G9 X12 := by
  unfold tail.sl.H11_8 tail.sl.old_6
  rw [codes_7, H11_7_eq]
  rfl

/-- The pieces of the scales' block. -/
def scalesG : List (View.Piece (Elt F) S1x8x256 .f32) :=
  [⟨Rect.unit (s := S1x8x256) ![0, 7, 0] S1x1x256.size inb_S1x8x256_S1x1x256_0_7_0, k0_pay353 (scaleG (headG arg2 arg9 X2 G9 1 (by decide) 384 slices_S256x512_o0_384_S256x128))⟩,
    ⟨Rect.unit (s := S1x8x256) ![0, 6, 0] S1x1x256.size inb_S1x8x256_S1x1x256_0_6_0, k0_pay353 (scaleG (headG arg2 arg9 X2 G9 1 (by decide) 256 slices_S256x512_o0_256_S256x128))⟩,
    ⟨Rect.unit (s := S1x8x256) ![0, 5, 0] S1x1x256.size inb_S1x8x256_S1x1x256_0_5_0, k0_pay353 (scaleG (headG arg2 arg9 X2 G9 1 (by decide) 128 slices_S256x512_o0_128_S256x128))⟩,
    ⟨Rect.unit (s := S1x8x256) ![0, 4, 0] S1x1x256.size inb_S1x8x256_S1x1x256_0_4_0, k0_pay353 (scaleG (headG arg2 arg9 X2 G9 1 (by decide) 0 slices_S256x512_o0_0_S256x128))⟩,
    ⟨Rect.unit (s := S1x8x256) ![0, 3, 0] S1x1x256.size inb_S1x8x256_S1x1x256_0_3_0, k0_pay353 (scaleG (headG arg2 arg9 X2 G9 0 (by decide) 384 slices_S256x512_o0_384_S256x128))⟩,
    ⟨Rect.unit (s := S1x8x256) ![0, 2, 0] S1x1x256.size inb_S1x8x256_S1x1x256_0_2_0, k0_pay353 (scaleG (headG arg2 arg9 X2 G9 0 (by decide) 256 slices_S256x512_o0_256_S256x128))⟩,
    ⟨Rect.unit (s := S1x8x256) ![0, 1, 0] S1x1x256.size inb_S1x8x256_S1x1x256_0_1_0, k0_pay353 (scaleG (headG arg2 arg9 X2 G9 0 (by decide) 128 slices_S256x512_o0_128_S256x128))⟩,
    ⟨Rect.unit (s := S1x8x256) ![0, 0, 0] S1x1x256.size inb_S1x8x256_S1x1x256_0_0_0, k0_pay353 (scaleG (headG arg2 arg9 X2 G9 0 (by decide) 0 slices_S256x512_o0_0_S256x128))⟩]

end Out

section Pieces
variable (i : grid0.Coords)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole)
  (arg6 : Memref sig .tc .vmem S1024x384 .bf16) (harg6 : arg6.IsWhole) (arg7 : Memref sig .tc .vmem S256x8x128 .fp8e4m3) (harg7 : arg7.IsWhole)
  (arg8 : Memref sig .tc .vmem S1x8x256 .f32) (harg8 : arg8.IsWhole)
  (arg9 : Memref sig .tc .vmem S48x512x2x256 .bf16) (harg9 : arg9.IsWhole)
  (arg12 : Memref sig .tc .vmem S256x8x128 .fp8e4m3) (harg12 : arg12.IsWhole)
  (X2 : BufTy.Contents (Elt F) arg2.view.ty) (G9 : BufTy.Contents (Elt F) arg9.view.ty)
  (X3 : BufTy.Contents (Elt F) arg3.view.ty) (X4 : BufTy.Contents (Elt F) arg4.view.ty) (X12 : BufTy.Contents (Elt F) arg12.view.ty) (c : Dev nD)

/-- The one piece that the rest of the body writes to the block of codes, -/
theorem tail_codes : (tail (F := F) i arg2 harg2 arg3 harg3 arg4 harg4 arg6 harg6 arg7 harg7 arg8 harg8 arg9 harg9 arg12 harg12 X2 G9 X3 X4 X12 c).1.1
    = [⟨Rect.unit (s := S256x8x128) ![0, 0, 0] S256x8x128.size inb_S256x8x128_S256x8x128_0_0_0,
        View.readCov (Val := Elt F) arg12.view (st8 arg2 arg9 arg12 X2 G9 X12) (Rect.unit (s := S256x8x128) ![0, 0, 0] S256x8x128.size inb_S256x8x128_S256x8x128_0_0_0).toLoadRect⟩] := by
  rw [← H11_8_eq]
  unfold tail
  rfl

/-- and the eight to the block of scales. -/
theorem tail_scales : (tail (F := F) i arg2 harg2 arg3 harg3 arg4 harg4 arg6 harg6 arg7 harg7 arg8 harg8 arg9 harg9 arg12 harg12 X2 G9 X3 X4 X12 c).1.2
    = scalesG arg2 arg9 X2 G9 := by
  unfold scalesG
  rw [← scale_0, ← scale_1, ← scale_2, ← scale_3, ← scale_4, ← scale_5, ← scale_6, ← scale_7]
  unfold tail
  rfl

end Pieces

section Values
open Idealize.ShloMosaic (Ideal)

/-- The activation of token `t` in the words of a chunk: the half of the word that the token's parity names. -/
def actS (x2 : S1x48x128x256.Idx → BitVec 32) (cc : Fin 48) (t : Fin 256) (l : Fin 256) : EReal :=
  Ideal.ofBits .bf16 ((x2 (ix4 0 cc ⟨t.val / 2, by omega⟩ l)).extractLsb' (16 * (t.val % 2)) 16)

theorem lhs_bits (v : IVec S1x1x128x256 32) (t x : Fin 256) :
    bitcast S256x256 16 (shapeCast S128x256 v shapeCasts_S1x1x128x256_S128x256) bitcasts_S128x256_w32_S256x256_w16 (ix2 t x)
      = (v (ix4 0 0 ⟨t.val / 2, by omega⟩ x)).extractLsb' (16 * (t.val % 2)) 16 := by
  rw [bitcast_32_16]
  have hm : S256x256.row (ix2 t x) % 2 = t.val % 2 := rfl
  have ei : ∀ hh, (bitcasts_S128x256_w32_S256x256_w16).srcIdx (ix2 t x) (S256x256.row (ix2 t x) / 2) hh = ix2 ⟨t.val / 2, by omega⟩ x := by
    intro hh
    funext c
    match c with
    | ⟨0, _⟩ => rfl
    | ⟨1, _⟩ => rfl
  rw [ei]
  pointwise []

/-- A chunk's product at an element. -/
theorem prod_at (v : Vec Ideal S1x1x128x256 .i32) (w : Vec Ideal S1x256x2x256 .bf16) (t : Fin 256) (n : Fin 512) :
    prodP v w (ix2 t n) = ∑ l : Fin 256, Ideal.ofBits .bf16 ((v (ix4 0 0 ⟨t.val / 2, by omega⟩ l)).extractLsb' (16 * (t.val % 2)) 16) * w (ix4 0 ⟨n.val / 2, by omega⟩ ⟨n.val % 2, by omega⟩ l) := by
  unfold prodP k0_pay250 k0_pay257
  pointwise []
  refine Finset.sum_congr rfl fun l _ => ?_
  rw [lhs_bits]
  congr 1
  rcases Nat.mod_two_eq_zero_or_one n.val with h | h
  · rw [if_pos h]; congr 2; exact Fin.ext h.symm
  · rw [if_neg (by omega)]; congr 2; exact Fin.ext h.symm

/-- The product of the activations with the decoded tile, over all of the chunks. -/
def rowSum (x2 : S1x48x128x256.Idx → BitVec 32) (w : S48x512x2x256.Idx → EReal) (t : Fin 256) (n : Fin 1024) : EReal :=
  ∑ cc : Fin 48, ∑ l : Fin 256, actS x2 cc t l * w (ix4 cc ⟨n.val / 2, by omega⟩ ⟨n.val % 2, by omega⟩ l)

variable (i : grid0.Coords)
  (arg2 : Memref sig .tc .vmem S1x48x128x256 .i32) (harg2 : arg2.IsWhole) (arg3 : Memref sig .tc .vmem S256x128 .f32) (harg3 : arg3.IsWhole)
  (arg4 : Memref sig .tc .vmem S256x128 .f32) (harg4 : arg4.IsWhole)
  (arg6 : Memref sig .tc .vmem S1024x384 .bf16) (harg6 : arg6.IsWhole) (arg7 : Memref sig .tc .vmem S256x8x128 .fp8e4m3) (harg7 : arg7.IsWhole) (arg8 : Memref sig .tc .vmem S1x8x256 .f32) (harg8 : arg8.IsWhole)
  (arg9 : Memref sig .tc .vmem S48x512x2x256 .bf16) (harg9 : arg9.IsWhole)
  (arg12 : Memref sig .tc .vmem S256x8x128 .fp8e4m3) (harg12 : arg12.IsWhole)
  (X2 : BufTy.Contents (Elt Ideal) arg2.view.ty) (G9 : BufTy.Contents (Elt Ideal) arg9.view.ty)
  (X3 : BufTy.Contents (Elt Ideal) arg3.view.ty) (X4 : BufTy.Contents (Elt Ideal) arg4.view.ty) (X12 : BufTy.Contents (Elt Ideal) arg12.view.ty) (c : Dev nD)

theorem ldA_at (n : ℕ) (h : n < 48) (r : Fin 128) (l : Fin 256) : ldA arg2 X2 n h (ix4 0 0 r l) = arg2.view.read (Elt Ideal) X2 (ix4 0 ⟨n, h⟩ r l) := by
  show arg2.view.read (Elt Ideal) X2 _ = _
  congr 1
  funext a
  match a with
  | ⟨0, _⟩ => rfl
  | ⟨1, _⟩ => exact Fin.ext (by show n + 1 * 0 = n; omega)
  | ⟨2, _⟩ => exact Fin.ext (by show 0 + 1 * r.val = r.val; omega)
  | ⟨3, _⟩ => exact Fin.ext (by show 0 + 1 * l.val = l.val; omega)

theorem ldW_at (n half : ℕ) (h : n < 48) (hh : half < 2) (r : Fin 256) (p : Fin 2) (l : Fin 256) :
    ldW arg9 G9 n half h hh (ix4 0 r p l) = arg9.view.read (Elt Ideal) G9 (ix4 ⟨n, h⟩ ⟨256 * half + r.val, by omega⟩ p l) := by
  show arg9.view.read (Elt Ideal) G9 _ = _
  congr 1
  funext a
  match a with
  | ⟨0, _⟩ => exact Fin.ext (by show n + 1 * 0 = n; omega)
  | ⟨1, _⟩ => exact Fin.ext (by show 256 * half + 1 * r.val = 256 * half + r.val; omega)
  | ⟨2, _⟩ => exact Fin.ext (by show 0 + 1 * p.val = p.val; omega)
  | ⟨3, _⟩ => exact Fin.ext (by show 0 + 1 * l.val = l.val; omega)

/-- The sum over the chunks at an element. -/
theorem acc_at (half : ℕ) (hh : half < 2) (t : Fin 256) (k : Fin 512) : ∀ (n : ℕ) (h : n ≤ 48),
    accG arg2 arg9 X2 G9 half hh n h (ix2 t k)
      = ∑ cc : Fin n, ∑ l : Fin 256, actS (arg2.view.read (Elt Ideal) X2) ⟨cc.val, by omega⟩ t l * arg9.view.read (Elt Ideal) G9 (ix4 ⟨cc.val, by omega⟩ ⟨256 * half + k.val / 2, by omega⟩ ⟨k.val % 2, by omega⟩ l) := by
  intro n
  induction n with
  | zero =>
    intro h
    rw [accG, Fin.sum_univ_zero]
    pointwise []
  | succ n ih =>
    intro h
    rw [accG, Fin.sum_univ_castSucc]
    show accG arg2 arg9 X2 G9 half hh n _ (ix2 t k) + prodP _ _ (ix2 t k) = _
    rw [ih, prod_at]
    congr 1
    refine Finset.sum_congr rfl fun l _ => ?_
    rw [ldA_at, ldW_at]
    rfl

theorem acc_sum (half : ℕ) (hh : half < 2) (t : Fin 256) (k : Fin 512) :
    accG arg2 arg9 X2 G9 half hh 48 (Nat.le_refl 48) (ix2 t k) = rowSum (arg2.view.read (Elt Ideal) X2) (arg9.view.read (Elt Ideal) G9) t ⟨512 * half + k.val, by omega⟩ := by
  rw [acc_at]
  unfold rowSum
  refine Finset.sum_congr rfl fun cc _ => Finset.sum_congr rfl fun l _ => ?_
  congr 3
  · exact Fin.ext (by show 256 * half + k.val / 2 = (512 * half + k.val) / 2; omega)
  · exact Fin.ext (by show k.val % 2 = (512 * half + k.val) % 2; omega)

/-- A head of a half at an element. -/
theorem head_at (half : ℕ) (hh : half < 2) (w : ℕ) (hw : S256x512.Slices ![0, w] S256x128) (hw' : w + 128 ≤ 512) (t : Fin 256) (l : Fin 128) :
    headG arg2 arg9 X2 G9 half hh w hw (ix2 t l) = rowSum (arg2.view.read (Elt Ideal) X2) (arg9.view.read (Elt Ideal) G9) t ⟨512 * half + (w + l.val), by omega⟩ := by
  rw [← acc_sum arg2 arg9 X2 G9 half hh t ⟨w + l.val, by omega⟩]
  unfold headG
  show accG arg2 arg9 X2 G9 half hh 48 _ _ = _
  congr 1
  funext a
  match a with
  | ⟨0, _⟩ => exact Fin.ext (by show 0 + t.val = t.val; omega)
  | ⟨1, _⟩ => rfl

/-- The greatest magnitude of a row. -/
theorem amax_at (y : FVec Ideal S256x128 .f32) (t : Fin 256) : amaxG y (ix1 t) = Cert.RowScale.amax (fun l => y (ix2 t l)) := by
  unfold amaxG Cert.RowScale.amax
  pointwise []

/-- The exponent of a row's scale. -/
theorem expo_at (a : FVec Ideal S256 .f32) (t : Fin 256) :
    k0_pay330 a (ix2 t 0) = if a (ix1 t) = 0 then 0#32 else IntOp.subi (IntOp.subi (BitVec.ofNat 32 (Cert.RowScale.count (a (ix1 t) * Cert.RowScale.inv448))) 1#32) 126#32 := by
  rw [← Cert.RowScale.fold_count (a (ix1 t) * Cert.RowScale.inv448) _ (fun x => Cert.RowScale.lane_mark _ x)]
  unfold k0_pay330
  pointwise []
  rfl

theorem expo_row (y : FVec Ideal S256x128 .f32) (t : Fin 256) :
    IntOp.addi (k0_pay330 (amaxG y) (ix2 t 0)) 127#32 = BitVec.ofNat 32 (Cert.RowScale.field (Cert.RowScale.amax (fun l => y (ix2 t l))))
    ∧ IntOp.subi 127#32 (k0_pay330 (amaxG y) (ix2 t 0)) = BitVec.ofNat 32 (254 - Cert.RowScale.field (Cert.RowScale.amax (fun l => y (ix2 t l)))) := by
  refine Cert.RowScale.exponent_bits (Cert.RowScale.amax_nonneg _) _ _ rfl ?_
  rw [expo_at, amax_at]

/-- A row's scale. -/
theorem scale_at (y : FVec Ideal S256x128 .f32) (t : Fin 256) : k0_pay353 (scaleG y) (ix3 0 0 t) = Cert.RowScale.scale (fun l => y (ix2 t l)) := by
  have hb := Cert.RowScale.field_bounds (Cert.RowScale.amax_nonneg (fun l => y (ix2 t l)))
  unfold Cert.RowScale.scale
  rw [← Cert.RowScale.ofBits_shli (by omega), ← (expo_row y t).1]
  unfold k0_pay353 scaleG k0_pay331
  pointwise []

/-- A row's codes. -/
theorem code_at (y : FVec Ideal S256x128 .f32) (t : Fin 256) (l : Fin 128) : k0_pay349 (codesG y) (ix3 t 0 l) = Cert.RowScale.code (fun l => y (ix2 t l)) l := by
  have hb := Cert.RowScale.field_bounds (Cert.RowScale.amax_nonneg (fun l => y (ix2 t l)))
  unfold Cert.RowScale.code
  rw [← Cert.RowScale.ofBits_shli (by omega : 254 - Cert.RowScale.field (Cert.RowScale.amax (fun l => y (ix2 t l))) ≤ 254), ← (expo_row y t).2]
  unfold k0_pay349 codesG k0_pay332
  pointwise []

/-- The block of codes, -/
def codeS (x2 : S1x48x128x256.Idx → BitVec 32) (w : S48x512x2x256.Idx → EReal) (t : Fin 256) (h : Fin 8) (l : Fin 128) : EReal :=
  Cert.RowScale.code (fun l => rowSum x2 w t ⟨128 * h.val + l.val, by omega⟩) l
/-- and of their scales. -/
def scaleS (x2 : S1x48x128x256.Idx → BitVec 32) (w : S48x512x2x256.Idx → EReal) (t : Fin 256) (h : Fin 8) : EReal :=
  Cert.RowScale.scale (fun l => rowSum x2 w t ⟨128 * h.val + l.val, by omega⟩)

theorem head_code (half : ℕ) (hh : half < 2) (j : ℕ) (hj : j < 4) (hw : S256x512.Slices ![0, 128 * j] S256x128) (h : Fin 8) (he : h.val = 4 * half + j) (t : Fin 256) (l : Fin 128) :
    k0_pay349 (codesG (headG arg2 arg9 X2 G9 half hh (128 * j) hw)) (ix3 t 0 l) = codeS (arg2.view.read (Elt Ideal) X2) (arg9.view.read (Elt Ideal) G9) t h l := by
  rw [code_at]
  unfold codeS
  congr 1
  funext x
  rw [head_at _ _ _ _ _ _ _ _ (by omega)]
  congr 1
  exact Fin.ext (by show 512 * half + (128 * j + x.val) = 128 * h.val + x.val; omega)

theorem head_scale (half : ℕ) (hh : half < 2) (j : ℕ) (hj : j < 4) (hw : S256x512.Slices ![0, 128 * j] S256x128) (h : Fin 8) (he : h.val = 4 * half + j) (t : Fin 256) :
    k0_pay353 (scaleG (headG arg2 arg9 X2 G9 half hh (128 * j) hw)) (ix3 0 0 t) = scaleS (arg2.view.read (Elt Ideal) X2) (arg9.view.read (Elt Ideal) G9) t h := by
  rw [scale_at]
  unfold scaleS
  congr 1
  funext x
  rw [head_at _ _ _ _ _ _ _ _ (by omega)]
  congr 1
  exact Fin.ext (by show 512 * half + (128 * j + x.val) = 128 * h.val + x.val; omega)

/-- One head written among four, at an element. -/
theorem updG_at (old : S256x4x128.Idx → EReal) (y : FVec Ideal S256x128 .f32) (j : ℕ) (hs : S256x4x128.Slices ![0, j, 0] S256x1x128) (t : Fin 256) (k : Fin 4) (l : Fin 128) :
    updG (F := Ideal) old y j hs (ix3 t k l) = if k.val = j then k0_pay349 (codesG y) (ix3 t 0 l) else old (ix3 t k l) := by
  unfold updG
  rw [updateSlice_apply]
  by_cases h : k.val = j
  · rw [if_pos h, dif_pos]
    · congr 1
      funext a
      match a with
      | ⟨0, _⟩ => exact Fin.ext (by show t.val - 0 = t.val; omega)
      | ⟨1, _⟩ => exact Fin.ext (by show k.val - j = 0; omega)
      | ⟨2, _⟩ => exact Fin.ext (by show l.val - 0 = l.val; omega)
    · intro a
      match a with
      | ⟨0, _⟩ => exact ⟨Nat.zero_le _, by show t.val < 0 + 256; omega⟩
      | ⟨1, _⟩ => exact ⟨by show j ≤ k.val; omega, by show k.val < j + 1; omega⟩
      | ⟨2, _⟩ => exact ⟨Nat.zero_le _, by show l.val < 0 + 128; omega⟩
  · rw [if_neg h, dif_neg]
    intro hin
    have h1 := hin ⟨1, by decide⟩
    have h2 : j ≤ k.val ∧ k.val < j + 1 := h1
    omega

/-- Reading back the pieces under the last one stored. -/
theorem cov_head (arg12 : Memref sig .tc .vmem S256x8x128 .fp8e4m3) (r : Rect S256x8x128) (w : r.shape.Idx → Elt Ideal .fp8e4m3) (L : List (View.Piece (Elt Ideal) S256x8x128 .fp8e4m3)) (x : r.shape.Idx) :
    View.readCov (Val := Elt Ideal) arg12.view (⟨r, w⟩ :: L) r.toLoadRect x = w x := by
  unfold View.readCov
  rw [View.readAt_apply]
  exact View.read_writes_cons_hit _ _ _ _ _ _ _ rfl

/-- Four heads one after the other. -/
def fourG (old : S256x4x128.Idx → EReal) (y0 y1 y2 y3 : FVec Ideal S256x128 .f32) : S256x4x128.Idx → EReal :=
  updG (F := Ideal) (updG (F := Ideal) (updG (F := Ideal) (updG (F := Ideal) old y0 0 slices_S256x4x128_S256x1x128_0_0_0) y1 1 slices_S256x4x128_S256x1x128_0_1_0) y2 2 slices_S256x4x128_S256x1x128_0_2_0) y3 3 slices_S256x4x128_S256x1x128_0_3_0

theorem fourG_at (old : S256x4x128.Idx → EReal) (half : ℕ) (hh : half < 2) (t : Fin 256) (k : Fin 4) (l : Fin 128) (h : Fin 8) (he : h.val = 4 * half + k.val) :
    fourG old (headG arg2 arg9 X2 G9 half hh 0 slices_S256x512_o0_0_S256x128) (headG arg2 arg9 X2 G9 half hh 128 slices_S256x512_o0_128_S256x128)
      (headG arg2 arg9 X2 G9 half hh 256 slices_S256x512_o0_256_S256x128) (headG arg2 arg9 X2 G9 half hh 384 slices_S256x512_o0_384_S256x128) (ix3 t k l)
      = codeS (arg2.view.read (Elt Ideal) X2) (arg9.view.read (Elt Ideal) G9) t h l := by
  unfold fourG
  rw [updG_at, updG_at, updG_at, updG_at]
  have hk := k.isLt
  by_cases h3 : k.val = 3
  · rw [if_pos h3]; exact head_code arg2 arg9 X2 G9 half hh 3 (by omega) _ h (by omega) t l
  · rw [if_neg h3]
    by_cases h2 : k.val = 2
    · rw [if_pos h2]; exact head_code arg2 arg9 X2 G9 half hh 2 (by omega) _ h (by omega) t l
    · rw [if_neg h2]
      by_cases h1 : k.val = 1
      · rw [if_pos h1]; exact head_code arg2 arg9 X2 G9 half hh 1 (by omega) _ h (by omega) t l
      · rw [if_neg h1, if_pos (by omega)]; exact head_code arg2 arg9 X2 G9 half hh 0 (by omega) _ h (by omega) t l

theorem cov_eq (arg12 : Memref sig .tc .vmem S256x8x128 .fp8e4m3) (r : Rect S256x8x128) (w : r.shape.Idx → Elt Ideal .fp8e4m3) (L : List (View.Piece (Elt Ideal) S256x8x128 .fp8e4m3)) :
    View.readCov (Val := Elt Ideal) arg12.view (⟨r, w⟩ :: L) r.toLoadRect = w := funext fun x => cov_head arg12 r w L x

theorem st_lo : st4 (F := Ideal) arg2 arg9 arg12 X2 G9 X12 = ⟨rectLo, fourG (View.readAt (Elt Ideal) arg12.view rectLo.toLoadRect X12) (headG arg2 arg9 X2 G9 0 (by decide) 0 slices_S256x512_o0_0_S256x128) (headG arg2 arg9 X2 G9 0 (by decide) 128 slices_S256x512_o0_128_S256x128) (headG arg2 arg9 X2 G9 0 (by decide) 256 slices_S256x512_o0_256_S256x128) (headG arg2 arg9 X2 G9 0 (by decide) 384 slices_S256x512_o0_384_S256x128)⟩ :: st3 arg2 arg9 arg12 X2 G9 X12 := by
  have e1 : View.readCov (Val := Elt Ideal) arg12.view (st1 arg2 arg9 arg12 X2 G9 X12) rectLo.toLoadRect = updG (F := Ideal) (View.readAt (Elt Ideal) arg12.view rectLo.toLoadRect X12) (headG arg2 arg9 X2 G9 0 (by decide) 0 slices_S256x512_o0_0_S256x128) 0 slices_S256x4x128_S256x1x128_0_0_0 := (cov_eq arg12 rectLo _ _)
  have e2 : View.readCov (Val := Elt Ideal) arg12.view (st2 arg2 arg9 arg12 X2 G9 X12) rectLo.toLoadRect = updG (F := Ideal) (updG (F := Ideal) (View.readAt (Elt Ideal) arg12.view rectLo.toLoadRect X12) (headG arg2 arg9 X2 G9 0 (by decide) 0 slices_S256x512_o0_0_S256x128) 0 slices_S256x4x128_S256x1x128_0_0_0) (headG arg2 arg9 X2 G9 0 (by decide) 128 slices_S256x512_o0_128_S256x128) 1 slices_S256x4x128_S256x1x128_0_1_0 := (cov_eq arg12 rectLo _ _).trans (by rw [e1])
  have e3 : View.readCov (Val := Elt Ideal) arg12.view (st3 arg2 arg9 arg12 X2 G9 X12) rectLo.toLoadRect = updG (F := Ideal) (updG (F := Ideal) (updG (F := Ideal) (View.readAt (Elt Ideal) arg12.view rectLo.toLoadRect X12) (headG arg2 arg9 X2 G9 0 (by decide) 0 slices_S256x512_o0_0_S256x128) 0 slices_S256x4x128_S256x1x128_0_0_0) (headG arg2 arg9 X2 G9 0 (by decide) 128 slices_S256x512_o0_128_S256x128) 1 slices_S256x4x128_S256x1x128_0_1_0) (headG arg2 arg9 X2 G9 0 (by decide) 256 slices_S256x512_o0_256_S256x128) 2 slices_S256x4x128_S256x1x128_0_2_0 := (cov_eq arg12 rectLo _ _).trans (by rw [e2])
  unfold st4 fourG
  rw [e3]

theorem st_hi : st8 (F := Ideal) arg2 arg9 arg12 X2 G9 X12 = ⟨rectHi, fourG (View.readAt (Elt Ideal) arg12.view rectHi.toLoadRect X12) (headG arg2 arg9 X2 G9 1 (by decide) 0 slices_S256x512_o0_0_S256x128) (headG arg2 arg9 X2 G9 1 (by decide) 128 slices_S256x512_o0_128_S256x128) (headG arg2 arg9 X2 G9 1 (by decide) 256 slices_S256x512_o0_256_S256x128) (headG arg2 arg9 X2 G9 1 (by decide) 384 slices_S256x512_o0_384_S256x128)⟩ :: st7 arg2 arg9 arg12 X2 G9 X12 := by
  have e1 : View.readCov (Val := Elt Ideal) arg12.view (st5 arg2 arg9 arg12 X2 G9 X12) rectHi.toLoadRect = updG (F := Ideal) (View.readAt (Elt Ideal) arg12.view rectHi.toLoadRect X12) (headG arg2 arg9 X2 G9 1 (by decide) 0 slices_S256x512_o0_0_S256x128) 0 slices_S256x4x128_S256x1x128_0_0_0 := (cov_eq arg12 rectHi _ _)
  have e2 : View.readCov (Val := Elt Ideal) arg12.view (st6 arg2 arg9 arg12 X2 G9 X12) rectHi.toLoadRect = updG (F := Ideal) (updG (F := Ideal) (View.readAt (Elt Ideal) arg12.view rectHi.toLoadRect X12) (headG arg2 arg9 X2 G9 1 (by decide) 0 slices_S256x512_o0_0_S256x128) 0 slices_S256x4x128_S256x1x128_0_0_0) (headG arg2 arg9 X2 G9 1 (by decide) 128 slices_S256x512_o0_128_S256x128) 1 slices_S256x4x128_S256x1x128_0_1_0 := (cov_eq arg12 rectHi _ _).trans (by rw [e1])
  have e3 : View.readCov (Val := Elt Ideal) arg12.view (st7 arg2 arg9 arg12 X2 G9 X12) rectHi.toLoadRect = updG (F := Ideal) (updG (F := Ideal) (updG (F := Ideal) (View.readAt (Elt Ideal) arg12.view rectHi.toLoadRect X12) (headG arg2 arg9 X2 G9 1 (by decide) 0 slices_S256x512_o0_0_S256x128) 0 slices_S256x4x128_S256x1x128_0_0_0) (headG arg2 arg9 X2 G9 1 (by decide) 128 slices_S256x512_o0_128_S256x128) 1 slices_S256x4x128_S256x1x128_0_1_0) (headG arg2 arg9 X2 G9 1 (by decide) 256 slices_S256x512_o0_256_S256x128) 2 slices_S256x4x128_S256x1x128_0_2_0 := (cov_eq arg12 rectHi _ _).trans (by rw [e2])
  unfold st8 fourG
  rw [e3]

/-- The staged codes, all stored, at an element. -/
theorem staged_at (t : Fin 256) (h : Fin 8) (l : Fin 128) :
    arg12.view.read (Elt Ideal) (arg12.view.writes (Elt Ideal) arg12.view.junk (st8 arg2 arg9 arg12 X2 G9 X12)) (ix3 t h l) = codeS (arg2.view.read (Elt Ideal) X2) (arg9.view.read (Elt Ideal) G9) t h l := by
  by_cases hh : 4 ≤ h.val
  · rw [st_hi, View.read_writes_cons_hit_of_coords _ _ _ _ _ (ix3 t ⟨h.val - 4, by omega⟩ l)]
    · exact fourG_at arg2 arg9 X2 G9 _ 1 (by decide) t ⟨h.val - 4, by omega⟩ l h (by show h.val = 4 * 1 + (h.val - 4); omega)
    · intro a
      match a with
      | ⟨0, _⟩ => show t.val = 0 + 1 * t.val; omega
      | ⟨1, _⟩ => show h.val = 4 + 1 * (h.val - 4); omega
      | ⟨2, _⟩ => show l.val = 0 + 1 * l.val; omega
  · have miss : ∀ w (L : List (View.Piece (Elt Ideal) S256x8x128 .fp8e4m3)), arg12.view.read (Elt Ideal) (arg12.view.writes (Elt Ideal) arg12.view.junk (⟨rectHi, w⟩ :: L)) (ix3 t h l)
        = arg12.view.read (Elt Ideal) (arg12.view.writes (Elt Ideal) arg12.view.junk L) (ix3 t h l) := by
      intro w L
      exact View.read_writes_cons_miss_of_axis _ _ _ _ _ ⟨1, by decide⟩ 4 4 rfl rfl rfl (.inl (by show h.val < 4; omega))
    unfold st8
    rw [miss]
    unfold st7
    rw [miss]
    unfold st6
    rw [miss]
    unfold st5
    rw [miss, st_lo, View.read_writes_cons_hit_of_coords _ _ _ _ _ (ix3 t ⟨h.val, by omega⟩ l)]
    · exact fourG_at arg2 arg9 X2 G9 _ 0 (by decide) t ⟨h.val, by omega⟩ l h (by show h.val = 4 * 0 + h.val; omega)
    · intro a
      match a with
      | ⟨0, _⟩ => show t.val = 0 + 1 * t.val; omega
      | ⟨1, _⟩ => show h.val = 0 + 1 * h.val; omega
      | ⟨2, _⟩ => show l.val = 0 + 1 * l.val; omega

/-- The block of codes after the body, whatever it and the staged codes held before. -/
theorem out_val (X7 : BufTy.Contents (Elt Ideal) arg7.view.ty) :
    arg7.view.read (Elt Ideal) (outP (F := Ideal) i arg2 harg2 arg3 harg3 arg4 harg4 arg6 harg6 arg7 harg7 arg8 harg8 arg9 harg9 arg12 harg12 X2 G9 X3 X4 X12 c X7)
      = fun y => codeS (arg2.view.read (Elt Ideal) X2) (arg9.view.read (Elt Ideal) G9) (y 0) (y 1) (y 2) := by
  unfold outP
  rw [tail_codes]
  funext y
  obtain ⟨a, b, d, rfl⟩ : ∃ (a : Fin 256) (b : Fin 8) (d : Fin 128), y = (ix3 a b d : S256x8x128.Idx) :=
    ⟨y 0, y 1, y 2, by funext a; match a with | ⟨0, _⟩ => rfl | ⟨1, _⟩ => rfl | ⟨2, _⟩ => rfl⟩
  rw [View.read_writes_cons_hit_of_coords _ _ _ _ _ (ix3 a b d)]
  · unfold View.readCov
    rw [View.readAt_apply]
    refine Eq.trans ?_ (staged_at arg2 arg9 arg12 X2 G9 X12 a b d)
    congr 1
    funext e
    match e with
    | ⟨0, _⟩ => exact Fin.ext (by show 0 + 1 * a.val = a.val; omega)
    | ⟨1, _⟩ => exact Fin.ext (by show 0 + 1 * b.val = b.val; omega)
    | ⟨2, _⟩ => exact Fin.ext (by show 0 + 1 * d.val = d.val; omega)
  · intro e
    match e with
    | ⟨0, _⟩ => show a.val = 0 + 1 * a.val; omega
    | ⟨1, _⟩ => show b.val = 0 + 1 * b.val; omega
    | ⟨2, _⟩ => show d.val = 0 + 1 * d.val; omega

theorem scale_piece (half : ℕ) (hh : half < 2) (j : ℕ) (hj : j < 4) (hw : S256x512.Slices ![0, 128 * j] S256x128) (h : ℕ) (he : h = 4 * half + j)
    (inb) (x : Shape.Idx ⟨3, S1x1x256.size⟩) :
    k0_pay353 (scaleG (headG arg2 arg9 X2 G9 half hh (128 * j) hw)) x
      = (fun y : S1x8x256.Idx => scaleS (arg2.view.read (Elt Ideal) X2) (arg9.view.read (Elt Ideal) G9) (y 2) (y 1)) ((Rect.unit (s := S1x8x256) ![0, h, 0] S1x1x256.size inb).emb x) := by
  obtain ⟨a, b, d, rfl⟩ : ∃ (a : Fin 1) (b : Fin 1) (d : Fin 256), x = (ix3 a b d : S1x1x256.Idx) :=
    ⟨x 0, x 1, x 2, by funext a; match a with | ⟨0, _⟩ => rfl | ⟨1, _⟩ => rfl | ⟨2, _⟩ => rfl⟩
  obtain rfl : a = 0 := Subsingleton.elim _ _
  obtain rfl : b = 0 := Subsingleton.elim _ _
  refine (head_scale arg2 arg9 X2 G9 half hh j hj hw ⟨h, by omega⟩ he d).trans ?_
  show scaleS _ _ _ _ = scaleS _ _ _ _
  congr 1
  exact Fin.ext (by show d.val = 0 + 1 * d.val; omega)

theorem scales_ok : ∀ p ∈ scalesG (F := Ideal) arg2 arg9 X2 G9, ∀ x, p.2 x = (fun y : S1x8x256.Idx => scaleS (arg2.view.read (Elt Ideal) X2) (arg9.view.read (Elt Ideal) G9) (y 2) (y 1)) (p.1.emb x) := by
  unfold scalesG
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
  · exact scale_piece arg2 arg9 X2 G9 1 (by decide) 3 (by decide) _ 7 rfl inb_S1x8x256_S1x1x256_0_7_0
  · exact scale_piece arg2 arg9 X2 G9 1 (by decide) 2 (by decide) _ 6 rfl inb_S1x8x256_S1x1x256_0_6_0
  · exact scale_piece arg2 arg9 X2 G9 1 (by decide) 1 (by decide) _ 5 rfl inb_S1x8x256_S1x1x256_0_5_0
  · exact scale_piece arg2 arg9 X2 G9 1 (by decide) 0 (by decide) _ 4 rfl inb_S1x8x256_S1x1x256_0_4_0
  · exact scale_piece arg2 arg9 X2 G9 0 (by decide) 3 (by decide) _ 3 rfl inb_S1x8x256_S1x1x256_0_3_0
  · exact scale_piece arg2 arg9 X2 G9 0 (by decide) 2 (by decide) _ 2 rfl inb_S1x8x256_S1x1x256_0_2_0
  · exact scale_piece arg2 arg9 X2 G9 0 (by decide) 1 (by decide) _ 1 rfl inb_S1x8x256_S1x1x256_0_1_0
  · exact scale_piece arg2 arg9 X2 G9 0 (by decide) 0 (by decide) _ 0 rfl inb_S1x8x256_S1x1x256_0_0_0

theorem scales_cover (y : S1x8x256.Idx) : ∃ p ∈ scalesG (F := Ideal) arg2 arg9 X2 G9, y ∈ p.1.set := by
  have l0 : (y 0).val < 1 := (y 0).isLt
  have l1 : (y 1).val < 8 := (y 1).isLt
  have l2 : (y 2).val < 256 := (y 2).isLt
  have key : ∀ r, r = (y 1).val → ∀ a : Fin 3, ∃ k, k < S1x1x256.size a ∧ (y a).val = (![0, r, 0] : Fin 3 → ℕ) a + 1 * k := by
    intro r hr a
    match a with
    | ⟨0, _⟩ => exact ⟨0, Nat.one_pos, by show (y 0).val = 0 + 1 * 0; omega⟩
    | ⟨1, _⟩ => exact ⟨0, Nat.one_pos, by show (y 1).val = r + 1 * 0; omega⟩
    | ⟨2, _⟩ => exact ⟨(y 2).val, l2, by show (y 2).val = 0 + 1 * (y 2).val; omega⟩
  have h8 : (y 1).val = 7 ∨ (y 1).val = 6 ∨ (y 1).val = 5 ∨ (y 1).val = 4 ∨ (y 1).val = 3 ∨ (y 1).val = 2 ∨ (y 1).val = 1 ∨ (y 1).val = 0 := by omega
  unfold scalesG
  rcases h8 with h | h | h | h | h | h | h | h
  · exact ⟨_, List.mem_cons_self, (LoadRect.mem_set _).2 (key 7 h.symm)⟩
  · exact ⟨_, List.mem_cons_of_mem _ List.mem_cons_self, (LoadRect.mem_set _).2 (key 6 h.symm)⟩
  · exact ⟨_, List.mem_cons_of_mem _ (List.mem_cons_of_mem _ List.mem_cons_self), (LoadRect.mem_set _).2 (key 5 h.symm)⟩
  · exact ⟨_, List.mem_cons_of_mem _ (List.mem_cons_of_mem _ (List.mem_cons_of_mem _ List.mem_cons_self)), (LoadRect.mem_set _).2 (key 4 h.symm)⟩
  · exact ⟨_, List.mem_cons_of_mem _ (List.mem_cons_of_mem _ (List.mem_cons_of_mem _ (List.mem_cons_of_mem _ List.mem_cons_self))), (LoadRect.mem_set _).2 (key 3 h.symm)⟩
  · exact ⟨_, List.mem_cons_of_mem _ (List.mem_cons_of_mem _ (List.mem_cons_of_mem _ (List.mem_cons_of_mem _ (List.mem_cons_of_mem _ List.mem_cons_self)))), (LoadRect.mem_set _).2 (key 2 h.symm)⟩
  · exact ⟨_, List.mem_cons_of_mem _ (List.mem_cons_of_mem _ (List.mem_cons_of_mem _ (List.mem_cons_of_mem _ (List.mem_cons_of_mem _ (List.mem_cons_of_mem _ List.mem_cons_self))))), (LoadRect.mem_set _).2 (key 1 h.symm)⟩
  · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), (LoadRect.mem_set _).2 (key 0 h.symm)⟩

/-- The block of scales after the body. -/
theorem scale_val (X8 : BufTy.Contents (Elt Ideal) arg8.view.ty) :
    arg8.view.read (Elt Ideal) (outS (F := Ideal) i arg2 harg2 arg3 harg3 arg4 harg4 arg6 harg6 arg7 harg7 arg8 harg8 arg9 harg9 arg12 harg12 X2 G9 X3 X4 X12 c X8)
      = fun y => scaleS (arg2.view.read (Elt Ideal) X2) (arg9.view.read (Elt Ideal) G9) (y 2) (y 1) := by
  unfold outS
  rw [tail_scales]
  funext y
  exact View.read_writes_apply_of_pieces (Val := Elt Ideal) (e := .f32) _ _ (fun y : S1x8x256.Idx => scaleS (arg2.view.read (Elt Ideal) X2) (arg9.view.read (Elt Ideal) G9) (y 2) (y 1)) _ (scales_ok arg2 arg9 X2 G9) y (scales_cover arg2 arg9 X2 G9 y)

end Values
end Cert.KernelVIdeal.Hand
-- ==== Proof.KernelVIdealPacked.lean ====
/-
  What the packed tile of `KernelVIdeal` holds once its six transfers have landed: the tile's rows of the packed weights.
-/
module

public import proofs.«01_k».proof.Proof.KernelVIdealStream
public import Idealize.ShloMosaic.Lib.Pointwise
public import Idealize.ShloMosaic.Lib.Pipeline.ValueKit

@[expose] public section

set_option maxRecDepth 65536

noncomputable section

namespace Cert.KernelVIdeal.Hand

open Cert.KernelVIdeal.Gen Cert.KernelVIdeal.Facts Cert.KernelVIdeal
open Idealize.ShloMosaic Idealize.ShloMosaic.TcCoe Idealize.ShloMosaic.Pointwise

variable (c : Dev nD)

/-- A window of the packed tile, read: row `x0`, byte `x1` of the word, group `x2` of the window's groups. -/
theorem win_read (a : Fin 2) (b : Fin 3) (h) (X : HbBuf0 (F := Ideal) c scM0_1) (x0 : Fin 1024) (x1 : Fin 8) (x2 : Fin 128) :
    (mkWin a.val b.val h).view.read (Elt Ideal) X (ix3 x0 x1 x2) = scM0_1.view.read (Elt Ideal) X (ix5 a b x0 x1 x2) := by
  have hc : (⟨5, S1x1x1024x8x128.size⟩ : Shape).ShapeCasts S1024x8x128 := by decide
  refine (congrFun (Memref.read_squeeze_slice (Val := Elt Ideal) scM0_1 (Rect.unit (s := S2x3x1024x8x128) ![a.val, b.val, 0, 0, 0] S1x1x1024x8x128.size h) (fun _ => rfl) squeezes_S1x1x1024x8x128_S1024x8x128 hc X) _).trans ?_
  have e : ∀ v : S1x1x1024x8x128.Idx → Elt Ideal .i8, shapeCast S1024x8x128 v hc (ix3 x0 x1 x2) = v (ix5 0 0 x0 x1 x2) := by
    intro v; pointwise []
  refine (e _).trans ?_
  rw [View.readAt_apply]
  refine congrArg (scM0_1.view.read (Elt Ideal) X) (funext fun d => Fin.ext ?_)
  fin_cases d <;> simp [Rect.toLoadRect, LoadRect.idx, ix5]

/-- A block of the packed weights, read. -/
theorem src_read (W0 : HbBuf0 (F := Ideal) c hbM0_0) (o : Fin 3 → ℕ) (h : Fits o) (x : S1024x8x128.Idx) (y : S2048x16x384.Idx)
    (hy : ∀ a, (y a).val = o a + (x a).val) : (srcO o h).view.read (Elt Ideal) W0 x = hbM0_0.view.read (Elt Ideal) W0 y := by
  show hbM0_0.view.read (Elt Ideal) W0 ((Rect.unit (s := S2048x16x384) o S1024x8x128.size h).emb x) = _
  refine congrArg (hbM0_0.view.read (Elt Ideal) W0) (funext fun d => Fin.ext ?_)
  rw [hy d]
  exact ValueKit.rect_emb_unit_val (s := S2048x16x384) o S1024x8x128.size h x d

/-- A window whose elements are a landed block's reads that block. -/
theorem win_landed (W0 : HbBuf0 (F := Ideal) c hbM0_0) (a : Fin 2) (b : Fin 3) (h) (o : Fin 3 → ℕ) (ho : Fits o) (X : HbBuf0 (F := Ideal) c scM0_1)
    (hX : ∀ i ∈ (Rect.unit (s := S2x3x1024x8x128) ![a.val, b.val, 0, 0, 0] S1x1x1024x8x128.size h).set, X i = landed c W0 (mkWin a.val b.val h) o ho i)
    (x : S1024x8x128.Idx) : (mkWin a.val b.val h).view.read (Elt Ideal) X x = (srcO o ho).view.read (Elt Ideal) W0 x := by
  have e := congrFun (View.read_writes_whole (Val := Elt Ideal) (mkWin a.val b.val h).view (mkWin a.val b.val h).view.junk ((srcO o ho).view.read (Elt Ideal) W0)) x
  refine Eq.trans ?_ e
  have hm : (mkWin a.val b.val h).view.emb x ∈ (Rect.unit (s := S2x3x1024x8x128) ![a.val, b.val, 0, 0, 0] S1x1x1024x8x128.size h).set := by
    rw [← mkWin_set a.val b.val h]; exact View.emb_mem_set _ _
  exact congrArg _ (hX _ hm)

/-- The packed tile `b`: word, group of scales, row, byte of the word, group in the group of scales. -/
def packedB (W0 : HbBuf0 (F := Ideal) c hbM0_0) (b : Fin 2) : S2x3x1024x8x128.Idx → BitVec 8 := fun y =>
  hbM0_0.view.read (Elt Ideal) W0 (ix3 ⟨1024 * b.val + (y 2).val, by have := b.isLt; have : (y 2).val < 1024 := (y 2).isLt; omega⟩
    ⟨8 * (y 0).val + (y 3).val, by have : (y 0).val < 2 := (y 0).isLt; have : (y 3).val < 8 := (y 3).isLt; omega⟩
    ⟨128 * (y 1).val + (y 4).val, by have : (y 1).val < 3 := (y 1).isLt; have : (y 4).val < 128 := (y 4).isLt; omega⟩)

theorem packed_at (W0 : HbBuf0 (F := Ideal) c hbM0_0) (t : Fin 2) (a : Fin 2) (b : Fin 3) (h) (ho : Fits (offB t.val (8 * a.val) (128 * b.val))) (X : HbBuf0 (F := Ideal) c scM0_1)
    (hX : ∀ i ∈ (Rect.unit (s := S2x3x1024x8x128) ![a.val, b.val, 0, 0, 0] S1x1x1024x8x128.size h).set, X i = landed c W0 (mkWin a.val b.val h) _ ho i)
    (x0 : Fin 1024) (x1 : Fin 8) (x2 : Fin 128) :
    scM0_1.view.read (Elt Ideal) X (ix5 a b x0 x1 x2) = packedB c W0 t (ix5 a b x0 x1 x2) := by
  rw [← win_read c a b h X, win_landed c W0 a b h _ ho X hX]
  refine src_read c W0 _ ho _ _ fun d => ?_
  fin_cases d <;> rfl

/-- Once tile `b`'s transfers have landed, the packed tile is tile `b`. -/
theorem holds_packed (W0 : HbBuf0 (F := Ideal) c hbM0_0) (t : Fin 2) (X : HbBuf0 (F := Ideal) c scM0_1) (hX : HoldsB c W0 t X) :
    scM0_1.view.read (Elt Ideal) X = packedB c W0 t := by
  obtain ⟨h0, h1, h2, h3, h4, h5⟩ := hX
  funext y
  obtain ⟨a, b, x0, x1, x2, rfl⟩ : ∃ (a : Fin 2) (b : Fin 3) (x0 : Fin 1024) (x1 : Fin 8) (x2 : Fin 128), y = (ix5 a b x0 x1 x2 : S2x3x1024x8x128.Idx) :=
    ⟨y 0, y 1, y 2, y 3, y 4, by funext d; match d with | ⟨0, _⟩ => rfl | ⟨1, _⟩ => rfl | ⟨2, _⟩ => rfl | ⟨3, _⟩ => rfl | ⟨4, _⟩ => rfl⟩
  match a, b with
  | ⟨0, _⟩, ⟨0, _⟩ => exact packed_at c W0 t 0 0 _ _ X h0 x0 x1 x2
  | ⟨0, _⟩, ⟨1, _⟩ => exact packed_at c W0 t 0 1 _ _ X h1 x0 x1 x2
  | ⟨0, _⟩, ⟨2, _⟩ => exact packed_at c W0 t 0 2 _ _ X h2 x0 x1 x2
  | ⟨1, _⟩, ⟨0, _⟩ => exact packed_at c W0 t 1 0 _ _ X h3 x0 x1 x2
  | ⟨1, _⟩, ⟨1, _⟩ => exact packed_at c W0 t 1 1 _ _ X h4 x0 x1 x2
  | ⟨1, _⟩, ⟨2, _⟩ => exact packed_at c W0 t 1 2 _ _ X h5 x0 x1 x2

end Cert.KernelVIdeal.Hand

end
-- ==== Proof.KernelVIdealValue.lean ====
/-
  The run of `KernelVIdeal` with its results named: at every point the decoded tile holds the point's tile of weights, and the
  results' window is left at the rotated sums of products.
-/
module

public import proofs.«01_k».proof.Proof.KernelVIdealFrame
public import proofs.«01_k».proof.Proof.KernelVIdealDecoded
public import proofs.«01_k».proof.Proof.KernelVIdealTailValue
public import proofs.«01_k».proof.Proof.KernelVIdealPacked
public import Idealize.ShloMosaic.Lib.Pipeline.ValueKit

@[expose] public section

set_option maxRecDepth 65536

noncomputable section

namespace Cert.KernelVIdeal.Val

open Cert.KernelVIdeal.Gen Cert.KernelVIdeal.Hand Cert.KernelVIdeal.Facts Cert.KernelVIdeal
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-! ## The decoded tile of a point -/

/-- The scales of tile `b`. -/
def scalesB (c : Dev nD) (b : Fin 2) : S1024x384.Idx → EReal := fun y =>
  V m c main_arg4 (ix2 ⟨1024 * b.val + (y 0).val, by have := b.isLt; have : (y 0).val < 1024 := (y 0).isLt; omega⟩ ⟨(y 1).val, (y 1).isLt⟩ : S2048x384.Idx)

theorem index3 : ∀ t : Fin cfg0.N, win0_3.index t = ![t.val / 24, 0] :=
  (by decide +kernel : ∀ t : Fin grid0.N, win0_3.index t = ![t.val / 24, 0])

/-- The block of scales of a point is its tile's. -/
theorem iblk3 (c : Dev nD) (t : Fin cfg0.N) : iblk m c 3 t = scalesB m c (tileOf t) := by
  funext y
  unfold scalesB
  blk_simp [iblk]
  refine congrArg (V m c main_arg4) ?_
  blk_ext [index3]

/-- The decoded weights of tile `b`. -/
def weightsB (c : Dev nD) (b : Fin 2) : S48x512x2x256.Idx → EReal := wTile (packedB c (V m c main_v0) b) (scalesB m c b)

/-- What a point's codes are, -/
def resAt (c : Dev nD) (t : Fin cfg0.N) : S256x8x128.Idx → EReal := fun y => codeS (iblk m c 0 t) (weightsB m c (tileOf t)) (y 0) (y 1) (y 2)
/-- and their scales. -/
def resS (c : Dev nD) (t : Fin cfg0.N) : S1x8x256.Idx → EReal := fun y => scaleS (iblk m c 0 t) (weightsB m c (tileOf t)) (y 2) (y 1)

/-! ## The pipeline's proof data -/

/-- The decoded tile before point `k` is that of the point before. -/
def Decoded (c : Dev nD) (k : ℕ) (d : S48x512x2x256.Idx → EReal) : Prop := ∀ t : Fin cfg0.N, t.val + 1 = k → d = weightsB m c (tileOf t)

def PhiV (c : Dev nD) (k : ℕ) : sProp 𝕄 := iprop((∃ d, ⌜Decoded m c k d⌝ ∗ owns (c : Thread nD τ) scM0_0 fullShare d) ∗ (∃ d, owns (c : Thread nD τ) scM0_2 fullShare d) ∗ (∃ r, prngReg c r) ∗ streamAt c (V m c main_v0) (tiles k))

/-- The proof data: each input's buffer at its block, the results at the point's, nothing owed, full shares. -/
def datsV (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => resAt m c t
    | ⟨5, h⟩ => resS m c t
  Φ t := PhiV m c t.val
  q _ := fullShare
  owed _ := 0

theorem A_eq (c : Dev nD) (w : Fin cfg0.W) : (datsV m 0 c).A w = V m c (Pipeline.arrRef spec0 w) := by
  dsimp only [datsV]
theorem PhiV_castSucc (c : Dev nD) (t : Fin cfg0.N) : (datsV m 0 c).Φ t.castSucc = PhiV m c t.val := by
  dsimp only [datsV]; simp only [Fin.coe_castSucc]
theorem PhiV_succ (c : Dev nD) (t : Fin cfg0.N) : (datsV m 0 c).Φ t.succ = PhiV m c (t.val + 1) := by
  dsimp only [datsV]; simp only [Fin.val_succ]
theorem after0_0 (c : Dev nD) (t : Fin cfg0.N) : (datsV m 0 c).after 0 t = iblk m c 0 t := by dsimp only [datsV]
theorem after0_1 (c : Dev nD) (t : Fin cfg0.N) : (datsV m 0 c).after 1 t = iblk m c 1 t := by dsimp only [datsV]
theorem after0_2 (c : Dev nD) (t : Fin cfg0.N) : (datsV m 0 c).after 2 t = iblk m c 2 t := by dsimp only [datsV]
theorem after0_3 (c : Dev nD) (t : Fin cfg0.N) : (datsV m 0 c).after 3 t = iblk m c 3 t := by dsimp only [datsV]
theorem after0_4 (c : Dev nD) (t : Fin cfg0.N) : (datsV m 0 c).after 4 t = resAt m c t := by dsimp only [datsV]
theorem after0_5 (c : Dev nD) (t : Fin cfg0.N) : (datsV m 0 c).after 5 t = resS m c t := by dsimp only [datsV]
theorem before0_0 (c : Dev nD) (t : Fin cfg0.N) (d) : (datsV m 0 c).before 0 t d = iblk m c 0 t :=
  before0_0_of m (datsV m 0 c) (A_eq m c 0) (after0_0 m c) t d
theorem before0_1 (c : Dev nD) (t : Fin cfg0.N) (d) : (datsV m 0 c).before 1 t d = iblk m c 1 t :=
  before0_1_of m (datsV m 0 c) (A_eq m c 1) (after0_1 m c) t d
theorem before0_2 (c : Dev nD) (t : Fin cfg0.N) (d) : (datsV m 0 c).before 2 t d = iblk m c 2 t :=
  before0_2_of m (datsV m 0 c) (A_eq m c 2) (after0_2 m c) t d
theorem before0_3 (c : Dev nD) (t : Fin cfg0.N) (d) : (datsV m 0 c).before 3 t d = iblk m c 3 t :=
  before0_3_of m (datsV m 0 c) (A_eq m c 3) (after0_3 m c) t d

/-! ## The body obligation -/

/-- The decoded tile after a point's first part is the point's: decoded there at the first token block, kept otherwise. -/
theorem step_decoded (c : Dev nD) (t : Fin cfg0.N)
    (arg2 : Memref sig .tc .vmem S1x48x128x256 .i32) (harg2 : arg2.IsWhole) (arg3 : Memref sig .tc .vmem S256x128 .f32) (harg3 : arg3.IsWhole)
    (arg4 : Memref sig .tc .vmem S256x128 .f32) (harg4 : arg4.IsWhole)
    (arg6 : Memref sig .tc .vmem S1024x384 .bf16) (harg6 : arg6.IsWhole) (arg7 : Memref sig .tc .vmem S256x8x128 .fp8e4m3) (harg7 : arg7.IsWhole) (arg8 : Memref sig .tc .vmem S1x8x256 .f32) (harg8 : arg8.IsWhole)
    (arg9 : Memref sig .tc .vmem S48x512x2x256 .bf16) (harg9 : arg9.IsWhole) (arg12 : Memref sig .tc .vmem S256x8x128 .fp8e4m3) (harg12 : arg12.IsWhole)
    (X6 : BufTy.Contents (Elt Ideal) arg6.view.ty) (G9 G : BufTy.Contents (Elt Ideal) arg9.view.ty)
    (h6 : arg6.view.read (Elt Ideal) X6 = iblk m c 3 t) (h8 : Decoded m c t.val (arg9.view.read (Elt Ideal) G9))
    (hG : Step c (V m c main_v0) arg2 harg2 arg3 harg3 arg4 harg4 arg6 harg6 arg7 harg7 arg8 harg8 arg9 harg9 arg12 harg12 X6 G9 t G) :
    arg9.view.read (Elt Ideal) G = weightsB m c (tileOf t) := by
  unfold Step at hG
  split at hG
  · obtain ⟨hc1, X10, hX10, rfl⟩ := hG
    refine (read_pieces arg6 scM0_1 X6 X10 c (grid0.coords t) arg2 harg2 arg3 harg3 arg4 harg4 (Memref.whole main_v0) (Memref.isWhole_whole _) harg6 arg7 harg7 arg8 harg8 arg9 harg9 (Memref.isWhole_whole _) cc0_scratch2 arg12 harg12 hc1 G9).trans ?_
    rw [holds_packed c (V m c main_v0) (tileOf t) X10 hX10, h6, iblk3]
    rfl
  · rename_i hne
    subst hG
    have hlt := t.isLt
    refine (h8 ⟨t.val - 1, by omega⟩ (by show t.val - 1 + 1 = t.val; omega)).trans ?_
    refine congrArg (weightsB m c) (Fin.ext ?_)
    show (t.val - 1) / 24 = t.val / 24
    omega

/-- The codes' window after a point's last part, over a decoded tile that is the point's. -/
theorem out_read (c : Dev nD) (t : Fin cfg0.N)
    (arg2 : Memref sig .tc .vmem S1x48x128x256 .i32) (harg2 : arg2.IsWhole) (arg3 : Memref sig .tc .vmem S256x128 .f32) (harg3 : arg3.IsWhole)
    (arg4 : Memref sig .tc .vmem S256x128 .f32) (harg4 : arg4.IsWhole)
    (arg6 : Memref sig .tc .vmem S1024x384 .bf16) (harg6 : arg6.IsWhole) (arg7 : Memref sig .tc .vmem S256x8x128 .fp8e4m3) (harg7 : arg7.IsWhole) (arg8 : Memref sig .tc .vmem S1x8x256 .f32) (harg8 : arg8.IsWhole)
    (arg9 : Memref sig .tc .vmem S48x512x2x256 .bf16) (harg9 : arg9.IsWhole) (arg12 : Memref sig .tc .vmem S256x8x128 .fp8e4m3) (harg12 : arg12.IsWhole)
    (X2 : BufTy.Contents (Elt Ideal) arg2.view.ty) (G : BufTy.Contents (Elt Ideal) arg9.view.ty)
    (X3 : BufTy.Contents (Elt Ideal) arg3.view.ty) (X4 : BufTy.Contents (Elt Ideal) arg4.view.ty) (X12 : BufTy.Contents (Elt Ideal) arg12.view.ty)
    (X7 : BufTy.Contents (Elt Ideal) arg7.view.ty)
    (h2 : arg2.view.read (Elt Ideal) X2 = iblk m c 0 t) (hr : arg9.view.read (Elt Ideal) G = weightsB m c (tileOf t)) :
    arg7.view.read (Elt Ideal) (outP (F := Ideal) (grid0.coords t) arg2 harg2 arg3 harg3 arg4 harg4 arg6 harg6 arg7 harg7 arg8 harg8 arg9 harg9 arg12 harg12 X2 G X3 X4 X12 c X7) = resAt m c t := by
  refine (out_val (grid0.coords t) arg2 harg2 arg3 harg3 arg4 harg4 arg6 harg6 arg7 harg7 arg8 harg8 arg9 harg9 arg12 harg12 X2 G X3 X4 X12 c X7).trans ?_
  rw [h2, hr]; rfl

/-- The scales' window after a point's last part, over a decoded tile that is the point's. -/
theorem scale_read (c : Dev nD) (t : Fin cfg0.N)
    (arg2 : Memref sig .tc .vmem S1x48x128x256 .i32) (harg2 : arg2.IsWhole) (arg3 : Memref sig .tc .vmem S256x128 .f32) (harg3 : arg3.IsWhole)
    (arg4 : Memref sig .tc .vmem S256x128 .f32) (harg4 : arg4.IsWhole)
    (arg6 : Memref sig .tc .vmem S1024x384 .bf16) (harg6 : arg6.IsWhole) (arg7 : Memref sig .tc .vmem S256x8x128 .fp8e4m3) (harg7 : arg7.IsWhole) (arg8 : Memref sig .tc .vmem S1x8x256 .f32) (harg8 : arg8.IsWhole)
    (arg9 : Memref sig .tc .vmem S48x512x2x256 .bf16) (harg9 : arg9.IsWhole) (arg12 : Memref sig .tc .vmem S256x8x128 .fp8e4m3) (harg12 : arg12.IsWhole)
    (X2 : BufTy.Contents (Elt Ideal) arg2.view.ty) (G : BufTy.Contents (Elt Ideal) arg9.view.ty)
    (X3 : BufTy.Contents (Elt Ideal) arg3.view.ty) (X4 : BufTy.Contents (Elt Ideal) arg4.view.ty) (X12 : BufTy.Contents (Elt Ideal) arg12.view.ty)
    (X8 : BufTy.Contents (Elt Ideal) arg8.view.ty)
    (h2 : arg2.view.read (Elt Ideal) X2 = iblk m c 0 t) (hr : arg9.view.read (Elt Ideal) G = weightsB m c (tileOf t)) :
    arg8.view.read (Elt Ideal) (outS (F := Ideal) (grid0.coords t) arg2 harg2 arg3 harg3 arg4 harg4 arg6 harg6 arg7 harg7 arg8 harg8 arg9 harg9 arg12 harg12 X2 G X3 X4 X12 c X8) = resS m c t := by
  refine (scale_val (grid0.coords t) arg2 harg2 arg3 harg3 arg4 harg4 arg6 harg6 arg7 harg7 arg8 harg8 arg9 harg9 arg12 harg12 X2 G X3 X4 X12 c X8).trans ?_
  rw [h2, hr]; rfl

/-- What the body is called with at point `t` (the windows one by one), -/
def bodyPre (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d))
    ∗ (∃ d, owns (c : Thread nD τ) (ms0_4 t) fullShare ((datsV m 0 c).before 4 t d))
    ∗ (∃ d, owns (c : Thread nD τ) (ms0_5 t) fullShare ((datsV m 0 c).before 5 t d)))
/-- and what it returns. -/
def bodyPost (c : Dev nD) (t : Fin cfg0.N) : sProp 𝕄 :=
  iprop((datsV m 0 c).Φ t.succ ∗ (datsV m 0 c).owesAt () t.succ
    ∗ owns (c : Thread nD τ) (ms0_0 t) fullShare ((datsV m 0 c).after 0 t)
    ∗ owns (c : Thread nD τ) (ms0_1 t) fullShare ((datsV m 0 c).after 1 t)
    ∗ owns (c : Thread nD τ) (ms0_2 t) fullShare ((datsV m 0 c).after 2 t)
    ∗ owns (c : Thread nD τ) (ms0_3 t) fullShare ((datsV m 0 c).after 3 t)
    ∗ owns (c : Thread nD τ) (ms0_4 t) fullShare ((datsV m 0 c).after 4 t)
    ∗ owns (c : Thread nD τ) (ms0_5 t) fullShare ((datsV m 0 c).after 5 t))

set_option maxHeartbeats 1600000 in
/-- The body at any point: `body_all` between the blocks the windows hold. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [after0_0, after0_1, after0_2, after0_3, after0_4, after0_5]
  rw [PhiV_castSucc m c t, PhiV_succ m c t]
  unfold Dat.owesAt Pipeline.owesWithin
  rw [show (datsV m 0 c).owed t.castSucc = 0 from rfl, show (datsV m 0 c).owed t.succ = 0 from rfl]
  unfold PhiV
  iintro ⟨⟨⟨%e8, %h8, H8⟩, ⟨%e11, H11⟩, Hg, Hst⟩, ⟨%W, -, HW⟩, ⟨%d0, H0⟩, ⟨%d1, H1⟩, ⟨%d2, H2⟩, ⟨%d3, H3⟩, ⟨%d4, H4⟩, ⟨%d5, H5⟩⟩
  ihave K0 := (mem_of_owns c (ms0_0 t) (hs0_0 t) (iblk m c 0 t)) $$ H0
  ihave K1 := (mem_of_owns c (ms0_1 t) (hs0_1 t) (iblk m c 1 t)) $$ H1
  ihave K2 := (mem_of_owns c (ms0_2 t) (hs0_2 t) (iblk m c 2 t)) $$ H2
  ihave K3 := (mem_of_owns c (ms0_3 t) (hs0_3 t) (iblk m c 3 t)) $$ H3
  ihave K4 := (mem_of_owns c (ms0_4 t) (hs0_4 t) ((datsV m 0 c).before 4 t d4)) $$ H4
  ihave K5 := (mem_of_owns c (ms0_5 t) (hs0_5 t) ((datsV m 0 c).before 5 t d5)) $$ H5
  ihave K8 := (mem_of_owns c scM0_0 (Memref.isWhole_whole _) e8) $$ H8
  ihave K11 := (mem_of_owns c scM0_2 (Memref.isWhole_whole _) e11) $$ H11
  iapply (wp_wand_r Idealize.ShloMosaic.frame (wpE (defs₀ (F := Ideal)) Variants.none (c : Thread nD τ) none) Set.univ)
  isplitl [K0 K1 K2 K3 K4 K5 K8 K11 Hst HW]
  · iapply (body_all c t (V m c main_v0) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_2 (Memref.isWhole_whole _)
      ((hs0_0 t).unread (iblk m c 0 t)) ((hs0_3 t).unread (iblk m c 3 t)) ((Memref.isWhole_whole _).unread e8) ((hs0_1 t).unread (iblk m c 1 t)) ((hs0_2 t).unread (iblk m c 2 t)) ((Memref.isWhole_whole _).unread e11) W ((hs0_4 t).unread ((datsV m 0 c).before 4 t d4)) ((hs0_5 t).unread ((datsV m 0 c).before 5 t d5)))
    isplitl [K0 K3 K8 Hst HW]
    · isplitl [K0]; · iexact K0
      isplitl [K3]; · iexact K3
      isplitl [K8]; · iexact K8
      isplitl [Hst]; · iexact Hst
      iexact HW
    isplitl [K1]; · iexact K1
    isplitl [K2]; · iexact K2
    isplitl [K4]; · iexact K4
    isplitl [K5]; · iexact K5
    iexact K11
  iintro %_ ⟨%G, K0, K1, K2, K4, K5, K8, ⟨%X12, K11⟩, K3, %hG, Hst, ⟨%W', HW'⟩⟩
  have hr : scM0_0.view.read (Elt Ideal) G = weightsB m c (tileOf t) :=
    step_decoded m c t _ _ _ _ _ _ _ _ _ _ _ _ _ _ _ _ _ _ _ ((hs0_3 t).read_unread _) (by rw [(Memref.isWhole_whole cc0_scratch0).read_unread]; exact h8) hG
  isplitl [K8 K11 Hg Hst]
  · isplitl [K8]
    · iexists (weightsB m c (tileOf t))
      isplitr
      · ipureintro; intro t' ht'; rw [Fin.ext (Nat.succ.inj ht') (a := t') (b := t)]
      iapply (owns_of_mem c scM0_0 G _ hr); iexact K8
    isplitl [K11]; · iexists _; iapply (owns_of_mem c scM0_2 X12 _ rfl); iexact K11
    isplitl [Hg]; · iexact Hg
    iexact Hst
  isplitl [HW']
  · iexists W'; isplitr; · ipureintro; exact fun _ _ => Or.inl trivial
    iexact HW'
  isplitl [K0]; · iapply (owns_of_mem c (ms0_0 t) _ _ ((hs0_0 t).read_unread _)); iexact K0
  isplitl [K1]; · iapply (owns_of_mem c (ms0_1 t) _ _ ((hs0_1 t).read_unread _)); iexact K1
  isplitl [K2]; · iapply (owns_of_mem c (ms0_2 t) _ _ ((hs0_2 t).read_unread _)); iexact K2
  isplitl [K3]; · iapply (owns_of_mem c (ms0_3 t) _ _ ((hs0_3 t).read_unread _)); iexact K3
  isplitl [K4]
  · have ho := out_read m c t (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_2 (Memref.isWhole_whole _)
      ((hs0_0 t).unread (iblk m c 0 t)) G ((hs0_1 t).unread (iblk m c 1 t)) ((hs0_2 t).unread (iblk m c 2 t)) ((Memref.isWhole_whole _).unread e11) ((hs0_4 t).unread ((datsV m 0 c).before 4 t d4))
      ((hs0_0 t).read_unread _) hr
    iapply (owns_of_mem c (ms0_4 t) _ _ ho)
    iexact K4
  have hs := scale_read m c t (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_2 (Memref.isWhole_whole _)
    ((hs0_0 t).unread (iblk m c 0 t)) G ((hs0_1 t).unread (iblk m c 1 t)) ((hs0_2 t).unread (iblk m c 2 t)) ((Memref.isWhole_whole _).unread e11) ((hs0_5 t).unread ((datsV m 0 c).before 5 t d5))
    ((hs0_0 t).read_unread _) hr
  iapply (owns_of_mem c (ms0_5 t) _ _ hs)
  iexact K5

/-- The body obligation, at every point. -/
theorem body_obligation (c : Dev nD) : BodyObligation (datsV m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (datsV m 0 c).Φ 0 := by
  refine (Hand.hin m c).trans ?_
  rw [show (datsV m 0 c).Φ 0 = PhiV m c 0 from rfl, show (dats m 0 c).Φ 0 = PhiR m c 0 from rfl]
  unfold PhiV PhiR
  iintro ⟨⟨%d, H⟩, HR⟩
  isplitl [H]
  · iexists d
    isplitr; · ipureintro; intro t ht; exact absurd ht (Nat.succ_ne_zero _)
    iexact H
  iexact HR
theorem phi_forget (c : Dev nD) (k : ℕ) : PhiV m c k ⊢ PhiR m c k := by
  unfold PhiV PhiR
  iintro ⟨⟨%d, -, H⟩, HR⟩
  isplitl [H]; · iexists d; iexact H
  iexact HR
theorem hout (c : Dev nD) : (datsV m 0 c).Φ (Fin.last cfg0.N) ⊢ Pipeline.ΦD osem0 spec0 H0 (V m) c :=
  (phi_forget m c grid0.N).trans (Hand.hout m c)

/-! ## The run -/

set_option backward.isDefEq.respectTransparency.types false in
/-- The run: every array at what the proof data says of it. -/
theorem run_main : θ_run defs (onTc (τ := τ) (main (F := Ideal))) (s₀ m ρ) (Pipeline.FramePost cfgs (datsV m) 0 (V m)) :=
  Pipeline.θ_run_frame_dma (Q' := _) cfgs (datsV m) (0 : Fin 1) launch0 osem0 defs₀ Variants.none ownSemFacts0 H0 H0_sub m ρ main
    (hbody := fun c => (body_obligation m c).loose) (hshare := fun c => (datsV m 0 c).share_full fun _ => rfl)
    (howed := fun _ _ => rfl) (V := V m) (hmain := hmain m Variants.none) (hA := A_eq m) (hin := hin m) (hout := hout m)

end Cert.KernelVIdeal.Val

end
-- ==== Proof.ValueSum.lean ====
/-
  The value projection as a sum over groups and bytes, and its rows of a head over their scales.
-/
module

public import proofs.«01_k».proof.Proof.QuerySum
public import proofs.«01_k».proof.Proof.RowScale

@[expose] public section

noncomputable section

namespace Cert.ValueProj

open Idealize.ShloMosaic

variable (X : Fin 24 → Fin 48 → Fin 128 → Fin 256 → BitVec 32) (P : Fin 2048 → Fin 384 → Fin 16 → BitVec 8) (Sc : Fin 2048 → Fin 384 → EReal)

/-- The weight of column `n` in group `g`: half `h` of byte `j`, less eight, times the group's scale. -/
def weight (h : Fin 2) (n : Fin 2048) (g : Fin 384) (j : Fin 16) : EReal :=
  (((((P n g j).extractLsb' (4 * h.val) 4).toNat - 8 : ℝ) : ℝ) : EReal) * Sc n g
/-- Token `s` projected on column `n`. -/
def proj (s : Fin 6144) (n : Fin 2048) : EReal :=
  (∑ g, ∑ j, Query.act X s (Query.chunk g j) (Query.lane 0 g) * weight P Sc 0 n g j) + ∑ g, ∑ j, Query.act X s (Query.chunk g j) (Query.lane 1 g) * weight P Sc 1 n g j
/-- Column `l` of head `h`. -/
def col (h : Fin 16) (l : Fin 128) : Fin 2048 := ⟨128 * h.val + l.val, by omega⟩
/-- The projection of token `s` on head `h`. -/
def head (s : Fin 6144) (h : Fin 16) (l : Fin 128) : EReal := proj X P Sc s (col h l)
/-- Its codes, -/
def code (s : Fin 6144) (h : Fin 16) (l : Fin 128) : EReal := RowScale.code (head X P Sc s h) l
/-- and their scale. -/
def scale (s : Fin 6144) (h : Fin 16) : EReal := RowScale.scale (head X P Sc s h)

end Cert.ValueProj

end
-- ==== Proof.KernelVIdealResult.lean ====
/-
  What `KernelVIdeal` leaves in its results: the codes and the scales of `ValueSum`, of its arguments.
-/
module

public import proofs.«01_k».proof.Proof.KernelVIdealValue
public import proofs.«01_k».proof.Proof.ValueSum

@[expose] public section

set_option maxRecDepth 65536

noncomputable section

namespace Cert.KernelVIdeal.Val

open Cert.KernelVIdeal.Gen Cert.KernelVIdeal.Hand Cert.KernelVIdeal.Facts Cert.KernelVIdeal
open Idealize.ShloMosaic Idealize.ShloMosaic.TcCoe Idealize.ShloMosaic.Tactic Idealize.ShloMosaic.Pointwise
open Idealize.SL.Sem

variable (m : (ℓ : Loc nD τ sig) → Buf (Elt Ideal) ℓ) (ρ : Dev nD → PrngReg) (c : Dev nD)

/-! ## The arguments by coordinates -/

abbrev argX : Fin 24 → Fin 48 → Fin 128 → Fin 256 → BitVec 32 := fun a b d e => (m ((c.tc : Thread nD τ).loc main_arg0)) (ix4 a b d e : S24x48x128x256.Idx)
abbrev argP : Fin 2048 → Fin 384 → Fin 16 → BitVec 8 := fun a b d => (m ((c.tc : Thread nD τ).loc main_arg3)) (ix3 a b d : S2048x384x16.Idx)
abbrev argSc : Fin 2048 → Fin 384 → EReal := fun a b => (m ((c.tc : Thread nD τ).loc main_arg4)) (ix2 a b : S2048x384.Idx)

/-- The operand the body moves is the packed weights, bytes before groups. -/
theorem V_main_v0 : V m c main_v0 = (transpose S2048x16x384 [0, 2, 1] (m ((c.tc : Thread nD τ).loc main_arg3) : S2048x384x16.Idx → BitVec 8) transposes_S2048x384x16_S2048x16x384_0_2_1) := rfl

theorem index0 : ∀ t : Fin cfg0.N, win0_0.index t = ![t.val % 24, 0, 0, 0] :=
  (by decide +kernel : ∀ t : Fin grid0.N, win0_0.index t = ![t.val % 24, 0, 0, 0])
theorem index4 : ∀ t : Fin cfg0.N, win0_4.index t = ![t.val % 24, t.val / 24, 0] :=
  (by decide +kernel : ∀ t : Fin grid0.N, win0_4.index t = ![t.val % 24, t.val / 24, 0])

theorem index5 : ∀ t : Fin cfg0.N, win0_5.index t = ![t.val % 24 / 4, t.val / 24, t.val % 24 % 4] :=
  (by decide +kernel : ∀ t : Fin grid0.N, win0_5.index t = ![t.val % 24 / 4, t.val / 24, t.val % 24 % 4])

/-- The token `u` of a point's block of tokens. -/
def token (t : Fin cfg0.N) (u : Fin 256) : Fin 6144 := ⟨256 * (t.val % 24) + u.val, by omega⟩
/-- Row `r` of tile `b`. -/
def row (b : Fin 2) (r : Fin 1024) : Fin 2048 := ⟨1024 * b.val + r.val, by omega⟩

theorem iblk0 (t : Fin cfg0.N) (cc : Fin 48) (r : Fin 128) (l : Fin 256) :
    iblk m c 0 t (ix4 0 cc r l : S1x48x128x256.Idx) = argX m c ⟨t.val % 24, by omega⟩ cc r l := by
  have e : (V m c main_arg0) = m ((c.tc : Thread nD τ).loc main_arg0) := V_main_arg0 m c
  unfold argX; rw [← e]
  blk_simp [iblk]
  refine congrArg (V m c main_arg0) ?_
  blk_ext [index0]
/-! ## A point's sums -/

theorem act_at (t : Fin cfg0.N) (cc : Fin 48) (u l : Fin 256) : actS (iblk m c 0 t) cc u l = Query.act (argX m c) (token t u) cc l := by
  unfold actS Query.act
  rw [iblk0]
  have e : ∀ (k k' : ℕ) (a a' : Fin 24) (r r' : Fin 128), k = k' → a = a' → r = r' → Ideal.ofBits .bf16 ((argX m c a cc r l).extractLsb' k 16) = Ideal.ofBits .bf16 ((argX m c a' cc r' l).extractLsb' k' 16) := by
    rintro k _ a _ r _ rfl rfl rfl; rfl
  refine e _ _ _ _ _ _ ?_ (Fin.ext ?_) (Fin.ext ?_) <;> simp only [token] <;> omega

theorem weight_at (b : Fin 2) (r : Fin 1024) (cc : Fin 48) (l : Fin 256) :
    weightsB m c b (ix4 cc ⟨r.val / 2, by omega⟩ ⟨r.val % 2, by omega⟩ l)
      = ValueProj.weight (argP m c) (argSc m c) ⟨l.val / 128, by omega⟩ (row b r) ⟨cc.val / 4 % 3 * 128 + l.val % 128, by omega⟩ ⟨cc.val / 12 * 4 + cc.val % 4, by omega⟩ := by
  have e4 : (V m c main_arg4) = m ((c.tc : Thread nD τ).loc main_arg4) := V_main_arg4 m c
  have hp : ∀ (n : Fin 2048) (j : Fin 16) (g : Fin 384), hbM0_0.view.read (Elt Ideal) (V m c main_v0) (ix3 n j g : S2048x16x384.Idx) = argP m c n g j := by
    intro n j g
    rw [V_main_v0]
    show transpose S2048x16x384 [0, 2, 1] (m ((c.tc : Thread nD τ).loc main_arg3) : S2048x384x16.Idx → BitVec 8) transposes_S2048x384x16_S2048x16x384_0_2_1 (ix3 n j g) = _
    pointwise []
  unfold weightsB wTile packedB scalesB ValueProj.weight
  have e : ∀ (h h' : ℕ) (n n' n2 : Fin 2048) (g g' g2 : Fin 384) (j j' : Fin 16), h = h' → n = n' → n2 = n' → g = g' → g2 = g' → j = j' →
      ((((((hbM0_0.view.read (Elt Ideal) (V m c main_v0) (ix3 n j g : S2048x16x384.Idx) : BitVec 8)).extractLsb' h 4).toNat - 8 : ℝ) : ℝ) : EReal) * (V m c main_arg4 (ix2 n2 g2 : S2048x384.Idx) : EReal)
        = (((((argP m c n' g' j').extractLsb' h' 4).toNat - 8 : ℝ) : ℝ) : EReal) * argSc m c n' g' := by
    rintro h _ n _ _ g _ _ j _ rfl rfl rfl rfl rfl rfl; rw [hp, e4]
  refine e _ _ _ _ _ _ _ _ _ _ rfl (Fin.ext ?_) (Fin.ext ?_) (Fin.ext ?_) (Fin.ext ?_) (Fin.ext ?_)
  · show 1024 * b.val + (2 * (r.val / 2) + r.val % 2) = 1024 * b.val + r.val
    omega
  · show 1024 * b.val + (2 * (r.val / 2) + r.val % 2) = 1024 * b.val + r.val
    omega
  · show 128 * (cc.val / 4 % 3) + l.val % 128 = cc.val / 4 % 3 * 128 + l.val % 128
    omega
  · show cc.val / 4 % 3 * 128 + l.val % 128 = cc.val / 4 % 3 * 128 + l.val % 128
    rfl
  · show 8 * (cc.val / 24) + (4 * (cc.val / 12 % 2) + cc.val % 4) = cc.val / 12 * 4 + cc.val % 4
    omega

/-- A point's sum over chunks and lanes is the projection. -/
theorem rowSum_at (t : Fin cfg0.N) (u : Fin 256) (r : Fin 1024) :
    rowSum (iblk m c 0 t) (weightsB m c (tileOf t)) u r = ValueProj.proj (argX m c) (argP m c) (argSc m c) (token t u) (row (tileOf t) r) := by
  unfold rowSum
  simp only [act_at, weight_at]
  rw [Query.sum_chunks]
  unfold ValueProj.proj
  have e : ∀ (h : Fin 2) (g : Fin 384) (j : Fin 16), ValueProj.weight (argP m c) (argSc m c) ⟨(Query.lane h g).val / 128, by omega⟩ (row (tileOf t) r) ⟨(Query.chunk g j).val / 4 % 3 * 128 + (Query.lane h g).val % 128, by omega⟩ ⟨(Query.chunk g j).val / 12 * 4 + (Query.chunk g j).val % 4, by omega⟩
      = ValueProj.weight (argP m c) (argSc m c) h (row (tileOf t) r) g j := by
    intro h g j
    have e3 : ∀ (h h' : Fin 2) (g g' : Fin 384) (j j' : Fin 16), h = h' → g = g' → j = j' → ValueProj.weight (argP m c) (argSc m c) h (row (tileOf t) r) g j = ValueProj.weight (argP m c) (argSc m c) h' (row (tileOf t) r) g' j' := by
      rintro h _ g _ j _ rfl rfl rfl; rfl
    refine e3 _ _ _ _ _ _ (Fin.ext ?_) (Fin.ext ?_) (Fin.ext ?_) <;> simp only [Query.chunk, Query.lane] <;> omega
  simp only [e]

/-- The codes, of the arguments, -/
def resOf : S6144x16x128.Idx → EReal := fun i => ValueProj.code (argX m c) (argP m c) (argSc m c) (i 0) (i 1) (i 2)
/-- and their scales, by sequence, head and token of the sequence. -/
def resScale : S6x16x1024.Idx → EReal := fun i =>
  ValueProj.scale (argX m c) (argP m c) (argSc m c) ⟨1024 * (i 0).val + (i 2).val, by have h0 : (i 0).val < 6 := (i 0).isLt; have h2 : (i 2).val < 1024 := (i 2).isLt; omega⟩ (i 1)

/-- The rows of a point are heads of its tokens. -/
theorem row_head (t : Fin cfg0.N) (u : Fin 256) (h : Fin 8) :
    (fun l : Fin 128 => rowSum (iblk m c 0 t) (weightsB m c (tileOf t)) u ⟨128 * h.val + l.val, by omega⟩)
      = ValueProj.head (argX m c) (argP m c) (argSc m c) (token t u) ⟨8 * (tileOf t).val + h.val, by have := (tileOf t).isLt; omega⟩ := by
  funext l
  rw [rowSum_at]
  unfold ValueProj.head
  refine congrArg (ValueProj.proj (argX m c) (argP m c) (argSc m c) (token t u)) (Fin.ext ?_)
  show 1024 * (tileOf t).val + (128 * h.val + l.val) = 128 * (8 * (tileOf t).val + h.val) + l.val
  omega

theorem resAt_eq (t : Fin cfg0.N) (u : Fin 256) (h : Fin 8) (l : Fin 128) :
    resAt m c t (ix3 u h l) = resOf m c (ix3 (token t u) ⟨8 * (tileOf t).val + h.val, by have := (tileOf t).isLt; omega⟩ l) :=
  congrArg (fun y => Cert.RowScale.code y l) (row_head m c t u h)

theorem resS_eq (t : Fin cfg0.N) (h : Fin 8) (u : Fin 256) :
    resS m c t (ix3 0 h u) = ValueProj.scale (argX m c) (argP m c) (argSc m c) (token t u) ⟨8 * (tileOf t).val + h.val, by have := (tileOf t).isLt; omega⟩ :=
  congrArg Cert.RowScale.scale (row_head m c t u h)

/-! ## The results' arrays -/

theorem final : (datsV m 0 c).arrAt 4 cfg0.N = resOf m c := by
  refine (datsV m 0 c).arrAt_eq_of_covers 4 _ (by decide +kernel) fun t hf y => ?_
  blk_simp
  rw [after0_4]
  obtain ⟨u, h, l, rfl⟩ : ∃ (u : Fin 256) (h : Fin 8) (l : Fin 128), y = (ix3 u h l : S256x8x128.Idx) :=
    ⟨y 0, y 1, y 2, by funext d; match d with | ⟨0, _⟩ => rfl | ⟨1, _⟩ => rfl | ⟨2, _⟩ => rfl⟩
  refine (resAt_eq m c t u h l).trans (congrArg (resOf m c) ?_)
  blk_ext [index4, token]

theorem final_scale : (datsV m 0 c).arrAt 5 cfg0.N = resScale m c := by
  refine (datsV m 0 c).arrAt_eq_of_covers 5 _ (by decide +kernel) fun t hf y => ?_
  blk_simp
  rw [after0_5]
  obtain ⟨z, h, u, rfl⟩ : ∃ (z : Fin 1) (h : Fin 8) (u : Fin 256), y = (ix3 z h u : S1x8x256.Idx) :=
    ⟨y 0, y 1, y 2, by funext d; match d with | ⟨0, _⟩ => rfl | ⟨1, _⟩ => rfl | ⟨2, _⟩ => rfl⟩
  obtain rfl : z = 0 := Subsingleton.elim _ _
  have ht := t.isLt
  have e : resS m c t (ix3 0 h u) = resScale m c (ix3 ⟨t.val % 24 / 4, by omega⟩ ⟨8 * (tileOf t).val + h.val, by have := (tileOf t).isLt; omega⟩ ⟨256 * (t.val % 24 % 4) + u.val, by omega⟩ : S6x16x1024.Idx) := by
    refine (resS_eq m c t h u).trans ?_
    refine congrArg (fun s => ValueProj.scale (argX m c) (argP m c) (argSc m c) s ⟨8 * (tileOf t).val + h.val, by have := (tileOf t).isLt; omega⟩) (Fin.ext ?_)
    show 256 * (t.val % 24) + u.val = 1024 * (t.val % 24 / 4) + (256 * (t.val % 24 % 4) + u.val)
    omega
  refine e.trans (congrArg (resScale m c) ?_)
  blk_ext [index5]

/-- The run: the codes and the scales of the arguments, the arguments unchanged. -/
theorem run : θ_run defs (onTc (τ := τ) (main (F := Ideal))) ⟨m, fun _ => 0, ρ⟩ (fun r => ∀ c : Dev nD,
      r.2.mem ((c.tc : Thread nD τ).loc main_v1_0) = resOf m c
      ∧ r.2.mem ((c.tc : Thread nD τ).loc main_v1_1) = resScale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.out_eq c 4).trans (final m c), (h.out_eq c 5).trans (final_scale m c),
      (h.in_eq c 0 rfl).trans ((A_eq m c 0).trans (V_main_arg0 m c)),
      (h.in_eq c 1 rfl).trans ((A_eq m c 1).trans (V_main_arg1 m c)),
      (h.in_eq c 2 rfl).trans ((A_eq m c 2).trans (V_main_arg2 m c)),
      (h.rest_eq c main_arg3 (Pipeline.mem_restRefs_of main_arg3 (by decide) (by decide))).trans (V_main_arg3 m c),
      (h.in_eq c 3 rfl).trans ((A_eq m c 3).trans (V_main_arg4 m c))⟩) (run_main m ρ)

end Cert.KernelVIdeal.Val

end
-- ==== Proof.ReferenceVIdealValue.lean ====
/-
  The reference, read at one element: the codes and scales of `ValueSum`.
-/
module

public import proofs.«01_k».proof.Proof.Gen.ReferenceVIdeal.Value
public import proofs.«01_k».proof.Proof.ValueSum
public import proofs.«01_k».proof.Proof.Nibbles
public import Idealize.ShloMosaic.Lib.Pointwise
public import Idealize.ShloMosaic.Lib.Pipeline.ValueKit
public import Idealize.ShloMosaic.Lib.BitcastConvert

@[expose] public section

set_option maxRecDepth 65536

noncomputable section

namespace Cert.ReferenceVIdeal.Val

open Cert.ReferenceVIdeal Cert.ReferenceVIdeal.Gen
open Idealize.ShloMosaic Idealize.ShloMosaic.TcCoe Idealize.ShloMosaic.Tactic Idealize.ShloMosaic.Pointwise
open Idealize.SL.Sem

/-! ## The activations -/

/-- The activations by token, group, half and byte. -/
def actR (x : S24x48x128x256.Idx → BitVec 32) : S6144x384x2x16.Idx → EReal :=
  shapeCast _ (transpose S24x128x2x3x128x2x4x4 [0, 4, 7, 2, 6, 5, 1, 3] (bitcastToFloat (F := Ideal) .bf16 (Host.bitcastConvertNarrow S24x4x3x4x128x2x128x2 16 (shapeCast _ x shapeCasts_S24x48x128x256_S24x4x3x4x128x2x128) splits_S24x4x3x4x128x2x128_w32_S24x4x3x4x128x2x128x2_w16)) transposes_S24x4x3x4x128x2x128x2_S24x128x2x3x128x2x4x4_0_4_7_2_6_5_1_3) shapeCasts_S24x128x2x3x128x2x4x4_S6144x384x2x16

theorem actR_at (x) (s : Fin 6144) (g : Fin 384) (h : Fin 2) (j : Fin 16) :
    actR x (ix4 s g h j) = Query.act (fun a b d e => x (ix4 a b d e)) s (Query.chunk g j) (Query.lane h g) := by
  unfold actR
  pointwise []
  unfold Query.act
  have e : ∀ (k k' : ℕ) (b b' : BitVec 32), k = k' → b = b' → Ideal.ofBits .bf16 (b.extractLsb' k 16) = Ideal.ofBits .bf16 (b'.extractLsb' k' 16) := by
    rintro k _ b _ rfl rfl; rfl
  refine e _ _ _ _ (Nat.mul_comm _ _) ?_
  have e4 : ∀ (a a' : Fin 24) (b b' : Fin 48) (d d' : Fin 128) (l l' : Fin 256), a.val = a'.val → b.val = b'.val → d.val = d'.val → l.val = l'.val →
      x (ix4 a b d l) = x (ix4 a' b' d' l') := by
    intro a a' b b' d d' l l' h0 h1 h2 h3; rw [Fin.ext h0, Fin.ext h1, Fin.ext h2, Fin.ext h3]
  refine e4 _ _ _ _ _ _ _ _ rfl rfl ?_ ?_
  · show s.val / 2 % 128 = s.val % 256 / 2
    omega
  · show h.val * 128 + g.val % 128 = 128 * h.val + g.val % 128
    omega

/-! ## The weights -/

/-- The weights of the bytes' low halves, -/
def wlo (p : S2048x384x16.Idx → BitVec 8) (sc : S2048x384.Idx → EReal) : S2048x384x16.Idx → EReal :=
  mulf (F := Ideal) (φ := .bf16) (subf (sitofp .bf16 (andi (extui 32 p natLt_8_32) (broadcastInDim S2048x384x16 ![] bcast_S_S2048x384x16 (constantI S_ 32 15#32)))) (broadcastInDim S2048x384x16 ![] bcast_S_S2048x384x16 (constant S_ .bf16 0x4100#16))) (broadcastInDim S2048x384x16 ![0, 1, 2] bcast_S2048x384x1_S2048x384x16_0_1_2 (broadcastInDim S2048x384x1 ![0, 1] bcast_S2048x384_S2048x384x1_0_1 sc))
/-- and of their high halves. -/
def whi (p : S2048x384x16.Idx → BitVec 8) (sc : S2048x384.Idx → EReal) : S2048x384x16.Idx → EReal :=
  mulf (F := Ideal) (φ := .bf16) (subf (sitofp .bf16 (Host.shrsi (extui 32 p natLt_8_32) (broadcastInDim S2048x384x16 ![] bcast_S_S2048x384x16 (constantI S_ 32 4#32)))) (broadcastInDim S2048x384x16 ![] bcast_S_S2048x384x16 (constant S_ .bf16 0x4100#16))) (broadcastInDim S2048x384x16 ![0, 1, 2] bcast_S2048x384x1_S2048x384x16_0_1_2 (broadcastInDim S2048x384x1 ![0, 1] bcast_S2048x384_S2048x384x1_0_1 sc))

theorem wlo_at (p sc) (n : Fin 2048) (g : Fin 384) (j : Fin 16) :
    wlo p sc (ix3 n g j) = ValueProj.weight (fun a b d => p (ix3 a b d)) (fun a b => sc (ix2 a b)) 0 n g j := by
  unfold wlo
  pointwise []
  exact congrArg (· * _) (code_eight _ _ (low_code _))
theorem whi_at (p sc) (n : Fin 2048) (g : Fin 384) (j : Fin 16) :
    whi p sc (ix3 n g j) = ValueProj.weight (fun a b d => p (ix3 a b d)) (fun a b => sc (ix2 a b)) 1 n g j := by
  unfold whi
  pointwise []
  exact congrArg (· * _) (code_eight _ _ (high_code _))

/-! ## The projection -/

/-- The projection: the low halves' product plus the high halves'. -/
def projR (x : S24x48x128x256.Idx → BitVec 32) (p : S2048x384x16.Idx → BitVec 8) (sc : S2048x384.Idx → EReal) : S6144x2048.Idx → EReal :=
  addf (F := Ideal) (φ := .f32) (Host.dotGeneral (F := Ideal) (φ₁ := .bf16) (φ₂ := .f32) dot_S6144x384x16_S2048x384x16_S6144x2048_12_12_0_0_n_n none (shapeCast _ (extractStridedSlice S6144x384x1x16 ![0, 0, 0, 0] (actR x) slices_S6144x384x2x16_S6144x384x1x16_0_0_0_0) shapeCasts_S6144x384x1x16_S6144x384x16) (wlo p sc))
    (Host.dotGeneral (F := Ideal) (φ₁ := .bf16) (φ₂ := .f32) dot_S6144x384x16_S2048x384x16_S6144x2048_12_12_0_0_n_n none (shapeCast _ (extractStridedSlice S6144x384x1x16 ![0, 0, 1, 0] (actR x) slices_S6144x384x2x16_S6144x384x1x16_0_0_1_0) shapeCasts_S6144x384x1x16_S6144x384x16) (whi p sc))

theorem projR_at (x p sc) (s : Fin 6144) (n : Fin 2048) :
    projR x p sc (ix2 s n) = ValueProj.proj (fun a b d e => x (ix4 a b d e)) (fun a b d => p (ix3 a b d)) (fun a b => sc (ix2 a b)) s n := by
  unfold projR
  pointwise []
  unfold ValueProj.proj
  simp only [actR_at, wlo_at, whi_at]

/-! ## The rows' scales and codes -/

/-- The projection by token, head and lane. -/
def headR (x : S24x48x128x256.Idx → BitVec 32) (p : S2048x384x16.Idx → BitVec 8) (sc : S2048x384.Idx → EReal) : S6144x16x128.Idx → EReal :=
  shapeCast _ (projR x p sc) shapeCasts_S6144x2048_S6144x16x128

/-- The powers of two a scale is chosen from. -/
def powR : S253.Idx → EReal := fun i => FloatOps.ofBits (F := Ideal) .f32 (lit0 (S253.rowMajor i))

/-- The largest absolute value of each row. -/
def amaxR (y : S6144x16x128.Idx → EReal) : S6144x16.Idx → EReal :=
  Host.reduce (FloatOps.maximumf (F := Ideal) (φ := .f32)) (Host.absf (F := Ideal) (φ := .f32) y) (constant (F := Ideal) S_ .f32 0xFF800000#32) reducesTo_S6144x16x128_S6144x16_d2 h_S_

/-- Which powers are above each row's scaled largest value. -/
def overR (a : S6144x16.Idx → EReal) (w : S253.Idx → EReal) : S6144x16x253.Idx → BitVec 1 :=
  cmpf (F := Ideal) (φ := .f32) .olt
    (broadcastInDim S6144x16x253 ![0, 1, 2] bcast_S6144x16x1_S6144x16x253_0_1_2 (broadcastInDim S6144x16x1 ![0, 1] bcast_S6144x16_S6144x16x1_0_1 (mulf (F := Ideal) (φ := .f32) a (broadcastInDim S6144x16 ![] bcast_S_S6144x16 (constant S_ .f32 0x3B124925#32)))))
    (broadcastInDim S6144x16x253 ![0, 1, 2] bcast_S1x1x253_S6144x16x253_0_1_2 (broadcastInDim S1x1x253 ![2] bcast_S253_S1x1x253_2 w))

/-- The powers that are above, with `z` for the others. -/
def candR (o : S6144x16x253.Idx → BitVec 1) (w : S253.Idx → EReal) (z : S_.Idx → EReal) : S6144x16x253.Idx → EReal :=
  select o (broadcastInDim S6144x16x253 ![2] bcast_S253_S6144x16x253_2 w) (broadcastInDim S6144x16x253 ![] bcast_S_S6144x16x253 z)

/-- One where the row is zero, else the least of the powers. -/
def pickR (a : S6144x16.Idx → EReal) (o : S6144x16x253.Idx → BitVec 1) (w : S253.Idx → EReal) (z : S_.Idx → EReal) : S6144x16.Idx → EReal :=
  select (cmpf (F := Ideal) (φ := .f32) .oeq a (broadcastInDim S6144x16 ![] bcast_S_S6144x16 (constant S_ .f32 0x00000000#32)))
    (broadcastInDim S6144x16 ![] bcast_S_S6144x16 (constant (F := Ideal) S_ .f32 0x3F800000#32))
    (Host.reduce (FloatOps.minimumf (F := Ideal) (φ := .f32)) (candR o w z) (constant (F := Ideal) S_ .f32 0x7F800000#32) reducesTo_S6144x16x253_S6144x16_d2 h_S_)

/-- Each row's scale. -/
def scaleR (a : S6144x16.Idx → EReal) : S6144x16.Idx → EReal :=
  pickR a (overR a powR) powR (constant (F := Ideal) S_ .f32 0x7E800000#32)

/-- Each row divided by its scale and cut to the codes' range. -/
def codeR (y : S6144x16x128.Idx → EReal) (d : S6144x16.Idx → EReal) : S6144x16x128.Idx → EReal :=
  minimumf (F := Ideal) (φ := .f32) (broadcastInDim S6144x16x128 ![] bcast_S_S6144x16x128 (constant S_ .f32 0x43E00000#32))
    (maximumf (F := Ideal) (φ := .f32) (broadcastInDim S6144x16x128 ![] bcast_S_S6144x16x128 (constant S_ .f32 0xC3E00000#32))
      (mulf (F := Ideal) (φ := .f32) y (broadcastInDim S6144x16x128 ![0, 1, 2] bcast_S6144x16x1_S6144x16x128_0_1_2 (broadcastInDim S6144x16x1 ![0, 1] bcast_S6144x16_S6144x16x1_0_1
        (Host.divf (F := Ideal) (φ := .f32) (broadcastInDim S6144x16 ![] bcast_S_S6144x16 (constant S_ .f32 0x3F800000#32)) d)))))

/-- The scales by tile, head and token of the tile. -/
def scalesR (d : S6144x16.Idx → EReal) : S6x16x1024.Idx → EReal :=
  transpose S6x16x1024 [0, 2, 1] (shapeCast _ d shapeCasts_S6144x16_S6x1024x16) transposes_S6x1024x16_S6x16x1024_0_2_1

/-! ### At one element -/

/-- The literals are the powers of two `pw 1`, …, `pw 253`. -/
theorem lit0_eq : ∀ k : Fin 253, lit0 k = BitVec.ofNat 32 (k.val + 1) <<< 23 := by decide +kernel

theorem powR_at (k : Fin 253) : powR (ix1 k) = RowScale.pw (k.val + 1) := by
  have e : S253.rowMajor (ix1 k) = k := by
    apply Fin.ext
    show Shape.rankPi ![253] (ix1 k) = k.val
    simp [Shape.rankPi, Shape.prodPi]
  show Ideal.ofBits .f32 (lit0 (S253.rowMajor (ix1 k))) = _
  rw [e, lit0_eq]
  exact RowScale.ofBits_field (by have := k.isLt; omega)

theorem bits_253 : Ideal.ofBits .f32 0x7E800000#32 = RowScale.pw 253 := RowScale.ofBits_field (n := 253) (by omega)
theorem bits_top : Ideal.ofBits .f32 0x7F800000#32 = ⊤ := by
  simp [Ideal.ofBits, Ideal.ieee]

theorem headR_at (x p sc) (s : Fin 6144) (h : Fin 16) (l : Fin 128) :
    headR x p sc (ix3 s h l) = ValueProj.head (fun a b d e => x (ix4 a b d e)) (fun a b d => p (ix3 a b d)) (fun a b => sc (ix2 a b)) s h l := by
  unfold headR
  pointwise []
  refine (projR_at _ _ _ _ _).trans ?_
  unfold ValueProj.head
  congr 1
  apply Fin.ext
  simp [ValueProj.col]
  omega

theorem amaxR_at (y) (s : Fin 6144) (h : Fin 16) : amaxR y (ix2 s h) = RowScale.amax (fun l => y (ix3 s h l)) := by
  unfold amaxR RowScale.amax
  pointwise []

theorem candR_at (a) (s : Fin 6144) (h : Fin 16) (k : Fin 253) :
    candR (overR a powR) powR (constant (F := Ideal) S_ .f32 0x7E800000#32) (ix3 s h k) = if a (ix2 s h) * RowScale.inv448 < RowScale.pw (k.val + 1) then RowScale.pw (k.val + 1) else RowScale.pw 253 := by
  unfold candR overR
  pointwise []
  rw [powR_at, bits_253]
  rfl

theorem leastR_at (f : S6144x16x253.Idx → EReal) (s : Fin 6144) (h : Fin 16) :
    Host.reduce (FloatOps.minimumf (F := Ideal) (φ := .f32)) f (constant (F := Ideal) S_ .f32 0x7F800000#32) reducesTo_S6144x16x253_S6144x16_d2 h_S_ (ix2 s h)
      = Finset.fold min ⊤ (fun k => f (ix3 s h k)) Finset.univ := by
  pointwise []
  rw [bits_top]

/-- A row's scale from its largest value `a` and the least candidate `b`. -/
theorem one_or_at (a b : S6144x16.Idx → EReal) (s : Fin 6144) (h : Fin 16) :
    select (cmpf (F := Ideal) (φ := .f32) .oeq a (broadcastInDim S6144x16 ![] bcast_S_S6144x16 (constant S_ .f32 0x00000000#32)))
      (broadcastInDim S6144x16 ![] bcast_S_S6144x16 (constant (F := Ideal) S_ .f32 0x3F800000#32)) b (ix2 s h)
      = if a (ix2 s h) = 0 then 1 else b (ix2 s h) := by
  pointwise []

theorem scaleR_at (y) (s : Fin 6144) (h : Fin 16) : scaleR (amaxR y) (ix2 s h) = RowScale.scale (fun l => y (ix3 s h l)) := by
  unfold scaleR pickR
  rw [one_or_at, leastR_at, amaxR_at]
  refine RowScale.scale_ref (fun l => y (ix3 s h l)) (fun k => candR (overR (amaxR y) powR) powR (constant (F := Ideal) S_ .f32 0x7E800000#32) (ix3 s h k)) fun k => ?_
  rw [candR_at, amaxR_at]

theorem codeR_at (y d) (s : Fin 6144) (h : Fin 16) (l : Fin 128) :
    codeR y d (ix3 s h l) = min (Ideal.ofBits .f32 0x43E00000#32) (max (Ideal.ofBits .f32 0xC3E00000#32) (y (ix3 s h l) * Ideal.div 1 (d (ix2 s h)))) := by
  unfold codeR
  pointwise []

theorem codeR_scale (y) (s : Fin 6144) (h : Fin 16) (l : Fin 128) :
    codeR y (scaleR (amaxR y)) (ix3 s h l) = RowScale.code (fun l => y (ix3 s h l)) l := by
  rw [codeR_at, scaleR_at]
  unfold RowScale.code
  rw [← RowScale.one_div_scale, one_div]
  have h0 : RowScale.scale (fun l => y (ix3 s h l)) ≠ 0 := by
    have hb := RowScale.field_bounds (RowScale.amax_nonneg (fun l => y (ix3 s h l)))
    unfold RowScale.scale
    rw [RowScale.pw_pos (by omega)]
    have hp : (2 : ℝ) ^ ((RowScale.field (RowScale.amax fun l => y (ix3 s h l)) : ℤ) - 127) ≠ 0 := by positivity
    exact_mod_cast hp
  unfold Ideal.div
  rw [if_neg h0, one_mul]

theorem scalesR_at (d) (t : Fin 6) (h : Fin 16) (k : Fin 1024) :
    scalesR d (ix3 t h k) = d (ix2 ⟨1024 * t.val + k.val, by omega⟩ h) := by
  unfold scalesR
  pointwise []
  exact congrArg (fun n => d (ix2 n h)) (Fin.ext (by show t.val * 1024 + k.val = 1024 * t.val + k.val; omega))

/-! ## The host operations, in three stretches: up to the comparison, up to the scales, and the rest -/

set_option maxHeartbeats 4000000 in
theorem first_v27 (W : Valuation τ sig (Elt Ideal)) : StableHlo.after hostOps0 W (Proc.devRef .tc main_v27)
    = headR (W (Proc.devRef .tc main_arg0)) (W (Proc.devRef .tc main_arg3)) (W (Proc.devRef .tc main_arg4)) := by
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 4000000 in
theorem first_v29 (W : Valuation τ sig (Elt Ideal)) : StableHlo.after hostOps0 W (Proc.devRef .tc main_v29)
    = amaxR (headR (W (Proc.devRef .tc main_arg0)) (W (Proc.devRef .tc main_arg3)) (W (Proc.devRef .tc main_arg4))) := by
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 4000000 in
theorem first_cst (W : Valuation τ sig (Elt Ideal)) : StableHlo.after hostOps0 W (Proc.devRef .tc main_cst)
    = powR := by
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 4000000 in
theorem first_cst_5 (W : Valuation τ sig (Elt Ideal)) : StableHlo.after hostOps0 W (Proc.devRef .tc main_cst_5)
    = constant (F := Ideal) S_ .f32 0x7E800000#32 := by
  simp only [hostOps0, hostOps0_1, hostOps0_2, hostOps0_3, hostOps0_4, hostOps0_5, hostOps0_6, List.flatten_cons, List.flatten_nil, List.append_nil, List.cons_append, List.nil_append]
  after_results_simp

set_option maxHeartbeats 4000000 in
theorem first_v36 (W : Valuation τ sig (Elt Ideal)) : StableHlo.after hostOps0 W (Proc.devRef .tc main_v36)
    = overR (amaxR (headR (W (Proc.devRef .tc main_arg0)) (W (Proc.devRef .tc main_arg3)) (W (Proc.devRef .tc main_arg4)))) powR := by
  simp only [hostOps0, hostOps0_1, hostOps0_2, hostOps0_3, hostOps0_4, hostOps0_5, hostOps0_6, List.flatten_cons, List.flatten_nil, List.append_nil, List.cons_append, List.nil_append]
  after_results_simp
  generalize hp : (fun i : S253.Idx => FloatOps.ofBits (F := Ideal) FTy.f32 (lit0 (S253.rowMajor i))) = pws
  rw [show powR = pws from hp]
  clear hp
  rfl

set_option maxHeartbeats 4000000 in
theorem mid_v27 (W : Valuation τ sig (Elt Ideal)) : StableHlo.after (List.flatten [hostOps0_1, hostOps0_2, hostOps0_3]) W (Proc.devRef .tc main_v27)
    = (W (Proc.devRef .tc main_v27)) := by
  simp only [hostOps0, hostOps0_1, hostOps0_2, hostOps0_3, hostOps0_4, hostOps0_5, hostOps0_6, List.flatten_cons, List.flatten_nil, List.append_nil, List.cons_append, List.nil_append]
  after_results_simp

set_option maxHeartbeats 4000000 in
theorem mid_v41 (W : Valuation τ sig (Elt Ideal)) : StableHlo.after (List.flatten [hostOps0_1, hostOps0_2, hostOps0_3]) W (Proc.devRef .tc main_v41)
    = pickR (W (Proc.devRef .tc main_v29)) (W (Proc.devRef .tc main_v36)) (W (Proc.devRef .tc main_cst)) (W (Proc.devRef .tc main_cst_5)) := by
  simp only [hostOps0, hostOps0_1, hostOps0_2, hostOps0_3, hostOps0_4, hostOps0_5, hostOps0_6, List.flatten_cons, List.flatten_nil, List.append_nil, List.cons_append, List.nil_append]
  after_results_simp
  simp -implicitDefEqProofs only [StableHlo.TRef.toBuf, StableHlo.TRef.ofBuf, cast_cast, cast_eq]
  rfl

set_option maxHeartbeats 4000000 in
theorem last_v47 (W : Valuation τ sig (Elt Ideal)) : StableHlo.after (List.flatten [hostOps0_4, hostOps0_5, hostOps0_6]) W (Proc.devRef .tc main_v47)
    = codeR (W (Proc.devRef .tc main_v27)) (W (Proc.devRef .tc main_v41)) := by
  simp only [hostOps0, hostOps0_1, hostOps0_2, hostOps0_3, hostOps0_4, hostOps0_5, hostOps0_6, List.flatten_cons, List.flatten_nil, List.append_nil, List.cons_append, List.nil_append]
  after_results_simp
  simp -implicitDefEqProofs only [StableHlo.TRef.toBuf, StableHlo.TRef.ofBuf, cast_cast, cast_eq]
  rfl

set_option maxHeartbeats 4000000 in
theorem last_v49 (W : Valuation τ sig (Elt Ideal)) : StableHlo.after (List.flatten [hostOps0_4, hostOps0_5, hostOps0_6]) W (Proc.devRef .tc main_v49)
    = scalesR (W (Proc.devRef .tc main_v41)) := by
  simp only [hostOps0, hostOps0_1, hostOps0_2, hostOps0_3, hostOps0_4, hostOps0_5, hostOps0_6, List.flatten_cons, List.flatten_nil, List.append_nil, List.cons_append, List.nil_append]
  after_results_simp
  rfl

variable (m : (ℓ : Loc nD τ sig) → Buf (Elt Ideal) ℓ) (ρ : Dev nD → PrngReg) (c : Dev nD)

theorem V_split (b : Ref sig .tc) : V m c b = StableHlo.after (List.flatten [hostOps0_4, hostOps0_5, hostOps0_6])
    (StableHlo.after (List.flatten [hostOps0_1, hostOps0_2, hostOps0_3]) (StableHlo.after hostOps0 (fun b => m (c, b)))) (Proc.devRef .tc b) := by
  rw [← StableHlo.after_append, ← StableHlo.after_append]
  rfl

/-- The head rows of the arguments. -/
abbrev headM : S6144x16x128.Idx → EReal := headR (m ((c.tc : Thread nD τ).loc main_arg0)) (m ((c.tc : Thread nD τ).loc main_arg3)) (m ((c.tc : Thread nD τ).loc main_arg4))

theorem V_main_v49 : V m c main_v49 = scalesR (scaleR (amaxR (headM m c))) := by
  rw [V_split, last_v49, mid_v41, first_v29, first_v36, first_cst, first_cst_5]
  rfl

theorem V_main_v47 : V m c main_v47 = codeR (headM m c) (scaleR (amaxR (headM m c))) := by
  rw [V_split, last_v47, mid_v41, mid_v27, first_v27, first_v29, first_v36, first_cst, first_cst_5]
  rfl

/-! ## The results -/

/-- The codes of the arguments, -/
def codesOf (x : S24x48x128x256.Idx → BitVec 32) (p : S2048x384x16.Idx → BitVec 8) (sc : S2048x384.Idx → EReal) : S6144x16x128.Idx → EReal :=
  fun i => ValueProj.code (fun a b d e => x (ix4 a b d e)) (fun a b d => p (ix3 a b d)) (fun a b => sc (ix2 a b)) (i 0) (i 1) (i 2)
/-- and their scales, by sequence, head and token of the sequence. -/
def scalesOf (x : S24x48x128x256.Idx → BitVec 32) (p : S2048x384x16.Idx → BitVec 8) (sc : S2048x384.Idx → EReal) : S6x16x1024.Idx → EReal :=
  fun i => ValueProj.scale (fun a b d e => x (ix4 a b d e)) (fun a b d => p (ix3 a b d)) (fun a b => sc (ix2 a b))
    ⟨1024 * (i 0).val + (i 2).val, by have h0 : (i 0).val < 6 := (i 0).isLt; have h2 : (i 2).val < 1024 := (i 2).isLt; omega⟩ (i 1)

theorem codes_eq (x p sc) : codeR (headR x p sc) (scaleR (amaxR (headR x p sc))) = codesOf x p sc := by
  funext i
  obtain ⟨s, h, l, rfl⟩ : ∃ (s : Fin 6144) (h : Fin 16) (l : Fin 128), i = (ix3 s h l : S6144x16x128.Idx) :=
    ⟨i 0, i 1, i 2, by funext d; match d with | ⟨0, _⟩ => rfl | ⟨1, _⟩ => rfl | ⟨2, _⟩ => rfl⟩
  refine (codeR_scale _ s h l).trans ?_
  simp only [headR_at]
  rfl

theorem scales_eq (x p sc) : scalesR (scaleR (amaxR (headR x p sc))) = scalesOf x p sc := by
  funext i
  obtain ⟨t, h, k, rfl⟩ : ∃ (t : Fin 6) (h : Fin 16) (k : Fin 1024), i = (ix3 t h k : S6x16x1024.Idx) :=
    ⟨i 0, i 1, i 2, by funext d; match d with | ⟨0, _⟩ => rfl | ⟨1, _⟩ => rfl | ⟨2, _⟩ => rfl⟩
  refine ((scalesR_at _ t h k).trans (scaleR_at _ _ h)).trans ?_
  simp only [headR_at]
  rfl

theorem index0 : ∀ t : Fin cfg0.N, win0_0.index t = ![0, 0, 0] :=
  (by decide +kernel : ∀ t : Fin grid0.N, win0_0.index t = ![0, 0, 0])
theorem index1 : ∀ t : Fin cfg0.N, win0_1.index t = ![0, 0, 0] :=
  (by decide +kernel : ∀ t : Fin grid0.N, win0_1.index t = ![0, 0, 0])

attribute [local irreducible] StableHlo.after in
/-- The rounding's one block is the whole array. -/
theorem final : (dats m 0 c).arrAt 1 cfg0.N = (V m c main_v47 : S6144x16x128.Idx → EReal) := by
  refine (dats m 0 c).arrAt_eq_of_covers 1 _ (by decide +kernel) fun t hf y => ?_
  blk_simp
  rw [after0_1]
  refine (Cert.ReferenceVIdeal.Value.canon1_eq _ y).trans ?_
  show iblk m c 0 t (r0_0.idx (Cert.ReferenceVIdeal.Value.ix1_0 y)) = _
  blk_simp [iblk]
  refine congrArg (V m c main_v47) ?_
  blk_ext [index0, index1]
  · show 0 + 1 * (y 0).val = (y 0).val
    omega
  · show 0 + 1 * (y 1).val = (y 1).val
    omega
  · show 0 + 1 * (y 2).val = (y 2).val
    omega

/-- The run: the codes and the scales of the arguments, the arguments unchanged. -/
theorem run : θ_run defs (onTc (τ := τ) (main (F := Ideal))) ⟨m, fun _ => 0, ρ⟩ (fun r => ∀ c : Dev nD,
      r.2.mem ((c.tc : Thread nD τ).loc main_v50) = codesOf (m ((c.tc : Thread nD τ).loc main_arg0)) (m ((c.tc : Thread nD τ).loc main_arg3)) (m ((c.tc : Thread nD τ).loc main_arg4))
      ∧ r.2.mem ((c.tc : Thread nD τ).loc main_v49) = scalesOf (m ((c.tc : Thread nD τ).loc main_arg0)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((Cert.ReferenceVIdeal.Value.post1 m r h c).trans (final m c)).trans ((V_main_v47 m c).trans (codes_eq _ _ _)),
      ((h c).2 main_v49 (Pipeline.mem_restRefs_of main_v49 (by decide) (by decide))).trans ((V_main_v49 m c).trans (scales_eq _ _ _)),
      Cert.ReferenceVIdeal.Value.kept_main_arg0 m r h c,
      Cert.ReferenceVIdeal.Value.kept_main_arg1 m r h c,
      Cert.ReferenceVIdeal.Value.kept_main_arg2 m r h c,
      Cert.ReferenceVIdeal.Value.kept_main_arg3 m r h c,
      Cert.ReferenceVIdeal.Value.kept_main_arg4 m r h c⟩) (run_main m ρ)

end Cert.ReferenceVIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelV
public import proofs.«01_k».proof.Proof.Gen.KernelV.Skeleton
public import proofs.«01_k».proof.Proof.Gen.KernelV.Loops
public import proofs.«01_k».proof.Proof.Gen.KernelV.Launch
public import proofs.«01_k».proof.Proof.Gen.KernelV.Points
public import proofs.«01_k».proof.Proof.Gen.KernelV.Frame
public import proofs.«01_k».proof.Proof.Gen.KernelVIdeal
public import proofs.«01_k».proof.Proof.Gen.KernelVIdeal.Skeleton
public import proofs.«01_k».proof.Proof.Gen.KernelVIdeal.Loops
public import proofs.«01_k».proof.Proof.Gen.KernelVIdeal.Launch
public import proofs.«01_k».proof.Proof.Gen.KernelVIdeal.Points
public import proofs.«01_k».proof.Proof.Gen.KernelVIdeal.Frame
public import proofs.«01_k».proof.Proof.Gen.ReferenceVIdeal
public import proofs.«01_k».proof.Proof.Gen.ReferenceVIdeal.Skeleton
public import proofs.«01_k».proof.Proof.Gen.ReferenceVIdeal.Points
public import proofs.«01_k».proof.Proof.Gen.ReferenceVIdeal.Launch
public import proofs.«01_k».proof.Proof.Gen.ReferenceVIdeal.Frame
public import proofs.«01_k».proof.Proof.Gen.ReferenceVIdeal.Value
public import proofs.«01_k».proof.Proof.KernelFrame
public import proofs.«01_k».proof.Proof.KernelIdealFrame
public import proofs.«01_k».proof.Proof.KernelIdealResult
public import proofs.«01_k».proof.Proof.ReferenceIdealValue
public import proofs.«01_k».proof.Proof.KernelVFrame
public import proofs.«01_k».proof.Proof.KernelVIdealFrame
public import proofs.«01_k».proof.Proof.KernelVIdealResult
public import proofs.«01_k».proof.Proof.ReferenceVIdealValue
public import Idealize.ShloMosaic.Lib.Bf16PairInverse
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's frame: its run leaves the arguments, and it declares no semaphore. -/
theorem frame_ri : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The ideal program is the kernel with the words of its two scratch buffers read as the pairs of bf16 they pack. -/
theorem preserves : Cert.preserves_Kernel_KernelIdeal :=
  ⟨IdealRules.bf16_pair.bufferStatement _ _, IdealRules.bf16_pair.bufferStatement _ _, IdealRules.bf16_pair.statement _ _,
    IdealRules.bf16_pair.statement _ _, IdealRules.bf16_pair.statement _ _, IdealRules.bf16_pair.statement _ _,
    IdealRules.bf16_pair.packStatement _, IdealRules.bf16_pair.statement _ _, IdealRules.bf16_pair.statement _ _,
    IdealRules.bf16_pair.statement _ _⟩

/-- Both programs leave the rotated projection of their arguments. -/
theorem algebraic : Cert.algebraic_KernelIdeal_ReferenceIdeal := by
  intro m g m' g' _ hargs
  refine ⟨fun c => Cert.KernelIdeal.Val.resOf m c, Cert.KernelIdeal.Val.run m g, ?_⟩
  refine (θ_run Cert.ReferenceIdeal.defs _ _).mono (fun r h c => ⟨?_, (h c).2⟩) (Cert.ReferenceIdeal.Value.run (F := Ideal) m' g')
  obtain ⟨h0, h1, h2, h3, h4⟩ := hargs c
  refine ((h c).1.trans (Cert.ReferenceIdeal.Value.res_out m' c)).trans ?_
  rw [h0, h1, h2, h3, h4]
  rfl

/-- The value reference's frame. -/
theorem frame_rvi : Cert.quiescent_ReferenceVIdeal := fun m ρ _ => Cert.ReferenceVIdeal.Gen.frame m ρ

/-- The ideal value program is the kernel with the words of its scratch buffers read as the pairs of bf16 they pack. -/
theorem preserves_v : Cert.preserves_KernelV_KernelVIdeal :=
  ⟨IdealRules.bf16_pair.bufferStatement _ _, IdealRules.bf16_pair.statement _ _, IdealRules.bf16_pair.statement _ _,
    IdealRules.bf16_pair.statement _ _, IdealRules.bf16_pair.statement _ _⟩

/-- Both value programs leave the codes and the scales of their arguments. -/
theorem algebraic_v : Cert.algebraic_KernelVIdeal_ReferenceVIdeal := by
  intro m g m' g' _ hargs
  refine ⟨fun c => Cert.KernelVIdeal.Val.resOf m c, fun c => Cert.KernelVIdeal.Val.resScale m c, Cert.KernelVIdeal.Val.run m g, ?_⟩
  refine (θ_run Cert.ReferenceVIdeal.defs _ _).mono (fun r h c => ⟨?_, ?_, (h c).2.2⟩) (Cert.ReferenceVIdeal.Val.run m' g')
  · obtain ⟨h0, h1, h2, h3, h4⟩ := hargs c
    refine (h c).1.trans ?_
    rw [h0, h3, h4]
    rfl
  · obtain ⟨h0, h1, h2, h3, h4⟩ := hargs c
    refine (h c).2.1.trans ?_
    rw [h0, h3, h4]
    rfl

theorem claim : Cert.Claim := ⟨Cert.Kernel.Gen.facts, Cert.KernelIdeal.Gen.facts, Cert.ReferenceIdeal.Gen.facts,
  Cert.KernelV.Gen.facts, Cert.KernelVIdeal.Gen.facts, Cert.ReferenceVIdeal.Gen.facts,
  fun m ρ _ => Cert.Kernel.Hand.frame m ρ, fun m ρ _ => Cert.KernelIdeal.Hand.frame m ρ, frame_ri,
  fun m ρ _ => Cert.KernelV.Hand.frame m ρ, fun m ρ _ => Cert.KernelVIdeal.Hand.frame m ρ, frame_rvi,
  preserves, algebraic, preserves_v, algebraic_v⟩

end Cert.Proof

end
